-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v36_0)) (v1 : (c : Dev Cert.KernelIdeal.nD) → Buf (Elt Ideal) ((c.tc : Thread Cert.KernelIdeal.nD Cert.KernelIdeal.τ).loc Cert.KernelIdeal.main_v36_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36_0) = v0 c
          ∧ r.2.mem ((c.tc : Thread Cert.KernelIdeal.nD Cert.KernelIdeal.τ).loc Cert.KernelIdeal.main_v36_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v9_4)) (v1 : (c : Dev Cert.Kernel2Ideal.nD) → Buf (Elt Ideal) ((c.tc : Thread Cert.Kernel2Ideal.nD Cert.Kernel2Ideal.τ).loc Cert.Kernel2Ideal.main_v10_0)) (v2 : (c : Dev Cert.Kernel2Ideal.nD) → Buf (Elt Ideal) ((c.tc : Thread Cert.Kernel2Ideal.nD Cert.Kernel2Ideal.τ).loc Cert.Kernel2Ideal.main_v10_1)) (v3 : (c : Dev Cert.Kernel2Ideal.nD) → Buf (Elt Ideal) ((c.tc : Thread Cert.Kernel2Ideal.nD Cert.Kernel2Ideal.τ).loc Cert.Kernel2Ideal.main_v10_2)) (v4 : (c : Dev Cert.Kernel2Ideal.nD) → Buf (Elt Ideal) ((c.tc : Thread Cert.Kernel2Ideal.nD Cert.Kernel2Ideal.τ).loc Cert.Kernel2Ideal.main_v10_3)) (v5 : (c : Dev Cert.Kernel2Ideal.nD) → Buf (Elt Ideal) ((c.tc : Thread Cert.Kernel2Ideal.nD Cert.Kernel2Ideal.τ).loc Cert.Kernel2Ideal.main_v10_4)) (v6 : (c : Dev Cert.Kernel2Ideal.nD) → Buf (Elt Ideal) ((c.tc : Thread Cert.Kernel2Ideal.nD Cert.Kernel2Ideal.τ).loc Cert.Kernel2Ideal.main_v10_5)) (v7 : (c : Dev Cert.Kernel2Ideal.nD) → Buf (Elt Ideal) ((c.tc : Thread Cert.Kernel2Ideal.nD Cert.Kernel2Ideal.τ).loc Cert.Kernel2Ideal.main_v10_6)) (v8 : (c : Dev Cert.Kernel2Ideal.nD) → Buf (Elt Ideal) ((c.tc : Thread Cert.Kernel2Ideal.nD Cert.Kernel2Ideal.τ).loc Cert.Kernel2Ideal.main_v10_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_4) = v0 c
          ∧ r.2.mem ((c.tc : Thread Cert.Kernel2Ideal.nD Cert.Kernel2Ideal.τ).loc Cert.Kernel2Ideal.main_v10_0) = v1 c
          ∧ r.2.mem ((c.tc : Thread Cert.Kernel2Ideal.nD Cert.Kernel2Ideal.τ).loc Cert.Kernel2Ideal.main_v10_1) = v2 c
          ∧ r.2.mem ((c.tc : Thread Cert.Kernel2Ideal.nD Cert.Kernel2Ideal.τ).loc Cert.Kernel2Ideal.main_v10_2) = v3 c
          ∧ r.2.mem ((c.tc : Thread Cert.Kernel2Ideal.nD Cert.Kernel2Ideal.τ).loc Cert.Kernel2Ideal.main_v10_3) = v4 c
          ∧ r.2.mem ((c.tc : Thread Cert.Kernel2Ideal.nD Cert.Kernel2Ideal.τ).loc Cert.Kernel2Ideal.main_v10_4) = v5 c
          ∧ r.2.mem ((c.tc : Thread Cert.Kernel2Ideal.nD Cert.Kernel2Ideal.τ).loc Cert.Kernel2Ideal.main_v10_5) = v6 c
          ∧ r.2.mem ((c.tc : Thread Cert.Kernel2Ideal.nD Cert.Kernel2Ideal.τ).loc Cert.Kernel2Ideal.main_v10_6) = v7 c
          ∧ r.2.mem ((c.tc : Thread Cert.Kernel2Ideal.nD Cert.Kernel2Ideal.τ).loc Cert.Kernel2Ideal.main_v10_7) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_v74) = v1 c
          ∧ r.2.mem ((c.tc : Thread Cert.Reference2Ideal.nD Cert.Reference2Ideal.τ).loc Cert.Reference2Ideal.main_v75) = v2 c
          ∧ r.2.mem ((c.tc : Thread Cert.Reference2Ideal.nD Cert.Reference2Ideal.τ).loc Cert.Reference2Ideal.main_v76) = v3 c
          ∧ r.2.mem ((c.tc : Thread Cert.Reference2Ideal.nD Cert.Reference2Ideal.τ).loc Cert.Reference2Ideal.main_v77) = v4 c
          ∧ r.2.mem ((c.tc : Thread Cert.Reference2Ideal.nD Cert.Reference2Ideal.τ).loc Cert.Reference2Ideal.main_v78) = v5 c
          ∧ r.2.mem ((c.tc : Thread Cert.Reference2Ideal.nD Cert.Reference2Ideal.τ).loc Cert.Reference2Ideal.main_v79) = v6 c
          ∧ r.2.mem ((c.tc : Thread Cert.Reference2Ideal.nD Cert.Reference2Ideal.τ).loc Cert.Reference2Ideal.main_v80) = v7 c
          ∧ r.2.mem ((c.tc : Thread Cert.Reference2Ideal.nD Cert.Reference2Ideal.τ).loc Cert.Reference2Ideal.main_v81) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v6_5)) (v1 : (c : Dev Cert.Kernel3Ideal.nD) → Buf (Elt Ideal) ((c.tc : Thread Cert.Kernel3Ideal.nD Cert.Kernel3Ideal.τ).loc Cert.Kernel3Ideal.main_v7_0)) (v2 : (c : Dev Cert.Kernel3Ideal.nD) → Buf (Elt Ideal) ((c.tc : Thread Cert.Kernel3Ideal.nD Cert.Kernel3Ideal.τ).loc Cert.Kernel3Ideal.main_v7_1)) (v3 : (c : Dev Cert.Kernel3Ideal.nD) → Buf (Elt Ideal) ((c.tc : Thread Cert.Kernel3Ideal.nD Cert.Kernel3Ideal.τ).loc Cert.Kernel3Ideal.main_v7_2)) (v4 : (c : Dev Cert.Kernel3Ideal.nD) → Buf (Elt Ideal) ((c.tc : Thread Cert.Kernel3Ideal.nD Cert.Kernel3Ideal.τ).loc Cert.Kernel3Ideal.main_v7_3)) (v5 : (c : Dev Cert.Kernel3Ideal.nD) → Buf (Elt Ideal) ((c.tc : Thread Cert.Kernel3Ideal.nD Cert.Kernel3Ideal.τ).loc Cert.Kernel3Ideal.main_v7_4)) (v6 : (c : Dev Cert.Kernel3Ideal.nD) → Buf (Elt Ideal) ((c.tc : Thread Cert.Kernel3Ideal.nD Cert.Kernel3Ideal.τ).loc Cert.Kernel3Ideal.main_v7_5)) (v7 : (c : Dev Cert.Kernel3Ideal.nD) → Buf (Elt Ideal) ((c.tc : Thread Cert.Kernel3Ideal.nD Cert.Kernel3Ideal.τ).loc Cert.Kernel3Ideal.main_v7_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_5) = v0 c
          ∧ r.2.mem ((c.tc : Thread Cert.Kernel3Ideal.nD Cert.Kernel3Ideal.τ).loc Cert.Kernel3Ideal.main_v7_0) = v1 c
          ∧ r.2.mem ((c.tc : Thread Cert.Kernel3Ideal.nD Cert.Kernel3Ideal.τ).loc Cert.Kernel3Ideal.main_v7_1) = v2 c
          ∧ r.2.mem ((c.tc : Thread Cert.Kernel3Ideal.nD Cert.Kernel3Ideal.τ).loc Cert.Kernel3Ideal.main_v7_2) = v3 c
          ∧ r.2.mem ((c.tc : Thread Cert.Kernel3Ideal.nD Cert.Kernel3Ideal.τ).loc Cert.Kernel3Ideal.main_v7_3) = v4 c
          ∧ r.2.mem ((c.tc : Thread Cert.Kernel3Ideal.nD Cert.Kernel3Ideal.τ).loc Cert.Kernel3Ideal.main_v7_4) = v5 c
          ∧ r.2.mem ((c.tc : Thread Cert.Kernel3Ideal.nD Cert.Kernel3Ideal.τ).loc Cert.Kernel3Ideal.main_v7_5) = v6 c
          ∧ r.2.mem ((c.tc : Thread Cert.Kernel3Ideal.nD Cert.Kernel3Ideal.τ).loc Cert.Kernel3Ideal.main_v7_6) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v112) = v0 c
          ∧ r.2.mem ((c.tc : Thread Cert.Reference3Ideal.nD Cert.Reference3Ideal.τ).loc Cert.Reference3Ideal.main_v90) = v1 c
          ∧ r.2.mem ((c.tc : Thread Cert.Reference3Ideal.nD Cert.Reference3Ideal.τ).loc Cert.Reference3Ideal.main_v113) = v2 c
          ∧ r.2.mem ((c.tc : Thread Cert.Reference3Ideal.nD Cert.Reference3Ideal.τ).loc Cert.Reference3Ideal.main_v114) = v3 c
          ∧ r.2.mem ((c.tc : Thread Cert.Reference3Ideal.nD Cert.Reference3Ideal.τ).loc Cert.Reference3Ideal.main_v115) = v4 c
          ∧ r.2.mem ((c.tc : Thread Cert.Reference3Ideal.nD Cert.Reference3Ideal.τ).loc Cert.Reference3Ideal.main_v116) = v5 c
          ∧ r.2.mem ((c.tc : Thread Cert.Reference3Ideal.nD Cert.Reference3Ideal.τ).loc Cert.Reference3Ideal.main_v117) = v6 c
          ∧ r.2.mem ((c.tc : Thread Cert.Reference3Ideal.nD Cert.Reference3Ideal.τ).loc Cert.Reference3Ideal.main_v118) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  IdealRules.named_const.Statement Cert.Kernel4Ideal.κ "gelu_c" .bf16 0x3F4C#16 ((6693141 / 8388608 : ℝ) : EReal)
  ∧ IdealRules.named_const.Statement Cert.Kernel4Ideal.κ "gelu_a" .bf16 0x3D37#16 ((12003091 / 268435456 : ℝ) : EReal)
  ∧ IdealRules.named_const.Statement Cert.Kernel4Ideal.κ "gelu_6ca" .bf16 0x3E5B#16 ((241015141496493 / 1125899906842624 : ℝ) : EReal)
  ∧ IdealRules.named_const.Statement Cert.Kernel4Ideal.κ "gelu_2c" .bf16 0x3FCC#16 ((6693141 / 4194304 : ℝ) : EReal)

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v23_0)) (v1 : (c : Dev Cert.Kernel4Ideal.nD) → Buf (Elt Ideal) ((c.tc : Thread Cert.Kernel4Ideal.nD Cert.Kernel4Ideal.τ).loc Cert.Kernel4Ideal.main_v23_1)) (v2 : (c : Dev Cert.Kernel4Ideal.nD) → Buf (Elt Ideal) ((c.tc : Thread Cert.Kernel4Ideal.nD Cert.Kernel4Ideal.τ).loc Cert.Kernel4Ideal.main_v23_2)) (v3 : (c : Dev Cert.Kernel4Ideal.nD) → Buf (Elt Ideal) ((c.tc : Thread Cert.Kernel4Ideal.nD Cert.Kernel4Ideal.τ).loc Cert.Kernel4Ideal.main_v23_3)) (v4 : (c : Dev Cert.Kernel4Ideal.nD) → Buf (Elt Ideal) ((c.tc : Thread Cert.Kernel4Ideal.nD Cert.Kernel4Ideal.τ).loc Cert.Kernel4Ideal.main_v23_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v23_0) = v0 c
          ∧ r.2.mem ((c.tc : Thread Cert.Kernel4Ideal.nD Cert.Kernel4Ideal.τ).loc Cert.Kernel4Ideal.main_v23_1) = v1 c
          ∧ r.2.mem ((c.tc : Thread Cert.Kernel4Ideal.nD Cert.Kernel4Ideal.τ).loc Cert.Kernel4Ideal.main_v23_2) = v2 c
          ∧ r.2.mem ((c.tc : Thread Cert.Kernel4Ideal.nD Cert.Kernel4Ideal.τ).loc Cert.Kernel4Ideal.main_v23_3) = v3 c
          ∧ r.2.mem ((c.tc : Thread Cert.Kernel4Ideal.nD Cert.Kernel4Ideal.τ).loc Cert.Kernel4Ideal.main_v23_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v162) = v0 c
          ∧ r.2.mem ((c.tc : Thread Cert.Reference4Ideal.nD Cert.Reference4Ideal.τ).loc Cert.Reference4Ideal.main_v163) = v1 c
          ∧ r.2.mem ((c.tc : Thread Cert.Reference4Ideal.nD Cert.Reference4Ideal.τ).loc Cert.Reference4Ideal.main_v164) = v2 c
          ∧ r.2.mem ((c.tc : Thread Cert.Reference4Ideal.nD Cert.Reference4Ideal.τ).loc Cert.Reference4Ideal.main_v166) = v3 c
          ∧ r.2.mem ((c.tc : Thread Cert.Reference4Ideal.nD Cert.Reference4Ideal.τ).loc Cert.Reference4Ideal.main_v167) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  IdealRules.named_const.Statement Cert.Kernel5Ideal.κ "gelu_c" .bf16 0x3F4C#16 ((6693141 / 8388608 : ℝ) : EReal)
  ∧ IdealRules.named_const.Statement Cert.Kernel5Ideal.κ "gelu_a" .bf16 0x3D37#16 ((12003091 / 268435456 : ℝ) : EReal)
  ∧ IdealRules.named_const.Statement Cert.Kernel5Ideal.κ "gelu_6ca" .bf16 0x3E5B#16 ((241015141496493 / 1125899906842624 : ℝ) : EReal)
  ∧ IdealRules.named_const.Statement Cert.Kernel5Ideal.κ "gelu_2c" .bf16 0x3FCC#16 ((6693141 / 4194304 : ℝ) : EReal)

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v52_0)) (v1 : (c : Dev Cert.Kernel5Ideal.nD) → Buf (Elt Ideal) ((c.tc : Thread Cert.Kernel5Ideal.nD Cert.Kernel5Ideal.τ).loc Cert.Kernel5Ideal.main_v52_1)) (v2 : (c : Dev Cert.Kernel5Ideal.nD) → Buf (Elt Ideal) ((c.tc : Thread Cert.Kernel5Ideal.nD Cert.Kernel5Ideal.τ).loc Cert.Kernel5Ideal.main_v52_2)) (v3 : (c : Dev Cert.Kernel5Ideal.nD) → Buf (Elt Ideal) ((c.tc : Thread Cert.Kernel5Ideal.nD Cert.Kernel5Ideal.τ).loc Cert.Kernel5Ideal.main_v52_3)) (v4 : (c : Dev Cert.Kernel5Ideal.nD) → Buf (Elt Ideal) ((c.tc : Thread Cert.Kernel5Ideal.nD Cert.Kernel5Ideal.τ).loc Cert.Kernel5Ideal.main_v52_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v52_0) = v0 c
          ∧ r.2.mem ((c.tc : Thread Cert.Kernel5Ideal.nD Cert.Kernel5Ideal.τ).loc Cert.Kernel5Ideal.main_v52_1) = v1 c
          ∧ r.2.mem ((c.tc : Thread Cert.Kernel5Ideal.nD Cert.Kernel5Ideal.τ).loc Cert.Kernel5Ideal.main_v52_2) = v2 c
          ∧ r.2.mem ((c.tc : Thread Cert.Kernel5Ideal.nD Cert.Kernel5Ideal.τ).loc Cert.Kernel5Ideal.main_v52_3) = v3 c
          ∧ r.2.mem ((c.tc : Thread Cert.Kernel5Ideal.nD Cert.Kernel5Ideal.τ).loc Cert.Kernel5Ideal.main_v52_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v148) = v0 c
          ∧ r.2.mem ((c.tc : Thread Cert.Reference5Ideal.nD Cert.Reference5Ideal.τ).loc Cert.Reference5Ideal.main_v120) = v1 c
          ∧ r.2.mem ((c.tc : Thread Cert.Reference5Ideal.nD Cert.Reference5Ideal.τ).loc Cert.Reference5Ideal.main_v149) = v2 c
          ∧ r.2.mem ((c.tc : Thread Cert.Reference5Ideal.nD Cert.Reference5Ideal.τ).loc Cert.Reference5Ideal.main_v147) = v3 c
          ∧ r.2.mem ((c.tc : Thread Cert.Reference5Ideal.nD Cert.Reference5Ideal.τ).loc Cert.Reference5Ideal.main_v150) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  IdealRules.named_const.Statement Cert.Kernel6Ideal.κ "gelu_c" .bf16 0x3F4C#16 ((6693141 / 8388608 : ℝ) : EReal)
  ∧ IdealRules.named_const.Statement Cert.Kernel6Ideal.κ "gelu_a" .bf16 0x3D37#16 ((12003091 / 268435456 : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v20)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v20) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v65) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v34_0)) (v1 : (c : Dev Cert.Kernel7Ideal.nD) → Buf (Elt Ideal) ((c.tc : Thread Cert.Kernel7Ideal.nD Cert.Kernel7Ideal.τ).loc Cert.Kernel7Ideal.main_v34_1)) (v2 : (c : Dev Cert.Kernel7Ideal.nD) → Buf (Elt Ideal) ((c.tc : Thread Cert.Kernel7Ideal.nD Cert.Kernel7Ideal.τ).loc Cert.Kernel7Ideal.main_v34_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v34_0) = v0 c
          ∧ r.2.mem ((c.tc : Thread Cert.Kernel7Ideal.nD Cert.Kernel7Ideal.τ).loc Cert.Kernel7Ideal.main_v34_1) = v1 c
          ∧ r.2.mem ((c.tc : Thread Cert.Kernel7Ideal.nD Cert.Kernel7Ideal.τ).loc Cert.Kernel7Ideal.main_v34_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v88) = v0 c
          ∧ r.2.mem ((c.tc : Thread Cert.Reference7Ideal.nD Cert.Reference7Ideal.τ).loc Cert.Reference7Ideal.main_v90) = v1 c
          ∧ r.2.mem ((c.tc : Thread Cert.Reference7Ideal.nD Cert.Reference7Ideal.τ).loc Cert.Reference7Ideal.main_v93) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v17_0)) (v1 : (c : Dev Cert.Kernel8Ideal.nD) → Buf (Elt Ideal) ((c.tc : Thread Cert.Kernel8Ideal.nD Cert.Kernel8Ideal.τ).loc Cert.Kernel8Ideal.main_v17_1)) (v2 : (c : Dev Cert.Kernel8Ideal.nD) → Buf (Elt Ideal) ((c.tc : Thread Cert.Kernel8Ideal.nD Cert.Kernel8Ideal.τ).loc Cert.Kernel8Ideal.main_v17_2)) (v3 : (c : Dev Cert.Kernel8Ideal.nD) → Buf (Elt Ideal) ((c.tc : Thread Cert.Kernel8Ideal.nD Cert.Kernel8Ideal.τ).loc Cert.Kernel8Ideal.main_v17_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v17_0) = v0 c
          ∧ r.2.mem ((c.tc : Thread Cert.Kernel8Ideal.nD Cert.Kernel8Ideal.τ).loc Cert.Kernel8Ideal.main_v17_1) = v1 c
          ∧ r.2.mem ((c.tc : Thread Cert.Kernel8Ideal.nD Cert.Kernel8Ideal.τ).loc Cert.Kernel8Ideal.main_v17_2) = v2 c
          ∧ r.2.mem ((c.tc : Thread Cert.Kernel8Ideal.nD Cert.Kernel8Ideal.τ).loc Cert.Kernel8Ideal.main_v17_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v30) = v0 c
          ∧ r.2.mem ((c.tc : Thread Cert.Reference8Ideal.nD Cert.Reference8Ideal.τ).loc Cert.Reference8Ideal.main_v31) = v1 c
          ∧ r.2.mem ((c.tc : Thread Cert.Reference8Ideal.nD Cert.Reference8Ideal.τ).loc Cert.Reference8Ideal.main_v28) = v2 c
          ∧ r.2.mem ((c.tc : Thread Cert.Reference8Ideal.nD Cert.Reference8Ideal.τ).loc Cert.Reference8Ideal.main_v34) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def preserves_Kernel10_Kernel10Ideal : Prop :=
  IdealRules.named_const.Statement Cert.Kernel10Ideal.κ "gelu_a" .bf16 0x3D37#16 ((12003091 / 268435456 : ℝ) : EReal)
  ∧ IdealRules.named_const.Statement Cert.Kernel10Ideal.κ "gelu_c" .bf16 0x3F4C#16 ((6693141 / 8388608 : ℝ) : EReal)

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v5_0)) (v1 : (c : Dev Cert.Kernel10Ideal.nD) → Buf (Elt Ideal) ((c.tc : Thread Cert.Kernel10Ideal.nD Cert.Kernel10Ideal.τ).loc Cert.Kernel10Ideal.main_v5_1)) (v2 : (c : Dev Cert.Kernel10Ideal.nD) → Buf (Elt Ideal) ((c.tc : Thread Cert.Kernel10Ideal.nD Cert.Kernel10Ideal.τ).loc Cert.Kernel10Ideal.main_v5_2)) (v3 : (c : Dev Cert.Kernel10Ideal.nD) → Buf (Elt Ideal) ((c.tc : Thread Cert.Kernel10Ideal.nD Cert.Kernel10Ideal.τ).loc Cert.Kernel10Ideal.main_v5_3)) (v4 : (c : Dev Cert.Kernel10Ideal.nD) → Buf (Elt Ideal) ((c.tc : Thread Cert.Kernel10Ideal.nD Cert.Kernel10Ideal.τ).loc Cert.Kernel10Ideal.main_v5_4)) (v5 : (c : Dev Cert.Kernel10Ideal.nD) → Buf (Elt Ideal) ((c.tc : Thread Cert.Kernel10Ideal.nD Cert.Kernel10Ideal.τ).loc Cert.Kernel10Ideal.main_v5_5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5_0) = v0 c
          ∧ r.2.mem ((c.tc : Thread Cert.Kernel10Ideal.nD Cert.Kernel10Ideal.τ).loc Cert.Kernel10Ideal.main_v5_1) = v1 c
          ∧ r.2.mem ((c.tc : Thread Cert.Kernel10Ideal.nD Cert.Kernel10Ideal.τ).loc Cert.Kernel10Ideal.main_v5_2) = v2 c
          ∧ r.2.mem ((c.tc : Thread Cert.Kernel10Ideal.nD Cert.Kernel10Ideal.τ).loc Cert.Kernel10Ideal.main_v5_3) = v3 c
          ∧ r.2.mem ((c.tc : Thread Cert.Kernel10Ideal.nD Cert.Kernel10Ideal.τ).loc Cert.Kernel10Ideal.main_v5_4) = v4 c
          ∧ r.2.mem ((c.tc : Thread Cert.Kernel10Ideal.nD Cert.Kernel10Ideal.τ).loc Cert.Kernel10Ideal.main_v5_5) = v5 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v58) = v0 c
          ∧ r.2.mem ((c.tc : Thread Cert.Reference10Ideal.nD Cert.Reference10Ideal.τ).loc Cert.Reference10Ideal.main_v59) = v1 c
          ∧ r.2.mem ((c.tc : Thread Cert.Reference10Ideal.nD Cert.Reference10Ideal.τ).loc Cert.Reference10Ideal.main_v60) = v2 c
          ∧ r.2.mem ((c.tc : Thread Cert.Reference10Ideal.nD Cert.Reference10Ideal.τ).loc Cert.Reference10Ideal.main_v61) = v3 c
          ∧ r.2.mem ((c.tc : Thread Cert.Reference10Ideal.nD Cert.Reference10Ideal.τ).loc Cert.Reference10Ideal.main_v62) = v4 c
          ∧ r.2.mem ((c.tc : Thread Cert.Reference10Ideal.nD Cert.Reference10Ideal.τ).loc Cert.Reference10Ideal.main_v63) = v5 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hKernel10 : Cert.Kernel10.Facts) (hKernel10Ideal : Cert.Kernel10Ideal.Facts) (hReference10Ideal : Cert.Reference10Ideal.Facts) (hPre_finite : Cert.Pre_finite.Facts) (hPre_finite2 : Cert.Pre_finite2.Facts) (hPre_finite3 : Cert.Pre_finite3.Facts) (hPre_finite4 : Cert.Pre_finite4.Facts) (hPre_finite5 : Cert.Pre_finite5.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ preserves_Kernel10_Kernel10Ideal
    ∧ algebraic_Kernel10Ideal_Reference10Ideal (hKernel10Ideal := hKernel10Ideal) (hReference10Ideal := hReference10Ideal)
-- ==== Pre_finite.lean ====
abbrev S8192x1024 : Shape := ⟨2, ![8192, 1024]⟩
abbrev S1024x6160 : Shape := ⟨2, ![1024, 6160]⟩
abbrev S1024 : Shape := ⟨1, ![1024]⟩
abbrev S8192x512 : Shape := ⟨2, ![8192, 512]⟩
abbrev S8192x16 : Shape := ⟨2, ![8192, 16]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x6160 : S_.BroadcastsInDim S1024x6160 (![] : Fin 0 → Fin S1024x6160.rank)
  reducesTo_S1024x6160_S_d0_1 : S1024x6160.ReducesTo [0, 1] S_
  bcast_S_S1024 : S_.BroadcastsInDim S1024 (![] : Fin 0 → Fin S1024.rank)
  reducesTo_S1024_S_d0 : S1024.ReducesTo [0] S_
  bcast_S_S8192x512 : S_.BroadcastsInDim S8192x512 (![] : Fin 0 → Fin S8192x512.rank)
  reducesTo_S8192x512_S_d0_1 : S8192x512.ReducesTo [0, 1] S_
  bcast_S_S8192x16 : S_.BroadcastsInDim S8192x16 (![] : Fin 0 → Fin S8192x16.rank)
  reducesTo_S8192x16_S_d0_1 : S8192x16.ReducesTo [0, 1] S_

variable [Facts]

def fn_part3 {F : FTy → Type} [FloatOps F] (main_arg11 : FVec F S8192x1024 .f32) (main_v48 : IVec S_ 1) (main_v49 : FVec F S8192x1024 .f32) (main_v50 : FVec F S8192x1024 .f32) : IVec S_ 1 :=
  let main_v51 : IVec S8192x1024 1 := cmpf .olt main_v49 main_v50
  let main_c_19 : IVec S_ 1 := constantI S_ 1 1#1
  let main_v52 : IVec S_ 1 := (fun x v => Host.reduce IntOp.andi x v reducesTo_S8192x1024_S_d0_1 h_S_) main_v51 main_c_19
  let main_v53 : IVec S_ 1 := andi main_v48 main_v52
  let main_v54 : FVec F S8192x1024 .f32 := Host.absf main_arg11
  let main_cst_20 : FVec F S_ .f32 := constant S_ .f32 0x7F800000#32
  let main_v55 : FVec F S8192x1024 .f32 := broadcastInDim S8192x1024 ![] bcast_S_S8192x1024 main_cst_20
  let main_v56 : IVec S8192x1024 1 := cmpf .olt main_v54 main_v55
  let main_c_21 : IVec S_ 1 := constantI S_ 1 1#1
  let main_v57 : IVec S_ 1 := (fun x v => Host.reduce IntOp.andi x v reducesTo_S8192x1024_S_d0_1 h_S_) main_v56 main_c_21
  let main_v58 : IVec S_ 1 := andi main_v53 main_v57
  main_v58

def fn_part2 {F : FTy → Type} [FloatOps F] (main_arg7 : FVec F S8192x1024 .f32) (main_arg8 : FVec F S8192x1024 .f32) (main_arg9 : FVec F S8192x16 .f32) (main_arg10 : FVec F S8192x1024 .f32) (main_arg11 : FVec F S8192x1024 .f32) (main_v33 : IVec S_ 1) : IVec S_ 1 :=
  let main_v34 : FVec F S8192x1024 .f32 := Host.absf main_arg7
  let main_cst_12 : FVec F S_ .f32 := constant S_ .f32 0x7F800000#32
  let main_v35 : FVec F S8192x1024 .f32 := broadcastInDim S8192x1024 ![] bcast_S_S8192x1024 main_cst_12
  let main_v36 : IVec S8192x1024 1 := cmpf .olt main_v34 main_v35
  let main_c_13 : IVec S_ 1 := constantI S_ 1 1#1
  let main_v37 : IVec S_ 1 := (fun x v => Host.reduce IntOp.andi x v reducesTo_S8192x1024_S_d0_1 h_S_) main_v36 main_c_13
  let main_v38 : IVec S_ 1 := andi main_v33 main_v37
  let main_v39 : FVec F S8192x1024 .f32 := Host.absf main_arg8
  let main_cst_14 : FVec F S_ .f32 := constant S_ .f32 0x7F800000#32
  let main_v40 : FVec F S8192x1024 .f32 := broadcastInDim S8192x1024 ![] bcast_S_S8192x1024 main_cst_14
  let main_v41 : IVec S8192x1024 1 := cmpf .olt main_v39 main_v40
  let main_c_15 : IVec S_ 1 := constantI S_ 1 1#1
  let main_v42 : IVec S_ 1 := (fun x v => Host.reduce IntOp.andi x v reducesTo_S8192x1024_S_d0_1 h_S_) main_v41 main_c_15
  let main_v43 : IVec S_ 1 := andi main_v38 main_v42
  let main_v44 : FVec F S8192x16 .f32 := Host.absf main_arg9
  let main_cst_16 : FVec F S_ .f32 := constant S_ .f32 0x7F800000#32
  let main_v45 : FVec F S8192x16 .f32 := broadcastInDim S8192x16 ![] bcast_S_S8192x16 main_cst_16
  let main_v46 : IVec S8192x16 1 := cmpf .olt main_v44 main_v45
  let main_c_17 : IVec S_ 1 := constantI S_ 1 1#1
  let main_v47 : IVec S_ 1 := (fun x v => Host.reduce IntOp.andi x v reducesTo_S8192x16_S_d0_1 h_S_) main_v46 main_c_17
  let main_v48 : IVec S_ 1 := andi main_v43 main_v47
  let main_v49 : FVec F S8192x1024 .f32 := Host.absf main_arg10
  let main_cst_18 : FVec F S_ .f32 := constant S_ .f32 0x7F800000#32
  let main_v50 : FVec F S8192x1024 .f32 := broadcastInDim S8192x1024 ![] bcast_S_S8192x1024 main_cst_18
  fn_part3 (F := F) main_arg11 main_v48 main_v49 main_v50

def fn_part1 {F : FTy → Type} [FloatOps F] (main_arg4 : FVec F S8192x512 .f32) (main_arg5 : FVec F S8192x512 .f32) (main_arg6 : FVec F S8192x512 .f32) (main_arg7 : FVec F S8192x1024 .f32) (main_arg8 : FVec F S8192x1024 .f32) (main_arg9 : FVec F S8192x16 .f32) (main_arg10 : FVec F S8192x1024 .f32) (main_arg11 : FVec F S8192x1024 .f32) (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  let main_v19 : FVec F S8192x512 .f32 := Host.absf main_arg4
  let main_cst_6 : FVec F S_ .f32 := constant S_ .f32 0x7F800000#32
  let main_v20 : FVec F S8192x512 .f32 := broadcastInDim S8192x512 ![] bcast_S_S8192x512 main_cst_6
  let main_v21 : IVec S8192x512 1 := cmpf .olt main_v19 main_v20
  let main_c_7 : IVec S_ 1 := constantI S_ 1 1#1
  let main_v22 : IVec S_ 1 := (fun x v => Host.reduce IntOp.andi x v reducesTo_S8192x512_S_d0_1 h_S_) main_v21 main_c_7
  let main_v23 : IVec S_ 1 := andi main_v18 main_v22
  let main_v24 : FVec F S8192x512 .f32 := Host.absf main_arg5
  let main_cst_8 : FVec F S_ .f32 := constant S_ .f32 0x7F800000#32
  let main_v25 : FVec F S8192x512 .f32 := broadcastInDim S8192x512 ![] bcast_S_S8192x512 main_cst_8
  let main_v26 : IVec S8192x512 1 := cmpf .olt main_v24 main_v25
  let main_c_9 : IVec S_ 1 := constantI S_ 1 1#1
  let main_v27 : IVec S_ 1 := (fun x v => Host.reduce IntOp.andi x v reducesTo_S8192x512_S_d0_1 h_S_) main_v26 main_c_9
  let main_v28 : IVec S_ 1 := andi main_v23 main_v27
  let main_v29 : FVec F S8192x512 .f32 := Host.absf main_arg6
  let main_cst_10 : FVec F S_ .f32 := constant S_ .f32 0x7F800000#32
  let main_v30 : FVec F S8192x512 .f32 := broadcastInDim S8192x512 ![] bcast_S_S8192x512 main_cst_10
  let main_v31 : IVec S8192x512 1 := cmpf .olt main_v29 main_v30
  let main_c_11 : IVec S_ 1 := constantI S_ 1 1#1
  let main_v32 : IVec S_ 1 := (fun x v => Host.reduce IntOp.andi x v reducesTo_S8192x512_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8192x1024 .f32) (main_arg1 : FVec F S1024x6160 .f32) (main_arg2 : FVec F S1024 .f32) (main_arg3 : FVec F S8192x512 .f32) (main_arg4 : FVec F S8192x512 .f32) (main_arg5 : FVec F S8192x512 .f32) (main_arg6 : FVec F S8192x512 .f32) (main_arg7 : FVec F S8192x1024 .f32) (main_arg8 : FVec F S8192x1024 .f32) (main_arg9 : FVec F S8192x16 .f32) (main_arg10 : FVec F S8192x1024 .f32) (main_arg11 : FVec F S8192x1024 .f32) (main_arg12 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x6160 .f32 := Host.absf main_arg1
  let main_cst_0 : FVec F S_ .f32 := constant S_ .f32 0x7F800000#32
  let main_v5 : FVec F S1024x6160 .f32 := broadcastInDim S1024x6160 ![] bcast_S_S1024x6160 main_cst_0
  let main_v6 : IVec S1024x6160 1 := cmpf .olt main_v4 main_v5
  let main_c_1 : IVec S_ 1 := constantI S_ 1 1#1
  let main_v7 : IVec S_ 1 := (fun x v => Host.reduce IntOp.andi x v reducesTo_S1024x6160_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_arg4 main_arg5 main_arg6 main_arg7 main_arg8 main_arg9 main_arg10 main_arg11 main_v13 main_v16
-- ==== Pre_finite2.lean ====
abbrev S8192x1024 : Shape := ⟨2, ![8192, 1024]⟩
abbrev S8192x512 : Shape := ⟨2, ![8192, 512]⟩
abbrev S8192x4096 : Shape := ⟨2, ![8192, 4096]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg8 : FVec F S1024x1024 .f32) (main_arg9 : FVec F S1024 .f32) (main_arg10 : FVec F S8192x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg8
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg9
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S8192x1024 .f32 := Host.absf main_arg10
  let main_cst_10 : FVec F S_ .f32 := constant S_ .f32 0x7F800000#32
  let main_v30 : FVec F S8192x1024 .f32 := broadcastInDim S8192x1024 ![] bcast_S_S8192x1024 main_cst_10
  let main_v31 : IVec S8192x1024 1 := cmpf .olt main_v29 main_v30
  let main_c_11 : IVec S_ 1 := constantI S_ 1 1#1
  let main_v32 : IVec S_ 1 := (fun x v => Host.reduce IntOp.andi x v reducesTo_S8192x1024_S_d0_1 h_S_) main_v31 main_c_11
  let main_v33 : IVec S_ 1 := andi main_v28 main_v32
  main_v33

def fn {F : FTy → Type} [FloatOps F] (main_arg0 : FVec F S8192x1024 .f32) (main_arg1 : FVec F S8192x512 .f32) (main_arg2 : FVec F S8192x1024 .f32) (main_arg3 : FVec F S8192x4096 .bf16) (main_arg4 : FVec F S8192x1024 .f32) (main_arg5 : FVec F S8192x1024 .f32) (main_arg6 : FVec F S512x1024 .f32) (main_arg7 : FVec F S1024x1024 .f32) (main_arg8 : FVec F S1024x1024 .f32) (main_arg9 : FVec F S1024 .f32) (main_arg10 : FVec F S8192x1024 .f32) : IVec S_ 1 :=
  let main_v0 : FVec F S8192x512 .f32 := Host.absf main_arg1
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x1024 .f32 := Host.absf main_arg2
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S512x1024 .f32 := Host.absf main_arg6
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S1024x1024 .f32 := Host.absf main_arg7
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg8 main_arg9 main_arg10 main_v13 main_v16
-- ==== Pre_finite3.lean ====
abbrev S8192x2816 : Shape := ⟨2, ![8192, 2816]⟩
abbrev S8192x1024 : Shape := ⟨2, ![8192, 1024]⟩
abbrev S8192x256 : Shape := ⟨2, ![8192, 256]⟩
abbrev S2816x1024 : Shape := ⟨2, ![2816, 1024]⟩
abbrev S1024x1024 : Shape := ⟨2, ![1024, 1024]⟩
abbrev S256x1024 : Shape := ⟨2, ![256, 1024]⟩
abbrev S1024 : Shape := ⟨1, ![1024]⟩
abbrev S_ : Shape := ⟨0, ![]⟩

class Facts : Prop where
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S8192x256 : S_.BroadcastsInDim S8192x256 (![] : Fin 0 → Fin S8192x256.rank)
  reducesTo_S8192x256_S_d0_1 : S8192x256.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S2816x1024 .f32) (main_arg5 : FVec F S1024x1024 .f32) (main_arg6 : FVec F S256x1024 .f32) (main_arg7 : FVec F S1024 .f32) (main_arg8 : FVec F S1024 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S256x1024 .f32 := Host.absf main_arg6
  let main_cst_10 : FVec F S_ .f32 := constant S_ .f32 0x7F800000#32
  let main_v30 : FVec F S256x1024 .f32 := broadcastInDim S256x1024 ![] bcast_S_S256x1024 main_cst_10
  let main_v31 : IVec S256x1024 1 := cmpf .olt main_v29 main_v30
  let main_c_11 : IVec S_ 1 := constantI S_ 1 1#1
  let main_v32 : IVec S_ 1 := (fun x v => Host.reduce IntOp.andi x v reducesTo_S256x1024_S_d0_1 h_S_) main_v31 main_c_11
  let main_v33 : IVec S_ 1 := andi main_v28 main_v32
  fn_part2 (F := F) main_arg7 main_arg8 main_v33

def fn {F : FTy → Type} [FloatOps F] (main_arg0 : FVec F S8192x2816 .f32) (main_arg1 : FVec F S8192x1024 .f32) (main_arg2 : FVec F S8192x256 .f32) (main_arg3 : FVec F S8192x1024 .f32) (main_arg4 : FVec F S2816x1024 .f32) (main_arg5 : FVec F S1024x1024 .f32) (main_arg6 : FVec F S256x1024 .f32) (main_arg7 : FVec F S1024 .f32) (main_arg8 : FVec F S1024 .f32) : IVec S_ 1 :=
  let main_v0 : FVec F S8192x2816 .f32 := Host.absf main_arg0
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_c : IVec S_ 1 := constantI S_ 1 1#1
  let main_v3 : IVec S_ 1 := (fun x v => Host.reduce IntOp.andi x v reducesTo_S8192x2816_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_arg6 main_arg7 main_arg8 main_v13 main_v16
-- ==== Pre_finite4.lean ====
abbrev S8192x512 : Shape := ⟨2, ![8192, 512]⟩
abbrev S8192x5120 : Shape := ⟨2, ![8192, 5120]⟩
abbrev S512 : Shape := ⟨1, ![512]⟩
abbrev S8x128x128 : Shape := ⟨3, ![8, 128, 128]⟩
abbrev S8x128 : Shape := ⟨2, ![8, 128]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512 : S_.BroadcastsInDim S512 (![] : Fin 0 → Fin S512.rank)
  reducesTo_S512_S_d0 : S512.ReducesTo [0] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_arg5 : FVec F S8x128x128 .f32) (main_arg6 : FVec F S8x128 .f32) (main_arg7 : FVec F S8192x512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S8x128x128 .f32 := Host.absf main_arg5
  let main_cst_6 : FVec F S_ .f32 := constant S_ .f32 0x7F800000#32
  let main_v20 : FVec F S8x128x128 .f32 := broadcastInDim S8x128x128 ![] bcast_S_S8x128x128 main_cst_6
  let main_v21 : IVec S8x128x128 1 := cmpf .olt main_v19 main_v20
  let main_c_7 : IVec S_ 1 := constantI S_ 1 1#1
  let main_v22 : IVec S_ 1 := (fun x v => Host.reduce IntOp.andi x v reducesTo_S8x128x128_S_d0_1_2 h_S_) main_v21 main_c_7
  let main_v23 : IVec S_ 1 := andi main_v18 main_v22
  let main_v24 : FVec F S8x128 .f32 := Host.absf main_arg6
  let main_cst_8 : FVec F S_ .f32 := constant S_ .f32 0x7F800000#32
  let main_v25 : FVec F S8x128 .f32 := broadcastInDim S8x128 ![] bcast_S_S8x128 main_cst_8
  let main_v26 : IVec S8x128 1 := cmpf .olt main_v24 main_v25
  let main_c_9 : IVec S_ 1 := constantI S_ 1 1#1
  let main_v27 : IVec S_ 1 := (fun x v => Host.reduce IntOp.andi x v reducesTo_S8x128_S_d0_1 h_S_) main_v26 main_c_9
  let main_v28 : IVec S_ 1 := andi main_v23 main_v27
  let main_v29 : FVec F S8192x512 .f32 := Host.absf main_arg7
  let main_cst_10 : FVec F S_ .f32 := constant S_ .f32 0x7F800000#32
  let main_v30 : FVec F S8192x512 .f32 := broadcastInDim S8192x512 ![] bcast_S_S8192x512 main_cst_10
  let main_v31 : IVec S8192x512 1 := cmpf .olt main_v29 main_v30
  let main_c_11 : IVec S_ 1 := constantI S_ 1 1#1
  let main_v32 : IVec S_ 1 := (fun x v => Host.reduce IntOp.andi x v reducesTo_S8192x512_S_d0_1 h_S_) main_v31 main_c_11
  let main_v33 : IVec S_ 1 := andi main_v28 main_v32
  main_v33

def fn {F : FTy → Type} [FloatOps F] (main_arg0 : FVec F S8192x512 .f32) (main_arg1 : FVec F S8192x512 .f32) (main_arg2 : FVec F S8192x5120 .bf16) (main_arg3 : FVec F S512 .f32) (main_arg4 : FVec F S512 .f32) (main_arg5 : FVec F S8x128x128 .f32) (main_arg6 : FVec F S8x128 .f32) (main_arg7 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_v13 main_v16
-- ==== Pre_finite5.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S3x5632 : S_.BroadcastsInDim S3x5632 (![] : Fin 0 → Fin S3x5632.rank)
  reducesTo_S3x5632_S_d0_1 : S3x5632.ReducesTo [0, 1] S_
  bcast_S_S5632 : S_.BroadcastsInDim S5632 (![] : Fin 0 → Fin S5632.rank)
  reducesTo_S5632_S_d0 : S5632.ReducesTo [0] S_
  bcast_S_S8192x2816 : S_.BroadcastsInDim S8192x2816 (![] : Fin 0 → Fin S8192x2816.rank)
  reducesTo_S8192x2816_S_d0_1 : S8192x2816.ReducesTo [0, 1] S_

variable [Facts]

def fn_part1 {F : FTy → Type} [FloatOps F] (main_arg4 : FVec F S5632 .f32) (main_arg5 : FVec F S8192x2816 .f32) (main_v13 : IVec S_ 1) (main_v16 : IVec S3x5632 1) : IVec S_ 1 :=
  let main_c_5 : IVec S_ 1 := constantI S_ 1 1#1
  let main_v17 : IVec S_ 1 := (fun x v => Host.reduce IntOp.andi x v reducesTo_S3x5632_S_d0_1 h_S_) main_v16 main_c_5
  let main_v18 : IVec S_ 1 := andi main_v13 main_v17
  let main_v19 : FVec F S5632 .f32 := Host.absf main_arg4
  let main_cst_6 : FVec F S_ .f32 := constant S_ .f32 0x7F800000#32
  let main_v20 : FVec F S5632 .f32 := broadcastInDim S5632 ![] bcast_S_S5632 main_cst_6
  let main_v21 : IVec S5632 1 := cmpf .olt main_v19 main_v20
  let main_c_7 : IVec S_ 1 := constantI S_ 1 1#1
  let main_v22 : IVec S_ 1 := (fun x v => Host.reduce IntOp.andi x v reducesTo_S5632_S_d0 h_S_) main_v21 main_c_7
  let main_v23 : IVec S_ 1 := andi main_v18 main_v22
  let main_v24 : FVec F S8192x2816 .f32 := Host.absf main_arg5
  let main_cst_8 : FVec F S_ .f32 := constant S_ .f32 0x7F800000#32
  let main_v25 : FVec F S8192x2816 .f32 := broadcastInDim S8192x2816 ![] bcast_S_S8192x2816 main_cst_8
  let main_v26 : IVec S8192x2816 1 := cmpf .olt main_v24 main_v25
  let main_c_9 : IVec S_ 1 := constantI S_ 1 1#1
  let main_v27 : IVec S_ 1 := (fun x v => Host.reduce IntOp.andi x v reducesTo_S8192x2816_S_d0_1 h_S_) main_v26 main_c_9
  let main_v28 : IVec S_ 1 := andi main_v23 main_v27
  main_v28

def fn {F : FTy → Type} [FloatOps F] (main_arg0 : FVec F S8192x1024 .f32) (main_arg1 : FVec F S1024 .f32) (main_arg2 : FVec F S1024x5632 .f32) (main_arg3 : FVec F S3x5632 .f32) (main_arg4 : FVec F S5632 .f32) (main_arg5 : FVec F S8192x2816 .f32) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S3x5632 .f32 := Host.absf main_arg3
  let main_cst_4 : FVec F S_ .f32 := constant S_ .f32 0x7F800000#32
  let main_v15 : FVec F S3x5632 .f32 := broadcastInDim S3x5632 ![] bcast_S_S3x5632 main_cst_4
  let main_v16 : IVec S3x5632 1 := cmpf .olt main_v14 main_v15
  fn_part1 (F := F) main_arg4 main_arg5 main_v13 main_v16
-- ==== Pre_finite7.lean ====
abbrev S8192x512 : Shape := ⟨2, ![8192, 512]⟩
abbrev S8192x1024 : Shape := ⟨2, ![8192, 1024]⟩
abbrev S8192x16 : Shape := ⟨2, ![8192, 16]⟩
abbrev S8192x2048 : Shape := ⟨2, ![8192, 2048]⟩
abbrev S16x512 : Shape := ⟨2, ![16, 512]⟩
abbrev S512 : Shape := ⟨1, ![512]⟩
abbrev S256 : Shape := ⟨1, ![256]⟩
abbrev S_ : Shape := ⟨0, ![]⟩

class Facts : Prop where
  bcast_S_S8192x16 : S_.BroadcastsInDim S8192x16 (![] : Fin 0 → Fin S8192x16.rank)
  reducesTo_S8192x16_S_d0_1 : S8192x16.ReducesTo [0, 1] S_
  h_S_ : 0 < S_.numel
  bcast_S_S16x512 : S_.BroadcastsInDim S16x512 (![] : Fin 0 → Fin S16x512.rank)
  reducesTo_S16x512_S_d0_1 : S16x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S8192x512 .f32) (main_arg1 : FVec F S8192x512 .f32) (main_arg2 : FVec F S8192x1024 .f32) (main_arg3 : FVec F S8192x1024 .f32) (main_arg4 : FVec F S8192x16 .f32) (main_arg5 : FVec F S8192x2048 .bf16) (main_arg6 : FVec F S16x512 .f32) (main_arg7 : FVec F S512 .f32) (main_arg8 : FVec F S256 .f32) : IVec S_ 1 :=
  let main_v0 : FVec F S8192x16 .f32 := Host.absf main_arg4
  let main_cst : FVec F S_ .f32 := constant S_ .f32 0x7F800000#32
  let main_v1 : FVec F S8192x16 .f32 := broadcastInDim S8192x16 ![] bcast_S_S8192x16 main_cst
  let main_v2 : IVec S8192x16 1 := cmpf .olt main_v0 main_v1
  let main_c : IVec S_ 1 := constantI S_ 1 1#1
  let main_v3 : IVec S_ 1 := (fun x v => Host.reduce IntOp.andi x v reducesTo_S8192x16_S_d0_1 h_S_) main_v2 main_c
  let main_v4 : FVec F S16x512 .f32 := Host.absf main_arg6
  let main_cst_0 : FVec F S_ .f32 := constant S_ .f32 0x7F800000#32
  let main_v5 : FVec F S16x512 .f32 := broadcastInDim S16x512 ![] bcast_S_S16x512 main_cst_0
  let main_v6 : IVec S16x512 1 := cmpf .olt main_v4 main_v5
  let main_c_1 : IVec S_ 1 := constantI S_ 1 1#1
  let main_v7 : IVec S_ 1 := (fun x v => Host.reduce IntOp.andi x v reducesTo_S16x512_S_d0_1 h_S_) main_v6 main_c_1
  let main_v8 : IVec S_ 1 := andi main_v3 main_v7
  let main_v9 : FVec F S512 .f32 := Host.absf main_arg7
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S8192x1024 : Shape := ⟨2, ![8192, 1024]⟩
abbrev S1024x6160 : Shape := ⟨2, ![1024, 6160]⟩
abbrev S1024 : Shape := ⟨1, ![1024]⟩
abbrev S8192x512 : Shape := ⟨2, ![8192, 512]⟩
abbrev S8192x16 : Shape := ⟨2, ![8192, 16]⟩
abbrev S6160x1024 : Shape := ⟨2, ![6160, 1024]⟩
abbrev S128x1024 : Shape := ⟨2, ![128, 1024]⟩
abbrev S1024x1024 : Shape := ⟨2, ![1024, 1024]⟩
abbrev S2048x1024 : Shape := ⟨2, ![2048, 1024]⟩
abbrev S16x1024 : Shape := ⟨2, ![16, 1024]⟩
abbrev S_ : Shape := ⟨0, ![]⟩
abbrev S112x1024 : Shape := ⟨2, ![112, 1024]⟩
abbrev S6272x1024 : Shape := ⟨2, ![6272, 1024]⟩
abbrev S1x1024 : Shape := ⟨2, ![1, 1024]⟩
abbrev S8192x128 : Shape := ⟨2, ![8192, 128]⟩
abbrev S8192x112 : Shape := ⟨2, ![8192, 112]⟩
abbrev S512x1024 : Shape := ⟨2, ![512, 1024]⟩
abbrev S512x128 : Shape := ⟨2, ![512, 128]⟩
abbrev S512x6272 : Shape := ⟨2, ![512, 6272]⟩
abbrev S512 : Shape := ⟨1, ![512]⟩
abbrev S512x1 : Shape := ⟨2, ![512, 1]⟩

abbrev nBuf : Space → Nat
  | .hbm => 53
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S1024x6160, .f32⟩
  | .hbm, ⟨2, _⟩ => ⟨S1024, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x1024, .f32⟩
  | .hbm, ⟨8, _⟩ => ⟨S8192x1024, .f32⟩
  | .hbm, ⟨9, _⟩ => ⟨S8192x16, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S6160x1024, .f32⟩
  | .hbm, ⟨14, _⟩ => ⟨S6160x1024, .bf16⟩
  | .hbm, ⟨15, _⟩ => ⟨S128x1024, .bf16⟩
  | .hbm, ⟨16, _⟩ => ⟨S128x1024, .bf16⟩
  | .hbm, ⟨17, _⟩ => ⟨S128x1024, .bf16⟩
  | .hbm, ⟨18, _⟩ => ⟨S128x1024, .bf16⟩
  | .hbm, ⟨19, _⟩ => ⟨S128x1024, .bf16⟩
  | .hbm, ⟨20, _⟩ => ⟨S128x1024, .bf16⟩
  | .hbm, ⟨21, _⟩ => ⟨S128x1024, .bf16⟩
  | .hbm, ⟨22, _⟩ => ⟨S128x1024, .bf16⟩
  | .hbm, ⟨23, _⟩ => ⟨S1024x1024, .bf16⟩
  | .hbm, ⟨24, _⟩ => ⟨S2048x1024, .bf16⟩
  | .hbm, ⟨25, _⟩ => ⟨S2048x1024, .bf16⟩
  | .hbm, ⟨26, _⟩ => ⟨S16x1024, .bf16⟩
  | .hbm, ⟨27, _⟩ => ⟨S_, .bf16⟩
  | .hbm, ⟨28, _⟩ => ⟨S112x1024, .bf16⟩
  | .hbm, ⟨29, _⟩ => ⟨S6272x1024, .bf16⟩
  | .hbm, ⟨30, _⟩ => ⟨S1x1024, .f32⟩
  | .hbm, ⟨31, _⟩ => ⟨S8192x1024, .f32⟩
  | .hbm, ⟨32, _⟩ => ⟨S8192x1024, .bf16⟩
  | .hbm, ⟨33, _⟩ => ⟨S8192x128, .f32⟩
  | .hbm, ⟨34, _⟩ => ⟨S8192x128, .f32⟩
  | .hbm, ⟨35, _⟩ => ⟨S8192x128, .f32⟩
  | .hbm, ⟨36, _⟩ => ⟨S8192x128, .f32⟩
  | .hbm, ⟨37, _⟩ => ⟨S8192x128, .f32⟩
  | .hbm, ⟨38, _⟩ => ⟨S8192x128, .f32⟩
  | .hbm, ⟨39, _⟩ => ⟨S8192x128, .f32⟩
  | .hbm, ⟨40, _⟩ => ⟨S8192x128, .f32⟩
  | .hbm, ⟨41, _⟩ => ⟨S8192x1024, .f32⟩
  | .hbm, ⟨42, _⟩ => ⟨S8192x1024, .bf16⟩
  | .hbm, ⟨43, _⟩ => ⟨S_, .f32⟩
  | .hbm, ⟨44, _⟩ => ⟨S8192x112, .f32⟩
  | .hbm, ⟨45, _⟩ => ⟨S8192x128, .f32⟩
  | .hbm, ⟨46, _⟩ => ⟨S8192x128, .bf16⟩
  | .hbm, ⟨47, _⟩ => ⟨S8192x1024, .bf16⟩
  | .hbm, ⟨48, _⟩ => ⟨S8192x1024, .bf16⟩
  | .hbm, ⟨49, _⟩ => ⟨S8192x1024, .bf16⟩
  | .hbm, ⟨50, _⟩ => ⟨S8192x1024, .bf16⟩
  | .hbm, ⟨51, _⟩ => ⟨S8192x1024, .f32⟩
  | .hbm, ⟨52, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x128, .bf16⟩
  | .local _ .vmem, ⟨13, _⟩ => ⟨S512x128, .bf16⟩
  | .local _ .vmem, ⟨14, _⟩ => ⟨S6272x1024, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_0 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36_0 : Ref sig .tc := ⟨.hbm, 51, rfl⟩
abbrev main_v36_1 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S6272x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S8192x1024 : Shape := ⟨2, ![8192, 1024]⟩
abbrev S1024x6160 : Shape := ⟨2, ![1024, 6160]⟩
abbrev S1024 : Shape := ⟨1, ![1024]⟩
abbrev S8192x512 : Shape := ⟨2, ![8192, 512]⟩
abbrev S8192x16 : Shape := ⟨2, ![8192, 16]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x6160 : Shape := ⟨2, ![8192, 6160]⟩

abbrev nBuf : Space → Nat
  | .hbm => 97
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x6160, .f32⟩
  | .hbm, ⟨2, _⟩ => ⟨S1024, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x1024, .f32⟩
  | .hbm, ⟨8, _⟩ => ⟨S8192x1024, .f32⟩
  | .hbm, ⟨9, _⟩ => ⟨S8192x16, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x6160, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x1024, .f32⟩
  | .hbm, ⟨39, _⟩ => ⟨S8192x1024, .f32⟩
  | .hbm, ⟨40, _⟩ => ⟨S8192x16, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x6160, .f32⟩
  | .hbm, ⟨45, _⟩ => ⟨S_, .f32⟩
  | .hbm, ⟨46, _⟩ => ⟨S8192x6160, .f32⟩
  | .hbm, ⟨47, _⟩ => ⟨S8192x6160, .f32⟩
  | .hbm, ⟨48, _⟩ => ⟨S_, .f32⟩
  | .hbm, ⟨49, _⟩ => ⟨S8192x6160, .f32⟩
  | .hbm, ⟨50, _⟩ => ⟨S8192x6160, .f32⟩
  | .hbm, ⟨51, _⟩ => ⟨S_, .f32⟩
  | .hbm, ⟨52, _⟩ => ⟨S8192x6160, .f32⟩
  | .hbm, ⟨53, _⟩ => ⟨S8192x6160, .f32⟩
  | .hbm, ⟨54, _⟩ => ⟨S_, .f32⟩
  | .hbm, ⟨55, _⟩ => ⟨S8192x6160, .f32⟩
  | .hbm, ⟨56, _⟩ => ⟨S8192x6160, .f32⟩
  | .hbm, ⟨57, _⟩ => ⟨S_, .f32⟩
  | .hbm, ⟨58, _⟩ => ⟨S8192x6160, .f32⟩
  | .hbm, ⟨59, _⟩ => ⟨S8192x6160, .f32⟩
  | .hbm, ⟨60, _⟩ => ⟨S_, .f32⟩
  | .hbm, ⟨61, _⟩ => ⟨S8192x6160, .f32⟩
  | .hbm, ⟨62, _⟩ => ⟨S8192x6160, .f32⟩
  | .hbm, ⟨63, _⟩ => ⟨S_, .f32⟩
  | .hbm, ⟨64, _⟩ => ⟨S8192x6160, .f32⟩
  | .hbm, ⟨65, _⟩ => ⟨S8192x6160, .f32⟩
  | .hbm, ⟨66, _⟩ => ⟨S_, .f32⟩
  | .hbm, ⟨67, _⟩ => ⟨S8192x6160, .f32⟩
  | .hbm, ⟨68, _⟩ => ⟨S8192x6160, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S1024, .f32⟩
  | .hbm, ⟨78, _⟩ => ⟨S8192x1024, .f32⟩
  | .hbm, ⟨79, _⟩ => ⟨S_, .f32⟩
  | .hbm, ⟨80, _⟩ => ⟨S8192, .f32⟩
  | .hbm, ⟨81, _⟩ => ⟨S8192x1, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S_, .f32⟩
  | .hbm, ⟨90, _⟩ => ⟨S8192, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_cst_8 : Ref sig .tc := ⟨.hbm, 57, rfl⟩
abbrev main_v35 : Ref sig .tc := ⟨.hbm, 58, rfl⟩
abbrev main_v36 : Ref sig .tc := ⟨.hbm, 59, rfl⟩
abbrev main_cst_9 : Ref sig .tc := ⟨.hbm, 60, rfl⟩
abbrev main_v37 : Ref sig .tc := ⟨.hbm, 61, rfl⟩
abbrev main_v38 : Ref sig .tc := ⟨.hbm, 62, rfl⟩
abbrev main_cst_10 : Ref sig .tc := ⟨.hbm, 63, rfl⟩
abbrev main_v39 : Ref sig .tc := ⟨.hbm, 64, rfl⟩
abbrev main_v40 : Ref sig .tc := ⟨.hbm, 65, rfl⟩
abbrev main_cst_11 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_12 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_13 : Ref sig .tc := ⟨.hbm, 76, rfl⟩
abbrev main_v49 : Ref sig .tc := ⟨.hbm, 77, rfl⟩
abbrev main_v50 : Ref sig .tc := ⟨.hbm, 78, rfl⟩
abbrev main_cst_14 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_15 : Ref sig .tc := ⟨.hbm, 86, rfl⟩
abbrev main_v57 : Ref sig .tc := ⟨.hbm, 87, rfl⟩
abbrev main_v58 : Ref sig .tc := ⟨.hbm, 88, rfl⟩
abbrev main_cst_16 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩

abbrev nD : Nat := 1
abbrev τ : Topo := Topo.v7x

variable {F : FTy → Type} [FloatOps F]
-- ==== Kernel2.lean ====
abbrev S8192x1024 : Shape := ⟨2, ![8192, 1024]⟩
abbrev S8192x512 : Shape := ⟨2, ![8192, 512]⟩
abbrev S8192x4096 : Shape := ⟨2, ![8192, 4096]⟩
abbrev S512x1024 : Shape := ⟨2, ![512, 1024]⟩
abbrev S1024x1024 : Shape := ⟨2, ![1024, 1024]⟩
abbrev S1024 : Shape := ⟨1, ![1024]⟩
abbrev S8192x6144 : Shape := ⟨2, ![8192, 6144]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 33
  | .vmem => 55
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x1024, .f32⟩
  | .hbm, ⟨3, _⟩ => ⟨S8192x4096, .bf16⟩
  | .hbm, ⟨4, _⟩ => ⟨S8192x1024, .f32⟩
  | .hbm, ⟨5, _⟩ => ⟨S8192x1024, .f32⟩
  | .hbm, ⟨6, _⟩ => ⟨S512x1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S8192x1024, .f32⟩
  | .hbm, ⟨11, _⟩ => ⟨S8192x1024, .bf16⟩
  | .hbm, ⟨12, _⟩ => ⟨S8192x1024, .bf16⟩
  | .hbm, ⟨13, _⟩ => ⟨S8192x6144, .bf16⟩
  | .hbm, ⟨14, _⟩ => ⟨S1x1024, .f32⟩
  | .hbm, ⟨15, _⟩ => ⟨S512x1024, .bf16⟩
  | .hbm, ⟨16, _⟩ => ⟨S1024x1024, .bf16⟩
  | .hbm, ⟨17, _⟩ => ⟨S1024x1024, .bf16⟩
  | .hbm, ⟨18, _⟩ => ⟨S8192x512, .bf16⟩
  | .hbm, ⟨19, _⟩ => ⟨S8192x1024, .bf16⟩
  | .hbm, ⟨20, _⟩ => ⟨S8192x1024, .bf16⟩
  | .hbm, ⟨21, _⟩ => ⟨S8192x1024, .bf16⟩
  | .hbm, ⟨22, _⟩ => ⟨S8192x1024, .bf16⟩
  | .hbm, ⟨23, _⟩ => ⟨S8192x1024, .bf16⟩
  | .hbm, ⟨24, _⟩ => ⟨S8192x1024, .f32⟩
  | .hbm, ⟨25, _⟩ => ⟨S8192x1024, .bf16⟩
  | .hbm, ⟨26, _⟩ => ⟨S8192x1024, .bf16⟩
  | .hbm, ⟨27, _⟩ => ⟨S8192x1024, .bf16⟩
  | .hbm, ⟨28, _⟩ => ⟨S8192x1024, .bf16⟩
  | .hbm, ⟨29, _⟩ => ⟨S8192x1024, .bf16⟩
  | .hbm, ⟨30, _⟩ => ⟨S8192x512, .bf16⟩
  | .hbm, ⟨31, _⟩ => ⟨S8192x1024, .bf16⟩
  | .hbm, ⟨32, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | .local _ .vmem, ⟨35, _⟩ => ⟨S512x1024, .bf16⟩
  | .local _ .vmem, ⟨36, _⟩ => ⟨S1x1024, .f32⟩
  | .local _ .vmem, ⟨37, _⟩ => ⟨S1024x1024, .bf16⟩
  | .local _ .vmem, ⟨38, _⟩ => ⟨S512x1024, .bf16⟩
  | .local _ .vmem, ⟨39, _⟩ => ⟨S1024x1024, .bf16⟩
  | .local _ .vmem, ⟨40, _⟩ => ⟨S512x1024, .bf16⟩
  | .local _ .vmem, ⟨41, _⟩ => ⟨S512x1024, .bf16⟩
  | .local _ .vmem, ⟨42, _⟩ => ⟨S512x1024, .bf16⟩
  | .local _ .vmem, ⟨43, _⟩ => ⟨S512x1024, .bf16⟩
  | .local _ .vmem, ⟨44, _⟩ => ⟨S512x1024, .bf16⟩
  | .local _ .vmem, ⟨45, _⟩ => ⟨S512x1024, .bf16⟩
  | .local _ .vmem, ⟨46, _⟩ => ⟨S512x1024, .bf16⟩
  | .local _ .vmem, ⟨47, _⟩ => ⟨S512x1024, .bf16⟩
  | .local _ .vmem, ⟨48, _⟩ => ⟨S512x1024, .bf16⟩
  | .local _ .vmem, ⟨49, _⟩ => ⟨S512x1024, .bf16⟩
  | .local _ .vmem, ⟨50, _⟩ => ⟨S512x512, .bf16⟩
  | .local _ .vmem, ⟨51, _⟩ => ⟨S512x512, .bf16⟩
  | .local _ .vmem, ⟨52, _⟩ => ⟨S512x1024, .bf16⟩
  | .local _ .vmem, ⟨53, _⟩ => ⟨S512x1024, .bf16⟩
  | .local _ .vmem, ⟨54, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev main_v9_4 : Ref sig .tc := ⟨.hbm, 24, rfl⟩
abbrev main_v10_0 : Ref sig .tc := ⟨.hbm, 25, rfl⟩
abbrev main_v10_1 : Ref sig .tc := ⟨.hbm, 26, rfl⟩
abbrev main_v10_2 : Ref sig .tc := ⟨.hbm, 27, rfl⟩
abbrev main_v10_3 : Ref sig .tc := ⟨.hbm, 28, rfl⟩
abbrev main_v10_4 : Ref sig .tc := ⟨.hbm, 29, rfl⟩
abbrev main_v10_5 : Ref sig .tc := ⟨.hbm, 30, rfl⟩
abbrev main_v10_6 : Ref sig .tc := ⟨.hbm, 31, rfl⟩
abbrev main_v10_7 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg1_1 : Ref sig .tc := ⟨.vmem, 27, rfl⟩
abbrev cc1_stg2_0 : Ref sig .tc := ⟨.vmem, 28, rfl⟩
abbrev cc1_stg2_1 : Ref sig .tc := ⟨.vmem, 29, rfl⟩
abbrev cc1_stg3_0 : Ref sig .tc := ⟨.vmem, 30, rfl⟩
abbrev cc1_stg3_1 : Ref sig .tc := ⟨.vmem, 31, rfl⟩
abbrev cc1_stg4_0 : Ref sig .tc := ⟨.vmem, 32, rfl⟩
abbrev cc1_stg4_1 : Ref sig .tc := ⟨.vmem, 33, rfl⟩
abbrev cc1_stg5_0 : Ref sig .tc := ⟨.vmem, 34, rfl⟩
abbrev cc1_stg5_1 : Ref sig .tc := ⟨.vmem, 35, rfl⟩
abbrev cc1_stg6_0 : Ref sig .tc := ⟨.vmem, 36, rfl⟩
abbrev cc1_stg7_0 : Ref sig .tc := ⟨.vmem, 37, rfl⟩
abbrev cc1_stg8_0 : Ref sig .tc := ⟨.vmem, 38, rfl⟩
abbrev cc1_stg9_0 : Ref sig .tc := ⟨.vmem, 39, rfl⟩
abbrev cc1_stg10_0 : Ref sig .tc := ⟨.vmem, 40, rfl⟩
abbrev cc1_stg10_1 : Ref sig .tc := ⟨.vmem, 41, rfl⟩
abbrev cc1_stg11_0 : Ref sig .tc := ⟨.vmem, 42, rfl⟩
abbrev cc1_stg11_1 : Ref sig .tc := ⟨.vmem, 43, rfl⟩
abbrev cc1_stg12_0 : Ref sig .tc := ⟨.vmem, 44, rfl⟩
abbrev cc1_stg12_1 : Ref sig .tc := ⟨.vmem, 45, rfl⟩
abbrev cc1_stg13_0 : Ref sig .tc := ⟨.vmem, 46, rfl⟩
abbrev cc1_stg13_1 : Ref sig .tc := ⟨.vmem, 47, rfl⟩
abbrev cc1_stg14_0 : Ref sig .tc := ⟨.vmem, 48, rfl⟩
abbrev cc1_stg14_1 : Ref sig .tc := ⟨.vmem, 49, rfl⟩
abbrev cc1_stg15_0 : Ref sig .tc := ⟨.vmem, 50, rfl⟩
abbrev cc1_stg15_1 : Ref sig .tc := ⟨.vmem, 51, rfl⟩
abbrev cc1_stg16_0 : Ref sig .tc := ⟨.vmem, 52, rfl⟩
abbrev cc1_stg16_1 : Ref sig .tc := ⟨.vmem, 53, rfl⟩
abbrev cc1_stg17_0 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem2_1 : DmaSem sig := 29
abbrev cc1_sem3_0 : DmaSem sig := 30
abbrev cc1_sem3_1 : DmaSem sig := 31
abbrev cc1_sem4_0 : DmaSem sig := 32
abbrev cc1_sem4_1 : DmaSem sig := 33
abbrev cc1_sem5_0 : DmaSem sig := 34
abbrev cc1_sem5_1 : DmaSem sig := 35
abbrev cc1_sem6_0 : DmaSem sig := 36
abbrev cc1_sem7_0 : DmaSem sig := 37
abbrev cc1_sem8_0 : DmaSem sig := 38
abbrev cc1_sem9_0 : DmaSem sig := 39
abbrev cc1_sem10_0 : DmaSem sig := 40
abbrev cc1_sem10_1 : DmaSem sig := 41
abbrev cc1_sem11_0 : DmaSem sig := 42
abbrev cc1_sem11_1 : DmaSem sig := 43
abbrev cc1_sem12_0 : DmaSem sig := 44
abbrev cc1_sem12_1 : DmaSem sig := 45
abbrev cc1_sem13_0 : DmaSem sig := 46
abbrev cc1_sem13_1 : DmaSem sig := 47
abbrev cc1_sem14_0 : DmaSem sig := 48
abbrev cc1_sem14_1 : DmaSem sig := 49
abbrev cc1_sem15_0 : DmaSem sig := 50
abbrev cc1_sem15_1 : DmaSem sig := 51
abbrev cc1_sem16_0 : DmaSem sig := 52
abbrev cc1_sem16_1 : DmaSem sig := 53
abbrev cc1_sem17_0 : DmaSem sig := 54

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c4_i32 : BitVec 32 := 4#32
  let c0_i32 : BitVec 32 := 0#32
  ![arg0.toNat, c4_i32.toNat]

def cc1_transform_3 (i : grid1.Coords) : Fin 2 → Nat :=
  let arg0 : BitVec 32 := BitVec.ofNat 32 (i 0).val
  let c5_i32 : BitVec 32 := 5#32
  let c0_i32 : BitVec 32 := 0#32
  ![arg0.toNat, c5_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1024x1024 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S512x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S512x1024 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S512x1024 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S512x512 .bf16 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S512x1024 .bf16 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 1 → Memref sig .tc .vmem S1x1024 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]
-- ==== Reference2Ideal.lean ====
abbrev S8192x1024 : Shape := ⟨2, ![8192, 1024]⟩
abbrev S8192x512 : Shape := ⟨2, ![8192, 512]⟩
abbrev S8192x4096 : Shape := ⟨2, ![8192, 4096]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 109
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x1024, .f32⟩
  | .hbm, ⟨3, _⟩ => ⟨S8192x4096, .bf16⟩
  | .hbm, ⟨4, _⟩ => ⟨S8192x1024, .f32⟩
  | .hbm, ⟨5, _⟩ => ⟨S8192x1024, .f32⟩
  | .hbm, ⟨6, _⟩ => ⟨S512x1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S1x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S1024, .f32⟩
  | .hbm, ⟨75, _⟩ => ⟨S8192x1024, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S8192x1024, .f32⟩
  | .hbm, ⟨80, _⟩ => ⟨S8192x1024, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S_, .f32⟩
  | .hbm, ⟨86, _⟩ => ⟨S8192, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x512, .f32⟩
  | .hbm, ⟨101, _⟩ => ⟨S8192x1024, .bf16⟩
  | .hbm, ⟨102, _⟩ => ⟨S8192x1024, .bf16⟩
  | .hbm, ⟨103, _⟩ => ⟨S8192x1024, .bf16⟩
  | .hbm, ⟨104, _⟩ => ⟨S8192x1024, .bf16⟩
  | .hbm, ⟨105, _⟩ => ⟨S8192x1024, .bf16⟩
  | .hbm, ⟨106, _⟩ => ⟨S8192x512, .bf16⟩
  | .hbm, ⟨107, _⟩ => ⟨S8192x1024, .bf16⟩
  | .hbm, ⟨108, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_v32 : Ref sig .tc := ⟨.hbm, 52, rfl⟩
abbrev main_cst_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_cst_12 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_cst_14 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩

abbrev nD : Nat := 1
abbrev τ : Topo := Topo.v7x

variable {F : FTy → Type} [FloatOps F]
-- ==== Kernel3.lean ====
abbrev S8192x2816 : Shape := ⟨2, ![8192, 2816]⟩
abbrev S8192x1024 : Shape := ⟨2, ![8192, 1024]⟩
abbrev S8192x256 : Shape := ⟨2, ![8192, 256]⟩
abbrev S2816x1024 : Shape := ⟨2, ![2816, 1024]⟩
abbrev S1024x1024 : Shape := ⟨2, ![1024, 1024]⟩
abbrev S256x1024 : Shape := ⟨2, ![256, 1024]⟩
abbrev S1024 : Shape := ⟨1, ![1024]⟩
abbrev S1x1024 : Shape := ⟨2, ![1, 1024]⟩
abbrev S1x1 : Shape := ⟨2, ![1, 1]⟩
abbrev S512x2816 : Shape := ⟨2, ![512, 2816]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 28
  | .vmem => 48
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x256, .f32⟩
  | .hbm, ⟨3, _⟩ => ⟨S8192x1024, .f32⟩
  | .hbm, ⟨4, _⟩ => ⟨S2816x1024, .f32⟩
  | .hbm, ⟨5, _⟩ => ⟨S1024x1024, .f32⟩
  | .hbm, ⟨6, _⟩ => ⟨S256x1024, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S2816x1024, .bf16⟩
  | .hbm, ⟨12, _⟩ => ⟨S1024x1024, .bf16⟩
  | .hbm, ⟨13, _⟩ => ⟨S256x1024, .bf16⟩
  | .hbm, ⟨14, _⟩ => ⟨S8192x2816, .bf16⟩
  | .hbm, ⟨15, _⟩ => ⟨S8192x1024, .bf16⟩
  | .hbm, ⟨16, _⟩ => ⟨S8192x1024, .bf16⟩
  | .hbm, ⟨17, _⟩ => ⟨S8192x1024, .bf16⟩
  | .hbm, ⟨18, _⟩ => ⟨S8192x1024, .bf16⟩
  | .hbm, ⟨19, _⟩ => ⟨S8192x1024, .f32⟩
  | .hbm, ⟨20, _⟩ => ⟨S1x1, .f32⟩
  | .hbm, ⟨21, _⟩ => ⟨S8192x1024, .f32⟩
  | .hbm, ⟨22, _⟩ => ⟨S8192x1024, .bf16⟩
  | .hbm, ⟨23, _⟩ => ⟨S8192x1024, .bf16⟩
  | .hbm, ⟨24, _⟩ => ⟨S8192x1024, .bf16⟩
  | .hbm, ⟨25, _⟩ => ⟨S8192x2816, .bf16⟩
  | .hbm, ⟨26, _⟩ => ⟨S1x1024, .f32⟩
  | .hbm, ⟨27, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x1024, .f32⟩
  | .local _ .vmem, ⟨3, _⟩ => ⟨S512x1024, .f32⟩
  | .local _ .vmem, ⟨4, _⟩ => ⟨S512x256, .f32⟩
  | .local _ .vmem, ⟨5, _⟩ => ⟨S512x256, .f32⟩
  | .local _ .vmem, ⟨6, _⟩ => ⟨S512x1024, .f32⟩
  | .local _ .vmem, ⟨7, _⟩ => ⟨S512x1024, .f32⟩
  | .local _ .vmem, ⟨8, _⟩ => ⟨S2816x1024, .bf16⟩
  | .local _ .vmem, ⟨9, _⟩ => ⟨S1024x1024, .bf16⟩
  | .local _ .vmem, ⟨10, _⟩ => ⟨S256x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .f32⟩
  | .local _ .vmem, ⟨22, _⟩ => ⟨S512x1024, .f32⟩
  | .local _ .vmem, ⟨23, _⟩ => ⟨S1x1, .f32⟩
  | .local _ .vmem, ⟨24, _⟩ => ⟨S512x1024, .f32⟩
  | .local _ .vmem, ⟨25, _⟩ => ⟨S512x1024, .f32⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S1x1024, .f32⟩
  | .local _ .vmem, ⟨33, _⟩ => ⟨S1x1024, .f32⟩
  | .local _ .vmem, ⟨34, _⟩ => ⟨S1024x1024, .bf16⟩
  | .local _ .vmem, ⟨35, _⟩ => ⟨S2816x1024, .bf16⟩
  | .local _ .vmem, ⟨36, _⟩ => ⟨S512x1024, .f32⟩
  | .local _ .vmem, ⟨37, _⟩ => ⟨S512x1024, .f32⟩
  | .local _ .vmem, ⟨38, _⟩ => ⟨S512x1024, .bf16⟩
  | .local _ .vmem, ⟨39, _⟩ => ⟨S512x1024, .bf16⟩
  | .local _ .vmem, ⟨40, _⟩ => ⟨S512x1024, .bf16⟩
  | .local _ .vmem, ⟨41, _⟩ => ⟨S512x1024, .bf16⟩
  | .local _ .vmem, ⟨42, _⟩ => ⟨S512x1024, .bf16⟩
  | .local _ .vmem, ⟨43, _⟩ => ⟨S512x1024, .bf16⟩
  | .local _ .vmem, ⟨44, _⟩ => ⟨S512x2816, .bf16⟩
  | .local _ .vmem, ⟨45, _⟩ => ⟨S512x2816, .bf16⟩
  | .local _ .vmem, ⟨46, _⟩ => ⟨S1x1024, .f32⟩
  | .local _ .vmem, ⟨47, _⟩ => ⟨S1x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev main_v6_5 : Ref sig .tc := ⟨.hbm, 20, rfl⟩
abbrev main_v7_0 : Ref sig .tc := ⟨.hbm, 21, rfl⟩
abbrev main_v7_1 : Ref sig .tc := ⟨.hbm, 22, rfl⟩
abbrev main_v7_2 : Ref sig .tc := ⟨.hbm, 23, rfl⟩
abbrev main_v7_3 : Ref sig .tc := ⟨.hbm, 24, rfl⟩
abbrev main_v7_4 : Ref sig .tc := ⟨.hbm, 25, rfl⟩
abbrev main_v7_5 : Ref sig .tc := ⟨.hbm, 26, rfl⟩
abbrev main_v7_6 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg1_1 : Ref sig .tc := ⟨.vmem, 27, rfl⟩
abbrev cc1_stg2_0 : Ref sig .tc := ⟨.vmem, 28, rfl⟩
abbrev cc1_stg2_1 : Ref sig .tc := ⟨.vmem, 29, rfl⟩
abbrev cc1_stg3_0 : Ref sig .tc := ⟨.vmem, 30, rfl⟩
abbrev cc1_stg3_1 : Ref sig .tc := ⟨.vmem, 31, rfl⟩
abbrev cc1_stg4_0 : Ref sig .tc := ⟨.vmem, 32, rfl⟩
abbrev cc1_stg5_0 : Ref sig .tc := ⟨.vmem, 33, rfl⟩
abbrev cc1_stg6_0 : Ref sig .tc := ⟨.vmem, 34, rfl⟩
abbrev cc1_stg7_0 : Ref sig .tc := ⟨.vmem, 35, rfl⟩
abbrev cc1_stg8_0 : Ref sig .tc := ⟨.vmem, 36, rfl⟩
abbrev cc1_stg8_1 : Ref sig .tc := ⟨.vmem, 37, rfl⟩
abbrev cc1_stg9_0 : Ref sig .tc := ⟨.vmem, 38, rfl⟩
abbrev cc1_stg9_1 : Ref sig .tc := ⟨.vmem, 39, rfl⟩
abbrev cc1_stg10_0 : Ref sig .tc := ⟨.vmem, 40, rfl⟩
abbrev cc1_stg10_1 : Ref sig .tc := ⟨.vmem, 41, rfl⟩
abbrev cc1_stg11_0 : Ref sig .tc := ⟨.vmem, 42, rfl⟩
abbrev cc1_stg11_1 : Ref sig .tc := ⟨.vmem, 43, rfl⟩
abbrev cc1_stg12_0 : Ref sig .tc := ⟨.vmem, 44, rfl⟩
abbrev cc1_stg12_1 : Ref sig .tc := ⟨.vmem, 45, rfl⟩
abbrev cc1_stg13_0 : Ref sig .tc := ⟨.vmem, 46, rfl⟩
abbrev cc1_stg14_0 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem2_1 : DmaSem sig := 29
abbrev cc1_sem3_0 : DmaSem sig := 30
abbrev cc1_sem3_1 : DmaSem sig := 31
abbrev cc1_sem4_0 : DmaSem sig := 32
abbrev cc1_sem5_0 : DmaSem sig := 33
abbrev cc1_sem6_0 : DmaSem sig := 34
abbrev cc1_sem7_0 : DmaSem sig := 35
abbrev cc1_sem8_0 : DmaSem sig := 36
abbrev cc1_sem8_1 : DmaSem sig := 37
abbrev cc1_sem9_0 : DmaSem sig := 38
abbrev cc1_sem9_1 : DmaSem sig := 39
abbrev cc1_sem10_0 : DmaSem sig := 40
abbrev cc1_sem10_1 : DmaSem sig := 41
abbrev cc1_sem11_0 : DmaSem sig := 42
abbrev cc1_sem11_1 : DmaSem sig := 43
abbrev cc1_sem12_0 : DmaSem sig := 44
abbrev cc1_sem12_1 : DmaSem sig := 45
abbrev cc1_sem13_0 : DmaSem sig := 46
abbrev cc1_sem14_0 : DmaSem sig := 47

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2816x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x2816 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 1 → Memref sig .tc .vmem S1x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x1024 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]
-- ==== Reference3Ideal.lean ====
abbrev S8192x2816 : Shape := ⟨2, ![8192, 2816]⟩
abbrev S8192x1024 : Shape := ⟨2, ![8192, 1024]⟩
abbrev S8192x256 : Shape := ⟨2, ![8192, 256]⟩
abbrev S2816x1024 : Shape := ⟨2, ![2816, 1024]⟩
abbrev S1024x1024 : Shape := ⟨2, ![1024, 1024]⟩
abbrev S256x1024 : Shape := ⟨2, ![256, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1 : Shape := ⟨2, ![1, 1]⟩

abbrev nBuf : Space → Nat
  | .hbm => 158
  | .vmem => 0
  | .smem => 0
  | _ => 0

abbrev hbmTy0_0 (i : Nat) : BufTy := match i % 128 with
  | 0 => ⟨S8192x2816, .f32⟩
  | 1 => ⟨S8192x1024, .f32⟩
  | 2 => ⟨S8192x256, .f32⟩
  | 3 => ⟨S8192x1024, .f32⟩
  | 4 => ⟨S2816x1024, .f32⟩
  | 5 => ⟨S1024x1024, .f32⟩
  | 6 => ⟨S256x1024, .f32⟩
  | 7 => ⟨S1024, .f32⟩
  | 8 => ⟨S1024, .f32⟩
  | 9 => ⟨S_, .f32⟩
  | 10 => ⟨S8192x1024, .f32⟩
  | 11 => ⟨S8192x1024, .f32⟩
  | 12 => ⟨S8192x1024, .f32⟩
  | 13 => ⟨S8192x1024, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1, .f32⟩
  | 24 => ⟨S8192x1, .f32⟩
  | 25 => ⟨S_, .f32⟩
  | 26 => ⟨S8192x1, .f32⟩
  | 27 => ⟨S8192x1, .f32⟩
  | 28 => ⟨S8192x1024, .f32⟩
  | 29 => ⟨S8192x1024, .f32⟩
  | 30 => ⟨S1x1024, .f32⟩
  | 31 => ⟨S8192x1024, .f32⟩
  | 32 => ⟨S8192x1024, .f32⟩
  | 33 => ⟨S8192x1024, .f32⟩
  | 34 => ⟨S8192x1024, .f32⟩
  | 35 => ⟨S8192x1024, .f32⟩
  | 36 => ⟨S8192x1024, .f32⟩
  | 37 => ⟨S8192x1024, .f32⟩
  | 38 => ⟨S_, .f32⟩
  | 39 => ⟨S8192x1024, .f32⟩
  | 40 => ⟨S8192x1024, .f32⟩
  | 41 => ⟨S_, .f32⟩
  | 42 => ⟨S8192x1024, .f32⟩
  | 43 => ⟨S8192x1024, .f32⟩
  | 44 => ⟨S_, .f32⟩
  | 45 => ⟨S8192x1024, .f32⟩
  | 46 => ⟨S8192x1024, .f32⟩
  | 47 => ⟨S8192x1024, .f32⟩
  | 48 => ⟨S8192x1024, .f32⟩
  | 49 => ⟨S8192x1024, .f32⟩
  | 50 => ⟨S8192x1024, .f32⟩
  | 51 => ⟨S8192x1024, .f32⟩
  | 52 => ⟨S_, .f32⟩
  | 53 => ⟨S8192, .f32⟩
  | 54 => ⟨S8192x1, .f32⟩
  | 55 => ⟨S_, .f32⟩
  | 56 => ⟨S8192x1, .f32⟩
  | 57 => ⟨S8192x1, .f32⟩
  | 58 => ⟨S_, .f32⟩
  | 59 => ⟨S8192x1, .f32⟩
  | 60 => ⟨S8192x1, .f32⟩
  | 61 => ⟨S8192x1, .f32⟩
  | 62 => ⟨S8192x1, .f32⟩
  | 63 => ⟨S_, .f32⟩
  | 64 => ⟨S8192x1, .f32⟩
  | 65 => ⟨S8192x1, .f32⟩
  | 66 => ⟨S8192x1024, .f32⟩
  | 67 => ⟨S8192x1024, .f32⟩
  | 68 => ⟨S1x1024, .f32⟩
  | 69 => ⟨S8192x1024, .f32⟩
  | 70 => ⟨S8192x1024, .f32⟩
  | 71 => ⟨S8192x1024, .f32⟩
  | 72 => ⟨S8192x1024, .f32⟩
  | 73 => ⟨S8192x1024, .f32⟩
  | 74 => ⟨S_, .f32⟩
  | 75 => ⟨S8192x1024, .f32⟩
  | 76 => ⟨S8192x1024, .f32⟩
  | 77 => ⟨S_, .f32⟩
  | 78 => ⟨S8192, .f32⟩
  | 79 => ⟨S_, .f32⟩
  | 80 => ⟨S8192, .f32⟩
  | 81 => ⟨S8192, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S8192, .f32⟩
  | 90 => ⟨S_, .f32⟩
  | 91 => ⟨S8192, .f32⟩
  | 92 => ⟨S8192, .f32⟩
  | 93 => ⟨S8192x1024, .f32⟩
  | 94 => ⟨S8192x1024, .f32⟩
  | 95 => ⟨S8192x1024, .f32⟩
  | 96 => ⟨S_, .f32⟩
  | 97 => ⟨S1024, .f32⟩
  | 98 => ⟨S1x1024, .f32⟩
  | 99 => ⟨S8192x1024, .f32⟩
  | 100 => ⟨S8192x1024, .f32⟩
  | 101 => ⟨S_, .f32⟩
  | 102 => ⟨S1024, .f32⟩
  | 103 => ⟨S8192x1024, .f32⟩
  | 104 => ⟨S_, .f32⟩
  | 105 => ⟨S8192, .f32⟩
  | 106 => ⟨S8192x1, .f32⟩
  | 107 => ⟨S8192x1024, .f32⟩
  | 108 => ⟨S8192x1024, .f32⟩
  | 109 => ⟨S8192x1, .f32⟩
  | 110 => ⟨S_, .f32⟩
  | 111 => ⟨S8192x1, .f32⟩
  | 112 => ⟨S8192x1, .f32⟩
  | 113 => ⟨S_, .f32⟩
  | 114 => ⟨S8192, .f32⟩
  | 115 => ⟨S8192x1024, .f32⟩
  | 116 => ⟨S8192x1024, .f32⟩
  | 117 => ⟨S8192x1024, .f32⟩
  | 118 => ⟨S8192x1024, .f32⟩
  | 119 => ⟨S8192x1024, .f32⟩
  | 120 => ⟨S8192x1024, .f32⟩
  | 121 => ⟨S8192x1024, .f32⟩
  | 122 => ⟨S8192x1024, .f32⟩
  | 123 => ⟨S8192x1024, .f32⟩
  | 124 => ⟨S8192x1024, .f32⟩
  | 125 => ⟨S8192x1024, .f32⟩
  | 126 => ⟨S_, .f32⟩
  | 127 => ⟨S1024, .f32⟩
  | _ => ⟨S8192x2816, .f32⟩

abbrev hbmTy0_1 (i : Nat) : BufTy := match i % 128 with
  | 0 => ⟨S1x1024, .f32⟩
  | 1 => ⟨S8192x1024, .f32⟩
  | 2 => ⟨S8192x1024, .f32⟩
  | 3 => ⟨S_, .f32⟩
  | 4 => ⟨S1024, .f32⟩
  | 5 => ⟨S8192x1024, .f32⟩
  | 6 => ⟨S_, .f32⟩
  | 7 => ⟨S8192, .f32⟩
  | 8 => ⟨S8192x1, .f32⟩
  | 9 => ⟨S8192x1024, .f32⟩
  | 10 => ⟨S8192x1024, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192, .f32⟩
  | 17 => ⟨S8192x1024, .f32⟩
  | 18 => ⟨S8192x1024, .f32⟩
  | 19 => ⟨S8192x1024, .f32⟩
  | 20 => ⟨S8192x1024, .f32⟩
  | 21 => ⟨S8192x1024, .f32⟩
  | 22 => ⟨S8192x2816, .f32⟩
  | 23 => ⟨S1x1, .f32⟩
  | 24 => ⟨S8192x1024, .bf16⟩
  | 25 => ⟨S8192x1024, .bf16⟩
  | 26 => ⟨S8192x1024, .bf16⟩
  | 27 => ⟨S8192x2816, .bf16⟩
  | 28 => ⟨S1x1024, .f32⟩
  | 29 => ⟨S1x1024, .f32⟩
  | _ => ⟨S8192x2816, .f32⟩

abbrev hbmTy (i : Nat) : BufTy := match i / 128 with
  | 0 => hbmTy0_0 i
  | 1 => hbmTy0_1 i
  | _ => ⟨S8192x2816, .f32⟩

abbrev bufTy : (tb : Table) → Fin (tcTables nBuf tb) → BufTy
  | .hbm, ⟨i, _⟩ => hbmTy i
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_cst_13 : Ref sig .tc := ⟨.hbm, 79, rfl⟩
abbrev main_v56 : Ref sig .tc := ⟨.hbm, 80, rfl⟩
abbrev main_v57 : Ref sig .tc := ⟨.hbm, 81, rfl⟩
abbrev main_cst_14 : Ref sig .tc := ⟨.hbm, 82, rfl⟩
abbrev main_v58 : Ref sig .tc := ⟨.hbm, 83, rfl⟩
abbrev main_cst_15 : Ref sig .tc := ⟨.hbm, 84, rfl⟩
abbrev main_v59 : Ref sig .tc := ⟨.hbm, 85, rfl⟩
abbrev main_cst_16 : Ref sig .tc := ⟨.hbm, 86, rfl⟩
abbrev main_cst_17 : Ref sig .tc := ⟨.hbm, 87, rfl⟩
abbrev main_v60 : Ref sig .tc := ⟨.hbm, 88, rfl⟩
abbrev main_v61 : Ref sig .tc := ⟨.hbm, 89, rfl⟩
abbrev main_cst_18 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_19 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_20 : Ref sig .tc := ⟨.hbm, 101, rfl⟩
abbrev main_v71 : Ref sig .tc := ⟨.hbm, 102, rfl⟩
abbrev main_v72 : Ref sig .tc := ⟨.hbm, 103, rfl⟩
abbrev main_cst_21 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_22 : Ref sig .tc := ⟨.hbm, 110, rfl⟩
abbrev main_v78 : Ref sig .tc := ⟨.hbm, 111, rfl⟩
abbrev main_v79 : Ref sig .tc := ⟨.hbm, 112, rfl⟩
abbrev main_cst_23 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_24 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_25 : Ref sig .tc := ⟨.hbm, 131, rfl⟩
abbrev main_v96 : Ref sig .tc := ⟨.hbm, 132, rfl⟩
abbrev main_v97 : Ref sig .tc := ⟨.hbm, 133, rfl⟩
abbrev main_cst_26 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_27 : Ref sig .tc := ⟨.hbm, 140, rfl⟩
abbrev main_v103 : Ref sig .tc := ⟨.hbm, 141, rfl⟩
abbrev main_v104 : Ref sig .tc := ⟨.hbm, 142, rfl⟩
abbrev main_cst_28 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩

abbrev nD : Nat := 1
abbrev τ : Topo := Topo.v7x

variable {F : FTy → Type} [FloatOps F]
-- ==== Kernel4.lean ====
abbrev S8192x512 : Shape := ⟨2, ![8192, 512]⟩
abbrev S8192x5120 : Shape := ⟨2, ![8192, 5120]⟩
abbrev S512 : Shape := ⟨1, ![512]⟩
abbrev S8x128x128 : Shape := ⟨3, ![8, 128, 128]⟩
abbrev S8x128 : Shape := ⟨2, ![8, 128]⟩
abbrev S8192x6144 : Shape := ⟨2, ![8192, 6144]⟩
abbrev S1x512 : Shape := ⟨2, ![1, 512]⟩
abbrev S128x8x128 : Shape := ⟨3, ![128, 8, 128]⟩
abbrev S128x1024 : Shape := ⟨2, ![128, 1024]⟩
abbrev S128x8 : Shape := ⟨2, ![128, 8]⟩
abbrev S128x8x64 : Shape := ⟨3, ![128, 8, 64]⟩
abbrev S128x512 : Shape := ⟨2, ![128, 512]⟩
abbrev S1024 : Shape := ⟨1, ![1024]⟩
abbrev S1024x1 : Shape := ⟨2, ![1024, 1]⟩
abbrev S_ : Shape := ⟨0, ![]⟩
abbrev S1024x512 : Shape := ⟨2, ![1024, 512]⟩
abbrev S8192x1024 : Shape := ⟨2, ![8192, 1024]⟩
abbrev S512x512 : Shape := ⟨2, ![512, 512]⟩
abbrev S512x1024 : Shape := ⟨2, ![512, 1024]⟩
abbrev S128 : Shape := ⟨1, ![128]⟩
abbrev S128x1 : Shape := ⟨2, ![128, 1]⟩
abbrev S1024x2048 : Shape := ⟨2, ![1024, 2048]⟩
abbrev S128x2048 : Shape := ⟨2, ![128, 2048]⟩
abbrev S128x64 : Shape := ⟨2, ![128, 64]⟩

abbrev nBuf : Space → Nat
  | .hbm => 70
  | .vmem => 19
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x5120, .bf16⟩
  | .hbm, ⟨3, _⟩ => ⟨S512, .f32⟩
  | .hbm, ⟨4, _⟩ => ⟨S512, .f32⟩
  | .hbm, ⟨5, _⟩ => ⟨S8x128x128, .f32⟩
  | .hbm, ⟨6, _⟩ => ⟨S8x128, .f32⟩
  | .hbm, ⟨7, _⟩ => ⟨S8192x512, .f32⟩
  | .hbm, ⟨8, _⟩ => ⟨S8192x512, .bf16⟩
  | .hbm, ⟨9, _⟩ => ⟨S8192x512, .bf16⟩
  | .hbm, ⟨10, _⟩ => ⟨S8192x6144, .bf16⟩
  | .hbm, ⟨11, _⟩ => ⟨S1x512, .f32⟩
  | .hbm, ⟨12, _⟩ => ⟨S1x512, .f32⟩
  | .hbm, ⟨13, _⟩ => ⟨S128x8x128, .f32⟩
  | .hbm, ⟨14, _⟩ => ⟨S128x1024, .f32⟩
  | .hbm, ⟨15, _⟩ => ⟨S128x8x128, .f32⟩
  | .hbm, ⟨16, _⟩ => ⟨S128x1024, .f32⟩
  | .hbm, ⟨17, _⟩ => ⟨S128x8, .f32⟩
  | .hbm, ⟨18, _⟩ => ⟨S128x8x64, .f32⟩
  | .hbm, ⟨19, _⟩ => ⟨S128x512, .f32⟩
  | .hbm, ⟨20, _⟩ => ⟨S1024, .i32⟩
  | .hbm, ⟨21, _⟩ => ⟨S1024x1, .i32⟩
  | .hbm, ⟨22, _⟩ => ⟨S_, .i32⟩
  | .hbm, ⟨23, _⟩ => ⟨S_, .i32⟩
  | .hbm, ⟨24, _⟩ => ⟨S1024x1, .i32⟩
  | .hbm, ⟨25, _⟩ => ⟨S1024x1, .i32⟩
  | .hbm, ⟨26, _⟩ => ⟨S1024x1, .i32⟩
  | .hbm, ⟨27, _⟩ => ⟨S_, .i32⟩
  | .hbm, ⟨28, _⟩ => ⟨S1024x1, .i32⟩
  | .hbm, ⟨29, _⟩ => ⟨S1024x1, .i1⟩
  | .hbm, ⟨30, _⟩ => ⟨S1024x1, .i32⟩
  | .hbm, ⟨31, _⟩ => ⟨S1024x1, .i32⟩
  | .hbm, ⟨32, _⟩ => ⟨S_, .i32⟩
  | .hbm, ⟨33, _⟩ => ⟨S1024x1, .i32⟩
  | .hbm, ⟨34, _⟩ => ⟨S1024x1, .i1⟩
  | .hbm, ⟨35, _⟩ => ⟨S1024x1, .i1⟩
  | .hbm, ⟨36, _⟩ => ⟨S_, .i32⟩
  | .hbm, ⟨37, _⟩ => ⟨S1024x1, .i32⟩
  | .hbm, ⟨38, _⟩ => ⟨S1024x1, .i32⟩
  | .hbm, ⟨39, _⟩ => ⟨S1024x1, .i32⟩
  | .hbm, ⟨40, _⟩ => ⟨S512, .i32⟩
  | .hbm, ⟨41, _⟩ => ⟨S1x512, .i32⟩
  | .hbm, ⟨42, _⟩ => ⟨S_, .i32⟩
  | .hbm, ⟨43, _⟩ => ⟨S_, .i32⟩
  | .hbm, ⟨44, _⟩ => ⟨S1x512, .i32⟩
  | .hbm, ⟨45, _⟩ => ⟨S1x512, .i32⟩
  | .hbm, ⟨46, _⟩ => ⟨S1x512, .i32⟩
  | .hbm, ⟨47, _⟩ => ⟨S_, .i32⟩
  | .hbm, ⟨48, _⟩ => ⟨S1x512, .i32⟩
  | .hbm, ⟨49, _⟩ => ⟨S1x512, .i1⟩
  | .hbm, ⟨50, _⟩ => ⟨S1x512, .i32⟩
  | .hbm, ⟨51, _⟩ => ⟨S1x512, .i32⟩
  | .hbm, ⟨52, _⟩ => ⟨S_, .i32⟩
  | .hbm, ⟨53, _⟩ => ⟨S1x512, .i32⟩
  | .hbm, ⟨54, _⟩ => ⟨S1x512, .i1⟩
  | .hbm, ⟨55, _⟩ => ⟨S1x512, .i1⟩
  | .hbm, ⟨56, _⟩ => ⟨S_, .i32⟩
  | .hbm, ⟨57, _⟩ => ⟨S1x512, .i32⟩
  | .hbm, ⟨58, _⟩ => ⟨S1x512, .i32⟩
  | .hbm, ⟨59, _⟩ => ⟨S1x512, .i32⟩
  | .hbm, ⟨60, _⟩ => ⟨S1024x512, .i32⟩
  | .hbm, ⟨61, _⟩ => ⟨S1024x512, .i32⟩
  | .hbm, ⟨62, _⟩ => ⟨S1024x512, .i1⟩
  | .hbm, ⟨63, _⟩ => ⟨S1024x512, .bf16⟩
  | .hbm, ⟨64, _⟩ => ⟨S8192x512, .bf16⟩
  | .hbm, ⟨65, _⟩ => ⟨S8192x1024, .bf16⟩
  | .hbm, ⟨66, _⟩ => ⟨S1x512, .f32⟩
  | .hbm, ⟨67, _⟩ => ⟨S1x512, .f32⟩
  | .hbm, ⟨68, _⟩ => ⟨S128x1024, .f32⟩
  | .hbm, ⟨69, _⟩ => ⟨S128x8, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x512, .f32⟩
  | .local _ .vmem, ⟨7, _⟩ => ⟨S1x512, .f32⟩
  | .local _ .vmem, ⟨8, _⟩ => ⟨S128x1024, .f32⟩
  | .local _ .vmem, ⟨9, _⟩ => ⟨S128x1024, .f32⟩
  | .local _ .vmem, ⟨10, _⟩ => ⟨S128x512, .f32⟩
  | .local _ .vmem, ⟨11, _⟩ => ⟨S1024x512, .bf16⟩
  | .local _ .vmem, ⟨12, _⟩ => ⟨S512x1024, .bf16⟩
  | .local _ .vmem, ⟨13, _⟩ => ⟨S512x1024, .bf16⟩
  | .local _ .vmem, ⟨14, _⟩ => ⟨S1x512, .f32⟩
  | .local _ .vmem, ⟨15, _⟩ => ⟨S1x512, .f32⟩
  | .local _ .vmem, ⟨16, _⟩ => ⟨S128x1024, .f32⟩
  | .local _ .vmem, ⟨17, _⟩ => ⟨S128x8, .f32⟩
  | .local _ .vmem, ⟨18, _⟩ => ⟨S128x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_c : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_0 : Ref sig .tc := ⟨.hbm, 36, rfl⟩
abbrev main_call0_v12 : Ref sig .tc := ⟨.hbm, 37, rfl⟩
abbrev main_call0_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_c_0 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_c : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_0 : Ref sig .tc := ⟨.hbm, 56, rfl⟩
abbrev main_call1_v12 : Ref sig .tc := ⟨.hbm, 57, rfl⟩
abbrev main_call1_v13 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23_0 : Ref sig .tc := ⟨.hbm, 65, rfl⟩
abbrev main_v23_1 : Ref sig .tc := ⟨.hbm, 66, rfl⟩
abbrev main_v23_2 : Ref sig .tc := ⟨.hbm, 67, rfl⟩
abbrev main_v23_3 : Ref sig .tc := ⟨.hbm, 68, rfl⟩
abbrev main_v23_4 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem13_0 : DmaSem sig := 17

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v568 : BitVec 1 := Scalar.cmpi .eq arg0 c15_i32
  let v569 : BitVec 32 := Scalar.extui v568
  let c0_i32_227 : BitVec 32 := 0#32
  let v570 : BitVec 1 := Scalar.cmpi .ne v569 c0_i32_227
  v570

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Kernel4Ideal.lean ====
variable {F : FTy → Type} [FloatOps F] [Named F]
def κ : String → Option EReal := fun
  | "gelu_2c" => some ((6693141 / 4194304 : ℝ) : EReal)
  | "gelu_6ca" => some ((241015141496493 / 1125899906842624 : ℝ) : EReal)
  | "gelu_a" => some ((12003091 / 268435456 : ℝ) : EReal)
  | "gelu_c" => some ((6693141 / 8388608 : ℝ) : EReal)
  | _ => none
-- ==== Reference4Ideal.lean ====
abbrev S8192x512 : Shape := ⟨2, ![8192, 512]⟩
abbrev S8192x5120 : Shape := ⟨2, ![8192, 5120]⟩
abbrev S512 : Shape := ⟨1, ![512]⟩
abbrev S8x128x128 : Shape := ⟨3, ![8, 128, 128]⟩
abbrev S8x128 : Shape := ⟨2, ![8, 128]⟩
abbrev S_ : Shape := ⟨0, ![]⟩
abbrev S1x8192x512 : Shape := ⟨3, ![1, 8192, 512]⟩
abbrev S1x8192 : Shape := ⟨2, ![1, 8192]⟩
abbrev S1x8192x1 : Shape := ⟨3, ![1, 8192, 1]⟩
abbrev S1x1x512 : Shape := ⟨3, ![1, 1, 512]⟩
abbrev S1x64x128x8x64 : Shape := ⟨5, ![1, 64, 128, 8, 64]⟩
abbrev S128x128 : Shape := ⟨2, ![128, 128]⟩
abbrev S8x1x64x64x128 : Shape := ⟨5, ![8, 1, 64, 64, 128]⟩
abbrev S128x8 : Shape := ⟨2, ![128, 8]⟩
abbrev S1x1x128x8x1 : Shape := ⟨5, ![1, 1, 128, 8, 1]⟩
abbrev S1x128x8 : Shape := ⟨3, ![1, 128, 8]⟩
abbrev S1x512 : Shape := ⟨2, ![1, 512]⟩
abbrev S8192 : Shape := ⟨1, ![8192]⟩
abbrev S8192x1024 : Shape := ⟨2, ![8192, 1024]⟩
abbrev S128x8x128 : Shape := ⟨3, ![128, 8, 128]⟩
abbrev S128x1024 : Shape := ⟨2, ![128, 1024]⟩

abbrev nBuf : Space → Nat
  | .hbm => 235
  | .vmem => 0
  | .smem => 0
  | _ => 0

abbrev hbmTy0_0 (i : Nat) : BufTy := match i % 128 with
  | 0 => ⟨S8192x512, .f32⟩
  | 1 => ⟨S8192x512, .f32⟩
  | 2 => ⟨S8192x5120, .bf16⟩
  | 3 => ⟨S512, .f32⟩
  | 4 => ⟨S512, .f32⟩
  | 5 => ⟨S8x128x128, .f32⟩
  | 6 => ⟨S8x128, .f32⟩
  | 7 => ⟨S8192x512, .f32⟩
  | 8 => ⟨S8192x512, .f32⟩
  | 9 => ⟨S8192x512, .f32⟩
  | 10 => ⟨S8192x512, .f32⟩
  | 11 => ⟨S_, .f32⟩
  | 12 => ⟨S8192x512, .f32⟩
  | 13 => ⟨S8192x512, .f32⟩
  | 14 => ⟨S_, .f32⟩
  | 15 => ⟨S8192x512, .f32⟩
  | 16 => ⟨S8192x512, .f32⟩
  | 17 => ⟨S8192x512, .f32⟩
  | 18 => ⟨S_, .f32⟩
  | 19 => ⟨S8192x512, .f32⟩
  | 20 => ⟨S8192x512, .f32⟩
  | 21 => ⟨S8192x512, .f32⟩
  | 22 => ⟨S_, .f32⟩
  | 23 => ⟨S8192x512, .f32⟩
  | 24 => ⟨S8192x512, .f32⟩
  | 25 => ⟨S_, .f32⟩
  | 26 => ⟨S8192x512, .f32⟩
  | 27 => ⟨S8192x512, .f32⟩
  | 28 => ⟨S8192x512, .f32⟩
  | 29 => ⟨S_, .f32⟩
  | 30 => ⟨S8192x512, .f32⟩
  | 31 => ⟨S8192x512, .f32⟩
  | 32 => ⟨S_, .f32⟩
  | 33 => ⟨S8192x512, .f32⟩
  | 34 => ⟨S8192x512, .f32⟩
  | 35 => ⟨S8192x512, .f32⟩
  | 36 => ⟨S1x8192x512, .f32⟩
  | 37 => ⟨S8192x512, .f32⟩
  | 38 => ⟨S8192x512, .f32⟩
  | 39 => ⟨S8192x512, .f32⟩
  | 40 => ⟨S_, .f32⟩
  | 41 => ⟨S8192x512, .f32⟩
  | 42 => ⟨S8192x512, .f32⟩
  | 43 => ⟨S_, .f32⟩
  | 44 => ⟨S8192x512, .f32⟩
  | 45 => ⟨S8192x512, .f32⟩
  | 46 => ⟨S8192x512, .f32⟩
  | 47 => ⟨S_, .f32⟩
  | 48 => ⟨S8192x512, .f32⟩
  | 49 => ⟨S8192x512, .f32⟩
  | 50 => ⟨S8192x512, .f32⟩
  | 51 => ⟨S_, .f32⟩
  | 52 => ⟨S8192x512, .f32⟩
  | 53 => ⟨S8192x512, .f32⟩
  | 54 => ⟨S_, .f32⟩
  | 55 => ⟨S8192x512, .f32⟩
  | 56 => ⟨S8192x512, .f32⟩
  | 57 => ⟨S8192x512, .f32⟩
  | 58 => ⟨S_, .f32⟩
  | 59 => ⟨S8192x512, .f32⟩
  | 60 => ⟨S8192x512, .f32⟩
  | 61 => ⟨S_, .f32⟩
  | 62 => ⟨S8192x512, .f32⟩
  | 63 => ⟨S8192x512, .f32⟩
  | 64 => ⟨S8192x512, .f32⟩
  | 65 => ⟨S1x8192x512, .f32⟩
  | 66 => ⟨S_, .f32⟩
  | 67 => ⟨S1x8192, .f32⟩
  | 68 => ⟨S1x8192x1, .f32⟩
  | 69 => ⟨S_, .f32⟩
  | 70 => ⟨S1x8192x1, .f32⟩
  | 71 => ⟨S1x8192x1, .f32⟩
  | 72 => ⟨S1x8192x512, .f32⟩
  | 73 => ⟨S1x8192x512, .f32⟩
  | 74 => ⟨S1x8192x512, .f32⟩
  | 75 => ⟨S_, .f32⟩
  | 76 => ⟨S1x8192x512, .f32⟩
  | 77 => ⟨S1x8192x512, .f32⟩
  | 78 => ⟨S_, .f32⟩
  | 79 => ⟨S1x8192, .f32⟩
  | 80 => ⟨S1x8192x1, .f32⟩
  | 81 => ⟨S_, .f32⟩
  | 82 => ⟨S1x8192x1, .f32⟩
  | 83 => ⟨S1x8192x1, .f32⟩
  | 84 => ⟨S1x8192x512, .f32⟩
  | 85 => ⟨S1x8192x512, .f32⟩
  | 86 => ⟨S_, .f32⟩
  | 87 => ⟨S1x8192x1, .f32⟩
  | 88 => ⟨S1x8192x1, .f32⟩
  | 89 => ⟨S1x8192x1, .f32⟩
  | 90 => ⟨S1x8192x1, .f32⟩
  | 91 => ⟨S_, .f32⟩
  | 92 => ⟨S1x8192x1, .f32⟩
  | 93 => ⟨S1x8192x1, .f32⟩
  | 94 => ⟨S1x8192x512, .f32⟩
  | 95 => ⟨S1x8192x512, .f32⟩
  | 96 => ⟨S1x1x512, .f32⟩
  | 97 => ⟨S1x8192x512, .f32⟩
  | 98 => ⟨S1x8192x512, .f32⟩
  | 99 => ⟨S1x1x512, .f32⟩
  | 100 => ⟨S1x8192x512, .f32⟩
  | 101 => ⟨S1x8192x512, .f32⟩
  | 102 => ⟨S1x64x128x8x64, .f32⟩
  | 103 => ⟨S_, .i1⟩
  | 104 => ⟨S128x128, .i1⟩
  | 105 => ⟨S128x128, .i32⟩
  | 106 => ⟨S_, .i32⟩
  | 107 => ⟨S128x128, .i32⟩
  | 108 => ⟨S128x128, .i32⟩
  | 109 => ⟨S128x128, .i32⟩
  | 110 => ⟨S128x128, .i1⟩
  | 111 => ⟨S_, .i1⟩
  | 112 => ⟨S128x128, .i1⟩
  | 113 => ⟨S128x128, .i1⟩
  | 114 => ⟨S_, .f32⟩
  | 115 => ⟨S_, .f32⟩
  | 116 => ⟨S8x128x128, .i1⟩
  | 117 => ⟨S8x128x128, .f32⟩
  | 118 => ⟨S8x128x128, .f32⟩
  | 119 => ⟨S_, .f32⟩
  | 120 => ⟨S8x128x128, .f32⟩
  | 121 => ⟨S8x1x64x64x128, .f32⟩
  | 122 => ⟨S1x64x128x8x64, .f32⟩
  | 123 => ⟨S128x8, .f32⟩
  | 124 => ⟨S1x1x128x8x1, .f32⟩
  | 125 => ⟨S1x64x128x8x64, .f32⟩
  | 126 => ⟨S1x64x128x8x64, .f32⟩
  | 127 => ⟨S1x8192x512, .f32⟩
  | _ => ⟨S8192x512, .f32⟩

abbrev hbmTy0_1 (i : Nat) : BufTy := match i % 128 with
  | 0 => ⟨S1x8192x512, .f32⟩
  | 1 => ⟨S8192x512, .f32⟩
  | 2 => ⟨S1x8192x512, .f32⟩
  | 3 => ⟨S1x8192x512, .f32⟩
  | 4 => ⟨S1x8192x512, .f32⟩
  | 5 => ⟨S1x64x128x8x64, .f32⟩
  | 6 => ⟨S_, .f32⟩
  | 7 => ⟨S1x128x8, .f32⟩
  | 8 => ⟨S1x1x128x8x1, .f32⟩
  | 9 => ⟨S_, .f32⟩
  | 10 => ⟨S128x8, .f32⟩
  | 11 => ⟨S8x128, .f32⟩
  | 12 => ⟨S8x1x64x64x128, .f32⟩
  | 13 => ⟨S8x128x128, .f32⟩
  | 14 => ⟨S8x1x64x64x128, .f32⟩
  | 15 => ⟨S1x64x128x8x64, .f32⟩
  | 16 => ⟨S_, .f32⟩
  | 17 => ⟨S8x128x128, .f32⟩
  | 18 => ⟨S8x128x128, .f32⟩
  | 19 => ⟨S1x8192x512, .f32⟩
  | 20 => ⟨S_, .f32⟩
  | 21 => ⟨S1x512, .f32⟩
  | 22 => ⟨S1x1x512, .f32⟩
  | 23 => ⟨S_, .f32⟩
  | 24 => ⟨S512, .f32⟩
  | 25 => ⟨S1x8192x512, .f32⟩
  | 26 => ⟨S_, .f32⟩
  | 27 => ⟨S1x512, .f32⟩
  | 28 => ⟨S1x1x512, .f32⟩
  | 29 => ⟨S1x8192x512, .f32⟩
  | 30 => ⟨S1x8192x512, .f32⟩
  | 31 => ⟨S_, .f32⟩
  | 32 => ⟨S512, .f32⟩
  | 33 => ⟨S1x8192x512, .f32⟩
  | 34 => ⟨S_, .f32⟩
  | 35 => ⟨S1x8192, .f32⟩
  | 36 => ⟨S1x8192x1, .f32⟩
  | 37 => ⟨S1x8192x512, .f32⟩
  | 38 => ⟨S1x8192x512, .f32⟩
  | 39 => ⟨S1x8192x1, .f32⟩
  | 40 => ⟨S1x8192x512, .f32⟩
  | 41 => ⟨S_, .f32⟩
  | 42 => ⟨S1x8192, .f32⟩
  | 43 => ⟨S1x8192x1, .f32⟩
  | 44 => ⟨S_, .f32⟩
  | 45 => ⟨S1x8192x1, .f32⟩
  | 46 => ⟨S1x8192x1, .f32⟩
  | 47 => ⟨S_, .f32⟩
  | 48 => ⟨S8192, .f32⟩
  | 49 => ⟨S1x8192, .f32⟩
  | 50 => ⟨S1x8192x512, .f32⟩
  | 51 => ⟨S1x8192x512, .f32⟩
  | 52 => ⟨S1x8192x512, .f32⟩
  | 53 => ⟨S_, .f32⟩
  | 54 => ⟨S1x8192, .f32⟩
  | 55 => ⟨S1x8192x1, .f32⟩
  | 56 => ⟨S1x8192x512, .f32⟩
  | 57 => ⟨S1x8192x1, .f32⟩
  | 58 => ⟨S_, .f32⟩
  | 59 => ⟨S1x8192x1, .f32⟩
  | 60 => ⟨S1x8192x1, .f32⟩
  | 61 => ⟨S_, .f32⟩
  | 62 => ⟨S8192, .f32⟩
  | 63 => ⟨S1x8192, .f32⟩
  | 64 => ⟨S1x8192x512, .f32⟩
  | 65 => ⟨S1x8192x512, .f32⟩
  | 66 => ⟨S_, .f32⟩
  | 67 => ⟨S8192x512, .f32⟩
  | 68 => ⟨S8192x512, .f32⟩
  | 69 => ⟨S8192x512, .f32⟩
  | 70 => ⟨S_, .f32⟩
  | 71 => ⟨S8192x512, .f32⟩
  | 72 => ⟨S8192x512, .f32⟩
  | 73 => ⟨S8192x512, .f32⟩
  | 74 => ⟨S_, .f32⟩
  | 75 => ⟨S8192x512, .f32⟩
  | 76 => ⟨S8192x512, .f32⟩
  | 77 => ⟨S8192x512, .f32⟩
  | 78 => ⟨S_, .f32⟩
  | 79 => ⟨S8192x512, .f32⟩
  | 80 => ⟨S8192x512, .f32⟩
  | 81 => ⟨S8192x512, .f32⟩
  | 82 => ⟨S8192x512, .f32⟩
  | 83 => ⟨S_, .f32⟩
  | 84 => ⟨S8192x512, .f32⟩
  | 85 => ⟨S8192x512, .f32⟩
  | 86 => ⟨S8192x512, .f32⟩
  | 87 => ⟨S_, .f32⟩
  | 88 => ⟨S8192x512, .f32⟩
  | 89 => ⟨S8192x512, .f32⟩
  | 90 => ⟨S8192x512, .f32⟩
  | 91 => ⟨S_, .f32⟩
  | 92 => ⟨S8192x512, .f32⟩
  | 93 => ⟨S8192x512, .f32⟩
  | 94 => ⟨S8192x512, .f32⟩
  | 95 => ⟨S_, .f32⟩
  | 96 => ⟨S8192x512, .f32⟩
  | 97 => ⟨S8192x512, .f32⟩
  | 98 => ⟨S8192x512, .f32⟩
  | 99 => ⟨S8192x512, .f32⟩
  | 100 => ⟨S8192x1024, .f32⟩
  | 101 => ⟨S8192x1024, .bf16⟩
  | 102 => ⟨S1x512, .f32⟩
  | 103 => ⟨S1x512, .f32⟩
  | 104 => ⟨S128x8x128, .f32⟩
  | 105 => ⟨S128x1024, .f32⟩
  | 106 => ⟨S128x8, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_v34 : Ref sig .tc := ⟨.hbm, 53, rfl⟩
abbrev main_cst_10 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_11 : Ref sig .tc := ⟨.hbm, 58, rfl⟩
abbrev main_v38 : Ref sig .tc := ⟨.hbm, 59, rfl⟩
abbrev main_v39 : Ref sig .tc := ⟨.hbm, 60, rfl⟩
abbrev main_cst_12 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_13 : Ref sig .tc := ⟨.hbm, 66, rfl⟩
abbrev main_v44 : Ref sig .tc := ⟨.hbm, 67, rfl⟩
abbrev main_v45 : Ref sig .tc := ⟨.hbm, 68, rfl⟩
abbrev main_cst_14 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_15 : Ref sig .tc := ⟨.hbm, 75, rfl⟩
abbrev main_v51 : Ref sig .tc := ⟨.hbm, 76, rfl⟩
abbrev main_v52 : Ref sig .tc := ⟨.hbm, 77, rfl⟩
abbrev main_cst_16 : Ref sig .tc := ⟨.hbm, 78, rfl⟩
abbrev main_v53 : Ref sig .tc := ⟨.hbm, 79, rfl⟩
abbrev main_v54 : Ref sig .tc := ⟨.hbm, 80, rfl⟩
abbrev main_cst_17 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_18 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_19 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c : Ref sig .tc := ⟨.hbm, 103, rfl⟩
abbrev main_v74 : Ref sig .tc := ⟨.hbm, 104, rfl⟩
abbrev main_call0_v0 : Ref sig .tc := ⟨.hbm, 105, rfl⟩
abbrev main_call0_c : Ref sig .tc := ⟨.hbm, 106, rfl⟩
abbrev main_call0_v1 : Ref sig .tc := ⟨.hbm, 107, rfl⟩
abbrev main_call0_v2 : Ref sig .tc := ⟨.hbm, 108, rfl⟩
abbrev main_call0_v3 : Ref sig .tc := ⟨.hbm, 109, rfl⟩
abbrev main_call0_v4 : Ref sig .tc := ⟨.hbm, 110, rfl⟩
abbrev main_call0_c_0 : Ref sig .tc := ⟨.hbm, 111, rfl⟩
abbrev main_call0_v5 : Ref sig .tc := ⟨.hbm, 112, rfl⟩
abbrev main_v75 : Ref sig .tc := ⟨.hbm, 113, rfl⟩
abbrev main_cst_20 : Ref sig .tc := ⟨.hbm, 114, rfl⟩
abbrev main_call1_v0 : Ref sig .tc := ⟨.hbm, 115, rfl⟩
abbrev main_v76_1 : Ref sig .tc := ⟨.hbm, 116, rfl⟩
abbrev main_call1_v2 : Ref sig .tc := ⟨.hbm, 117, rfl⟩
abbrev main_v76_0 : Ref sig .tc := ⟨.hbm, 118, rfl⟩
abbrev main_call1_cst : Ref sig .tc := ⟨.hbm, 119, rfl⟩
abbrev main_v76_2 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_cst_21 : Ref sig .tc := ⟨.hbm, 134, rfl⟩
abbrev main_v90 : Ref sig .tc := ⟨.hbm, 135, rfl⟩
abbrev main_v91 : Ref sig .tc := ⟨.hbm, 136, rfl⟩
abbrev main_cst_22 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_call2_cst : Ref sig .tc := ⟨.hbm, 144, rfl⟩
abbrev main_call2_v0 : Ref sig .tc := ⟨.hbm, 145, rfl⟩
abbrev main_v98 : Ref sig .tc := ⟨.hbm, 146, rfl⟩
abbrev main_v99 : Ref sig .tc := ⟨.hbm, 147, rfl⟩
abbrev main_cst_23 : Ref sig .tc := ⟨.hbm, 148, rfl⟩
abbrev main_v100 : Ref sig .tc := ⟨.hbm, 149, rfl⟩
abbrev main_v101 : Ref sig .tc := ⟨.hbm, 150, rfl⟩
abbrev main_cst_24 : Ref sig .tc := ⟨.hbm, 151, rfl⟩
abbrev main_v102 : Ref sig .tc := ⟨.hbm, 152, rfl⟩
abbrev main_v103 : Ref sig .tc := ⟨.hbm, 153, rfl⟩
abbrev main_cst_25 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_cst_26 : Ref sig .tc := ⟨.hbm, 159, rfl⟩
abbrev main_v108 : Ref sig .tc := ⟨.hbm, 160, rfl⟩
abbrev main_v109 : Ref sig .tc := ⟨.hbm, 161, rfl⟩
abbrev main_cst_27 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_cst_28 : Ref sig .tc := ⟨.hbm, 169, rfl⟩
abbrev main_v116 : Ref sig .tc := ⟨.hbm, 170, rfl⟩
abbrev main_v117 : Ref sig .tc := ⟨.hbm, 171, rfl⟩
abbrev main_cst_29 : Ref sig .tc := ⟨.hbm, 172, rfl⟩
abbrev main_v118 : Ref sig .tc := ⟨.hbm, 173, rfl⟩
abbrev main_v119 : Ref sig .tc := ⟨.hbm, 174, rfl⟩
abbrev main_cst_30 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_cst_31 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_cst_32 : Ref sig .tc := ⟨.hbm, 186, rfl⟩
abbrev main_v129 : Ref sig .tc := ⟨.hbm, 187, rfl⟩
abbrev main_v130 : Ref sig .tc := ⟨.hbm, 188, rfl⟩
abbrev main_cst_33 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_cst_34 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_cst_35 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_cst_36 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_cst_37 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_cst_38 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_cst_39 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_cst_40 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_cst_41 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩

abbrev nD : Nat := 1
abbrev τ : Topo := Topo.v7x

variable {F : FTy → Type} [FloatOps F]
-- ==== Kernel5.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S1x8192x5632 : Shape := ⟨3, ![1, 8192, 5632]⟩
abbrev S1x2x5632 : Shape := ⟨3, ![1, 2, 5632]⟩
abbrev S1x8194x5632 : Shape := ⟨3, ![1, 8194, 5632]⟩
abbrev S1x5632 : Shape := ⟨2, ![1, 5632]⟩
abbrev S1x1x5632 : Shape := ⟨3, ![1, 1, 5632]⟩
abbrev S256x2816 : Shape := ⟨2, ![256, 2816]⟩
abbrev S8x2816 : Shape := ⟨2, ![8, 2816]⟩
abbrev S256x1024 : Shape := ⟨2, ![256, 1024]⟩
abbrev S256x5632 : Shape := ⟨2, ![256, 5632]⟩
abbrev S256x1408 : Shape := ⟨2, ![256, 1408]⟩
abbrev S8x1408 : Shape := ⟨2, ![8, 1408]⟩
abbrev S3x1408 : Shape := ⟨2, ![3, 1408]⟩
abbrev S264x1408 : Shape := ⟨2, ![264, 1408]⟩
abbrev S1x1408 : Shape := ⟨2, ![1, 1408]⟩
abbrev S1408 : Shape := ⟨1, ![1408]⟩
abbrev S256 : Shape := ⟨1, ![256]⟩
abbrev S256x1 : Shape := ⟨2, ![256, 1]⟩

abbrev nBuf : Space → Nat
  | .hbm => 68
  | .vmem => 30
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S8192x2816, .f32⟩
  | .hbm, ⟨6, _⟩ => ⟨S8192x1024, .f32⟩
  | .hbm, ⟨7, _⟩ => ⟨S1024x5632, .bf16⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | .hbm, ⟨25, _⟩ => ⟨S8192x5632, .f32⟩
  | .hbm, ⟨26, _⟩ => ⟨S8192x5632, .bf16⟩
  | .hbm, ⟨27, _⟩ => ⟨S8192x5632, .f32⟩
  | .hbm, ⟨28, _⟩ => ⟨S1x8192x5632, .f32⟩
  | .hbm, ⟨29, _⟩ => ⟨S_, .f32⟩
  | .hbm, ⟨30, _⟩ => ⟨S1x2x5632, .f32⟩
  | .hbm, ⟨31, _⟩ => ⟨S1x8194x5632, .f32⟩
  | .hbm, ⟨32, _⟩ => ⟨S1x8192x5632, .f32⟩
  | .hbm, ⟨33, _⟩ => ⟨S1x5632, .f32⟩
  | .hbm, ⟨34, _⟩ => ⟨S5632, .f32⟩
  | .hbm, ⟨35, _⟩ => ⟨S1x1x5632, .f32⟩
  | .hbm, ⟨36, _⟩ => ⟨S1x8192x5632, .f32⟩
  | .hbm, ⟨37, _⟩ => ⟨S1x8192x5632, .f32⟩
  | .hbm, ⟨38, _⟩ => ⟨S1x1x5632, .f32⟩
  | .hbm, ⟨39, _⟩ => ⟨S1x8192x5632, .f32⟩
  | .hbm, ⟨40, _⟩ => ⟨S1x8192x5632, .f32⟩
  | .hbm, ⟨41, _⟩ => ⟨S1x8192x5632, .f32⟩
  | .hbm, ⟨42, _⟩ => ⟨S1x5632, .f32⟩
  | .hbm, ⟨43, _⟩ => ⟨S5632, .f32⟩
  | .hbm, ⟨44, _⟩ => ⟨S1x1x5632, .f32⟩
  | .hbm, ⟨45, _⟩ => ⟨S1x8192x5632, .f32⟩
  | .hbm, ⟨46, _⟩ => ⟨S1x8192x5632, .f32⟩
  | .hbm, ⟨47, _⟩ => ⟨S1x8192x5632, .f32⟩
  | .hbm, ⟨48, _⟩ => ⟨S1x8192x5632, .f32⟩
  | .hbm, ⟨49, _⟩ => ⟨S1x5632, .f32⟩
  | .hbm, ⟨50, _⟩ => ⟨S5632, .f32⟩
  | .hbm, ⟨51, _⟩ => ⟨S1x1x5632, .f32⟩
  | .hbm, ⟨52, _⟩ => ⟨S1x8192x5632, .f32⟩
  | .hbm, ⟨53, _⟩ => ⟨S1x8192x5632, .f32⟩
  | .hbm, ⟨54, _⟩ => ⟨S1x8192x5632, .f32⟩
  | .hbm, ⟨55, _⟩ => ⟨S8192x5632, .f32⟩
  | .hbm, ⟨56, _⟩ => ⟨S8192x5632, .bf16⟩
  | .hbm, ⟨57, _⟩ => ⟨S8192x2816, .bf16⟩
  | .hbm, ⟨58, _⟩ => ⟨S8192x2816, .bf16⟩
  | .hbm, ⟨59, _⟩ => ⟨S8192x2816, .bf16⟩
  | .hbm, ⟨60, _⟩ => ⟨S8192x2816, .bf16⟩
  | .hbm, ⟨61, _⟩ => ⟨S8192x2816, .bf16⟩
  | .hbm, ⟨62, _⟩ => ⟨S1x1024, .f32⟩
  | .hbm, ⟨63, _⟩ => ⟨S8192x5632, .bf16⟩
  | .hbm, ⟨64, _⟩ => ⟨S3x5632, .f32⟩
  | .hbm, ⟨65, _⟩ => ⟨S1x5632, .f32⟩
  | .hbm, ⟨66, _⟩ => ⟨S8192x1024, .f32⟩
  | .hbm, ⟨67, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S8x2816, .bf16⟩
  | .local _ .vmem, ⟨9, _⟩ => ⟨S8x2816, .bf16⟩
  | .local _ .vmem, ⟨10, _⟩ => ⟨S8x2816, .bf16⟩
  | .local _ .vmem, ⟨11, _⟩ => ⟨S8x2816, .bf16⟩
  | .local _ .vmem, ⟨12, _⟩ => ⟨S256x2816, .bf16⟩
  | .local _ .vmem, ⟨13, _⟩ => ⟨S256x2816, .bf16⟩
  | .local _ .vmem, ⟨14, _⟩ => ⟨S8x2816, .bf16⟩
  | .local _ .vmem, ⟨15, _⟩ => ⟨S8x2816, .bf16⟩
  | .local _ .vmem, ⟨16, _⟩ => ⟨S3x5632, .f32⟩
  | .local _ .vmem, ⟨17, _⟩ => ⟨S1024x5632, .bf16⟩
  | .local _ .vmem, ⟨18, _⟩ => ⟨S256x1024, .f32⟩
  | .local _ .vmem, ⟨19, _⟩ => ⟨S256x1024, .f32⟩
  | .local _ .vmem, ⟨20, _⟩ => ⟨S1x1024, .f32⟩
  | .local _ .vmem, ⟨21, _⟩ => ⟨S256x1024, .f32⟩
  | .local _ .vmem, ⟨22, _⟩ => ⟨S256x1024, .f32⟩
  | .local _ .vmem, ⟨23, _⟩ => ⟨S256x5632, .bf16⟩
  | .local _ .vmem, ⟨24, _⟩ => ⟨S256x5632, .bf16⟩
  | .local _ .vmem, ⟨25, _⟩ => ⟨S3x5632, .f32⟩
  | .local _ .vmem, ⟨26, _⟩ => ⟨S1x5632, .f32⟩
  | .local _ .vmem, ⟨27, _⟩ => ⟨S256x1024, .f32⟩
  | .local _ .vmem, ⟨28, _⟩ => ⟨S256x1024, .f32⟩
  | .local _ .vmem, ⟨29, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52_0 : Ref sig .tc := ⟨.hbm, 63, rfl⟩
abbrev main_v52_1 : Ref sig .tc := ⟨.hbm, 64, rfl⟩
abbrev main_v52_2 : Ref sig .tc := ⟨.hbm, 65, rfl⟩
abbrev main_v52_3 : Ref sig .tc := ⟨.hbm, 66, rfl⟩
abbrev main_v52_4 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem15_0 : DmaSem sig := 26
abbrev cc0_sem16_0 : DmaSem sig := 27
abbrev cc0_sem16_1 : DmaSem sig := 28
abbrev cc0_sem17_0 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x5632 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S3x5632 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x5632 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Kernel5Ideal.lean ====
variable {F : FTy → Type} [FloatOps F] [Named F]
def κ : String → Option EReal := fun
  | "gelu_2c" => some ((6693141 / 4194304 : ℝ) : EReal)
  | "gelu_6ca" => some ((241015141496493 / 1125899906842624 : ℝ) : EReal)
  | "gelu_a" => some ((12003091 / 268435456 : ℝ) : EReal)
  | "gelu_c" => some ((6693141 / 8388608 : ℝ) : EReal)
  | _ => none
-- ==== Reference5Ideal.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S8192x2816 : Shape := ⟨2, ![8192, 2816]⟩
abbrev S_ : Shape := ⟨0, ![]⟩
abbrev S8192x5632 : Shape := ⟨2, ![8192, 5632]⟩
abbrev S8192 : Shape := ⟨1, ![8192]⟩
abbrev S8192x1 : Shape := ⟨2, ![8192, 1]⟩
abbrev S1x1024 : Shape := ⟨2, ![1, 1024]⟩
abbrev S1x8192x5632 : Shape := ⟨3, ![1, 8192, 5632]⟩
abbrev S1x2x5632 : Shape := ⟨3, ![1, 2, 5632]⟩
abbrev S1x8194x5632 : Shape := ⟨3, ![1, 8194, 5632]⟩
abbrev S1x5632 : Shape := ⟨2, ![1, 5632]⟩
abbrev S1x1x5632 : Shape := ⟨3, ![1, 1, 5632]⟩
abbrev S1x8192x2816 : Shape := ⟨3, ![1, 8192, 2816]⟩

abbrev nBuf : Space → Nat
  | .hbm => 197
  | .vmem => 0
  | .smem => 0
  | _ => 0

abbrev hbmTy0_0 (i : Nat) : BufTy := match i % 128 with
  | 0 => ⟨S8192x1024, .f32⟩
  | 1 => ⟨S1024, .f32⟩
  | 2 => ⟨S1024x5632, .f32⟩
  | 3 => ⟨S3x5632, .f32⟩
  | 4 => ⟨S5632, .f32⟩
  | 5 => ⟨S8192x2816, .f32⟩
  | 6 => ⟨S8192x1024, .f32⟩
  | 7 => ⟨S_, .f32⟩
  | 8 => ⟨S8192x5632, .f32⟩
  | 9 => ⟨S8192x1024, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S_, .f32⟩
  | 17 => ⟨S8192x1, .f32⟩
  | 18 => ⟨S8192x1, .f32⟩
  | 19 => ⟨S8192x1, .f32⟩
  | 20 => ⟨S8192x1, .f32⟩
  | 21 => ⟨S_, .f32⟩
  | 22 => ⟨S8192x1, .f32⟩
  | 23 => ⟨S8192x1, .f32⟩
  | 24 => ⟨S8192x1024, .f32⟩
  | 25 => ⟨S8192x1024, .f32⟩
  | 26 => ⟨S1x1024, .f32⟩
  | 27 => ⟨S8192x1024, .f32⟩
  | 28 => ⟨S8192x1024, .f32⟩
  | 29 => ⟨S8192x5632, .f32⟩
  | 30 => ⟨S8192x5632, .f32⟩
  | 31 => ⟨S1x8192x5632, .f32⟩
  | 32 => ⟨S_, .f32⟩
  | 33 => ⟨S1x2x5632, .f32⟩
  | 34 => ⟨S1x8194x5632, .f32⟩
  | 35 => ⟨S_, .f32⟩
  | 36 => ⟨S1x2x5632, .f32⟩
  | 37 => ⟨S1x8192x5632, .f32⟩
  | 38 => ⟨S1x5632, .f32⟩
  | 39 => ⟨S5632, .f32⟩
  | 40 => ⟨S1x1x5632, .f32⟩
  | 41 => ⟨S1x8192x5632, .f32⟩
  | 42 => ⟨S1x8192x5632, .f32⟩
  | 43 => ⟨S1x1x5632, .f32⟩
  | 44 => ⟨S1x8192x5632, .f32⟩
  | 45 => ⟨S1x8192x5632, .f32⟩
  | 46 => ⟨S1x8192x5632, .f32⟩
  | 47 => ⟨S1x5632, .f32⟩
  | 48 => ⟨S5632, .f32⟩
  | 49 => ⟨S1x1x5632, .f32⟩
  | 50 => ⟨S1x8192x5632, .f32⟩
  | 51 => ⟨S1x8192x5632, .f32⟩
  | 52 => ⟨S1x8192x5632, .f32⟩
  | 53 => ⟨S1x8192x5632, .f32⟩
  | 54 => ⟨S1x5632, .f32⟩
  | 55 => ⟨S5632, .f32⟩
  | 56 => ⟨S1x1x5632, .f32⟩
  | 57 => ⟨S1x8192x5632, .f32⟩
  | 58 => ⟨S1x8192x5632, .f32⟩
  | 59 => ⟨S1x8192x5632, .f32⟩
  | 60 => ⟨S1x8192x2816, .f32⟩
  | 61 => ⟨S1x8192x2816, .f32⟩
  | 62 => ⟨S1x8192x2816, .f32⟩
  | 63 => ⟨S1x8192x2816, .f32⟩
  | 64 => ⟨S1x8192x2816, .f32⟩
  | 65 => ⟨S_, .f32⟩
  | 66 => ⟨S1x8192x2816, .f32⟩
  | 67 => ⟨S1x8192x2816, .f32⟩
  | 68 => ⟨S_, .f32⟩
  | 69 => ⟨S1x8192x2816, .f32⟩
  | 70 => ⟨S1x8192x2816, .f32⟩
  | 71 => ⟨S1x8192x2816, .f32⟩
  | 72 => ⟨S_, .f32⟩
  | 73 => ⟨S1x8192x2816, .f32⟩
  | 74 => ⟨S1x8192x2816, .f32⟩
  | 75 => ⟨S1x8192x2816, .f32⟩
  | 76 => ⟨S_, .f32⟩
  | 77 => ⟨S1x8192x2816, .f32⟩
  | 78 => ⟨S1x8192x2816, .f32⟩
  | 79 => ⟨S_, .f32⟩
  | 80 => ⟨S1x8192x2816, .f32⟩
  | 81 => ⟨S1x8192x2816, .f32⟩
  | 82 => ⟨S1x8192x2816, .f32⟩
  | 83 => ⟨S_, .f32⟩
  | 84 => ⟨S1x8192x2816, .f32⟩
  | 85 => ⟨S1x8192x2816, .f32⟩
  | 86 => ⟨S_, .f32⟩
  | 87 => ⟨S1x8192x2816, .f32⟩
  | 88 => ⟨S1x8192x2816, .f32⟩
  | 89 => ⟨S1x8192x2816, .f32⟩
  | 90 => ⟨S1x8192x2816, .f32⟩
  | 91 => ⟨S8192x2816, .f32⟩
  | 92 => ⟨S1x8192x2816, .f32⟩
  | 93 => ⟨S1x8192x2816, .f32⟩
  | 94 => ⟨S1x8192x2816, .f32⟩
  | 95 => ⟨S1x8192x2816, .f32⟩
  | 96 => ⟨S1x8192x2816, .f32⟩
  | 97 => ⟨S_, .f32⟩
  | 98 => ⟨S1x8192x2816, .f32⟩
  | 99 => ⟨S1x8192x2816, .f32⟩
  | 100 => ⟨S1x8192x2816, .f32⟩
  | 101 => ⟨S_, .f32⟩
  | 102 => ⟨S1x8192x2816, .f32⟩
  | 103 => ⟨S1x8192x2816, .f32⟩
  | 104 => ⟨S1x8192x2816, .f32⟩
  | 105 => ⟨S_, .f32⟩
  | 106 => ⟨S1x8192x2816, .f32⟩
  | 107 => ⟨S1x8192x2816, .f32⟩
  | 108 => ⟨S1x8192x2816, .f32⟩
  | 109 => ⟨S1x8192x2816, .f32⟩
  | 110 => ⟨S_, .f32⟩
  | 111 => ⟨S1x8192x5632, .f32⟩
  | 112 => ⟨S_, .f32⟩
  | 113 => ⟨S1x8192x5632, .f32⟩
  | 114 => ⟨S1x8192x5632, .f32⟩
  | 115 => ⟨S1x8192x5632, .f32⟩
  | 116 => ⟨S_, .f32⟩
  | 117 => ⟨S1x5632, .f32⟩
  | 118 => ⟨S1x1x5632, .f32⟩
  | 119 => ⟨S1x8192x5632, .f32⟩
  | 120 => ⟨S1x8192x5632, .f32⟩
  | 121 => ⟨S_, .f32⟩
  | 122 => ⟨S5632, .f32⟩
  | 123 => ⟨S1x5632, .f32⟩
  | 124 => ⟨S_, .f32⟩
  | 125 => ⟨S3x5632, .f32⟩
  | 126 => ⟨S_, .f32⟩
  | 127 => ⟨S1x8194x5632, .f32⟩
  | _ => ⟨S8192x1024, .f32⟩

abbrev hbmTy0_1 (i : Nat) : BufTy := match i % 128 with
  | 0 => ⟨S1x8192x5632, .f32⟩
  | 1 => ⟨S_, .f32⟩
  | 2 => ⟨S1x5632, .f32⟩
  | 3 => ⟨S1x1x5632, .f32⟩
  | 4 => ⟨S1x8192x5632, .f32⟩
  | 5 => ⟨S1x8192x5632, .f32⟩
  | 6 => ⟨S_, .f32⟩
  | 7 => ⟨S5632, .f32⟩
  | 8 => ⟨S1x5632, .f32⟩
  | 9 => ⟨S_, .f32⟩
  | 10 => ⟨S3x5632, .f32⟩
  | 11 => ⟨S3x5632, .f32⟩
  | 12 => ⟨S_, .f32⟩
  | 13 => ⟨S1x8194x5632, .f32⟩
  | 14 => ⟨S1x8194x5632, .f32⟩
  | 15 => ⟨S_, .f32⟩
  | 16 => ⟨S1x5632, .f32⟩
  | 17 => ⟨S1x1x5632, .f32⟩
  | 18 => ⟨S_, .f32⟩
  | 19 => ⟨S5632, .f32⟩
  | 20 => ⟨S1x8192x5632, .f32⟩
  | 21 => ⟨S_, .f32⟩
  | 22 => ⟨S1x5632, .f32⟩
  | 23 => ⟨S1x1x5632, .f32⟩
  | 24 => ⟨S1x8192x5632, .f32⟩
  | 25 => ⟨S1x8192x5632, .f32⟩
  | 26 => ⟨S_, .f32⟩
  | 27 => ⟨S5632, .f32⟩
  | 28 => ⟨S1x5632, .f32⟩
  | 29 => ⟨S_, .f32⟩
  | 30 => ⟨S3x5632, .f32⟩
  | 31 => ⟨S3x5632, .f32⟩
  | 32 => ⟨S_, .f32⟩
  | 33 => ⟨S1x8194x5632, .f32⟩
  | 34 => ⟨S1x8194x5632, .f32⟩
  | 35 => ⟨S1x2x5632, .f32⟩
  | 36 => ⟨S1x8192x5632, .f32⟩
  | 37 => ⟨S_, .f32⟩
  | 38 => ⟨S8192x5632, .f32⟩
  | 39 => ⟨S8192x1024, .f32⟩
  | 40 => ⟨S8192x1024, .f32⟩
  | 41 => ⟨S_, .f32⟩
  | 42 => ⟨S1024, .f32⟩
  | 43 => ⟨S1x1024, .f32⟩
  | 44 => ⟨S8192x1024, .f32⟩
  | 45 => ⟨S8192x1024, .f32⟩
  | 46 => ⟨S_, .f32⟩
  | 47 => ⟨S1024, .f32⟩
  | 48 => ⟨S8192x1024, .f32⟩
  | 49 => ⟨S_, .f32⟩
  | 50 => ⟨S8192, .f32⟩
  | 51 => ⟨S8192x1, .f32⟩
  | 52 => ⟨S8192x1024, .f32⟩
  | 53 => ⟨S8192x1024, .f32⟩
  | 54 => ⟨S8192x1024, .f32⟩
  | 55 => ⟨S8192x1, .f32⟩
  | 56 => ⟨S_, .f32⟩
  | 57 => ⟨S8192x1, .f32⟩
  | 58 => ⟨S8192x1, .f32⟩
  | 59 => ⟨S_, .f32⟩
  | 60 => ⟨S8192, .f32⟩
  | 61 => ⟨S8192x1024, .f32⟩
  | 62 => ⟨S8192x1024, .f32⟩
  | 63 => ⟨S8192x1024, .f32⟩
  | 64 => ⟨S8192x1024, .f32⟩
  | 65 => ⟨S8192x1024, .f32⟩
  | 66 => ⟨S8192x5632, .bf16⟩
  | 67 => ⟨S1x5632, .f32⟩
  | 68 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_6 : Ref sig .tc := ⟨.hbm, 65, rfl⟩
abbrev main_v51 : Ref sig .tc := ⟨.hbm, 66, rfl⟩
abbrev main_v52 : Ref sig .tc := ⟨.hbm, 67, rfl⟩
abbrev main_cst_7 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_8 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_9 : Ref sig .tc := ⟨.hbm, 76, rfl⟩
abbrev main_v59 : Ref sig .tc := ⟨.hbm, 77, rfl⟩
abbrev main_v60 : Ref sig .tc := ⟨.hbm, 78, rfl⟩
abbrev main_cst_10 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_11 : Ref sig .tc := ⟨.hbm, 83, rfl⟩
abbrev main_v64 : Ref sig .tc := ⟨.hbm, 84, rfl⟩
abbrev main_v65 : Ref sig .tc := ⟨.hbm, 85, rfl⟩
abbrev main_cst_12 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_13 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_14 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_15 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_16 : Ref sig .tc := ⟨.hbm, 110, rfl⟩
abbrev main_v86 : Ref sig .tc := ⟨.hbm, 111, rfl⟩
abbrev main_cst_17 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_18 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_cst_19 : Ref sig .tc := ⟨.hbm, 121, rfl⟩
abbrev main_v94 : Ref sig .tc := ⟨.hbm, 122, rfl⟩
abbrev main_v95 : Ref sig .tc := ⟨.hbm, 123, rfl⟩
abbrev main_cst_20 : Ref sig .tc := ⟨.hbm, 124, rfl⟩
abbrev main_v96 : Ref sig .tc := ⟨.hbm, 125, rfl⟩
abbrev main_cst_21 : Ref sig .tc := ⟨.hbm, 126, rfl⟩
abbrev main_v97 : Ref sig .tc := ⟨.hbm, 127, rfl⟩
abbrev main_v98 : Ref sig .tc := ⟨.hbm, 128, rfl⟩
abbrev main_cst_22 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_23 : Ref sig .tc := ⟨.hbm, 134, rfl⟩
abbrev main_v103 : Ref sig .tc := ⟨.hbm, 135, rfl⟩
abbrev main_v104 : Ref sig .tc := ⟨.hbm, 136, rfl⟩
abbrev main_cst_24 : Ref sig .tc := ⟨.hbm, 137, rfl⟩
abbrev main_v105 : Ref sig .tc := ⟨.hbm, 138, rfl⟩
abbrev main_v106 : Ref sig .tc := ⟨.hbm, 139, rfl⟩
abbrev main_cst_25 : Ref sig .tc := ⟨.hbm, 140, rfl⟩
abbrev main_v107 : Ref sig .tc := ⟨.hbm, 141, rfl⟩
abbrev main_v108 : Ref sig .tc := ⟨.hbm, 142, rfl⟩
abbrev main_cst_26 : Ref sig .tc := ⟨.hbm, 143, rfl⟩
abbrev main_v109 : Ref sig .tc := ⟨.hbm, 144, rfl⟩
abbrev main_v110 : Ref sig .tc := ⟨.hbm, 145, rfl⟩
abbrev main_cst_27 : Ref sig .tc := ⟨.hbm, 146, rfl⟩
abbrev main_v111 : Ref sig .tc := ⟨.hbm, 147, rfl⟩
abbrev main_v112 : Ref sig .tc := ⟨.hbm, 148, rfl⟩
abbrev main_cst_28 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_cst_29 : Ref sig .tc := ⟨.hbm, 154, rfl⟩
abbrev main_v117 : Ref sig .tc := ⟨.hbm, 155, rfl⟩
abbrev main_v118 : Ref sig .tc := ⟨.hbm, 156, rfl⟩
abbrev main_cst_30 : Ref sig .tc := ⟨.hbm, 157, rfl⟩
abbrev main_v119 : Ref sig .tc := ⟨.hbm, 158, rfl⟩
abbrev main_v120 : Ref sig .tc := ⟨.hbm, 159, rfl⟩
abbrev main_cst_31 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_cst_32 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_cst_33 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_cst_34 : Ref sig .tc := ⟨.hbm, 174, rfl⟩
abbrev main_v132 : Ref sig .tc := ⟨.hbm, 175, rfl⟩
abbrev main_v133 : Ref sig .tc := ⟨.hbm, 176, rfl⟩
abbrev main_cst_35 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_cst_36 : Ref sig .tc := ⟨.hbm, 184, rfl⟩
abbrev main_v140 : Ref sig .tc := ⟨.hbm, 185, rfl⟩
abbrev main_v141 : Ref sig .tc := ⟨.hbm, 186, rfl⟩
abbrev main_cst_37 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩

abbrev nD : Nat := 1
abbrev τ : Topo := Topo.v7x

variable {F : FTy → Type} [FloatOps F]
-- ==== Kernel6.lean ====
abbrev S8192x512 : Shape := ⟨2, ![8192, 512]⟩
abbrev S8192x5120 : Shape := ⟨2, ![8192, 5120]⟩
abbrev S512 : Shape := ⟨1, ![512]⟩
abbrev S8x128x128 : Shape := ⟨3, ![8, 128, 128]⟩
abbrev S8x128 : Shape := ⟨2, ![8, 128]⟩
abbrev S8192x6144 : Shape := ⟨2, ![8192, 6144]⟩
abbrev S1x512 : Shape := ⟨2, ![1, 512]⟩
abbrev S128x8x128 : Shape := ⟨3, ![128, 8, 128]⟩
abbrev S128x1024 : Shape := ⟨2, ![128, 1024]⟩
abbrev S128x8 : Shape := ⟨2, ![128, 8]⟩
abbrev S128x8x64 : Shape := ⟨3, ![128, 8, 64]⟩
abbrev S128x512 : Shape := ⟨2, ![128, 512]⟩
abbrev S1024 : Shape := ⟨1, ![1024]⟩
abbrev S1024x1 : Shape := ⟨2, ![1024, 1]⟩
abbrev S_ : Shape := ⟨0, ![]⟩
abbrev S1024x512 : Shape := ⟨2, ![1024, 512]⟩
abbrev S512x512 : Shape := ⟨2, ![512, 512]⟩
abbrev S128 : Shape := ⟨1, ![128]⟩
abbrev S128x1 : Shape := ⟨2, ![128, 1]⟩
abbrev S1024x2048 : Shape := ⟨2, ![1024, 2048]⟩
abbrev S128x2048 : Shape := ⟨2, ![128, 2048]⟩

abbrev nBuf : Space → Nat
  | .hbm => 62
  | .vmem => 11
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x5120, .bf16⟩
  | .hbm, ⟨3, _⟩ => ⟨S512, .f32⟩
  | .hbm, ⟨4, _⟩ => ⟨S512, .f32⟩
  | .hbm, ⟨5, _⟩ => ⟨S8x128x128, .f32⟩
  | .hbm, ⟨6, _⟩ => ⟨S8x128, .f32⟩
  | .hbm, ⟨7, _⟩ => ⟨S8192x512, .bf16⟩
  | .hbm, ⟨8, _⟩ => ⟨S8192x512, .bf16⟩
  | .hbm, ⟨9, _⟩ => ⟨S8192x6144, .bf16⟩
  | .hbm, ⟨10, _⟩ => ⟨S1x512, .f32⟩
  | .hbm, ⟨11, _⟩ => ⟨S1x512, .f32⟩
  | .hbm, ⟨12, _⟩ => ⟨S128x8x128, .f32⟩
  | .hbm, ⟨13, _⟩ => ⟨S128x1024, .f32⟩
  | .hbm, ⟨14, _⟩ => ⟨S128x8, .f32⟩
  | .hbm, ⟨15, _⟩ => ⟨S128x8x64, .f32⟩
  | .hbm, ⟨16, _⟩ => ⟨S128x512, .f32⟩
  | .hbm, ⟨17, _⟩ => ⟨S1024, .i32⟩
  | .hbm, ⟨18, _⟩ => ⟨S1024x1, .i32⟩
  | .hbm, ⟨19, _⟩ => ⟨S_, .i32⟩
  | .hbm, ⟨20, _⟩ => ⟨S_, .i32⟩
  | .hbm, ⟨21, _⟩ => ⟨S1024x1, .i32⟩
  | .hbm, ⟨22, _⟩ => ⟨S1024x1, .i32⟩
  | .hbm, ⟨23, _⟩ => ⟨S1024x1, .i32⟩
  | .hbm, ⟨24, _⟩ => ⟨S_, .i32⟩
  | .hbm, ⟨25, _⟩ => ⟨S1024x1, .i32⟩
  | .hbm, ⟨26, _⟩ => ⟨S1024x1, .i1⟩
  | .hbm, ⟨27, _⟩ => ⟨S1024x1, .i32⟩
  | .hbm, ⟨28, _⟩ => ⟨S1024x1, .i32⟩
  | .hbm, ⟨29, _⟩ => ⟨S_, .i32⟩
  | .hbm, ⟨30, _⟩ => ⟨S1024x1, .i32⟩
  | .hbm, ⟨31, _⟩ => ⟨S1024x1, .i1⟩
  | .hbm, ⟨32, _⟩ => ⟨S1024x1, .i1⟩
  | .hbm, ⟨33, _⟩ => ⟨S_, .i32⟩
  | .hbm, ⟨34, _⟩ => ⟨S1024x1, .i32⟩
  | .hbm, ⟨35, _⟩ => ⟨S1024x1, .i32⟩
  | .hbm, ⟨36, _⟩ => ⟨S1024x1, .i32⟩
  | .hbm, ⟨37, _⟩ => ⟨S512, .i32⟩
  | .hbm, ⟨38, _⟩ => ⟨S1x512, .i32⟩
  | .hbm, ⟨39, _⟩ => ⟨S_, .i32⟩
  | .hbm, ⟨40, _⟩ => ⟨S_, .i32⟩
  | .hbm, ⟨41, _⟩ => ⟨S1x512, .i32⟩
  | .hbm, ⟨42, _⟩ => ⟨S1x512, .i32⟩
  | .hbm, ⟨43, _⟩ => ⟨S1x512, .i32⟩
  | .hbm, ⟨44, _⟩ => ⟨S_, .i32⟩
  | .hbm, ⟨45, _⟩ => ⟨S1x512, .i32⟩
  | .hbm, ⟨46, _⟩ => ⟨S1x512, .i1⟩
  | .hbm, ⟨47, _⟩ => ⟨S1x512, .i32⟩
  | .hbm, ⟨48, _⟩ => ⟨S1x512, .i32⟩
  | .hbm, ⟨49, _⟩ => ⟨S_, .i32⟩
  | .hbm, ⟨50, _⟩ => ⟨S1x512, .i32⟩
  | .hbm, ⟨51, _⟩ => ⟨S1x512, .i1⟩
  | .hbm, ⟨52, _⟩ => ⟨S1x512, .i1⟩
  | .hbm, ⟨53, _⟩ => ⟨S_, .i32⟩
  | .hbm, ⟨54, _⟩ => ⟨S1x512, .i32⟩
  | .hbm, ⟨55, _⟩ => ⟨S1x512, .i32⟩
  | .hbm, ⟨56, _⟩ => ⟨S1x512, .i32⟩
  | .hbm, ⟨57, _⟩ => ⟨S1024x512, .i32⟩
  | .hbm, ⟨58, _⟩ => ⟨S1024x512, .i32⟩
  | .hbm, ⟨59, _⟩ => ⟨S1024x512, .i1⟩
  | .hbm, ⟨60, _⟩ => ⟨S1024x512, .bf16⟩
  | .hbm, ⟨61, _⟩ => ⟨S8192x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S1x512, .f32⟩
  | .local _ .vmem, ⟨6, _⟩ => ⟨S128x1024, .f32⟩
  | .local _ .vmem, ⟨7, _⟩ => ⟨S128x512, .f32⟩
  | .local _ .vmem, ⟨8, _⟩ => ⟨S1024x512, .bf16⟩
  | .local _ .vmem, ⟨9, _⟩ => ⟨S512x512, .bf16⟩
  | .local _ .vmem, ⟨10, _⟩ => ⟨S512x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_c_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_c : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_0 : Ref sig .tc := ⟨.hbm, 53, rfl⟩
abbrev main_call1_v12 : Ref sig .tc := ⟨.hbm, 54, rfl⟩
abbrev main_call1_v13 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel6Ideal.lean ====
variable {F : FTy → Type} [FloatOps F] [Named F]
def κ : String → Option EReal := fun
  | "gelu_2c" => some ((6693141 / 4194304 : ℝ) : EReal)
  | "gelu_6ca" => some ((241015141496493 / 1125899906842624 : ℝ) : EReal)
  | "gelu_a" => some ((12003091 / 268435456 : ℝ) : EReal)
  | "gelu_c" => some ((6693141 / 8388608 : ℝ) : EReal)
  | _ => none
-- ==== Reference6Ideal.lean ====
abbrev S8192x512 : Shape := ⟨2, ![8192, 512]⟩
abbrev S8192x5120 : Shape := ⟨2, ![8192, 5120]⟩
abbrev S512 : Shape := ⟨1, ![512]⟩
abbrev S8x128x128 : Shape := ⟨3, ![8, 128, 128]⟩
abbrev S8x128 : Shape := ⟨2, ![8, 128]⟩
abbrev S_ : Shape := ⟨0, ![]⟩
abbrev S1x8192x512 : Shape := ⟨3, ![1, 8192, 512]⟩
abbrev S1x8192 : Shape := ⟨2, ![1, 8192]⟩
abbrev S1x8192x1 : Shape := ⟨3, ![1, 8192, 1]⟩
abbrev S1x1x512 : Shape := ⟨3, ![1, 1, 512]⟩
abbrev S1x64x128x8x64 : Shape := ⟨5, ![1, 64, 128, 8, 64]⟩
abbrev S128x128 : Shape := ⟨2, ![128, 128]⟩
abbrev S8x1x64x64x128 : Shape := ⟨5, ![8, 1, 64, 64, 128]⟩
abbrev S128x8 : Shape := ⟨2, ![128, 8]⟩
abbrev S1x1x128x8x1 : Shape := ⟨5, ![1, 1, 128, 8, 1]⟩

abbrev nBuf : Space → Nat
  | .hbm => 99
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x5120, .bf16⟩
  | .hbm, ⟨3, _⟩ => ⟨S512, .f32⟩
  | .hbm, ⟨4, _⟩ => ⟨S512, .f32⟩
  | .hbm, ⟨5, _⟩ => ⟨S8x128x128, .f32⟩
  | .hbm, ⟨6, _⟩ => ⟨S8x128, .f32⟩
  | .hbm, ⟨7, _⟩ => ⟨S8192x512, .f32⟩
  | .hbm, ⟨8, _⟩ => ⟨S8192x512, .f32⟩
  | .hbm, ⟨9, _⟩ => ⟨S_, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S_, .f32⟩
  | .hbm, ⟨18, _⟩ => ⟨S8192x512, .f32⟩
  | .hbm, ⟨19, _⟩ => ⟨S8192x512, .f32⟩
  | .hbm, ⟨20, _⟩ => ⟨S_, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S1x8192x512, .f32⟩
  | .hbm, ⟨25, _⟩ => ⟨S8192x512, .f32⟩
  | .hbm, ⟨26, _⟩ => ⟨S8192x512, .f32⟩
  | .hbm, ⟨27, _⟩ => ⟨S_, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S_, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S_, .f32⟩
  | .hbm, ⟨36, _⟩ => ⟨S8192x512, .f32⟩
  | .hbm, ⟨37, _⟩ => ⟨S8192x512, .f32⟩
  | .hbm, ⟨38, _⟩ => ⟨S_, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S1x8192x512, .f32⟩
  | .hbm, ⟨43, _⟩ => ⟨S_, .f32⟩
  | .hbm, ⟨44, _⟩ => ⟨S1x8192, .f32⟩
  | .hbm, ⟨45, _⟩ => ⟨S1x8192x1, .f32⟩
  | .hbm, ⟨46, _⟩ => ⟨S_, .f32⟩
  | .hbm, ⟨47, _⟩ => ⟨S1x8192x1, .f32⟩
  | .hbm, ⟨48, _⟩ => ⟨S1x8192x1, .f32⟩
  | .hbm, ⟨49, _⟩ => ⟨S1x8192x512, .f32⟩
  | .hbm, ⟨50, _⟩ => ⟨S1x8192x512, .f32⟩
  | .hbm, ⟨51, _⟩ => ⟨S1x8192x512, .f32⟩
  | .hbm, ⟨52, _⟩ => ⟨S_, .f32⟩
  | .hbm, ⟨53, _⟩ => ⟨S1x8192, .f32⟩
  | .hbm, ⟨54, _⟩ => ⟨S1x8192x1, .f32⟩
  | .hbm, ⟨55, _⟩ => ⟨S_, .f32⟩
  | .hbm, ⟨56, _⟩ => ⟨S1x8192x1, .f32⟩
  | .hbm, ⟨57, _⟩ => ⟨S1x8192x1, .f32⟩
  | .hbm, ⟨58, _⟩ => ⟨S1x8192x512, .f32⟩
  | .hbm, ⟨59, _⟩ => ⟨S1x8192x512, .f32⟩
  | .hbm, ⟨60, _⟩ => ⟨S_, .f32⟩
  | .hbm, ⟨61, _⟩ => ⟨S1x8192x1, .f32⟩
  | .hbm, ⟨62, _⟩ => ⟨S1x8192x1, .f32⟩
  | .hbm, ⟨63, _⟩ => ⟨S1x8192x1, .f32⟩
  | .hbm, ⟨64, _⟩ => ⟨S1x8192x512, .f32⟩
  | .hbm, ⟨65, _⟩ => ⟨S1x8192x512, .f32⟩
  | .hbm, ⟨66, _⟩ => ⟨S1x1x512, .f32⟩
  | .hbm, ⟨67, _⟩ => ⟨S1x8192x512, .f32⟩
  | .hbm, ⟨68, _⟩ => ⟨S1x8192x512, .f32⟩
  | .hbm, ⟨69, _⟩ => ⟨S1x1x512, .f32⟩
  | .hbm, ⟨70, _⟩ => ⟨S1x8192x512, .f32⟩
  | .hbm, ⟨71, _⟩ => ⟨S1x8192x512, .f32⟩
  | .hbm, ⟨72, _⟩ => ⟨S1x64x128x8x64, .f32⟩
  | .hbm, ⟨73, _⟩ => ⟨S_, .i1⟩
  | .hbm, ⟨74, _⟩ => ⟨S128x128, .i1⟩
  | .hbm, ⟨75, _⟩ => ⟨S128x128, .i32⟩
  | .hbm, ⟨76, _⟩ => ⟨S_, .i32⟩
  | .hbm, ⟨77, _⟩ => ⟨S128x128, .i32⟩
  | .hbm, ⟨78, _⟩ => ⟨S128x128, .i32⟩
  | .hbm, ⟨79, _⟩ => ⟨S128x128, .i32⟩
  | .hbm, ⟨80, _⟩ => ⟨S128x128, .i1⟩
  | .hbm, ⟨81, _⟩ => ⟨S_, .i1⟩
  | .hbm, ⟨82, _⟩ => ⟨S128x128, .i1⟩
  | .hbm, ⟨83, _⟩ => ⟨S128x128, .i1⟩
  | .hbm, ⟨84, _⟩ => ⟨S_, .f32⟩
  | .hbm, ⟨85, _⟩ => ⟨S_, .f32⟩
  | .hbm, ⟨86, _⟩ => ⟨S8x128x128, .i1⟩
  | .hbm, ⟨87, _⟩ => ⟨S8x128x128, .f32⟩
  | .hbm, ⟨88, _⟩ => ⟨S8x128x128, .f32⟩
  | .hbm, ⟨89, _⟩ => ⟨S8x1x64x64x128, .f32⟩
  | .hbm, ⟨90, _⟩ => ⟨S1x64x128x8x64, .f32⟩
  | .hbm, ⟨91, _⟩ => ⟨S128x8, .f32⟩
  | .hbm, ⟨92, _⟩ => ⟨S1x1x128x8x1, .f32⟩
  | .hbm, ⟨93, _⟩ => ⟨S1x64x128x8x64, .f32⟩
  | .hbm, ⟨94, _⟩ => ⟨S1x64x128x8x64, .f32⟩
  | .hbm, ⟨95, _⟩ => ⟨S1x8192x512, .f32⟩
  | .hbm, ⟨96, _⟩ => ⟨S1x8192x512, .f32⟩
  | .hbm, ⟨97, _⟩ => ⟨S8192x512, .f32⟩
  | .hbm, ⟨98, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩
abbrev main_cst_10 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_11 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c : Ref sig .tc := ⟨.hbm, 73, rfl⟩
abbrev main_v53 : Ref sig .tc := ⟨.hbm, 74, rfl⟩
abbrev main_call0_v0 : Ref sig .tc := ⟨.hbm, 75, rfl⟩
abbrev main_call0_c : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_c_0 : Ref sig .tc := ⟨.hbm, 81, rfl⟩
abbrev main_call0_v5 : Ref sig .tc := ⟨.hbm, 82, rfl⟩
abbrev main_v54 : Ref sig .tc := ⟨.hbm, 83, rfl⟩
abbrev main_cst_12 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩

abbrev nD : Nat := 1
abbrev τ : Topo := Topo.v7x

variable {F : FTy → Type} [FloatOps F]
-- ==== Kernel7.lean ====
abbrev S8192x512 : Shape := ⟨2, ![8192, 512]⟩
abbrev S8192x1024 : Shape := ⟨2, ![8192, 1024]⟩
abbrev S8192x16 : Shape := ⟨2, ![8192, 16]⟩
abbrev S8192x2048 : Shape := ⟨2, ![8192, 2048]⟩
abbrev S16x512 : Shape := ⟨2, ![16, 512]⟩
abbrev S512 : Shape := ⟨1, ![512]⟩
abbrev S256 : Shape := ⟨1, ![256]⟩
abbrev S8192x128 : Shape := ⟨2, ![8192, 128]⟩
abbrev S8192x4096 : Shape := ⟨2, ![8192, 4096]⟩
abbrev S_ : Shape := ⟨0, ![]⟩
abbrev S8192x112 : Shape := ⟨2, ![8192, 112]⟩
abbrev S128x512 : Shape := ⟨2, ![128, 512]⟩
abbrev S1x512 : Shape := ⟨2, ![1, 512]⟩
abbrev S1x256 : Shape := ⟨2, ![1, 256]⟩
abbrev S256x1 : Shape := ⟨2, ![256, 1]⟩
abbrev S256x256 : Shape := ⟨2, ![256, 256]⟩
abbrev S128x4x256x128 : Shape := ⟨4, ![128, 4, 256, 128]⟩
abbrev S256x1024 : Shape := ⟨2, ![256, 1024]⟩
abbrev S256x128 : Shape := ⟨2, ![256, 128]⟩
abbrev S4x4x256x128 : Shape := ⟨4, ![4, 4, 256, 128]⟩
abbrev S4x256x128 : Shape := ⟨3, ![4, 256, 128]⟩
abbrev S4x256x256 : Shape := ⟨3, ![4, 256, 256]⟩
abbrev S128x128 : Shape := ⟨2, ![128, 128]⟩
abbrev S1x128 : Shape := ⟨2, ![1, 128]⟩
abbrev S4x64x128 : Shape := ⟨3, ![4, 64, 128]⟩
abbrev S4x1x128 : Shape := ⟨3, ![4, 1, 128]⟩
abbrev S1x256x256 : Shape := ⟨3, ![1, 256, 256]⟩
abbrev S1x256x128 : Shape := ⟨3, ![1, 256, 128]⟩
abbrev S1x1x256x128 : Shape := ⟨4, ![1, 1, 256, 128]⟩
abbrev S1x64x256 : Shape := ⟨3, ![1, 64, 256]⟩
abbrev S64x256 : Shape := ⟨2, ![64, 256]⟩
abbrev S64x128 : Shape := ⟨2, ![64, 128]⟩

abbrev nBuf : Space → Nat
  | .hbm => 83
  | .vmem => 20
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S8192x1024, .f32⟩
  | .hbm, ⟨4, _⟩ => ⟨S8192x16, .f32⟩
  | .hbm, ⟨5, _⟩ => ⟨S8192x2048, .bf16⟩
  | .hbm, ⟨6, _⟩ => ⟨S16x512, .f32⟩
  | .hbm, ⟨7, _⟩ => ⟨S512, .f32⟩
  | .hbm, ⟨8, _⟩ => ⟨S256, .f32⟩
  | .hbm, ⟨9, _⟩ => ⟨S8192x128, .f32⟩
  | .hbm, ⟨10, _⟩ => ⟨S8192x128, .f32⟩
  | .hbm, ⟨11, _⟩ => ⟨S8192x128, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S8192x1024, .f32⟩
  | .hbm, ⟨18, _⟩ => ⟨S8192x1024, .bf16⟩
  | .hbm, ⟨19, _⟩ => ⟨S8192x1024, .bf16⟩
  | .hbm, ⟨20, _⟩ => ⟨S8192x4096, .bf16⟩
  | .hbm, ⟨21, _⟩ => ⟨S_, .f32⟩
  | .hbm, ⟨22, _⟩ => ⟨S8192x112, .f32⟩
  | .hbm, ⟨23, _⟩ => ⟨S8192x128, .f32⟩
  | .hbm, ⟨24, _⟩ => ⟨S8192x128, .bf16⟩
  | .hbm, ⟨25, _⟩ => ⟨S16x512, .bf16⟩
  | .hbm, ⟨26, _⟩ => ⟨S_, .i32⟩
  | .hbm, ⟨27, _⟩ => ⟨S_, .bf16⟩
  | .hbm, ⟨28, _⟩ => ⟨S128x512, .bf16⟩
  | .hbm, ⟨29, _⟩ => ⟨S1x512, .f32⟩
  | .hbm, ⟨30, _⟩ => ⟨S1x256, .f32⟩
  | .hbm, ⟨31, _⟩ => ⟨S256, .i32⟩
  | .hbm, ⟨32, _⟩ => ⟨S256x1, .i32⟩
  | .hbm, ⟨33, _⟩ => ⟨S_, .i32⟩
  | .hbm, ⟨34, _⟩ => ⟨S_, .i32⟩
  | .hbm, ⟨35, _⟩ => ⟨S256x1, .i32⟩
  | .hbm, ⟨36, _⟩ => ⟨S256x1, .i32⟩
  | .hbm, ⟨37, _⟩ => ⟨S256x1, .i32⟩
  | .hbm, ⟨38, _⟩ => ⟨S_, .i32⟩
  | .hbm, ⟨39, _⟩ => ⟨S256x1, .i32⟩
  | .hbm, ⟨40, _⟩ => ⟨S256x1, .i1⟩
  | .hbm, ⟨41, _⟩ => ⟨S256x1, .i32⟩
  | .hbm, ⟨42, _⟩ => ⟨S256x1, .i32⟩
  | .hbm, ⟨43, _⟩ => ⟨S_, .i32⟩
  | .hbm, ⟨44, _⟩ => ⟨S256x1, .i32⟩
  | .hbm, ⟨45, _⟩ => ⟨S256x1, .i1⟩
  | .hbm, ⟨46, _⟩ => ⟨S256x1, .i1⟩
  | .hbm, ⟨47, _⟩ => ⟨S_, .i32⟩
  | .hbm, ⟨48, _⟩ => ⟨S256x1, .i32⟩
  | .hbm, ⟨49, _⟩ => ⟨S256x1, .i32⟩
  | .hbm, ⟨50, _⟩ => ⟨S256x1, .i32⟩
  | .hbm, ⟨51, _⟩ => ⟨S1x256, .i32⟩
  | .hbm, ⟨52, _⟩ => ⟨S_, .i32⟩
  | .hbm, ⟨53, _⟩ => ⟨S_, .i32⟩
  | .hbm, ⟨54, _⟩ => ⟨S1x256, .i32⟩
  | .hbm, ⟨55, _⟩ => ⟨S1x256, .i32⟩
  | .hbm, ⟨56, _⟩ => ⟨S1x256, .i32⟩
  | .hbm, ⟨57, _⟩ => ⟨S_, .i32⟩
  | .hbm, ⟨58, _⟩ => ⟨S1x256, .i32⟩
  | .hbm, ⟨59, _⟩ => ⟨S1x256, .i1⟩
  | .hbm, ⟨60, _⟩ => ⟨S1x256, .i32⟩
  | .hbm, ⟨61, _⟩ => ⟨S1x256, .i32⟩
  | .hbm, ⟨62, _⟩ => ⟨S_, .i32⟩
  | .hbm, ⟨63, _⟩ => ⟨S1x256, .i32⟩
  | .hbm, ⟨64, _⟩ => ⟨S1x256, .i1⟩
  | .hbm, ⟨65, _⟩ => ⟨S1x256, .i1⟩
  | .hbm, ⟨66, _⟩ => ⟨S_, .i32⟩
  | .hbm, ⟨67, _⟩ => ⟨S1x256, .i32⟩
  | .hbm, ⟨68, _⟩ => ⟨S1x256, .i32⟩
  | .hbm, ⟨69, _⟩ => ⟨S1x256, .i32⟩
  | .hbm, ⟨70, _⟩ => ⟨S256x256, .i32⟩
  | .hbm, ⟨71, _⟩ => ⟨S256x256, .i32⟩
  | .hbm, ⟨72, _⟩ => ⟨S256x256, .i1⟩
  | .hbm, ⟨73, _⟩ => ⟨S1x256, .i32⟩
  | .hbm, ⟨74, _⟩ => ⟨S256x1, .i32⟩
  | .hbm, ⟨75, _⟩ => ⟨S256x256, .i32⟩
  | .hbm, ⟨76, _⟩ => ⟨S256x256, .i32⟩
  | .hbm, ⟨77, _⟩ => ⟨S256x256, .i1⟩
  | .hbm, ⟨78, _⟩ => ⟨S256x256, .i1⟩
  | .hbm, ⟨79, _⟩ => ⟨S256x256, .bf16⟩
  | .hbm, ⟨80, _⟩ => ⟨S8192x1024, .bf16⟩
  | .hbm, ⟨81, _⟩ => ⟨S8192x1024, .bf16⟩
  | .hbm, ⟨82, _⟩ => ⟨S128x4x256x128, .bf16⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x128, .bf16⟩
  | .local _ .vmem, ⟨7, _⟩ => ⟨S256x128, .bf16⟩
  | .local _ .vmem, ⟨8, _⟩ => ⟨S128x512, .bf16⟩
  | .local _ .vmem, ⟨9, _⟩ => ⟨S1x512, .f32⟩
  | .local _ .vmem, ⟨10, _⟩ => ⟨S1x256, .f32⟩
  | .local _ .vmem, ⟨11, _⟩ => ⟨S256x256, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S4x4x256x128, .bf16⟩
  | .local _ .vmem, ⟨17, _⟩ => ⟨S4x4x256x128, .bf16⟩
  | .local _ .vmem, ⟨18, _⟩ => ⟨S4x256x128, .f32⟩
  | .local _ .vmem, ⟨19, _⟩ => ⟨S4x256x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v21 : Ref sig .tc := ⟨.hbm, 50, rfl⟩
abbrev main_v22 : Ref sig .tc := ⟨.hbm, 51, rfl⟩
abbrev main_c_1 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_c : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_0 : Ref sig .tc := ⟨.hbm, 66, rfl⟩
abbrev main_call2_v12 : Ref sig .tc := ⟨.hbm, 67, rfl⟩
abbrev main_call2_v13 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34_0 : Ref sig .tc := ⟨.hbm, 80, rfl⟩
abbrev main_v34_1 : Ref sig .tc := ⟨.hbm, 81, rfl⟩
abbrev main_v34_2 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4x4x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference7Ideal.lean ====
abbrev S8192x512 : Shape := ⟨2, ![8192, 512]⟩
abbrev S8192x1024 : Shape := ⟨2, ![8192, 1024]⟩
abbrev S8192x16 : Shape := ⟨2, ![8192, 16]⟩
abbrev S8192x2048 : Shape := ⟨2, ![8192, 2048]⟩
abbrev S16x512 : Shape := ⟨2, ![16, 512]⟩
abbrev S512 : Shape := ⟨1, ![512]⟩
abbrev S256 : Shape := ⟨1, ![256]⟩
abbrev S1x8192x512 : Shape := ⟨3, ![1, 8192, 512]⟩
abbrev S1x8192x1024 : Shape := ⟨3, ![1, 8192, 1024]⟩
abbrev S1x8192x16 : Shape := ⟨3, ![1, 8192, 16]⟩
abbrev S1x1x512 : Shape := ⟨3, ![1, 1, 512]⟩
abbrev S_ : Shape := ⟨0, ![]⟩
abbrev S1x8192x4x128 : Shape := ⟨4, ![1, 8192, 4, 128]⟩
abbrev S1x4x8192x128 : Shape := ⟨4, ![1, 4, 8192, 128]⟩
abbrev S1x8192x4x256 : Shape := ⟨4, ![1, 8192, 4, 256]⟩
abbrev S1x4x8192x256 : Shape := ⟨4, ![1, 4, 8192, 256]⟩
abbrev S1x4x128x64x128 : Shape := ⟨5, ![1, 4, 128, 64, 128]⟩
abbrev S1x4x128x64x256 : Shape := ⟨5, ![1, 4, 128, 64, 256]⟩
abbrev S1x4x128x1x128 : Shape := ⟨5, ![1, 4, 128, 1, 128]⟩
abbrev S64x64 : Shape := ⟨2, ![64, 64]⟩
abbrev S1x4x128x64x64 : Shape := ⟨5, ![1, 4, 128, 64, 64]⟩
abbrev S1x4x128x128x256 : Shape := ⟨5, ![1, 4, 128, 128, 256]⟩
abbrev S1x4x128x128 : Shape := ⟨4, ![1, 4, 128, 128]⟩
abbrev S1x4x128x256 : Shape := ⟨4, ![1, 4, 128, 256]⟩
abbrev S128x1x4x64x128 : Shape := ⟨5, ![128, 1, 4, 64, 128]⟩
abbrev S128x1x4x128x256 : Shape := ⟨5, ![128, 1, 4, 128, 256]⟩
abbrev S128x1x4x128 : Shape := ⟨4, ![128, 1, 4, 128]⟩
abbrev S128x1x4x64x256 : Shape := ⟨5, ![128, 1, 4, 64, 256]⟩
abbrev S1x1x4x64x128 : Shape := ⟨5, ![1, 1, 4, 64, 128]⟩
abbrev S1x4x64x128 : Shape := ⟨4, ![1, 4, 64, 128]⟩
abbrev S1x1x4x128x256 : Shape := ⟨5, ![1, 1, 4, 128, 256]⟩
abbrev S1x1x4x128 : Shape := ⟨4, ![1, 1, 4, 128]⟩
abbrev S1x4x128 : Shape := ⟨3, ![1, 4, 128]⟩
abbrev S1x1x4x64x256 : Shape := ⟨5, ![1, 1, 4, 64, 256]⟩
abbrev S1x4x64x256 : Shape := ⟨4, ![1, 4, 64, 256]⟩
abbrev S1x4x128x1 : Shape := ⟨4, ![1, 4, 128, 1]⟩
abbrev S1x8192x4 : Shape := ⟨3, ![1, 8192, 4]⟩
abbrev S1x8192x4x1 : Shape := ⟨4, ![1, 8192, 4, 1]⟩
abbrev S1x1x1x256 : Shape := ⟨4, ![1, 1, 1, 256]⟩
abbrev S128x4x128x256 : Shape := ⟨4, ![128, 4, 128, 256]⟩
abbrev S128x4x256x128 : Shape := ⟨4, ![128, 4, 256, 128]⟩

abbrev nBuf : Space → Nat
  | .hbm => 188
  | .vmem => 0
  | .smem => 0
  | _ => 0

abbrev hbmTy0_0 (i : Nat) : BufTy := match i % 128 with
  | 0 => ⟨S8192x512, .f32⟩
  | 1 => ⟨S8192x512, .f32⟩
  | 2 => ⟨S8192x1024, .f32⟩
  | 3 => ⟨S8192x1024, .f32⟩
  | 4 => ⟨S8192x16, .f32⟩
  | 5 => ⟨S8192x2048, .bf16⟩
  | 6 => ⟨S16x512, .f32⟩
  | 7 => ⟨S512, .f32⟩
  | 8 => ⟨S256, .f32⟩
  | 9 => ⟨S1x8192x512, .f32⟩
  | 10 => ⟨S1x8192x512, .f32⟩
  | 11 => ⟨S1x8192x1024, .f32⟩
  | 12 => ⟨S1x8192x16, .f32⟩
  | 13 => ⟨S1x8192x512, .f32⟩
  | 14 => ⟨S1x1x512, .f32⟩
  | 15 => ⟨S1x8192x512, .f32⟩
  | 16 => ⟨S1x8192x512, .f32⟩
  | 17 => ⟨S1x8192x512, .f32⟩
  | 18 => ⟨S_, .f32⟩
  | 19 => ⟨S1x8192x512, .f32⟩
  | 20 => ⟨S1x8192x512, .f32⟩
  | 21 => ⟨S1x8192x512, .f32⟩
  | 22 => ⟨S1x8192x512, .f32⟩
  | 23 => ⟨S1x8192x512, .i1⟩
  | 24 => ⟨S1x8192x512, .f32⟩
  | 25 => ⟨S1x8192x512, .f32⟩
  | 26 => ⟨S1x8192x512, .f32⟩
  | 27 => ⟨S1x8192x512, .f32⟩
  | 28 => ⟨S1x8192x512, .f32⟩
  | 29 => ⟨S1x8192x512, .f32⟩
  | 30 => ⟨S1x8192x512, .f32⟩
  | 31 => ⟨S1x8192x512, .f32⟩
  | 32 => ⟨S1x8192x512, .f32⟩
  | 33 => ⟨S_, .f32⟩
  | 34 => ⟨S1x8192x512, .f32⟩
  | 35 => ⟨S1x8192x512, .f32⟩
  | 36 => ⟨S1x8192x4x128, .f32⟩
  | 37 => ⟨S1x4x8192x128, .f32⟩
  | 38 => ⟨S_, .f32⟩
  | 39 => ⟨S1x4x8192x128, .f32⟩
  | 40 => ⟨S1x4x8192x128, .f32⟩
  | 41 => ⟨S1x8192x4x128, .f32⟩
  | 42 => ⟨S1x4x8192x128, .f32⟩
  | 43 => ⟨S1x8192x4x256, .f32⟩
  | 44 => ⟨S1x4x8192x256, .f32⟩
  | 45 => ⟨S1x8192x4x128, .f32⟩
  | 46 => ⟨S1x4x8192x128, .f32⟩
  | 47 => ⟨S1x4x128x64x128, .f32⟩
  | 48 => ⟨S1x4x128x64x128, .f32⟩
  | 49 => ⟨S1x4x128x64x256, .f32⟩
  | 50 => ⟨S1x4x128x64x128, .f32⟩
  | 51 => ⟨S_, .f32⟩
  | 52 => ⟨S_, .f32⟩
  | 53 => ⟨S1x4x128x64x128, .f32⟩
  | 54 => ⟨S1x4x128x1x128, .f32⟩
  | 55 => ⟨S1x4x128x64x128, .f32⟩
  | 56 => ⟨S1x4x128x64x128, .f32⟩
  | 57 => ⟨S1x4x128x64x128, .f32⟩
  | 58 => ⟨S1x4x128x64x128, .f32⟩
  | 59 => ⟨S1x4x128x64x128, .f32⟩
  | 60 => ⟨S1x4x128x64x128, .f32⟩
  | 61 => ⟨S1x4x128x64x128, .f32⟩
  | 62 => ⟨S1x4x128x64x128, .f32⟩
  | 63 => ⟨S1x4x128x64x128, .f32⟩
  | 64 => ⟨S_, .i1⟩
  | 65 => ⟨S64x64, .i1⟩
  | 66 => ⟨S64x64, .i32⟩
  | 67 => ⟨S_, .i32⟩
  | 68 => ⟨S64x64, .i32⟩
  | 69 => ⟨S64x64, .i32⟩
  | 70 => ⟨S64x64, .i32⟩
  | 71 => ⟨S64x64, .i1⟩
  | 72 => ⟨S_, .i1⟩
  | 73 => ⟨S64x64, .i1⟩
  | 74 => ⟨S64x64, .i1⟩
  | 75 => ⟨S1x4x128x64x64, .f32⟩
  | 76 => ⟨S_, .f32⟩
  | 77 => ⟨S_, .f32⟩
  | 78 => ⟨S1x4x128x64x64, .i1⟩
  | 79 => ⟨S1x4x128x64x64, .f32⟩
  | 80 => ⟨S1x4x128x64x64, .f32⟩
  | 81 => ⟨S1x4x128x64x256, .f32⟩
  | 82 => ⟨S1x4x128x128x256, .f32⟩
  | 83 => ⟨S1x4x128x128, .f32⟩
  | 84 => ⟨S1x4x128x128, .f32⟩
  | 85 => ⟨S_, .f32⟩
  | 86 => ⟨S1x4x128x256, .f32⟩
  | 87 => ⟨S128x1x4x64x128, .f32⟩
  | 88 => ⟨S128x1x4x128x256, .f32⟩
  | 89 => ⟨S128x1x4x128, .f32⟩
  | 90 => ⟨S128x1x4x64x256, .f32⟩
  | 91 => ⟨S_, .f32⟩
  | 92 => ⟨S128x1x4x64x256, .f32⟩
  | 93 => ⟨S_, .f32⟩
  | 94 => ⟨S128x1x4x128x256, .f32⟩
  | 95 => ⟨S_, .i32⟩
  | 96 => ⟨S128x1x4x64x128, .f32⟩
  | 97 => ⟨S128x1x4x128x256, .f32⟩
  | 98 => ⟨S128x1x4x128, .f32⟩
  | 99 => ⟨S128x1x4x64x256, .f32⟩
  | 100 => ⟨S_, .i32⟩
  | 101 => ⟨S1x4x128x256, .f32⟩
  | 102 => ⟨S128x1x4x64x256, .f32⟩
  | 103 => ⟨S128x1x4x128x256, .f32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S1x1x4x64x128, .f32⟩
  | 111 => ⟨S1x4x64x128, .f32⟩
  | 112 => ⟨S_, .i32⟩
  | 113 => ⟨S_, .i32⟩
  | 114 => ⟨S_, .i32⟩
  | 115 => ⟨S_, .i32⟩
  | 116 => ⟨S1x1x4x128x256, .f32⟩
  | 117 => ⟨S1x4x128x256, .f32⟩
  | 118 => ⟨S_, .i32⟩
  | 119 => ⟨S_, .i32⟩
  | 120 => ⟨S_, .i32⟩
  | 121 => ⟨S1x1x4x128, .f32⟩
  | 122 => ⟨S1x4x128, .f32⟩
  | 123 => ⟨S_, .i32⟩
  | 124 => ⟨S_, .i32⟩
  | 125 => ⟨S_, .i32⟩
  | 126 => ⟨S_, .i32⟩
  | 127 => ⟨S1x1x4x64x256, .f32⟩
  | _ => ⟨S8192x512, .f32⟩

abbrev hbmTy0_1 (i : Nat) : BufTy := match i % 128 with
  | 0 => ⟨S1x4x64x256, .f32⟩
  | 1 => ⟨S1x4x64x256, .f32⟩
  | 2 => ⟨S1x4x64x256, .f32⟩
  | 3 => ⟨S1x4x128x1, .f32⟩
  | 4 => ⟨S1x4x128x256, .f32⟩
  | 5 => ⟨S1x4x128x256, .f32⟩
  | 6 => ⟨S1x4x128x256, .f32⟩
  | 7 => ⟨S1x1x4x64x256, .f32⟩
  | 8 => ⟨S_, .i32⟩
  | 9 => ⟨S_, .i32⟩
  | 10 => ⟨S_, .i32⟩
  | 11 => ⟨S_, .i32⟩
  | 12 => ⟨S128x1x4x64x256, .f32⟩
  | 13 => ⟨S1x1x4x128x256, .f32⟩
  | 14 => ⟨S_, .i32⟩
  | 15 => ⟨S_, .i32⟩
  | 16 => ⟨S_, .i32⟩
  | 17 => ⟨S_, .i32⟩
  | 18 => ⟨S128x1x4x128x256, .f32⟩
  | 19 => ⟨S_, .i32⟩
  | 20 => ⟨S_, .i32⟩
  | 21 => ⟨S1x4x128x64x256, .f32⟩
  | 22 => ⟨S1x4x8192x256, .f32⟩
  | 23 => ⟨S1x8192x4x256, .f32⟩
  | 24 => ⟨S1x8192x4x256, .f32⟩
  | 25 => ⟨S_, .f32⟩
  | 26 => ⟨S1x8192x4, .f32⟩
  | 27 => ⟨S1x8192x4x1, .f32⟩
  | 28 => ⟨S_, .f32⟩
  | 29 => ⟨S1x8192x4x1, .f32⟩
  | 30 => ⟨S1x8192x4x1, .f32⟩
  | 31 => ⟨S_, .f32⟩
  | 32 => ⟨S1x8192x4x1, .f32⟩
  | 33 => ⟨S1x8192x4x1, .f32⟩
  | 34 => ⟨S1x8192x4x1, .f32⟩
  | 35 => ⟨S1x8192x4x256, .f32⟩
  | 36 => ⟨S1x8192x4x256, .f32⟩
  | 37 => ⟨S1x1x1x256, .f32⟩
  | 38 => ⟨S1x8192x4x256, .f32⟩
  | 39 => ⟨S1x8192x4x256, .f32⟩
  | 40 => ⟨S1x8192x1024, .f32⟩
  | 41 => ⟨S1x8192x1024, .f32⟩
  | 42 => ⟨S1x8192x1024, .f32⟩
  | 43 => ⟨S1x8192x1024, .f32⟩
  | 44 => ⟨S_, .f32⟩
  | 45 => ⟨S1x8192x1024, .f32⟩
  | 46 => ⟨S1x8192x1024, .f32⟩
  | 47 => ⟨S_, .f32⟩
  | 48 => ⟨S1x8192x1024, .f32⟩
  | 49 => ⟨S1x8192x1024, .f32⟩
  | 50 => ⟨S1x8192x1024, .f32⟩
  | 51 => ⟨S1x8192x1024, .f32⟩
  | 52 => ⟨S1x8192x1024, .f32⟩
  | 53 => ⟨S8192x1024, .f32⟩
  | 54 => ⟨S8192x1024, .bf16⟩
  | 55 => ⟨S8192x1024, .f32⟩
  | 56 => ⟨S8192x1024, .bf16⟩
  | 57 => ⟨S128x4x128x256, .f32⟩
  | 58 => ⟨S128x4x256x128, .f32⟩
  | 59 => ⟨S128x4x256x128, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_call0_call0_cst : Ref sig .tc := ⟨.hbm, 51, rfl⟩
abbrev main_call0_call0_v0 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_c : Ref sig .tc := ⟨.hbm, 64, rfl⟩
abbrev main_v50 : Ref sig .tc := ⟨.hbm, 65, rfl⟩
abbrev main_call1_v0 : Ref sig .tc := ⟨.hbm, 66, rfl⟩
abbrev main_call1_c : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_c_0 : Ref sig .tc := ⟨.hbm, 72, rfl⟩
abbrev main_call1_v5 : Ref sig .tc := ⟨.hbm, 73, rfl⟩
abbrev main_v51 : Ref sig .tc := ⟨.hbm, 74, rfl⟩
abbrev main_v52 : Ref sig .tc := ⟨.hbm, 75, rfl⟩
abbrev main_cst_2 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_3 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_4 : Ref sig .tc := ⟨.hbm, 91, rfl⟩
abbrev main_v63 : Ref sig .tc := ⟨.hbm, 92, rfl⟩
abbrev main_cst_5 : Ref sig .tc := ⟨.hbm, 93, rfl⟩
abbrev main_v64 : Ref sig .tc := ⟨.hbm, 94, rfl⟩
abbrev main_c_6 : Ref sig .tc := ⟨.hbm, 95, rfl⟩
abbrev main_v65_0 : Ref sig .tc := ⟨.hbm, 96, rfl⟩
abbrev main_v65_1 : Ref sig .tc := ⟨.hbm, 97, rfl⟩
abbrev main_v65_2 : Ref sig .tc := ⟨.hbm, 98, rfl⟩
abbrev main_v65_3 : Ref sig .tc := ⟨.hbm, 99, rfl⟩
abbrev main_v65_4 : Ref sig .tc := ⟨.hbm, 100, rfl⟩
abbrev main_v65_5 : Ref sig .tc := ⟨.hbm, 101, rfl⟩
abbrev main_v65_6 : Ref sig .tc := ⟨.hbm, 102, rfl⟩
abbrev main_v65_7 : Ref sig .tc := ⟨.hbm, 103, rfl⟩
abbrev main_while0c_c_17 : Ref sig .tc := ⟨.hbm, 104, rfl⟩
abbrev main_while0c_v94 : Ref sig .tc := ⟨.hbm, 105, rfl⟩
abbrev main_while0b_call3_c : Ref sig .tc := ⟨.hbm, 106, rfl⟩
abbrev main_while0b_call3_c_0 : Ref sig .tc := ⟨.hbm, 107, rfl⟩
abbrev main_while0b_call3_c_1 : Ref sig .tc := ⟨.hbm, 108, rfl⟩
abbrev main_while0b_call3_c_2 : Ref sig .tc := ⟨.hbm, 109, rfl⟩
abbrev main_while0b_call3_v0 : Ref sig .tc := ⟨.hbm, 110, rfl⟩
abbrev main_while0b_v94 : Ref sig .tc := ⟨.hbm, 111, rfl⟩
abbrev main_while0b_call4_c : Ref sig .tc := ⟨.hbm, 112, rfl⟩
abbrev main_while0b_call4_c_0 : Ref sig .tc := ⟨.hbm, 113, rfl⟩
abbrev main_while0b_call4_c_1 : Ref sig .tc := ⟨.hbm, 114, rfl⟩
abbrev main_while0b_call4_c_2 : Ref sig .tc := ⟨.hbm, 115, rfl⟩
abbrev main_while0b_call4_v0 : Ref sig .tc := ⟨.hbm, 116, rfl⟩
abbrev main_while0b_v95 : Ref sig .tc := ⟨.hbm, 117, rfl⟩
abbrev main_while0b_call5_c : Ref sig .tc := ⟨.hbm, 118, rfl⟩
abbrev main_while0b_call5_c_0 : Ref sig .tc := ⟨.hbm, 119, rfl⟩
abbrev main_while0b_call5_c_1 : Ref sig .tc := ⟨.hbm, 120, rfl⟩
abbrev main_while0b_call5_v0 : Ref sig .tc := ⟨.hbm, 121, rfl⟩
abbrev main_while0b_v96 : Ref sig .tc := ⟨.hbm, 122, rfl⟩
abbrev main_while0b_call6_c : Ref sig .tc := ⟨.hbm, 123, rfl⟩
abbrev main_while0b_call6_c_0 : Ref sig .tc := ⟨.hbm, 124, rfl⟩
abbrev main_while0b_call6_c_1 : Ref sig .tc := ⟨.hbm, 125, rfl⟩
abbrev main_while0b_call6_c_2 : Ref sig .tc := ⟨.hbm, 126, rfl⟩
abbrev main_while0b_call6_v0 : Ref sig .tc := ⟨.hbm, 127, rfl⟩
abbrev main_while0b_v97 : Ref sig .tc := ⟨.hbm, 128, rfl⟩
abbrev main_while0b_v98 : Ref sig .tc := ⟨.hbm, 129, rfl⟩
abbrev main_while0b_v99 : Ref sig .tc := ⟨.hbm, 130, rfl⟩
abbrev main_while0b_v100 : Ref sig .tc := ⟨.hbm, 131, rfl⟩
abbrev main_while0b_v101 : Ref sig .tc := ⟨.hbm, 132, rfl⟩
abbrev main_while0b_v102 : Ref sig .tc := ⟨.hbm, 133, rfl⟩
abbrev main_while0b_v103 : Ref sig .tc := ⟨.hbm, 134, rfl⟩
abbrev main_while0b_call7_v0 : Ref sig .tc := ⟨.hbm, 135, rfl⟩
abbrev main_while0b_call7_c : Ref sig .tc := ⟨.hbm, 136, rfl⟩
abbrev main_while0b_call7_c_0 : Ref sig .tc := ⟨.hbm, 137, rfl⟩
abbrev main_while0b_call7_c_1 : Ref sig .tc := ⟨.hbm, 138, rfl⟩
abbrev main_while0b_call7_c_2 : Ref sig .tc := ⟨.hbm, 139, rfl⟩
abbrev main_while0b_v104 : Ref sig .tc := ⟨.hbm, 140, rfl⟩
abbrev main_while0b_call8_v0 : Ref sig .tc := ⟨.hbm, 141, rfl⟩
abbrev main_while0b_call8_c : Ref sig .tc := ⟨.hbm, 142, rfl⟩
abbrev main_while0b_call8_c_0 : Ref sig .tc := ⟨.hbm, 143, rfl⟩
abbrev main_while0b_call8_c_1 : Ref sig .tc := ⟨.hbm, 144, rfl⟩
abbrev main_while0b_call8_c_2 : Ref sig .tc := ⟨.hbm, 145, rfl⟩
abbrev main_while0b_v105 : Ref sig .tc := ⟨.hbm, 146, rfl⟩
abbrev main_while0b_c_17 : Ref sig .tc := ⟨.hbm, 147, rfl⟩
abbrev main_while0b_v106 : Ref sig .tc := ⟨.hbm, 148, rfl⟩
abbrev main_v66 : Ref sig .tc := ⟨.hbm, 149, rfl⟩
abbrev main_v67 : Ref sig .tc := ⟨.hbm, 150, rfl⟩
abbrev main_v68 : Ref sig .tc := ⟨.hbm, 151, rfl⟩
abbrev main_v69 : Ref sig .tc := ⟨.hbm, 152, rfl⟩
abbrev main_cst_7 : Ref sig .tc := ⟨.hbm, 153, rfl⟩
abbrev main_v70 : Ref sig .tc := ⟨.hbm, 154, rfl⟩
abbrev main_v71 : Ref sig .tc := ⟨.hbm, 155, rfl⟩
abbrev main_cst_8 : Ref sig .tc := ⟨.hbm, 156, rfl⟩
abbrev main_v72 : Ref sig .tc := ⟨.hbm, 157, rfl⟩
abbrev main_v73 : Ref sig .tc := ⟨.hbm, 158, rfl⟩
abbrev main_cst_9 : Ref sig .tc := ⟨.hbm, 159, rfl⟩
abbrev main_v74 : Ref sig .tc := ⟨.hbm, 160, rfl⟩
abbrev main_v75 : Ref sig .tc := ⟨.hbm, 161, rfl⟩
abbrev main_v76 : Ref sig .tc := ⟨.hbm, 162, rfl⟩
abbrev main_v77 : Ref sig .tc := ⟨.hbm, 163, rfl⟩
abbrev main_v78 : Ref sig .tc := ⟨.hbm, 164, rfl⟩
abbrev main_v79 : Ref sig .tc := ⟨.hbm, 165, rfl⟩
abbrev main_v80 : Ref sig .tc := ⟨.hbm, 166, rfl⟩
abbrev main_v81 : Ref sig .tc := ⟨.hbm, 167, rfl⟩
abbrev main_v82 : Ref sig .tc := ⟨.hbm, 168, rfl⟩
abbrev main_v83 : Ref sig .tc := ⟨.hbm, 169, rfl⟩
abbrev main_call9_v0 : Ref sig .tc := ⟨.hbm, 170, rfl⟩
abbrev main_call9_v1 : Ref sig .tc := ⟨.hbm, 171, rfl⟩
abbrev main_call9_cst : Ref sig .tc := ⟨.hbm, 172, rfl⟩
abbrev main_call9_v2 : Ref sig .tc := ⟨.hbm, 173, rfl⟩
abbrev main_call9_v3 : Ref sig .tc := ⟨.hbm, 174, rfl⟩
abbrev main_call9_cst_0 : Ref sig .tc := ⟨.hbm, 175, rfl⟩
abbrev main_call9_v4 : Ref sig .tc := ⟨.hbm, 176, rfl⟩
abbrev main_call9_v5 : Ref sig .tc := ⟨.hbm, 177, rfl⟩
abbrev main_v84 : Ref sig .tc := ⟨.hbm, 178, rfl⟩
abbrev main_v85 : Ref sig .tc := ⟨.hbm, 179, rfl⟩
abbrev main_v86 : Ref sig .tc := ⟨.hbm, 180, rfl⟩
abbrev main_v87 : Ref sig .tc := ⟨.hbm, 181, rfl⟩
abbrev main_v88 : Ref sig .tc := ⟨.hbm, 182, rfl⟩
abbrev main_v89 : Ref sig .tc := ⟨.hbm, 183, rfl⟩
abbrev main_v90 : Ref sig .tc := ⟨.hbm, 184, rfl⟩
abbrev main_v91 : Ref sig .tc := ⟨.hbm, 185, rfl⟩
abbrev main_v92 : Ref sig .tc := ⟨.hbm, 186, rfl⟩
abbrev main_v93 : Ref sig .tc := ⟨.hbm, 187, rfl⟩

abbrev nD : Nat := 1
abbrev τ : Topo := Topo.v7x

variable {F : FTy → Type} [FloatOps F]

abbrev main_while0_count : Scf.Loop 32 := ⟨0#32, 128#32, 1#32⟩
-- ==== Kernel8.lean ====
abbrev S8192x1024 : Shape := ⟨2, ![8192, 1024]⟩
abbrev S1024x6160 : Shape := ⟨2, ![1024, 6160]⟩
abbrev S1024 : Shape := ⟨1, ![1024]⟩
abbrev S6160x1024 : Shape := ⟨2, ![6160, 1024]⟩
abbrev S128x1024 : Shape := ⟨2, ![128, 1024]⟩
abbrev S1024x1024 : Shape := ⟨2, ![1024, 1024]⟩
abbrev S2048x1024 : Shape := ⟨2, ![2048, 1024]⟩
abbrev S16x1024 : Shape := ⟨2, ![16, 1024]⟩
abbrev S_ : Shape := ⟨0, ![]⟩
abbrev S112x1024 : Shape := ⟨2, ![112, 1024]⟩
abbrev S6272x1024 : Shape := ⟨2, ![6272, 1024]⟩
abbrev S1x1024 : Shape := ⟨2, ![1, 1024]⟩
abbrev S8192x6144 : Shape := ⟨2, ![8192, 6144]⟩
abbrev S8192x128 : Shape := ⟨2, ![8192, 128]⟩
abbrev S1024x128 : Shape := ⟨2, ![1024, 128]⟩
abbrev S1024x1 : Shape := ⟨2, ![1024, 1]⟩

abbrev nBuf : Space → Nat
  | .hbm => 25
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024x6160, .f32⟩
  | .hbm, ⟨2, _⟩ => ⟨S1024, .f32⟩
  | .hbm, ⟨3, _⟩ => ⟨S6160x1024, .f32⟩
  | .hbm, ⟨4, _⟩ => ⟨S6160x1024, .bf16⟩
  | .hbm, ⟨5, _⟩ => ⟨S128x1024, .bf16⟩
  | .hbm, ⟨6, _⟩ => ⟨S128x1024, .bf16⟩
  | .hbm, ⟨7, _⟩ => ⟨S128x1024, .bf16⟩
  | .hbm, ⟨8, _⟩ => ⟨S128x1024, .bf16⟩
  | .hbm, ⟨9, _⟩ => ⟨S128x1024, .bf16⟩
  | .hbm, ⟨10, _⟩ => ⟨S128x1024, .bf16⟩
  | .hbm, ⟨11, _⟩ => ⟨S128x1024, .bf16⟩
  | .hbm, ⟨12, _⟩ => ⟨S128x1024, .bf16⟩
  | .hbm, ⟨13, _⟩ => ⟨S1024x1024, .bf16⟩
  | .hbm, ⟨14, _⟩ => ⟨S2048x1024, .bf16⟩
  | .hbm, ⟨15, _⟩ => ⟨S2048x1024, .bf16⟩
  | .hbm, ⟨16, _⟩ => ⟨S16x1024, .bf16⟩
  | .hbm, ⟨17, _⟩ => ⟨S_, .bf16⟩
  | .hbm, ⟨18, _⟩ => ⟨S112x1024, .bf16⟩
  | .hbm, ⟨19, _⟩ => ⟨S6272x1024, .bf16⟩
  | .hbm, ⟨20, _⟩ => ⟨S1x1024, .f32⟩
  | .hbm, ⟨21, _⟩ => ⟨S8192x1024, .bf16⟩
  | .hbm, ⟨22, _⟩ => ⟨S8192x6144, .bf16⟩
  | .hbm, ⟨23, _⟩ => ⟨S8192x1024, .f32⟩
  | .hbm, ⟨24, _⟩ => ⟨S8192x128, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S128x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x128, .bf16⟩
  | .local _ .vmem, ⟨13, _⟩ => ⟨S1024x128, .bf16⟩
  | .local _ .vmem, ⟨14, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17_0 : Ref sig .tc := ⟨.hbm, 21, rfl⟩
abbrev main_v17_1 : Ref sig .tc := ⟨.hbm, 22, rfl⟩
abbrev main_v17_2 : Ref sig .tc := ⟨.hbm, 23, rfl⟩
abbrev main_v17_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c48_i32 : BitVec 32 := 48#32
  let c0_i32 : BitVec 32 := 0#32
  let c0_i32_0 : BitVec 32 := 0#32
  ![c48_i32.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference8Ideal.lean ====
abbrev S8192x1024 : Shape := ⟨2, ![8192, 1024]⟩
abbrev S1024x6160 : Shape := ⟨2, ![1024, 6160]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x6160 : Shape := ⟨2, ![8192, 6160]⟩
abbrev S8192x512 : Shape := ⟨2, ![8192, 512]⟩
abbrev S8192x16 : Shape := ⟨2, ![8192, 16]⟩
abbrev S8192x4x128 : Shape := ⟨3, ![8192, 4, 128]⟩
abbrev S8192x4x1x128 : Shape := ⟨4, ![8192, 4, 1, 128]⟩
abbrev S8192x4x2x128 : Shape := ⟨4, ![8192, 4, 2, 128]⟩
abbrev S8192x6144 : Shape := ⟨2, ![8192, 6144]⟩
abbrev S8192x112 : Shape := ⟨2, ![8192, 112]⟩
abbrev S8192x128 : Shape := ⟨2, ![8192, 128]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x6160, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x6160, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x1024, .f32⟩
  | .hbm, ⟨25, _⟩ => ⟨S8192x1024, .f32⟩
  | .hbm, ⟨26, _⟩ => ⟨S8192x16, .f32⟩
  | .hbm, ⟨27, _⟩ => ⟨S8192x1024, .f32⟩
  | .hbm, ⟨28, _⟩ => ⟨S8192x1024, .f32⟩
  | .hbm, ⟨29, _⟩ => ⟨S8192x4x128, .f32⟩
  | .hbm, ⟨30, _⟩ => ⟨S8192x4x128, .f32⟩
  | .hbm, ⟨31, _⟩ => ⟨S8192x4x1x128, .f32⟩
  | .hbm, ⟨32, _⟩ => ⟨S8192x4x1x128, .f32⟩
  | .hbm, ⟨33, _⟩ => ⟨S8192x4x2x128, .f32⟩
  | .hbm, ⟨34, _⟩ => ⟨S8192x1024, .f32⟩
  | .hbm, ⟨35, _⟩ => ⟨S8192x6144, .f32⟩
  | .hbm, ⟨36, _⟩ => ⟨S8192x1024, .bf16⟩
  | .hbm, ⟨37, _⟩ => ⟨S8192x6144, .bf16⟩
  | .hbm, ⟨38, _⟩ => ⟨S_, .f32⟩
  | .hbm, ⟨39, _⟩ => ⟨S8192x112, .f32⟩
  | .hbm, ⟨40, _⟩ => ⟨S8192x128, .f32⟩
  | .hbm, ⟨41, _⟩ => ⟨S8192x128, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩

abbrev nD : Nat := 1
abbrev τ : Topo := Topo.v7x

variable {F : FTy → Type} [FloatOps F]
-- ==== Kernel9.lean ====
abbrev S8192x512 : Shape := ⟨2, ![8192, 512]⟩
abbrev S8192x1024 : Shape := ⟨2, ![8192, 1024]⟩
abbrev S8192x16 : Shape := ⟨2, ![8192, 16]⟩
abbrev S8192x2048 : Shape := ⟨2, ![8192, 2048]⟩
abbrev S16x512 : Shape := ⟨2, ![16, 512]⟩
abbrev S512 : Shape := ⟨1, ![512]⟩
abbrev S256 : Shape := ⟨1, ![256]⟩
abbrev S128x4x256x128 : Shape := ⟨4, ![128, 4, 256, 128]⟩
abbrev S8192x128 : Shape := ⟨2, ![8192, 128]⟩
abbrev S8192x4096 : Shape := ⟨2, ![8192, 4096]⟩
abbrev S_ : Shape := ⟨0, ![]⟩
abbrev S8192x112 : Shape := ⟨2, ![8192, 112]⟩
abbrev S128x512 : Shape := ⟨2, ![128, 512]⟩
abbrev S1x512 : Shape := ⟨2, ![1, 512]⟩
abbrev S1x256 : Shape := ⟨2, ![1, 256]⟩
abbrev S256x1 : Shape := ⟨2, ![256, 1]⟩
abbrev S256x256 : Shape := ⟨2, ![256, 256]⟩
abbrev S4x1x128 : Shape := ⟨3, ![4, 1, 128]⟩
abbrev S256x1024 : Shape := ⟨2, ![256, 1024]⟩
abbrev S256x128 : Shape := ⟨2, ![256, 128]⟩
abbrev S4x4x256x128 : Shape := ⟨4, ![4, 4, 256, 128]⟩
abbrev S256x512 : Shape := ⟨2, ![256, 512]⟩
abbrev S4x256x128 : Shape := ⟨3, ![4, 256, 128]⟩
abbrev S4x256x256 : Shape := ⟨3, ![4, 256, 256]⟩
abbrev S4x4x1x128 : Shape := ⟨4, ![4, 4, 1, 128]⟩
abbrev S4x64x128 : Shape := ⟨3, ![4, 64, 128]⟩
abbrev S128x128 : Shape := ⟨2, ![128, 128]⟩
abbrev S1x128 : Shape := ⟨2, ![1, 128]⟩
abbrev S1x256x256 : Shape := ⟨3, ![1, 256, 256]⟩
abbrev S1x256x128 : Shape := ⟨3, ![1, 256, 128]⟩
abbrev S1x1x256x128 : Shape := ⟨4, ![1, 1, 256, 128]⟩
abbrev S1x64x256 : Shape := ⟨3, ![1, 64, 256]⟩
abbrev S64x256 : Shape := ⟨2, ![64, 256]⟩
abbrev S64x128 : Shape := ⟨2, ![64, 128]⟩
abbrev S1x64x128 : Shape := ⟨3, ![1, 64, 128]⟩
abbrev S128 : Shape := ⟨1, ![128]⟩
abbrev S1x1x1x128 : Shape := ⟨4, ![1, 1, 1, 128]⟩
abbrev S4x128 : Shape := ⟨2, ![4, 128]⟩
abbrev S1x4x1x128 : Shape := ⟨4, ![1, 4, 1, 128]⟩
abbrev S1x1x128 : Shape := ⟨3, ![1, 1, 128]⟩

abbrev nBuf : Space → Nat
  | .hbm => 92
  | .vmem => 36
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S8192x1024, .f32⟩
  | .hbm, ⟨4, _⟩ => ⟨S8192x16, .f32⟩
  | .hbm, ⟨5, _⟩ => ⟨S8192x2048, .bf16⟩
  | .hbm, ⟨6, _⟩ => ⟨S16x512, .f32⟩
  | .hbm, ⟨7, _⟩ => ⟨S512, .f32⟩
  | .hbm, ⟨8, _⟩ => ⟨S256, .f32⟩
  | .hbm, ⟨9, _⟩ => ⟨S8192x1024, .f32⟩
  | .hbm, ⟨10, _⟩ => ⟨S8192x1024, .bf16⟩
  | .hbm, ⟨11, _⟩ => ⟨S128x4x256x128, .bf16⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S8192x1024, .f32⟩
  | .hbm, ⟨21, _⟩ => ⟨S8192x1024, .bf16⟩
  | .hbm, ⟨22, _⟩ => ⟨S8192x1024, .bf16⟩
  | .hbm, ⟨23, _⟩ => ⟨S8192x4096, .bf16⟩
  | .hbm, ⟨24, _⟩ => ⟨S_, .f32⟩
  | .hbm, ⟨25, _⟩ => ⟨S8192x112, .f32⟩
  | .hbm, ⟨26, _⟩ => ⟨S8192x128, .f32⟩
  | .hbm, ⟨27, _⟩ => ⟨S8192x128, .bf16⟩
  | .hbm, ⟨28, _⟩ => ⟨S16x512, .bf16⟩
  | .hbm, ⟨29, _⟩ => ⟨S_, .i32⟩
  | .hbm, ⟨30, _⟩ => ⟨S_, .bf16⟩
  | .hbm, ⟨31, _⟩ => ⟨S128x512, .bf16⟩
  | .hbm, ⟨32, _⟩ => ⟨S1x512, .f32⟩
  | .hbm, ⟨33, _⟩ => ⟨S1x256, .f32⟩
  | .hbm, ⟨34, _⟩ => ⟨S256, .i32⟩
  | .hbm, ⟨35, _⟩ => ⟨S256x1, .i32⟩
  | .hbm, ⟨36, _⟩ => ⟨S_, .i32⟩
  | .hbm, ⟨37, _⟩ => ⟨S_, .i32⟩
  | .hbm, ⟨38, _⟩ => ⟨S256x1, .i32⟩
  | .hbm, ⟨39, _⟩ => ⟨S256x1, .i32⟩
  | .hbm, ⟨40, _⟩ => ⟨S256x1, .i32⟩
  | .hbm, ⟨41, _⟩ => ⟨S_, .i32⟩
  | .hbm, ⟨42, _⟩ => ⟨S256x1, .i32⟩
  | .hbm, ⟨43, _⟩ => ⟨S256x1, .i1⟩
  | .hbm, ⟨44, _⟩ => ⟨S256x1, .i32⟩
  | .hbm, ⟨45, _⟩ => ⟨S256x1, .i32⟩
  | .hbm, ⟨46, _⟩ => ⟨S_, .i32⟩
  | .hbm, ⟨47, _⟩ => ⟨S256x1, .i32⟩
  | .hbm, ⟨48, _⟩ => ⟨S256x1, .i1⟩
  | .hbm, ⟨49, _⟩ => ⟨S256x1, .i1⟩
  | .hbm, ⟨50, _⟩ => ⟨S_, .i32⟩
  | .hbm, ⟨51, _⟩ => ⟨S256x1, .i32⟩
  | .hbm, ⟨52, _⟩ => ⟨S256x1, .i32⟩
  | .hbm, ⟨53, _⟩ => ⟨S256x1, .i32⟩
  | .hbm, ⟨54, _⟩ => ⟨S1x256, .i32⟩
  | .hbm, ⟨55, _⟩ => ⟨S_, .i32⟩
  | .hbm, ⟨56, _⟩ => ⟨S_, .i32⟩
  | .hbm, ⟨57, _⟩ => ⟨S1x256, .i32⟩
  | .hbm, ⟨58, _⟩ => ⟨S1x256, .i32⟩
  | .hbm, ⟨59, _⟩ => ⟨S1x256, .i32⟩
  | .hbm, ⟨60, _⟩ => ⟨S_, .i32⟩
  | .hbm, ⟨61, _⟩ => ⟨S1x256, .i32⟩
  | .hbm, ⟨62, _⟩ => ⟨S1x256, .i1⟩
  | .hbm, ⟨63, _⟩ => ⟨S1x256, .i32⟩
  | .hbm, ⟨64, _⟩ => ⟨S1x256, .i32⟩
  | .hbm, ⟨65, _⟩ => ⟨S_, .i32⟩
  | .hbm, ⟨66, _⟩ => ⟨S1x256, .i32⟩
  | .hbm, ⟨67, _⟩ => ⟨S1x256, .i1⟩
  | .hbm, ⟨68, _⟩ => ⟨S1x256, .i1⟩
  | .hbm, ⟨69, _⟩ => ⟨S_, .i32⟩
  | .hbm, ⟨70, _⟩ => ⟨S1x256, .i32⟩
  | .hbm, ⟨71, _⟩ => ⟨S1x256, .i32⟩
  | .hbm, ⟨72, _⟩ => ⟨S1x256, .i32⟩
  | .hbm, ⟨73, _⟩ => ⟨S256x256, .i32⟩
  | .hbm, ⟨74, _⟩ => ⟨S256x256, .i32⟩
  | .hbm, ⟨75, _⟩ => ⟨S256x256, .i1⟩
  | .hbm, ⟨76, _⟩ => ⟨S1x256, .i32⟩
  | .hbm, ⟨77, _⟩ => ⟨S256x1, .i32⟩
  | .hbm, ⟨78, _⟩ => ⟨S256x256, .i32⟩
  | .hbm, ⟨79, _⟩ => ⟨S256x256, .i32⟩
  | .hbm, ⟨80, _⟩ => ⟨S256x256, .i1⟩
  | .hbm, ⟨81, _⟩ => ⟨S256x256, .i1⟩
  | .hbm, ⟨82, _⟩ => ⟨S256x256, .bf16⟩
  | .hbm, ⟨83, _⟩ => ⟨S8192x1024, .bf16⟩
  | .hbm, ⟨84, _⟩ => ⟨S256x256, .bf16⟩
  | .hbm, ⟨85, _⟩ => ⟨S8192x1024, .bf16⟩
  | .hbm, ⟨86, _⟩ => ⟨S8192x1024, .bf16⟩
  | .hbm, ⟨87, _⟩ => ⟨S8192x1024, .bf16⟩
  | .hbm, ⟨88, _⟩ => ⟨S8192x512, .bf16⟩
  | .hbm, ⟨89, _⟩ => ⟨S8192x128, .bf16⟩
  | .hbm, ⟨90, _⟩ => ⟨S4x1x128, .f32⟩
  | .hbm, ⟨91, _⟩ => ⟨S1x256, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x128, .bf16⟩
  | .local _ .vmem, ⟨7, _⟩ => ⟨S256x128, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S4x4x256x128, .bf16⟩
  | .local _ .vmem, ⟨13, _⟩ => ⟨S4x4x256x128, .bf16⟩
  | .local _ .vmem, ⟨14, _⟩ => ⟨S128x512, .bf16⟩
  | .local _ .vmem, ⟨15, _⟩ => ⟨S1x512, .f32⟩
  | .local _ .vmem, ⟨16, _⟩ => ⟨S1x256, .f32⟩
  | .local _ .vmem, ⟨17, _⟩ => ⟨S256x256, .bf16⟩
  | .local _ .vmem, ⟨18, _⟩ => ⟨S256x256, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x512, .bf16⟩
  | .local _ .vmem, ⟨26, _⟩ => ⟨S256x512, .bf16⟩
  | .local _ .vmem, ⟨27, _⟩ => ⟨S256x128, .bf16⟩
  | .local _ .vmem, ⟨28, _⟩ => ⟨S256x128, .bf16⟩
  | .local _ .vmem, ⟨29, _⟩ => ⟨S4x1x128, .f32⟩
  | .local _ .vmem, ⟨30, _⟩ => ⟨S1x256, .f32⟩
  | .local _ .vmem, ⟨31, _⟩ => ⟨S4x256x128, .f32⟩
  | .local _ .vmem, ⟨32, _⟩ => ⟨S4x256x256, .f32⟩
  | .local _ .vmem, ⟨33, _⟩ => ⟨S4x256x128, .f32⟩
  | .local _ .vmem, ⟨34, _⟩ => ⟨S4x256x128, .f32⟩
  | .local _ .vmem, ⟨35, _⟩ => ⟨S4x4x1x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_call0_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_c : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_0 : Ref sig .tc := ⟨.hbm, 50, rfl⟩
abbrev main_call1_v12 : Ref sig .tc := ⟨.hbm, 51, rfl⟩
abbrev main_call1_v13 : Ref sig .tc := ⟨.hbm, 52, rfl⟩
abbrev main_v21 : Ref sig .tc := ⟨.hbm, 53, rfl⟩
abbrev main_v22 : Ref sig .tc := ⟨.hbm, 54, rfl⟩
abbrev main_c_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_c : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_0 : Ref sig .tc := ⟨.hbm, 69, rfl⟩
abbrev main_call2_v12 : Ref sig .tc := ⟨.hbm, 70, rfl⟩
abbrev main_call2_v13 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36_0 : Ref sig .tc := ⟨.hbm, 85, rfl⟩
abbrev main_v36_1 : Ref sig .tc := ⟨.hbm, 86, rfl⟩
abbrev main_v36_2 : Ref sig .tc := ⟨.hbm, 87, rfl⟩
abbrev main_v36_3 : Ref sig .tc := ⟨.hbm, 88, rfl⟩
abbrev main_v36_4 : Ref sig .tc := ⟨.hbm, 89, rfl⟩
abbrev main_v36_5 : Ref sig .tc := ⟨.hbm, 90, rfl⟩
abbrev main_v36_6 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg18_0 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_scratch4 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem18_0 : DmaSem sig := 30

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c0_i32 : BitVec 32 := 0#32
  let v1 : BitVec 32 := Scalar.addi c0_i32 arg1
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c2_i32 : BitVec 32 := 2#32
  let v1 : BitVec 32 := Scalar.addi c2_i32 arg1
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c3_i32 : BitVec 32 := 3#32
  let v1 : BitVec 32 := Scalar.addi c3_i32 arg1
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c0_i32 : BitVec 32 := 0#32
  let v1 : BitVec 32 := Scalar.addi c0_i32 arg1
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c0_i32 : BitVec 32 := 0#32
  let v1 : BitVec 32 := Scalar.addi c0_i32 arg1
  let c0_i32_0 : BitVec 32 := 0#32
  ![v0.toNat, v1.toNat]

def cc0_transform_6 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c0_i32 : BitVec 32 := 0#32
  let v1 : BitVec 32 := Scalar.addi c0_i32 arg1
  let c0_i32_0 : BitVec 32 := 0#32
  ![v0.toNat, v1.toNat]

def cc0_transform_13 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c0_i32 : BitVec 32 := 0#32
  let v1 : BitVec 32 := Scalar.addi c0_i32 arg1
  let c0_i32_0 : BitVec 32 := 0#32
  ![v0.toNat, v1.toNat]

def cc0_transform_14 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c0_i32 : BitVec 32 := 0#32
  let v1 : BitVec 32 := Scalar.addi c0_i32 arg1
  let c0_i32_0 : BitVec 32 := 0#32
  ![v0.toNat, v1.toNat]

def cc0_transform_15 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c0_i32 : BitVec 32 := 0#32
  ![v0.toNat, arg1.toNat]

def cc0_transform_16 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x4x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S256x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 1 → Memref sig .tc .vmem S4x1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]
-- ==== Kernel10.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S1024x4x1408 : Shape := ⟨3, ![1024, 4, 1408]⟩
abbrev S4x1024x1408 : Shape := ⟨3, ![4, 1024, 1408]⟩
abbrev S1x1024 : Shape := ⟨2, ![1, 1024]⟩
abbrev S1x5632 : Shape := ⟨2, ![1, 5632]⟩
abbrev S8192x2816 : Shape := ⟨2, ![8192, 2816]⟩
abbrev S512x1024 : Shape := ⟨2, ![512, 1024]⟩
abbrev S1x1024x1408 : Shape := ⟨3, ![1, 1024, 1408]⟩
abbrev S3x1408 : Shape := ⟨2, ![3, 1408]⟩
abbrev S1x1408 : Shape := ⟨2, ![1, 1408]⟩
abbrev S512x1408 : Shape := ⟨2, ![512, 1408]⟩
abbrev S2x2x8x1408 : Shape := ⟨4, ![2, 2, 8, 1408]⟩
abbrev S512 : Shape := ⟨1, ![512]⟩
abbrev S512x1 : Shape := ⟨2, ![512, 1]⟩
abbrev S2x8x1408 : Shape := ⟨3, ![2, 8, 1408]⟩
abbrev S1x2x8x1408 : Shape := ⟨4, ![1, 2, 8, 1408]⟩
abbrev S1024x1408 : Shape := ⟨2, ![1024, 1408]⟩
abbrev S1x1x8x1408 : Shape := ⟨4, ![1, 1, 8, 1408]⟩
abbrev S8x1408 : Shape := ⟨2, ![8, 1408]⟩
abbrev S520x1408 : Shape := ⟨2, ![520, 1408]⟩

abbrev nBuf : Space → Nat
  | .hbm => 16
  | .vmem => 29
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S1024x5632, .bf16⟩
  | .hbm, ⟨6, _⟩ => ⟨S1024x4x1408, .bf16⟩
  | .hbm, ⟨7, _⟩ => ⟨S4x1024x1408, .bf16⟩
  | .hbm, ⟨8, _⟩ => ⟨S1x1024, .f32⟩
  | .hbm, ⟨9, _⟩ => ⟨S1x5632, .f32⟩
  | .hbm, ⟨10, _⟩ => ⟨S8192x1024, .bf16⟩
  | .hbm, ⟨11, _⟩ => ⟨S8192x2816, .bf16⟩
  | .hbm, ⟨12, _⟩ => ⟨S8192x2816, .bf16⟩
  | .hbm, ⟨13, _⟩ => ⟨S8192x2816, .bf16⟩
  | .hbm, ⟨14, _⟩ => ⟨S8192x2816, .bf16⟩
  | .hbm, ⟨15, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S3x1408, .f32⟩
  | .local _ .vmem, ⟨8, _⟩ => ⟨S3x1408, .f32⟩
  | .local _ .vmem, ⟨9, _⟩ => ⟨S3x1408, .f32⟩
  | .local _ .vmem, ⟨10, _⟩ => ⟨S3x1408, .f32⟩
  | .local _ .vmem, ⟨11, _⟩ => ⟨S1x1408, .f32⟩
  | .local _ .vmem, ⟨12, _⟩ => ⟨S1x1408, .f32⟩
  | .local _ .vmem, ⟨13, _⟩ => ⟨S1x1408, .f32⟩
  | .local _ .vmem, ⟨14, _⟩ => ⟨S1x1408, .f32⟩
  | .local _ .vmem, ⟨15, _⟩ => ⟨S512x1024, .bf16⟩
  | .local _ .vmem, ⟨16, _⟩ => ⟨S512x1024, .bf16⟩
  | .local _ .vmem, ⟨17, _⟩ => ⟨S512x1408, .bf16⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S512x1408, .bf16⟩
  | .local _ .vmem, ⟨23, _⟩ => ⟨S512x1408, .bf16⟩
  | .local _ .vmem, ⟨24, _⟩ => ⟨S512x1408, .bf16⟩
  | .local _ .vmem, ⟨25, _⟩ => ⟨S512x1408, .bf16⟩
  | .local _ .vmem, ⟨26, _⟩ => ⟨S512x1408, .bf16⟩
  | .local _ .vmem, ⟨27, _⟩ => ⟨S512x1024, .bf16⟩
  | .local _ .vmem, ⟨28, _⟩ => ⟨S2x2x8x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev main_v5_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_off1 (i : grid0.Coords) : Fin 4 → Nat :=
  let arg1 : BitVec 32 := BitVec.ofNat 32 (i 1).val
  let v96 : Index := Scalar.indexCast arg1
  let c0_49 : Index := 0#32
  let c0_50 : Index := 0#32
  let c0_51 : Index := 0#32
  ![v96.toNat, 0, 0, 0]
def k0_off2 (i : grid0.Coords) : Fin 4 → Nat :=
  let arg1 : BitVec 32 := BitVec.ofNat 32 (i 1).val
  let v13 : Index := Scalar.indexCast arg1
  let c0_9 : Index := 0#32
  let c0_10 : Index := 0#32
  let c0_11 : Index := 0#32
  ![v13.toNat, 0, 0, 0]
def k0_off3 (i : grid0.Coords) : Fin 4 → Nat :=
  let arg1 : BitVec 32 := BitVec.ofNat 32 (i 1).val
  let v63 : Index := Scalar.indexCast arg1
  let c1 : Index := 1#32
  let c0_33 : Index := 0#32
  let c0_34 : Index := 0#32
  ![v63.toNat, 1, 0, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1408 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1408 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1408 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Kernel10Ideal.lean ====
variable {F : FTy → Type} [FloatOps F] [Named F]
def κ : String → Option EReal := fun
  | "gelu_2c" => some ((6693141 / 4194304 : ℝ) : EReal)
  | "gelu_6ca" => some ((241015141496493 / 1125899906842624 : ℝ) : EReal)
  | "gelu_a" => some ((12003091 / 268435456 : ℝ) : EReal)
  | "gelu_c" => some ((6693141 / 8388608 : ℝ) : EReal)
  | _ => none
-- ==== Reference10Ideal.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S1x8192x5632 : Shape := ⟨3, ![1, 8192, 5632]⟩
abbrev S1x8194x5632 : Shape := ⟨3, ![1, 8194, 5632]⟩
abbrev S1x5632 : Shape := ⟨2, ![1, 5632]⟩
abbrev S1x1x5632 : Shape := ⟨3, ![1, 1, 5632]⟩
abbrev S8192x2816 : Shape := ⟨2, ![8192, 2816]⟩

abbrev nBuf : Space → Nat
  | .hbm => 78
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x5632, .f32⟩
  | .hbm, ⟨22, _⟩ => ⟨S1x8192x5632, .f32⟩
  | .hbm, ⟨23, _⟩ => ⟨S_, .i32⟩
  | .hbm, ⟨24, _⟩ => ⟨S_, .f32⟩
  | .hbm, ⟨25, _⟩ => ⟨S1x8194x5632, .f32⟩
  | .hbm, ⟨26, _⟩ => ⟨S1x8192x5632, .f32⟩
  | .hbm, ⟨27, _⟩ => ⟨S1x5632, .f32⟩
  | .hbm, ⟨28, _⟩ => ⟨S5632, .f32⟩
  | .hbm, ⟨29, _⟩ => ⟨S1x1x5632, .f32⟩
  | .hbm, ⟨30, _⟩ => ⟨S1x8192x5632, .f32⟩
  | .hbm, ⟨31, _⟩ => ⟨S1x8192x5632, .f32⟩
  | .hbm, ⟨32, _⟩ => ⟨S1x1x5632, .f32⟩
  | .hbm, ⟨33, _⟩ => ⟨S1x8192x5632, .f32⟩
  | .hbm, ⟨34, _⟩ => ⟨S1x8192x5632, .f32⟩
  | .hbm, ⟨35, _⟩ => ⟨S1x8192x5632, .f32⟩
  | .hbm, ⟨36, _⟩ => ⟨S1x5632, .f32⟩
  | .hbm, ⟨37, _⟩ => ⟨S5632, .f32⟩
  | .hbm, ⟨38, _⟩ => ⟨S1x1x5632, .f32⟩
  | .hbm, ⟨39, _⟩ => ⟨S1x8192x5632, .f32⟩
  | .hbm, ⟨40, _⟩ => ⟨S1x8192x5632, .f32⟩
  | .hbm, ⟨41, _⟩ => ⟨S1x8192x5632, .f32⟩
  | .hbm, ⟨42, _⟩ => ⟨S1x8192x5632, .f32⟩
  | .hbm, ⟨43, _⟩ => ⟨S1x5632, .f32⟩
  | .hbm, ⟨44, _⟩ => ⟨S5632, .f32⟩
  | .hbm, ⟨45, _⟩ => ⟨S1x1x5632, .f32⟩
  | .hbm, ⟨46, _⟩ => ⟨S1x8192x5632, .f32⟩
  | .hbm, ⟨47, _⟩ => ⟨S1x8192x5632, .f32⟩
  | .hbm, ⟨48, _⟩ => ⟨S1x8192x5632, .f32⟩
  | .hbm, ⟨49, _⟩ => ⟨S8192x5632, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S_, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S_, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S_, .f32⟩
  | .hbm, ⟨63, _⟩ => ⟨S8192x2816, .f32⟩
  | .hbm, ⟨64, _⟩ => ⟨S8192x2816, .f32⟩
  | .hbm, ⟨65, _⟩ => ⟨S_, .f32⟩
  | .hbm, ⟨66, _⟩ => ⟨S8192x2816, .f32⟩
  | .hbm, ⟨67, _⟩ => ⟨S8192x2816, .f32⟩
  | .hbm, ⟨68, _⟩ => ⟨S8192x2816, .f32⟩
  | .hbm, ⟨69, _⟩ => ⟨S8192x2816, .f32⟩
  | .hbm, ⟨70, _⟩ => ⟨S8192x2816, .f32⟩
  | .hbm, ⟨71, _⟩ => ⟨S8192x2816, .f32⟩
  | .hbm, ⟨72, _⟩ => ⟨S8192x1024, .bf16⟩
  | .hbm, ⟨73, _⟩ => ⟨S8192x2816, .bf16⟩
  | .hbm, ⟨74, _⟩ => ⟨S8192x2816, .bf16⟩
  | .hbm, ⟨75, _⟩ => ⟨S8192x2816, .bf16⟩
  | .hbm, ⟨76, _⟩ => ⟨S8192x2816, .bf16⟩
  | .hbm, ⟨77, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_2 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_3 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_4 : Ref sig .tc := ⟨.hbm, 62, rfl⟩
abbrev main_v50 : Ref sig .tc := ⟨.hbm, 63, rfl⟩
abbrev main_v51 : Ref sig .tc := ⟨.hbm, 64, rfl⟩
abbrev main_cst_5 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩

abbrev nD : Nat := 1
abbrev τ : Topo := Topo.v7x

variable {F : FTy → Type} [FloatOps F]
-- ==== Proof.Reals.lean ====
/- Finite extended reals: the closure facts and the constants that the value proofs share. -/
module

public import Idealize.ShloMosaic.PureOps.Ideal
public import Idealize.ShloMosaic.PureOps.Ideal.Laws

@[expose] public section

noncomputable section

namespace Cert.Reals

open Idealize.ShloMosaic

/-- An extended real that is a real number. -/
def IsReal (x : EReal) : Prop := ∃ r : ℝ, x = (r : EReal)

/-- A family of finite extended reals is the image of a family of real numbers. -/
theorem exists_fun {ι : Type*} {x : ι → EReal} (h : ∀ i, IsReal (x i)) : ∃ X : ι → ℝ, ∀ i, x i = (X i : EReal) :=
  ⟨fun i => (h i).choose, fun i => (h i).choose_spec⟩

/-- The embedding of the reals goes through a finite sum. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

theorem IsReal.coe (r : ℝ) : IsReal (r : EReal) := ⟨r, rfl⟩

theorem IsReal.zero : IsReal 0 := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type*} {s : Finset ι} {f : ι → EReal} (h : ∀ i, IsReal (f i)) : IsReal (∑ i ∈ s, f i) := by
  obtain ⟨X, hX⟩ := exists_fun h
  exact ⟨∑ i ∈ s, X i, by rw [coe_sum]; exact Finset.sum_congr rfl fun i _ => hX i⟩

/-- The absolute value below infinity, as a comparison word, says the number is real. -/
theorem isReal_of_abs_lt {x : EReal} (h : max x (-x) < ⊤) : IsReal x := by
  induction x with
  | bot => simp at h
  | top => simp at h
  | coe r => exact ⟨r, rfl⟩

theorem ofBits_inf : Ideal.ofBits .f32 0x7F800000#32 = ⊤ := by simp [Ideal.ofBits, Ideal.ieee]

theorem ofBits_1024 : Ideal.ofBits .f32 0x44800000#32 = ((1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

/-- The number the normalisations add under the root, as a real. -/
def eps : ℝ := 8796093 / 2 ^ 43

theorem eps_pos : 0 < eps := by unfold eps; norm_num

theorem ofBits_eps : Ideal.ofBits .f32 0x358637BD#32 = (eps : EReal) := by
  simp [Ideal.ofBits, Ideal.ieee, -EReal.coe_mul, eps]; norm_num

/-- Division of real numbers. -/
theorem div_real {y : ℝ} (h : y ≠ 0) (x : ℝ) : Ideal.div (x : EReal) (y : EReal) = ((x / y : ℝ) : EReal) := by
  rw [Ideal.div_coe h, ← EReal.coe_mul]
  congr 1
  ring

/-- The inverse root of a positive real number. -/
theorem rsqrt_real {y : ℝ} (h : 0 < y) : Ideal.rsqrt (y : EReal) = (((Real.sqrt y)⁻¹ : ℝ) : EReal) := by
  rw [Ideal.rsqrt_coe, if_neg (not_lt.2 h.le), if_neg h.ne']

/-- The sigmoid of any extended real is real. -/
theorem logistic_real (z : EReal) : IsReal (Ideal.logistic z) := by
  induction z with
  | bot => exact ⟨0, by
      rw [Ideal.logistic, EReal.neg_bot, Ideal.exp_top, show (1 : EReal) + ⊤ = ⊤ from rfl, Ideal.div, if_neg (by decide), EReal.inv_top, mul_zero, EReal.coe_zero]⟩
  | top => exact ⟨1, by simp [Ideal.logistic, Ideal.div]⟩
  | coe r => exact ⟨_, Ideal.logistic_coe r⟩

theorem IsReal.one : IsReal 1 := ⟨1, EReal.coe_one.symm⟩

theorem ofBits_inv1024 : Ideal.ofBits .f32 0x3A800000#32 = ((1 / 1024 : ℝ) : EReal) := by
  simp [Ideal.ofBits, Ideal.ieee, -EReal.coe_mul]; norm_num

theorem ofBits_inv2048 : Ideal.ofBits .f32 0x3A000000#32 = ((1 / 2048 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

/-- A square is not negative, infinite or not. -/
theorem mul_self_nonneg_ext (x : EReal) : 0 ≤ x * x := by
  rcases le_total 0 x with h | h
  · exact EReal.mul_nonneg h h
  · exact EReal.mul_nonneg_iff.2 (.inr ⟨h, h⟩)

theorem sum_sq_nonneg {ι : Type*} {s : Finset ι} (f : ι → EReal) : 0 ≤ ∑ i ∈ s, f i * f i :=
  Finset.sum_nonneg fun i _ => mul_self_nonneg_ext (f i)

/-- A product goes into a sum of terms none of which is negative. -/
theorem mul_sum_nonneg {ι : Type*} {s : Finset ι} {f : ι → EReal} {c : EReal} (h : ∀ i, 0 ≤ f i) : c * ∑ i ∈ s, f i = ∑ i ∈ s, c * f i := by
  classical
  induction s using Finset.induction_on with
  | empty => simp
  | insert a s ha ih =>
    rw [Finset.sum_insert ha, Finset.sum_insert ha, EReal.left_distrib_of_nonneg (h a) (Finset.sum_nonneg fun i _ => h i), ih]

/-- A division by a positive real keeps the sign. -/
theorem div_nonneg_of_pos {x y : EReal} {c : ℝ} (hy : y = (c : EReal)) (hc : 0 < c) (h : 0 ≤ x) : 0 ≤ Ideal.div x y := by
  rw [hy, Ideal.div_coe hc.ne']
  exact EReal.mul_nonneg h (EReal.coe_nonneg.2 (one_div_pos.2 hc).le)

/-- The gradient of one row of a normalisation by the root of the mean square, in the two ways it is written: on the left
    with the normalised row and one mean, on the right as the derivatives of the square, the mean, the root and the product
    one after another. -/
theorem rms_row {n : ℕ} (x d : Fin n → EReal) (res : EReal) (hx : ∀ k, IsReal (x k)) (hd : ∀ k, IsReal (d k)) (l : Fin n)
    (u r q : EReal)
    (hu : u = Ideal.div (∑ k, x k * x k) (Ideal.ofBits .f32 0x44800000#32) + Ideal.ofBits .f32 0x358637BD#32)
    (hr : r = Ideal.rsqrt u)
    (hq : q = Ideal.div ((∑ k, x k * d k) * (Ideal.ofBits .f32 0xBF000000#32 * Ideal.div r u)) (Ideal.ofBits .f32 0x44800000#32)) :
    res + r * (d l - x l * r * Ideal.div (∑ k, d k * (x k * r)) (Ideal.ofBits .f32 0x44800000#32))
      = res + d l * r + x l * q + q * x l := by
  obtain ⟨X, hX⟩ := exists_fun hx
  obtain ⟨D, hD⟩ := exists_fun hd
  have hU : u = (((∑ k, X k * X k) / 1024 + eps : ℝ) : EReal) := by
    rw [hu, ofBits_1024, ofBits_eps, EReal.coe_add, ← div_real (by norm_num), coe_sum]
    simp only [hX, EReal.coe_mul]
  set U : ℝ := (∑ k, X k * X k) / 1024 + eps with hUdef
  have hpos : 0 < U := add_pos_of_nonneg_of_pos (div_nonneg (Finset.sum_nonneg fun k _ => mul_self_nonneg _) (by norm_num)) eps_pos
  have hs : 0 < Real.sqrt U := Real.sqrt_pos.2 hpos
  have hR : r = (((Real.sqrt U)⁻¹ : ℝ) : EReal) := by rw [hr, hU, rsqrt_real hpos]
  have hQ : q = (((∑ k, X k * D k) * (-(1 / 2) * ((Real.sqrt U)⁻¹ / U)) / 1024 : ℝ) : EReal) := by
    rw [hq, hR, hU, ofBits_1024, ofBits_neg_half, div_real hpos.ne', ← EReal.coe_mul, ← div_real (by norm_num), EReal.coe_mul (∑ k, X k * D k), coe_sum]
    simp only [hX, hD, EReal.coe_mul]
  have hM : Ideal.div (∑ k, d k * (x k * r)) (Ideal.ofBits .f32 0x44800000#32)
      = (((∑ k, X k * D k) * (Real.sqrt U)⁻¹ / 1024 : ℝ) : EReal) := by
    rw [ofBits_1024, ← div_real (by norm_num), Finset.sum_mul, coe_sum]
    refine congrArg (fun a => Ideal.div a _) (Finset.sum_congr rfl fun k _ => ?_)
    rw [hX, hD, hR, ← EReal.coe_mul, ← EReal.coe_mul]
    congr 1
    ring
  rw [hM, hQ, hR, hX, hD, add_assoc, add_assoc]
  refine congrArg (res + ·) ?_
  simp only [← EReal.coe_mul, ← EReal.coe_sub, ← EReal.coe_add]
  congr 1
  have hU2 : U = Real.sqrt U * Real.sqrt U := (Real.mul_self_sqrt hpos.le).symm
  generalize Real.sqrt U = s at *
  rw [hU2]
  field_simp
  ring

end Cert.Reals

end
-- ==== Proof.InPre.lean ====
/- What the precondition of the first claim says: its arguments are real numbers. -/
module

public import proofs.«01_k».proof.Pre_finite
public import proofs.«01_k».proof.Proof.Reals
public import Idealize.ShloMosaic.Lib.ReduceAll
import Idealize.ShloMosaic.Lib.Pointwise

@[expose] public section

set_option maxRecDepth 16384

noncomputable section

namespace Cert.Reals

open Idealize.ShloMosaic

/-- One factor of a precondition: an array all of whose absolute values compare below infinity is real. -/
theorem isReal_of_all {s t u : Shape} [Subsingleton t.Idx] {axes : List (Fin s.rank)} (x b : FVec Ideal s .f32) (init : IVec u 1)
    (h : s.ReducesTo axes t) (hu : 0 < u.numel) (j : t.Idx) (hb : ∀ i, b i = (⊤ : EReal))
    (e : Host.reduce IntOp.andi (cmpf .olt (Host.absf x) b) init h hu j = 1#1) (i : s.Idx) : IsReal (x i) := by
  have e' := Host.reduce_andi_all (cmpf .olt (Host.absf x) b) init h hu j e i
  pointwise at e'
  rw [hb] at e'
  refine isReal_of_abs_lt ?_
  by_contra hc
  exact absurd ((congrArg BitVec.ofBool (decide_eq_false hc)).symm.trans e') (by decide)

theorem andi_eq_one {a b : BitVec 1} (h : IntOp.andi a b = 1#1) : a = 1#1 ∧ b = 1#1 := by
  revert a b; decide

/-- Every argument the precondition names is real at every index. -/
theorem inPre [Cert.Pre_finite.Facts] {x0 x1 x2 x3 x4 x5 x6 x7 x8 x9 x10 x11 x12}
    (h : Cert.Pre_finite.fn (F := Ideal) x0 x1 x2 x3 x4 x5 x6 x7 x8 x9 x10 x11 x12 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) ∧ (∀ i, IsReal (x6 i)) ∧ (∀ i, IsReal (x7 i)) ∧ (∀ i, IsReal (x8 i)) ∧ (∀ i, IsReal (x9 i))
      ∧ (∀ i, IsReal (x10 i)) ∧ (∀ i, IsReal (x11 i)) := by
  have h := congrFun h (ix0)
  obtain ⟨h, h11⟩ := andi_eq_one h
  obtain ⟨h, h10⟩ := andi_eq_one h
  obtain ⟨h, h9⟩ := andi_eq_one h
  obtain ⟨h, h8⟩ := andi_eq_one h
  obtain ⟨h, h7⟩ := andi_eq_one h
  obtain ⟨h, h6⟩ := andi_eq_one h
  obtain ⟨h, h5⟩ := andi_eq_one h
  obtain ⟨h, h4⟩ := andi_eq_one h
  obtain ⟨h, h3⟩ := andi_eq_one h
  obtain ⟨h, h2⟩ := andi_eq_one h
  obtain ⟨h0, h1⟩ := andi_eq_one h
  have : Subsingleton Cert.Pre_finite.S_.Idx := ⟨fun a b => funext fun k => k.elim0⟩
  have hb {s : Shape} (hs : Cert.Pre_finite.S_.BroadcastsInDim s (![] : Fin 0 → Fin s.rank)) (i : s.Idx) :
      broadcastInDim s ![] hs (constant (F := Ideal) Cert.Pre_finite.S_ .f32 0x7F800000#32) i = (⊤ : EReal) := ofBits_inf
  exact ⟨isReal_of_all _ _ _ _ _ _ (hb _) h0, isReal_of_all _ _ _ _ _ _ (hb _) h1, isReal_of_all _ _ _ _ _ _ (hb _) h2,
    isReal_of_all _ _ _ _ _ _ (hb _) h3, isReal_of_all _ _ _ _ _ _ (hb _) h4, isReal_of_all _ _ _ _ _ _ (hb _) h5,
    isReal_of_all _ _ _ _ _ _ (hb _) h6, isReal_of_all _ _ _ _ _ _ (hb _) h7, isReal_of_all _ _ _ _ _ _ (hb _) h8,
    isReal_of_all _ _ _ _ _ _ (hb _) h9, isReal_of_all _ _ _ _ _ _ (hb _) h10, isReal_of_all _ _ _ _ _ _ (hb _) h11⟩

end Cert.Reals

end
-- ==== Proof.InCols.lean ====
/- The columns of the first claim's product: the order in which the kernel packs them, and the cotangent at a column. -/
module

public import Idealize.ShloMosaic.Lib.Pointwise
public import Idealize.ShloMosaic.PureOps.Ideal

@[expose] public section

set_option maxRecDepth 16384

noncomputable section

namespace Cert.InCols

open Idealize.ShloMosaic

/-- The column of the unpacked product that packed column `k` holds: the first two parts stay, the heads of the next two
    parts alternate, the low-rank part comes last, then padding. -/
def col (k : ℕ) : ℕ :=
  if k < 1024 then k
  else if k < 2048 then 1024 + (k - 1024) / 256 * 128 + (k - 1024) % 256 / 128 * 512 + (k - 1024) % 128
  else if k < 4096 then k
  else if k < 6144 then k + 16
  else if k < 6160 then k - 2048
  else k

theorem col_lt {k : ℕ} (h : k < 6272) : col k < 6272 := by
  unfold col
  split_ifs <;> omega

theorem col_inj {k l : ℕ} (h : col k = col l) : k = l := by
  unfold col at h
  split_ifs at h <;> omega

/-- A sum over the packed columns is the sum over the columns in their own order. -/
theorem sum_col (f : ℕ → EReal) : ∑ k : Fin 6272, f (col k) = ∑ n : Fin 6272, f n := by
  have hinj : Function.Injective fun k : Fin 6272 => (⟨col k, col_lt k.isLt⟩ : Fin 6272) :=
    fun k l h => Fin.ext (col_inj (Fin.mk.inj h))
  exact Fintype.sum_bijective _ (Finite.injective_iff_bijective.1 hinj) _ _ fun k => rfl

abbrev A512 : Type := FVec Ideal ⟨2, ![8192, 512]⟩ .f32
abbrev A1024 : Type := FVec Ideal ⟨2, ![8192, 1024]⟩ .f32
abbrev A16 : Type := FVec Ideal ⟨2, ![8192, 16]⟩ .f32
abbrev W6160 : Type := FVec Ideal ⟨2, ![1024, 6160]⟩ .f32

/-- The cotangent of column `n` of row `r`, part by part; nothing beyond the last column. -/
def dz (a3 a4 a5 a6 : A512) (a7 a8 : A1024) (a9 : A16) (a10 a11 : A1024) (r : Fin 8192) (n : ℕ) : EReal :=
  if h : n < 512 then a3 (ix2 r ⟨n, h⟩)
  else if h : n < 1024 then a4 (ix2 r ⟨n - 512, by omega⟩)
  else if h : n < 1536 then a5 (ix2 r ⟨n - 1024, by omega⟩)
  else if h : n < 2048 then a6 (ix2 r ⟨n - 1536, by omega⟩)
  else if h : n < 3072 then a7 (ix2 r ⟨n - 2048, by omega⟩)
  else if h : n < 4096 then a8 (ix2 r ⟨n - 3072, by omega⟩)
  else if h : n < 4112 then a9 (ix2 r ⟨n - 4096, by omega⟩)
  else if h : n < 5136 then a10 (ix2 r ⟨n - 4112, by omega⟩)
  else if h : n < 6160 then a11 (ix2 r ⟨n - 5136, by omega⟩)
  else 0

section
variable (a3 a4 a5 a6 : A512) (a7 a8 : A1024) (a9 : A16) (a10 a11 : A1024) (r : Fin 8192) {n i : ℕ}

theorem dz_3 (hi : i < 512) (h : n = 0 + i) : a3 (ix2 r ⟨i, hi⟩) = dz a3 a4 a5 a6 a7 a8 a9 a10 a11 r n := by
  subst h
  unfold dz
  simp (disch := omega) only [dif_pos, dif_neg, Nat.add_sub_cancel_left, Nat.zero_add]

theorem dz_4 (hi : i < 512) (h : n = 512 + i) : a4 (ix2 r ⟨i, hi⟩) = dz a3 a4 a5 a6 a7 a8 a9 a10 a11 r n := by
  subst h
  unfold dz
  simp (disch := omega) only [dif_pos, dif_neg, Nat.add_sub_cancel_left, Nat.zero_add]

theorem dz_5 (hi : i < 512) (h : n = 1024 + i) : a5 (ix2 r ⟨i, hi⟩) = dz a3 a4 a5 a6 a7 a8 a9 a10 a11 r n := by
  subst h
  unfold dz
  simp (disch := omega) only [dif_pos, dif_neg, Nat.add_sub_cancel_left, Nat.zero_add]

theorem dz_6 (hi : i < 512) (h : n = 1536 + i) : a6 (ix2 r ⟨i, hi⟩) = dz a3 a4 a5 a6 a7 a8 a9 a10 a11 r n := by
  subst h
  unfold dz
  simp (disch := omega) only [dif_pos, dif_neg, Nat.add_sub_cancel_left, Nat.zero_add]

theorem dz_7 (hi : i < 1024) (h : n = 2048 + i) : a7 (ix2 r ⟨i, hi⟩) = dz a3 a4 a5 a6 a7 a8 a9 a10 a11 r n := by
  subst h
  unfold dz
  simp (disch := omega) only [dif_pos, dif_neg, Nat.add_sub_cancel_left, Nat.zero_add]

theorem dz_8 (hi : i < 1024) (h : n = 3072 + i) : a8 (ix2 r ⟨i, hi⟩) = dz a3 a4 a5 a6 a7 a8 a9 a10 a11 r n := by
  subst h
  unfold dz
  simp (disch := omega) only [dif_pos, dif_neg, Nat.add_sub_cancel_left, Nat.zero_add]

theorem dz_9 (hi : i < 16) (h : n = 4096 + i) : a9 (ix2 r ⟨i, hi⟩) = dz a3 a4 a5 a6 a7 a8 a9 a10 a11 r n := by
  subst h
  unfold dz
  simp (disch := omega) only [dif_pos, dif_neg, Nat.add_sub_cancel_left, Nat.zero_add]

theorem dz_10 (hi : i < 1024) (h : n = 4112 + i) : a10 (ix2 r ⟨i, hi⟩) = dz a3 a4 a5 a6 a7 a8 a9 a10 a11 r n := by
  subst h
  unfold dz
  simp (disch := omega) only [dif_pos, dif_neg, Nat.add_sub_cancel_left, Nat.zero_add]

theorem dz_11 (hi : i < 1024) (h : n = 5136 + i) : a11 (ix2 r ⟨i, hi⟩) = dz a3 a4 a5 a6 a7 a8 a9 a10 a11 r n := by
  subst h
  unfold dz
  simp (disch := omega) only [dif_pos, dif_neg, Nat.add_sub_cancel_left, Nat.zero_add]

theorem dz_end (h : 6160 ≤ n) : 0 = dz a3 a4 a5 a6 a7 a8 a9 a10 a11 r n := by
  unfold dz
  simp (disch := omega) only [dif_neg]

end

/-- Row `j` of the weight at column `n`; nothing beyond the last column. -/
def wcol (w : W6160) (j : Fin 1024) (n : ℕ) : EReal := if h : n < 6160 then w (ix2 j ⟨n, h⟩) else 0

theorem wcol_eq (w : W6160) (j : Fin 1024) {n i : ℕ} (hi : i < 6160) (h : n = i) : w (ix2 j ⟨i, hi⟩) = wcol w j n := by
  subst h
  rw [wcol, dif_pos hi]

theorem wcol_end (w : W6160) (j : Fin 1024) {n : ℕ} (h : 6160 ≤ n) : 0 = wcol w j n := by
  rw [wcol, dif_neg (by omega)]

/-- The cotangent of the normalised input: the product with the weight's transpose. -/
def dy (a3 a4 a5 a6 : A512) (a7 a8 : A1024) (a9 : A16) (a10 a11 : A1024) (w : W6160) (r : Fin 8192) (j : Fin 1024) : EReal :=
  ∑ n : Fin 6160, dz a3 a4 a5 a6 a7 a8 a9 a10 a11 r n * w (ix2 j n)

/-- The packed product is the product. -/
theorem packed (a3 a4 a5 a6 : A512) (a7 a8 : A1024) (a9 : A16) (a10 a11 : A1024) (w : W6160) (r : Fin 8192) (j : Fin 1024) :
    ∑ k : Fin 6272, dz a3 a4 a5 a6 a7 a8 a9 a10 a11 r (col k) * wcol w j (col k)
      = dy a3 a4 a5 a6 a7 a8 a9 a10 a11 w r j := by
  rw [sum_col fun n => dz a3 a4 a5 a6 a7 a8 a9 a10 a11 r n * wcol w j n,
    Fin.sum_univ_two_halves 6160 112 rfl fun k => dz a3 a4 a5 a6 a7 a8 a9 a10 a11 r k * wcol w j k]
  have h2 : ∑ k : Fin 112, dz a3 a4 a5 a6 a7 a8 a9 a10 a11 r (6160 + k) * wcol w j (6160 + k) = 0 :=
    Finset.sum_eq_zero fun k _ => by rw [wcol, dif_neg (by omega), mul_zero]
  refine (congrArg (_ + ·) h2).trans ((add_zero _).trans (Finset.sum_congr rfl fun n _ => ?_))
  show _ * wcol w j n = _
  rw [wcol, dif_pos n.isLt]

/-- A sum over the packed columns, cut at the packed parts. -/
theorem cut7 (f : Fin 6272 → EReal) : ∑ k, f k
    = ∑ k : Fin 1024, f ⟨k, by omega⟩ + (∑ k : Fin 1024, f ⟨1024 + k, by omega⟩ + (∑ k : Fin 1024, f ⟨2048 + k, by omega⟩
      + (∑ k : Fin 1024, f ⟨3072 + k, by omega⟩ + (∑ k : Fin 1024, f ⟨4096 + k, by omega⟩ + (∑ k : Fin 1024, f ⟨5120 + k, by omega⟩
      + ∑ k : Fin 128, f ⟨6144 + k, by omega⟩))))) := by
  rw [Fin.sum_univ_two_halves 1024 5248 rfl f, Fin.sum_univ_two_halves 1024 4224 rfl (fun k : Fin 5248 => f ⟨1024 + k, _⟩),
    Fin.sum_univ_two_halves 1024 3200 rfl (fun k : Fin 4224 => f ⟨1024 + (1024 + k), _⟩),
    Fin.sum_univ_two_halves 1024 2176 rfl (fun k : Fin 3200 => f ⟨1024 + (1024 + (1024 + k)), _⟩),
    Fin.sum_univ_two_halves 1024 1152 rfl (fun k : Fin 2176 => f ⟨1024 + (1024 + (1024 + (1024 + k))), _⟩),
    Fin.sum_univ_two_halves 1024 128 rfl (fun k : Fin 1152 => f ⟨1024 + (1024 + (1024 + (1024 + (1024 + k)))), _⟩)]
  simp only [← add_assoc, Nat.reduceAdd]

end Cert.InCols

end
-- ==== Proof.RowGrad.lean ====
/- The gradient of a row's root-mean-square norm: the closed form the kernel stores, and its agreement with the derivative
   taken term by term. -/
module

public import proofs.«01_k».proof.Proof.Reals
public import Idealize.ShloMosaic.Lib.Pointwise

@[expose] public section

noncomputable section

namespace Cert.RowGrad

open Idealize.ShloMosaic Cert.Reals

abbrev Rows : Type := FVec Ideal ⟨2, ![8192, 1024]⟩ .f32
abbrev Gain : Type := FVec Ideal ⟨1, ![1024]⟩ .f32

/-- A row's mean square, with the small constant that keeps it positive. -/
def ms (x : Rows) (r : Fin 8192) : EReal :=
  Ideal.div (∑ k : Fin 1024, x (ix2 r k) * x (ix2 r k)) (Ideal.ofBits .f32 0x44800000#32) + Ideal.ofBits .f32 0x358637BD#32

/-- The inverse root of a row's mean square. -/
def rs (x : Rows) (r : Fin 8192) : EReal := Ideal.rsqrt (ms x r)

/-- One element of the gradient of the norm's input, from the gradient `d` of the scaled row. -/
def dxRow (x : Rows) (g : Gain) (d : Fin 8192 → Fin 1024 → EReal) (r : Fin 8192) (l : Fin 1024) : EReal :=
  rs x r * (d r l * g (ix1 l) - x (ix2 r l) * rs x r
    * Ideal.div (∑ k : Fin 1024, d r k * g (ix1 k) * (x (ix2 r k) * rs x r)) (Ideal.ofBits .f32 0x44800000#32))

/-- The same element with the residual's gradient added. -/
def dxAt (x res : Rows) (g : Gain) (d : Fin 8192 → Fin 1024 → EReal) (r : Fin 8192) (l : Fin 1024) : EReal :=
  res (ix2 r l) + dxRow x g d r l

/-- The row's term of the gain's gradient. -/
def dgAt (x : Rows) (d : Fin 8192 → Fin 1024 → EReal) (r : Fin 8192) (l : Fin 1024) : EReal := d r l * (x (ix2 r l) * rs x r)

/-- The derivative through the mean square, before it meets the row's elements. -/
def q (x : Rows) (g : Gain) (d : Fin 8192 → Fin 1024 → EReal) (r : Fin 8192) : EReal :=
  Ideal.div ((∑ k : Fin 1024, x (ix2 r k) * (d r k * g (ix1 k))) * (Ideal.ofBits .f32 0xBF000000#32 * Ideal.div (rs x r) (ms x r)))
    (Ideal.ofBits .f32 0x44800000#32)

/-- On a finite row the derivative taken term by term is the closed form. -/
theorem dxAt_eq (x res : Rows) (g : Gain) (d : Fin 8192 → Fin 1024 → EReal) (r : Fin 8192) (l : Fin 1024)
    (hx : ∀ k, IsReal (x (ix2 r k))) (hd : ∀ k, IsReal (d r k * g (ix1 k))) :
    res (ix2 r l) + d r l * g (ix1 l) * rs x r + x (ix2 r l) * q x g d r + q x g d r * x (ix2 r l) = dxAt x res g d r l :=
  (rms_row (fun k => x (ix2 r k)) (fun k => d r k * g (ix1 k)) (res (ix2 r l)) hx hd l (ms x r) (rs x r) (q x g d r) rfl rfl rfl).symm

/-- The same without a residual. -/
theorem dxRow_eq (x : Rows) (g : Gain) (d : Fin 8192 → Fin 1024 → EReal) (r : Fin 8192) (l : Fin 1024)
    (hx : ∀ k, IsReal (x (ix2 r k))) (hd : ∀ k, IsReal (d r k * g (ix1 k))) :
    d r l * g (ix1 l) * rs x r + x (ix2 r l) * q x g d r + q x g d r * x (ix2 r l) = dxRow x g d r l := by
  have h := dxAt_eq x (fun _ => (0 : EReal)) g d r l hx hd
  unfold dxAt at h
  simpa only [zero_add] using h

/-- A row's mean square with the small constant is a positive real where the row is real. -/
theorem ms_real (x : Rows) (r : Fin 8192) (hx : ∀ k, IsReal (x (ix2 r k))) : ∃ u : ℝ, 0 < u ∧ ms x r = (u : EReal) := by
  obtain ⟨X, hX⟩ := exists_fun hx
  refine ⟨(∑ k, X k * X k) / 1024 + eps, add_pos_of_nonneg_of_pos (div_nonneg (Finset.sum_nonneg fun k _ => mul_self_nonneg _) (by norm_num)) eps_pos, ?_⟩
  rw [ms, ofBits_1024, ofBits_eps, EReal.coe_add, ← div_real (by norm_num), coe_sum]
  simp only [hX, EReal.coe_mul]

theorem rs_real (x : Rows) (r : Fin 8192) (hx : ∀ k, IsReal (x (ix2 r k))) : IsReal (rs x r) := by
  obtain ⟨u, hu, e⟩ := ms_real x r hx
  exact ⟨_, (congrArg Ideal.rsqrt e).trans (rsqrt_real hu)⟩

/-- The gradient of a real row is real. -/
theorem dxRow_real (x : Rows) (g : Gain) (d : Fin 8192 → Fin 1024 → EReal) (r : Fin 8192) (l : Fin 1024)
    (hx : ∀ k, IsReal (x (ix2 r k))) (hd : ∀ k, IsReal (d r k * g (ix1 k))) : IsReal (dxRow x g d r l) := by
  have h := rs_real x r hx
  refine h.mul ((hd l).sub (((hx l).mul h).mul ?_))
  obtain ⟨s, e⟩ := IsReal.sum (s := Finset.univ) fun k => (hd k).mul ((hx k).mul h)
  exact ⟨s / 1024, by rw [e, ofBits_1024, div_real (by norm_num)]⟩

/-- A sum over blocks of consecutive rows, one block for each grid point, is the sum over the rows. -/
theorem sum_blocks {N n L : ℕ} (hL : N * n = L) (F : Fin L → EReal) (row : Fin N → Fin n → Fin L)
    (hrow : ∀ t k, (row t k).val = n * t.val + k.val) : ∑ t, ∑ k, F (row t k) = ∑ l, F l := by
  rw [Fin.sum_univ_tiles N n hL F]
  refine Finset.sum_congr rfl fun t _ => Finset.sum_congr rfl fun k _ => congrArg F (Fin.ext ?_)
  rw [hrow, Nat.mul_comm]

end Cert.RowGrad

end
-- ==== Proof.InRef.lean ====
/- The first claim's reference, read at an index. -/
module

public import proofs.«01_k».proof.Proof.InCols
public import proofs.«01_k».proof.Proof.RowGrad
public import proofs.«01_k».proof.Proof.Gen.ReferenceIdeal.Read

@[expose] public section

set_option maxRecDepth 16384

noncomputable section

namespace Cert.InRef

open Idealize.ShloMosaic Idealize.ShloMosaic.TcCoe Idealize.SL.Sem
open Cert.ReferenceIdeal Cert.ReferenceIdeal.Gen Cert.ReferenceIdeal.Read Cert.InCols Cert.RowGrad Cert.Reals

variable (x : A1024) (w : W6160) (g : FVec Ideal ⟨1, ![1024]⟩ .f32) (a3 a4 a5 a6 : A512) (a7 a8 : A1024) (a9 : A16) (a10 a11 a12 : A1024)

/-- The padded cotangents' sum at a column is the cotangent that owns the column. -/
theorem padsum (r : Fin 8192) (n : Fin 6160) :
    val_main_v42 (F := Ideal) a3 a4 a5 a6 a7 a8 a9 a10 a11 (ix2 r n) = dz a3 a4 a5 a6 a7 a8 a9 a10 a11 r n := by
  pointwise [val_main_v42, val_main_v41, val_main_v40, val_main_v39, val_main_v38, val_main_v37, val_main_v36, val_main_v35, val_main_v34,
    val_main_v33, val_main_v32, val_main_v31, val_main_v30, val_main_v29, val_main_v28, val_main_v27, val_main_v26, val_main_cst_3, val_main_cst_4,
    val_main_cst_5, val_main_cst_6, val_main_cst_7, val_main_cst_8, val_main_cst_9, val_main_cst_10, val_main_cst_11]
  unfold dz
  by_cases h3 : n.val < 512
  · simp (disch := omega) only [dif_pos, dif_neg, zero_add, add_zero]
  by_cases h4 : n.val < 1024
  · simp (disch := omega) only [dif_pos, dif_neg, zero_add, add_zero]
  by_cases h5 : n.val < 1536
  · simp (disch := omega) only [dif_pos, dif_neg, zero_add, add_zero]
  by_cases h6 : n.val < 2048
  · simp (disch := omega) only [dif_pos, dif_neg, zero_add, add_zero]
  by_cases h7 : n.val < 3072
  · simp (disch := omega) only [dif_pos, dif_neg, zero_add, add_zero]
  by_cases h8 : n.val < 4096
  · simp (disch := omega) only [dif_pos, dif_neg, zero_add, add_zero]
  by_cases h9 : n.val < 4112
  · simp (disch := omega) only [dif_pos, dif_neg, zero_add, add_zero]
  by_cases h10 : n.val < 5136
  · simp (disch := omega) only [dif_pos, dif_neg, zero_add, add_zero]
  · simp (disch := omega) only [dif_pos, dif_neg, zero_add, add_zero]

theorem dot_at (r : Fin 8192) (j : Fin 1024) :
    val_main_v43 (F := Ideal) w a3 a4 a5 a6 a7 a8 a9 a10 a11 (ix2 r j) = dy a3 a4 a5 a6 a7 a8 a9 a10 a11 w r j := by
  rw [val_main_v43]
  pointwise
  simp only [padsum, dy]

/-- The first result on finite rows. -/
theorem out0_at (r : Fin 8192) (l : Fin 1024) (hx : ∀ k, IsReal (x (ix2 r k)))
    (hd : ∀ k, IsReal (dy a3 a4 a5 a6 a7 a8 a9 a10 a11 w r k * g (ix1 k))) :
    val_main_v64 (F := Ideal) x w g a3 a4 a5 a6 a7 a8 a9 a10 a11 a12 (ix2 r l)
      = dxAt x a12 g (dy a3 a4 a5 a6 a7 a8 a9 a10 a11 w) r l := by
  refine Eq.trans ?_ (dxAt_eq x a12 g _ r l hx hd)
  pointwise [val_main_v64, val_main_v63, val_main_v62, val_main_v61, val_main_v60, val_main_v59, val_main_v58, val_main_v57, val_main_v56, val_main_v55,
    val_main_v54, val_main_v53, val_main_v52, val_main_v51, val_main_v50, val_main_v48, val_main_v47, val_main_v13, val_main_v10, val_main_v9, val_main_v8,
    val_main_v7, val_main_v6, val_main_v5, val_main_v4, val_main_v3, val_main_v2, val_main_v1, val_main_v0, val_main_cst, val_main_cst_0, val_main_cst_1,
    val_main_cst_2, val_main_cst_14, val_main_cst_15, val_main_cst_16]
  simp only [dot_at, q, rs, ms, zero_add, Fin.sum_univ_one]

/-- The second result. -/
theorem out1_at (l : Fin 1024) :
    val_main_v65 (F := Ideal) x w a3 a4 a5 a6 a7 a8 a9 a10 a11 (ix2 0 l)
      = ∑ r : Fin 8192, dgAt x (dy a3 a4 a5 a6 a7 a8 a9 a10 a11 w) r l := by
  pointwise [val_main_v65, val_main_v49, val_main_v46, val_main_v45, val_main_v44, val_main_v12, val_main_v11,
    val_main_v7, val_main_v6, val_main_v5, val_main_v4, val_main_v3, val_main_v2, val_main_v1, val_main_v0, val_main_cst, val_main_cst_0, val_main_cst_1,
    val_main_cst_12, val_main_cst_13]
  simp only [dot_at, dgAt, rs, ms, zero_add, Fin.sum_univ_one]
  exact Finset.sum_congr rfl fun r _ => mul_comm _ _

end Cert.InRef

end
-- ==== Proof.InKernel.lean ====
/- The first claim's kernel: what its packed operands hold, and what its body stores. -/
module

public import proofs.«01_k».proof.Proof.Gen.KernelIdeal.Value
public import proofs.«01_k».proof.Proof.Reals
public import proofs.«01_k».proof.Proof.InCols
import Idealize.ShloMosaic.Lib.Claim
import Idealize.ShloMosaic.Lib.StableHlo.ReadAt
public import Idealize.ShloMosaic.Lib.Pointwise
public import Idealize.ShloMosaic.Lib.Pipeline.ValueKit

@[expose] public section

set_option maxRecDepth 16384

noncomputable section

namespace Cert.InKernel

open Idealize.ShloMosaic Idealize.ShloMosaic.TcCoe Idealize.SL.Sem
open Idealize.ShloMosaic.Pipeline (Dat)
open Cert.KernelIdeal Cert.KernelIdeal.Gen Cert.InCols

variable (m : (ℓ : Loc nD τ sig) → Buf (Elt Ideal) ℓ) (c : Dev nD)

/-- The cotangent at a column, over the launch contents. -/
abbrev dzm (r : Fin 8192) (n : ℕ) : EReal :=
  dz (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11)) r n

set_option maxHeartbeats 1600000 in
/-- The packed weight: row `k` is the weight's column `col k`. -/
theorem wz (k : Fin 6272) (j : Fin 1024) :
    (V m c main_v15 : FVec Ideal S6272x1024 .bf16) (ix2 k j) = wcol (m ((c : Thread nD τ).loc main_arg1)) j (col k) := by
  unfold V
  after_reads_at
  have hcut : (k : ℕ) < 1024 ∨ (1024 ≤ (k : ℕ) ∧ (k : ℕ) < 1152) ∨ (1152 ≤ (k : ℕ) ∧ (k : ℕ) < 1280)
    ∨ (1280 ≤ (k : ℕ) ∧ (k : ℕ) < 1408) ∨ (1408 ≤ (k : ℕ) ∧ (k : ℕ) < 1536) ∨ (1536 ≤ (k : ℕ) ∧ (k : ℕ) < 1664)
    ∨ (1664 ≤ (k : ℕ) ∧ (k : ℕ) < 1792) ∨ (1792 ≤ (k : ℕ) ∧ (k : ℕ) < 1920) ∨ (1920 ≤ (k : ℕ) ∧ (k : ℕ) < 2048)
    ∨ (2048 ≤ (k : ℕ) ∧ (k : ℕ) < 4096) ∨ (4096 ≤ (k : ℕ) ∧ (k : ℕ) < 6144) ∨ (6144 ≤ (k : ℕ) ∧ (k : ℕ) < 6160)
    ∨ 6160 ≤ (k : ℕ) := by omega
  rcases hcut with h | h | h | h | h | h | h | h | h | h | h | h | h <;>
    simp (disch := omega) only [dif_pos, dif_neg] <;> after_reads_at
  all_goals first
    | exact wcol_eq _ _ _ (by unfold col; split_ifs <;> omega)
    | exact wcol_end _ _ (by unfold col; split_ifs <;> omega)

set_option maxHeartbeats 1600000 in
/-- The first packed part of the cotangent. -/
theorem seg0 (r : Fin 8192) (k : Fin 1024) :
    (V m c main_v18 : FVec Ideal S8192x1024 .bf16) (ix2 r k) = dzm m c r (col (k)) := by
  unfold V
  after_reads_at
  have hcut : (0 ≤ (k : ℕ) ∧ (k : ℕ) < 512)
    ∨ (512 ≤ (k : ℕ) ∧ (k : ℕ) < 1024) := by omega
  rcases hcut with h | h <;>
    simp (disch := omega) only [dif_pos, dif_neg] <;> (try after_reads_at)
  all_goals first
    | exact dz_3 _ _ _ _ _ _ _ _ _ _ _ (by unfold col; split_ifs <;> omega)
    | exact dz_4 _ _ _ _ _ _ _ _ _ _ _ (by unfold col; split_ifs <;> omega)

set_option maxHeartbeats 1600000 in
/-- The second packed part: the heads of two parts of the cotangent, alternating. -/
theorem seg1 (r : Fin 8192) (k : Fin 1024) :
    (V m c main_v28 : FVec Ideal S8192x1024 .bf16) (ix2 r k) = dzm m c r (col (1024 + k)) := by
  unfold V
  after_reads_at
  have hcut : (0 ≤ (k : ℕ) ∧ (k : ℕ) < 128)
    ∨ (128 ≤ (k : ℕ) ∧ (k : ℕ) < 256)
    ∨ (256 ≤ (k : ℕ) ∧ (k : ℕ) < 384)
    ∨ (384 ≤ (k : ℕ) ∧ (k : ℕ) < 512)
    ∨ (512 ≤ (k : ℕ) ∧ (k : ℕ) < 640)
    ∨ (640 ≤ (k : ℕ) ∧ (k : ℕ) < 768)
    ∨ (768 ≤ (k : ℕ) ∧ (k : ℕ) < 896)
    ∨ (896 ≤ (k : ℕ) ∧ (k : ℕ) < 1024) := by omega
  rcases hcut with h | h | h | h | h | h | h | h <;>
    simp (disch := omega) only [dif_pos, dif_neg] <;> (try after_reads_at)
  all_goals first
    | exact dz_5 _ _ _ _ _ _ _ _ _ _ _ (by unfold col; split_ifs <;> omega)
    | exact dz_6 _ _ _ _ _ _ _ _ _ _ _ (by unfold col; split_ifs <;> omega)

set_option maxHeartbeats 1600000 in
/-- The third packed part. -/
theorem seg2 (r : Fin 8192) (k : Fin 1024) :
    (V m c main_v32 : FVec Ideal S8192x1024 .bf16) (ix2 r k) = dzm m c r (col (2048 + k)) := by
  unfold V
  after_reads_at
  all_goals first
    | exact dz_7 _ _ _ _ _ _ _ _ _ _ _ (by unfold col; split_ifs <;> omega)

set_option maxHeartbeats 1600000 in
/-- The fourth packed part. -/
theorem seg3 (r : Fin 8192) (k : Fin 1024) :
    (V m c main_v33 : FVec Ideal S8192x1024 .bf16) (ix2 r k) = dzm m c r (col (3072 + k)) := by
  unfold V
  after_reads_at
  all_goals first
    | exact dz_8 _ _ _ _ _ _ _ _ _ _ _ (by unfold col; split_ifs <;> omega)

set_option maxHeartbeats 1600000 in
/-- The fifth packed part. -/
theorem seg4 (r : Fin 8192) (k : Fin 1024) :
    (V m c main_v34 : FVec Ideal S8192x1024 .bf16) (ix2 r k) = dzm m c r (col (4096 + k)) := by
  unfold V
  after_reads_at
  all_goals first
    | exact dz_10 _ _ _ _ _ _ _ _ _ _ _ (by unfold col; split_ifs <;> omega)

set_option maxHeartbeats 1600000 in
/-- The sixth packed part. -/
theorem seg5 (r : Fin 8192) (k : Fin 1024) :
    (V m c main_v35 : FVec Ideal S8192x1024 .bf16) (ix2 r k) = dzm m c r (col (5120 + k)) := by
  unfold V
  after_reads_at
  all_goals first
    | exact dz_11 _ _ _ _ _ _ _ _ _ _ _ (by unfold col; split_ifs <;> omega)

set_option maxHeartbeats 1600000 in
/-- The last packed part: the low-rank part of the cotangent and padding. -/
theorem seg6 (r : Fin 8192) (k : Fin 128) :
    (V m c main_v31 : FVec Ideal S8192x128 .bf16) (ix2 r k) = dzm m c r (col (6144 + k)) := by
  unfold V
  after_reads_at
  have hcut : (0 ≤ (k : ℕ) ∧ (k : ℕ) < 16)
    ∨ (16 ≤ (k : ℕ) ∧ (k : ℕ) < 128) := by omega
  rcases hcut with h | h <;>
    simp (disch := omega) only [dif_pos, dif_neg] <;> (try after_reads_at)
  all_goals first
    | exact dz_9 _ _ _ _ _ _ _ _ _ _ _ (by unfold col; split_ifs <;> omega)
    | exact dz_end _ _ _ _ _ _ _ _ _ _ (by unfold col; split_ifs <;> omega)

end Cert.InKernel

end
-- ==== Proof.InValue.lean ====
/- The first claim's kernel: the arrays its run leaves. -/
module

public import proofs.«01_k».proof.Proof.InKernel
public import proofs.«01_k».proof.Proof.RowGrad

@[expose] public section

set_option maxRecDepth 16384

noncomputable section

namespace Cert.InKernel

open Idealize.ShloMosaic Idealize.ShloMosaic.TcCoe Idealize.SL.Sem
open Idealize.ShloMosaic.Pipeline (Dat)
open Cert.KernelIdeal Cert.KernelIdeal.Gen Cert.InCols Cert.RowGrad

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![t.val, 0] ∧ win0_9.index t = ![0, 0] ∧ win0_10.index t = ![t.val, 0]
    ∧ win0_11.index t = ![t.val, 0] ∧ win0_12.index t = ![0, 0] ∧ t.val < 16 :=
  (by decide +kernel : ∀ t : Fin grid0.N, _)

/-- Row `r` of the block at point `t`. -/
abbrev row (t : Fin cfg0.N) (r : Fin 512) : Fin 8192 := ⟨512 * t.val + r.val, by have := (idx t).2.2.2.2.2.2.2.2.2.2.2.2.2; omega⟩

/-- The product's element, over the launch contents. -/
abbrev dym (r : Fin 8192) (j : Fin 1024) : EReal :=
  dy (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg1)) r j

theorem blk0 (t : Fin cfg0.N) (r : Fin 512) (k : Fin 1024) :
    (show FVec Ideal S512x1024 .bf16 from iblk m c 0 t) (ix2 r k) = dzm m c (row t r) (col (k)) := by
  refine Eq.trans ?_ (seg0 m c (row t r) k)
  blk_ext [iblk, idx t]

theorem blk1 (t : Fin cfg0.N) (r : Fin 512) (k : Fin 1024) :
    (show FVec Ideal S512x1024 .bf16 from iblk m c 1 t) (ix2 r k) = dzm m c (row t r) (col (1024 + k)) := by
  refine Eq.trans ?_ (seg1 m c (row t r) k)
  blk_ext [iblk, idx t]

theorem blk2 (t : Fin cfg0.N) (r : Fin 512) (k : Fin 1024) :
    (show FVec Ideal S512x1024 .bf16 from iblk m c 2 t) (ix2 r k) = dzm m c (row t r) (col (2048 + k)) := by
  refine Eq.trans ?_ (seg2 m c (row t r) k)
  blk_ext [iblk, idx t]

theorem blk3 (t : Fin cfg0.N) (r : Fin 512) (k : Fin 1024) :
    (show FVec Ideal S512x1024 .bf16 from iblk m c 3 t) (ix2 r k) = dzm m c (row t r) (col (3072 + k)) := by
  refine Eq.trans ?_ (seg3 m c (row t r) k)
  blk_ext [iblk, idx t]

theorem blk4 (t : Fin cfg0.N) (r : Fin 512) (k : Fin 1024) :
    (show FVec Ideal S512x1024 .bf16 from iblk m c 4 t) (ix2 r k) = dzm m c (row t r) (col (4096 + k)) := by
  refine Eq.trans ?_ (seg4 m c (row t r) k)
  blk_ext [iblk, idx t]

theorem blk5 (t : Fin cfg0.N) (r : Fin 512) (k : Fin 1024) :
    (show FVec Ideal S512x1024 .bf16 from iblk m c 5 t) (ix2 r k) = dzm m c (row t r) (col (5120 + k)) := by
  refine Eq.trans ?_ (seg5 m c (row t r) k)
  blk_ext [iblk, idx t]

theorem blk6 (t : Fin cfg0.N) (r : Fin 512) (k : Fin 128) :
    (show FVec Ideal S512x128 .bf16 from iblk m c 6 t) (ix2 r k) = dzm m c (row t r) (col (6144 + k)) := by
  refine Eq.trans ?_ (seg6 m c (row t r) k)
  blk_ext [iblk, idx t]

theorem blk7 (t : Fin cfg0.N) (k : Fin 6272) (j : Fin 1024) :
    (show FVec Ideal S6272x1024 .bf16 from iblk m c 7 t) (ix2 k j) = wcol (m ((c : Thread nD τ).loc main_arg1)) j (col k) := by
  refine Eq.trans ?_ (wz m c k j)
  blk_ext [iblk, idx t]

theorem blk8 (t : Fin cfg0.N) (r : Fin 512) (k : Fin 1024) :
    (show FVec Ideal S512x1024 .f32 from iblk m c 8 t) (ix2 r k) = (m ((c : Thread nD τ).loc main_arg0) : A1024) (ix2 (row t r) k) := by
  blk_ext [iblk, V, idx t]

theorem blk9 (t : Fin cfg0.N) (k : Fin 1024) :
    (show FVec Ideal S1x1024 .f32 from iblk m c 9 t) (ix2 0 k) = (m ((c : Thread nD τ).loc main_arg2) : FVec Ideal ⟨1, ![1024]⟩ .f32) (ix1 k) := by
  blk_point [iblk, V, idx t]

theorem blk10 (t : Fin cfg0.N) (r : Fin 512) (k : Fin 1024) :
    (show FVec Ideal S512x1024 .f32 from iblk m c 10 t) (ix2 r k) = (m ((c : Thread nD τ).loc main_arg12) : A1024) (ix2 (row t r) k) := by
  blk_ext [iblk, V, idx t]

/-- The body's product, from its seven operand blocks read as one row. -/
theorem pay5_at (v3 v5 v7 v9 v11 v13 : Vec Ideal S512x1024 .bf16) (v15 : Vec Ideal S512x128 .bf16) (v18 : Vec Ideal S6272x1024 .bf16)
    (r : Fin 512) (j : Fin 1024) (f g : ℕ → EReal) (h0 : ∀ k : Fin 1024, v3 (ix2 r k) = f k) (h1 : ∀ k : Fin 1024, v5 (ix2 r k) = f (1024 + k))
    (h2 : ∀ k : Fin 1024, v7 (ix2 r k) = f (2048 + k)) (h3 : ∀ k : Fin 1024, v9 (ix2 r k) = f (3072 + k))
    (h4 : ∀ k : Fin 1024, v11 (ix2 r k) = f (4096 + k)) (h5 : ∀ k : Fin 1024, v13 (ix2 r k) = f (5120 + k))
    (h6 : ∀ k : Fin 128, v15 (ix2 r k) = f (6144 + k)) (h7 : ∀ k : Fin 6272, v18 (ix2 k j) = g k) :
    k0_pay5 (F := Ideal) v3 v5 v7 v9 v11 v13 v15 v18 (ix2 r j) = ∑ k : Fin 6272, f k * g k := by
  pointwise [k0_pay5]
  refine Finset.sum_congr rfl fun x _ => congr (congrArg _ ?_) (h7 x)
  split_ifs
  all_goals first
    | exact h0 _
    | exact (h1 _).trans (congrArg f (by dsimp only; omega))
    | exact (h2 _).trans (congrArg f (by dsimp only; omega))
    | exact (h3 _).trans (congrArg f (by dsimp only; omega))
    | exact (h4 _).trans (congrArg f (by dsimp only; omega))
    | exact (h5 _).trans (congrArg f (by dsimp only; omega))
    | exact (h6 _).trans (congrArg f (by dsimp only; omega))

/-- The product of the blocks at point `t`. -/
abbrev prod (t : Fin cfg0.N) : FVec Ideal S512x1024 .f32 :=
  k0_pay5 (F := Ideal) (iblk m c 0 t) (iblk m c 1 t) (iblk m c 2 t) (iblk m c 3 t) (iblk m c 4 t) (iblk m c 5 t) (iblk m c 6 t) (iblk m c 7 t)

theorem prod_at (t : Fin cfg0.N) (r : Fin 512) (j : Fin 1024) : prod m c t (ix2 r j) = dym m c (row t r) j :=
  (pay5_at _ _ _ _ _ _ _ _ r j (fun k => dzm m c (row t r) (col k)) (fun k => wcol (m ((c : Thread nD τ).loc main_arg1)) j (col k))
    (blk0 m c t r) (blk1 m c t r) (blk2 m c t r) (blk3 m c t r) (blk4 m c t r) (blk5 m c t r) (blk6 m c t r) (fun k => blk7 m c t k j)).trans
    (packed _ _ _ _ _ _ _ _ _ _ _ _)

/-- The element of the input's gradient the body stores. -/
theorem pay2_at (t : Fin cfg0.N) (r : Fin 512) (j : Fin 1024) :
    k0_pay2 (F := Ideal) (prod m c t) (iblk m c 8 t) (k0_pay6 (iblk m c 9 t)) (k0_pay7 (iblk m c 8 t)) (iblk m c 10 t) (ix2 r j)
      = dxAt (m ((c : Thread nD τ).loc main_arg0)) (m ((c : Thread nD τ).loc main_arg12)) (m ((c : Thread nD τ).loc main_arg2)) (dym m c) (row t r) j := by
  pointwise [k0_pay2, k0_pay1, k0_pay6, k0_pay7]
  simp only [dxAt, dxRow, rs, ms, prod_at, ← blk8, ← blk9 m c t, ← blk10]

/-- The term the body adds to the gain's gradient. -/
theorem pay3_at (t : Fin cfg0.N) (v : Vec Ideal S1x1024 .f32) (j : Fin 1024) :
    k0_pay3 (F := Ideal) (prod m c t) (iblk m c 8 t) (k0_pay7 (iblk m c 8 t)) v (ix2 0 j)
      = v (ix2 0 j) + ∑ r : Fin 512, dgAt (m ((c : Thread nD τ).loc main_arg0)) (dym m c) (row t r) j := by
  pointwise [k0_pay3, k0_pay1, k0_pay6, k0_pay7]
  simp only [dgAt, rs, ms, prod_at, ← blk8]

theorem emb11 (t : Fin cfg0.N) (r : Fin 512) (l : Fin 1024) :
    ((View.whole main_v36_0).slice (win0_11.rect t)).emb (ix2 r l) = (ix2 (row t r) l : S8192x1024.Idx) := by
  blk_ext [idx t]

/-- The input's gradient as the run leaves it. -/
theorem final11 : (dats m 0 c).arrAt 11 cfg0.N
    = fun i : S8192x1024.Idx => dxAt (m ((c : Thread nD τ).loc main_arg0)) (m ((c : Thread nD τ).loc main_arg12)) (m ((c : Thread nD τ).loc main_arg2)) (dym m c) (i 0) (i 1) := by
  refine (dats m 0 c).arrAt_eq_of_covers 11 _ (by decide +kernel) fun t hf y => ?_
  blk_simp
  rw [after0_11]
  by_cases h0 : t.val % 16 = 0
  · rw [outsAt0_A m c t h0]
    frame_out
    idx_vars y
    rw [emb11]
    exact pay2_at m c t y0 y1
  · rw [outsAt0_B m c t h0]
    frame_out
    idx_vars y
    rw [emb11]
    exact pay2_at m c t y0 y1

/-- The block a point leaves in the accumulator window. -/
abbrev acc (n : ℕ) (h : n < cfg0.N) : FVec Ideal S1x1024 .f32 := (outsAt0 m c n h).2

/-- The sum over the rows of the block at point `t`. -/
def blockSum (t : Fin cfg0.N) (i : S1x1024.Idx) : EReal :=
  ∑ r : Fin 512, dgAt (m ((c : Thread nD τ).loc main_arg0)) (dym m c) (row t r) (i 1)

theorem acc_first (t : Fin cfg0.N) (h : t.val % 16 = 0) (i : S1x1024.Idx) : acc m c t.val t.isLt i = 0 + blockSum m c t i := by
  unfold acc
  rw [outsAt0_A m c t h]
  frame_out
  (idx_vars i)
  obtain rfl : i0 = 0 := Subsingleton.elim _ _
  refine (pay3_at m c t _ i1).trans (congrArg (· + _) ?_)
  pointwise [k0_pay4]

theorem acc_next (t : Fin cfg0.N) (h : ¬t.val % 16 = 0) (i : S1x1024.Idx) :
    acc m c t.val t.isLt i = acc m c (t.val - 1) (Nat.lt_of_le_of_lt (Nat.sub_le _ _) t.isLt) i + blockSum m c t i := by
  unfold acc
  rw [outsAt0_B m c t h]
  frame_out
  (idx_vars i)
  obtain rfl : i0 = 0 := Subsingleton.elim _ _
  exact pay3_at m c t _ i1

theorem acc_last (i : S1x1024.Idx) : acc m c t0_15.val t0_15.isLt i
    = ∑ r : Fin 8192, dgAt (m ((c : Thread nD τ).loc main_arg0)) (dym m c) r (i 1) :=
  (Pipeline.eq_sum_fin_of_reset_step_apply_last (M := EReal) (acc m c) 16 (fun _ => 0) (blockSum m c) (acc_first m c) (acc_next m c)
    (le_of_eq N_0) t0_15 rfl i).trans ((zero_add _).trans
    (sum_blocks (by rw [show cfg0.N = 16 from N_0]) (fun r => dgAt (m ((c : Thread nD τ).loc main_arg0)) (dym m c) r (i 1)) row fun _ _ => rfl))

/-- The gain's gradient as the run leaves it. -/
theorem final12 : (dats m 0 c).arrAt 12 cfg0.N
    = fun i : S1x1024.Idx => ∑ r : Fin 8192, dgAt (m ((c : Thread nD τ).loc main_arg0)) (dym m c) r (i 1) := by
  refine (dats m 0 c).arrAt_eq_of_after_last 12 t0_15 (by decide +kernel) _ fun j => ?_
  blk_simp
  rw [after0_12]
  exact acc_last m c j

end Cert.InKernel

end
-- ==== Proof.InClaim.lean ====
/- The first claim: the frames of its programs, and their results' equality. -/
module

public import proofs.«01_k».proof.Defs
public import proofs.«01_k».proof.Proof.Gen.Kernel.Frame
public import proofs.«01_k».proof.Proof.Gen.KernelIdeal.Value
public import proofs.«01_k».proof.Proof.InPre
public import proofs.«01_k».proof.Proof.InRef
public import proofs.«01_k».proof.Proof.InValue
import Idealize.ShloMosaic.Lib.Claim

@[expose] public section

set_option maxRecDepth 16384

noncomputable section

namespace Cert.InClaim

open Idealize.ShloMosaic Idealize.ShloMosaic.TcCoe Idealize.SL.Sem Cert.Reals Cert.InCols Cert.RowGrad

theorem preFacts : Cert.Pre_finite.Facts := by
  constructor <;> decide

instance : Cert.Pre_finite.Facts := preFacts

theorem frame_kernel : Cert.quiescent_Kernel := fun m ρ _ => Cert.Kernel.Gen.frame m ρ

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono
    (fun r h => ⟨fun c => (h c).2.2, sem_eq_zero_of_no_sems (by decide) r.2⟩) (Cert.ReferenceIdeal.Value.run m ρ)

/-- A row of the product is real where the cotangents and the weights are. -/
theorem isReal_dy {a3 a4 a5 a6 : A512} {a7 a8 : A1024} {a9 : A16} {a10 a11 : A1024} {w : W6160} (h3 : ∀ i, IsReal (a3 i)) (h4 : ∀ i, IsReal (a4 i))
    (h5 : ∀ i, IsReal (a5 i)) (h6 : ∀ i, IsReal (a6 i)) (h7 : ∀ i, IsReal (a7 i)) (h8 : ∀ i, IsReal (a8 i)) (h9 : ∀ i, IsReal (a9 i))
    (h10 : ∀ i, IsReal (a10 i)) (h11 : ∀ i, IsReal (a11 i)) (hw : ∀ i, IsReal (w i)) (r : Fin 8192) (j : Fin 1024) :
    IsReal (dy a3 a4 a5 a6 a7 a8 a9 a10 a11 w r j) := by
  refine IsReal.sum fun n => IsReal.mul ?_ (hw _)
  unfold dz
  split_ifs
  all_goals first
    | exact h3 _ | exact h4 _ | exact h5 _ | exact h6 _ | exact h7 _ | exact h8 _ | exact h9 _ | exact h10 _ | exact h11 _
    | exact IsReal.zero

set_option maxHeartbeats 1600000 in
theorem algebraic : Cert.algebraic_KernelIdeal_ReferenceIdeal_pre_finite := by
  intro m g m' g' hpre hargs
  refine ⟨_, _, (θ_run Cert.KernelIdeal.defs _ _).mono (fun r h => h) (Cert.KernelIdeal.Value.run_blocks m g),
    (θ_run Cert.ReferenceIdeal.defs _ _).mono (fun r h c => ?_) (Cert.ReferenceIdeal.Value.run m' g')⟩
  obtain ⟨a0, a1, a2, a3, a4, a5, a6, a7, a8, a9, a10, a11, a12⟩ := hargs c
  obtain ⟨p0, p1, p2, p3, p4, p5, p6, p7, p8, p9, p10, p11⟩ := inPre (hpre c)
  refine ⟨(h c).1.trans ?_, (h c).2.1.trans ?_, (h c).2.2⟩
  · rw [Cert.ReferenceIdeal.Read.val_main_v64_eq, a0, a1, a2, a3, a4, a5, a6, a7, a8, a9, a10, a11, a12, Cert.InKernel.final11]
    funext i
    idx_vars i
    exact Cert.InRef.out0_at _ _ _ _ _ _ _ _ _ _ _ _ _ i0 i1 (fun k => p0 _)
      (fun k => (isReal_dy p3 p4 p5 p6 p7 p8 p9 p10 p11 p1 i0 k).mul (p2 _))
  · rw [Cert.ReferenceIdeal.Read.val_main_v65_eq, a0, a1, a3, a4, a5, a6, a7, a8, a9, a10, a11, Cert.InKernel.final12]
    funext i
    (idx_vars i)
    obtain rfl : i0 = 0 := Subsingleton.elim _ _
    exact Cert.InRef.out1_at _ _ _ _ _ _ _ _ _ _ _ i1

end Cert.InClaim

end
-- ==== Proof.MixSpec.lean ====
/- The mix of the two branches and its gradient, in closed form over the arguments of the second claim. -/
module

public import proofs.«01_k».proof.Proof.RowGrad

@[expose] public section

noncomputable section

namespace Cert.MixSpec

open Idealize.ShloMosaic Cert.Reals Cert.RowGrad

/-- The arguments: the residual, the two branches, their gates, the three weights, the gain and the cotangent. -/
structure Args where
  x : Rows
  sa : FVec Ideal ⟨2, ![8192, 512]⟩ .f32
  ob : Rows
  ga : Rows
  gb : Rows
  wa : FVec Ideal ⟨2, ![512, 1024]⟩ .f32
  wb : FVec Ideal ⟨2, ![1024, 1024]⟩ .f32
  wm : FVec Ideal ⟨2, ![1024, 1024]⟩ .f32
  g : Gain
  dh : Rows

variable (a : Args)

/-- The branches' projections. -/
def ya (r : Fin 8192) (l : Fin 1024) : EReal := ∑ k : Fin 512, a.sa (ix2 r k) * a.wa (ix2 k l)
def yb (r : Fin 8192) (l : Fin 1024) : EReal := ∑ k : Fin 1024, a.ob (ix2 r k) * a.wb (ix2 k l)

/-- The gates. -/
def sga (r : Fin 8192) (l : Fin 1024) : EReal := Ideal.logistic (a.ga (ix2 r l))
def sgb (r : Fin 8192) (l : Fin 1024) : EReal := Ideal.logistic (a.gb (ix2 r l))

/-- The gated sum, its product with the weight, and the layer's result. -/
def mp (r : Fin 8192) (l : Fin 1024) : EReal := sga a r l * ya a r l + sgb a r l * yb a r l
def mx : Rows := fun i => ∑ k : Fin 1024, mp a (i 0) k * a.wm (ix2 k (i 1))
theorem mx_at (r : Fin 8192) (l : Fin 1024) : mx a (ix2 r l) = ∑ k : Fin 1024, mp a r k * a.wm (ix2 k l) := rfl
def h1 (r : Fin 8192) (l : Fin 1024) : EReal := a.x (ix2 r l) + mx a (ix2 r l) * rs (mx a) r * a.g (ix1 l)

/-- The cotangent as a function of row and column. -/
def dh (r : Fin 8192) (l : Fin 1024) : EReal := a.dh (ix2 r l)

/-- The gradients of the product, of the gated sum, of the projections, of the gates, of the branches and of the gain. -/
def dmx (r : Fin 8192) (l : Fin 1024) : EReal := dxRow (mx a) a.g (dh a) r l
def dmp (r : Fin 8192) (l : Fin 1024) : EReal := ∑ k : Fin 1024, dmx a r k * a.wm (ix2 l k)
def dya (r : Fin 8192) (l : Fin 1024) : EReal := dmp a r l * sga a r l
def dyb (r : Fin 8192) (l : Fin 1024) : EReal := dmp a r l * sgb a r l
def dga (r : Fin 8192) (l : Fin 1024) : EReal := dya a r l * ya a r l * (1 - sga a r l)
def dgb (r : Fin 8192) (l : Fin 1024) : EReal := dyb a r l * yb a r l * (1 - sgb a r l)
def dsa (r : Fin 8192) (l : Fin 512) : EReal := ∑ k : Fin 1024, dya a r k * a.wa (ix2 l k)
def dob (r : Fin 8192) (l : Fin 1024) : EReal := ∑ k : Fin 1024, dyb a r k * a.wb (ix2 l k)
def dg (l : Fin 1024) : EReal := ∑ r : Fin 8192, dgAt (mx a) (dh a) r l

/-- The normalised row is real where the branches and the weights are. -/
theorem mx_real (hsa : ∀ i, IsReal (a.sa i)) (hob : ∀ i, IsReal (a.ob i)) (hwa : ∀ i, IsReal (a.wa i)) (hwb : ∀ i, IsReal (a.wb i))
    (hwm : ∀ i, IsReal (a.wm i)) (i) : IsReal (mx a i) :=
  IsReal.sum fun _ => IsReal.mul (((logistic_real _).mul (IsReal.sum fun _ => (hsa _).mul (hwa _))).add
    ((logistic_real _).mul (IsReal.sum fun _ => (hob _).mul (hwb _)))) (hwm _)

end Cert.MixSpec

end
-- ==== Proof.MixForward.lean ====
/- The second claim's first kernel: what its operands hold, and the arrays it leaves. -/
module

public import proofs.«01_k».proof.Proof.Gen.Kernel2Ideal.Frame
public import proofs.«01_k».proof.Proof.MixSpec
import Idealize.ShloMosaic.Lib.Claim
import Idealize.ShloMosaic.Lib.StableHlo.ReadAt
public import Idealize.ShloMosaic.Lib.Pointwise
public import Idealize.ShloMosaic.Lib.Pipeline.ValueKit

@[expose] public section

set_option maxRecDepth 16384

noncomputable section

namespace Cert.MixKernel

open Idealize.ShloMosaic Idealize.ShloMosaic.TcCoe Idealize.SL.Sem
open Idealize.ShloMosaic.Pipeline (Dat)
open Cert.Kernel2Ideal Cert.Kernel2Ideal.Gen Cert.RowGrad Cert.MixSpec

variable (m : (ℓ : Loc nD τ sig) → Buf (Elt Ideal) ℓ) (ρ : Dev nD → PrngReg) (c : Dev nD)

/-- The arguments as launched. -/
def args : Args where
  x := m ((c : Thread nD τ).loc main_arg0)
  sa := m ((c : Thread nD τ).loc main_arg1)
  ob := m ((c : Thread nD τ).loc main_arg2)
  ga := m ((c : Thread nD τ).loc main_arg4)
  gb := m ((c : Thread nD τ).loc main_arg5)
  wa := m ((c : Thread nD τ).loc main_arg6)
  wb := m ((c : Thread nD τ).loc main_arg7)
  wm := m ((c : Thread nD τ).loc main_arg8)
  g := m ((c : Thread nD τ).loc main_arg9)
  dh := m ((c : Thread nD τ).loc main_arg10)

/-- The gates' columns of the packed projection. -/
theorem z_ga (r : Fin 8192) (k : Fin 1024) :
    (V1 m ρ c main_v2 : FVec Ideal S8192x6144 .bf16) (ix2 r ⟨4096 + k.val, by omega⟩) = (args m c).ga (ix2 r k) := by
  dsimp only [V1, W1]
  after_reads_at
  after_reads_at
  rfl

theorem z_gb (r : Fin 8192) (k : Fin 1024) :
    (V1 m ρ c main_v2 : FVec Ideal S8192x6144 .bf16) (ix2 r ⟨5120 + k.val, by omega⟩) = (args m c).gb (ix2 r k) := by
  dsimp only [V1, W1]
  after_reads_at
  rw [dif_neg (by omega), dif_neg (by omega)]
  after_reads_at
  refine congrArg (args m c).gb (congrArg (ix2 r) (Fin.ext ?_))
  dsimp only
  omega

/-- The other operands. -/
theorem v7 (r : Fin 8192) (k : Fin 512) : (V1 m ρ c main_v7 : FVec Ideal S8192x512 .bf16) (ix2 r k) = (args m c).sa (ix2 r k) := by
  dsimp only [V1, W1]
  after_reads_at
  rfl

theorem v8 (r : Fin 8192) (k : Fin 1024) : (V1 m ρ c main_v8 : FVec Ideal S8192x1024 .bf16) (ix2 r k) = (args m c).ob (ix2 r k) := by
  dsimp only [V1, W1]
  after_reads_at
  rfl

theorem v4 (r : Fin 512) (k : Fin 1024) : (V1 m ρ c main_v4 : FVec Ideal S512x1024 .bf16) (ix2 r k) = (args m c).wa (ix2 r k) := by
  dsimp only [V1, W1]
  after_reads_at
  rfl

theorem v5 (r k : Fin 1024) : (V1 m ρ c main_v5 : FVec Ideal S1024x1024 .bf16) (ix2 r k) = (args m c).wb (ix2 r k) := by
  dsimp only [V1, W1]
  after_reads_at
  rfl

theorem v6 (r k : Fin 1024) : (V1 m ρ c main_v6 : FVec Ideal S1024x1024 .bf16) (ix2 r k) = (args m c).wm (ix2 r k) := by
  dsimp only [V1, W1]
  after_reads_at
  rfl

theorem v3 (k : Fin 1024) : (V1 m ρ c main_v3 : FVec Ideal S1x1024 .f32) (ix2 0 k) = (args m c).g (ix1 k) := by
  dsimp only [V1, W1]
  after_reads_at
  rfl

theorem arg0 : V1 m ρ c main_arg0 = m ((c : Thread nD τ).loc main_arg0) := W1_args m ρ c main_arg0 (by decide)

theorem idx0 : ∀ t : Fin cfg0.N, win0_0.index t = ![t.val, 0] ∧ win0_1.index t = ![t.val, 0] ∧ win0_2.index t = ![t.val, 4]
    ∧ win0_3.index t = ![t.val, 5] ∧ win0_4.index t = ![t.val, 0] ∧ win0_5.index t = ![0, 0] ∧ win0_6.index t = ![0, 0]
    ∧ win0_7.index t = ![0, 0] ∧ win0_8.index t = ![0, 0] ∧ win0_9.index t = ![t.val, 0] ∧ win0_10.index t = ![t.val, 0]
    ∧ win0_11.index t = ![t.val, 0] ∧ win0_12.index t = ![t.val, 0] ∧ win0_13.index t = ![t.val, 0] ∧ t.val < 16 :=
  (by decide +kernel : ∀ t : Fin grid0.N, _)

/-- Row `r` of the block at point `t`. -/
abbrev row0 (t : Fin cfg0.N) (r : Fin 512) : Fin 8192 := ⟨512 * t.val + r.val, by have : t.val < 16 := t.isLt.trans_eq N_0; omega⟩

/-- The blocks at point `t`. -/
theorem blk0_0 (t : Fin cfg0.N) (r k : Fin 512) :
    (show FVec Ideal S512x512 .bf16 from iblk0 (V1 m ρ) c 0 t) (ix2 r k) = (args m c).sa (ix2 (row0 t r) k) := by
  refine Eq.trans ?_ (v7 m ρ c (row0 t r) k)
  blk_ext [iblk0, idx0 t]

theorem blk0_1 (t : Fin cfg0.N) (r : Fin 512) (k : Fin 1024) :
    (show FVec Ideal S512x1024 .bf16 from iblk0 (V1 m ρ) c 1 t) (ix2 r k) = (args m c).ob (ix2 (row0 t r) k) := by
  refine Eq.trans ?_ (v8 m ρ c (row0 t r) k)
  blk_ext [iblk0, idx0 t]

theorem blk0_2 (t : Fin cfg0.N) (r : Fin 512) (k : Fin 1024) :
    (show FVec Ideal S512x1024 .bf16 from iblk0 (V1 m ρ) c 2 t) (ix2 r k) = (args m c).ga (ix2 (row0 t r) k) := by
  refine Eq.trans ?_ (z_ga m ρ c (row0 t r) k)
  blk_ext [iblk0, idx0 t]

theorem blk0_3 (t : Fin cfg0.N) (r : Fin 512) (k : Fin 1024) :
    (show FVec Ideal S512x1024 .bf16 from iblk0 (V1 m ρ) c 3 t) (ix2 r k) = (args m c).gb (ix2 (row0 t r) k) := by
  refine Eq.trans ?_ (z_gb m ρ c (row0 t r) k)
  blk_ext [iblk0, idx0 t]

theorem blk0_4 (t : Fin cfg0.N) (r : Fin 512) (k : Fin 1024) :
    (show FVec Ideal S512x1024 .f32 from iblk0 (V1 m ρ) c 4 t) (ix2 r k) = (args m c).x (ix2 (row0 t r) k) := by
  refine Eq.trans ?_ (congrFun (arg0 m ρ c) (ix2 (row0 t r) k))
  blk_ext [iblk0, idx0 t]

theorem blk0_5 (t : Fin cfg0.N) (k : Fin 512) (l : Fin 1024) :
    (show FVec Ideal S512x1024 .bf16 from iblk0 (V1 m ρ) c 5 t) (ix2 k l) = (args m c).wa (ix2 k l) := by
  refine Eq.trans ?_ (v4 m ρ c k l)
  blk_ext [iblk0, idx0 t]

theorem blk0_6 (t : Fin cfg0.N) (k l : Fin 1024) :
    (show FVec Ideal S1024x1024 .bf16 from iblk0 (V1 m ρ) c 6 t) (ix2 k l) = (args m c).wb (ix2 k l) := by
  refine Eq.trans ?_ (v5 m ρ c k l)
  blk_ext [iblk0, idx0 t]

theorem blk0_7 (t : Fin cfg0.N) (k l : Fin 1024) :
    (show FVec Ideal S1024x1024 .bf16 from iblk0 (V1 m ρ) c 7 t) (ix2 k l) = (args m c).wm (ix2 k l) := by
  refine Eq.trans ?_ (v6 m ρ c k l)
  blk_ext [iblk0, idx0 t]

theorem blk0_8 (t : Fin cfg0.N) (k : Fin 1024) :
    (show FVec Ideal S1x1024 .f32 from iblk0 (V1 m ρ) c 8 t) (ix2 0 k) = (args m c).g (ix1 k) := by
  refine Eq.trans ?_ (v3 m ρ c k)
  blk_point [iblk0, idx0 t]

/-- The blocks the body stores, elementwise. -/
theorem pay2_at (t : Fin cfg0.N) (r : Fin 512) (l : Fin 1024) :
    k0_pay2 (F := Ideal) (iblk0 (V1 m ρ) c 0 t) (iblk0 (V1 m ρ) c 5 t) (ix2 r l) = ya (args m c) (row0 t r) l := by
  pointwise [k0_pay2]
  simp only [ya, ← blk0_0 m ρ, ← blk0_5 m ρ c t]

theorem pay3_at (t : Fin cfg0.N) (r : Fin 512) (l : Fin 1024) :
    k0_pay3 (F := Ideal) (iblk0 (V1 m ρ) c 1 t) (iblk0 (V1 m ρ) c 6 t) (ix2 r l) = yb (args m c) (row0 t r) l := by
  pointwise [k0_pay3]
  simp only [yb, ← blk0_1 m ρ, ← blk0_6 m ρ c t]

theorem pay4_at (t : Fin cfg0.N) (r : Fin 512) (l : Fin 1024) :
    k0_pay4 (F := Ideal) (iblk0 (V1 m ρ) c 0 t) (iblk0 (V1 m ρ) c 5 t) (iblk0 (V1 m ρ) c 1 t) (iblk0 (V1 m ρ) c 6 t) (iblk0 (V1 m ρ) c 2 t)
      (iblk0 (V1 m ρ) c 3 t) (ix2 r l) = mp (args m c) (row0 t r) l := by
  pointwise [k0_pay4]
  simp only [mp, sga, sgb, pay2_at, pay3_at, ← blk0_2 m ρ, ← blk0_3 m ρ]

/-- The product the body normalises, at point `t`. -/
abbrev prod (t : Fin cfg0.N) : FVec Ideal S512x1024 .bf16 :=
  k0_pay5 (F := Ideal) (iblk0 (V1 m ρ) c 0 t) (iblk0 (V1 m ρ) c 5 t) (iblk0 (V1 m ρ) c 1 t) (iblk0 (V1 m ρ) c 6 t) (iblk0 (V1 m ρ) c 2 t)
    (iblk0 (V1 m ρ) c 3 t) (iblk0 (V1 m ρ) c 7 t)

theorem prod_at (t : Fin cfg0.N) (r : Fin 512) (l : Fin 1024) : prod m ρ c t (ix2 r l) = mx (args m c) (ix2 (row0 t r) l) := by
  pointwise [k0_pay5]
  simp only [mx_at, pay4_at, ← blk0_7 m ρ c t]

theorem pay1_at (t : Fin cfg0.N) (r : Fin 512) (l : Fin 1024) :
    k0_pay1 (F := Ideal) (prod m ρ c t) (iblk0 (V1 m ρ) c 4 t) (iblk0 (V1 m ρ) c 8 t) (ix2 r l) = h1 (args m c) (row0 t r) l := by
  pointwise [k0_pay1]
  simp only [h1, rs, ms, prod_at, ← blk0_4 m ρ, ← blk0_8 m ρ c t]

/-- The arrays the first kernel leaves. -/
theorem emb0_9 (t : Fin cfg0.N) (r : Fin 512) (l : Fin 1024) :
    ((View.whole main_v9_0).slice (win0_9.rect t)).emb (ix2 r l) = (ix2 (row0 t r) l : S8192x1024.Idx) := by
  blk_ext [idx0 t]

theorem left0_9 : (W2 m ρ c (Proc.devRef .tc main_v9_0) : S8192x1024.Idx → EReal) = fun i => ya (args m c) (i 0) (i 1) := by
  refine (W2_arr m ρ c 9).trans ((dat0 (V1 m ρ) c).arrAt_eq_of_covers 9 _ (by decide +kernel) fun t hf y => ?_)
  blk_simp
  rw [after0_9]
  unfold_out out0_9
  frame_out
  idx_vars y
  rw [emb0_9]
  exact pay2_at m ρ c t y0 y1

theorem emb0_10 (t : Fin cfg0.N) (r : Fin 512) (l : Fin 1024) :
    ((View.whole main_v9_1).slice (win0_10.rect t)).emb (ix2 r l) = (ix2 (row0 t r) l : S8192x1024.Idx) := by
  blk_ext [idx0 t]

theorem left0_10 : (W2 m ρ c (Proc.devRef .tc main_v9_1) : S8192x1024.Idx → EReal) = fun i => yb (args m c) (i 0) (i 1) := by
  refine (W2_arr m ρ c 10).trans ((dat0 (V1 m ρ) c).arrAt_eq_of_covers 10 _ (by decide +kernel) fun t hf y => ?_)
  blk_simp
  rw [after0_10]
  unfold_out out0_10
  frame_out
  idx_vars y
  rw [emb0_10]
  exact pay3_at m ρ c t y0 y1

theorem emb0_12 (t : Fin cfg0.N) (r : Fin 512) (l : Fin 1024) :
    ((View.whole main_v9_3).slice (win0_12.rect t)).emb (ix2 r l) = (ix2 (row0 t r) l : S8192x1024.Idx) := by
  blk_ext [idx0 t]

theorem left0_12 : (W2 m ρ c (Proc.devRef .tc main_v9_3) : S8192x1024.Idx → EReal) = fun i => mx (args m c) i := by
  refine (W2_arr m ρ c 12).trans ((dat0 (V1 m ρ) c).arrAt_eq_of_covers 12 _ (by decide +kernel) fun t hf y => ?_)
  blk_simp
  rw [after0_12]
  unfold_out out0_12
  frame_out
  idx_vars y
  rw [emb0_12]
  exact prod_at m ρ c t y0 y1

theorem emb0_13 (t : Fin cfg0.N) (r : Fin 512) (l : Fin 1024) :
    ((View.whole main_v9_4).slice (win0_13.rect t)).emb (ix2 r l) = (ix2 (row0 t r) l : S8192x1024.Idx) := by
  blk_ext [idx0 t]

theorem left0_13 : (W2 m ρ c (Proc.devRef .tc main_v9_4) : S8192x1024.Idx → EReal) = fun i => h1 (args m c) (i 0) (i 1) := by
  refine (W2_arr m ρ c 13).trans ((dat0 (V1 m ρ) c).arrAt_eq_of_covers 13 _ (by decide +kernel) fun t hf y => ?_)
  blk_simp
  rw [after0_13]
  unfold_out out0_13
  frame_out
  idx_vars y
  rw [emb0_13]
  exact pay1_at m ρ c t y0 y1

end Cert.MixKernel

end
-- ==== Proof.MixBackward.lean ====
/- The second claim's second kernel: the arrays it leaves. -/
module

public import proofs.«01_k».proof.Proof.MixForward

@[expose] public section

set_option maxRecDepth 16384

noncomputable section

namespace Cert.MixKernel

open Idealize.ShloMosaic Idealize.ShloMosaic.TcCoe Idealize.SL.Sem
open Idealize.ShloMosaic.Pipeline (Dat)
open Cert.Kernel2Ideal Cert.Kernel2Ideal.Gen Cert.RowGrad Cert.MixSpec

variable (m : (ℓ : Loc nD τ sig) → Buf (Elt Ideal) ℓ) (ρ : Dev nD → PrngReg) (c : Dev nD)

theorem idx1 : ∀ t : Fin cfg1.N, win1_0.index t = ![t.val, 0] ∧ win1_1.index t = ![t.val, 0] ∧ win1_2.index t = ![t.val, 4]
    ∧ win1_3.index t = ![t.val, 5] ∧ win1_4.index t = ![t.val, 0] ∧ win1_5.index t = ![t.val, 0] ∧ win1_6.index t = ![0, 0]
    ∧ win1_7.index t = ![0, 0] ∧ win1_8.index t = ![0, 0] ∧ win1_9.index t = ![0, 0] ∧ win1_10.index t = ![t.val, 0]
    ∧ win1_11.index t = ![t.val, 0] ∧ win1_12.index t = ![t.val, 0] ∧ win1_13.index t = ![t.val, 0] ∧ win1_14.index t = ![t.val, 0]
    ∧ win1_15.index t = ![t.val, 0] ∧ win1_16.index t = ![t.val, 0] ∧ win1_17.index t = ![0, 0] ∧ t.val < 16 :=
  (by decide +kernel : ∀ t : Fin grid1.N, _)

/-- Row `r` of the block at point `t`. -/
abbrev row (t : Fin cfg1.N) (r : Fin 512) : Fin 8192 := ⟨512 * t.val + r.val, by have : t.val < 16 := t.isLt.trans_eq N_1; omega⟩

/-- The blocks at point `t`: the arguments through the first kernel unchanged, and what that kernel left. -/
theorem blk0 (t : Fin cfg1.N) (r : Fin 512) (k : Fin 1024) :
    (show FVec Ideal S512x1024 .f32 from iblk1 (V2 m ρ) c 0 t) (ix2 r k) = dh (args m c) (row t r) k := by
  refine Eq.trans ?_ (congrFun (W2_args m ρ c main_arg10 (by decide)) (ix2 (row t r) k))
  blk_ext [iblk1, idx1 t]

theorem blk1 (t : Fin cfg1.N) (r : Fin 512) (k : Fin 1024) :
    (show FVec Ideal S512x1024 .bf16 from iblk1 (V2 m ρ) c 1 t) (ix2 r k) = mx (args m c) (ix2 (row t r) k) := by
  refine Eq.trans ?_ (congrFun (left0_12 m ρ c) (ix2 (row t r) k))
  blk_ext [iblk1, idx1 t]

theorem blk2 (t : Fin cfg1.N) (r : Fin 512) (k : Fin 1024) :
    (show FVec Ideal S512x1024 .bf16 from iblk1 (V2 m ρ) c 2 t) (ix2 r k) = (args m c).ga (ix2 (row t r) k) := by
  refine Eq.trans ?_ ((congrFun (W2_of m ρ c main_v2 (by decide)) (ix2 (row t r) ⟨4096 + k.val, by omega⟩)).trans (z_ga m ρ c (row t r) k))
  blk_ext [iblk1, idx1 t]

theorem blk3 (t : Fin cfg1.N) (r : Fin 512) (k : Fin 1024) :
    (show FVec Ideal S512x1024 .bf16 from iblk1 (V2 m ρ) c 3 t) (ix2 r k) = (args m c).gb (ix2 (row t r) k) := by
  refine Eq.trans ?_ ((congrFun (W2_of m ρ c main_v2 (by decide)) (ix2 (row t r) ⟨5120 + k.val, by omega⟩)).trans (z_gb m ρ c (row t r) k))
  blk_ext [iblk1, idx1 t]

theorem blk4 (t : Fin cfg1.N) (r : Fin 512) (k : Fin 1024) :
    (show FVec Ideal S512x1024 .bf16 from iblk1 (V2 m ρ) c 4 t) (ix2 r k) = ya (args m c) (row t r) k := by
  refine Eq.trans ?_ (congrFun (left0_9 m ρ c) (ix2 (row t r) k))
  blk_ext [iblk1, idx1 t]

theorem blk5 (t : Fin cfg1.N) (r : Fin 512) (k : Fin 1024) :
    (show FVec Ideal S512x1024 .bf16 from iblk1 (V2 m ρ) c 5 t) (ix2 r k) = yb (args m c) (row t r) k := by
  refine Eq.trans ?_ (congrFun (left0_10 m ρ c) (ix2 (row t r) k))
  blk_ext [iblk1, idx1 t]

theorem blk6 (t : Fin cfg1.N) (k : Fin 1024) :
    (show FVec Ideal S1x1024 .f32 from iblk1 (V2 m ρ) c 6 t) (ix2 0 k) = (args m c).g (ix1 k) := by
  refine Eq.trans ?_ ((congrFun (W2_of m ρ c main_v3 (by decide)) (ix2 0 k)).trans (v3 m ρ c k))
  blk_point [iblk1, idx1 t]

theorem blk7 (t : Fin cfg1.N) (k l : Fin 1024) :
    (show FVec Ideal S1024x1024 .bf16 from iblk1 (V2 m ρ) c 7 t) (ix2 k l) = (args m c).wm (ix2 k l) := by
  refine Eq.trans ?_ ((congrFun (W2_of m ρ c main_v6 (by decide)) (ix2 k l)).trans (v6 m ρ c k l))
  blk_ext [iblk1, idx1 t]

theorem blk8 (t : Fin cfg1.N) (k : Fin 512) (l : Fin 1024) :
    (show FVec Ideal S512x1024 .bf16 from iblk1 (V2 m ρ) c 8 t) (ix2 k l) = (args m c).wa (ix2 k l) := by
  refine Eq.trans ?_ ((congrFun (W2_of m ρ c main_v4 (by decide)) (ix2 k l)).trans (v4 m ρ c k l))
  blk_ext [iblk1, idx1 t]

theorem blk9 (t : Fin cfg1.N) (k l : Fin 1024) :
    (show FVec Ideal S1024x1024 .bf16 from iblk1 (V2 m ρ) c 9 t) (ix2 k l) = (args m c).wb (ix2 k l) := by
  refine Eq.trans ?_ ((congrFun (W2_of m ρ c main_v5 (by decide)) (ix2 k l)).trans (v5 m ρ c k l))
  blk_ext [iblk1, idx1 t]

/-- The gradient of the product, at point `t`. -/
abbrev dm (t : Fin cfg1.N) : FVec Ideal S512x1024 .bf16 := k1_pay8 (F := Ideal) (iblk1 (V2 m ρ) c 0 t) (iblk1 (V2 m ρ) c 1 t) (iblk1 (V2 m ρ) c 6 t)

/-- The blocks the body stores, elementwise. -/
theorem dm_at (t : Fin cfg1.N) (r : Fin 512) (l : Fin 1024) :
    dm m ρ c t (ix2 r l) = dmx (args m c) (row t r) l := by
  pointwise [k1_pay8, k1_pay6, k1_pay5, k1_pay4]
  simp only [dmx, dxRow, rs, ms, ← blk0 m ρ, ← blk1 m ρ, ← blk6 m ρ c t]

theorem pay9_at (t : Fin cfg1.N) (r : Fin 512) (l : Fin 1024) :
    k1_pay9 (F := Ideal) (dm m ρ c t) (iblk1 (V2 m ρ) c 7 t) (ix2 r l) = dmp (args m c) (row t r) l := by
  pointwise [k1_pay9]
  simp only [dmp, dm_at, ← blk7 m ρ c t]

theorem pay11_at (t : Fin cfg1.N) (r : Fin 512) (l : Fin 1024) :
    k1_pay11 (F := Ideal) (dm m ρ c t) (iblk1 (V2 m ρ) c 7 t) (iblk1 (V2 m ρ) c 2 t) (ix2 r l) = dya (args m c) (row t r) l := by
  pointwise [k1_pay11, k1_pay10]
  simp only [dya, sga, pay9_at, ← blk2 m ρ]

theorem pay12_at (t : Fin cfg1.N) (r : Fin 512) (l : Fin 1024) :
    k1_pay12 (F := Ideal) (dm m ρ c t) (iblk1 (V2 m ρ) c 7 t) (iblk1 (V2 m ρ) c 2 t) (iblk1 (V2 m ρ) c 4 t) (ix2 r l) = dga (args m c) (row t r) l := by
  pointwise [k1_pay12, k1_pay10]
  simp only [dga, sga, pay11_at, ← blk2 m ρ, ← blk4 m ρ]

theorem pay13_at (t : Fin cfg1.N) (r : Fin 512) (l : Fin 512) :
    k1_pay13 (F := Ideal) (dm m ρ c t) (iblk1 (V2 m ρ) c 7 t) (iblk1 (V2 m ρ) c 2 t) (iblk1 (V2 m ρ) c 8 t) (ix2 r l) = dsa (args m c) (row t r) l := by
  pointwise [k1_pay13]
  simp only [dsa, pay11_at, ← blk8 m ρ c t]

theorem pay15_at (t : Fin cfg1.N) (r : Fin 512) (l : Fin 1024) :
    k1_pay15 (F := Ideal) (dm m ρ c t) (iblk1 (V2 m ρ) c 7 t) (iblk1 (V2 m ρ) c 3 t) (ix2 r l) = dyb (args m c) (row t r) l := by
  pointwise [k1_pay15, k1_pay14]
  simp only [dyb, sgb, pay9_at, ← blk3 m ρ]

theorem pay1_1_at (t : Fin cfg1.N) (r : Fin 512) (l : Fin 1024) :
    k1_pay1 (F := Ideal) (k1_pay14 (iblk1 (V2 m ρ) c 3 t)) (k1_pay16 (dm m ρ c t) (iblk1 (V2 m ρ) c 7 t) (iblk1 (V2 m ρ) c 3 t) (iblk1 (V2 m ρ) c 5 t)) (ix2 r l) = dgb (args m c) (row t r) l := by
  pointwise [k1_pay1, k1_pay16, k1_pay14]
  simp only [dgb, sgb, pay15_at, ← blk3 m ρ, ← blk5 m ρ]

theorem pay2_1_at (t : Fin cfg1.N) (r : Fin 512) (l : Fin 1024) :
    k1_pay2 (F := Ideal) (k1_pay15 (dm m ρ c t) (iblk1 (V2 m ρ) c 7 t) (iblk1 (V2 m ρ) c 3 t)) (iblk1 (V2 m ρ) c 9 t) (ix2 r l) = dob (args m c) (row t r) l := by
  pointwise [k1_pay2]
  simp only [dob, pay15_at, ← blk9 m ρ c t]

/-- The term the body adds to the gain's gradient. -/
theorem pay7_at (t : Fin cfg1.N) (v : Vec Ideal S1x1024 .f32) (l : Fin 1024) :
    k1_pay7 (F := Ideal) (iblk1 (V2 m ρ) c 0 t) (iblk1 (V2 m ρ) c 1 t) v (ix2 0 l)
      = v (ix2 0 l) + ∑ r : Fin 512, dgAt (mx (args m c)) (dh (args m c)) (row t r) l := by
  pointwise [k1_pay7, k1_pay6, k1_pay5, k1_pay4]
  simp only [dgAt, rs, ms, ← blk0 m ρ, ← blk1 m ρ]

/-- The tiled arrays the kernel leaves. -/
theorem emb10 (t : Fin cfg1.N) (r : Fin 512) (l : Fin 1024) :
    ((View.whole main_v10_0).slice (win1_10.rect t)).emb (ix2 r l) = (ix2 (row t r) l : S8192x1024.Idx) := by
  blk_ext [idx1 t]

theorem left10 : (W3 m ρ c (Proc.devRef .tc main_v10_0) : S8192x1024.Idx → EReal) = fun i => dmx (args m c) (i 0) (i 1) := by
  refine (W3_arr m ρ c 10).trans ((dat1 (V2 m ρ) c).arrAt_eq_of_covers 10 _ (by decide +kernel) fun t hf y => ?_)
  blk_simp
  rw [after1_10]
  by_cases h0 : t.val % 16 = 0
  · rw [outsAt1_A (V2 m ρ) c t h0]
    frame_out
    idx_vars y
    rw [emb10]
    exact dm_at m ρ c t y0 y1
  · rw [outsAt1_B (V2 m ρ) c t h0]
    frame_out
    idx_vars y
    rw [emb10]
    exact dm_at m ρ c t y0 y1

theorem emb11 (t : Fin cfg1.N) (r : Fin 512) (l : Fin 1024) :
    ((View.whole main_v10_1).slice (win1_11.rect t)).emb (ix2 r l) = (ix2 (row t r) l : S8192x1024.Idx) := by
  blk_ext [idx1 t]

theorem left11 : (W3 m ρ c (Proc.devRef .tc main_v10_1) : S8192x1024.Idx → EReal) = fun i => dya (args m c) (i 0) (i 1) := by
  refine (W3_arr m ρ c 11).trans ((dat1 (V2 m ρ) c).arrAt_eq_of_covers 11 _ (by decide +kernel) fun t hf y => ?_)
  blk_simp
  rw [after1_11]
  by_cases h0 : t.val % 16 = 0
  · rw [outsAt1_A (V2 m ρ) c t h0]
    frame_out
    idx_vars y
    rw [emb11]
    exact pay11_at m ρ c t y0 y1
  · rw [outsAt1_B (V2 m ρ) c t h0]
    frame_out
    idx_vars y
    rw [emb11]
    exact pay11_at m ρ c t y0 y1

theorem emb12 (t : Fin cfg1.N) (r : Fin 512) (l : Fin 1024) :
    ((View.whole main_v10_2).slice (win1_12.rect t)).emb (ix2 r l) = (ix2 (row t r) l : S8192x1024.Idx) := by
  blk_ext [idx1 t]

theorem left12 : (W3 m ρ c (Proc.devRef .tc main_v10_2) : S8192x1024.Idx → EReal) = fun i => dyb (args m c) (i 0) (i 1) := by
  refine (W3_arr m ρ c 12).trans ((dat1 (V2 m ρ) c).arrAt_eq_of_covers 12 _ (by decide +kernel) fun t hf y => ?_)
  blk_simp
  rw [after1_12]
  by_cases h0 : t.val % 16 = 0
  · rw [outsAt1_A (V2 m ρ) c t h0]
    frame_out
    idx_vars y
    rw [emb12]
    exact pay15_at m ρ c t y0 y1
  · rw [outsAt1_B (V2 m ρ) c t h0]
    frame_out
    idx_vars y
    rw [emb12]
    exact pay15_at m ρ c t y0 y1

theorem emb13 (t : Fin cfg1.N) (r : Fin 512) (l : Fin 1024) :
    ((View.whole main_v10_3).slice (win1_13.rect t)).emb (ix2 r l) = (ix2 (row t r) l : S8192x1024.Idx) := by
  blk_ext [idx1 t]

theorem left13 : (W3 m ρ c (Proc.devRef .tc main_v10_3) : S8192x1024.Idx → EReal) = fun i => dga (args m c) (i 0) (i 1) := by
  refine (W3_arr m ρ c 13).trans ((dat1 (V2 m ρ) c).arrAt_eq_of_covers 13 _ (by decide +kernel) fun t hf y => ?_)
  blk_simp
  rw [after1_13]
  by_cases h0 : t.val % 16 = 0
  · rw [outsAt1_A (V2 m ρ) c t h0]
    frame_out
    idx_vars y
    rw [emb13]
    exact pay12_at m ρ c t y0 y1
  · rw [outsAt1_B (V2 m ρ) c t h0]
    frame_out
    idx_vars y
    rw [emb13]
    exact pay12_at m ρ c t y0 y1

theorem emb14 (t : Fin cfg1.N) (r : Fin 512) (l : Fin 1024) :
    ((View.whole main_v10_4).slice (win1_14.rect t)).emb (ix2 r l) = (ix2 (row t r) l : S8192x1024.Idx) := by
  blk_ext [idx1 t]

theorem left14 : (W3 m ρ c (Proc.devRef .tc main_v10_4) : S8192x1024.Idx → EReal) = fun i => dgb (args m c) (i 0) (i 1) := by
  refine (W3_arr m ρ c 14).trans ((dat1 (V2 m ρ) c).arrAt_eq_of_covers 14 _ (by decide +kernel) fun t hf y => ?_)
  blk_simp
  rw [after1_14]
  by_cases h0 : t.val % 16 = 0
  · rw [outsAt1_A (V2 m ρ) c t h0]
    frame_out
    idx_vars y
    rw [emb14]
    exact pay1_1_at m ρ c t y0 y1
  · rw [outsAt1_B (V2 m ρ) c t h0]
    frame_out
    idx_vars y
    rw [emb14]
    exact pay1_1_at m ρ c t y0 y1

theorem emb15 (t : Fin cfg1.N) (r : Fin 512) (l : Fin 512) :
    ((View.whole main_v10_5).slice (win1_15.rect t)).emb (ix2 r l) = (ix2 (row t r) l : S8192x512.Idx) := by
  blk_ext [idx1 t]

theorem left15 : (W3 m ρ c (Proc.devRef .tc main_v10_5) : S8192x512.Idx → EReal) = fun i => dsa (args m c) (i 0) (i 1) := by
  refine (W3_arr m ρ c 15).trans ((dat1 (V2 m ρ) c).arrAt_eq_of_covers 15 _ (by decide +kernel) fun t hf y => ?_)
  blk_simp
  rw [after1_15]
  by_cases h0 : t.val % 16 = 0
  · rw [outsAt1_A (V2 m ρ) c t h0]
    frame_out
    idx_vars y
    rw [emb15]
    exact pay13_at m ρ c t y0 y1
  · rw [outsAt1_B (V2 m ρ) c t h0]
    frame_out
    idx_vars y
    rw [emb15]
    exact pay13_at m ρ c t y0 y1

theorem emb16 (t : Fin cfg1.N) (r : Fin 512) (l : Fin 1024) :
    ((View.whole main_v10_6).slice (win1_16.rect t)).emb (ix2 r l) = (ix2 (row t r) l : S8192x1024.Idx) := by
  blk_ext [idx1 t]

theorem left16 : (W3 m ρ c (Proc.devRef .tc main_v10_6) : S8192x1024.Idx → EReal) = fun i => dob (args m c) (i 0) (i 1) := by
  refine (W3_arr m ρ c 16).trans ((dat1 (V2 m ρ) c).arrAt_eq_of_covers 16 _ (by decide +kernel) fun t hf y => ?_)
  blk_simp
  rw [after1_16]
  by_cases h0 : t.val % 16 = 0
  · rw [outsAt1_A (V2 m ρ) c t h0]
    frame_out
    idx_vars y
    rw [emb16]
    exact pay2_1_at m ρ c t y0 y1
  · rw [outsAt1_B (V2 m ρ) c t h0]
    frame_out
    idx_vars y
    rw [emb16]
    exact pay2_1_at m ρ c t y0 y1

/-- The block a point leaves in the accumulator window. -/
abbrev acc (n : ℕ) (h : n < cfg1.N) : FVec Ideal S1x1024 .f32 := (outsAt1 (V2 m ρ) c n h).2.2.2.2.2.2.2

/-- The sum over the rows of the block at point `t`. -/
def blockSum (t : Fin cfg1.N) (i : S1x1024.Idx) : EReal :=
  ∑ r : Fin 512, dgAt (mx (args m c)) (dh (args m c)) (row t r) (i 1)

theorem acc_first (t : Fin cfg1.N) (h : t.val % 16 = 0) (i : S1x1024.Idx) : acc m ρ c t.val t.isLt i = 0 + blockSum m c t i := by
  unfold acc
  rw [outsAt1_A (V2 m ρ) c t h]
  frame_out
  (idx_vars i)
  obtain rfl : i0 = 0 := Subsingleton.elim _ _
  refine (pay7_at m ρ c t _ i1).trans (congrArg (· + _) ?_)
  pointwise [k1_pay3]

theorem acc_next (t : Fin cfg1.N) (h : ¬t.val % 16 = 0) (i : S1x1024.Idx) :
    acc m ρ c t.val t.isLt i = acc m ρ c (t.val - 1) (Nat.lt_of_le_of_lt (Nat.sub_le _ _) t.isLt) i + blockSum m c t i := by
  unfold acc
  rw [outsAt1_B (V2 m ρ) c t h]
  frame_out
  (idx_vars i)
  obtain rfl : i0 = 0 := Subsingleton.elim _ _
  exact pay7_at m ρ c t _ i1

theorem acc_last (i : S1x1024.Idx) : acc m ρ c t1_15.val t1_15.isLt i = dg (args m c) (i 1) :=
  (Pipeline.eq_sum_fin_of_reset_step_apply_last (M := EReal) (acc m ρ c) 16 (fun _ => 0) (blockSum m c) (acc_first m ρ c) (acc_next m ρ c)
    (le_of_eq N_1) t1_15 rfl i).trans ((zero_add _).trans
    (sum_blocks (by rw [show cfg1.N = 16 from N_1]) (fun r => dgAt (mx (args m c)) (dh (args m c)) r (i 1)) row fun _ _ => rfl))

/-- The gain's gradient as the run leaves it. -/
theorem left17 : (W3 m ρ c (Proc.devRef .tc main_v10_7) : S1x1024.Idx → EReal) = fun i => dg (args m c) (i 1) := by
  refine (W3_arr m ρ c 17).trans ((dat1 (V2 m ρ) c).arrAt_eq_of_after_last 17 t1_15 (by decide +kernel) _ fun j => ?_)
  blk_simp
  rw [after1_17]
  exact acc_last m ρ c j

/-- The layer's result passes the second kernel unchanged. -/
theorem left13_0 : (W3 m ρ c (Proc.devRef .tc main_v9_4) : S8192x1024.Idx → EReal) = fun i => h1 (args m c) (i 0) (i 1) :=
  (W3_of m ρ c main_v9_4 (by decide)).trans (left0_13 m ρ c)

end Cert.MixKernel

end
-- ==== Proof.MixPre.lean ====
/- What the precondition of the second claim says: the arguments it names are real numbers. -/
module

public import proofs.«01_k».proof.Pre_finite2
public import proofs.«01_k».proof.Proof.InPre
import Idealize.ShloMosaic.Lib.Pointwise

@[expose] public section

set_option maxRecDepth 16384

noncomputable section

namespace Cert.Reals

open Idealize.ShloMosaic

/-- Every argument the precondition names is real at every index. -/
theorem mixPre [Cert.Pre_finite2.Facts] {x0 x1 x2 x3 x4 x5 x6 x7 x8 x9 x10}
    (h : Cert.Pre_finite2.fn (F := Ideal) x0 x1 x2 x3 x4 x5 x6 x7 x8 x9 x10 = fun _ => 1#1) :
    (∀ i, IsReal (x1 i)) ∧ (∀ i, IsReal (x2 i)) ∧ (∀ i, IsReal (x6 i)) ∧ (∀ i, IsReal (x7 i)) ∧ (∀ i, IsReal (x8 i)) ∧ (∀ i, IsReal (x9 i)) ∧ (∀ i, IsReal (x10 i)) := by
  have h := congrFun h ix0
  obtain ⟨h, h6⟩ := andi_eq_one h
  obtain ⟨h, h5⟩ := andi_eq_one h
  obtain ⟨h, h4⟩ := andi_eq_one h
  obtain ⟨h, h3⟩ := andi_eq_one h
  obtain ⟨h, h2⟩ := andi_eq_one h
  obtain ⟨h0, h1⟩ := andi_eq_one h
  have : Subsingleton Cert.Pre_finite2.S_.Idx := ⟨fun a b => funext fun k => k.elim0⟩
  have hb {s : Shape} (hs : Cert.Pre_finite2.S_.BroadcastsInDim s (![] : Fin 0 → Fin s.rank)) (i : s.Idx) :
      broadcastInDim s ![] hs (constant (F := Ideal) Cert.Pre_finite2.S_ .f32 0x7F800000#32) i = (⊤ : EReal) := ofBits_inf
  exact ⟨isReal_of_all _ _ _ _ _ _ (hb _) h0, isReal_of_all _ _ _ _ _ _ (hb _) h1, isReal_of_all _ _ _ _ _ _ (hb _) h2, isReal_of_all _ _ _ _ _ _ (hb _) h3, isReal_of_all _ _ _ _ _ _ (hb _) h4, isReal_of_all _ _ _ _ _ _ (hb _) h5, isReal_of_all _ _ _ _ _ _ (hb _) h6⟩

end Cert.Reals

end
-- ==== Proof.MixRef.lean ====
/- The second claim's reference, read at an index. -/
module

public import proofs.«01_k».proof.Proof.MixSpec
public import proofs.«01_k».proof.Proof.Gen.Reference2Ideal.Read

@[expose] public section

set_option maxRecDepth 16384

noncomputable section

namespace Cert.MixRef

open Idealize.ShloMosaic Idealize.ShloMosaic.TcCoe Idealize.SL.Sem
open Cert.Reference2Ideal Cert.Reference2Ideal.Gen Cert.Reference2Ideal.Read Cert.MixSpec Cert.RowGrad Cert.Reals

variable (a : Args)

/-- The forward values. -/
theorem ya_at (r : Fin 8192) (l : Fin 1024) : val_main_v2 (F := Ideal) a.sa a.wa (ix2 r l) = ya a r l := by
  pointwise [val_main_v2, val_main_v1, val_main_v0, val_main_cst]
  simp only [ya, add_zero]

theorem yb_at (r : Fin 8192) (l : Fin 1024) : val_main_v4 (F := Ideal) a.ob a.wb (ix2 r l) = yb a r l := by
  pointwise [val_main_v4, val_main_v3, val_main_v0, val_main_cst]
  simp only [yb, add_zero]

theorem sga_at (r : Fin 8192) (l : Fin 1024) : val_main_v10 (F := Ideal) a.ga (ix2 r l) = sga a r l := by
  pointwise [val_main_v10, val_main_v9, val_main_cst_1, val_main_v8, val_main_v7, val_main_cst_0, val_main_v6, val_main_v5]
  simp only [sga, Ideal.logistic]

theorem sgb_at (r : Fin 8192) (l : Fin 1024) : val_main_v20 (F := Ideal) a.gb (ix2 r l) = sgb a r l := by
  pointwise [val_main_v20, val_main_v19, val_main_cst_4, val_main_v18, val_main_v17, val_main_cst_3, val_main_v16, val_main_v15]
  simp only [sgb, Ideal.logistic]

theorem mx_ref (r : Fin 8192) (l : Fin 1024) : val_main_v27 (F := Ideal) a.sa a.ob a.ga a.gb a.wa a.wb a.wm (ix2 r l) = mx a (ix2 r l) := by
  pointwise [val_main_v27, val_main_v26, val_main_v25, val_main_v14, val_main_v24, val_main_v0, val_main_cst]
  simp only [mx_at, mp, ya_at, yb_at, sga_at, sgb_at, add_zero]

theorem rs_at (r : Fin 8192) : val_main_v35 (F := Ideal) a.sa a.ob a.ga a.gb a.wa a.wb a.wm (ix2 r 0) = rs (mx a) r := by
  pointwise [val_main_v35, val_main_v34, val_main_v32, val_main_v30, val_main_v29, val_main_v28, val_main_cst_6, val_main_v31, val_main_cst_7, val_main_v33, val_main_cst_8]
  simp only [rs, ms, mx_ref, zero_add]

theorem h1_at (r : Fin 8192) (l : Fin 1024) : val_main_v44 (F := Ideal) a.x a.sa a.ob a.ga a.gb a.wa a.wb a.wm a.g (ix2 r l) = h1 a r l := by
  pointwise [val_main_v44, val_main_v43, val_main_v40, val_main_v39, val_main_v42, val_main_v41]
  simp only [h1, mx_ref, rs_at]

/-- The gradient of the product on finite rows. -/
theorem dmx_at (r : Fin 8192) (l : Fin 1024)
    (hx : ∀ k, IsReal (mx a (ix2 r k))) (hd : ∀ k, IsReal (dh a r k * a.g (ix1 k))) : val_main_v64 (F := Ideal) a.sa a.ob a.ga a.gb a.wa a.wb a.wm a.g a.dh (ix2 r l) = dmx a r l := by
  refine Eq.trans ?_ (dxRow_eq (mx a) a.g (dh a) r l hx hd)
  pointwise [val_main_v64, val_main_v62, val_main_v55, val_main_v49, val_main_v48, val_main_v41, val_main_v54, val_main_v61, val_main_v60, val_main_v59, val_main_v58, val_main_v56, val_main_v53, val_main_v52, val_main_v51, val_main_cst_12, val_main_v38, val_main_v37, val_main_cst_9, val_main_v36, val_main_v34, val_main_v32, val_main_v30, val_main_v29, val_main_v28, val_main_cst_6, val_main_v31, val_main_cst_7, val_main_v33, val_main_cst_8, val_main_v57, val_main_cst_13, val_main_cst_14, val_main_v63]
  simp only [q, rs, ms, dh, mx_ref, rs_at, zero_add, Fin.sum_univ_one]

-- The remaining gradients, where the rows are finite.
variable {a} (hx : ∀ i, IsReal (mx a i)) (hd : ∀ r k, IsReal (dh a r k * a.g (ix1 k)))
include hx hd

theorem dmp_at (r : Fin 8192) (l : Fin 1024) : val_main_v65 (F := Ideal) a.sa a.ob a.ga a.gb a.wa a.wb a.wm a.g a.dh (ix2 r l) = dmp a r l := by
  pointwise [val_main_v65]
  simp only [dmp, dmx_at a _ _ (fun k => hx _) (hd _)]

theorem out1_at (r : Fin 8192) (l : Fin 1024) : val_main_v74 (F := Ideal) a.sa a.ob a.ga a.gb a.wa a.wb a.wm a.g a.dh (ix2 r l) = dmx a r l := by
  pointwise [val_main_v74]
  simp only [dmx_at a _ _ (fun k => hx _) (hd _)]

theorem dya_at (r : Fin 8192) (l : Fin 1024) : val_main_v69 (F := Ideal) a.sa a.ob a.ga a.gb a.wa a.wb a.wm a.g a.dh (ix2 r l) = dya a r l := by
  pointwise [val_main_v69]
  simp only [dya, sga_at, dmp_at hx hd, mul_comm]

theorem dyb_at (r : Fin 8192) (l : Fin 1024) : val_main_v66 (F := Ideal) a.sa a.ob a.ga a.gb a.wa a.wb a.wm a.g a.dh (ix2 r l) = dyb a r l := by
  pointwise [val_main_v66]
  simp only [dyb, sgb_at, dmp_at hx hd, mul_comm]

theorem out2_at (r : Fin 8192) (l : Fin 1024) : val_main_v75 (F := Ideal) a.sa a.ob a.ga a.gb a.wa a.wb a.wm a.g a.dh (ix2 r l) = dya a r l := by
  pointwise [val_main_v75]
  simp only [dya_at hx hd]

theorem out3_at (r : Fin 8192) (l : Fin 1024) : val_main_v76 (F := Ideal) a.sa a.ob a.ga a.gb a.wa a.wb a.wm a.g a.dh (ix2 r l) = dyb a r l := by
  pointwise [val_main_v76]
  simp only [dyb_at hx hd]

theorem out4_at (r : Fin 8192) (l : Fin 1024) : val_main_v77 (F := Ideal) a.sa a.ob a.ga a.gb a.wa a.wb a.wm a.g a.dh (ix2 r l) = dga a r l := by
  pointwise [val_main_v77, val_main_v71, val_main_v70, val_main_v13, val_main_v12, val_main_v11, val_main_cst_2]
  simp only [dga, dya, sga_at, ya_at, dmp_at hx hd]
  ac_rfl

theorem out5_at (r : Fin 8192) (l : Fin 1024) : val_main_v78 (F := Ideal) a.sa a.ob a.ga a.gb a.wa a.wb a.wm a.g a.dh (ix2 r l) = dgb a r l := by
  pointwise [val_main_v78, val_main_v68, val_main_v67, val_main_v23, val_main_v22, val_main_v21, val_main_cst_5]
  simp only [dgb, dyb, sgb_at, yb_at, dmp_at hx hd]
  ac_rfl

theorem out6_at (r : Fin 8192) (l : Fin 512) : val_main_v79 (F := Ideal) a.sa a.ob a.ga a.gb a.wa a.wb a.wm a.g a.dh (ix2 r l) = dsa a r l := by
  pointwise [val_main_v79, val_main_v73]
  simp only [dsa, dya_at hx hd]

theorem out7_at (r : Fin 8192) (l : Fin 1024) : val_main_v80 (F := Ideal) a.sa a.ob a.ga a.gb a.wa a.wb a.wm a.g a.dh (ix2 r l) = dob a r l := by
  pointwise [val_main_v80, val_main_v72]
  simp only [dob, dyb_at hx hd]

omit hx hd in
theorem out8_at (l : Fin 1024) : val_main_v81 (F := Ideal) a.sa a.ob a.ga a.gb a.wa a.wb a.wm a.dh (ix2 0 l) = dg a l := by
  pointwise [val_main_v81, val_main_v50, val_main_v47, val_main_v46, val_main_v45, val_main_v40, val_main_v39, val_main_cst_10, val_main_cst_11]
  simp only [dg, dgAt, dh, mx_ref, rs_at, zero_add, Fin.sum_univ_one]
  exact Finset.sum_congr rfl fun r _ => mul_comm _ _

end Cert.MixRef

end
-- ==== Proof.MixRun.lean ====
/- The second claim's program: every unscoped buffer at the end of a run, and the argument arrays among them. -/
module

public import proofs.«01_k».proof.Proof.Gen.Kernel2Ideal.Frame
public import Idealize.ShloMosaic.Lib.Pointwise

@[expose] public section

set_option maxRecDepth 16384

noncomputable section

namespace Cert.MixRun

open Idealize.ShloMosaic Idealize.ShloMosaic.TcCoe Idealize.ShloMosaic.Rounds
open Idealize.SL Idealize.SL.RA Idealize.SL.BI Idealize.SL.BI.BIBase Idealize.SL.BI.Laws Idealize.SL.ProofMode Idealize.SL.Sem
open scoped Idealize.SL.BI
open Cert.Kernel2Ideal Cert.Kernel2Ideal.Gen

variable (m : (ℓ : Loc nD τ sig) → Buf (Elt Ideal) ℓ) (ρ : Dev nD → PrngReg)

local notation "𝕄" => MT nD τ sig Unit (Elt Ideal) ℕ (UR sig nD τ) ℕ

/-- The pipelines' ghost cells at the launch. -/
abbrev u₀ : UR sig nD τ := initOf (Pipeline.cells cfgs cellOf_inj) (Pipeline.launchToks cfgs cellOf_inj)

/-- The launch gives each device its part of the cells and nothing else. -/
theorem launch : (ownU u₀ : sProp 𝕄) ⊢ |={Set.univ}=> iprop(BI.own (emb₁ u₀) ∗ bigSep Finset.univ (fun _ : Dev nD => (BI.emp : sProp 𝕄))) := by
  rw [BI.bigSep_emp_const]
  iintro Hu
  imodintro
  isplitl [Hu]
  · iapply (show (ownU u₀ : sProp 𝕄) ⊢ BI.own (emb₁ u₀) from .rfl)
    iexact Hu
  · iempintro

-- the kit's implicit arguments are found by unfolding plain definitions in a metavariable's type
set_option backward.isDefEq.respectTransparency.types false in
/-- A run ends with every unscoped buffer at the last boundary's contents and every counter at zero. -/
theorem run : θ_run defs (onTc (τ := τ) (main (F := Ideal))) ⟨m, fun _ => 0, ρ⟩ (fun r =>
    ∀ (c : Dev nD) (b : Ref sig .tc), ¬(Proc.devRef .tc b : DevRef τ sig).isScoped →
      r.2.mem ((c.tc : Thread nD τ).loc b) = W3 m ρ c (Proc.devRef .tc b)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => BI.emp) (u₀ := u₀) (hu₀ := launch)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := Pipeline.initEach L lv fun c => by
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]
      · iexists _
        iexact Hp
      · iexists ∅
        iexact HO)
    (QY := fun c s => ∀ b ∈ Pipeline.ucRefs τ sig, s.mem (((c : Thread nD τ)).1, b) = W3 m ρ c b)
    (hfin := fun c s => by
      iintro ⟨⟨Hh, -⟩, HS⟩
      unfold StableHlo.held
      imodintro
      iapply (pointsTo_read_all (Pipeline.ucRefs τ sig) (fun b => (((c : Thread nD τ)).1, b)) (W3 m ρ c) s)
      isplitl [Hh] <;> iassumption)
    (hQ := fun _ h _ c b hb => h c _ (mem_uc b hb))

end Cert.MixRun

end
-- ==== Proof.MixClaim.lean ====
/- The second claim: the frames of its programs, and their results' equality. -/
module

public import proofs.«01_k».proof.Defs
public import proofs.«01_k».proof.Proof.Gen.Kernel2.Frame
public import proofs.«01_k».proof.Proof.Gen.Reference2Ideal.Run
public import proofs.«01_k».proof.Proof.MixBackward
public import proofs.«01_k».proof.Proof.MixPre
public import proofs.«01_k».proof.Proof.MixRef
public import proofs.«01_k».proof.Proof.MixRun
import Idealize.ShloMosaic.Lib.Claim

@[expose] public section

set_option maxRecDepth 16384

noncomputable section

namespace Cert.MixClaim

open Idealize.ShloMosaic Idealize.ShloMosaic.TcCoe Idealize.SL.Sem Cert.Reals Cert.RowGrad

theorem preFacts : Cert.Pre_finite2.Facts := by
  constructor <;> decide

instance : Cert.Pre_finite2.Facts := preFacts

theorem frame_kernel : Cert.quiescent_Kernel2 := fun m ρ _ => Cert.Kernel2.Gen.frame m ρ

theorem frame_ideal : Cert.quiescent_Kernel2Ideal := fun m ρ _ => Cert.Kernel2Ideal.Gen.frame m ρ

theorem frame_reference : Cert.quiescent_Reference2Ideal := fun m ρ _ =>
  (θ_run Cert.Reference2Ideal.defs _ _).mono
    (fun r h => ⟨fun c => (h c).2.2.2.2.2.2.2.2.2, sem_eq_zero_of_no_sems (by decide) r.2⟩) (Cert.Reference2Ideal.Value.run m ρ)

set_option maxHeartbeats 1600000 in
theorem algebraic : Cert.algebraic_Kernel2Ideal_Reference2Ideal_pre_finite2 := by
  intro m g m' g' hpre hargs
  refine ⟨_, _, _, _, _, _, _, _, _, (θ_run Cert.Kernel2Ideal.defs _ _).mono (fun r h c => ⟨h c _ (by decide), h c _ (by decide), h c _ (by decide), h c _ (by decide), h c _ (by decide), h c _ (by decide), h c _ (by decide), h c _ (by decide), h c _ (by decide),
    (h c _ (by decide)).trans (Cert.Kernel2Ideal.Gen.W3_main_arg0 m g c),
    (h c _ (by decide)).trans (Cert.Kernel2Ideal.Gen.W3_main_arg1 m g c),
    (h c _ (by decide)).trans (Cert.Kernel2Ideal.Gen.W3_main_arg2 m g c),
    (h c _ (by decide)).trans (Cert.Kernel2Ideal.Gen.W3_main_arg3 m g c),
    (h c _ (by decide)).trans (Cert.Kernel2Ideal.Gen.W3_main_arg4 m g c),
    (h c _ (by decide)).trans (Cert.Kernel2Ideal.Gen.W3_main_arg5 m g c),
    (h c _ (by decide)).trans (Cert.Kernel2Ideal.Gen.W3_main_arg6 m g c),
    (h c _ (by decide)).trans (Cert.Kernel2Ideal.Gen.W3_main_arg7 m g c),
    (h c _ (by decide)).trans (Cert.Kernel2Ideal.Gen.W3_main_arg8 m g c),
    (h c _ (by decide)).trans (Cert.Kernel2Ideal.Gen.W3_main_arg9 m g c),
    (h c _ (by decide)).trans (Cert.Kernel2Ideal.Gen.W3_main_arg10 m g c)⟩) (Cert.MixRun.run m g),
    (θ_run Cert.Reference2Ideal.defs _ _).mono (fun r h c => ?_) (Cert.Reference2Ideal.Value.run m' g')⟩
  obtain ⟨a0, a1, a2, a3, a4, a5, a6, a7, a8, a9, a10⟩ := hargs c
  obtain ⟨p1, p2, p6, p7, p8, p9, p10⟩ := mixPre (hpre c)
  have hx := MixSpec.mx_real (MixKernel.args m c) p1 p2 p6 p7 p8
  have hd := fun r k => (p10 (ix2 r k)).mul (p9 (ix1 k))
  obtain ⟨h0, h1, h2, h3, h4, h5, h6, h7, h8, h⟩ := h c
  refine ⟨h0.trans ?_, h1.trans ?_, h2.trans ?_, h3.trans ?_, h4.trans ?_, h5.trans ?_, h6.trans ?_, h7.trans ?_, h8.trans ?_, h⟩
  · rw [Cert.Reference2Ideal.Read.val_main_v44_eq, a0, a1, a2, a4, a5, a6, a7, a8, a9, Cert.MixKernel.left13_0]
    funext i
    idx_vars i
    exact Cert.MixRef.h1_at (MixKernel.args m c) i0 i1
  · rw [Cert.Reference2Ideal.Read.val_main_v74_eq, a1, a2, a4, a5, a6, a7, a8, a9, a10, Cert.MixKernel.left10]
    funext i
    idx_vars i
    exact Cert.MixRef.out1_at hx hd i0 i1
  · rw [Cert.Reference2Ideal.Read.val_main_v75_eq, a1, a2, a4, a5, a6, a7, a8, a9, a10, Cert.MixKernel.left11]
    funext i
    idx_vars i
    exact Cert.MixRef.out2_at hx hd i0 i1
  · rw [Cert.Reference2Ideal.Read.val_main_v76_eq, a1, a2, a4, a5, a6, a7, a8, a9, a10, Cert.MixKernel.left12]
    funext i
    idx_vars i
    exact Cert.MixRef.out3_at hx hd i0 i1
  · rw [Cert.Reference2Ideal.Read.val_main_v77_eq, a1, a2, a4, a5, a6, a7, a8, a9, a10, Cert.MixKernel.left13]
    funext i
    idx_vars i
    exact Cert.MixRef.out4_at hx hd i0 i1
  · rw [Cert.Reference2Ideal.Read.val_main_v78_eq, a1, a2, a4, a5, a6, a7, a8, a9, a10, Cert.MixKernel.left14]
    funext i
    idx_vars i
    exact Cert.MixRef.out5_at hx hd i0 i1
  · rw [Cert.Reference2Ideal.Read.val_main_v79_eq, a1, a2, a4, a5, a6, a7, a8, a9, a10, Cert.MixKernel.left15]
    funext i
    idx_vars i
    exact Cert.MixRef.out6_at hx hd i0 i1
  · rw [Cert.Reference2Ideal.Read.val_main_v80_eq, a1, a2, a4, a5, a6, a7, a8, a9, a10, Cert.MixKernel.left16]
    funext i
    idx_vars i
    exact Cert.MixRef.out7_at hx hd i0 i1
  · rw [Cert.Reference2Ideal.Read.val_main_v81_eq, a1, a2, a4, a5, a6, a7, a8, a10, Cert.MixKernel.left17]
    funext i
    (idx_vars i)
    obtain rfl : i0 = 0 := Subsingleton.elim _ _
    exact Cert.MixRef.out8_at (a := MixKernel.args m c) i1

end Cert.MixClaim

end
-- ==== Proof.OutSpec.lean ====
/- The layer's last part with its loss, and its gradient, in closed form over the arguments of the third claim. -/
module

public import proofs.«01_k».proof.Proof.RowGrad

@[expose] public section

noncomputable section

namespace Cert.OutSpec

open Idealize.ShloMosaic Cert.Reals Cert.RowGrad

/-- The arguments: the feed-forward's hidden rows, the residual, the per-layer embedding, the target, the three weights and
    the two gains. -/
structure Args where
  ff : FVec Ideal ⟨2, ![8192, 2816]⟩ .f32
  h1 : Rows
  p : FVec Ideal ⟨2, ![8192, 256]⟩ .f32
  tgt : Rows
  wd : FVec Ideal ⟨2, ![2816, 1024]⟩ .f32
  wg : FVec Ideal ⟨2, ![1024, 1024]⟩ .f32
  wp : FVec Ideal ⟨2, ![256, 1024]⟩ .f32
  g4 : Gain
  g5 : Gain

variable (a : Args)

/-- The feed-forward's product and the row after it. -/
def f : Rows := fun i => ∑ k : Fin 2816, a.ff (ix2 (i 0) k) * a.wd (ix2 k (i 1))
theorem f_at (r : Fin 8192) (l : Fin 1024) : f a (ix2 r l) = ∑ k : Fin 2816, a.ff (ix2 r k) * a.wd (ix2 k l) := rfl
def h2 (r : Fin 8192) (l : Fin 1024) : EReal := a.h1 (ix2 r l) + f a (ix2 r l) * rs (f a) r * a.g4 (ix1 l)

/-- The gate, the embedding's product, and the gated row. -/
def pg (r : Fin 8192) (l : Fin 1024) : EReal := ∑ k : Fin 1024, h2 a r k * a.wg (ix2 k l)
def pe (r : Fin 8192) (l : Fin 1024) : EReal := ∑ k : Fin 256, a.p (ix2 r k) * a.wp (ix2 k l)
def sg (r : Fin 8192) (l : Fin 1024) : EReal := Ideal.logistic (pg a r l)
def pl : Rows := fun i => sg a (i 0) (i 1) * pe a (i 0) (i 1)
theorem pl_at (r : Fin 8192) (l : Fin 1024) : pl a (ix2 r l) = sg a r l * pe a r l := rfl

/-- The result's distance from the target, the loss, and its gradient at the result. -/
def e (r : Fin 8192) (l : Fin 1024) : EReal := h2 a r l + pl a (ix2 r l) * rs (pl a) r * a.g5 (ix1 l) - a.tgt (ix2 r l)
def loss : EReal := ∑ r : Fin 8192, Ideal.ofBits .f32 0x3A000000#32 * ∑ l : Fin 1024, e a r l * e a r l
def dy (r : Fin 8192) (l : Fin 1024) : EReal := e a r l * Ideal.ofBits .f32 0x3A800000#32

/-- The gradients of the gated row, of the embedding's product, of the gate, of the row before it, of the feed-forward's
    product, of its hidden rows, and of the two gains. -/
def dpl (r : Fin 8192) (l : Fin 1024) : EReal := dxRow (pl a) a.g5 (dy a) r l
def dpe (r : Fin 8192) (l : Fin 1024) : EReal := dpl a r l * sg a r l
def dpg (r : Fin 8192) (l : Fin 1024) : EReal := dpl a r l * pe a r l * sg a r l * (1 - sg a r l)
def dh2 (r : Fin 8192) (l : Fin 1024) : EReal := dy a r l + ∑ k : Fin 1024, dpg a r k * a.wg (ix2 l k)
def df (r : Fin 8192) (l : Fin 1024) : EReal := dxRow (f a) a.g4 (dh2 a) r l
def dff (r : Fin 8192) (l : Fin 2816) : EReal := ∑ k : Fin 1024, df a r k * a.wd (ix2 l k)
def dg5 (l : Fin 1024) : EReal := ∑ r : Fin 8192, dgAt (pl a) (dy a) r l
def dg4 (l : Fin 1024) : EReal := ∑ r : Fin 8192, dgAt (f a) (dh2 a) r l

/-- Every argument is real. -/
structure AllReal : Prop where
  ff : ∀ i, IsReal (a.ff i)
  h1 : ∀ i, IsReal (a.h1 i)
  p : ∀ i, IsReal (a.p i)
  tgt : ∀ i, IsReal (a.tgt i)
  wd : ∀ i, IsReal (a.wd i)
  wg : ∀ i, IsReal (a.wg i)
  wp : ∀ i, IsReal (a.wp i)
  g4 : ∀ i, IsReal (a.g4 i)
  g5 : ∀ i, IsReal (a.g5 i)

variable {a} (h : AllReal a)
include h

/-- The rows the norms and their gradients meet are real. -/
theorem f_real (i) : IsReal (f a i) := IsReal.sum fun _ => (h.ff _).mul (h.wd _)

theorem h2_real (r : Fin 8192) (l : Fin 1024) : IsReal (h2 a r l) :=
  (h.h1 _).add (((f_real h _).mul (rs_real (f a) r fun _ => f_real h _)).mul (h.g4 _))

theorem pl_real (i) : IsReal (pl a i) := (logistic_real _).mul (IsReal.sum fun _ => (h.p _).mul (h.wp _))

theorem dy_real (r : Fin 8192) (l : Fin 1024) : IsReal (dy a r l) :=
  (((h2_real h r l).add (((pl_real h _).mul (rs_real (pl a) r fun _ => pl_real h _)).mul (h.g5 _))).sub (h.tgt _)).mul ⟨_, ofBits_inv1024⟩

theorem dh2_real (r : Fin 8192) (l : Fin 1024) : IsReal (dh2 a r l) := by
  refine (dy_real h r l).add (IsReal.sum fun k => IsReal.mul ?_ (h.wg _))
  exact ((((dxRow_real (pl a) a.g5 (dy a) r k (fun _ => pl_real h _) fun _ => (dy_real h r _).mul (h.g5 _)).mul
    (IsReal.sum fun _ => (h.p _).mul (h.wp _))).mul (logistic_real _)).mul (IsReal.one.sub (logistic_real _)))

end Cert.OutSpec

end
-- ==== Proof.OutForward.lean ====
/- The third claim's first kernel: what its operands hold, and the arrays it leaves. -/
module

public import proofs.«01_k».proof.Proof.Gen.Kernel3Ideal.Frame
public import proofs.«01_k».proof.Proof.OutSpec
import Idealize.ShloMosaic.Lib.Claim
import Idealize.ShloMosaic.Lib.StableHlo.ReadAt
public import Idealize.ShloMosaic.Lib.Pointwise
public import Idealize.ShloMosaic.Lib.Pipeline.ValueKit

@[expose] public section

set_option maxRecDepth 16384

noncomputable section

namespace Cert.OutKernel

open Idealize.ShloMosaic Idealize.ShloMosaic.TcCoe Idealize.SL.Sem
open Idealize.ShloMosaic.Pipeline (Dat)
open Cert.Kernel3Ideal Cert.Kernel3Ideal.Gen Cert.RowGrad Cert.OutSpec Cert.Reals

variable (m : (ℓ : Loc nD τ sig) → Buf (Elt Ideal) ℓ) (ρ : Dev nD → PrngReg) (c : Dev nD)

/-- The arguments as launched. -/
def args : Args where
  ff := m ((c : Thread nD τ).loc main_arg0)
  h1 := m ((c : Thread nD τ).loc main_arg1)
  p := m ((c : Thread nD τ).loc main_arg2)
  tgt := m ((c : Thread nD τ).loc main_arg3)
  wd := m ((c : Thread nD τ).loc main_arg4)
  wg := m ((c : Thread nD τ).loc main_arg5)
  wp := m ((c : Thread nD τ).loc main_arg6)
  g4 := m ((c : Thread nD τ).loc main_arg7)
  g5 := m ((c : Thread nD τ).loc main_arg8)

/-- The operands the host lines prepare. -/
theorem v5 (r : Fin 8192) (k : Fin 2816) : (V1 m ρ c main_v5 : FVec Ideal S8192x2816 .bf16) (ix2 r k) = (args m c).ff (ix2 r k) := by
  dsimp only [V1, W1]
  after_reads_at
  rfl

theorem v2 (r : Fin 2816) (k : Fin 1024) : (V1 m ρ c main_v2 : FVec Ideal S2816x1024 .bf16) (ix2 r k) = (args m c).wd (ix2 r k) := by
  dsimp only [V1, W1]
  after_reads_at
  rfl

theorem v3 (r k : Fin 1024) : (V1 m ρ c main_v3 : FVec Ideal S1024x1024 .bf16) (ix2 r k) = (args m c).wg (ix2 r k) := by
  dsimp only [V1, W1]
  after_reads_at
  rfl

theorem v4 (r : Fin 256) (k : Fin 1024) : (V1 m ρ c main_v4 : FVec Ideal S256x1024 .bf16) (ix2 r k) = (args m c).wp (ix2 r k) := by
  dsimp only [V1, W1]
  after_reads_at
  rfl

theorem v0 (k : Fin 1024) : (V1 m ρ c main_v0 : FVec Ideal S1x1024 .f32) (ix2 0 k) = (args m c).g4 (ix1 k) := by
  dsimp only [V1, W1]
  after_reads_at
  rfl

theorem v1 (k : Fin 1024) : (V1 m ρ c main_v1 : FVec Ideal S1x1024 .f32) (ix2 0 k) = (args m c).g5 (ix1 k) := by
  dsimp only [V1, W1]
  after_reads_at
  rfl

theorem arg1 : V1 m ρ c main_arg1 = m ((c : Thread nD τ).loc main_arg1) := W1_args m ρ c main_arg1 (by decide)
theorem arg2 : V1 m ρ c main_arg2 = m ((c : Thread nD τ).loc main_arg2) := W1_args m ρ c main_arg2 (by decide)
theorem arg3 : V1 m ρ c main_arg3 = m ((c : Thread nD τ).loc main_arg3) := W1_args m ρ c main_arg3 (by decide)

theorem idx0 : ∀ t : Fin cfg0.N, win0_0.index t = ![t.val, 0]
    ∧ win0_1.index t = ![t.val, 0]
    ∧ win0_2.index t = ![t.val, 0]
    ∧ win0_3.index t = ![t.val, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![t.val, 0]
    ∧ win0_10.index t = ![t.val, 0]
    ∧ win0_11.index t = ![t.val, 0]
    ∧ win0_12.index t = ![t.val, 0]
    ∧ win0_13.index t = ![t.val, 0]
    ∧ win0_14.index t = ![0, 0] ∧ t.val < 16 :=
  (by decide +kernel : ∀ t : Fin grid0.N, _)

/-- Row `r` of the block at point `t`. -/
abbrev row0 (t : Fin cfg0.N) (r : Fin 512) : Fin 8192 := ⟨512 * t.val + r.val, by have : t.val < 16 := t.isLt.trans_eq N_0; omega⟩

/-- The blocks at point `t`. -/
theorem blk0_0 (t : Fin cfg0.N) (r : Fin 512) (k : Fin 2816) :
    (show FVec Ideal S512x2816 .bf16 from iblk0 (V1 m ρ) c 0 t) (ix2 r k) = (args m c).ff (ix2 (row0 t r) k) := by
  refine Eq.trans ?_ (v5 m ρ c (row0 t r) k)
  blk_ext [iblk0, idx0 t]

theorem blk0_1 (t : Fin cfg0.N) (r : Fin 512) (k : Fin 1024) :
    (show FVec Ideal S512x1024 .f32 from iblk0 (V1 m ρ) c 1 t) (ix2 r k) = (args m c).h1 (ix2 (row0 t r) k) := by
  refine Eq.trans ?_ (congrFun (arg1 m ρ c) (ix2 (row0 t r) k))
  blk_ext [iblk0, idx0 t]

theorem blk0_2 (t : Fin cfg0.N) (r : Fin 512) (k : Fin 256) :
    (show FVec Ideal S512x256 .f32 from iblk0 (V1 m ρ) c 2 t) (ix2 r k) = (args m c).p (ix2 (row0 t r) k) := by
  refine Eq.trans ?_ (congrFun (arg2 m ρ c) (ix2 (row0 t r) k))
  blk_ext [iblk0, idx0 t]

theorem blk0_3 (t : Fin cfg0.N) (r : Fin 512) (k : Fin 1024) :
    (show FVec Ideal S512x1024 .f32 from iblk0 (V1 m ρ) c 3 t) (ix2 r k) = (args m c).tgt (ix2 (row0 t r) k) := by
  refine Eq.trans ?_ (congrFun (arg3 m ρ c) (ix2 (row0 t r) k))
  blk_ext [iblk0, idx0 t]

theorem blk0_4 (t : Fin cfg0.N) (k : Fin 2816) (l : Fin 1024) :
    (show FVec Ideal S2816x1024 .bf16 from iblk0 (V1 m ρ) c 4 t) (ix2 k l) = (args m c).wd (ix2 k l) := by
  refine Eq.trans ?_ (v2 m ρ c k l)
  blk_ext [iblk0, idx0 t]

theorem blk0_5 (t : Fin cfg0.N) (k l : Fin 1024) :
    (show FVec Ideal S1024x1024 .bf16 from iblk0 (V1 m ρ) c 5 t) (ix2 k l) = (args m c).wg (ix2 k l) := by
  refine Eq.trans ?_ (v3 m ρ c k l)
  blk_ext [iblk0, idx0 t]

theorem blk0_6 (t : Fin cfg0.N) (k : Fin 256) (l : Fin 1024) :
    (show FVec Ideal S256x1024 .bf16 from iblk0 (V1 m ρ) c 6 t) (ix2 k l) = (args m c).wp (ix2 k l) := by
  refine Eq.trans ?_ (v4 m ρ c k l)
  blk_ext [iblk0, idx0 t]

theorem blk0_7 (t : Fin cfg0.N) (k : Fin 1024) :
    (show FVec Ideal S1x1024 .f32 from iblk0 (V1 m ρ) c 7 t) (ix2 0 k) = (args m c).g4 (ix1 k) := by
  refine Eq.trans ?_ (v0 m ρ c k)
  blk_point [iblk0, idx0 t]

theorem blk0_8 (t : Fin cfg0.N) (k : Fin 1024) :
    (show FVec Ideal S1x1024 .f32 from iblk0 (V1 m ρ) c 8 t) (ix2 0 k) = (args m c).g5 (ix1 k) := by
  refine Eq.trans ?_ (v1 m ρ c k)
  blk_point [iblk0, idx0 t]

/-- The values the body computes at point `t`, elementwise. -/
theorem pay3_at (t : Fin cfg0.N) (r : Fin 512) (l : Fin 1024) :
    k0_pay3 (F := Ideal) (iblk0 (V1 m ρ) c 0 t) (iblk0 (V1 m ρ) c 4 t) (ix2 r l) = f (args m c) (ix2 (row0 t r) l) := by
  pointwise [k0_pay3]
  simp only [f_at, ← blk0_0 m ρ, ← blk0_4 m ρ c t]

theorem pay4_at (t : Fin cfg0.N) (r : Fin 512) (l : Fin 1024) :
    k0_pay4 (F := Ideal) (iblk0 (V1 m ρ) c 0 t) (iblk0 (V1 m ρ) c 4 t) (iblk0 (V1 m ρ) c 1 t) (iblk0 (V1 m ρ) c 7 t) (ix2 r l) = h2 (args m c) (row0 t r) l := by
  pointwise [k0_pay4]
  simp only [h2, rs, ms, pay3_at, ← blk0_1 m ρ, ← blk0_7 m ρ c t]

theorem pay6_at (t : Fin cfg0.N) (r : Fin 512) (l : Fin 1024) :
    k0_pay6 (F := Ideal) (iblk0 (V1 m ρ) c 0 t) (iblk0 (V1 m ρ) c 4 t) (iblk0 (V1 m ρ) c 1 t) (iblk0 (V1 m ρ) c 7 t) (iblk0 (V1 m ρ) c 5 t) (ix2 r l) = pg (args m c) (row0 t r) l := by
  pointwise [k0_pay6, k0_pay5]
  simp only [pg, pay4_at, ← blk0_5 m ρ c t]

theorem pay7_at (t : Fin cfg0.N) (r : Fin 512) (l : Fin 1024) :
    k0_pay7 (F := Ideal) (iblk0 (V1 m ρ) c 2 t) (iblk0 (V1 m ρ) c 6 t) (ix2 r l) = pe (args m c) (row0 t r) l := by
  pointwise [k0_pay7]
  simp only [pe, ← blk0_2 m ρ, ← blk0_6 m ρ c t]

theorem pay8_at (t : Fin cfg0.N) (r : Fin 512) (l : Fin 1024) :
    k0_pay8 (F := Ideal) (k0_pay4 (iblk0 (V1 m ρ) c 0 t) (iblk0 (V1 m ρ) c 4 t) (iblk0 (V1 m ρ) c 1 t) (iblk0 (V1 m ρ) c 7 t)) (k0_pay6 (iblk0 (V1 m ρ) c 0 t) (iblk0 (V1 m ρ) c 4 t) (iblk0 (V1 m ρ) c 1 t) (iblk0 (V1 m ρ) c 7 t) (iblk0 (V1 m ρ) c 5 t)) (iblk0 (V1 m ρ) c 2 t) (iblk0 (V1 m ρ) c 6 t) (iblk0 (V1 m ρ) c 8 t) (iblk0 (V1 m ρ) c 3 t) (ix2 r l) = e (args m c) (row0 t r) l := by
  pointwise [k0_pay8]
  simp only [e, pl_at, sg, rs, ms, pay4_at, pay6_at, pay7_at, ← blk0_3 m ρ, ← blk0_8 m ρ c t]

theorem pay9_at (t : Fin cfg0.N) (r : Fin 512) (l : Fin 1024) :
    k0_pay9 (F := Ideal) (k0_pay4 (iblk0 (V1 m ρ) c 0 t) (iblk0 (V1 m ρ) c 4 t) (iblk0 (V1 m ρ) c 1 t) (iblk0 (V1 m ρ) c 7 t)) (k0_pay6 (iblk0 (V1 m ρ) c 0 t) (iblk0 (V1 m ρ) c 4 t) (iblk0 (V1 m ρ) c 1 t) (iblk0 (V1 m ρ) c 7 t) (iblk0 (V1 m ρ) c 5 t)) (iblk0 (V1 m ρ) c 2 t) (iblk0 (V1 m ρ) c 6 t) (iblk0 (V1 m ρ) c 8 t) (iblk0 (V1 m ρ) c 3 t) (ix2 r l) = dy (args m c) (row0 t r) l := by
  pointwise [k0_pay9]
  simp only [dy, pay8_at]

/-- The term the body adds to the loss. -/
theorem pay1_at (t : Fin cfg0.N) (v : Vec Ideal S1x1 .f32) :
    k0_pay1 (F := Ideal) (k0_pay10 v) (k0_pay11 (k0_pay4 (iblk0 (V1 m ρ) c 0 t) (iblk0 (V1 m ρ) c 4 t) (iblk0 (V1 m ρ) c 1 t) (iblk0 (V1 m ρ) c 7 t)) (k0_pay6 (iblk0 (V1 m ρ) c 0 t) (iblk0 (V1 m ρ) c 4 t) (iblk0 (V1 m ρ) c 1 t) (iblk0 (V1 m ρ) c 7 t) (iblk0 (V1 m ρ) c 5 t)) (iblk0 (V1 m ρ) c 2 t) (iblk0 (V1 m ρ) c 6 t) (iblk0 (V1 m ρ) c 8 t) (iblk0 (V1 m ρ) c 3 t)) (ix2 0 0) = v (ix2 0 0) + ∑ r : Fin 512, Ideal.ofBits .f32 0x3A000000#32 * ∑ l : Fin 1024, e (args m c) (row0 t r) l * e (args m c) (row0 t r) l := by
  pointwise [k0_pay1, k0_pay10, k0_pay11]
  simp only [pay8_at]
  rw [mul_sum_nonneg fun _ => sum_sq_nonneg _]

/-- The arrays the first kernel leaves. -/
theorem emb0_9 (t : Fin cfg0.N) (r : Fin 512) (l : Fin 1024) :
    ((View.whole main_v6_0).slice (win0_9.rect t)).emb (ix2 r l) = (ix2 (row0 t r) l : S8192x1024.Idx) := by
  blk_ext [idx0 t]

theorem left0_9 : (W2 m ρ c (Proc.devRef .tc main_v6_0) : S8192x1024.Idx → EReal) = fun i => f (args m c) i := by
  refine (W2_arr m ρ c 9).trans ((dat0 (V1 m ρ) c).arrAt_eq_of_covers 9 _ (by decide +kernel) fun t hf y => ?_)
  blk_simp
  rw [after0_9]
  by_cases h0 : t.val % 16 = 0
  · rw [outsAt0_A (V1 m ρ) c t h0]
    frame_out
    idx_vars y
    rw [emb0_9]
    exact pay3_at m ρ c t y0 y1
  · rw [outsAt0_B (V1 m ρ) c t h0]
    frame_out
    idx_vars y
    rw [emb0_9]
    exact pay3_at m ρ c t y0 y1

theorem emb0_11 (t : Fin cfg0.N) (r : Fin 512) (l : Fin 1024) :
    ((View.whole main_v6_2).slice (win0_11.rect t)).emb (ix2 r l) = (ix2 (row0 t r) l : S8192x1024.Idx) := by
  blk_ext [idx0 t]

theorem left0_11 : (W2 m ρ c (Proc.devRef .tc main_v6_2) : S8192x1024.Idx → EReal) = fun i => pg (args m c) (i 0) (i 1) := by
  refine (W2_arr m ρ c 11).trans ((dat0 (V1 m ρ) c).arrAt_eq_of_covers 11 _ (by decide +kernel) fun t hf y => ?_)
  blk_simp
  rw [after0_11]
  by_cases h0 : t.val % 16 = 0
  · rw [outsAt0_A (V1 m ρ) c t h0]
    frame_out
    idx_vars y
    rw [emb0_11]
    exact pay6_at m ρ c t y0 y1
  · rw [outsAt0_B (V1 m ρ) c t h0]
    frame_out
    idx_vars y
    rw [emb0_11]
    exact pay6_at m ρ c t y0 y1

theorem emb0_12 (t : Fin cfg0.N) (r : Fin 512) (l : Fin 1024) :
    ((View.whole main_v6_3).slice (win0_12.rect t)).emb (ix2 r l) = (ix2 (row0 t r) l : S8192x1024.Idx) := by
  blk_ext [idx0 t]

theorem left0_12 : (W2 m ρ c (Proc.devRef .tc main_v6_3) : S8192x1024.Idx → EReal) = fun i => pe (args m c) (i 0) (i 1) := by
  refine (W2_arr m ρ c 12).trans ((dat0 (V1 m ρ) c).arrAt_eq_of_covers 12 _ (by decide +kernel) fun t hf y => ?_)
  blk_simp
  rw [after0_12]
  by_cases h0 : t.val % 16 = 0
  · rw [outsAt0_A (V1 m ρ) c t h0]
    frame_out
    idx_vars y
    rw [emb0_12]
    exact pay7_at m ρ c t y0 y1
  · rw [outsAt0_B (V1 m ρ) c t h0]
    frame_out
    idx_vars y
    rw [emb0_12]
    exact pay7_at m ρ c t y0 y1

theorem emb0_13 (t : Fin cfg0.N) (r : Fin 512) (l : Fin 1024) :
    ((View.whole main_v6_4).slice (win0_13.rect t)).emb (ix2 r l) = (ix2 (row0 t r) l : S8192x1024.Idx) := by
  blk_ext [idx0 t]

theorem left0_13 : (W2 m ρ c (Proc.devRef .tc main_v6_4) : S8192x1024.Idx → EReal) = fun i => dy (args m c) (i 0) (i 1) := by
  refine (W2_arr m ρ c 13).trans ((dat0 (V1 m ρ) c).arrAt_eq_of_covers 13 _ (by decide +kernel) fun t hf y => ?_)
  blk_simp
  rw [after0_13]
  by_cases h0 : t.val % 16 = 0
  · rw [outsAt0_A (V1 m ρ) c t h0]
    frame_out
    idx_vars y
    rw [emb0_13]
    exact pay9_at m ρ c t y0 y1
  · rw [outsAt0_B (V1 m ρ) c t h0]
    frame_out
    idx_vars y
    rw [emb0_13]
    exact pay9_at m ρ c t y0 y1

/-- The block a point leaves in the accumulator window. -/
abbrev accL (n : ℕ) (h : n < cfg0.N) : FVec Ideal S1x1 .f32 := (outsAt0 (V1 m ρ) c n h).2.2.2.2.2

/-- The sum over the rows of the block at point `t`. -/
def accLSum (t : Fin cfg0.N) (i : S1x1.Idx) : EReal := ∑ r : Fin 512, Ideal.ofBits .f32 0x3A000000#32 * ∑ l : Fin 1024, e (args m c) (row0 t r) l * e (args m c) (row0 t r) l

theorem accL_first (t : Fin cfg0.N) (h : t.val % 16 = 0) (i : S1x1.Idx) : accL m ρ c t.val t.isLt i = 0 + accLSum m c t i := by
  unfold accL
  rw [outsAt0_A (V1 m ρ) c t h]
  frame_out
  (idx_vars i)
  obtain rfl : i0 = 0 := Subsingleton.elim _ _
  obtain rfl : i1 = 0 := Subsingleton.elim _ _
  refine (pay1_at m ρ c t _).trans (congrArg (· + _) ?_)
  pointwise [k0_pay2]

theorem accL_next (t : Fin cfg0.N) (h : ¬t.val % 16 = 0) (i : S1x1.Idx) :
    accL m ρ c t.val t.isLt i = accL m ρ c (t.val - 1) (Nat.lt_of_le_of_lt (Nat.sub_le _ _) t.isLt) i + accLSum m c t i := by
  unfold accL
  rw [outsAt0_B (V1 m ρ) c t h]
  frame_out
  (idx_vars i)
  obtain rfl : i0 = 0 := Subsingleton.elim _ _
  obtain rfl : i1 = 0 := Subsingleton.elim _ _
  exact pay1_at m ρ c t _

theorem accL_last (i : S1x1.Idx) : accL m ρ c t0_15.val t0_15.isLt i = loss (args m c) :=
  (Pipeline.eq_sum_fin_of_reset_step_apply_last (M := EReal) (accL m ρ c) 16 (fun _ => 0) (accLSum m c) (accL_first m ρ c) (accL_next m ρ c)
    (le_of_eq N_0) t0_15 rfl i).trans ((zero_add _).trans
    (sum_blocks (by rw [show cfg0.N = 16 from N_0])
      (fun r => Ideal.ofBits .f32 0x3A000000#32 * ∑ l : Fin 1024, e (args m c) r l * e (args m c) r l) row0 fun _ _ => rfl))

theorem left0_14 : (W2 m ρ c (Proc.devRef .tc main_v6_5) : S1x1.Idx → EReal) = fun i => loss (args m c) := by
  refine (W2_arr m ρ c 14).trans ((dat0 (V1 m ρ) c).arrAt_eq_of_after_last 14 t0_15 (by decide +kernel) _ fun j => ?_)
  blk_simp
  rw [after0_14]
  exact accL_last m ρ c j

end Cert.OutKernel

end
-- ==== Proof.OutBackward.lean ====
/- The third claim's second kernel: the arrays it leaves. -/
module

public import proofs.«01_k».proof.Proof.OutForward

@[expose] public section

set_option maxRecDepth 16384

noncomputable section

namespace Cert.OutKernel

open Idealize.ShloMosaic Idealize.ShloMosaic.TcCoe Idealize.SL.Sem
open Idealize.ShloMosaic.Pipeline (Dat)
open Cert.Kernel3Ideal Cert.Kernel3Ideal.Gen Cert.RowGrad Cert.OutSpec Cert.Reals

variable (m : (ℓ : Loc nD τ sig) → Buf (Elt Ideal) ℓ) (ρ : Dev nD → PrngReg) (c : Dev nD)

theorem idx1 : ∀ t : Fin cfg1.N, win1_0.index t = ![t.val, 0]
    ∧ win1_1.index t = ![t.val, 0]
    ∧ win1_2.index t = ![t.val, 0]
    ∧ win1_3.index t = ![t.val, 0]
    ∧ win1_4.index t = ![0, 0]
    ∧ win1_5.index t = ![0, 0]
    ∧ win1_6.index t = ![0, 0]
    ∧ win1_7.index t = ![0, 0]
    ∧ win1_8.index t = ![t.val, 0]
    ∧ win1_9.index t = ![t.val, 0]
    ∧ win1_10.index t = ![t.val, 0]
    ∧ win1_11.index t = ![t.val, 0]
    ∧ win1_12.index t = ![t.val, 0]
    ∧ win1_13.index t = ![0, 0]
    ∧ win1_14.index t = ![0, 0] ∧ t.val < 16 :=
  (by decide +kernel : ∀ t : Fin grid1.N, _)

/-- Row `r` of the block at point `t`. -/
abbrev row (t : Fin cfg1.N) (r : Fin 512) : Fin 8192 := ⟨512 * t.val + r.val, by have : t.val < 16 := t.isLt.trans_eq N_1; omega⟩

/-- The blocks at point `t`: what the first kernel left, and the prepared operands through it unchanged. -/
theorem blk1_0 (t : Fin cfg1.N) (r : Fin 512) (k : Fin 1024) :
    (show FVec Ideal S512x1024 .f32 from iblk1 (V2 m ρ) c 0 t) (ix2 r k) = dy (args m c) (row t r) k := by
  refine Eq.trans ?_ (congrFun (left0_13 m ρ c) (ix2 (row t r) k))
  blk_ext [iblk1, idx1 t]

theorem blk1_1 (t : Fin cfg1.N) (r : Fin 512) (k : Fin 1024) :
    (show FVec Ideal S512x1024 .bf16 from iblk1 (V2 m ρ) c 1 t) (ix2 r k) = pg (args m c) (row t r) k := by
  refine Eq.trans ?_ (congrFun (left0_11 m ρ c) (ix2 (row t r) k))
  blk_ext [iblk1, idx1 t]

theorem blk1_2 (t : Fin cfg1.N) (r : Fin 512) (k : Fin 1024) :
    (show FVec Ideal S512x1024 .bf16 from iblk1 (V2 m ρ) c 2 t) (ix2 r k) = pe (args m c) (row t r) k := by
  refine Eq.trans ?_ (congrFun (left0_12 m ρ c) (ix2 (row t r) k))
  blk_ext [iblk1, idx1 t]

theorem blk1_3 (t : Fin cfg1.N) (r : Fin 512) (k : Fin 1024) :
    (show FVec Ideal S512x1024 .bf16 from iblk1 (V2 m ρ) c 3 t) (ix2 r k) = f (args m c) (ix2 (row t r) k) := by
  refine Eq.trans ?_ (congrFun (left0_9 m ρ c) (ix2 (row t r) k))
  blk_ext [iblk1, idx1 t]

theorem blk1_4 (t : Fin cfg1.N) (k : Fin 1024) :
    (show FVec Ideal S1x1024 .f32 from iblk1 (V2 m ρ) c 4 t) (ix2 0 k) = (args m c).g5 (ix1 k) := by
  refine Eq.trans ?_ ((congrFun (W2_of m ρ c main_v1 (by decide)) (ix2 0 k)).trans (v1 m ρ c k))
  blk_point [iblk1, idx1 t]

theorem blk1_5 (t : Fin cfg1.N) (k : Fin 1024) :
    (show FVec Ideal S1x1024 .f32 from iblk1 (V2 m ρ) c 5 t) (ix2 0 k) = (args m c).g4 (ix1 k) := by
  refine Eq.trans ?_ ((congrFun (W2_of m ρ c main_v0 (by decide)) (ix2 0 k)).trans (v0 m ρ c k))
  blk_point [iblk1, idx1 t]

theorem blk1_6 (t : Fin cfg1.N) (k l : Fin 1024) :
    (show FVec Ideal S1024x1024 .bf16 from iblk1 (V2 m ρ) c 6 t) (ix2 k l) = (args m c).wg (ix2 k l) := by
  refine Eq.trans ?_ ((congrFun (W2_of m ρ c main_v3 (by decide)) (ix2 k l)).trans (v3 m ρ c k l))
  blk_ext [iblk1, idx1 t]

theorem blk1_7 (t : Fin cfg1.N) (k : Fin 2816) (l : Fin 1024) :
    (show FVec Ideal S2816x1024 .bf16 from iblk1 (V2 m ρ) c 7 t) (ix2 k l) = (args m c).wd (ix2 k l) := by
  refine Eq.trans ?_ ((congrFun (W2_of m ρ c main_v2 (by decide)) (ix2 k l)).trans (v2 m ρ c k l))
  blk_ext [iblk1, idx1 t]

/-- The values the body computes at point `t`, elementwise. -/
theorem pay9_1_at (t : Fin cfg1.N) (r : Fin 512) (l : Fin 1024) :
    k1_pay9 (F := Ideal) (iblk1 (V2 m ρ) c 1 t) (iblk1 (V2 m ρ) c 2 t) (ix2 r l) = pl (args m c) (ix2 (row t r) l) := by
  pointwise [k1_pay9, k1_pay8, k1_pay7]
  simp only [pl_at, sg, ← blk1_1 m ρ, ← blk1_2 m ρ]

theorem pay10_at (t : Fin cfg1.N) (r : Fin 512) :
    k1_pay10 (F := Ideal) (iblk1 (V2 m ρ) c 1 t) (iblk1 (V2 m ρ) c 2 t) (ix2 r 0) = rs (pl (args m c)) (row t r) := by
  pointwise [k1_pay10]
  simp only [rs, ms, pay9_1_at]

theorem pay12_at (t : Fin cfg1.N) (r : Fin 512) (l : Fin 1024) :
    k1_pay12 (F := Ideal) (iblk1 (V2 m ρ) c 0 t) (iblk1 (V2 m ρ) c 1 t) (iblk1 (V2 m ρ) c 2 t) (iblk1 (V2 m ρ) c 4 t) (ix2 r l) = dpl (args m c) (row t r) l := by
  pointwise [k1_pay12, k1_pay11, k1_pay6]
  simp only [dpl, dxRow, pay9_1_at, pay10_at, ← blk1_0 m ρ, ← blk1_4 m ρ c t]

theorem pay14_at (t : Fin cfg1.N) (v : Vec Ideal S1x1024 .f32) (l : Fin 1024) :
    k1_pay14 (F := Ideal) (k1_pay13 (iblk1 (V2 m ρ) c 0 t) (iblk1 (V2 m ρ) c 1 t) (iblk1 (V2 m ρ) c 2 t)) v (ix2 0 l) = v (ix2 0 l) + ∑ r : Fin 512, dgAt (pl (args m c)) (dy (args m c)) (row t r) l := by
  pointwise [k1_pay14, k1_pay13, k1_pay11, k1_pay6]
  simp only [dgAt, pay9_1_at, pay10_at, ← blk1_0 m ρ]

theorem pay15_at (t : Fin cfg1.N) (r : Fin 512) (l : Fin 1024) :
    k1_pay15 (F := Ideal) (k1_pay8 (iblk1 (V2 m ρ) c 1 t)) (k1_pay12 (iblk1 (V2 m ρ) c 0 t) (iblk1 (V2 m ρ) c 1 t) (iblk1 (V2 m ρ) c 2 t) (iblk1 (V2 m ρ) c 4 t)) (ix2 r l) = dpe (args m c) (row t r) l := by
  pointwise [k1_pay15, k1_pay8]
  simp only [dpe, sg, pay12_at, ← blk1_1 m ρ]

theorem pay16_at (t : Fin cfg1.N) (r : Fin 512) (l : Fin 1024) :
    k1_pay16 (F := Ideal) (k1_pay7 (iblk1 (V2 m ρ) c 2 t)) (k1_pay8 (iblk1 (V2 m ρ) c 1 t)) (k1_pay12 (iblk1 (V2 m ρ) c 0 t) (iblk1 (V2 m ρ) c 1 t) (iblk1 (V2 m ρ) c 2 t) (iblk1 (V2 m ρ) c 4 t)) (ix2 r l) = dpg (args m c) (row t r) l := by
  pointwise [k1_pay16, k1_pay8, k1_pay7]
  simp only [dpg, sg, pay12_at, ← blk1_1 m ρ, ← blk1_2 m ρ]

theorem pay17_at (t : Fin cfg1.N) (r : Fin 512) (l : Fin 1024) :
    k1_pay17 (F := Ideal) (k1_pay6 (iblk1 (V2 m ρ) c 0 t)) (k1_pay7 (iblk1 (V2 m ρ) c 2 t)) (k1_pay8 (iblk1 (V2 m ρ) c 1 t)) (k1_pay12 (iblk1 (V2 m ρ) c 0 t) (iblk1 (V2 m ρ) c 1 t) (iblk1 (V2 m ρ) c 2 t) (iblk1 (V2 m ρ) c 4 t)) (iblk1 (V2 m ρ) c 6 t) (ix2 r l) = dh2 (args m c) (row t r) l := by
  pointwise [k1_pay17, k1_pay6]
  simp only [dh2, pay16_at, ← blk1_0 m ρ, ← blk1_6 m ρ c t]

theorem pay19_at (t : Fin cfg1.N) (r : Fin 512) :
    k1_pay19 (F := Ideal) (iblk1 (V2 m ρ) c 3 t) (ix2 r 0) = rs (f (args m c)) (row t r) := by
  pointwise [k1_pay19, k1_pay18]
  simp only [rs, ms, ← blk1_3 m ρ]

theorem pay20_at (t : Fin cfg1.N) (r : Fin 512) (l : Fin 1024) :
    k1_pay20 (F := Ideal) (iblk1 (V2 m ρ) c 3 t) (ix2 r l) = f (args m c) (ix2 (row t r) l) * rs (f (args m c)) (row t r) := by
  pointwise [k1_pay20, k1_pay18]
  simp only [pay19_at, ← blk1_3 m ρ]

theorem pay21_at (t : Fin cfg1.N) (r : Fin 512) (l : Fin 1024) :
    k1_pay21 (F := Ideal) (k1_pay6 (iblk1 (V2 m ρ) c 0 t)) (k1_pay7 (iblk1 (V2 m ρ) c 2 t)) (k1_pay8 (iblk1 (V2 m ρ) c 1 t)) (k1_pay12 (iblk1 (V2 m ρ) c 0 t) (iblk1 (V2 m ρ) c 1 t) (iblk1 (V2 m ρ) c 2 t) (iblk1 (V2 m ρ) c 4 t)) (iblk1 (V2 m ρ) c 6 t) (iblk1 (V2 m ρ) c 5 t) (ix2 r l) = dh2 (args m c) (row t r) l * (args m c).g4 (ix1 l) := by
  pointwise [k1_pay21]
  simp only [pay17_at, ← blk1_5 m ρ c t]

theorem pay2_at (t : Fin cfg1.N) (r : Fin 512) (l : Fin 1024) :
    k1_pay2 (F := Ideal) (k1_pay19 (iblk1 (V2 m ρ) c 3 t)) (k1_pay20 (iblk1 (V2 m ρ) c 3 t)) (k1_pay21 (k1_pay6 (iblk1 (V2 m ρ) c 0 t)) (k1_pay7 (iblk1 (V2 m ρ) c 2 t)) (k1_pay8 (iblk1 (V2 m ρ) c 1 t)) (k1_pay12 (iblk1 (V2 m ρ) c 0 t) (iblk1 (V2 m ρ) c 1 t) (iblk1 (V2 m ρ) c 2 t) (iblk1 (V2 m ρ) c 4 t)) (iblk1 (V2 m ρ) c 6 t) (iblk1 (V2 m ρ) c 5 t)) (k1_pay22 (k1_pay6 (iblk1 (V2 m ρ) c 0 t)) (k1_pay7 (iblk1 (V2 m ρ) c 2 t)) (k1_pay8 (iblk1 (V2 m ρ) c 1 t)) (k1_pay12 (iblk1 (V2 m ρ) c 0 t) (iblk1 (V2 m ρ) c 1 t) (iblk1 (V2 m ρ) c 2 t) (iblk1 (V2 m ρ) c 4 t)) (iblk1 (V2 m ρ) c 6 t) (iblk1 (V2 m ρ) c 3 t) (iblk1 (V2 m ρ) c 5 t)) (ix2 r l) = df (args m c) (row t r) l := by
  pointwise [k1_pay2, k1_pay22]
  simp only [df, dxRow, pay19_at, pay20_at, pay21_at]

theorem pay3_1_at (t : Fin cfg1.N) (r : Fin 512) (l : Fin 2816) :
    k1_pay3 (F := Ideal) (k1_pay19 (iblk1 (V2 m ρ) c 3 t)) (k1_pay20 (iblk1 (V2 m ρ) c 3 t)) (k1_pay21 (k1_pay6 (iblk1 (V2 m ρ) c 0 t)) (k1_pay7 (iblk1 (V2 m ρ) c 2 t)) (k1_pay8 (iblk1 (V2 m ρ) c 1 t)) (k1_pay12 (iblk1 (V2 m ρ) c 0 t) (iblk1 (V2 m ρ) c 1 t) (iblk1 (V2 m ρ) c 2 t) (iblk1 (V2 m ρ) c 4 t)) (iblk1 (V2 m ρ) c 6 t) (iblk1 (V2 m ρ) c 5 t)) (k1_pay22 (k1_pay6 (iblk1 (V2 m ρ) c 0 t)) (k1_pay7 (iblk1 (V2 m ρ) c 2 t)) (k1_pay8 (iblk1 (V2 m ρ) c 1 t)) (k1_pay12 (iblk1 (V2 m ρ) c 0 t) (iblk1 (V2 m ρ) c 1 t) (iblk1 (V2 m ρ) c 2 t) (iblk1 (V2 m ρ) c 4 t)) (iblk1 (V2 m ρ) c 6 t) (iblk1 (V2 m ρ) c 3 t) (iblk1 (V2 m ρ) c 5 t)) (iblk1 (V2 m ρ) c 7 t) (ix2 r l) = dff (args m c) (row t r) l := by
  pointwise [k1_pay3]
  simp only [dff, pay2_at, ← blk1_7 m ρ c t]

theorem pay1_1_at (t : Fin cfg1.N) (v : Vec Ideal S1x1024 .f32) (l : Fin 1024) :
    k1_pay1 (F := Ideal) (k1_pay17 (k1_pay6 (iblk1 (V2 m ρ) c 0 t)) (k1_pay7 (iblk1 (V2 m ρ) c 2 t)) (k1_pay8 (iblk1 (V2 m ρ) c 1 t)) (k1_pay12 (iblk1 (V2 m ρ) c 0 t) (iblk1 (V2 m ρ) c 1 t) (iblk1 (V2 m ρ) c 2 t) (iblk1 (V2 m ρ) c 4 t)) (iblk1 (V2 m ρ) c 6 t)) (k1_pay20 (iblk1 (V2 m ρ) c 3 t)) v (ix2 0 l) = v (ix2 0 l) + ∑ r : Fin 512, dgAt (f (args m c)) (dh2 (args m c)) (row t r) l := by
  pointwise [k1_pay1]
  simp only [dgAt, pay17_at, pay20_at]

/-- The arrays the second kernel leaves. -/
theorem emb1_8 (t : Fin cfg1.N) (r : Fin 512) (l : Fin 1024) :
    ((View.whole main_v7_0).slice (win1_8.rect t)).emb (ix2 r l) = (ix2 (row t r) l : S8192x1024.Idx) := by
  blk_ext [idx1 t]

theorem left1_8 : (W3 m ρ c (Proc.devRef .tc main_v7_0) : S8192x1024.Idx → EReal) = fun i => dh2 (args m c) (i 0) (i 1) := by
  refine (W3_arr m ρ c 8).trans ((dat1 (V2 m ρ) c).arrAt_eq_of_covers 8 _ (by decide +kernel) fun t hf y => ?_)
  blk_simp
  rw [after1_8]
  by_cases h0 : t.val % 16 = 0
  · rw [outsAt1_A (V2 m ρ) c t h0]
    frame_out
    idx_vars y
    rw [emb1_8]
    exact pay17_at m ρ c t y0 y1
  · rw [outsAt1_B (V2 m ρ) c t h0]
    frame_out
    idx_vars y
    rw [emb1_8]
    exact pay17_at m ρ c t y0 y1

theorem emb1_9 (t : Fin cfg1.N) (r : Fin 512) (l : Fin 1024) :
    ((View.whole main_v7_1).slice (win1_9.rect t)).emb (ix2 r l) = (ix2 (row t r) l : S8192x1024.Idx) := by
  blk_ext [idx1 t]

theorem left1_9 : (W3 m ρ c (Proc.devRef .tc main_v7_1) : S8192x1024.Idx → EReal) = fun i => dpe (args m c) (i 0) (i 1) := by
  refine (W3_arr m ρ c 9).trans ((dat1 (V2 m ρ) c).arrAt_eq_of_covers 9 _ (by decide +kernel) fun t hf y => ?_)
  blk_simp
  rw [after1_9]
  by_cases h0 : t.val % 16 = 0
  · rw [outsAt1_A (V2 m ρ) c t h0]
    frame_out
    idx_vars y
    rw [emb1_9]
    exact pay15_at m ρ c t y0 y1
  · rw [outsAt1_B (V2 m ρ) c t h0]
    frame_out
    idx_vars y
    rw [emb1_9]
    exact pay15_at m ρ c t y0 y1

theorem emb1_10 (t : Fin cfg1.N) (r : Fin 512) (l : Fin 1024) :
    ((View.whole main_v7_2).slice (win1_10.rect t)).emb (ix2 r l) = (ix2 (row t r) l : S8192x1024.Idx) := by
  blk_ext [idx1 t]

theorem left1_10 : (W3 m ρ c (Proc.devRef .tc main_v7_2) : S8192x1024.Idx → EReal) = fun i => dpg (args m c) (i 0) (i 1) := by
  refine (W3_arr m ρ c 10).trans ((dat1 (V2 m ρ) c).arrAt_eq_of_covers 10 _ (by decide +kernel) fun t hf y => ?_)
  blk_simp
  rw [after1_10]
  by_cases h0 : t.val % 16 = 0
  · rw [outsAt1_A (V2 m ρ) c t h0]
    frame_out
    idx_vars y
    rw [emb1_10]
    exact pay16_at m ρ c t y0 y1
  · rw [outsAt1_B (V2 m ρ) c t h0]
    frame_out
    idx_vars y
    rw [emb1_10]
    exact pay16_at m ρ c t y0 y1

theorem emb1_11 (t : Fin cfg1.N) (r : Fin 512) (l : Fin 1024) :
    ((View.whole main_v7_3).slice (win1_11.rect t)).emb (ix2 r l) = (ix2 (row t r) l : S8192x1024.Idx) := by
  blk_ext [idx1 t]

theorem left1_11 : (W3 m ρ c (Proc.devRef .tc main_v7_3) : S8192x1024.Idx → EReal) = fun i => df (args m c) (i 0) (i 1) := by
  refine (W3_arr m ρ c 11).trans ((dat1 (V2 m ρ) c).arrAt_eq_of_covers 11 _ (by decide +kernel) fun t hf y => ?_)
  blk_simp
  rw [after1_11]
  by_cases h0 : t.val % 16 = 0
  · rw [outsAt1_A (V2 m ρ) c t h0]
    frame_out
    idx_vars y
    rw [emb1_11]
    exact pay2_at m ρ c t y0 y1
  · rw [outsAt1_B (V2 m ρ) c t h0]
    frame_out
    idx_vars y
    rw [emb1_11]
    exact pay2_at m ρ c t y0 y1

theorem emb1_12 (t : Fin cfg1.N) (r : Fin 512) (l : Fin 2816) :
    ((View.whole main_v7_4).slice (win1_12.rect t)).emb (ix2 r l) = (ix2 (row t r) l : S8192x2816.Idx) := by
  blk_ext [idx1 t]

theorem left1_12 : (W3 m ρ c (Proc.devRef .tc main_v7_4) : S8192x2816.Idx → EReal) = fun i => dff (args m c) (i 0) (i 1) := by
  refine (W3_arr m ρ c 12).trans ((dat1 (V2 m ρ) c).arrAt_eq_of_covers 12 _ (by decide +kernel) fun t hf y => ?_)
  blk_simp
  rw [after1_12]
  by_cases h0 : t.val % 16 = 0
  · rw [outsAt1_A (V2 m ρ) c t h0]
    frame_out
    idx_vars y
    rw [emb1_12]
    exact pay3_1_at m ρ c t y0 y1
  · rw [outsAt1_B (V2 m ρ) c t h0]
    frame_out
    idx_vars y
    rw [emb1_12]
    exact pay3_1_at m ρ c t y0 y1

/-- The block a point leaves in the accumulator window. -/
abbrev acc5 (n : ℕ) (h : n < cfg1.N) : FVec Ideal S1x1024 .f32 := (outsAt1 (V2 m ρ) c n h).2.2.2.2.2.1

/-- The sum over the rows of the block at point `t`. -/
def acc5Sum (t : Fin cfg1.N) (i : S1x1024.Idx) : EReal := ∑ r : Fin 512, dgAt (pl (args m c)) (dy (args m c)) (row t r) (i 1)

theorem acc5_first (t : Fin cfg1.N) (h : t.val % 16 = 0) (i : S1x1024.Idx) : acc5 m ρ c t.val t.isLt i = 0 + acc5Sum m c t i := by
  unfold acc5
  rw [outsAt1_A (V2 m ρ) c t h]
  frame_out
  (idx_vars i)
  obtain rfl : i0 = 0 := Subsingleton.elim _ _
  refine (pay14_at m ρ c t _ i1).trans (congrArg (· + _) ?_)
  pointwise [k1_pay4]

theorem acc5_next (t : Fin cfg1.N) (h : ¬t.val % 16 = 0) (i : S1x1024.Idx) :
    acc5 m ρ c t.val t.isLt i = acc5 m ρ c (t.val - 1) (Nat.lt_of_le_of_lt (Nat.sub_le _ _) t.isLt) i + acc5Sum m c t i := by
  unfold acc5
  rw [outsAt1_B (V2 m ρ) c t h]
  frame_out
  (idx_vars i)
  obtain rfl : i0 = 0 := Subsingleton.elim _ _
  exact pay14_at m ρ c t _ i1

theorem acc5_last (i : S1x1024.Idx) : acc5 m ρ c t1_15.val t1_15.isLt i = dg5 (args m c) (i 1) :=
  (Pipeline.eq_sum_fin_of_reset_step_apply_last (M := EReal) (acc5 m ρ c) 16 (fun _ => 0) (acc5Sum m c) (acc5_first m ρ c) (acc5_next m ρ c)
    (le_of_eq N_1) t1_15 rfl i).trans ((zero_add _).trans
    (sum_blocks (by rw [show cfg1.N = 16 from N_1]) (fun r => dgAt (pl (args m c)) (dy (args m c)) r (i 1)) row fun _ _ => rfl))

theorem left1_13 : (W3 m ρ c (Proc.devRef .tc main_v7_5) : S1x1024.Idx → EReal) = fun i => dg5 (args m c) (i 1) := by
  refine (W3_arr m ρ c 13).trans ((dat1 (V2 m ρ) c).arrAt_eq_of_after_last 13 t1_15 (by decide +kernel) _ fun j => ?_)
  blk_simp
  rw [after1_13]
  exact acc5_last m ρ c j

/-- The block a point leaves in the accumulator window. -/
abbrev acc4 (n : ℕ) (h : n < cfg1.N) : FVec Ideal S1x1024 .f32 := (outsAt1 (V2 m ρ) c n h).2.2.2.2.2.2

/-- The sum over the rows of the block at point `t`. -/
def acc4Sum (t : Fin cfg1.N) (i : S1x1024.Idx) : EReal := ∑ r : Fin 512, dgAt (f (args m c)) (dh2 (args m c)) (row t r) (i 1)

theorem acc4_first (t : Fin cfg1.N) (h : t.val % 16 = 0) (i : S1x1024.Idx) : acc4 m ρ c t.val t.isLt i = 0 + acc4Sum m c t i := by
  unfold acc4
  rw [outsAt1_A (V2 m ρ) c t h]
  frame_out
  (idx_vars i)
  obtain rfl : i0 = 0 := Subsingleton.elim _ _
  refine (pay1_1_at m ρ c t _ i1).trans (congrArg (· + _) ?_)
  pointwise [k1_pay5]

theorem acc4_next (t : Fin cfg1.N) (h : ¬t.val % 16 = 0) (i : S1x1024.Idx) :
    acc4 m ρ c t.val t.isLt i = acc4 m ρ c (t.val - 1) (Nat.lt_of_le_of_lt (Nat.sub_le _ _) t.isLt) i + acc4Sum m c t i := by
  unfold acc4
  rw [outsAt1_B (V2 m ρ) c t h]
  frame_out
  (idx_vars i)
  obtain rfl : i0 = 0 := Subsingleton.elim _ _
  exact pay1_1_at m ρ c t _ i1

theorem acc4_last (i : S1x1024.Idx) : acc4 m ρ c t1_15.val t1_15.isLt i = dg4 (args m c) (i 1) :=
  (Pipeline.eq_sum_fin_of_reset_step_apply_last (M := EReal) (acc4 m ρ c) 16 (fun _ => 0) (acc4Sum m c) (acc4_first m ρ c) (acc4_next m ρ c)
    (le_of_eq N_1) t1_15 rfl i).trans ((zero_add _).trans
    (sum_blocks (by rw [show cfg1.N = 16 from N_1]) (fun r => dgAt (f (args m c)) (dh2 (args m c)) r (i 1)) row fun _ _ => rfl))

theorem left1_14 : (W3 m ρ c (Proc.devRef .tc main_v7_6) : S1x1024.Idx → EReal) = fun i => dg4 (args m c) (i 1) := by
  refine (W3_arr m ρ c 14).trans ((dat1 (V2 m ρ) c).arrAt_eq_of_after_last 14 t1_15 (by decide +kernel) _ fun j => ?_)
  blk_simp
  rw [after1_14]
  exact acc4_last m ρ c j

/-- The loss passes the second kernel unchanged. -/
theorem left14_0 : (W3 m ρ c (Proc.devRef .tc main_v6_5) : S1x1.Idx → EReal) = fun _ => loss (args m c) :=
  (W3_of m ρ c main_v6_5 (by decide)).trans (left0_14 m ρ c)

end Cert.OutKernel

end
-- ==== Proof.OutPre.lean ====
/- What the precondition of the third claim says: the arguments it names are real numbers. -/
module

public import proofs.«01_k».proof.Pre_finite3
public import proofs.«01_k».proof.Proof.InPre
import Idealize.ShloMosaic.Lib.Pointwise

@[expose] public section

set_option maxRecDepth 16384

noncomputable section

namespace Cert.Reals

open Idealize.ShloMosaic

/-- Every argument the precondition names is real at every index. -/
theorem outPre [Cert.Pre_finite3.Facts] {x0 x1 x2 x3 x4 x5 x6 x7 x8}
    (h : Cert.Pre_finite3.fn (F := Ideal) x0 x1 x2 x3 x4 x5 x6 x7 x8 = fun _ => 1#1) :
    (∀ i, IsReal (x0 i)) ∧ (∀ i, IsReal (x1 i)) ∧ (∀ i, IsReal (x2 i)) ∧ (∀ i, IsReal (x3 i)) ∧ (∀ i, IsReal (x4 i)) ∧ (∀ i, IsReal (x5 i)) ∧ (∀ i, IsReal (x6 i)) ∧ (∀ i, IsReal (x7 i)) ∧ (∀ i, IsReal (x8 i)) := by
  have h := congrFun h ix0
  obtain ⟨h, h8⟩ := andi_eq_one h
  obtain ⟨h, h7⟩ := andi_eq_one h
  obtain ⟨h, h6⟩ := andi_eq_one h
  obtain ⟨h, h5⟩ := andi_eq_one h
  obtain ⟨h, h4⟩ := andi_eq_one h
  obtain ⟨h, h3⟩ := andi_eq_one h
  obtain ⟨h, h2⟩ := andi_eq_one h
  obtain ⟨h0, h1⟩ := andi_eq_one h
  have : Subsingleton Cert.Pre_finite3.S_.Idx := ⟨fun a b => funext fun k => k.elim0⟩
  have hb {s : Shape} (hs : Cert.Pre_finite3.S_.BroadcastsInDim s (![] : Fin 0 → Fin s.rank)) (i : s.Idx) :
      broadcastInDim s ![] hs (constant (F := Ideal) Cert.Pre_finite3.S_ .f32 0x7F800000#32) i = (⊤ : EReal) := ofBits_inf
  exact ⟨isReal_of_all _ _ _ _ _ _ (hb _) h0, isReal_of_all _ _ _ _ _ _ (hb _) h1, isReal_of_all _ _ _ _ _ _ (hb _) h2, isReal_of_all _ _ _ _ _ _ (hb _) h3, isReal_of_all _ _ _ _ _ _ (hb _) h4, isReal_of_all _ _ _ _ _ _ (hb _) h5, isReal_of_all _ _ _ _ _ _ (hb _) h6, isReal_of_all _ _ _ _ _ _ (hb _) h7, isReal_of_all _ _ _ _ _ _ (hb _) h8⟩

end Cert.Reals

end
-- ==== Proof.OutRef.lean ====
/- The third claim's reference, read at an index. -/
module

public import proofs.«01_k».proof.Proof.OutSpec
public import proofs.«01_k».proof.Proof.Gen.Reference3Ideal.Read

@[expose] public section

set_option maxRecDepth 16384

noncomputable section

namespace Cert.OutRef

open Idealize.ShloMosaic Idealize.ShloMosaic.TcCoe Idealize.SL.Sem
open Cert.Reference3Ideal Cert.Reference3Ideal.Gen Cert.Reference3Ideal.Read Cert.OutSpec Cert.RowGrad Cert.Reals

variable (a : Args)

/-- The forward values. -/
theorem f_ref (r : Fin 8192) (l : Fin 1024) : val_main_v2 (F := Ideal) a.ff a.wd (ix2 r l) = f a (ix2 r l) := by
  pointwise [val_main_v2, val_main_v1, val_main_v0, val_main_cst]
  simp only [f_at, add_zero]

theorem rf_at (r : Fin 8192) : val_main_v10 (F := Ideal) a.ff a.wd (ix2 r 0) = rs (f a) r := by
  pointwise [val_main_v10, val_main_v9, val_main_v7, val_main_v5, val_main_v4, val_main_v3, val_main_cst_0, val_main_v6, val_main_cst_1, val_main_v8, val_main_cst_2]
  simp only [rs, ms, f_ref, zero_add]

theorem h2_at (r : Fin 8192) (l : Fin 1024) : val_main_v19 (F := Ideal) a.ff a.h1 a.wd a.g4 (ix2 r l) = h2 a r l := by
  pointwise [val_main_v19, val_main_v18, val_main_v15, val_main_v14, val_main_v17, val_main_v16]
  simp only [h2, f_ref, rf_at]

theorem sg_at (r : Fin 8192) (l : Fin 1024) : val_main_v27 (F := Ideal) a.ff a.h1 a.wd a.wg a.g4 (ix2 r l) = sg a r l := by
  pointwise [val_main_v27, val_main_v26, val_main_cst_5, val_main_v25, val_main_v24, val_main_cst_4, val_main_v23, val_main_v22, val_main_v21, val_main_v20, val_main_v0, val_main_cst]
  simp only [sg, pg, Ideal.logistic, h2_at, add_zero]

theorem pe_at (r : Fin 8192) (l : Fin 1024) : val_main_v32 (F := Ideal) a.p a.wp (ix2 r l) = pe a r l := by
  pointwise [val_main_v32, val_main_v31, val_main_v0, val_main_cst]
  simp only [pe, add_zero]

theorem pl_ref (r : Fin 8192) (l : Fin 1024) : val_main_v33 (F := Ideal) a.ff a.h1 a.p a.wd a.wg a.wp a.g4 (ix2 r l) = pl a (ix2 r l) := by
  pointwise [val_main_v33]
  simp only [pl_at, sg_at, pe_at]

theorem rp_at (r : Fin 8192) : val_main_v41 (F := Ideal) a.ff a.h1 a.p a.wd a.wg a.wp a.g4 (ix2 r 0) = rs (pl a) r := by
  pointwise [val_main_v41, val_main_v40, val_main_v38, val_main_v36, val_main_v35, val_main_v34, val_main_cst_7, val_main_v37, val_main_cst_8, val_main_v39, val_main_cst_9]
  simp only [rs, ms, pl_ref, zero_add]

theorem e_at (r : Fin 8192) (l : Fin 1024) : val_main_v51 (F := Ideal) a.ff a.h1 a.p a.tgt a.wd a.wg a.wp a.g4 a.g5 (ix2 r l) = e a r l := by
  pointwise [val_main_v51, val_main_v50, val_main_v49, val_main_v46, val_main_v45, val_main_v48, val_main_v47]
  simp only [e, h2_at, pl_ref, rp_at]

/-- The loss and its gradient. -/
theorem loss_at  : val_main_v112 (F := Ideal) a.ff a.h1 a.p a.tgt a.wd a.wg a.wp a.g4 a.g5 (ix2 0 0) = loss a := by
  pointwise [val_main_v112, val_main_v59, val_main_cst_15, val_main_v58, val_main_v57, val_main_v55, val_main_v52, val_main_cst_12, val_main_v56, val_main_cst_13, val_main_cst_14]
  simp only [e_at, zero_add]
  rw [mul_sum_nonneg fun r => div_nonneg_of_pos ofBits_1024 (by norm_num) (sum_sq_nonneg _)]
  refine Finset.sum_congr rfl fun r _ => ?_
  rw [ofBits_half, ofBits_1024, ofBits_inv2048, Ideal.div_coe (by norm_num), mul_left_comm, ← EReal.coe_mul, mul_comm]
  norm_num

theorem dy_at (r : Fin 8192) (l : Fin 1024) : val_main_v65 (F := Ideal) a.ff a.h1 a.p a.tgt a.wd a.wg a.wp a.g4 a.g5 (ix2 r l) = dy a r l := by
  pointwise [val_main_v65, val_main_v64, val_main_v63, val_main_v61, val_main_v60, val_main_cst_16, val_main_cst_17, val_main_v62, val_main_cst_18, val_main_v54, val_main_v53, val_main_cst_11]
  simp only [e_at]
  rw [dy, ofBits_half, ofBits_1024, ofBits_two, ofBits_inv1024, Ideal.div_coe (by norm_num), ← mul_assoc, ← EReal.coe_mul, ← EReal.coe_mul, mul_comm]
  norm_num

theorem dg5_at (l : Fin 1024) : val_main_v117 (F := Ideal) a.ff a.h1 a.p a.tgt a.wd a.wg a.wp a.g4 a.g5 (ix2 0 l) = dg5 a l := by
  pointwise [val_main_v117, val_main_v71, val_main_v68, val_main_v67, val_main_v66, val_main_v46, val_main_v45, val_main_cst_19, val_main_cst_20]
  simp only [dg5, dgAt, pl_ref, rp_at, dy_at, zero_add, Fin.sum_univ_one]
  exact Finset.sum_congr rfl fun r _ => mul_comm _ _

-- The remaining gradients, where the arguments are finite.
variable {a} (h : AllReal a)
include h

theorem dpl_at (r : Fin 8192) (l : Fin 1024) : val_main_v85 (F := Ideal) a.ff a.h1 a.p a.tgt a.wd a.wg a.wp a.g4 a.g5 (ix2 r l) = dpl a r l := by
  refine Eq.trans ?_ (dxRow_eq (pl a) a.g5 (dy a) r l (fun _ => pl_real h _) fun _ => (dy_real h r _).mul (h.g5 _))
  pointwise [val_main_v85, val_main_v83, val_main_v76, val_main_v70, val_main_v69, val_main_v47, val_main_v75, val_main_v82, val_main_v81, val_main_v80, val_main_v79, val_main_v77, val_main_v74, val_main_v73, val_main_v72, val_main_cst_21, val_main_v44, val_main_v43, val_main_cst_10, val_main_v42, val_main_v40, val_main_v38, val_main_v36, val_main_v35, val_main_v34, val_main_cst_7, val_main_v37, val_main_cst_8, val_main_v39, val_main_cst_9, val_main_v78, val_main_cst_22, val_main_cst_23, val_main_v84]
  simp only [q, rs, ms, pl_ref, rp_at, dy_at, zero_add, Fin.sum_univ_one]

theorem dpe_at (r : Fin 8192) (l : Fin 1024) : val_main_v113 (F := Ideal) a.ff a.h1 a.p a.tgt a.wd a.wg a.wp a.g4 a.g5 (ix2 r l) = dpe a r l := by
  pointwise [val_main_v113, val_main_v86]
  simp only [dpe, sg_at, dpl_at h]
  exact mul_comm _ _

theorem dpg_at (r : Fin 8192) (l : Fin 1024) : val_main_v88 (F := Ideal) a.ff a.h1 a.p a.tgt a.wd a.wg a.wp a.g4 a.g5 (ix2 r l) = dpg a r l := by
  pointwise [val_main_v88, val_main_v87, val_main_v30, val_main_v29, val_main_v28, val_main_cst_6]
  simp only [dpg, sg_at, pe_at, dpl_at h]
  ac_rfl

theorem out3_at (r : Fin 8192) (l : Fin 1024) : val_main_v114 (F := Ideal) a.ff a.h1 a.p a.tgt a.wd a.wg a.wp a.g4 a.g5 (ix2 r l) = dpg a r l := by
  pointwise [val_main_v114]
  simp only [dpg_at h]

theorem dh2_at (r : Fin 8192) (l : Fin 1024) : val_main_v90 (F := Ideal) a.ff a.h1 a.p a.tgt a.wd a.wg a.wp a.g4 a.g5 (ix2 r l) = dh2 a r l := by
  pointwise [val_main_v90, val_main_v89]
  simp only [dh2, dy_at, dpg_at h]

theorem df_at (r : Fin 8192) (l : Fin 1024) : val_main_v110 (F := Ideal) a.ff a.h1 a.p a.tgt a.wd a.wg a.wp a.g4 a.g5 (ix2 r l) = df a r l := by
  refine Eq.trans ?_ (dxRow_eq (f a) a.g4 (dh2 a) r l (fun _ => f_real h _) fun _ => (dh2_real h r _).mul (h.g4 _))
  pointwise [val_main_v110, val_main_v108, val_main_v101, val_main_v95, val_main_v94, val_main_v16, val_main_v100, val_main_v107, val_main_v106, val_main_v105, val_main_v104, val_main_v102, val_main_v99, val_main_v98, val_main_v97, val_main_cst_26, val_main_v13, val_main_v12, val_main_cst_3, val_main_v11, val_main_v9, val_main_v7, val_main_v5, val_main_v4, val_main_v3, val_main_cst_0, val_main_v6, val_main_cst_1, val_main_v8, val_main_cst_2, val_main_v103, val_main_cst_27, val_main_cst_28, val_main_v109]
  simp only [q, rs, ms, f_ref, rf_at, dh2_at h, zero_add, Fin.sum_univ_one]

theorem out4_at (r : Fin 8192) (l : Fin 1024) : val_main_v115 (F := Ideal) a.ff a.h1 a.p a.tgt a.wd a.wg a.wp a.g4 a.g5 (ix2 r l) = df a r l := by
  pointwise [val_main_v115]
  simp only [df_at h]

theorem dff_at (r : Fin 8192) (l : Fin 2816) : val_main_v116 (F := Ideal) a.ff a.h1 a.p a.tgt a.wd a.wg a.wp a.g4 a.g5 (ix2 r l) = dff a r l := by
  pointwise [val_main_v116, val_main_v111]
  simp only [dff, df_at h]

theorem dg4_at (l : Fin 1024) : val_main_v118 (F := Ideal) a.ff a.h1 a.p a.tgt a.wd a.wg a.wp a.g4 a.g5 (ix2 0 l) = dg4 a l := by
  pointwise [val_main_v118, val_main_v96, val_main_v93, val_main_v92, val_main_v91, val_main_v15, val_main_v14, val_main_cst_24, val_main_cst_25]
  simp only [dg4, dgAt, f_ref, rf_at, dh2_at h, zero_add, Fin.sum_univ_one]
  exact Finset.sum_congr rfl fun r _ => mul_comm _ _

end Cert.OutRef

end
-- ==== Proof.OutRun.lean ====
/- The third claim's program: every unscoped buffer at the end of a run, and the argument arrays among them. -/
module

public import proofs.«01_k».proof.Proof.Gen.Kernel3Ideal.Frame
public import Idealize.ShloMosaic.Lib.Pointwise

@[expose] public section

set_option maxRecDepth 16384

noncomputable section

namespace Cert.OutRun

open Idealize.ShloMosaic Idealize.ShloMosaic.TcCoe Idealize.ShloMosaic.Rounds
open Idealize.SL Idealize.SL.RA Idealize.SL.BI Idealize.SL.BI.BIBase Idealize.SL.BI.Laws Idealize.SL.ProofMode Idealize.SL.Sem
open scoped Idealize.SL.BI
open Cert.Kernel3Ideal Cert.Kernel3Ideal.Gen

variable (m : (ℓ : Loc nD τ sig) → Buf (Elt Ideal) ℓ) (ρ : Dev nD → PrngReg)

local notation "𝕄" => MT nD τ sig Unit (Elt Ideal) ℕ (UR sig nD τ) ℕ

/-- The pipelines' ghost cells at the launch. -/
abbrev u₀ : UR sig nD τ := initOf (Pipeline.cells cfgs cellOf_inj) (Pipeline.launchToks cfgs cellOf_inj)

/-- The launch gives each device its part of the cells and nothing else. -/
theorem launch : (ownU u₀ : sProp 𝕄) ⊢ |={Set.univ}=> iprop(BI.own (emb₁ u₀) ∗ bigSep Finset.univ (fun _ : Dev nD => (BI.emp : sProp 𝕄))) := by
  rw [BI.bigSep_emp_const]
  iintro Hu
  imodintro
  isplitl [Hu]
  · iapply (show (ownU u₀ : sProp 𝕄) ⊢ BI.own (emb₁ u₀) from .rfl)
    iexact Hu
  · iempintro

-- the kit's implicit arguments are found by unfolding plain definitions in a metavariable's type
set_option backward.isDefEq.respectTransparency.types false in
/-- A run ends with every unscoped buffer at the last boundary's contents and every counter at zero. -/
theorem run : θ_run defs (onTc (τ := τ) (main (F := Ideal))) ⟨m, fun _ => 0, ρ⟩ (fun r =>
    ∀ (c : Dev nD) (b : Ref sig .tc), ¬(Proc.devRef .tc b : DevRef τ sig).isScoped →
      r.2.mem ((c.tc : Thread nD τ).loc b) = W3 m ρ c (Proc.devRef .tc b)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => BI.emp) (u₀ := u₀) (hu₀ := launch)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := Pipeline.initEach L lv fun c => by
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]
      · iexists _
        iexact Hp
      · iexists ∅
        iexact HO)
    (QY := fun c s => ∀ b ∈ Pipeline.ucRefs τ sig, s.mem (((c : Thread nD τ)).1, b) = W3 m ρ c b)
    (hfin := fun c s => by
      iintro ⟨⟨Hh, -⟩, HS⟩
      unfold StableHlo.held
      imodintro
      iapply (pointsTo_read_all (Pipeline.ucRefs τ sig) (fun b => (((c : Thread nD τ)).1, b)) (W3 m ρ c) s)
      isplitl [Hh] <;> iassumption)
    (hQ := fun _ h _ c b hb => h c _ (mem_uc b hb))

end Cert.OutRun

end
-- ==== Proof.OutClaim.lean ====
/- The third claim: the frames of its programs, and their results' equality. -/
module

public import proofs.«01_k».proof.Defs
public import proofs.«01_k».proof.Proof.Gen.Kernel3.Frame
public import proofs.«01_k».proof.Proof.Gen.Reference3Ideal.Run
public import proofs.«01_k».proof.Proof.OutBackward
public import proofs.«01_k».proof.Proof.OutPre
public import proofs.«01_k».proof.Proof.OutRef
public import proofs.«01_k».proof.Proof.OutRun
import Idealize.ShloMosaic.Lib.Claim

@[expose] public section

set_option maxRecDepth 16384

noncomputable section

namespace Cert.OutClaim

open Idealize.ShloMosaic Idealize.ShloMosaic.TcCoe Idealize.SL.Sem Cert.Reals Cert.RowGrad

theorem preFacts : Cert.Pre_finite3.Facts := by
  constructor <;> decide

instance : Cert.Pre_finite3.Facts := preFacts

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono
    (fun r h => ⟨fun c => (h c).2.2.2.2.2.2.2.2, sem_eq_zero_of_no_sems (by decide) r.2⟩) (Cert.Reference3Ideal.Value.run m ρ)

set_option maxHeartbeats 1600000 in
theorem algebraic : Cert.algebraic_Kernel3Ideal_Reference3Ideal_pre_finite3 := by
  intro m g m' g' hpre hargs
  refine ⟨_, _, _, _, _, _, _, _, (θ_run Cert.Kernel3Ideal.defs _ _).mono (fun r h c => ⟨h c _ (by decide), h c _ (by decide), h c _ (by decide), h c _ (by decide), h c _ (by decide), h c _ (by decide), h c _ (by decide), h c _ (by decide),
    (h c _ (by decide)).trans (Cert.Kernel3Ideal.Gen.W3_main_arg0 m g c),
    (h c _ (by decide)).trans (Cert.Kernel3Ideal.Gen.W3_main_arg1 m g c),
    (h c _ (by decide)).trans (Cert.Kernel3Ideal.Gen.W3_main_arg2 m g c),
    (h c _ (by decide)).trans (Cert.Kernel3Ideal.Gen.W3_main_arg3 m g c),
    (h c _ (by decide)).trans (Cert.Kernel3Ideal.Gen.W3_main_arg4 m g c),
    (h c _ (by decide)).trans (Cert.Kernel3Ideal.Gen.W3_main_arg5 m g c),
    (h c _ (by decide)).trans (Cert.Kernel3Ideal.Gen.W3_main_arg6 m g c),
    (h c _ (by decide)).trans (Cert.Kernel3Ideal.Gen.W3_main_arg7 m g c),
    (h c _ (by decide)).trans (Cert.Kernel3Ideal.Gen.W3_main_arg8 m g c)⟩) (Cert.OutRun.run m g),
    (θ_run Cert.Reference3Ideal.defs _ _).mono (fun r h c => ?_) (Cert.Reference3Ideal.Value.run m' g')⟩
  obtain ⟨a0, a1, a2, a3, a4, a5, a6, a7, a8⟩ := hargs c
  obtain ⟨p0, p1, p2, p3, p4, p5, p6, p7, p8⟩ := outPre (hpre c)
  have b0 : StableHlo.launchContents m' c (Proc.devRef .tc Cert.Reference3Ideal.main_arg0) = _ := a0
  have b1 : StableHlo.launchContents m' c (Proc.devRef .tc Cert.Reference3Ideal.main_arg1) = _ := a1
  have b2 : StableHlo.launchContents m' c (Proc.devRef .tc Cert.Reference3Ideal.main_arg2) = _ := a2
  have b3 : StableHlo.launchContents m' c (Proc.devRef .tc Cert.Reference3Ideal.main_arg3) = _ := a3
  have b4 : StableHlo.launchContents m' c (Proc.devRef .tc Cert.Reference3Ideal.main_arg4) = _ := a4
  have b5 : StableHlo.launchContents m' c (Proc.devRef .tc Cert.Reference3Ideal.main_arg5) = _ := a5
  have b6 : StableHlo.launchContents m' c (Proc.devRef .tc Cert.Reference3Ideal.main_arg6) = _ := a6
  have b7 : StableHlo.launchContents m' c (Proc.devRef .tc Cert.Reference3Ideal.main_arg7) = _ := a7
  have b8 : StableHlo.launchContents m' c (Proc.devRef .tc Cert.Reference3Ideal.main_arg8) = _ := a8
  have hr : OutSpec.AllReal (OutKernel.args m c) := ⟨p0, p1, p2, p3, p4, p5, p6, p7, p8⟩
  obtain ⟨h0, h1, h2, h3, h4, h5, h6, h7, h⟩ := h c
  refine ⟨h0.trans ?_, h1.trans ?_, h2.trans ?_, h3.trans ?_, h4.trans ?_, h5.trans ?_, h6.trans ?_, h7.trans ?_, h⟩
  · rw [Cert.Reference3Ideal.Read.val_main_v112_eq, b0, b1, b2, b3, b4, b5, b6, b7, b8, Cert.OutKernel.left14_0]
    funext i
    (idx_vars i)
    obtain rfl : i0 = 0 := Subsingleton.elim _ _
    obtain rfl : i1 = 0 := Subsingleton.elim _ _
    exact Cert.OutRef.loss_at (OutKernel.args m c)
  · rw [Cert.Reference3Ideal.Read.val_main_v90_eq, b0, b1, b2, b3, b4, b5, b6, b7, b8, Cert.OutKernel.left1_8]
    funext i
    idx_vars i
    exact Cert.OutRef.dh2_at hr i0 i1
  · rw [Cert.Reference3Ideal.Read.val_main_v113_eq, b0, b1, b2, b3, b4, b5, b6, b7, b8, Cert.OutKernel.left1_9]
    funext i
    idx_vars i
    exact Cert.OutRef.dpe_at hr i0 i1
  · rw [Cert.Reference3Ideal.Read.val_main_v114_eq, b0, b1, b2, b3, b4, b5, b6, b7, b8, Cert.OutKernel.left1_10]
    funext i
    idx_vars i
    exact Cert.OutRef.out3_at hr i0 i1
  · rw [Cert.Reference3Ideal.Read.val_main_v115_eq, b0, b1, b2, b3, b4, b5, b6, b7, b8, Cert.OutKernel.left1_11]
    funext i
    idx_vars i
    exact Cert.OutRef.out4_at hr i0 i1
  · rw [Cert.Reference3Ideal.Read.val_main_v116_eq, b0, b1, b2, b3, b4, b5, b6, b7, b8, Cert.OutKernel.left1_12]
    funext i
    idx_vars i
    exact Cert.OutRef.dff_at hr i0 i1
  · rw [Cert.Reference3Ideal.Read.val_main_v117_eq, b0, b1, b2, b3, b4, b5, b6, b7, b8, Cert.OutKernel.left1_13]
    funext i
    (idx_vars i)
    obtain rfl : i0 = 0 := Subsingleton.elim _ _
    exact Cert.OutRef.dg5_at (OutKernel.args m c) i1
  · rw [Cert.Reference3Ideal.Read.val_main_v118_eq, b0, b1, b2, b3, b4, b5, b6, b7, b8, Cert.OutKernel.left1_14]
    funext i
    (idx_vars i)
    obtain rfl : i0 = 0 := Subsingleton.elim _ _
    exact Cert.OutRef.dg4_at hr i1

end Cert.OutClaim

end
-- ==== Proof.SguPre.lean ====
/- What the precondition of the fourth claim says: the arguments it names are real numbers. -/
module

public import proofs.«01_k».proof.Pre_finite4
public import proofs.«01_k».proof.Proof.InPre
import Idealize.ShloMosaic.Lib.Pointwise

@[expose] public section

set_option maxRecDepth 16384

noncomputable section

namespace Cert.Reals

open Idealize.ShloMosaic

/-- Every argument the precondition names is real at every index. -/
theorem sguPre [Cert.Pre_finite4.Facts] {x0 x1 x2 x3 x4 x5 x6 x7}
    (h : Cert.Pre_finite4.fn (F := Ideal) x0 x1 x2 x3 x4 x5 x6 x7 = fun _ => 1#1) :
    (∀ i, IsReal (x0 i)) ∧ (∀ i, IsReal (x1 i)) ∧ (∀ i, IsReal (x3 i)) ∧ (∀ i, IsReal (x4 i)) ∧ (∀ i, IsReal (x5 i)) ∧ (∀ i, IsReal (x6 i)) ∧ (∀ i, IsReal (x7 i)) := by
  have h := congrFun h ix0
  obtain ⟨h, h6⟩ := andi_eq_one h
  obtain ⟨h, h5⟩ := andi_eq_one h
  obtain ⟨h, h4⟩ := andi_eq_one h
  obtain ⟨h, h3⟩ := andi_eq_one h
  obtain ⟨h, h2⟩ := andi_eq_one h
  obtain ⟨h0, h1⟩ := andi_eq_one h
  have : Subsingleton Cert.Pre_finite4.S_.Idx := ⟨fun a b => funext fun k => k.elim0⟩
  have hb {s : Shape} (hs : Cert.Pre_finite4.S_.BroadcastsInDim s (![] : Fin 0 → Fin s.rank)) (i : s.Idx) :
      broadcastInDim s ![] hs (constant (F := Ideal) Cert.Pre_finite4.S_ .f32 0x7F800000#32) i = (⊤ : EReal) := ofBits_inf
  exact ⟨isReal_of_all _ _ _ _ _ _ (hb _) h0, isReal_of_all _ _ _ _ _ _ (hb _) h1, isReal_of_all _ _ _ _ _ _ (hb _) h2, isReal_of_all _ _ _ _ _ _ (hb _) h3, isReal_of_all _ _ _ _ _ _ (hb _) h4, isReal_of_all _ _ _ _ _ _ (hb _) h5, isReal_of_all _ _ _ _ _ _ (hb _) h6⟩

end Cert.Reals

end
-- ==== Proof.GeluNorm.lean ====
/- The gelu with its derivative, and a row's layer norm with its gradient: the closed forms the kernel stores, and their
   agreement with the derivatives taken term by term. -/
module

public import proofs.«01_k».proof.Proof.Reals

@[expose] public section

noncomputable section

namespace Cert.GeluNorm

open Idealize.ShloMosaic Cert.Reals

/-! ## The gelu -/

/-- The gelu's two constants, and the two the kernel's derivative uses. -/
abbrev gc : ℝ := 6693141 / 8388608
abbrev ga : ℝ := 12003091 / 268435456
abbrev g2 : ℝ := 6693141 / 4194304
abbrev g6 : ℝ := 241015141496493 / 1125899906842624

def half : EReal := Ideal.ofBits .bf16 0x3F00#16

theorem half_eq : half = ((1 / 2 : ℝ) : EReal) := by
  simp [half, Ideal.ofBits, Ideal.ieee, -EReal.coe_mul]; norm_num

theorem ofBits_gc : Ideal.ofBits .f32 0x3F4C422A#32 = (gc : EReal) := by
  simp [Ideal.ofBits, Ideal.ieee, -EReal.coe_mul]; norm_num

theorem ofBits_ga : Ideal.ofBits .f32 0x3D372713#32 = (ga : EReal) := by
  simp [Ideal.ofBits, Ideal.ieee, -EReal.coe_mul]; norm_num

theorem ofBits_three : Ideal.ofBits .f32 0x40400000#32 = ((3 : ℝ) : EReal) := by
  simp [Ideal.ofBits, Ideal.ieee, -EReal.coe_mul]; norm_num

theorem ofBits_512 : Ideal.ofBits .f32 0x44000000#32 = ((512 : ℝ) : EReal) := by
  simp [Ideal.ofBits, Ideal.ieee, -EReal.coe_mul]; norm_num

/-- The share of its argument the gelu keeps, the gelu and its derivative. -/
def gate (x : EReal) : EReal := half * Ideal.tanh ((gc : EReal) * x * (1 + (ga : EReal) * (x * x))) + half
def gelu (x : EReal) : EReal := x * gate x
def geluD (x : EReal) : EReal := gate x + gelu x * (1 - gate x) * ((g6 : EReal) * (x * x) + (g2 : EReal))

/-- The hyperbolic tangent in the gelu, the cube written out. -/
def th (x : EReal) : EReal := Ideal.tanh ((gc : EReal) * (x + (ga : EReal) * (x * x * x)))

theorem arg_real (x : ℝ) : (gc : EReal) * x * (1 + (ga : EReal) * (x * x)) = (gc : EReal) * (x + (ga : EReal) * (x * x * x)) := by
  rw [← EReal.coe_one]
  simp only [← EReal.coe_mul, ← EReal.coe_add]
  congr 1
  ring

theorem th_real (x : ℝ) : ∃ T : ℝ, th x = (T : EReal) :=
  ⟨Real.tanh (gc * (x + ga * (x * x * x))), by simp only [th, ← EReal.coe_mul, ← EReal.coe_add, Ideal.tanh_coe]⟩

theorem gate_of_th {x : EReal} (hx : IsReal x) : gate x = half * (1 + th x) := by
  obtain ⟨x, rfl⟩ := hx
  obtain ⟨T, hT⟩ := th_real x
  rw [gate, arg_real, ← th, hT, half_eq, ← EReal.coe_one]
  simp only [← EReal.coe_mul, ← EReal.coe_add]
  congr 1
  ring

/-- The derivative of the gelu taken factor by factor, times a real `g`. -/
theorem geluD_row {x g : EReal} (hx : IsReal x) (hg : IsReal g) :
    g * (half * (1 + th x)) + (gc : EReal) * (half * (x * g) * ((1 + th x) * (1 - th x)))
      + (ga : EReal) * ((gc : EReal) * (half * (x * g) * ((1 + th x) * (1 - th x)))) * (((3 : ℝ) : EReal) * (x * x)) = g * geluD x := by
  rw [geluD, gelu, gate_of_th hx]
  obtain ⟨x, rfl⟩ := hx
  obtain ⟨g, rfl⟩ := hg
  obtain ⟨T, hT⟩ := th_real x
  rw [hT, half_eq, ← EReal.coe_one]
  simp only [← EReal.coe_mul, ← EReal.coe_add, ← EReal.coe_sub]
  congr 1
  simp only [gc, ga, g2, g6]
  ring

theorem gate_real {x : EReal} (hx : IsReal x) : IsReal (gate x) := by
  rw [gate_of_th hx]
  obtain ⟨x, rfl⟩ := hx
  obtain ⟨T, hT⟩ := th_real x
  rw [hT, half_eq]
  exact (IsReal.coe _).mul (IsReal.one.add (IsReal.coe _))

theorem gelu_real {x : EReal} (hx : IsReal x) : IsReal (gelu x) := hx.mul (gate_real hx)

/-! ## The layer norm of a row of 512 -/

variable (x : Fin 512 → EReal)

def mean : EReal := Ideal.div (∑ k, x k) (Ideal.ofBits .f32 0x44000000#32)
def xc (l : Fin 512) : EReal := x l - mean x
def var : EReal := mean (fun l => xc x l * xc x l) + Ideal.ofBits .f32 0x358637BD#32
def rstd : EReal := Ideal.rsqrt (var x)
def xh (l : Fin 512) : EReal := xc x l * rstd x

/-- The gradient of the row, from the gradient `d` of its normalised elements. -/
def back (d : Fin 512 → EReal) (l : Fin 512) : EReal :=
  rstd x * (d l - mean d - xh x l * mean fun k => d k * xh x k)

/-- The derivative through the row's variance, before it meets the row's elements. -/
def qv (d : Fin 512 → EReal) : EReal :=
  Ideal.div ((∑ k, xc x k * d k) * (Ideal.ofBits .f32 0xBF000000#32 * Ideal.div (rstd x) (var x))) (Ideal.ofBits .f32 0x44000000#32)

theorem mean_coe (X : Fin 512 → ℝ) : mean (fun k => (X k : EReal)) = (((∑ k, X k) / 512 : ℝ) : EReal) := by
  rw [mean, ofBits_512, ← div_real (by norm_num), coe_sum]

theorem mean_real {x : Fin 512 → EReal} (hx : ∀ k, IsReal (x k)) : IsReal (mean x) := by
  obtain ⟨X, hX⟩ := exists_fun hx
  rw [show x = fun k => (X k : EReal) from funext hX, mean_coe]
  exact IsReal.coe _

theorem xc_coe (X : Fin 512 → ℝ) (l : Fin 512) : xc (fun k => (X k : EReal)) l = ((X l - (∑ k, X k) / 512 : ℝ) : EReal) := by
  rw [xc, mean_coe, EReal.coe_sub]

theorem var_coe (X : Fin 512 → ℝ) : ∃ v : ℝ, 0 < v ∧ var (fun k => (X k : EReal)) = (v : EReal) := by
  refine ⟨(∑ k, (X k - (∑ k, X k) / 512) * (X k - (∑ k, X k) / 512)) / 512 + eps,
    add_pos_of_nonneg_of_pos (div_nonneg (Finset.sum_nonneg fun k _ => mul_self_nonneg _) (by norm_num)) eps_pos, ?_⟩
  simp only [var, xc_coe, ← EReal.coe_mul]
  rw [mean_coe, ofBits_eps, EReal.coe_add]

theorem rstd_real {x : Fin 512 → EReal} (hx : ∀ k, IsReal (x k)) : IsReal (rstd x) := by
  obtain ⟨X, hX⟩ := exists_fun hx
  obtain rfl : x = fun k => (X k : EReal) := funext hX
  obtain ⟨v, hv, e⟩ := var_coe X
  exact ⟨_, by rw [rstd, e, rsqrt_real hv]⟩

theorem xh_real {x : Fin 512 → EReal} (hx : ∀ k, IsReal (x k)) (l : Fin 512) : IsReal (xh x l) :=
  ((hx l).sub (mean_real hx)).mul (rstd_real hx)

theorem back_real {x d : Fin 512 → EReal} (hx : ∀ k, IsReal (x k)) (hd : ∀ k, IsReal (d k)) (l : Fin 512) : IsReal (back x d l) :=
  (rstd_real hx).mul (((hd l).sub (mean_real hd)).sub ((xh_real hx l).mul (mean_real fun k => (hd k).mul (xh_real hx k))))

/-- On a finite row the derivatives of the mean, the variance, the root and the product taken one after another are the
    closed form. -/
theorem back_eq {x d : Fin 512 → EReal} (hx : ∀ k, IsReal (x k)) (hd : ∀ k, IsReal (d k)) (l : Fin 512) :
    d l * rstd x + qv x d * (((2 : ℝ) : EReal) * xc x l)
      + Ideal.div ((∑ k, -(d k * rstd x)) + ∑ k, -(qv x d * (((2 : ℝ) : EReal) * xc x k))) (Ideal.ofBits .f32 0x44000000#32)
      = back x d l := by
  obtain ⟨X, hX⟩ := exists_fun hx
  obtain ⟨D, hD⟩ := exists_fun hd
  obtain rfl : x = fun k => (X k : EReal) := funext hX
  obtain rfl : d = fun k => (D k : EReal) := funext hD
  obtain ⟨v, hv, e⟩ := var_coe X
  have hs : 0 < Real.sqrt v := Real.sqrt_pos.2 hv
  have hR : rstd (fun k => (X k : EReal)) = (((Real.sqrt v)⁻¹ : ℝ) : EReal) := by rw [rstd, e, rsqrt_real hv]
  have h0 : ∑ k, (X k - (∑ k, X k) / 512) = 0 := by
    rw [Finset.sum_sub_distrib, Finset.sum_const, Finset.card_univ, Fintype.card_fin, nsmul_eq_mul]
    push_cast
    ring
  set C : Fin 512 → ℝ := fun k => X k - (∑ k, X k) / 512 with hC
  have hxc : ∀ k, xc (fun k => (X k : EReal)) k = (C k : EReal) := fun k => xc_coe X k
  have hQ : qv (fun k => (X k : EReal)) (fun k => (D k : EReal))
      = (((∑ k, C k * D k) * (-(1 / 2) * ((Real.sqrt v)⁻¹ / v)) / 512 : ℝ) : EReal) := by
    simp only [qv, hxc, ← EReal.coe_mul]
    rw [hR, e, ofBits_512, ofBits_neg_half, div_real hv.ne', ← EReal.coe_mul, ← coe_sum, ← EReal.coe_mul, div_real (by norm_num)]
  have hB : back (fun k => (X k : EReal)) (fun k => (D k : EReal)) l
      = (((Real.sqrt v)⁻¹ * (D l - (∑ k, D k) / 512 - C l * (Real.sqrt v)⁻¹ * ((∑ k, D k * (C k * (Real.sqrt v)⁻¹)) / 512)) : ℝ) : EReal) := by
    simp only [back, xh, hxc, hR, ← EReal.coe_mul]
    rw [mean_coe, mean_coe]
    simp only [← EReal.coe_mul, ← EReal.coe_sub]
  rw [hB, hQ, hR, ofBits_512]
  simp only [hxc, ← EReal.coe_mul, ← EReal.coe_add, ← EReal.coe_neg, ← coe_sum]
  rw [div_real (by norm_num), ← EReal.coe_add]
  congr 1
  rw [Finset.sum_neg_distrib, Finset.sum_neg_distrib, ← Finset.sum_mul, ← Finset.mul_sum, ← Finset.mul_sum, h0]
  have e1 : ∑ k, D k * (C k * (Real.sqrt v)⁻¹) = (∑ k, C k * D k) * (Real.sqrt v)⁻¹ := by
    rw [Finset.sum_mul]
    exact Finset.sum_congr rfl fun k _ => by ring
  rw [e1]
  have hv2 : v = Real.sqrt v * Real.sqrt v := (Real.mul_self_sqrt hv.le).symm
  generalize Real.sqrt v = s at *
  rw [hv2]
  field_simp
  ring

end Cert.GeluNorm

end
-- ==== Proof.SguSpec.lean ====
/- The spatial gating unit's gradient in closed form over the arguments of the fourth claim. -/
module

public import proofs.«01_k».proof.Proof.GeluNorm
public import Idealize.ShloMosaic.Lib.Pipeline.ValueKit

@[expose] public section

noncomputable section

namespace Cert.SguSpec

open Idealize.ShloMosaic Cert.Reals Cert.GeluNorm

/-- Position `t` of chunk `n`, column `j` of group `g`, and the parts of a row and of a column. -/
def row (n : Fin 64) (t : Fin 128) : Fin 8192 := ⟨n.val * 128 + t.val, by omega⟩
def lane (g : Fin 8) (j : Fin 64) : Fin 512 := ⟨g.val * 64 + j.val, by omega⟩
def nOf (r : Fin 8192) : Fin 64 := ⟨r.val / 128, by omega⟩
def tOf (r : Fin 8192) : Fin 128 := ⟨r.val % 128, by omega⟩
def grp (l : Fin 512) : Fin 8 := ⟨l.val / 64, by omega⟩

theorem nOf_row (n : Fin 64) (t : Fin 128) : nOf (row n t) = n := Fin.ext (by simp only [nOf, row]; omega)
theorem tOf_row (n : Fin 64) (t : Fin 128) : tOf (row n t) = t := Fin.ext (by simp only [tOf, row]; omega)
theorem grp_lane (g : Fin 8) (j : Fin 64) : grp (lane g j) = g := Fin.ext (by simp only [grp, lane]; omega)
theorem row_of (r : Fin 8192) : row (nOf r) (tOf r) = r := Fin.ext (by simp only [nOf, tOf, row]; omega)

theorem sum_rows (f : Fin 8192 → EReal) : ∑ r, f r = ∑ n : Fin 64, ∑ t : Fin 128, f (row n t) := Fin.sum_univ_tiles 64 128 rfl f
theorem sum_lanes (f : Fin 512 → EReal) : ∑ l, f l = ∑ g : Fin 8, ∑ j : Fin 64, f (lane g j) := Fin.sum_univ_tiles 8 64 rfl f

/-! ## One chunk -/

abbrev Chunk := Fin 128 → Fin 512 → EReal

/-- The normalised gate, and the cotangent of the mixed gate. -/
def vnC (V : Chunk) (lg lb : Fin 512 → EReal) : Chunk := fun t l => xh (fun k => gelu (V t k)) l * lg l + lb l
def dsC (U D : Chunk) : Chunk := fun t l => D t l * gelu (U t l)

/-- The causal mixing weights; the mixing of a chunk's positions, and its transpose. -/
def tri (W : Fin 8 → Fin 128 → Fin 128 → EReal) (g : Fin 8) (t s : Fin 128) : EReal := if s ≤ t then W g t s else 0
def mixC (W : Fin 8 → Fin 128 → Fin 128 → EReal) (X : Chunk) : Chunk := fun t l => ∑ s, tri W (grp l) t s * X s l
def mixTC (W : Fin 8 → Fin 128 → Fin 128 → EReal) (X : Chunk) : Chunk := fun s l => ∑ t, tri W (grp l) t s * X t l

/-- The gradients of the two halves before their activation. -/
def duC (U D M : Chunk) (B : Fin 8 → Fin 128 → EReal) : Chunk := fun t l => D t l * geluD (U t l) * (M t l + B (grp l) t)
def dvC (V N : Chunk) (lg : Fin 512 → EReal) : Chunk := fun t l =>
  back (fun k => gelu (V t k)) (fun k => N t k * lg k) l * geluD (V t l)

/-! ## The arguments and the results -/

/-- The arguments: the two halves of the projection, the gain and the bias of the norm, the mixing weights and bias, the
    cotangent. -/
structure Args where
  u : FVec Ideal ⟨2, ![8192, 512]⟩ .f32
  v : FVec Ideal ⟨2, ![8192, 512]⟩ .f32
  lg : FVec Ideal ⟨1, ![512]⟩ .f32
  lb : FVec Ideal ⟨1, ![512]⟩ .f32
  ws : FVec Ideal ⟨3, ![8, 128, 128]⟩ .f32
  bs : FVec Ideal ⟨2, ![8, 128]⟩ .f32
  d : FVec Ideal ⟨2, ![8192, 512]⟩ .f32

variable (a : Args)

def U (n : Fin 64) : Chunk := fun t l => a.u (ix2 (row n t) l)
def V (n : Fin 64) : Chunk := fun t l => a.v (ix2 (row n t) l)
def D (n : Fin 64) : Chunk := fun t l => a.d (ix2 (row n t) l)
def lg (l : Fin 512) : EReal := a.lg (ix1 l)
def lb (l : Fin 512) : EReal := a.lb (ix1 l)
def W (g : Fin 8) (t s : Fin 128) : EReal := a.ws (ix3 g t s)
def B (g : Fin 8) (t : Fin 128) : EReal := a.bs (ix2 g t)

def vn (n : Fin 64) : Chunk := vnC (V a n) (lg a) (lb a)
def ds (n : Fin 64) : Chunk := dsC (U a n) (D a n)
def dvn (n : Fin 64) : Chunk := mixTC (W a) (ds a n)
def du (n : Fin 64) : Chunk := duC (U a n) (D a n) (mixC (W a) (vn a n)) (B a)
def dv (n : Fin 64) : Chunk := dvC (V a n) (dvn a n) (lg a)

/-- What a chunk adds to the gradients of the gain, of the bias, of the mixing weights and of the mixing bias. -/
def lgAt (n : Fin 64) (l : Fin 512) : EReal := ∑ t, dvn a n t l * xh (fun k => gelu (V a n t k)) l
def lbAt (n : Fin 64) (l : Fin 512) : EReal := ∑ t, dvn a n t l
def wsAt (n : Fin 64) (g : Fin 8) (t s : Fin 128) : EReal := ∑ j : Fin 64, ds a n t (lane g j) * vn a n s (lane g j)

/-- The gradients. -/
def glg (l : Fin 512) : EReal := ∑ n, lgAt a n l
def glb (l : Fin 512) : EReal := ∑ n, lbAt a n l
def gws (g : Fin 8) (t s : Fin 128) : EReal := if s ≤ t then ∑ n, wsAt a n g t s else 0
def gbs (g : Fin 8) (t : Fin 128) : EReal := ∑ j : Fin 64, ∑ n, ds a n t (lane g j)

/-- The gradient of the two halves side by side. -/
def uv : FVec Ideal ⟨2, ![8192, 1024]⟩ .bf16 := fun i =>
  if h : (i 1).val < 512 then du a (nOf (i 0)) (tOf (i 0)) ⟨(i 1).val, h⟩ else dv a (nOf (i 0)) (tOf (i 0)) ⟨(i 1).val - 512, by have : (i 1).val < 1024 := (i 1).isLt; omega⟩

theorem uv_left (n : Fin 64) (t : Fin 128) (l : Fin 512) (r : Fin 8192) (q : Fin 1024) (hr : r.val = n.val * 128 + t.val) (hq : q.val = l.val) :
    uv a (ix2 r q) = du a n t l := by
  obtain rfl : r = row n t := Fin.ext hr
  have hl := l.isLt
  refine (dif_pos (show q.val < 512 by omega)).trans ?_
  show du a (nOf (row n t)) (tOf (row n t)) _ = _
  rw [nOf_row, tOf_row]
  exact congrArg _ (Fin.ext hq)

theorem uv_right (n : Fin 64) (t : Fin 128) (l : Fin 512) (r : Fin 8192) (q : Fin 1024) (hr : r.val = n.val * 128 + t.val) (hq : q.val = 512 + l.val) :
    uv a (ix2 r q) = dv a n t l := by
  obtain rfl : r = row n t := Fin.ext hr
  refine (dif_neg (show ¬q.val < 512 by omega)).trans ?_
  show dv a (nOf (row n t)) (tOf (row n t)) _ = _
  rw [nOf_row, tOf_row]
  exact congrArg _ (Fin.ext (by show q.val - 512 = l.val; omega))

/-- Every argument is real. -/
structure AllReal : Prop where
  u : ∀ i, IsReal (a.u i)
  v : ∀ i, IsReal (a.v i)
  lg : ∀ i, IsReal (a.lg i)
  lb : ∀ i, IsReal (a.lb i)
  ws : ∀ i, IsReal (a.ws i)
  bs : ∀ i, IsReal (a.bs i)
  d : ∀ i, IsReal (a.d i)

variable {a} (h : AllReal a)
include h

theorem gelu_V_real (n : Fin 64) (t : Fin 128) (l : Fin 512) : IsReal (gelu (V a n t l)) := gelu_real (h.v _)

theorem vn_real (n : Fin 64) (t : Fin 128) (l : Fin 512) : IsReal (vn a n t l) :=
  ((xh_real (fun k => gelu_V_real h n t k) l).mul (h.lg _)).add (h.lb _)

theorem tri_real (g : Fin 8) (t s : Fin 128) : IsReal (tri (W a) g t s) := by
  unfold tri
  split
  · exact h.ws _
  · exact IsReal.zero

theorem dvn_real (n : Fin 64) (s : Fin 128) (l : Fin 512) : IsReal (dvn a n s l) := by
  unfold dvn mixTC
  exact IsReal.sum fun t => (tri_real h _ t s).mul ((h.d _).mul (gelu_real (h.u _)))

theorem mix_real (n : Fin 64) (t : Fin 128) (l : Fin 512) : IsReal (mixC (W a) (vn a n) t l + B a (grp l) t) := by
  unfold mixC
  exact (IsReal.sum fun s => (tri_real h _ t s).mul (vn_real h n s l)).add (h.bs _)

end Cert.SguSpec

end
-- ==== Proof.SguRef.lean ====
/- The fourth claim's reference, read at an index. -/
module

public import proofs.«01_k».proof.Proof.SguSpec
public import proofs.«01_k».proof.Proof.RowGrad
public import proofs.«01_k».proof.Proof.Gen.Reference4Ideal.Read

@[expose] public section

set_option maxRecDepth 16384

noncomputable section

namespace Cert.SguRef

open Idealize.ShloMosaic Idealize.ShloMosaic.TcCoe Idealize.SL.Sem
open Cert.Reference4Ideal Cert.Reference4Ideal.Gen Cert.Reference4Ideal.Read Cert.SguSpec Cert.GeluNorm Cert.RowGrad Cert.Reals

variable (a : Args)

theorem th_u (n : Fin 64) (t : Fin 128) (l : Fin 512) : (val_main_v10 (F := Ideal) a.u) (ix2 (row n t) l) = th (U a n t l) := by
  pointwise [val_main_v0, val_main_v1, val_main_v5, val_main_v6, val_main_v7, val_main_v8, val_main_v9, val_main_v10, val_main_cst_0, val_main_cst_1]
  simp only [th, ofBits_gc, ofBits_ga]
  rfl

theorem keep_u (n : Fin 64) (t : Fin 128) (l : Fin 512) : (val_main_v19 (F := Ideal) a.u) (ix2 (row n t) l) = half * (1 + th (U a n t l)) := by
  pointwise [val_main_v16, val_main_v17, val_main_v18, val_main_v19, val_main_cst_4, val_main_cst_5]
  simp only [th_u, ofBits_half, ← half_eq]

theorem slope_u (n : Fin 64) (t : Fin 128) (l : Fin 512) : (val_main_v15 (F := Ideal) a.u) (ix2 (row n t) l) = (1 + th (U a n t l)) * (1 - th (U a n t l)) := by
  pointwise [val_main_v11, val_main_v12, val_main_v13, val_main_v14, val_main_v15, val_main_cst_2, val_main_cst_3]
  simp only [th_u]

theorem cube_u (n : Fin 64) (t : Fin 128) (l : Fin 512) : (val_main_v4 (F := Ideal) a.u) (ix2 (row n t) l) = ((3 : ℝ) : EReal) * (U a n t l * U a n t l) := by
  pointwise [val_main_v2, val_main_v3, val_main_v4, val_main_cst]
  simp only [ofBits_three]
  rfl

theorem th_v (n : Fin 64) (t : Fin 128) (l : Fin 512) : (val_main_v32 (F := Ideal) a.v) (ix2 (row n t) l) = th (V a n t l) := by
  pointwise [val_main_v22, val_main_v23, val_main_v27, val_main_v28, val_main_v29, val_main_v30, val_main_v31, val_main_v32, val_main_cst_7, val_main_cst_8]
  simp only [th, ofBits_gc, ofBits_ga]
  rfl

theorem keep_v (n : Fin 64) (t : Fin 128) (l : Fin 512) : (val_main_v41 (F := Ideal) a.v) (ix2 (row n t) l) = half * (1 + th (V a n t l)) := by
  pointwise [val_main_v38, val_main_v39, val_main_v40, val_main_v41, val_main_cst_11, val_main_cst_12]
  simp only [th_v, ofBits_half, ← half_eq]

theorem slope_v (n : Fin 64) (t : Fin 128) (l : Fin 512) : (val_main_v37 (F := Ideal) a.v) (ix2 (row n t) l) = (1 + th (V a n t l)) * (1 - th (V a n t l)) := by
  pointwise [val_main_v33, val_main_v34, val_main_v35, val_main_v36, val_main_v37, val_main_cst_9, val_main_cst_10]
  simp only [th_v]

theorem cube_v (n : Fin 64) (t : Fin 128) (l : Fin 512) : (val_main_v26 (F := Ideal) a.v) (ix2 (row n t) l) = ((3 : ℝ) : EReal) * (V a n t l * V a n t l) := by
  pointwise [val_main_v24, val_main_v25, val_main_v26, val_main_cst_6]
  simp only [ofBits_three]
  rfl

/-- A sum reduction over several axes, its terms numbered. -/
theorem reduce_over {s t : Shape} {axes : List (Fin s.rank)} (h : s.ReducesTo axes t) {K : Type} [Fintype K] (x : s.Idx → EReal) (c : EReal)
    (j : t.Idx) (e : K → s.Idx) (pr : s.Idx → K) (h1 : ∀ k, h.drop (e k) = j) (h2 : ∀ i, h.drop i = j → e (pr i) = i) (h3 : ∀ k, pr (e k) = k) :
    Ideal.hostReduceAdd h x c j = c + ∑ k, x (e k) := by
  refine congrArg (c + ·) (Finset.sum_bij' (fun i _ => pr i) (fun k _ => e k) ?_ ?_ ?_ ?_ ?_)
  · exact fun _ _ => Finset.mem_univ _
  · exact fun k _ => Finset.mem_filter.2 ⟨Finset.mem_univ _, h1 k⟩
  · exact fun i hi => h2 i (Finset.mem_filter.1 hi).2
  · exact fun k _ => h3 k
  · exact fun i hi => (congrArg x (h2 i (Finset.mem_filter.1 hi).2)).symm

theorem reduce_row (x : S1x8192x1.Idx → EReal) (c : EReal) (r : Fin 8192) :
    Ideal.hostReduceAdd reducesTo_S1x8192x1_S8192_d0_2 x c (ix1 r) = c + x (ix3 0 r 0) := by
  refine (reduce_over _ x c _ (fun _ : Unit => ix3 0 r 0) (fun _ => ()) (fun _ => ?_) (fun i hi => ?_) fun _ => rfl).trans (by simp)
  · funext b
    fin_cases b
    rfl
  · idx_vars i
    have e : i1 = r := congrFun hi 0
    rw [e, Subsingleton.elim i0 0, Subsingleton.elim i2 0]

theorem reduce_gain (x : S1x1x512.Idx → EReal) (c : EReal) (l : Fin 512) :
    Ideal.hostReduceAdd reducesTo_S1x1x512_S512_d0_1 x c (ix1 l) = c + x (ix3 0 0 l) := by
  refine (reduce_over _ x c _ (fun _ : Unit => ix3 0 0 l) (fun _ => ()) (fun _ => ?_) (fun i hi => ?_) fun _ => rfl).trans (by simp)
  · funext b
    fin_cases b
    rfl
  · idx_vars i
    have e : i2 = l := congrFun hi 0
    rw [e, Subsingleton.elim i0 0, Subsingleton.elim i1 0]

theorem reduce_bias (x : S1x1x128x8x1.Idx → EReal) (c : EReal) (t : Fin 128) (g : Fin 8) :
    Ideal.hostReduceAdd reducesTo_S1x1x128x8x1_S128x8_d0_1_4 x c (ix2 t g) = c + x (ix5 0 0 t g 0) := by
  refine (reduce_over _ x c _ (fun _ : Unit => ix5 0 0 t g 0) (fun _ => ()) (fun _ => ?_) (fun i hi => ?_) fun _ => rfl).trans (by simp)
  · funext b
    fin_cases b <;> rfl
  · idx_vars i
    have e : i2 = t := congrFun hi 0
    have e' : i3 = g := congrFun hi 1
    rw [e, e', Subsingleton.elim i0 0, Subsingleton.elim i1 0, Subsingleton.elim i4 0]

theorem reduce_chunks (x : S1x64x128x8x64.Idx → EReal) (c : EReal) (t : Fin 128) (g : Fin 8) :
    Ideal.hostReduceAdd reducesTo_S1x64x128x8x64_S1x128x8_d1_4 x c (ix3 0 t g) = c + ∑ k : Fin 64 × Fin 64, x (ix5 0 k.1 t g k.2) := by
  refine reduce_over _ x c _ (fun k : Fin 64 × Fin 64 => ix5 0 k.1 t g k.2) (fun i => (i 1, i 4)) (fun k => ?_) (fun i hi => ?_) fun _ => rfl
  · funext b
    fin_cases b <;> rfl
  · idx_vars i
    have e : i2 = t := congrFun hi 1
    have e' : i3 = g := congrFun hi 2
    rw [e, e', Subsingleton.elim i0 0]

/-- The product over a chunk and the lanes of a group. -/
abbrev dW := dot_S8x1x64x64x128_S1x64x128x8x64_S8x128x128_123_014_4_2_0_3
theorem dW_size : ∀ p : Fin dW.contr.rank, (if p.val = 0 then 1 else 64) = dW.contr.size p := by decide
def dWk (k : Fin 64 × Fin 64) : dW.contr.Idx := fun p =>
  ⟨if p.val = 0 then 0 else if p.val = 1 then k.1.val else k.2.val, by rw [← dW_size p]; split_ifs <;> omega⟩

def dWp (kk : dW.contr.Idx) : Fin 64 × Fin 64 :=
  ((kk ⟨1, by decide⟩).cast (dW_size ⟨1, by decide⟩).symm, (kk ⟨2, by decide⟩).cast (dW_size ⟨2, by decide⟩).symm)

theorem dWk_of (kk : dW.contr.Idx) : dWk (dWp kk) = kk := by
  funext p
  obtain ⟨p, hp⟩ := p
  have hp' : p < 3 := hp
  refine Fin.ext ?_
  interval_cases p
  · exact (Nat.lt_one_iff.1 (kk ⟨0, by decide⟩).isLt).symm
  · rfl
  · rfl

theorem product_at (x : S8x1x64x64x128.Idx → EReal) (y : S1x64x128x8x64.Idx → EReal) (g : Fin 8) (t s : Fin 128) :
    Ideal.matmul dW x y (fun _ => 0) (ix3 g t s) = ∑ k : Fin 64 × Fin 64, x (ix5 g 0 k.1 k.2 t) * y (ix5 0 k.1 s g k.2) := by
  refine (zero_add _).trans ?_
  refine Finset.sum_bij' (fun kk _ => dWp kk) (fun k _ => dWk k) (fun _ _ => Finset.mem_univ _) (fun _ _ => Finset.mem_univ _)
    (fun kk _ => dWk_of kk) (fun _ _ => rfl) (fun kk _ => ?_)
  generalize hk : dWp kk = k
  obtain rfl : dWk k = kk := hk ▸ dWk_of kk
  refine congrArg₂ (fun a b => x a * y b) ?_ ?_
  · funext b
    fin_cases b <;> rfl
  · funext b
    fin_cases b <;> rfl

/-- A row and a column of the flat array are a position of a chunk and a lane of a group. -/
theorem flat3 {X : Type} (x : S1x64x128x8x64.Idx → X) (n : Fin 64) (t : Fin 128) (l : Fin 512) :
    shapeCast S1x8192x512 x shapeCasts_S1x64x128x8x64_S1x8192x512 (ix3 0 (row n t) l) = x (ix5 0 n t (grp l) ⟨l.val % 64, Nat.mod_lt _ (by norm_num)⟩) := by
  pointwise
  exact congrArg₂ (fun n t => x (ix5 0 n t (grp l) _)) (nOf_row n t) (tOf_row n t)

theorem lane_of (l : Fin 512) : lane (grp l) ⟨l.val % 64, Nat.mod_lt _ (by norm_num)⟩ = l := Fin.ext (by show l.val / 64 * 64 + l.val % 64 = l.val; omega)

theorem not_after : ∀ t s : Fin 128, Scalar.select (IntOp.cmpi .sge (IntOp.addi (BitVec.ofNat 32 t.val) 0#32) (BitVec.ofNat 32 s.val)) 1#1 0#1
    = if s ≤ t then 1#1 else 0#1 := by decide +kernel

theorem tri_at (g : Fin 8) (t s : Fin 128) : (val_main_v76_0 (F := Ideal) a.ws) (ix3 g t s) = tri (W a) g t s := by
  pointwise [val_main_v74, val_main_call0_v0, val_main_call0_c, val_main_call0_v1, val_main_call0_v2, val_main_call0_v3, val_main_call0_v4, val_main_call0_c_0, val_main_call0_v5, val_main_v75, val_main_v76_1, val_main_c, val_main_cst_20, val_main_call1_v0, val_main_call1_v2, val_main_v76_0]
  rw [not_after, tri]
  split
  · rfl
  · show constant (F := Ideal) S_ .f32 0#32 ix0 = (0 : EReal)
    pointwise

variable {a} (h : AllReal a)
include h

theorem gelu_u (n : Fin 64) (t : Fin 128) (l : Fin 512) : (val_main_v20 (F := Ideal) a.u) (ix2 (row n t) l) = gelu (U a n t l) := by
  pointwise [val_main_v20]
  simp only [gelu, gate_of_th (h.u (ix2 (row n t) l)), keep_u, U]

theorem gelu_v (n : Fin 64) (t : Fin 128) (l : Fin 512) : (val_main_v42 (F := Ideal) a.v) (ix2 (row n t) l) = gelu (V a n t l) := by
  pointwise [val_main_v42]
  simp only [gelu, gate_of_th (h.v (ix2 (row n t) l)), keep_v, V]

theorem mean_at (n : Fin 64) (t : Fin 128) : (val_main_v47 (F := Ideal) a.v) (ix3 0 (row n t) 0) = mean (fun k => gelu (V a n t k)) := by
  pointwise [val_main_v43, val_main_v44, val_main_v45, val_main_v46, val_main_v47, val_main_cst_13, val_main_cst_14]
  simp only [gelu_v h, mean, zero_add]

theorem xc_at (n : Fin 64) (t : Fin 128) (l : Fin 512) : (val_main_v49 (F := Ideal) a.v) (ix3 0 (row n t) l) = xc (fun k => gelu (V a n t k)) l := by
  pointwise [val_main_v43, val_main_v48, val_main_v49]
  simp only [gelu_v h, mean_at h, xc]

theorem xc_at2 (n : Fin 64) (t : Fin 128) (l : Fin 512) : (val_main_v58 (F := Ideal) a.v) (ix3 0 (row n t) l) = xc (fun k => gelu (V a n t k)) l := by
  pointwise [val_main_v43, val_main_v57, val_main_v58]
  simp only [gelu_v h, mean_at h, xc]

theorem twice_at (n : Fin 64) (t : Fin 128) (l : Fin 512) : (val_main_v52 (F := Ideal) a.v) (ix3 0 (row n t) l) = ((2 : ℝ) : EReal) * xc (fun k => gelu (V a n t k)) l := by
  pointwise [val_main_v51, val_main_v52, val_main_cst_15]
  simp only [xc_at h, ofBits_two]

theorem var_at (n : Fin 64) (t : Fin 128) : (val_main_v60 (F := Ideal) a.v) (ix3 0 (row n t) 0) = var (fun k => gelu (V a n t k)) := by
  pointwise [val_main_v50, val_main_v53, val_main_v54, val_main_v55, val_main_v56, val_main_v59, val_main_v60, val_main_cst_16, val_main_cst_17, val_main_cst_18]
  simp only [xc_at h, var, mean, zero_add]

theorem rstd_at (n : Fin 64) (t : Fin 128) : (val_main_v61 (F := Ideal) a.v) (ix3 0 (row n t) 0) = rstd (fun k => gelu (V a n t k)) := by
  pointwise [val_main_v61]
  simp only [var_at h, rstd]

theorem xh_at (n : Fin 64) (t : Fin 128) (l : Fin 512) : (val_main_v66 (F := Ideal) a.v) (ix3 0 (row n t) l) = xh (fun k => gelu (V a n t k)) l := by
  pointwise [val_main_v65, val_main_v66]
  simp only [xc_at2 h, rstd_at h, xh]

theorem vn_at (n : Fin 64) (t : Fin 128) (l : Fin 512) : (val_main_v72 (F := Ideal) a.v a.lg a.lb) (ix3 0 (row n t) l) = vn a n t l := by
  pointwise [val_main_v67, val_main_v68, val_main_v69, val_main_v70, val_main_v71, val_main_v72]
  simp only [xh_at h, vn, vnC]
  rfl

theorem vn5_at (n : Fin 64) (t : Fin 128) (g : Fin 8) (j : Fin 64) : (val_main_v73 (F := Ideal) a.v a.lg a.lb) (ix5 0 n t g j) = vn a n t (lane g j) := by
  pointwise [val_main_v73]
  exact vn_at h n t (lane g j)

theorem mix5_at (n : Fin 64) (t : Fin 128) (g : Fin 8) (j : Fin 64) : (val_main_v82 (F := Ideal) a.v a.lg a.lb a.ws a.bs) (ix5 0 n t g j) = mixC (W a) (vn a n) t (lane g j) + B a g t := by
  pointwise [val_main_v77, val_main_v78, val_main_v79, val_main_v80, val_main_v81, val_main_v82]
  simp only [vn5_at h, tri_at a, mixC, grp_lane]
  exact congrArg (· + _) (Finset.sum_congr rfl fun s _ => mul_comm _ _)

theorem mix_at (n : Fin 64) (t : Fin 128) (l : Fin 512) : (val_main_v83 (F := Ideal) a.v a.lg a.lb a.ws a.bs) (ix3 0 (row n t) l) = mixC (W a) (vn a n) t l + B a (grp l) t :=
  (flat3 _ n t l).trans ((mix5_at h n t _ _).trans (by rw [lane_of]))

theorem ds_at (n : Fin 64) (t : Fin 128) (l : Fin 512) : (val_main_v87 (F := Ideal) a.u a.d) (ix3 0 (row n t) l) = ds a n t l := by
  pointwise [val_main_v21, val_main_v86, val_main_v87]
  simp only [gelu_u h]
  exact mul_comm _ _

theorem ds5_at (n : Fin 64) (t : Fin 128) (g : Fin 8) (j : Fin 64) : (val_main_v89 (F := Ideal) a.u a.d) (ix5 0 n t g j) = ds a n t (lane g j) := by
  pointwise [val_main_v89]
  exact ds_at h n t (lane g j)

theorem gu_at (n : Fin 64) (t : Fin 128) (l : Fin 512) : (val_main_v148 (F := Ideal) a.v a.lg a.lb a.ws a.bs a.d) (ix2 (row n t) l) = D a n t l * (mixC (W a) (vn a n) t l + B a (grp l) t) := by
  pointwise [val_main_v86, val_main_v88, val_main_v148, val_main_cst_38]
  simp only [mix_at h, zero_add, Fin.sum_univ_one]
  rfl

theorem du_at (n : Fin 64) (t : Fin 128) (l : Fin 512) : (val_main_v160 (F := Ideal) a.u a.v a.lg a.lb a.ws a.bs a.d) (ix2 (row n t) l) = du a n t l := by
  pointwise [val_main_v149, val_main_v150, val_main_v151, val_main_v152, val_main_v153, val_main_v154, val_main_v155, val_main_v156, val_main_v157, val_main_v158, val_main_v159, val_main_v160, val_main_cst_39, val_main_cst_40, val_main_cst_41]
  simp only [gu_at h, keep_u, slope_u, cube_u, ofBits_gc, ofBits_ga, ofBits_half, ← half_eq]
  exact (geluD_row (h.u _) ((h.d _).mul (mix_real h n t l))).trans (mul_right_comm _ _ _)

theorem dvn5_at (n : Fin 64) (t : Fin 128) (g : Fin 8) (j : Fin 64) : (val_main_v97 (F := Ideal) a.u a.ws a.d) (ix5 0 n t g j) = dvn a n t (lane g j) := by
  pointwise [val_main_v94, val_main_v96, val_main_v97]
  simp only [ds5_at h, tri_at a, dvn, mixTC, grp_lane]
  exact Finset.sum_congr rfl fun s _ => mul_comm _ _

theorem dvn_at (n : Fin 64) (t : Fin 128) (l : Fin 512) : (val_main_v99 (F := Ideal) a.u a.ws a.d) (ix3 0 (row n t) l) = dvn a n t l :=
  (flat3 _ n t l).trans ((dvn5_at h n t _ _).trans (by rw [lane_of]))

theorem dxh_at (n : Fin 64) (t : Fin 128) (l : Fin 512) : (val_main_v107 (F := Ideal) a.u a.lg a.ws a.d) (ix3 0 (row n t) l) = dvn a n t l * lg a l := by
  pointwise [val_main_v67, val_main_v106, val_main_v107]
  simp only [dvn_at h]
  rfl

theorem q_at (n : Fin 64) (t : Fin 128) : (val_main_v119 (F := Ideal) a.u a.v a.lg a.ws a.d) (ix3 0 (row n t) 0) = qv (fun k => gelu (V a n t k)) (fun k => dvn a n t k * lg a k) := by
  pointwise [val_main_v62, val_main_v63, val_main_v64, val_main_cst_19, val_main_v109, val_main_v110, val_main_cst_27, val_main_v111, val_main_v114, val_main_v118, val_main_v119, val_main_cst_29]
  simp only [xc_at2 h, dxh_at h, rstd_at h, var_at h, zero_add, qv]

theorem qx_at (n : Fin 64) (t : Fin 128) (l : Fin 512) : (val_main_v123 (F := Ideal) a.u a.v a.lg a.ws a.d) (ix3 0 (row n t) l) = qv (fun k => gelu (V a n t k)) (fun k => dvn a n t k * lg a k) * (((2 : ℝ) : EReal) * xc (fun k => gelu (V a n t k)) l) := by
  pointwise [val_main_v120, val_main_cst_30, val_main_v121, val_main_v122, val_main_v123]
  simp only [reduce_row, q_at h, twice_at h, zero_add]

theorem shift_at (n : Fin 64) (t : Fin 128) : (val_main_v130 (F := Ideal) a.u a.v a.lg a.ws a.d) (ix3 0 (row n t) 0) = Ideal.div ((∑ k, -(dvn a n t k * lg a k * rstd (fun k => gelu (V a n t k)))) + ∑ k, -(qv (fun k => gelu (V a n t k)) (fun k => dvn a n t k * lg a k) * (((2 : ℝ) : EReal) * xc (fun k => gelu (V a n t k)) k))) (Ideal.ofBits .f32 0x44000000#32) := by
  pointwise [val_main_v112, val_main_v113, val_main_v115, val_main_v116, val_main_cst_28, val_main_v117, val_main_v124, val_main_v125, val_main_cst_31, val_main_v126, val_main_v128, val_main_v129, val_main_cst_32, val_main_v130]
  simp only [dxh_at h, rstd_at h, qx_at h, zero_add]

theorem gv_at (n : Fin 64) (t : Fin 128) (l : Fin 512) : (val_main_v135 (F := Ideal) a.u a.v a.lg a.ws a.d) (ix2 (row n t) l) = back (fun k => gelu (V a n t k)) (fun k => dvn a n t k * lg a k) l := by
  pointwise [val_main_v112, val_main_v113, val_main_v127, val_main_v131, val_main_cst_33, val_main_v132, val_main_v133, val_main_v134, val_main_v135, val_main_cst_34]
  simp only [reduce_row, shift_at h, dxh_at h, rstd_at h, qx_at h, zero_add, Fin.sum_univ_one]
  exact back_eq (fun k => gelu_V_real h n t k) (fun k => (dvn_real h n t k).mul (h.lg _)) l

theorem dv_at (n : Fin 64) (t : Fin 128) (l : Fin 512) : (val_main_v147 (F := Ideal) a.u a.v a.lg a.ws a.d) (ix2 (row n t) l) = dv a n t l := by
  pointwise [val_main_v136, val_main_v137, val_main_v138, val_main_v139, val_main_v140, val_main_v141, val_main_v142, val_main_v143, val_main_v144, val_main_v145, val_main_v146, val_main_v147, val_main_cst_35, val_main_cst_36, val_main_cst_37]
  simp only [gv_at h, keep_v, slope_v, cube_v, ofBits_gc, ofBits_ga, ofBits_half, ← half_eq]
  exact geluD_row (h.v _) (back_real (fun k => gelu_V_real h n t k) (fun k => (dvn_real h n t k).mul (h.lg _)) l)

/-- The results. -/
theorem uv_at (r : Fin 8192) (q : Fin 1024) : (val_main_v162 (F := Ideal) a.u a.v a.lg a.lb a.ws a.bs a.d) (ix2 r q) = uv a (ix2 r q) := by
  pointwise [val_main_v161, val_main_v162]
  have e (l : Fin 512) : (ix2 r l : S8192x512.Idx) = ix2 (row (nOf r) (tOf r)) l := congrArg (fun r => ix2 r l) (row_of r).symm
  split
  · rename_i hq
    rw [e, du_at h]
    exact (uv_left a (nOf r) (tOf r) ⟨q.val, hq⟩ r q (congrArg Fin.val (row_of r)).symm rfl).symm
  · rename_i hq
    rw [e, dv_at h]
    exact (uv_right a (nOf r) (tOf r) ⟨q.val - 512, by omega⟩ r q (congrArg Fin.val (row_of r)).symm (by show q.val = 512 + (q.val - 512); omega)).symm

theorem glg_at (l : Fin 512) : (val_main_v163 (F := Ideal) a.u a.v a.ws a.d) (ix2 0 l) = glg a l := by
  pointwise [val_main_v105, val_main_v108, val_main_cst_26, val_main_v163]
  rw [reduce_gain, zero_add]
  pointwise [val_main_v103, val_main_v104, val_main_cst_25]
  rw [sum_rows]
  simp only [xh_at h, dvn_at h, glg, lgAt]
  exact Finset.sum_congr rfl fun n _ => Finset.sum_congr rfl fun t _ => mul_comm _ _

theorem glb_at (l : Fin 512) : (val_main_v164 (F := Ideal) a.u a.ws a.d) (ix2 0 l) = glb a l := by
  pointwise [val_main_v101, val_main_v102, val_main_cst_24, val_main_v164]
  rw [reduce_gain, zero_add]
  pointwise [val_main_v100, val_main_cst_23]
  rw [sum_rows]
  simp only [dvn_at h, glb, lbAt]

theorem ws_at (g : Fin 8) (t s : Fin 128) : (val_main_v98 (F := Ideal) a.u a.v a.lg a.lb a.d) (ix3 g t s) = gws a g t s := by
  pointwise [val_main_v74, val_main_call0_v0, val_main_call0_c, val_main_call0_v1, val_main_call0_v2, val_main_call0_v3, val_main_call0_v4, val_main_call0_c_0, val_main_call0_v5, val_main_v75, val_main_v76_1, val_main_c, val_main_call2_cst, val_main_call2_v0, val_main_v95, val_main_v98]
  rw [not_after, gws, product_at, Fintype.sum_prod_type]
  pointwise [val_main_v94]
  simp only [ds5_at h, vn5_at h, wsAt]
  split <;> rfl

theorem gws_at (t : Fin 128) (q : Fin 1024) : (val_main_v166 (F := Ideal) a.u a.v a.lg a.lb a.d) (ix2 t q) = gws a ⟨q.val / 128, by omega⟩ t ⟨q.val % 128, Nat.mod_lt _ (by norm_num)⟩ := by
  pointwise [val_main_v165, val_main_v166]
  exact ws_at h _ _ _

theorem gbs_at (t : Fin 128) (g : Fin 8) : (val_main_v167 (F := Ideal) a.u a.d) (ix2 t g) = gbs a g t := by
  pointwise [val_main_v91, val_main_v92, val_main_cst_22, val_main_v93, val_main_v167]
  rw [reduce_bias, zero_add]
  pointwise [val_main_v90, val_main_cst_21]
  rw [reduce_chunks, zero_add, Fintype.sum_prod_type_right]
  simp only [ds5_at h, gbs]

end Cert.SguRef

end
-- ==== Proof.SguStage.lean ====
/- The fourth claim's kernel: what its body stores at a grid point, as stages over the point's blocks. -/
module

public import proofs.«01_k».proof.Proof.Gen.Kernel4Ideal.Frame
public import Idealize.ShloMosaic.Lib.Pipeline.ValueKit

@[expose] public section

set_option maxRecDepth 16384

noncomputable section

namespace Cert.SguStage

open Idealize.ShloMosaic Idealize.ShloMosaic.TcCoe Idealize.ShloMosaic.Tactic Idealize.SL.Sem
open Cert.Kernel4Ideal Cert.Kernel4Ideal.Gen

/-- A point's blocks: the two halves of the projection, the cotangent, the gain and bias of the norm, the mixing weights in
    both orders, the mixing bias, and the mask that keeps each group's columns. -/
structure Blk where
  u : Vec Ideal S512x512 .bf16
  v : Vec Ideal S512x512 .bf16
  d : Vec Ideal S512x512 .bf16
  lg : Vec Ideal S1x512 .f32
  lb : Vec Ideal S1x512 .f32
  wc : Vec Ideal S128x1024 .f32
  wt : Vec Ideal S128x1024 .f32
  bi : Vec Ideal S128x512 .f32
  bd : Vec Ideal S1024x512 .bf16

/-- The four chunks of 128 rows of a block. -/
def ld0 (x : Vec Ideal S512x512 .bf16) : Vec Ideal S128x512 .bf16 := View.ld x (Rect.unit ![0, 0] ![128, 512] inb_S512x512_S128x512_0_0)
def ld1 (x : Vec Ideal S512x512 .bf16) : Vec Ideal S128x512 .bf16 := View.ld x (Rect.unit ![128, 0] ![128, 512] inb_S512x512_S128x512_128_0)
def ld2 (x : Vec Ideal S512x512 .bf16) : Vec Ideal S128x512 .bf16 := View.ld x (Rect.unit ![256, 0] ![128, 512] inb_S512x512_S128x512_256_0)
def ld3 (x : Vec Ideal S512x512 .bf16) : Vec Ideal S128x512 .bf16 := View.ld x (Rect.unit ![384, 0] ![128, 512] inb_S512x512_S128x512_384_0)

/-! ## The stages of a chunk -/

def xhV (x : Vec Ideal S128x512 .bf16) : FVec Ideal S128x512 .f32 := k0_pay27 (k0_pay22 x) (k0_pay23 x) k0_pay24
def rsV (x : Vec Ideal S128x512 .bf16) : FVec Ideal S128x1 .f32 := k0_pay26 (k0_pay22 x) (k0_pay23 x) k0_pay24
def vnV (lg lb : Vec Ideal S1x512 .f32) (x : Vec Ideal S128x512 .bf16) : FVec Ideal S128x512 .bf16 :=
  k0_pay28 (k0_pay14 lg) (k0_pay17 lb) (k0_pay22 x) (k0_pay23 x) k0_pay24
def dsV (u d : Vec Ideal S128x512 .bf16) : FVec Ideal S128x512 .bf16 := k0_pay71 u d

/-- A chunk under itself eight times, each copy kept on its group's columns; four of them side by side. -/
def rep (bd : Vec Ideal S1024x512 .bf16) (a : FVec Ideal S128x512 .bf16) : FVec Ideal S1024x512 .bf16 :=
  mulf (concatenate S1024x512 0 [⟨S128x512, a⟩, ⟨S128x512, a⟩, ⟨S128x512, a⟩, ⟨S128x512, a⟩, ⟨S128x512, a⟩, ⟨S128x512, a⟩, ⟨S128x512, a⟩, ⟨S128x512, a⟩]
    concatenates_S128x512_S128x512_S128x512_S128x512_S128x512_S128x512_S128x512_S128x512_S1024x512_d0) (k0_pay15 bd)
def beside (a b c d : FVec Ideal S1024x512 .bf16) : FVec Ideal S1024x2048 .bf16 :=
  concatenate S1024x2048 1 [⟨S1024x512, a⟩, ⟨S1024x512, b⟩, ⟨S1024x512, c⟩, ⟨S1024x512, d⟩]
    concatenates_S1024x512_S1024x512_S1024x512_S1024x512_S1024x2048_d1
def beside' (a b c d : FVec Ideal S128x512 .bf16) : FVec Ideal S128x2048 .bf16 :=
  concatenate S128x2048 1 [⟨S128x512, a⟩, ⟨S128x512, b⟩, ⟨S128x512, c⟩, ⟨S128x512, d⟩]
    concatenates_S128x512_S128x512_S128x512_S128x512_S128x2048_d1

/-- The mixing product over a spread, and its transpose. -/
def mixV (wc : Vec Ideal S128x1024 .f32) (sp : FVec Ideal S1024x2048 .bf16) : FVec Ideal S128x2048 .f32 :=
  k0_pay64 sp k0_pay61 (k0_pay62 wc) k0_pay63
def mixT (wt : Vec Ideal S128x1024 .f32) (sp : FVec Ideal S1024x2048 .bf16) : FVec Ideal S128x2048 .f32 :=
  matmul dot_S128x1024_S1024x2048_S128x2048_1_0_0_1_n_n none
    (truncf .bf16 (select k0_pay100 (k0_pay101 wt) (broadcast S128x1024 (Scalar.ofBits .f32 0x00000000#32))) bitsLt_bf16_f32)
    sp (constant S128x2048 .f32 0x00000000#32)

/-- A chunk's four columns of a product. -/
def cut0 (x : FVec Ideal S128x2048 .f32) : FVec Ideal S128x512 .f32 := extractStridedSlice S128x512 ![0, 0] x slices_S128x2048_o0_0_S128x512
def cut1 (x : FVec Ideal S128x2048 .f32) : FVec Ideal S128x512 .f32 := extractStridedSlice S128x512 ![0, 512] x slices_S128x2048_o0_512_S128x512
def cut2 (x : FVec Ideal S128x2048 .f32) : FVec Ideal S128x512 .f32 := extractStridedSlice S128x512 ![0, 1024] x slices_S128x2048_o0_1024_S128x512
def cut3 (x : FVec Ideal S128x2048 .f32) : FVec Ideal S128x512 .f32 := extractStridedSlice S128x512 ![0, 1536] x slices_S128x2048_o0_1536_S128x512

/-- A running row with a chunk's column sums added; a running square with a chunk added. -/
def addRows (o : Vec Ideal S1x512 .f32) (p : FVec Ideal S128x512 .f32) : FVec Ideal S1x512 .f32 :=
  addf (shapeCast S1x512 o shapeCasts_S1x512_S1x512)
    (shapeCast S1x512 (multiReduction .add [0] S512 p 0x00000000#32 reduces_S128x512_S512 (.inl rfl) rfl) shapeCasts_S512_S1x512)
def addChunk (o : Vec Ideal S128x512 .f32) (p : FVec Ideal S128x512 .bf16) : FVec Ideal S128x512 .f32 :=
  shapeCast S128x512 (addf o (extf .f32 p bitsLt_bf16_f32)) shapeCasts_S128x512_S128x512

/-- The two halves of a chunk's gradient. -/
def duV (bi : Vec Ideal S128x512 .f32) (u d : Vec Ideal S128x512 .bf16) (mx : FVec Ideal S128x512 .f32) : FVec Ideal S128x512 .bf16 :=
  mulf (mulf (k0_pay70 d) (k0_pay21 u)) (truncf .bf16 (addf mx (shapeCast S128x512 bi shapeCasts_S128x512_S128x512)) bitsLt_bf16_f32)
def dvV (lg : Vec Ideal S1x512 .f32) (v : Vec Ideal S128x512 .bf16) (dvn : FVec Ideal S128x512 .f32) : FVec Ideal S128x512 .bf16 :=
  k0_pay128 (k0_pay14 lg) (k0_pay21 v) (rsV v) (xhV v) dvn

theorem ldb (x : Vec Ideal S1024x512 .bf16) : View.ld x (Rect.unit ![0, 0] ![1024, 512] inb_S1024x512_S1024x512_0_0) = x :=
  View.ld_unit_lit' _ _ (by decide)

/-! ## A point's stores -/

variable (b : Blk)

def spV : FVec Ideal S1024x2048 .bf16 :=
  beside (rep b.bd (vnV b.lg b.lb (ld0 b.v))) (rep b.bd (vnV b.lg b.lb (ld1 b.v))) (rep b.bd (vnV b.lg b.lb (ld2 b.v))) (rep b.bd (vnV b.lg b.lb (ld3 b.v)))
def spD : FVec Ideal S1024x2048 .bf16 :=
  beside (rep b.bd (dsV (ld0 b.u) (ld0 b.d))) (rep b.bd (dsV (ld1 b.u) (ld1 b.d))) (rep b.bd (dsV (ld2 b.u) (ld2 b.d))) (rep b.bd (dsV (ld3 b.u) (ld3 b.d)))
def dsB : FVec Ideal S128x2048 .bf16 :=
  beside' (dsV (ld0 b.u) (ld0 b.d)) (dsV (ld1 b.u) (ld1 b.d)) (dsV (ld2 b.u) (ld2 b.d)) (dsV (ld3 b.u) (ld3 b.d))
def mx : FVec Ideal S128x2048 .f32 := mixV b.wc (spV b)
def dvns : FVec Ideal S128x2048 .f32 := mixT b.wt (spD b)

/-- The gradient's block: eight stores, the last first. -/
def uvOut : Vec Ideal S512x1024 .bf16 :=
  View.canon
    [⟨Rect.unit ![384, 512] ![128, 512] inb_S512x1024_S128x512_384_512, dvV b.lg (ld3 b.v) (cut3 (dvns b))⟩,
     ⟨Rect.unit ![384, 0] ![128, 512] inb_S512x1024_S128x512_384_0, duV b.bi (ld3 b.u) (ld3 b.d) (cut3 (mx b))⟩,
     ⟨Rect.unit ![256, 512] ![128, 512] inb_S512x1024_S128x512_256_512, dvV b.lg (ld2 b.v) (cut2 (dvns b))⟩,
     ⟨Rect.unit ![256, 0] ![128, 512] inb_S512x1024_S128x512_256_0, duV b.bi (ld2 b.u) (ld2 b.d) (cut2 (mx b))⟩,
     ⟨Rect.unit ![128, 512] ![128, 512] inb_S512x1024_S128x512_128_512, dvV b.lg (ld1 b.v) (cut1 (dvns b))⟩,
     ⟨Rect.unit ![128, 0] ![128, 512] inb_S512x1024_S128x512_128_0, duV b.bi (ld1 b.u) (ld1 b.d) (cut1 (mx b))⟩,
     ⟨Rect.unit ![0, 512] ![128, 512] inb_S512x1024_S128x512_0_512, dvV b.lg (ld0 b.v) (cut0 (dvns b))⟩,
     ⟨Rect.unit ![0, 0] ![128, 512] inb_S512x1024_S128x512_0_0, duV b.bi (ld0 b.u) (ld0 b.d) (cut0 (mx b))⟩]

/-- The running gradients of the gain and of the bias of the norm. -/
def lgOut (o : Vec Ideal S1x512 .f32) : Vec Ideal S1x512 .f32 :=
  addRows (addRows (addRows (addRows o (mulf (cut0 (dvns b)) (xhV (ld0 b.v)))) (mulf (cut1 (dvns b)) (xhV (ld1 b.v))))
    (mulf (cut2 (dvns b)) (xhV (ld2 b.v)))) (mulf (cut3 (dvns b)) (xhV (ld3 b.v)))
def lbOut (o : Vec Ideal S1x512 .f32) : Vec Ideal S1x512 .f32 :=
  addRows (addRows (addRows (addRows o (cut0 (dvns b))) (cut1 (dvns b))) (cut2 (dvns b))) (cut3 (dvns b))

/-- The running gradient of the mixing weights, and the running sum its bias' gradient is read from. -/
def wsOut (o : Vec Ideal S128x1024 .f32) : Vec Ideal S128x1024 .f32 :=
  addf (shapeCast S128x1024 o shapeCasts_S128x1024_S128x1024)
    (select k0_pay61 (matmul dot_S128x2048_S1024x2048_S128x1024_1_1_0_0_n_n none (dsB b) (spV b) (constant S128x1024 .f32 0x00000000#32))
      (broadcast S128x1024 (Scalar.ofBits .f32 0x00000000#32)))
def dsOut (o : Vec Ideal S128x512 .f32) : Vec Ideal S128x512 .f32 :=
  addChunk (addChunk (addChunk (addChunk o (dsV (ld0 b.u) (ld0 b.d))) (dsV (ld1 b.u) (ld1 b.d))) (dsV (ld2 b.u) (ld2 b.d))) (dsV (ld3 b.u) (ld3 b.d))

/-- The gradient of the mixing bias: the running sum's columns added up inside each group. -/
def bsOut (x : Vec Ideal S128x512 .f32) : Vec Ideal S128x8 .f32 :=
  View.canon
    [⟨Rect.unit ![0, 7] ![128, 1] inb_S128x8_S128x1_0_7, k0_pay1 (k0_pay9 x)⟩,
     ⟨Rect.unit ![0, 6] ![128, 1] inb_S128x8_S128x1_0_6, k0_pay8 x⟩,
     ⟨Rect.unit ![0, 5] ![128, 1] inb_S128x8_S128x1_0_5, k0_pay7 x⟩,
     ⟨Rect.unit ![0, 4] ![128, 1] inb_S128x8_S128x1_0_4, k0_pay6 x⟩,
     ⟨Rect.unit ![0, 3] ![128, 1] inb_S128x8_S128x1_0_3, k0_pay5 x⟩,
     ⟨Rect.unit ![0, 2] ![128, 1] inb_S128x8_S128x1_0_2, k0_pay4 x⟩,
     ⟨Rect.unit ![0, 1] ![128, 1] inb_S128x8_S128x1_0_1, k0_pay3 x⟩,
     ⟨Rect.unit ![0, 0] ![128, 1] inb_S128x8_S128x1_0_0, k0_pay2 x⟩]

variable (m : (ℓ : Loc nD τ sig) → Buf (Elt Ideal) ℓ) (c : Dev nD)

/-- The blocks at a point, and what the point before left. -/
def blkAt (t : Fin cfg0.N) : Blk :=
  ⟨iblk m c 0 t, iblk m c 1 t, iblk m c 2 t, iblk m c 3 t, iblk m c 4 t, iblk m c 5 t, iblk m c 6 t, iblk m c 7 t, iblk m c 8 t⟩

/-- What the point before left. -/
abbrev prev (t : Fin cfg0.N) := outsAt0 m c (t.val - 1) (Nat.lt_of_le_of_lt (Nat.sub_le _ _) t.isLt)

/-- The first point of a run: every running sum starts from zero. -/
theorem stores_A (t : Fin cfg0.N) (h0 : t.val % 16 = 0) (h1 : ¬t.val % 16 = 15) :
    (outsAt0 m c t.val t.isLt).1 = uvOut (blkAt m c t) ∧
    (outsAt0 m c t.val t.isLt).2.1 = lgOut (blkAt m c t) (k0_pay10 (F := Ideal)) ∧
    (outsAt0 m c t.val t.isLt).2.2.1 = lbOut (blkAt m c t) (k0_pay11 (F := Ideal)) ∧
    (outsAt0 m c t.val t.isLt).2.2.2.1 = wsOut (blkAt m c t) (k0_pay12 (F := Ideal)) ∧
    (outsAt0 m c t.val t.isLt).2.2.2.2.2 = dsOut (blkAt m c t) (k0_pay13 (F := Ideal)) := by
  refine ⟨?_, ?_, ?_, ?_, ?_⟩ <;>
    (rw [outsAt0_A m c t h0 h1]
     frame_out
     try rw [(hs0_0 t).read_unread (iblk m c 0 t)]
     try rw [(hs0_1 t).read_unread (iblk m c 1 t)]
     try rw [(hs0_2 t).read_unread (iblk m c 2 t)]
     try rw [(hs0_8 t).read_unread (iblk m c 8 t)]
     try rw [ldb (iblk m c 8 t)]
     try rw [(hs0_6 t).read_unread (iblk m c 6 t)]
     try rw [View.ld_unit_lit' _ (iblk m c 6 t) (by decide)]
     try rw [(Memref.isWhole_whole cc0_scratch0).read_unread]
     sl_kernel_rfl)

/-- A point inside a run adds to what the point before left. -/
theorem stores_B (t : Fin cfg0.N) (h0 : ¬t.val % 16 = 0) (h1 : ¬t.val % 16 = 15) :
    (outsAt0 m c t.val t.isLt).1 = uvOut (blkAt m c t) ∧
    (outsAt0 m c t.val t.isLt).2.1 = lgOut (blkAt m c t) (prev m c t).2.1 ∧
    (outsAt0 m c t.val t.isLt).2.2.1 = lbOut (blkAt m c t) (prev m c t).2.2.1 ∧
    (outsAt0 m c t.val t.isLt).2.2.2.1 = wsOut (blkAt m c t) (prev m c t).2.2.2.1 ∧
    (outsAt0 m c t.val t.isLt).2.2.2.2.2 = dsOut (blkAt m c t) (prev m c t).2.2.2.2.2 := by
  refine ⟨?_, ?_, ?_, ?_, ?_⟩ <;>
    (rw [outsAt0_B m c t h0 h1]
     frame_out
     try rw [(hs0_0 t).read_unread (iblk m c 0 t)]
     try rw [(hs0_1 t).read_unread (iblk m c 1 t)]
     try rw [(hs0_2 t).read_unread (iblk m c 2 t)]
     try rw [(hs0_8 t).read_unread (iblk m c 8 t)]
     try rw [ldb (iblk m c 8 t)]
     try rw [(hs0_6 t).read_unread (iblk m c 6 t)]
     try rw [View.ld_unit_lit' _ (iblk m c 6 t) (by decide)]
     try rw [(Memref.isWhole_whole cc0_scratch0).read_unread]
     sl_kernel_rfl)

/-- The last point of a run adds likewise; the mixing bias' gradient is read from the sum it leaves. -/
theorem stores_C (t : Fin cfg0.N) (h0 : ¬t.val % 16 = 0) (h1 : t.val % 16 = 15) :
    (outsAt0 m c t.val t.isLt).1 = uvOut (blkAt m c t) ∧
    (outsAt0 m c t.val t.isLt).2.1 = lgOut (blkAt m c t) (prev m c t).2.1 ∧
    (outsAt0 m c t.val t.isLt).2.2.1 = lbOut (blkAt m c t) (prev m c t).2.2.1 ∧
    (outsAt0 m c t.val t.isLt).2.2.2.1 = wsOut (blkAt m c t) (prev m c t).2.2.2.1 ∧
    (outsAt0 m c t.val t.isLt).2.2.2.2.2 = dsOut (blkAt m c t) (prev m c t).2.2.2.2.2 ∧
    (outsAt0 m c t.val t.isLt).2.2.2.2.1 = bsOut (dsOut (blkAt m c t) (prev m c t).2.2.2.2.2) := by
  refine ⟨?_, ?_, ?_, ?_, ?_, ?_⟩ <;>
    (rw [outsAt0_C m c t h0 h1]
     frame_out
     try rw [(hs0_0 t).read_unread (iblk m c 0 t)]
     try rw [(hs0_1 t).read_unread (iblk m c 1 t)]
     try rw [(hs0_2 t).read_unread (iblk m c 2 t)]
     try rw [(hs0_8 t).read_unread (iblk m c 8 t)]
     try rw [ldb (iblk m c 8 t)]
     try rw [(hs0_6 t).read_unread (iblk m c 6 t)]
     try rw [View.ld_unit_lit' _ (iblk m c 6 t) (by decide)]
     try rw [(Memref.isWhole_whole cc0_scratch0).read_unread]
     sl_kernel_rfl)

end Cert.SguStage
-- ==== Proof.SguChunk.lean ====
/- The fourth claim's kernel: the stages of its body at an index. -/
module

public import proofs.«01_k».proof.Proof.SguStage
public import proofs.«01_k».proof.Proof.SguSpec

@[expose] public section

set_option maxRecDepth 16384

noncomputable section

namespace Cert.SguStage

open Idealize.ShloMosaic Idealize.ShloMosaic.TcCoe Idealize.ShloMosaic.Tactic Idealize.SL.Sem
open Cert.Kernel4Ideal Cert.Kernel4Ideal.Gen Cert.GeluNorm Cert.SguSpec

/-- The four named constants. -/
theorem named_c : (Named.named κ "gelu_c" 0x3F4C#16 : Ideal .bf16) = ((gc : ℝ) : EReal) := rfl
theorem named_a : (Named.named κ "gelu_a" 0x3D37#16 : Ideal .bf16) = ((ga : ℝ) : EReal) := rfl
theorem named_2c : (Named.named κ "gelu_2c" 0x3FCC#16 : Ideal .bf16) = ((g2 : ℝ) : EReal) := rfl
theorem named_6ca : (Named.named κ "gelu_6ca" 0x3E5B#16 : Ideal .bf16) = ((g6 : ℝ) : EReal) := rfl

variable (x : Vec Ideal S128x512 .bf16) (t : Fin 128) (l : Fin 512)

theorem gate_at : k0_pay19 (F := Ideal) x (ix2 t l) = gate (x (ix2 t l)) := by
  pointwise [k0_pay19, k0_pay18, k0_pay16]
  simp only [named_c, named_a, gate, half]

theorem gelu_at : k0_pay20 (F := Ideal) x (ix2 t l) = gelu (x (ix2 t l)) := by
  pointwise [k0_pay20, k0_pay16]
  simp only [gate_at, gelu]

theorem geluD_at : k0_pay21 (F := Ideal) x (ix2 t l) = geluD (x (ix2 t l)) := by
  pointwise [k0_pay21, k0_pay18, k0_pay16]
  simp only [named_6ca, named_2c, gate_at, gelu_at, geluD]

theorem xc_at : k0_pay25 (F := Ideal) (k0_pay22 x) (k0_pay23 x) k0_pay24 (ix2 t l) = xc (fun k => gelu (x (ix2 t k))) l := by
  pointwise [k0_pay25, k0_pay22, k0_pay23, k0_pay24]
  simp only [gelu_at, xc, mean]

theorem rs_at : rsV x (ix2 t 0) = rstd (fun k => gelu (x (ix2 t k))) := by
  pointwise [rsV, k0_pay26]
  simp only [xc_at, rstd, var, mean]

theorem xh_at : xhV x (ix2 t l) = xh (fun k => gelu (x (ix2 t k))) l := by
  pointwise [xhV, k0_pay27]
  simp only [xc_at, xh, ← rs_at, rsV]

theorem vn_at (lg lb : Vec Ideal S1x512 .f32) : vnV lg lb x (ix2 t l) =
    vnC (fun t l => x (ix2 t l)) (fun l => lg (ix2 0 l)) (fun l => lb (ix2 0 l)) t l := by
  pointwise [vnV, k0_pay28, k0_pay14, k0_pay17]
  simp only [vnC, ← xh_at, xhV]

theorem ds_at (u d : Vec Ideal S128x512 .bf16) : dsV u d (ix2 t l) = dsC (fun t l => u (ix2 t l)) (fun t l => d (ix2 t l)) t l := by
  refine (show dsV u d (ix2 t l) = k0_pay70 d (ix2 t l) * k0_pay20 u (ix2 t l) from rfl).trans ?_
  rw [gelu_at]
  pointwise [k0_pay70, dsC]

theorem du_at (bi : Vec Ideal S128x512 .f32) (u d : Vec Ideal S128x512 .bf16) (M : FVec Ideal S128x512 .f32) (B : Fin 8 → Fin 128 → EReal)
    (hb : ∀ t l, bi (ix2 t l) = B (grp l) t) :
    duV bi u d M (ix2 t l) = duC (fun t l => u (ix2 t l)) (fun t l => d (ix2 t l)) (fun t l => M (ix2 t l)) B t l := by
  pointwise [duV, k0_pay70]
  simp only [geluD_at, duC, hb]

theorem dv_at (lg : Vec Ideal S1x512 .f32) (N : FVec Ideal S128x512 .f32) :
    dvV lg x N (ix2 t l) = dvC (fun t l => x (ix2 t l)) (fun t l => N (ix2 t l)) (fun l => lg (ix2 0 l)) t l := by
  pointwise [dvV, k0_pay128, k0_pay14]
  simp only [dvC, back, mean, geluD_at, rs_at, xh_at]

/-! ## The spread and the mixing -/

/-- Position `s` of group `g` among the weights' columns; column `l` of chunk `k` among the four side by side. -/
def col (g : Fin 8) (s : Fin 128) : Fin 1024 := ⟨g.val * 128 + s.val, by omega⟩
def lk (k : Fin 4) (l : Fin 512) : Fin 2048 := ⟨k.val * 512 + l.val, by omega⟩

theorem rep_at (bd : Vec Ideal S1024x512 .bf16) (a : FVec Ideal S128x512 .bf16) (g : Fin 8) (s : Fin 128)
    (hbd : ∀ g s l, bd (ix2 (col g s) l) = if grp l = g then 1 else 0) :
    rep bd a (ix2 (col g s) l) = if grp l = g then a (ix2 s l) else 0 := by
  have hc : concatenate S1024x512 0 [⟨S128x512, a⟩, ⟨S128x512, a⟩, ⟨S128x512, a⟩, ⟨S128x512, a⟩, ⟨S128x512, a⟩, ⟨S128x512, a⟩, ⟨S128x512, a⟩, ⟨S128x512, a⟩]
      concatenates_S128x512_S128x512_S128x512_S128x512_S128x512_S128x512_S128x512_S128x512_S1024x512_d0 (ix2 (col g s) l) = a (ix2 s l) :=
    concatenate_ofFn_apply (t := S1024x512) (s₁ := S128x512) 0 (fun _ : Fin 8 => a) _ rfl 128 rfl (ix2 (col g s) l) g
      (by show (g.val * 128 + s.val) / 128 = g.val; omega) (ix2 s l) (by show s.val = (g.val * 128 + s.val) % 128; omega)
      (fun b hb => by fin_cases b <;> first | exact absurd rfl hb | rfl)
  have hm : k0_pay15 (F := Ideal) bd (ix2 (col g s) l) = if grp l = g then 1 else 0 := by
    pointwise [k0_pay15]
    exact hbd g s l
  refine (congrArg₂ (· * ·) hc hm).trans ?_
  split
  · exact mul_one _
  · exact mul_zero _

theorem beside_at (F : Fin 4 → FVec Ideal S1024x512 .bf16) (i : Fin 1024) (k : Fin 4) :
    beside (F 0) (F 1) (F 2) (F 3) (ix2 i (lk k l)) = F k (ix2 i l) :=
  concatenate_ofFn_apply (t := S1024x2048) (s₁ := S1024x512) 1 F _ rfl 512 rfl (ix2 i (lk k l)) k
    (by show (k.val * 512 + l.val) / 512 = k.val; omega) (ix2 i l) (by show l.val = (k.val * 512 + l.val) % 512; omega)
    (fun b hb => by fin_cases b <;> first | exact absurd rfl hb | rfl)

theorem beside'_at (F : Fin 4 → FVec Ideal S128x512 .bf16) (k : Fin 4) :
    beside' (F 0) (F 1) (F 2) (F 3) (ix2 t (lk k l)) = F k (ix2 t l) :=
  concatenate_ofFn_apply (t := S128x2048) (s₁ := S128x512) 1 F _ rfl 512 rfl (ix2 t (lk k l)) k
    (by show (k.val * 512 + l.val) / 512 = k.val; omega) (ix2 t l) (by show l.val = (k.val * 512 + l.val) % 512; omega)
    (fun b hb => by fin_cases b <;> first | exact absurd rfl hb | rfl)

theorem low7 (g : Fin 8) (s : Fin 128) : IntOp.andi (BitVec.ofNat 32 (col g s).val) 127#32 = BitVec.ofNat 32 s.val := by
  have h : (g.val * 128 + s.val) &&& 127 = s.val := by
    rw [Nat.and_two_pow_sub_one_eq_mod _ 7]
    omega
  show BitVec.ofNat 32 (g.val * 128 + s.val) &&& 127#32 = _
  apply BitVec.eq_of_toNat_eq
  rw [BitVec.toNat_and, BitVec.toNat_ofNat, BitVec.toNat_ofNat, BitVec.toNat_ofNat, Nat.mod_eq_of_lt (by omega), Nat.mod_eq_of_lt (by omega),
    Nat.mod_eq_of_lt (by omega)]
  exact h

theorem sle_at : ∀ s t : Fin 128, IntOp.cmpi .sle (BitVec.ofNat 32 s.val) (BitVec.ofNat 32 t.val) = if s ≤ t then 1#1 else 0#1 := by
  decide +kernel

theorem sel_at (y z : FVec Ideal S128x1024 .f32) (g : Fin 8) (s : Fin 128) :
    select k0_pay61 y z (ix2 t (col g s)) = if s ≤ t then y (ix2 t (col g s)) else z (ix2 t (col g s)) := by
  pointwise [k0_pay61]
  rw [low7, sle_at]
  split <;> rfl

theorem sel'_at (y z : FVec Ideal S128x1024 .f32) (g : Fin 8) (s : Fin 128) :
    select k0_pay100 y z (ix2 s (col g t)) = if s ≤ t then y (ix2 s (col g t)) else z (ix2 s (col g t)) := by
  pointwise [k0_pay100]
  rw [low7, sle_at]
  split <;> rfl

/-- A sum over the spread's rows: one group's positions are left. -/
theorem sum_spread (f : Fin 1024 → EReal) (l : Fin 512) (w : Fin 8 → Fin 128 → EReal) (X : Chunk)
    (hf : ∀ g s, f (col g s) = w g s * if grp l = g then X s l else 0) : ∑ i, f i = ∑ s, w (grp l) s * X s l := by
  refine (Fin.sum_univ_tiles 8 128 rfl f).trans ?_
  rw [Finset.sum_eq_single (grp l)]
  · refine Finset.sum_congr rfl fun s _ => (hf _ s).trans ?_
    rw [if_pos rfl]
  · refine fun g _ hg => Finset.sum_eq_zero fun s _ => (hf g s).trans ?_
    rw [if_neg (Ne.symm hg), mul_zero]
  · exact fun h => absurd (Finset.mem_univ _) h

theorem mixV_at (wc : Vec Ideal S128x1024 .f32) (sp : FVec Ideal S1024x2048 .bf16) (q : Fin 2048) (W : Fin 8 → Fin 128 → Fin 128 → EReal) (X : Chunk)
    (hw : ∀ t g s, wc (ix2 t (col g s)) = W g t s) (hs : ∀ g s, sp (ix2 (col g s) q) = if grp l = g then X s l else 0) :
    mixV wc sp (ix2 t q) = mixC W X t l := by
  refine (show mixV wc sp (ix2 t q) = ∑ i, select k0_pay61 (k0_pay62 wc) k0_pay63 (ix2 t i) * sp (ix2 i q) by pointwise [mixV, k0_pay64]).trans ?_
  refine sum_spread _ l (fun g s => tri W g t s) X fun g s => ?_
  rw [hs, sel_at, tri]
  refine congrArg (· * _) (if_congr Iff.rfl ?_ ?_)
  · pointwise [k0_pay62]
    exact hw t g s
  · pointwise [k0_pay63]

theorem mixT_at (wt : Vec Ideal S128x1024 .f32) (sp : FVec Ideal S1024x2048 .bf16) (q : Fin 2048) (W : Fin 8 → Fin 128 → Fin 128 → EReal) (X : Chunk)
    (s : Fin 128) (hw : ∀ s g t, wt (ix2 s (col g t)) = W g t s) (hs : ∀ g s, sp (ix2 (col g s) q) = if grp l = g then X s l else 0) :
    mixT wt sp (ix2 s q) = mixTC W X s l := by
  refine (show mixT wt sp (ix2 s q) = ∑ i, select k0_pay100 (k0_pay101 wt) (broadcast S128x1024 (Scalar.ofBits .f32 0x00000000#32)) (ix2 s i) * sp (ix2 i q) by
    pointwise [mixT]).trans ?_
  refine sum_spread _ l (fun g t => tri W g t s) X fun g t => ?_
  rw [hs, sel'_at, tri]
  refine congrArg (· * _) (if_congr Iff.rfl ?_ ?_)
  · pointwise [k0_pay101]
    exact hw s g t
  · pointwise []

end Cert.SguStage

end
-- ==== Proof.SguPoint.lean ====
/- The fourth claim's kernel: what a grid point stores, in closed form. -/
module

public import proofs.«01_k».proof.Proof.SguChunk

@[expose] public section

set_option maxRecDepth 16384

noncomputable section

namespace Cert.SguStage

open Idealize.ShloMosaic Idealize.ShloMosaic.TcCoe Idealize.ShloMosaic.Tactic Idealize.SL.Sem
open Cert.Kernel4Ideal Cert.Kernel4Ideal.Gen Cert.GeluNorm Cert.SguSpec

/-- The four chunks of a block; chunk `k` of point `p`. -/
def ldq (x : Vec Ideal S512x512 .bf16) (k : Fin 4) : Vec Ideal S128x512 .bf16 := ![ld0 x, ld1 x, ld2 x, ld3 x] k
def nk (p : Fin 16) (k : Fin 4) : Fin 64 := ⟨p.val * 4 + k.val, by omega⟩

/-- A point's blocks hold the arguments' rows of its four chunks, and the prepared operands. -/
structure At (b : Blk) (a : Args) (p : Fin 16) : Prop where
  u : ∀ k t l, ldq b.u k (ix2 t l) = U a (nk p k) t l
  v : ∀ k t l, ldq b.v k (ix2 t l) = V a (nk p k) t l
  d : ∀ k t l, ldq b.d k (ix2 t l) = D a (nk p k) t l
  lg : ∀ l, b.lg (ix2 0 l) = lg a l
  lb : ∀ l, b.lb (ix2 0 l) = lb a l
  wc : ∀ t g s, b.wc (ix2 t (col g s)) = W a g t s
  wt : ∀ s g t, b.wt (ix2 s (col g t)) = W a g t s
  bi : ∀ t l, b.bi (ix2 t l) = B a (grp l) t
  bd : ∀ g s l, b.bd (ix2 (col g s) l) = if grp l = g then 1 else 0

variable {b : Blk} {a : Args} {p : Fin 16} (h : At b a p) (k : Fin 4) (t s : Fin 128) (l : Fin 512) (g : Fin 8)
include h

theorem vnq_at : vnV b.lg b.lb (ldq b.v k) (ix2 s l) = vn a (nk p k) s l := by
  rw [vn_at]
  simp only [h.v, h.lg, h.lb]
  rfl

theorem dsq_at : dsV (ldq b.u k) (ldq b.d k) (ix2 s l) = ds a (nk p k) s l := by
  rw [ds_at]
  simp only [h.u, h.d]
  rfl

theorem xhq_at : xhV (ldq b.v k) (ix2 t l) = xh (fun j => gelu (V a (nk p k) t j)) l := by
  rw [xh_at]
  simp only [h.v]

theorem spV_at : spV b (ix2 (col g s) (lk k l)) = if grp l = g then vn a (nk p k) s l else 0 :=
  (beside_at l (fun k => rep b.bd (vnV b.lg b.lb (ldq b.v k))) (col g s) k).trans
    ((rep_at l b.bd _ g s h.bd).trans (by rw [vnq_at h]))

theorem spD_at : spD b (ix2 (col g s) (lk k l)) = if grp l = g then ds a (nk p k) s l else 0 :=
  (beside_at l (fun k => rep b.bd (dsV (ldq b.u k) (ldq b.d k))) (col g s) k).trans
    ((rep_at l b.bd _ g s h.bd).trans (by rw [dsq_at h]))

theorem dsB_at : dsB b (ix2 t (lk k l)) = ds a (nk p k) t l :=
  (beside'_at t l (fun k => dsV (ldq b.u k) (ldq b.d k)) k).trans (dsq_at h k t l)

theorem mx_at : mx b (ix2 t (lk k l)) = mixC (W a) (vn a (nk p k)) t l :=
  mixV_at t l b.wc (spV b) (lk k l) (W a) _ h.wc fun g s => spV_at h k s l g

theorem dvns_at : dvns b (ix2 t (lk k l)) = dvn a (nk p k) t l :=
  mixT_at l b.wt (spD b) (lk k l) (W a) _ t h.wt fun g s => spD_at h k s l g

omit h

theorem cut0_at (y : FVec Ideal S128x2048 .f32) : cut0 y (ix2 t l) = y (ix2 t (lk 0 l)) := by
  pointwise [cut0, lk]
theorem cut1_at (y : FVec Ideal S128x2048 .f32) : cut1 y (ix2 t l) = y (ix2 t (lk 1 l)) := by
  pointwise [cut1, lk]
theorem cut2_at (y : FVec Ideal S128x2048 .f32) : cut2 y (ix2 t l) = y (ix2 t (lk 2 l)) := by
  pointwise [cut2, lk]
theorem cut3_at (y : FVec Ideal S128x2048 .f32) : cut3 y (ix2 t l) = y (ix2 t (lk 3 l)) := by
  pointwise [cut3, lk]

theorem addRows_at (o : Vec Ideal S1x512 .f32) (y : FVec Ideal S128x512 .f32) : addRows o y (ix2 0 l) = o (ix2 0 l) + ∑ t : Fin 128, y (ix2 t l) := by
  pointwise [addRows]

theorem addChunk_at (o : Vec Ideal S128x512 .f32) (y : FVec Ideal S128x512 .bf16) : addChunk o y (ix2 t l) = o (ix2 t l) + y (ix2 t l) := by
  pointwise [addChunk]

include h

theorem lgOut_at (o : Vec Ideal S1x512 .f32) : lgOut b o (ix2 0 l) = o (ix2 0 l) + ∑ k, lgAt a (nk p k) l := by
  have e (k : Fin 4) (y : FVec Ideal S128x512 .f32) (hy : ∀ t, y (ix2 t l) = dvns b (ix2 t (lk k l))) :
      ∑ t, mulf y (xhV (ldq b.v k)) (ix2 t l) = lgAt a (nk p k) l :=
    Finset.sum_congr rfl fun t _ => congrArg₂ (· * ·) ((hy t).trans (dvns_at h k t l)) (xhq_at h k t l)
  simp only [lgOut, addRows_at, Fin.sum_univ_four, ← add_assoc]
  rw [← e 0 _ fun t => cut0_at t l _, ← e 1 _ fun t => cut1_at t l _, ← e 2 _ fun t => cut2_at t l _, ← e 3 _ fun t => cut3_at t l _]
  rfl

theorem lbOut_at (o : Vec Ideal S1x512 .f32) : lbOut b o (ix2 0 l) = o (ix2 0 l) + ∑ k, lbAt a (nk p k) l := by
  simp only [lbOut, addRows_at, Fin.sum_univ_four, ← add_assoc, lbAt, cut0_at, cut1_at, cut2_at, cut3_at, dvns_at h]

theorem dsOut_at (o : Vec Ideal S128x512 .f32) : dsOut b o (ix2 t l) = o (ix2 t l) + ∑ k, ds a (nk p k) t l := by
  simp only [dsOut, addChunk_at, Fin.sum_univ_four, ← add_assoc, ← dsq_at h]
  rfl

theorem wsOut_at (o : Vec Ideal S128x1024 .f32) :
    wsOut b o (ix2 t (col g s)) = o (ix2 t (col g s)) + if s ≤ t then ∑ k, wsAt a (nk p k) g t s else 0 := by
  have e : matmul dot_S128x2048_S1024x2048_S128x1024_1_1_0_0_n_n none (dsB b) (spV b) (constant S128x1024 .f32 0x00000000#32) (ix2 t (col g s))
      = ∑ k, wsAt a (nk p k) g t s := by
    refine (show _ = ∑ q : Fin 2048, dsB b (ix2 t q) * spV b (ix2 (col g s) q) by pointwise []).trans ?_
    refine (Fin.sum_univ_tiles 4 512 rfl _).trans (Finset.sum_congr rfl fun k _ => ?_)
    refine (sum_lanes _).trans ?_
    rw [Finset.sum_eq_single g]
    · refine Finset.sum_congr rfl fun j _ => (congrArg₂ (· * ·) (dsB_at h k t (lane g j)) (spV_at h k s (lane g j) g)).trans ?_
      rw [grp_lane, if_pos rfl]
    · refine fun g' _ hg => Finset.sum_eq_zero fun j _ => (congrArg₂ (· * ·) (dsB_at h k t (lane g' j)) (spV_at h k s (lane g' j) g)).trans ?_
      rw [grp_lane, if_neg hg, mul_zero]
    · exact fun h => absurd (Finset.mem_univ _) h
  refine (show wsOut b o (ix2 t (col g s)) = _ + select k0_pay61 _ _ (ix2 t (col g s)) from rfl).trans ?_
  rw [sel_at, e]
  refine congrArg₂ (· + ·) ?_ (if_congr Iff.rfl rfl ?_)
  · pointwise []
  · pointwise []

omit h

theorem bsOut_at (y : Vec Ideal S128x512 .f32) : bsOut y (ix2 t g) = ∑ j, y (ix2 t (lane g j)) := by
  unfold bsOut
  canon_tiles x hx
  · idx_vars x
    obtain rfl : x0 = t := Fin.ext hx0.symm
    obtain rfl : g = 7 := Fin.ext (hx1.trans (by show _ = 7; have : x1.val < 1 := x1_lt; show 7 + x1.val = 7; omega))
    obtain rfl : x1 = 0 := Subsingleton.elim _ _
    pointwise [k0_pay1, k0_pay9]
    rfl
  · idx_vars x
    obtain rfl : x0 = t := Fin.ext hx0.symm
    obtain rfl : g = 6 := Fin.ext (hx1.trans (by show _ = 6; have : x1.val < 1 := x1_lt; show 6 + x1.val = 6; omega))
    obtain rfl : x1 = 0 := Subsingleton.elim _ _
    pointwise [k0_pay8]
    rfl
  · idx_vars x
    obtain rfl : x0 = t := Fin.ext hx0.symm
    obtain rfl : g = 5 := Fin.ext (hx1.trans (by show _ = 5; have : x1.val < 1 := x1_lt; show 5 + x1.val = 5; omega))
    obtain rfl : x1 = 0 := Subsingleton.elim _ _
    pointwise [k0_pay7]
    rfl
  · idx_vars x
    obtain rfl : x0 = t := Fin.ext hx0.symm
    obtain rfl : g = 4 := Fin.ext (hx1.trans (by show _ = 4; have : x1.val < 1 := x1_lt; show 4 + x1.val = 4; omega))
    obtain rfl : x1 = 0 := Subsingleton.elim _ _
    pointwise [k0_pay6]
    rfl
  · idx_vars x
    obtain rfl : x0 = t := Fin.ext hx0.symm
    obtain rfl : g = 3 := Fin.ext (hx1.trans (by show _ = 3; have : x1.val < 1 := x1_lt; show 3 + x1.val = 3; omega))
    obtain rfl : x1 = 0 := Subsingleton.elim _ _
    pointwise [k0_pay5]
    rfl
  · idx_vars x
    obtain rfl : x0 = t := Fin.ext hx0.symm
    obtain rfl : g = 2 := Fin.ext (hx1.trans (by show _ = 2; have : x1.val < 1 := x1_lt; show 2 + x1.val = 2; omega))
    obtain rfl : x1 = 0 := Subsingleton.elim _ _
    pointwise [k0_pay4]
    rfl
  · idx_vars x
    obtain rfl : x0 = t := Fin.ext hx0.symm
    obtain rfl : g = 1 := Fin.ext (hx1.trans (by show _ = 1; have : x1.val < 1 := x1_lt; show 1 + x1.val = 1; omega))
    obtain rfl : x1 = 0 := Subsingleton.elim _ _
    pointwise [k0_pay3]
    rfl
  · idx_vars x
    obtain rfl : x0 = t := Fin.ext hx0.symm
    obtain rfl : g = 0 := Fin.ext (hx1.trans (by show _ = 0; have : x1.val < 1 := x1_lt; show x1.val = 0; omega))
    obtain rfl : x1 = 0 := Subsingleton.elim _ _
    pointwise [k0_pay2]
    rfl

theorem du_left (M : FVec Ideal S128x512 .f32) (h : At b a p) (hM : ∀ t l, M (ix2 t l) = mx b (ix2 t (lk k l))) :
    duV b.bi (ldq b.u k) (ldq b.d k) M (ix2 t l) = du a (nk p k) t l := by
  rw [du_at t l b.bi _ _ M (B a) h.bi]
  simp only [hM, h.u, h.d, mx_at h]
  rfl

theorem dv_left (N : FVec Ideal S128x512 .f32) (h : At b a p) (hN : ∀ t l, N (ix2 t l) = dvns b (ix2 t (lk k l))) :
    dvV b.lg (ldq b.v k) N (ix2 t l) = dv a (nk p k) t l := by
  rw [dv_at]
  simp only [hN, h.v, h.lg, dvns_at h]
  rfl

/-- The gradient of the two halves at a point. -/
theorem uvOut_at (h : At b a p) (r : Fin 512) (q : Fin 1024) : uvOut b (ix2 r q) = uv a (ix2 ⟨512 * p.val + r.val, by omega⟩ q) := by
  unfold uvOut
  canon_tiles x hx
  · idx_vars x
    exact (dv_left 3 x0 x1 _ h fun t l => cut3_at t l _).trans
      (uv_right a (nk p 3) x0 x1 _ q (by show 512 * p.val + r.val = (p.val * 4 + 3) * 128 + x0.val; have : r.val = 384 + x0.val := hx0; omega) hx1).symm
  · idx_vars x
    exact (du_left 3 x0 x1 _ h fun t l => cut3_at t l _).trans
      (uv_left a (nk p 3) x0 x1 _ q (by show 512 * p.val + r.val = (p.val * 4 + 3) * 128 + x0.val; have : r.val = 384 + x0.val := hx0; omega) hx1).symm
  · idx_vars x
    exact (dv_left 2 x0 x1 _ h fun t l => cut2_at t l _).trans
      (uv_right a (nk p 2) x0 x1 _ q (by show 512 * p.val + r.val = (p.val * 4 + 2) * 128 + x0.val; have : r.val = 256 + x0.val := hx0; omega) hx1).symm
  · idx_vars x
    exact (du_left 2 x0 x1 _ h fun t l => cut2_at t l _).trans
      (uv_left a (nk p 2) x0 x1 _ q (by show 512 * p.val + r.val = (p.val * 4 + 2) * 128 + x0.val; have : r.val = 256 + x0.val := hx0; omega) hx1).symm
  · idx_vars x
    exact (dv_left 1 x0 x1 _ h fun t l => cut1_at t l _).trans
      (uv_right a (nk p 1) x0 x1 _ q (by show 512 * p.val + r.val = (p.val * 4 + 1) * 128 + x0.val; have : r.val = 128 + x0.val := hx0; omega) hx1).symm
  · idx_vars x
    exact (du_left 1 x0 x1 _ h fun t l => cut1_at t l _).trans
      (uv_left a (nk p 1) x0 x1 _ q (by show 512 * p.val + r.val = (p.val * 4 + 1) * 128 + x0.val; have : r.val = 128 + x0.val := hx0; omega) hx1).symm
  · idx_vars x
    exact (dv_left 0 x0 x1 _ h fun t l => cut0_at t l _).trans
      (uv_right a (nk p 0) x0 x1 _ q (by show 512 * p.val + r.val = (p.val * 4 + 0) * 128 + x0.val; have : r.val = x0.val := hx0; omega) hx1).symm
  · idx_vars x
    exact (du_left 0 x0 x1 _ h fun t l => cut0_at t l _).trans
      (uv_left a (nk p 0) x0 x1 _ q (by show 512 * p.val + r.val = (p.val * 4 + 0) * 128 + x0.val; have : r.val = x0.val := hx0; omega) hx1).symm

end Cert.SguStage

end
-- ==== Proof.SguKernel.lean ====
/- The fourth claim's kernel: what its prepared operands hold, and the blocks at a grid point. -/
module

public import proofs.«01_k».proof.Proof.SguPoint
public import proofs.«01_k».proof.Proof.Gen.Kernel4Ideal.Value
import Idealize.ShloMosaic.Lib.StableHlo.ReadAt

@[expose] public section

set_option maxRecDepth 16384

noncomputable section

namespace Cert.SguKernel

open Idealize.ShloMosaic Idealize.ShloMosaic.TcCoe Idealize.SL.Sem
open Cert.Kernel4Ideal Cert.Kernel4Ideal.Gen Cert.SguStage
open Cert.SguSpec (Args row lane grp U W B D lg lb uv)

variable (m : (ℓ : Loc nD τ sig) → Buf (Elt Ideal) ℓ) (c : Dev nD)

/-- The arguments as launched. -/
def args : Args where
  u := m ((c : Thread nD τ).loc main_arg0)
  v := m ((c : Thread nD τ).loc main_arg1)
  lg := m ((c : Thread nD τ).loc main_arg3)
  lb := m ((c : Thread nD τ).loc main_arg4)
  ws := m ((c : Thread nD τ).loc main_arg5)
  bs := m ((c : Thread nD τ).loc main_arg6)
  d := m ((c : Thread nD τ).loc main_arg7)

/-- The operands the host lines prepare. -/
theorem v2_left (r : Fin 8192) (k : Fin 512) : (V m c main_v2 : FVec Ideal S8192x6144 .bf16) (ix2 r ⟨k.val, by omega⟩) = (args m c).u (ix2 r k) := by
  unfold V
  after_reads_at
  rfl

theorem v2_right (r : Fin 8192) (k : Fin 512) : (V m c main_v2 : FVec Ideal S8192x6144 .bf16) (ix2 r ⟨512 + k.val, by omega⟩) = (args m c).v (ix2 r k) := by
  unfold V
  after_reads_at
  rfl

theorem v22 (r : Fin 8192) (k : Fin 512) : (V m c main_v22 : FVec Ideal S8192x512 .bf16) (ix2 r k) = (args m c).d (ix2 r k) := by
  unfold V
  after_reads_at
  rfl

theorem v3 (k : Fin 512) : (V m c main_v3 : FVec Ideal S1x512 .f32) (ix2 0 k) = lg (args m c) k := by
  unfold V
  after_reads_at
  rfl

theorem v4 (k : Fin 512) : (V m c main_v4 : FVec Ideal S1x512 .f32) (ix2 0 k) = lb (args m c) k := by
  unfold V
  after_reads_at
  rfl

theorem v6 (t : Fin 128) (g : Fin 8) (s : Fin 128) : (V m c main_v6 : FVec Ideal S128x1024 .f32) (ix2 t (col g s)) = W (args m c) g t s := by
  unfold V
  after_reads_at
  exact congrArg₂ (fun a b => (args m c).ws (ix3 a t b)) (Fin.ext (by show (g.val * 128 + s.val) / 128 = g.val; omega))
    (Fin.ext (by show (g.val * 128 + s.val) % 128 = s.val; omega))

theorem v8 (s : Fin 128) (g : Fin 8) (t : Fin 128) : (V m c main_v8 : FVec Ideal S128x1024 .f32) (ix2 s (col g t)) = W (args m c) g t s := by
  unfold V
  after_reads_at
  exact congrArg₂ (fun a b => (args m c).ws (ix3 a b s)) (Fin.ext (by show (g.val * 128 + t.val) / 128 = g.val; omega))
    (Fin.ext (by show (g.val * 128 + t.val) % 128 = t.val; omega))

theorem v11 (t : Fin 128) (l : Fin 512) : (V m c main_v11 : FVec Ideal S128x512 .f32) (ix2 t l) = B (args m c) (grp l) t := by
  unfold V
  after_reads_at
  rfl

/-- The sign of a word. -/
def sgn (x : BitVec 32) : BitVec 32 := if x = 0#32 then 0#32 else if x.msb = true then -1#32 else 1#32

/-- The host's division rounding down, on the numbers it meets. -/
def fdiv (x d : BitVec 32) : BitVec 32 :=
  Scalar.select (IntOp.andi (IntOp.cmpi .ne (sgn x) (sgn d)) (IntOp.cmpi .ne (IntOp.remsi ArithUnit.host x d) 0#32))
    (IntOp.subi (IntOp.divsi ArithUnit.host x d) 1#32) (IntOp.divsi ArithUnit.host x d)

theorem fdiv128 : ∀ i : Fin 1024, fdiv (BitVec.ofNat 32 i.val) 128#32 = BitVec.ofNat 32 (i.val / 128) := by decide +kernel
theorem fdiv64 : ∀ i : Fin 512, fdiv (BitVec.ofNat 32 i.val) 64#32 = BitVec.ofNat 32 (i.val / 64) := by decide +kernel
theorem same_group : ∀ g g' : Fin 8, IntOp.cmpi .eq (BitVec.ofNat 32 g.val) (BitVec.ofNat 32 g'.val) = if g' = g then 1#1 else 0#1 := by decide +kernel

theorem v21 (g : Fin 8) (s : Fin 128) (l : Fin 512) :
    (V m c main_v21 : FVec Ideal S1024x512 .bf16) (ix2 (col g s) l) = ((if grp l = g then 1 else 0 : EReal) : Ideal .bf16) := by
  unfold V
  after_reads_at
  show FloatOps.uitofp (F := Ideal) .bf16 (IntOp.cmpi .eq (fdiv (BitVec.ofNat 32 (col g s).val) 128#32) (fdiv (BitVec.ofNat 32 l.val) 64#32)) = _
  have hg : (col g s).val / 128 = g.val := by show (g.val * 128 + s.val) / 128 = g.val; omega
  rw [fdiv128, fdiv64, hg]
  refine (congrArg (FloatOps.uitofp (F := Ideal) .bf16) (same_group g (grp l))).trans ?_
  split
  · show ((1 : ℕ) : EReal) = 1
    simp
  · show ((0 : ℕ) : EReal) = 0
    simp

/-! ## The blocks at a point -/

theorem idx : ∀ t : Fin cfg0.N, win0_0.index t = ![t.val, 0] ∧ win0_1.index t = ![t.val, 1] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ t.val < 16 :=
  (by decide +kernel : ∀ t : Fin grid0.N, _)

/-- A point as a number, and row `r` of its block. -/
abbrev pt (t : Fin cfg0.N) : Fin 16 := ⟨t.val, (idx t).2.2.2.2.2.2.2.2.2.2⟩
abbrev brow (t : Fin cfg0.N) (r : Fin 512) : Fin 8192 := ⟨512 * (pt t).val + r.val, by omega⟩

theorem blk0 (t : Fin cfg0.N) (r l : Fin 512) : (show FVec Ideal S512x512 .bf16 from iblk m c 0 t) (ix2 r l) = (args m c).u (ix2 (brow t r) l) := by
  refine Eq.trans ?_ (v2_left m c (brow t r) l)
  blk_ext [iblk, idx t]

theorem blk1 (t : Fin cfg0.N) (r l : Fin 512) : (show FVec Ideal S512x512 .bf16 from iblk m c 1 t) (ix2 r l) = (args m c).v (ix2 (brow t r) l) := by
  refine Eq.trans ?_ (v2_right m c (brow t r) l)
  blk_ext [iblk, idx t]

theorem blk2 (t : Fin cfg0.N) (r l : Fin 512) : (show FVec Ideal S512x512 .bf16 from iblk m c 2 t) (ix2 r l) = (args m c).d (ix2 (brow t r) l) := by
  refine Eq.trans ?_ (v22 m c (brow t r) l)
  blk_ext [iblk, idx t]

theorem blk3 (t : Fin cfg0.N) (l : Fin 512) : (show FVec Ideal S1x512 .f32 from iblk m c 3 t) (ix2 0 l) = lg (args m c) l := by
  refine Eq.trans ?_ (v3 m c l)
  blk_point [iblk, idx t]

theorem blk4 (t : Fin cfg0.N) (l : Fin 512) : (show FVec Ideal S1x512 .f32 from iblk m c 4 t) (ix2 0 l) = lb (args m c) l := by
  refine Eq.trans ?_ (v4 m c l)
  blk_point [iblk, idx t]

theorem blk5 (p : Fin cfg0.N) (t : Fin 128) (g : Fin 8) (s : Fin 128) :
    (show FVec Ideal S128x1024 .f32 from iblk m c 5 p) (ix2 t (col g s)) = W (args m c) g t s := by
  refine Eq.trans ?_ (v6 m c t g s)
  blk_ext [iblk, idx p]

theorem blk6 (p : Fin cfg0.N) (s : Fin 128) (g : Fin 8) (t : Fin 128) :
    (show FVec Ideal S128x1024 .f32 from iblk m c 6 p) (ix2 s (col g t)) = W (args m c) g t s := by
  refine Eq.trans ?_ (v8 m c s g t)
  blk_ext [iblk, idx p]

theorem blk7 (p : Fin cfg0.N) (t : Fin 128) (l : Fin 512) : (show FVec Ideal S128x512 .f32 from iblk m c 7 p) (ix2 t l) = B (args m c) (grp l) t := by
  refine Eq.trans ?_ (v11 m c t l)
  blk_ext [iblk, idx p]

theorem blk8 (p : Fin cfg0.N) (g : Fin 8) (s : Fin 128) (l : Fin 512) :
    (show FVec Ideal S1024x512 .bf16 from iblk m c 8 p) (ix2 (col g s) l) = ((if grp l = g then 1 else 0 : EReal) : Ideal .bf16) := by
  refine Eq.trans ?_ (v21 m c g s l)
  blk_ext [iblk, idx p]

/-- A chunk's rows in its block. -/
theorem ldq_at (x : Vec Ideal S512x512 .bf16) (k : Fin 4) (t : Fin 128) (l : Fin 512) :
    ldq x k (ix2 t l) = x (ix2 ⟨128 * k.val + t.val, by omega⟩ l) := by
  fin_cases k <;> refine congrArg x ?_ <;> funext b <;> fin_cases b <;> refine Fin.ext ?_ <;> simp [Rect.idx_unit_val]

theorem chunk_at (x : Vec Ideal S512x512 .bf16) (y : FVec Ideal S8192x512 .bf16) (p : Fin 16)
    (h : ∀ r l : Fin 512, x (ix2 r l) = y (ix2 ⟨512 * p.val + r.val, by omega⟩ l)) (k : Fin 4) (s : Fin 128) (l : Fin 512) :
    ldq x k (ix2 s l) = y (ix2 (row (nk p k) s) l) := by
  rw [ldq_at, h]
  refine congrArg (fun r => y (ix2 r l)) (Fin.ext ?_)
  show 512 * p.val + (128 * k.val + s.val) = (p.val * 4 + k.val) * 128 + s.val
  omega

theorem atU (t : Fin cfg0.N) (k : Fin 4) (s : Fin 128) (l : Fin 512) : ldq (blkAt m c t).u k (ix2 s l) = U (args m c) (nk (pt t) k) s l :=
  chunk_at (blkAt m c t).u (args m c).u (pt t) (blk0 m c t) k s l
theorem atV (t : Fin cfg0.N) (k : Fin 4) (s : Fin 128) (l : Fin 512) : ldq (blkAt m c t).v k (ix2 s l) = SguSpec.V (args m c) (nk (pt t) k) s l :=
  chunk_at (blkAt m c t).v (args m c).v (pt t) (blk1 m c t) k s l
theorem atD (t : Fin cfg0.N) (k : Fin 4) (s : Fin 128) (l : Fin 512) : ldq (blkAt m c t).d k (ix2 s l) = D (args m c) (nk (pt t) k) s l :=
  chunk_at (blkAt m c t).d (args m c).d (pt t) (blk2 m c t) k s l

theorem atLg (t : Fin cfg0.N) (l : Fin 512) : (blkAt m c t).lg (ix2 0 l) = lg (args m c) l := blk3 m c t l
theorem atLb (t : Fin cfg0.N) (l : Fin 512) : (blkAt m c t).lb (ix2 0 l) = lb (args m c) l := blk4 m c t l
theorem atWc (p : Fin cfg0.N) (t : Fin 128) (g : Fin 8) (s : Fin 128) : (blkAt m c p).wc (ix2 t (col g s)) = W (args m c) g t s := blk5 m c p t g s
theorem atWt (p : Fin cfg0.N) (s : Fin 128) (g : Fin 8) (t : Fin 128) : (blkAt m c p).wt (ix2 s (col g t)) = W (args m c) g t s := blk6 m c p s g t
theorem atBi (p : Fin cfg0.N) (t : Fin 128) (l : Fin 512) : (blkAt m c p).bi (ix2 t l) = B (args m c) (grp l) t := blk7 m c p t l
theorem atBd (p : Fin cfg0.N) (g : Fin 8) (s : Fin 128) (l : Fin 512) : (blkAt m c p).bd (ix2 (col g s) l) = if grp l = g then 1 else 0 := blk8 m c p g s l

theorem holds (t : Fin cfg0.N) : At (blkAt m c t) (args m c) (pt t) :=
  ⟨atU m c t, atV m c t, atD m c t, atLg m c t, atLb m c t, atWc m c t, atWt m c t, atBi m c t, atBd m c t⟩

end Cert.SguKernel

end
-- ==== Proof.SguValue.lean ====
/- The fourth claim's kernel: the arrays its run leaves. -/
module

public import proofs.«01_k».proof.Proof.SguKernel
public import proofs.«01_k».proof.Proof.RowGrad

@[expose] public section

set_option maxRecDepth 16384

noncomputable section

namespace Cert.SguKernel

open Idealize.ShloMosaic Idealize.ShloMosaic.TcCoe Idealize.SL.Sem
open Idealize.ShloMosaic.Pipeline (Dat)
open Cert.Kernel4Ideal Cert.Kernel4Ideal.Gen Cert.SguStage Cert.RowGrad
open Cert.SguSpec (Args row lane grp nOf tOf uv glg glb gws gbs lgAt lbAt wsAt ds)

variable (m : (ℓ : Loc nD τ sig) → Buf (Elt Ideal) ℓ) (c : Dev nD)

/-- The gradient of the two halves that a point stores. -/
theorem point (t : Fin cfg0.N) : (outsAt0 m c t.val t.isLt).1 = uvOut (blkAt m c t) := by
  by_cases h0 : t.val % 16 = 0
  · exact (stores_A m c t h0 (by omega)).1
  · by_cases h1 : t.val % 16 = 15
    · exact (stores_C m c t h0 h1).1
    · exact (stores_B m c t h0 h1).1

/-- What a point after the first adds to the running sums. -/
theorem next (t : Fin cfg0.N) (h0 : ¬t.val % 16 = 0) :
    (outsAt0 m c t.val t.isLt).2.1 = lgOut (blkAt m c t) (prev m c t).2.1 ∧
    (outsAt0 m c t.val t.isLt).2.2.1 = lbOut (blkAt m c t) (prev m c t).2.2.1 ∧
    (outsAt0 m c t.val t.isLt).2.2.2.1 = wsOut (blkAt m c t) (prev m c t).2.2.2.1 ∧
    (outsAt0 m c t.val t.isLt).2.2.2.2.2 = dsOut (blkAt m c t) (prev m c t).2.2.2.2.2 := by
  by_cases h1 : t.val % 16 = 15
  · obtain ⟨-, e1, e2, e3, e4, -⟩ := stores_C m c t h0 h1
    exact ⟨e1, e2, e3, e4⟩
  · obtain ⟨-, e1, e2, e3, e4⟩ := stores_B m c t h0 h1
    exact ⟨e1, e2, e3, e4⟩

/-- A running sum over the points is a sum over the chunks. -/
theorem sums {ι : Type} (f : (n : ℕ) → n < cfg0.N → ι → EReal) (q : Fin 64 → ι → EReal)
    (h0 : ∀ t : Fin cfg0.N, t.val % 16 = 0 → ∀ i, f t.val t.isLt i = 0 + ∑ k, q (nk (pt t) k) i)
    (hs : ∀ t : Fin cfg0.N, ¬t.val % 16 = 0 → ∀ i,
      f t.val t.isLt i = f (t.val - 1) (Nat.lt_of_le_of_lt (Nat.sub_le _ _) t.isLt) i + ∑ k, q (nk (pt t) k) i) (i : ι) :
    f t0_15.val t0_15.isLt i = ∑ n, q n i :=
  (Pipeline.eq_sum_fin_of_reset_step_apply_last (M := EReal) f 16 (fun _ => 0) (fun t i => ∑ k, q (nk (pt t) k) i) h0 hs
    (le_of_eq N_0) t0_15 rfl i).trans ((zero_add _).trans
    (sum_blocks (by rw [show cfg0.N = 16 from N_0]) (fun n => q n i) (fun t k => nk (pt t) k) fun t k => by
      show t.val * 4 + k.val = 4 * t.val + k.val
      omega))

theorem lg_last (l : Fin 512) : (outsAt0 m c t0_15.val t0_15.isLt).2.1 (ix2 0 l) = glg (args m c) l := by
  refine sums (fun n h l => (outsAt0 m c n h).2.1 (ix2 0 l)) (fun n l => lgAt (args m c) n l) (fun t h i => ?_) (fun t h i => ?_) l
  · rw [(stores_A m c t h (by omega)).2.1, lgOut_at (holds m c t)]
    refine congrArg (· + _) ?_
    pointwise [k0_pay10]
  · rw [(next m c t h).1, lgOut_at (holds m c t)]

theorem lb_last (l : Fin 512) : (outsAt0 m c t0_15.val t0_15.isLt).2.2.1 (ix2 0 l) = glb (args m c) l := by
  refine sums (fun n h l => (outsAt0 m c n h).2.2.1 (ix2 0 l)) (fun n l => lbAt (args m c) n l) (fun t h i => ?_) (fun t h i => ?_) l
  · rw [(stores_A m c t h (by omega)).2.2.1, lbOut_at (holds m c t)]
    refine congrArg (· + _) ?_
    pointwise [k0_pay11]
  · rw [(next m c t h).2.1, lbOut_at (holds m c t)]

theorem ws_last (t : Fin 128) (g : Fin 8) (s : Fin 128) :
    (outsAt0 m c t0_15.val t0_15.isLt).2.2.2.1 (ix2 t (col g s)) = gws (args m c) g t s := by
  have e {ι : Type} [Fintype ι] (q : ι → EReal) : (if s ≤ t then ∑ k, q k else 0) = ∑ k, if s ≤ t then q k else 0 := by
    split <;> simp
  refine (sums (fun n h (_ : Unit) => (outsAt0 m c n h).2.2.2.1 (ix2 t (col g s))) (fun n _ => if s ≤ t then wsAt (args m c) n g t s else 0)
    (fun p h _ => ?_) (fun p h _ => ?_) ()).trans (e _).symm
  · rw [(stores_A m c p h (by omega)).2.2.2.1, wsOut_at (holds m c p), e]
    refine congrArg (· + _) ?_
    pointwise [k0_pay12]
  · rw [(next m c p h).2.2.1, wsOut_at (holds m c p), e]

theorem ds_last (t : Fin 128) (l : Fin 512) :
    (outsAt0 m c t0_15.val t0_15.isLt).2.2.2.2.2 (ix2 t l) = ∑ n, ds (args m c) n t l := by
  refine sums (fun n h (_ : Unit) => (outsAt0 m c n h).2.2.2.2.2 (ix2 t l)) (fun n _ => ds (args m c) n t l)
    (fun p h _ => ?_) (fun p h _ => ?_) ()
  · rw [(stores_A m c p h (by omega)).2.2.2.2, dsOut_at (holds m c p)]
    refine congrArg (· + _) ?_
    pointwise [k0_pay13]
  · rw [(next m c p h).2.2.2, dsOut_at (holds m c p)]

theorem bs_last (t : Fin 128) (g : Fin 8) : (outsAt0 m c t0_15.val t0_15.isLt).2.2.2.2.1 (ix2 t g) = gbs (args m c) g t := by
  obtain ⟨-, -, -, -, e, e'⟩ := stores_C m c t0_15 (by decide) (by decide)
  rw [e', bsOut_at, ← e]
  exact Finset.sum_congr rfl fun j _ => ds_last m c t (lane g j)

theorem emb9 (t : Fin cfg0.N) (r : Fin 512) (q : Fin 1024) :
    ((View.whole main_v23_0).slice (win0_9.rect t)).emb (ix2 r q) = (ix2 (brow t r) q : S8192x1024.Idx) := by
  blk_ext [idx t]

/-- The arrays the run leaves. -/
theorem final9 : (dats m 0 c).arrAt 9 cfg0.N = uv (args m c) := by
  refine (dats m 0 c).arrAt_eq_of_covers 9 _ (by decide +kernel) fun t hf y => ?_
  blk_simp
  rw [after0_9, point]
  idx_vars y
  rw [emb9]
  exact uvOut_at (holds m c t) y0 y1

theorem final10 : (dats m 0 c).arrAt 10 cfg0.N = fun i : S1x512.Idx => glg (args m c) (i 1) := by
  refine (dats m 0 c).arrAt_eq_of_after_last 10 t0_15 (by decide +kernel) _ fun j => ?_
  blk_simp
  rw [after0_10]
  (idx_vars j)
  obtain rfl : j0 = 0 := Subsingleton.elim _ _
  exact lg_last m c j1

theorem final11 : (dats m 0 c).arrAt 11 cfg0.N = fun i : S1x512.Idx => glb (args m c) (i 1) := by
  refine (dats m 0 c).arrAt_eq_of_after_last 11 t0_15 (by decide +kernel) _ fun j => ?_
  blk_simp
  rw [after0_11]
  (idx_vars j)
  obtain rfl : j0 = 0 := Subsingleton.elim _ _
  exact lb_last m c j1

/-- The mixing weights' gradient, its groups side by side. -/
def wsFlat (a : Args) : FVec Ideal ⟨2, ![128, 1024]⟩ .f32 := fun i =>
  gws a ⟨(i 1).val / 128, by have : (i 1).val < 1024 := (i 1).isLt; omega⟩ (i 0) ⟨(i 1).val % 128, Nat.mod_lt _ (by norm_num)⟩

theorem col_of (q : Fin 1024) : col ⟨q.val / 128, by omega⟩ ⟨q.val % 128, Nat.mod_lt _ (by norm_num)⟩ = q :=
  Fin.ext (by show q.val / 128 * 128 + q.val % 128 = q.val; omega)

theorem final12 : (dats m 0 c).arrAt 12 cfg0.N = wsFlat (args m c) := by
  refine (dats m 0 c).arrAt_eq_of_after_last 12 t0_15 (by decide +kernel) _ fun j => ?_
  blk_simp
  rw [after0_12]
  idx_vars j
  exact (congrArg (fun q => (outsAt0 m c t0_15.val t0_15.isLt).2.2.2.1 (ix2 j0 q)) (col_of j1).symm).trans (ws_last m c j0 _ _)

theorem final13 : (dats m 0 c).arrAt 13 cfg0.N = fun i : S128x8.Idx => gbs (args m c) (i 1) (i 0) := by
  refine (dats m 0 c).arrAt_eq_of_after_last 13 t0_15 (by decide +kernel) _ fun j => ?_
  blk_simp
  rw [after0_13]
  idx_vars j
  exact bs_last m c j0 j1

end Cert.SguKernel

end
-- ==== Proof.SguClaim.lean ====
/- The fourth claim: the frames of its programs, and their results' equality. -/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import proofs.«01_k».proof.Proof.SguPre
public import proofs.«01_k».proof.Proof.SguRef
public import proofs.«01_k».proof.Proof.SguValue
import Idealize.ShloMosaic.Lib.Claim

@[expose] public section

set_option maxRecDepth 16384

noncomputable section

namespace Cert.SguClaim

open Idealize.ShloMosaic Idealize.ShloMosaic.TcCoe Idealize.SL.Sem Cert.Reals

theorem preFacts : Cert.Pre_finite4.Facts := by
  constructor <;> decide

instance : Cert.Pre_finite4.Facts := preFacts

theorem frame_kernel : Cert.quiescent_Kernel4 := fun m ρ _ => Cert.Kernel4.Gen.frame m ρ

theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono
    (fun r h => ⟨fun c => (h c).2.2.2.2.2, sem_eq_zero_of_no_sems (by decide) r.2⟩) (Cert.Reference4Ideal.Value.run m ρ)

/-- Each rounded constant of the gelu stands for the number it was rounded from. -/
theorem preserves : Cert.preserves_Kernel4_Kernel4Ideal :=
  ⟨IdealRules.named_const.statement Cert.Kernel4Ideal.κ "gelu_c" .bf16 0x3F4C#16 ((6693141 / 8388608 : ℝ) : EReal) rfl,
   IdealRules.named_const.statement Cert.Kernel4Ideal.κ "gelu_a" .bf16 0x3D37#16 ((12003091 / 268435456 : ℝ) : EReal) rfl,
   IdealRules.named_const.statement Cert.Kernel4Ideal.κ "gelu_6ca" .bf16 0x3E5B#16 ((241015141496493 / 1125899906842624 : ℝ) : EReal) rfl,
   IdealRules.named_const.statement Cert.Kernel4Ideal.κ "gelu_2c" .bf16 0x3FCC#16 ((6693141 / 4194304 : ℝ) : EReal) rfl⟩

set_option maxHeartbeats 1600000 in
theorem algebraic : Cert.algebraic_Kernel4Ideal_Reference4Ideal_pre_finite4 := by
  intro m g m' g' hpre hargs
  refine ⟨_, _, _, _, _, (θ_run Cert.Kernel4Ideal.defs _ _).mono (fun r h => h) (Cert.Kernel4Ideal.Value.run_blocks m g),
    (θ_run Cert.Reference4Ideal.defs _ _).mono (fun r h c => ?_) (Cert.Reference4Ideal.Value.run m' g')⟩
  obtain ⟨a0, a1, a2, a3, a4, a5, a6, a7⟩ := hargs c
  obtain ⟨p0, p1, p3, p4, p5, p6, p7⟩ := sguPre (hpre c)
  have b0 : StableHlo.launchContents m' c (Proc.devRef .tc Cert.Reference4Ideal.main_arg0) = _ := a0
  have b1 : StableHlo.launchContents m' c (Proc.devRef .tc Cert.Reference4Ideal.main_arg1) = _ := a1
  have b3 : StableHlo.launchContents m' c (Proc.devRef .tc Cert.Reference4Ideal.main_arg3) = _ := a3
  have b4 : StableHlo.launchContents m' c (Proc.devRef .tc Cert.Reference4Ideal.main_arg4) = _ := a4
  have b5 : StableHlo.launchContents m' c (Proc.devRef .tc Cert.Reference4Ideal.main_arg5) = _ := a5
  have b6 : StableHlo.launchContents m' c (Proc.devRef .tc Cert.Reference4Ideal.main_arg6) = _ := a6
  have b7 : StableHlo.launchContents m' c (Proc.devRef .tc Cert.Reference4Ideal.main_arg7) = _ := a7
  have hr : SguSpec.AllReal (SguKernel.args m c) := ⟨p0, p1, p3, p4, p5, p6, p7⟩
  obtain ⟨h0, h1, h2, h3, h4, h⟩ := h c
  refine ⟨h0.trans ?_, h1.trans ?_, h2.trans ?_, h3.trans ?_, h4.trans ?_, h⟩
  · rw [Cert.Reference4Ideal.Read.val_main_v162_eq, b0, b1, b3, b4, b5, b6, b7, Cert.SguKernel.final9]
    funext i
    idx_vars i
    exact Cert.SguRef.uv_at hr i0 i1
  · rw [Cert.Reference4Ideal.Read.val_main_v163_eq, b0, b1, b5, b7, Cert.SguKernel.final10]
    funext i
    (idx_vars i)
    obtain rfl : i0 = 0 := Subsingleton.elim _ _
    exact Cert.SguRef.glg_at hr i1
  · rw [Cert.Reference4Ideal.Read.val_main_v164_eq, b0, b5, b7, Cert.SguKernel.final11]
    funext i
    (idx_vars i)
    obtain rfl : i0 = 0 := Subsingleton.elim _ _
    exact Cert.SguRef.glb_at hr i1
  · rw [Cert.Reference4Ideal.Read.val_main_v166_eq, b0, b1, b3, b4, b7, Cert.SguKernel.final12]
    funext i
    idx_vars i
    exact Cert.SguRef.gws_at hr i0 i1
  · rw [Cert.Reference4Ideal.Read.val_main_v167_eq, b0, b7, Cert.SguKernel.final13]
    funext i
    idx_vars i
    exact Cert.SguRef.gbs_at hr i0 i1

end Cert.SguClaim

end
-- ==== Proof.FfnPre.lean ====
/- What the precondition of the fifth claim says: the arguments it names are real numbers. -/
module

public import proofs.«01_k».proof.Pre_finite5
public import proofs.«01_k».proof.Proof.InPre
import Idealize.ShloMosaic.Lib.Pointwise

@[expose] public section

set_option maxRecDepth 16384

noncomputable section

namespace Cert.Reals

open Idealize.ShloMosaic

/-- Every argument the precondition names is real at every index. -/
theorem ffnPre [Cert.Pre_finite5.Facts] {x0 x1 x2 x3 x4 x5 x6}
    (h : Cert.Pre_finite5.fn (F := Ideal) x0 x1 x2 x3 x4 x5 x6 = fun _ => 1#1) :
    (∀ i, IsReal (x0 i)) ∧ (∀ i, IsReal (x1 i)) ∧ (∀ i, IsReal (x2 i)) ∧ (∀ i, IsReal (x3 i)) ∧ (∀ i, IsReal (x4 i)) ∧ (∀ i, IsReal (x5 i)) := by
  have h := congrFun h ix0
  obtain ⟨h, h5⟩ := andi_eq_one h
  obtain ⟨h, h4⟩ := andi_eq_one h
  obtain ⟨h, h3⟩ := andi_eq_one h
  obtain ⟨h, h2⟩ := andi_eq_one h
  obtain ⟨h0, h1⟩ := andi_eq_one h
  have : Subsingleton Cert.Pre_finite5.S_.Idx := ⟨fun a b => funext fun k => k.elim0⟩
  have hb {s : Shape} (hs : Cert.Pre_finite5.S_.BroadcastsInDim s (![] : Fin 0 → Fin s.rank)) (i : s.Idx) :
      broadcastInDim s ![] hs (constant (F := Ideal) Cert.Pre_finite5.S_ .f32 0x7F800000#32) i = (⊤ : EReal) := ofBits_inf
  exact ⟨isReal_of_all _ _ _ _ _ _ (hb _) h0, isReal_of_all _ _ _ _ _ _ (hb _) h1, isReal_of_all _ _ _ _ _ _ (hb _) h2, isReal_of_all _ _ _ _ _ _ (hb _) h3, isReal_of_all _ _ _ _ _ _ (hb _) h4, isReal_of_all _ _ _ _ _ _ (hb _) h5⟩

end Cert.Reals

end
-- ==== Proof.FfnSpec.lean ====
/- The gated unit's gradient through its causal convolution, in closed form over the arguments of the fifth claim. -/
module

public import proofs.«01_k».proof.Proof.GeluNorm
public import proofs.«01_k».proof.Proof.RowGrad

@[expose] public section

noncomputable section

namespace Cert.FfnSpec

open Idealize.ShloMosaic Cert.Reals Cert.GeluNorm Cert.RowGrad

/-! ## Rows shifted by the convolution's taps -/

/-- A column `j` rows earlier and `j` rows later, zero outside the array. -/
def before (f : Fin 8192 → EReal) (j : ℕ) (r : Fin 8192) : EReal := if j ≤ r.val then f ⟨r.val - j, by omega⟩ else 0
def after (f : Fin 8192 → EReal) (j : ℕ) (r : Fin 8192) : EReal := if h : r.val + j < 8192 then f ⟨r.val + j, h⟩ else 0

theorem before_zero (f : Fin 8192 → EReal) (r : Fin 8192) : before f 0 r = f r := if_pos (Nat.zero_le _)
theorem after_zero (f : Fin 8192 → EReal) (r : Fin 8192) : after f 0 r = f r := dif_pos r.isLt

theorem after_of (f : Fin 8192 → EReal) (j : ℕ) (r : Fin 8192) (h : r.val + j < 8192) : after f j r = f ⟨r.val + j, h⟩ := dif_pos h

theorem before_real {f : Fin 8192 → EReal} (h : ∀ r, IsReal (f r)) (j : ℕ) (r : Fin 8192) : IsReal (before f j r) := by
  unfold before
  split
  · exact h _
  · exact IsReal.zero

theorem after_real {f : Fin 8192 → EReal} (h : ∀ r, IsReal (f r)) (j : ℕ) (r : Fin 8192) : IsReal (after f j r) := by
  unfold after
  split
  · exact h _
  · exact IsReal.zero

/-- Shifting one factor of a sum of products down is shifting the other up. -/
theorem sum_shift (f g : Fin 8192 → EReal) (j : ℕ) : ∑ r, before g j r * f r = ∑ r, after f j r * g r := by
  have e1 : ∑ r with j ≤ r.val, before g j r * f r = ∑ r, before g j r * f r :=
    Finset.sum_filter_of_ne fun r _ h => by_contra fun hc => h (by rw [before, if_neg hc, zero_mul])
  have e2 : ∑ r with r.val + j < 8192, after f j r * g r = ∑ r, after f j r * g r :=
    Finset.sum_filter_of_ne fun r _ h => by_contra fun hc => h (by rw [show after f j r = 0 from dif_neg hc, zero_mul])
  rw [← e1, ← e2]
  refine Finset.sum_bij' (fun r _ => ⟨r.val - j, by omega⟩) (fun r h => ⟨r.val + j, (Finset.mem_filter.1 h).2⟩) ?_ ?_ ?_ ?_ ?_
  · intro r h
    have h := (Finset.mem_filter.1 h).2
    exact Finset.mem_filter.2 ⟨Finset.mem_univ _, by show r.val - j + j < 8192; omega⟩
  · exact fun r _ => Finset.mem_filter.2 ⟨Finset.mem_univ _, Nat.le_add_left _ _⟩
  · intro r h
    have h := (Finset.mem_filter.1 h).2
    exact Fin.ext (Nat.sub_add_cancel h)
  · exact fun r _ => Fin.ext (Nat.add_sub_cancel _ _)
  · intro r h
    have h := (Finset.mem_filter.1 h).2
    rw [before, if_pos h, mul_comm]
    refine congrArg (· * _) (Eq.trans ?_ (after_of f j _ (by show r.val - j + j < 8192; omega)).symm)
    exact congrArg f (Fin.ext (Nat.sub_add_cancel h).symm)

/-! ## The closed forms -/

structure Args where
  x : Rows
  g : Gain
  wu : FVec Ideal ⟨2, ![1024, 5632]⟩ .f32
  cw : FVec Ideal ⟨2, ![3, 5632]⟩ .f32
  cb : FVec Ideal ⟨1, ![5632]⟩ .f32
  d : FVec Ideal ⟨2, ![8192, 2816]⟩ .f32
  res : Rows

/-- A column of the gate and the column of the value it multiplies. -/
def lo (l : Fin 2816) : Fin 5632 := ⟨l.val, by omega⟩
def hi (l : Fin 2816) : Fin 5632 := ⟨2816 + l.val, by omega⟩

variable (a : Args)

/-- The normalised row, its projection, and the convolution of the projection's columns. -/
def nrm (r : Fin 8192) (k : Fin 1024) : EReal := a.x (ix2 r k) * rs a.x r * a.g (ix1 k)
def up (n : Fin 5632) (r : Fin 8192) : EReal := ∑ k, nrm a r k * a.wu (ix2 k n)
def conv (n : Fin 5632) (r : Fin 8192) : EReal :=
  a.cb (ix1 n) + before (up a n) 2 r * a.cw (ix2 0 n) + before (up a n) 1 r * a.cw (ix2 1 n) + up a n r * a.cw (ix2 2 n)

/-- The cotangents of the gate's and of the value's convolution, and the two side by side. -/
def dgate (l : Fin 2816) (r : Fin 8192) : EReal := a.d (ix2 r l) * conv a (hi l) r * geluD (conv a (lo l) r)
def dval (l : Fin 2816) (r : Fin 8192) : EReal := a.d (ix2 r l) * gelu (conv a (lo l) r)
def dconv (n : Fin 5632) (r : Fin 8192) : EReal :=
  if h : n.val < 2816 then dgate a ⟨n.val, h⟩ r else dval a ⟨n.val - 2816, by omega⟩ r

/-- The gradients of the projection, of the taps and of their bias. -/
def dup (n : Fin 5632) (r : Fin 8192) : EReal :=
  a.cw (ix2 2 n) * dconv a n r + a.cw (ix2 1 n) * after (dconv a n) 1 r + a.cw (ix2 0 n) * after (dconv a n) 2 r
def gcw (j : Fin 3) (n : Fin 5632) : EReal := ∑ r, after (dconv a n) (2 - j.val) r * up a n r
def gcb (n : Fin 5632) : EReal := ∑ r, dconv a n r

/-- The gradient of the normalised row. -/
def dnrm (r : Fin 8192) (k : Fin 1024) : EReal := ∑ n, dup a n r * a.wu (ix2 k n)

theorem dconv_lo (l : Fin 2816) (r : Fin 8192) : dconv a (lo l) r = dgate a l r := dif_pos l.isLt
theorem dconv_hi (l : Fin 2816) (r : Fin 8192) : dconv a (hi l) r = dval a l r :=
  (dif_neg (by show ¬2816 + l.val < 2816; omega)).trans (congrArg (dval a · r) (Fin.ext (Nat.add_sub_cancel_left _ _)))

/-! ## Finite arguments -/

structure AllReal (a : Args) : Prop where
  x : ∀ i, IsReal (a.x i)
  g : ∀ i, IsReal (a.g i)
  wu : ∀ i, IsReal (a.wu i)
  cw : ∀ i, IsReal (a.cw i)
  cb : ∀ i, IsReal (a.cb i)
  d : ∀ i, IsReal (a.d i)

variable {a} (h : AllReal a)
include h

theorem up_real (n : Fin 5632) (r : Fin 8192) : IsReal (up a n r) :=
  IsReal.sum fun k => (((h.x _).mul (rs_real a.x r fun k => h.x _)).mul (h.g _)).mul (h.wu _)

theorem conv_real (n : Fin 5632) (r : Fin 8192) : IsReal (conv a n r) :=
  (((h.cb _).add ((before_real (up_real h n) 2 r).mul (h.cw _))).add ((before_real (up_real h n) 1 r).mul (h.cw _))).add
    ((up_real h n r).mul (h.cw _))

omit h in
theorem geluD_real {x : EReal} (hx : IsReal x) : IsReal (geluD x) :=
  (gate_real hx).add (((gelu_real hx).mul (IsReal.one.sub (gate_real hx))).mul (((IsReal.coe _).mul (hx.mul hx)).add (IsReal.coe _)))

theorem dconv_real (n : Fin 5632) (r : Fin 8192) : IsReal (dconv a n r) := by
  unfold dconv
  split
  · exact ((h.d _).mul (conv_real h _ r)).mul (geluD_real (conv_real h _ r))
  · exact (h.d _).mul (gelu_real (conv_real h _ r))

theorem dup_real (n : Fin 5632) (r : Fin 8192) : IsReal (dup a n r) :=
  (((h.cw _).mul (dconv_real h n r)).add ((h.cw _).mul (after_real (dconv_real h n) 1 r))).add
    ((h.cw _).mul (after_real (dconv_real h n) 2 r))

theorem dnrm_real (r : Fin 8192) (k : Fin 1024) : IsReal (dnrm a r k) := IsReal.sum fun n => (dup_real h n r).mul (h.wu _)

end Cert.FfnSpec

end
-- ==== Proof.FfnRef.lean ====
/- The fifth claim's reference, read at an index. -/
module

public import proofs.«01_k».proof.Proof.FfnSpec
public import proofs.«01_k».proof.Proof.Gen.Reference5Ideal.Read

@[expose] public section

set_option maxRecDepth 16384

noncomputable section

namespace Cert.FfnRef

open Idealize.ShloMosaic Idealize.ShloMosaic.TcCoe Idealize.SL.Sem
open Cert.Reference5Ideal Cert.Reference5Ideal.Gen Cert.Reference5Ideal.Read Cert.FfnSpec Cert.GeluNorm Cert.RowGrad Cert.Reals

variable (a : Args)

theorem rs_at (r : Fin 8192) : (val_main_v8 (F := Ideal) a.x) (ix2 r 0) = rs a.x r := by
  pointwise [val_main_v1, val_main_v2, val_main_v3, val_main_v4, val_main_v5, val_main_v6, val_main_v7, val_main_v8, val_main_cst_0, val_main_cst_1, val_main_cst_2]
  simp only [zero_add, rs, ms]

theorem up_at (r : Fin 8192) (n : Fin 5632) : (val_main_v19 (F := Ideal) a.x a.g a.wu) (ix3 0 r n) = up a n r := by
  pointwise [val_main_v0, val_main_v12, val_main_v13, val_main_v14, val_main_v15, val_main_v16, val_main_v17, val_main_v18, val_main_v19, val_main_cst]
  simp only [rs_at, add_zero, up, nrm]

/-- The rows the convolution's taps read. -/
theorem tap0 (r : Fin 8192) (n : Fin 5632) : (val_main_v23 (F := Ideal) a.x a.g a.wu) (ix3 0 r n) = before (up a n) 2 r := by
  pointwise [val_main_v20, val_main_v21, val_main_v23, val_main_cst_4]
  split
  · exact (if_neg (by omega)).symm
  · exact (up_at a _ n).trans (if_pos (by omega)).symm

theorem tap1 (r : Fin 8192) (n : Fin 5632) : (val_main_v32 (F := Ideal) a.x a.g a.wu) (ix3 0 r n) = before (up a n) 1 r := by
  pointwise [val_main_v20, val_main_v21, val_main_v32, val_main_cst_4]
  split
  · exact (if_neg (by omega)).symm
  · refine (up_at a _ n).trans (Eq.trans ?_ (if_pos (by omega)).symm)
    exact congrArg (up a n) (Fin.ext (by dsimp only; omega))

theorem tap2 (r : Fin 8192) (n : Fin 5632) : (val_main_v39 (F := Ideal) a.x a.g a.wu) (ix3 0 r n) = up a n r := by
  pointwise [val_main_v20, val_main_v21, val_main_v39, val_main_cst_4]
  exact up_at a r n

theorem conv_at (r : Fin 8192) (n : Fin 5632) : (val_main_v45 (F := Ideal) a.x a.g a.wu a.cw a.cb) (ix3 0 r n) = conv a n r := by
  pointwise [val_main_v24, val_main_v25, val_main_v26, val_main_v27, val_main_v28, val_main_v29, val_main_v30, val_main_v31, val_main_v33, val_main_v34, val_main_v35, val_main_v36, val_main_v37, val_main_v38, val_main_v40, val_main_v41, val_main_v42, val_main_v43, val_main_v44, val_main_v45]
  simp only [tap0, tap1, tap2, conv]

theorem th_at (r : Fin 8192) (l : Fin 2816) : (val_main_v58 (F := Ideal) a.x a.g a.wu a.cw a.cb) (ix3 0 r l) = th (conv a (lo l) r) := by
  pointwise [val_main_v46, val_main_v48, val_main_v49, val_main_v53, val_main_v54, val_main_v55, val_main_v56, val_main_v57, val_main_v58, val_main_cst_7, val_main_cst_8]
  simp only [conv_at, th, ofBits_gc, ofBits_ga]
  rfl

theorem slope_at (r : Fin 8192) (l : Fin 2816) : (val_main_v63 (F := Ideal) a.x a.g a.wu a.cw a.cb) (ix3 0 r l) = (1 + th (conv a (lo l) r)) * (1 - th (conv a (lo l) r)) := by
  pointwise [val_main_v59, val_main_v60, val_main_v61, val_main_v62, val_main_v63, val_main_cst_9, val_main_cst_10]
  simp only [th_at]

theorem keep_at (r : Fin 8192) (l : Fin 2816) : (val_main_v67 (F := Ideal) a.x a.g a.wu a.cw a.cb) (ix3 0 r l) = half * (1 + th (conv a (lo l) r)) := by
  pointwise [val_main_v64, val_main_v65, val_main_v66, val_main_v67, val_main_cst_11, val_main_cst_12]
  simp only [th_at, ofBits_half, ← half_eq]

theorem cube_at (r : Fin 8192) (l : Fin 2816) : (val_main_v52 (F := Ideal) a.x a.g a.wu a.cw a.cb) (ix3 0 r l) = ((3 : ℝ) : EReal) * (conv a (lo l) r * conv a (lo l) r) := by
  pointwise [val_main_v46, val_main_v50, val_main_v51, val_main_v52, val_main_cst_6]
  simp only [conv_at, ofBits_three]
  rfl

theorem gate_in (r : Fin 8192) (l : Fin 2816) : (val_main_v46 (F := Ideal) a.x a.g a.wu a.cw a.cb) (ix3 0 r l) = conv a (lo l) r := by
  pointwise [val_main_v46]
  exact conv_at a r (lo l)

theorem val_in (r : Fin 8192) (l : Fin 2816) : (val_main_v47 (F := Ideal) a.x a.g a.wu a.cw a.cb) (ix3 0 r l) = conv a (hi l) r := by
  pointwise [val_main_v47]
  exact conv_at a r (hi l)

variable {a} (h : AllReal a)
include h

theorem dval_at (r : Fin 8192) (l : Fin 2816) : (val_main_v72 (F := Ideal) a.x a.g a.wu a.cw a.cb a.d) (ix3 0 r l) = dval a l r := by
  pointwise [val_main_v68, val_main_v71, val_main_v72]
  simp only [gate_in, keep_at, dval, gelu, gate_of_th (conv_real h (lo l) r)]
  exact mul_comm _ _

theorem dgate_at (r : Fin 8192) (l : Fin 2816) : (val_main_v85 (F := Ideal) a.x a.g a.wu a.cw a.cb a.d) (ix3 0 r l) = dgate a l r := by
  pointwise [val_main_v71, val_main_v73, val_main_v74, val_main_v75, val_main_v76, val_main_v77, val_main_v78, val_main_v79, val_main_v80, val_main_v81, val_main_v82, val_main_v83, val_main_v84, val_main_v85, val_main_cst_13, val_main_cst_14, val_main_cst_15]
  simp only [gate_in, val_in, keep_at, slope_at, cube_at, ofBits_gc, ofBits_ga, ofBits_half, ← half_eq]
  exact geluD_row (conv_real h (lo l) r) ((h.d _).mul (conv_real h (hi l) r))

theorem dconv_at (r : Fin 8192) (n : Fin 5632) : (val_main_v88 (F := Ideal) a.x a.g a.wu a.cw a.cb a.d) (ix3 0 r n) = dconv a n r := by
  pointwise [val_main_v86, val_main_v87, val_main_v88, val_main_cst_16, val_main_cst_17]
  unfold dconv
  by_cases hn : n.val < 2816
  · simp (disch := omega) only [dif_pos, dif_neg, zero_add]
    exact dgate_at h r ⟨n.val, hn⟩
  · simp (disch := omega) only [dif_pos, dif_neg, add_zero]
    exact dval_at h r _

omit h in
/-- A sum over an axis of extent one and a row. -/
theorem reduce_tap (x : S1x1x5632.Idx → EReal) (c : EReal) (n : Fin 5632) :
    Ideal.hostReduceAdd reducesTo_S1x1x5632_S5632_d0_1 x c (ix1 n) = c + x (ix3 0 0 n) := by
  refine congrArg (c + ·) ((Finset.sum_eq_single_of_mem (ix3 0 0 n) (Finset.mem_filter.2 ⟨Finset.mem_univ _, ?_⟩) fun i hi hne => absurd ?_ hne))
  · funext b
    fin_cases b
    rfl
  · have e := congrFun (Finset.mem_filter.1 hi).2 0
    idx_vars i
    have e : i2 = n := e
    rw [e, Subsingleton.elim i0 0, Subsingleton.elim i1 0]

theorem gtap0 (n : Fin 5632) : (val_main_v117 (F := Ideal) a.x a.g a.wu a.cw a.cb a.d) (ix1 n) = ∑ r, after (dconv a n) 2 r * up a n r := by
  pointwise [val_main_v117, val_main_cst_29]
  rw [reduce_tap, zero_add]
  pointwise [val_main_v114, val_main_v113, val_main_v112, val_main_cst_28]
  simp only [tap0, dconv_at h, zero_add]
  exact sum_shift (dconv a n) (up a n) 2

theorem gtap1 (n : Fin 5632) : (val_main_v103 (F := Ideal) a.x a.g a.wu a.cw a.cb a.d) (ix1 n) = ∑ r, after (dconv a n) 1 r * up a n r := by
  pointwise [val_main_v103, val_main_cst_23]
  rw [reduce_tap, zero_add]
  pointwise [val_main_v100, val_main_v99, val_main_v98, val_main_cst_22]
  simp only [tap1, dconv_at h, zero_add]
  exact sum_shift (dconv a n) (up a n) 1

theorem gtap2 (n : Fin 5632) : (val_main_v94 (F := Ideal) a.x a.g a.wu a.cw a.cb a.d) (ix1 n) = ∑ r, after (dconv a n) 0 r * up a n r := by
  pointwise [val_main_v94, val_main_cst_19]
  rw [reduce_tap, zero_add]
  pointwise [val_main_v91, val_main_v90, val_main_v89, val_main_cst_18]
  simp only [tap2, dconv_at h, zero_add]
  exact Finset.sum_congr rfl fun r _ => (mul_comm _ _).trans (congrArg (· * _) (after_zero _ _).symm)

theorem gcw_at (j : Fin 3) (n : Fin 5632) : (val_main_v120 (F := Ideal) a.x a.g a.wu a.cw a.cb a.d) (ix2 j n) = gcw a j n := by
  pointwise [val_main_v95, val_main_v96, val_main_v104, val_main_v105, val_main_v106, val_main_v118, val_main_v119, val_main_v120, val_main_cst_20, val_main_cst_24, val_main_cst_30]
  unfold gcw
  simp only [gtap0 h, gtap1 h, gtap2 h]
  fin_cases j <;> simp

theorem gcb_at (n : Fin 5632) : (val_main_v149 (F := Ideal) a.x a.g a.wu a.cw a.cb a.d) (ix2 0 n) = gcb a n := by
  pointwise [val_main_v111, val_main_v149, val_main_cst_27]
  rw [reduce_tap, zero_add]
  pointwise [val_main_v110, val_main_v109, val_main_cst_26]
  simp only [dconv_at h, zero_add, gcb]

theorem dup_at (r : Fin 8192) (n : Fin 5632) : (val_main_v125 (F := Ideal) a.x a.g a.wu a.cw a.cb a.d) (ix2 r n) = dup a n r := by
  pointwise [val_main_v92, val_main_v93, val_main_v97, val_main_v101, val_main_v102, val_main_v107, val_main_v108, val_main_v115, val_main_v116, val_main_v121, val_main_v122, val_main_v124, val_main_v125, val_main_v40, val_main_v41, val_main_v42, val_main_v33, val_main_v34, val_main_v35, val_main_v24, val_main_v25, val_main_v26, val_main_cst_19, val_main_cst_21, val_main_cst_25, val_main_cst_31, val_main_cst_32]
  simp only [dconv_at h, zero_add, Fin.sum_univ_one]
  refine congrArg₂ (· + ·) (congrArg₂ (· + ·) (mul_comm _ _) ?_) ?_
  · unfold after
    by_cases hr : r.val + 1 < 8192
    · rw [dif_pos ⟨by omega, by omega⟩, dif_pos hr, mul_comm]
      exact congrArg (fun i => a.cw (ix2 1 n) * dconv a n i) (Fin.ext (by dsimp only; omega))
    · rw [dif_neg (by omega), dif_neg hr, mul_zero]
  · unfold after
    by_cases hr : r.val + 2 < 8192
    · rw [dif_pos (by omega), dif_pos hr, mul_comm]
      exact congrArg (fun i => a.cw (ix2 0 n) * dconv a n i) (Fin.ext (by dsimp only; omega))
    · rw [dif_neg (by omega), dif_neg hr, mul_zero]

theorem dnrm_at (r : Fin 8192) (k : Fin 1024) : (val_main_v126 (F := Ideal) a.x a.g a.wu a.cw a.cb a.d) (ix2 r k) = dnrm a r k := by
  pointwise [val_main_v126]
  simp only [dup_at h, dnrm]

theorem dup16_at (r : Fin 8192) (n : Fin 5632) : (val_main_v148 (F := Ideal) a.x a.g a.wu a.cw a.cb a.d) (ix2 r n) = dup a n r := by
  pointwise [val_main_v148]
  exact dup_at h r n

theorem dh_at (r : Fin 8192) (k : Fin 1024) : (val_main_v147 (F := Ideal) a.x a.g a.wu a.cw a.cb a.d a.res) (ix2 r k) = dxAt a.x a.res a.g (dnrm a) r k := by
  pointwise [val_main_v9, val_main_v10, val_main_v11, val_main_v14, val_main_v130, val_main_v131, val_main_v133, val_main_v134, val_main_v135, val_main_v136, val_main_v137, val_main_v138, val_main_v139, val_main_v140, val_main_v141, val_main_v142, val_main_v143, val_main_v144, val_main_v145, val_main_v146, val_main_v147, val_main_v1, val_main_v2, val_main_v3, val_main_v4, val_main_v5, val_main_v6, val_main_v7, val_main_cst_1, val_main_cst_2, val_main_cst_3, val_main_cst_35, val_main_cst_36, val_main_cst_37, val_main_cst_0]
  simp only [dnrm_at h, rs_at, zero_add, Fin.sum_univ_one]
  exact dxAt_eq a.x a.res a.g _ r k (fun k => h.x _) (fun k => (dnrm_real h r k).mul (h.g _))

theorem dg_at (k : Fin 1024) : (val_main_v150 (F := Ideal) a.x a.g a.wu a.cw a.cb a.d) (ix2 0 k) = ∑ r, dgAt a.x (dnrm a) r k := by
  pointwise [val_main_v12, val_main_v13, val_main_v127, val_main_v128, val_main_v129, val_main_v132, val_main_v150, val_main_cst_33, val_main_cst_34]
  simp only [dnrm_at h, rs_at, zero_add, Fin.sum_univ_one, dgAt]
  exact Finset.sum_congr rfl fun r _ => mul_comm _ _

end Cert.FfnRef

end
-- ==== Proof.FfnStage.lean ====
/- The fifth claim's kernel: what its body stores at a grid point, as stages over the point's blocks. -/
module

public import proofs.«01_k».proof.Proof.Gen.Kernel5Ideal.Frame
public import Idealize.ShloMosaic.Lib.Pipeline.ValueKit
public import Idealize.ShloMosaic.Lib.Pipeline.ReadBack

@[expose] public section

set_option maxRecDepth 16384

noncomputable section

namespace Cert.FfnStage

open Idealize.ShloMosaic Idealize.ShloMosaic.TcCoe Idealize.ShloMosaic.Tactic Idealize.SL.Sem
open Cert.Kernel5Ideal Cert.Kernel5Ideal.Gen

/-- A point's blocks: the two halves of the projection and of its convolution, the convolution and the cotangent on the eight
    rows after the block's, the cotangent, the taps, the projection's weights, the row before the norm, the gain, the
    residual's cotangent, and whether rows follow at all. -/
structure Blk where
  ug : Vec Ideal S256x2816 .bf16
  uv : Vec Ideal S256x2816 .bf16
  cg : Vec Ideal S256x2816 .bf16
  cv : Vec Ideal S256x2816 .bf16
  ag : Vec Ideal S8x2816 .bf16
  av : Vec Ideal S8x2816 .bf16
  d : Vec Ideal S256x2816 .bf16
  da : Vec Ideal S8x2816 .bf16
  w : Vec Ideal S3x5632 .f32
  wu : Vec Ideal S1024x5632 .bf16
  x : Vec Ideal S256x1024 .f32
  g : Vec Ideal S1x1024 .f32
  res : Vec Ideal S256x1024 .f32
  more : Ideal .bf16

/-- The left and the right columns of a block; the four tiles of columns of the taps. -/
def ldL (x : Vec Ideal S256x2816 .bf16) : Vec Ideal S256x1408 .bf16 := View.ld x (Rect.unit ![0, 0] ![256, 1408] inb_S256x2816_S256x1408_0_0)
def ldR (x : Vec Ideal S256x2816 .bf16) : Vec Ideal S256x1408 .bf16 := View.ld x (Rect.unit ![0, 1408] ![256, 1408] inb_S256x2816_S256x1408_0_1408)
def lnL (x : Vec Ideal S8x2816 .bf16) : Vec Ideal S8x1408 .bf16 := View.ld x (Rect.unit ![0, 0] ![8, 1408] inb_S8x2816_S8x1408_0_0)
def lnR (x : Vec Ideal S8x2816 .bf16) : Vec Ideal S8x1408 .bf16 := View.ld x (Rect.unit ![0, 1408] ![8, 1408] inb_S8x2816_S8x1408_0_1408)
def lw0 (x : Vec Ideal S3x5632 .f32) : Vec Ideal S3x1408 .f32 := View.ld x (Rect.unit ![0, 0] ![3, 1408] inb_S3x5632_S3x1408_0_0)
def lw1 (x : Vec Ideal S3x5632 .f32) : Vec Ideal S3x1408 .f32 := View.ld x (Rect.unit ![0, 1408] ![3, 1408] inb_S3x5632_S3x1408_0_1408)
def lw2 (x : Vec Ideal S3x5632 .f32) : Vec Ideal S3x1408 .f32 := View.ld x (Rect.unit ![0, 2816] ![3, 1408] inb_S3x5632_S3x1408_0_2816)
def lw3 (x : Vec Ideal S3x5632 .f32) : Vec Ideal S3x1408 .f32 := View.ld x (Rect.unit ![0, 4224] ![3, 1408] inb_S3x5632_S3x1408_0_4224)

/-! ## The stages of a tile of columns -/

/-- The cotangents of the gate and of the value, on the block's rows and on the rows after them. -/
def dgV (cg cv d : Vec Ideal S256x1408 .bf16) : FVec Ideal S256x1408 .f32 := k0_pay10 cg cv d
def dvV (cg d : Vec Ideal S256x1408 .bf16) : FVec Ideal S256x1408 .f32 := k0_pay11 cg d
def ngV (more : Ideal .bf16) (cg cv d : Vec Ideal S8x1408 .bf16) : FVec Ideal S8x1408 .f32 :=
  extf .f32
    (mulf (mulf (k0_pay13 more d) (shapeCast S8x1408 cv shapeCasts_S8x1408_S8x1408))
      (addf (k0_pay15 cg)
        (mulf (mulf (k0_pay16 cg) (subf (broadcast S8x1408 (Scalar.ofBits .bf16 0x3F80#16)) (k0_pay15 cg)))
          (addf (mulf (broadcast S8x1408 (Named.named κ "gelu_6ca" 0x3E5B#16)) (k0_pay14 cg)) (broadcast S8x1408 (Named.named κ "gelu_2c" 0x3FCC#16))))))
    bitsLt_bf16_f32
def nvV (more : Ideal .bf16) (cg d : Vec Ideal S8x1408 .bf16) : FVec Ideal S8x1408 .f32 := k0_pay17 more cg d

/-- A tile's rows one later and two later; the projection's gradient; a running row with the tile's column sums added. -/
def d1V (dc : FVec Ideal S256x1408 .f32) (nx : FVec Ideal S8x1408 .f32) : FVec Ideal S256x1408 .f32 := k0_pay28 dc nx
def d2V (dc : FVec Ideal S256x1408 .f32) (nx : FVec Ideal S8x1408 .f32) : FVec Ideal S256x1408 .f32 := k0_pay29 dc nx
def upV (dc : FVec Ideal S256x1408 .f32) (nx : FVec Ideal S8x1408 .f32) (w : Vec Ideal S3x1408 .f32) : FVec Ideal S256x1408 .bf16 := k0_pay30 dc nx w
def tapV (dc : FVec Ideal S256x1408 .f32) (u : Vec Ideal S256x1408 .bf16) (o : Vec Ideal S1x1408 .f32) : FVec Ideal S1x1408 .f32 := k0_pay25 dc u o
def colV (dc : FVec Ideal S256x1408 .f32) (o : Vec Ideal S1x1408 .f32) : FVec Ideal S1x1408 .f32 := k0_pay26 dc o

/-! ## The body's own names for the stages -/

section Names

variable (mo : Ideal .bf16) (cg cv d u : Vec Ideal S256x1408 .bf16) (ag av da : Vec Ideal S8x1408 .bf16) (dc : FVec Ideal S256x1408 .f32)
  (nx : FVec Ideal S8x1408 .f32) (w : Vec Ideal S3x1408 .f32) (o : Vec Ideal S1x1408 .f32)

theorem dg_left : k0_pay10 cg cv d = dgV cg cv d := rfl
theorem dg_right : k0_pay45 (k0_pay37 cg) (k0_pay38 cv) (k0_pay39 d) (k0_pay40 cg) (k0_pay41 cg) k0_pay42 = dgV cg cv d := rfl
theorem dv_left : k0_pay11 cg d = dvV cg d := rfl
theorem dv_right : k0_pay46 (k0_pay37 cg) (k0_pay39 d) (k0_pay41 cg) k0_pay42 = dvV cg d := rfl
theorem nv_left : k0_pay17 mo ag da = nvV mo ag da := rfl
theorem nv_right : k0_pay54 (k0_pay49 mo da) (k0_pay52 ag) = nvV mo ag da := rfl
theorem d1_gate_left : k0_pay19 mo dc ag av da = d1V dc (ngV mo ag av da) := rfl
theorem d2_gate_left : k0_pay20 mo dc ag av da = d2V dc (ngV mo ag av da) := rfl
theorem d1_gate_right : k0_pay56 dc (k0_pay48 av) (k0_pay49 mo da) (k0_pay50 ag) (k0_pay51 ag) (k0_pay53 ag) (Named.named κ "gelu_6ca" 0x3E5B#16)
    = d1V dc (ngV mo ag av da) := rfl
theorem d1_left : k0_pay28 dc nx = d1V dc nx := rfl
theorem d1_right : k0_pay66 dc nx = d1V dc nx := rfl
theorem d2_right : k0_pay67 dc nx = d2V dc nx := rfl
theorem up_gate_left : k0_pay21 dc w (d1V dc nx) (d2V dc nx) = upV dc nx w := rfl
theorem up_left : k0_pay30 dc nx w = upV dc nx w := rfl
theorem up_gate_right : k0_pay58 dc (k0_pay48 av) (k0_pay49 mo da) (k0_pay50 ag) (k0_pay51 ag) (k0_pay53 ag) (Named.named κ "gelu_6ca" 0x3E5B#16) w
    = upV dc (ngV mo ag av da) w := rfl
theorem up_right : k0_pay68 dc nx w = upV dc nx w := rfl
theorem tap0 : k0_pay23 dc u o = tapV dc u o := rfl
theorem tap1 : k0_pay24 dc u o = tapV dc u o := rfl
theorem tap2 : k0_pay25 dc u o = tapV dc u o := rfl
theorem tap3 : k0_pay32 dc nx u o = tapV (d2V dc nx) u o := rfl
theorem tap4 : k0_pay34 dc (k0_pay31 u) (k0_pay33 o) = tapV dc u o := rfl
theorem tap5 : k0_pay35 dc (k0_pay31 u) o = tapV dc u o := rfl
theorem tap6 : k0_pay60 dc (k0_pay48 av) (k0_pay49 mo da) (k0_pay50 ag) (k0_pay51 ag) (k0_pay53 ag) (Named.named κ "gelu_6ca" 0x3E5B#16) u o
    = tapV (d2V dc (ngV mo ag av da)) u o := rfl
theorem tap7 : k0_pay62 dc (k0_pay59 u) (k0_pay61 o) = tapV dc u o := rfl
theorem tap8 : k0_pay63 dc (k0_pay59 u) o = tapV dc u o := rfl
theorem tap9 : k0_pay70 dc u o = tapV dc u o := rfl
theorem tap10 : k0_pay71 dc u o = tapV dc u o := rfl
theorem tap11 : k0_pay72 dc u o = tapV dc u o := rfl
theorem col0 : k0_pay26 dc o = colV dc o := rfl
theorem col1 : k0_pay36 dc o = colV dc o := rfl
theorem col2 : k0_pay64 dc o = colV dc o := rfl
theorem col3 : k0_pay73 dc o = colV dc o := rfl
theorem whole_du (x : Vec Ideal S256x5632 .bf16) : k0_pay74 x = x := shapeCast_self _ _

end Names

/-! ## A point's stores -/

variable (b : Blk)

def dc0 : FVec Ideal S256x1408 .f32 := dgV (ldL b.cg) (ldL b.cv) (ldL b.d)
def dc1 : FVec Ideal S256x1408 .f32 := dgV (ldR b.cg) (ldR b.cv) (ldR b.d)
def dc2 : FVec Ideal S256x1408 .f32 := dvV (ldL b.cg) (ldL b.d)
def dc3 : FVec Ideal S256x1408 .f32 := dvV (ldR b.cg) (ldR b.d)
def nx0 : FVec Ideal S8x1408 .f32 := ngV b.more (lnL b.ag) (lnL b.av) (lnL b.da)
def nx1 : FVec Ideal S8x1408 .f32 := ngV b.more (lnR b.ag) (lnR b.av) (lnR b.da)
def nx2 : FVec Ideal S8x1408 .f32 := nvV b.more (lnL b.ag) (lnL b.da)
def nx3 : FVec Ideal S8x1408 .f32 := nvV b.more (lnR b.ag) (lnR b.da)

/-- The projection's gradient: four stores, the last first. -/
def upOut : Vec Ideal S256x5632 .bf16 :=
  View.canon
    [⟨Rect.unit ![0, 4224] ![256, 1408] inb_S256x5632_S256x1408_0_4224, upV (dc3 b) (nx3 b) (lw3 b.w)⟩,
     ⟨Rect.unit ![0, 1408] ![256, 1408] inb_S256x5632_S256x1408_0_1408, upV (dc1 b) (nx1 b) (lw1 b.w)⟩,
     ⟨Rect.unit ![0, 2816] ![256, 1408] inb_S256x5632_S256x1408_0_2816, upV (dc2 b) (nx2 b) (lw2 b.w)⟩,
     ⟨Rect.unit ![0, 0] ![256, 1408] inb_S256x5632_S256x1408_0_0, upV (dc0 b) (nx0 b) (lw0 b.w)⟩]

/-- The stores into the running gradient of the taps, and of their bias, over what was there. -/
def cwL (o : Vec Ideal S3x5632 .f32) : List (View.Piece (Elt Ideal) S3x5632 .f32) :=
  [⟨Rect.unit ![2, 4224] ![1, 1408] inb_S3x5632_S1x1408_2_4224, tapV (dc3 b) (ldR b.uv) (View.ld o (Rect.unit ![2, 4224] ![1, 1408] inb_S3x5632_S1x1408_2_4224))⟩,
   ⟨Rect.unit ![1, 4224] ![1, 1408] inb_S3x5632_S1x1408_1_4224, tapV (d1V (dc3 b) (nx3 b)) (ldR b.uv) (View.ld o (Rect.unit ![1, 4224] ![1, 1408] inb_S3x5632_S1x1408_1_4224))⟩,
   ⟨Rect.unit ![0, 4224] ![1, 1408] inb_S3x5632_S1x1408_0_4224, tapV (d2V (dc3 b) (nx3 b)) (ldR b.uv) (View.ld o (Rect.unit ![0, 4224] ![1, 1408] inb_S3x5632_S1x1408_0_4224))⟩,
   ⟨Rect.unit ![2, 1408] ![1, 1408] inb_S3x5632_S1x1408_2_1408, tapV (dc1 b) (ldR b.ug) (View.ld o (Rect.unit ![2, 1408] ![1, 1408] inb_S3x5632_S1x1408_2_1408))⟩,
   ⟨Rect.unit ![1, 1408] ![1, 1408] inb_S3x5632_S1x1408_1_1408, tapV (d1V (dc1 b) (nx1 b)) (ldR b.ug) (View.ld o (Rect.unit ![1, 1408] ![1, 1408] inb_S3x5632_S1x1408_1_1408))⟩,
   ⟨Rect.unit ![0, 1408] ![1, 1408] inb_S3x5632_S1x1408_0_1408, tapV (d2V (dc1 b) (nx1 b)) (ldR b.ug) (View.ld o (Rect.unit ![0, 1408] ![1, 1408] inb_S3x5632_S1x1408_0_1408))⟩,
   ⟨Rect.unit ![2, 2816] ![1, 1408] inb_S3x5632_S1x1408_2_2816, tapV (dc2 b) (ldL b.uv) (View.ld o (Rect.unit ![2, 2816] ![1, 1408] inb_S3x5632_S1x1408_2_2816))⟩,
   ⟨Rect.unit ![1, 2816] ![1, 1408] inb_S3x5632_S1x1408_1_2816, tapV (d1V (dc2 b) (nx2 b)) (ldL b.uv) (View.ld o (Rect.unit ![1, 2816] ![1, 1408] inb_S3x5632_S1x1408_1_2816))⟩,
   ⟨Rect.unit ![0, 2816] ![1, 1408] inb_S3x5632_S1x1408_0_2816, tapV (d2V (dc2 b) (nx2 b)) (ldL b.uv) (View.ld o (Rect.unit ![0, 2816] ![1, 1408] inb_S3x5632_S1x1408_0_2816))⟩,
   ⟨Rect.unit ![2, 0] ![1, 1408] inb_S3x5632_S1x1408_2_0, tapV (dc0 b) (ldL b.ug) (View.ld o (Rect.unit ![2, 0] ![1, 1408] inb_S3x5632_S1x1408_2_0))⟩,
   ⟨Rect.unit ![1, 0] ![1, 1408] inb_S3x5632_S1x1408_1_0, tapV (d1V (dc0 b) (nx0 b)) (ldL b.ug) (View.ld o (Rect.unit ![1, 0] ![1, 1408] inb_S3x5632_S1x1408_1_0))⟩,
   ⟨Rect.unit ![0, 0] ![1, 1408] inb_S3x5632_S1x1408_0_0, tapV (d2V (dc0 b) (nx0 b)) (ldL b.ug) (View.ld o (Rect.unit ![0, 0] ![1, 1408] inb_S3x5632_S1x1408_0_0))⟩]
def cbL (o : Vec Ideal S1x5632 .f32) : List (View.Piece (Elt Ideal) S1x5632 .f32) :=
  [⟨Rect.unit ![0, 4224] ![1, 1408] inb_S1x5632_S1x1408_0_4224, colV (dc3 b) (View.ld o (Rect.unit ![0, 4224] ![1, 1408] inb_S1x5632_S1x1408_0_4224))⟩,
   ⟨Rect.unit ![0, 1408] ![1, 1408] inb_S1x5632_S1x1408_0_1408, colV (dc1 b) (View.ld o (Rect.unit ![0, 1408] ![1, 1408] inb_S1x5632_S1x1408_0_1408))⟩,
   ⟨Rect.unit ![0, 2816] ![1, 1408] inb_S1x5632_S1x1408_0_2816, colV (dc2 b) (View.ld o (Rect.unit ![0, 2816] ![1, 1408] inb_S1x5632_S1x1408_0_2816))⟩,
   ⟨Rect.unit ![0, 0] ![1, 1408] inb_S1x5632_S1x1408_0_0, colV (dc0 b) (View.ld o (Rect.unit ![0, 0] ![1, 1408] inb_S1x5632_S1x1408_0_0))⟩]

/-- The norm's input gradient, and the running gradient of its gain. -/
def dxOut : Vec Ideal S256x1024 .f32 := k0_pay78 (upOut b) b.wu b.x b.g b.res
def ggOut (o : Vec Ideal S1x1024 .f32) : Vec Ideal S1x1024 .f32 := k0_pay79 (upOut b) b.wu b.x o

/-- The fills the first point starts from. -/
def fill3 : View.Piece (Elt Ideal) S3x5632 .f32 := ⟨Rect.unit ![0, 0] ![3, 5632] inb_S3x5632_S3x5632_0_0, k0_pay1 (F := Ideal)⟩
def fill1 : View.Piece (Elt Ideal) S1x5632 .f32 := ⟨Rect.unit ![0, 0] ![1, 5632] inb_S1x5632_S1x5632_0_0, k0_pay2 (F := Ideal)⟩

/-- A load of the whole of what four stores left. -/
theorem whole_up (v : View sig .tc .vmem S256x5632 .bf16) (L : List (View.Piece (Elt Ideal) S256x5632 .bf16)) :
    v.readCov L (Rect.unit ![0, 0] ![256, 5632] inb_S256x5632_S256x5632_0_0).toLoadRect = View.canon L := by
  rw [View.readCov_eq_canon']
  exact View.ld_unit_lit' _ _ (by decide)

variable (m : (ℓ : Loc nD τ sig) → Buf (Elt Ideal) ℓ) (c : Dev nD)

/-- The blocks at a point. -/
def blkAt (t : Fin cfg0.N) : Blk :=
  ⟨iblk m c 0 t, iblk m c 1 t, iblk m c 2 t, iblk m c 3 t, iblk m c 4 t, iblk m c 5 t, iblk m c 6 t, iblk m c 7 t, iblk m c 8 t, iblk m c 9 t,
   iblk m c 10 t, iblk m c 11 t, iblk m c 12 t, k0_pay4 (grid0.coords t)⟩

/-- What the point before left. -/
abbrev prev (t : Fin cfg0.N) := outsAt0 m c (t.val - 1) (Nat.lt_of_le_of_lt (Nat.sub_le _ _) t.isLt)

/-- The first point: every running sum starts from zero. -/
theorem stores_A (t : Fin cfg0.N) (h0 : t.val % 32 = 0) :
    (outsAt0 m c t.val t.isLt).1 = upOut (blkAt m c t) ∧
    (outsAt0 m c t.val t.isLt).2.1 = View.canon (cwL (blkAt m c t) (k0_pay1 (F := Ideal)) ++ [fill3]) ∧
    (outsAt0 m c t.val t.isLt).2.2.1 = View.canon (cbL (blkAt m c t) (k0_pay2 (F := Ideal)) ++ [fill1]) ∧
    (outsAt0 m c t.val t.isLt).2.2.2.1 = dxOut (blkAt m c t) ∧
    (outsAt0 m c t.val t.isLt).2.2.2.2 = ggOut (blkAt m c t) (k0_pay3 (F := Ideal)) := by
  refine ⟨?_, ?_, ?_, ?_, ?_⟩ <;>
    (rw [outsAt0_A m c t h0]
     frame_open
     try simp (disch := decide) only [↓ View.readCov_skip, ↓ View.readCov_cons_toLoadRect, ↓ View.readCov_fill]
     frame_out
     try rw [whole_up]
     simp only [dg_left, dg_right, dv_left, dv_right, nv_left, nv_right, d1_gate_left, d2_gate_left, d1_gate_right, d1_left, d1_right, d2_right,
       up_gate_left, up_left, up_gate_right, up_right, tap0, tap1, tap2, tap3, tap4, tap5, tap6, tap7, tap8, tap9, tap10, tap11, col0, col1, col2, col3, whole_du]
     sl_kernel_rfl)

/-- Every later point adds to what the point before left. -/
theorem stores_B (t : Fin cfg0.N) (h0 : ¬t.val % 32 = 0) :
    (outsAt0 m c t.val t.isLt).1 = upOut (blkAt m c t) ∧
    (outsAt0 m c t.val t.isLt).2.1 = View.canon (cwL (blkAt m c t) (prev m c t).2.1) ∧
    (outsAt0 m c t.val t.isLt).2.2.1 = View.canon (cbL (blkAt m c t) (prev m c t).2.2.1) ∧
    (outsAt0 m c t.val t.isLt).2.2.2.1 = dxOut (blkAt m c t) ∧
    (outsAt0 m c t.val t.isLt).2.2.2.2 = ggOut (blkAt m c t) (prev m c t).2.2.2.2 := by
  refine ⟨?_, ?_, ?_, ?_, ?_⟩ <;>
    (rw [outsAt0_B m c t h0]
     frame_out
     try rw [whole_up]
     simp only [dg_left, dg_right, dv_left, dv_right, nv_left, nv_right, d1_gate_left, d2_gate_left, d1_gate_right, d1_left, d1_right, d2_right,
       up_gate_left, up_left, up_gate_right, up_right, tap0, tap1, tap2, tap3, tap4, tap5, tap6, tap7, tap8, tap9, tap10, tap11, col0, col1, col2, col3, whole_du]
     sl_kernel_rfl)

end Cert.FfnStage
-- ==== Proof.FfnPoint.lean ====
/- The fifth claim's kernel: what a grid point stores, in closed form. -/
module

public import proofs.«01_k».proof.Proof.FfnStage
public import proofs.«01_k».proof.Proof.FfnSpec
public import Idealize.ShloMosaic.Lib.Pointwise

@[expose] public section

set_option maxRecDepth 16384

noncomputable section

namespace Cert.FfnStage

open Idealize.ShloMosaic Idealize.ShloMosaic.TcCoe Idealize.ShloMosaic.Tactic Idealize.SL.Sem
open Cert.Kernel5Ideal Cert.Kernel5Ideal.Gen Cert.GeluNorm Cert.RowGrad
open Cert.FfnSpec (Args lo hi up conv dgate dval dconv dup dnrm after dconv_lo dconv_hi)

/-- The four named constants. -/
theorem named_c : (Named.named κ "gelu_c" 0x3F4C#16 : Ideal .bf16) = ((gc : ℝ) : EReal) := rfl
theorem named_a : (Named.named κ "gelu_a" 0x3D37#16 : Ideal .bf16) = ((ga : ℝ) : EReal) := rfl
theorem named_2c : (Named.named κ "gelu_2c" 0x3FCC#16 : Ideal .bf16) = ((g2 : ℝ) : EReal) := rfl
theorem named_6ca : (Named.named κ "gelu_6ca" 0x3E5B#16 : Ideal .bf16) = ((g6 : ℝ) : EReal) := rfl

/-! ## The stages at an index -/

section At

variable (cg cv d : Vec Ideal S256x1408 .bf16) (ag av da : Vec Ideal S8x1408 .bf16) (mo : Ideal .bf16) (r : Fin 256) (j : Fin 8) (l : Fin 1408)

theorem gate_at : k0_pay8 (F := Ideal) cg (ix2 r l) = gate (cg (ix2 r l)) := by
  pointwise [k0_pay8, k0_pay7, k0_pay5]
  simp only [named_c, named_a, gate, half]

theorem gate'_at : k0_pay15 (F := Ideal) ag (ix2 j l) = gate (ag (ix2 j l)) := by
  pointwise [k0_pay15, k0_pay14, k0_pay12]
  simp only [named_c, named_a, gate, half]

theorem dg_at : dgV cg cv d (ix2 r l) = d (ix2 r l) * cv (ix2 r l) * geluD (cg (ix2 r l)) := by
  pointwise [dgV, k0_pay10, k0_pay9, k0_pay7, k0_pay6, k0_pay5]
  simp only [named_6ca, named_2c, gate_at, gelu, geluD]

theorem dv_at : dvV cg d (ix2 r l) = d (ix2 r l) * gelu (cg (ix2 r l)) := by
  pointwise [dvV, k0_pay11, k0_pay9, k0_pay6, k0_pay5]
  simp only [gate_at, gelu]

theorem ng_at : ngV mo ag av da (ix2 j l) = da (ix2 j l) * mo * av (ix2 j l) * geluD (ag (ix2 j l)) := by
  pointwise [ngV, k0_pay16, k0_pay14, k0_pay13, k0_pay12]
  simp only [named_6ca, named_2c, gate'_at, gelu, geluD]

theorem nv_at : nvV mo ag da (ix2 j l) = da (ix2 j l) * mo * gelu (ag (ix2 j l)) := by
  pointwise [nvV, k0_pay17, k0_pay16, k0_pay13, k0_pay12]
  simp only [gate'_at, gelu]

variable (dc : FVec Ideal S256x1408 .f32) (nx : FVec Ideal S8x1408 .f32) (u : Vec Ideal S256x1408 .bf16)
  (o : Vec Ideal S1x1408 .f32) (w : Vec Ideal S3x1408 .f32)

theorem d1_at : d1V dc nx (ix2 r l) = if h : r.val + 1 < 256 then dc (ix2 ⟨r.val + 1, h⟩ l) else nx (ix2 ⟨r.val + 1 - 256, by omega⟩ l) := by
  pointwise [d1V, k0_pay28, k0_pay27]
  refine dite_congr (propext (by omega)) (fun _ => ?_) (fun _ => ?_)
  · exact congrArg (fun i => dc (ix2 i l)) (Fin.ext (by dsimp only; omega))
  · exact congrArg (fun i => nx (ix2 i l)) (Fin.ext (by dsimp only; omega))

theorem d2_at : d2V dc nx (ix2 r l) = if h : r.val + 2 < 256 then dc (ix2 ⟨r.val + 2, h⟩ l) else nx (ix2 ⟨r.val + 2 - 256, by omega⟩ l) := by
  pointwise [d2V, k0_pay29, k0_pay27]
  refine dite_congr (propext (by omega)) (fun _ => ?_) (fun _ => ?_)
  · exact congrArg (fun i => dc (ix2 i l)) (Fin.ext (by dsimp only; omega))
  · exact congrArg (fun i => nx (ix2 i l)) (Fin.ext (by dsimp only; omega))

theorem up_at : upV dc nx w (ix2 r l) = w (ix2 2 l) * dc (ix2 r l) + w (ix2 1 l) * d1V dc nx (ix2 r l) + w (ix2 0 l) * d2V dc nx (ix2 r l) := by
  refine (show upV dc nx w (ix2 r l) = _ * dc (ix2 r l) + _ * k0_pay28 dc nx (ix2 r l) + _ * k0_pay29 dc nx (ix2 r l) from rfl).trans ?_
  refine congrArg₂ (· + ·) (congrArg₂ (· + ·) (congrArg (· * _) ?_) (congrArg (· * _) ?_)) (congrArg (· * _) ?_) <;> pointwise []

theorem tap_at : tapV dc u o (ix2 0 l) = o (ix2 0 l) + ∑ r, dc (ix2 r l) * u (ix2 r l) := by
  pointwise [tapV, k0_pay25, k0_pay22]

theorem col_at : colV dc o (ix2 0 l) = o (ix2 0 l) + ∑ r, dc (ix2 r l) := by
  pointwise [colV, k0_pay26]

end At

/-! ## A point's blocks -/

/-- Row `r` of point `p`'s block; column `l` of half `k` of the gate's columns. -/
def row (p : Fin 32) (r : Fin 256) : Fin 8192 := ⟨256 * p.val + r.val, by omega⟩
def tl (k : Fin 2) (l : Fin 1408) : Fin 2816 := ⟨1408 * k.val + l.val, by omega⟩

/-- A point's blocks hold the arguments' rows, and the forward lines' values on them. -/
structure At (b : Blk) (a : Args) (p : Fin 32) : Prop where
  ug : ∀ r l, b.ug (ix2 r l) = up a (lo l) (row p r)
  uv : ∀ r l, b.uv (ix2 r l) = up a (hi l) (row p r)
  cg : ∀ r l, b.cg (ix2 r l) = conv a (lo l) (row p r)
  cv : ∀ r l, b.cv (ix2 r l) = conv a (hi l) (row p r)
  d : ∀ r l, b.d (ix2 r l) = a.d (ix2 (row p r) l)
  ag : ∀ (j : Fin 8) l (h : 256 * p.val + (256 + j.val) < 8192), b.ag (ix2 j l) = conv a (lo l) ⟨_, h⟩
  av : ∀ (j : Fin 8) l (h : 256 * p.val + (256 + j.val) < 8192), b.av (ix2 j l) = conv a (hi l) ⟨_, h⟩
  da : ∀ (j : Fin 8) l (h : 256 * p.val + (256 + j.val) < 8192), b.da (ix2 j l) = a.d (ix2 ⟨_, h⟩ l)
  w : ∀ j n, b.w (ix2 j n) = a.cw (ix2 j n)
  wu : ∀ k n, b.wu (ix2 k n) = a.wu (ix2 k n)
  x : ∀ r k, b.x (ix2 r k) = a.x (ix2 (row p r) k)
  g : ∀ k, b.g (ix2 0 k) = a.g (ix1 k)
  res : ∀ r k, b.res (ix2 r k) = a.res (ix2 (row p r) k)
  more : b.more = if p.val + 1 < 32 then 1 else 0

/-- Two tiles of the columns of a block. -/
theorem ldL_at (x : Vec Ideal S256x2816 .bf16) (r : Fin 256) (l : Fin 1408) : ldL x (ix2 r l) = x (ix2 r (tl 0 l)) := by
  pointwise [ldL, tl]
theorem ldR_at (x : Vec Ideal S256x2816 .bf16) (r : Fin 256) (l : Fin 1408) : ldR x (ix2 r l) = x (ix2 r (tl 1 l)) := by
  pointwise [ldR, tl]
theorem lnL_at (x : Vec Ideal S8x2816 .bf16) (r : Fin 8) (l : Fin 1408) : lnL x (ix2 r l) = x (ix2 r (tl 0 l)) := by
  pointwise [lnL, tl]
theorem lnR_at (x : Vec Ideal S8x2816 .bf16) (r : Fin 8) (l : Fin 1408) : lnR x (ix2 r l) = x (ix2 r (tl 1 l)) := by
  pointwise [lnR, tl]
theorem lw0_at (x : Vec Ideal S3x5632 .f32) (j : Fin 3) (l : Fin 1408) : lw0 x (ix2 j l) = x (ix2 j (lo (tl 0 l))) := by
  pointwise [lw0, tl, lo]
theorem lw1_at (x : Vec Ideal S3x5632 .f32) (j : Fin 3) (l : Fin 1408) : lw1 x (ix2 j l) = x (ix2 j (lo (tl 1 l))) := by
  pointwise [lw1, tl, lo]
theorem lw2_at (x : Vec Ideal S3x5632 .f32) (j : Fin 3) (l : Fin 1408) : lw2 x (ix2 j l) = x (ix2 j (hi (tl 0 l))) := by
  pointwise [lw2, tl, hi]
theorem lw3_at (x : Vec Ideal S3x5632 .f32) (j : Fin 3) (l : Fin 1408) : lw3 x (ix2 j l) = x (ix2 j (hi (tl 1 l))) := by
  pointwise [lw3, tl, hi]
  exact congrArg (fun n => x (ix2 j n)) (Fin.ext (by dsimp only; omega))

/-- A column of an array on the eight rows after a block, zero outside the array. -/
def next (f : Fin 8192 → EReal) (p : Fin 32) (j : Fin 8) : EReal :=
  if h : 256 * p.val + (256 + j.val) < 8192 then f ⟨256 * p.val + (256 + j.val), h⟩ else 0

section Shift

variable {dc : FVec Ideal S256x1408 .f32} {nx : FVec Ideal S8x1408 .f32} {f : Fin 8192 → EReal} {p : Fin 32} {l : Fin 1408}
  (hd : ∀ r, dc (ix2 r l) = f (row p r)) (hn : ∀ j, nx (ix2 j l) = next f p j) (r : Fin 256)
include hd hn

theorem shift1 : d1V dc nx (ix2 r l) = after f 1 (row p r) := by
  rw [d1_at]
  unfold after
  split
  · rw [hd, dif_pos (by show 256 * p.val + r.val + 1 < 8192; omega)]
    exact congrArg f (Fin.ext (by show 256 * p.val + (r.val + 1) = 256 * p.val + r.val + 1; omega))
  · rw [hn]
    refine dite_congr (propext ?_) (fun _ => congrArg f (Fin.ext ?_)) (fun _ => rfl)
    · show 256 * p.val + (256 + (r.val + 1 - 256)) < 8192 ↔ 256 * p.val + r.val + 1 < 8192
      omega
    · show 256 * p.val + (256 + (r.val + 1 - 256)) = 256 * p.val + r.val + 1
      omega

theorem shift2 : d2V dc nx (ix2 r l) = after f 2 (row p r) := by
  rw [d2_at]
  unfold after
  split
  · rw [hd, dif_pos (by show 256 * p.val + r.val + 2 < 8192; omega)]
    exact congrArg f (Fin.ext (by show 256 * p.val + (r.val + 2) = 256 * p.val + r.val + 2; omega))
  · rw [hn]
    refine dite_congr (propext ?_) (fun _ => congrArg f (Fin.ext ?_)) (fun _ => rfl)
    · show 256 * p.val + (256 + (r.val + 2 - 256)) < 8192 ↔ 256 * p.val + r.val + 2 < 8192
      omega
    · show 256 * p.val + (256 + (r.val + 2 - 256)) = 256 * p.val + r.val + 2
      omega

end Shift

variable {b : Blk} {a : Args} {p : Fin 32} (h : At b a p)
include h

theorem dc0_at (r : Fin 256) (l : Fin 1408) : dc0 b (ix2 r l) = dconv a (lo (tl 0 l)) (row p r) := by
  rw [dc0, dg_at, ldL_at, ldL_at, ldL_at, h.cg, h.cv, h.d, dconv_lo, dgate]
theorem dc1_at (r : Fin 256) (l : Fin 1408) : dc1 b (ix2 r l) = dconv a (lo (tl 1 l)) (row p r) := by
  rw [dc1, dg_at, ldR_at, ldR_at, ldR_at, h.cg, h.cv, h.d, dconv_lo, dgate]
theorem dc2_at (r : Fin 256) (l : Fin 1408) : dc2 b (ix2 r l) = dconv a (hi (tl 0 l)) (row p r) := by
  rw [dc2, dv_at, ldL_at, ldL_at, h.cg, h.d, dconv_hi, dval]
theorem dc3_at (r : Fin 256) (l : Fin 1408) : dc3 b (ix2 r l) = dconv a (hi (tl 1 l)) (row p r) := by
  rw [dc3, dv_at, ldR_at, ldR_at, h.cg, h.d, dconv_hi, dval]

/-- The rows after the block: their cotangent, or zero past the last block. -/
theorem next_gate (k : Fin 2) (j : Fin 8) (l : Fin 1408) :
    b.da (ix2 j (tl k l)) * b.more * b.av (ix2 j (tl k l)) * geluD (b.ag (ix2 j (tl k l))) = next (dconv a (lo (tl k l))) p j := by
  unfold next
  split
  · next hj => rw [h.more, if_pos (by omega), mul_one, h.da j _ hj, h.av j _ hj, h.ag j _ hj, dconv_lo, dgate]
  · next hj => rw [h.more, if_neg (by omega), mul_zero, zero_mul, zero_mul]

theorem next_val (k : Fin 2) (j : Fin 8) (l : Fin 1408) :
    b.da (ix2 j (tl k l)) * b.more * gelu (b.ag (ix2 j (tl k l))) = next (dconv a (hi (tl k l))) p j := by
  unfold next
  split
  · next hj => rw [h.more, if_pos (by omega), mul_one, h.da j _ hj, h.ag j _ hj, dconv_hi, dval]
  · next hj => rw [h.more, if_neg (by omega), mul_zero, zero_mul]

theorem nx0_at (j : Fin 8) (l : Fin 1408) : nx0 b (ix2 j l) = next (dconv a (lo (tl 0 l))) p j := by
  rw [nx0, ng_at, lnL_at, lnL_at, lnL_at, next_gate h]
theorem nx1_at (j : Fin 8) (l : Fin 1408) : nx1 b (ix2 j l) = next (dconv a (lo (tl 1 l))) p j := by
  rw [nx1, ng_at, lnR_at, lnR_at, lnR_at, next_gate h]
theorem nx2_at (j : Fin 8) (l : Fin 1408) : nx2 b (ix2 j l) = next (dconv a (hi (tl 0 l))) p j := by
  rw [nx2, nv_at, lnL_at, lnL_at, next_val h]
theorem nx3_at (j : Fin 8) (l : Fin 1408) : nx3 b (ix2 j l) = next (dconv a (hi (tl 1 l))) p j := by
  rw [nx3, nv_at, lnR_at, lnR_at, next_val h]

theorem up_tile {dc : FVec Ideal S256x1408 .f32} {nx : FVec Ideal S8x1408 .f32} {w : Vec Ideal S3x1408 .f32} {n : Fin 5632} {l : Fin 1408}
    (hd : ∀ r, dc (ix2 r l) = dconv a n (row p r)) (hn : ∀ j, nx (ix2 j l) = next (dconv a n) p j) (hw : ∀ j, w (ix2 j l) = b.w (ix2 j n)) (r : Fin 256) :
    upV dc nx w (ix2 r l) = dup a n (row p r) := by
  rw [up_at, shift1 hd hn, shift2 hd hn, hd, hw, hw, hw, h.w, h.w, h.w, dup]

/-- The projection's gradient that a point stores. -/
theorem upOut_at (r : Fin 256) (n : Fin 5632) : upOut b (ix2 r n) = dup a n (row p r) := by
  unfold upOut
  canon_tiles x hx
  · idx_vars x
    obtain rfl : x0 = r := Fin.ext hx0.symm
    obtain rfl : n = hi (tl 1 x1) := Fin.ext (hx1.trans (by show 4224 + x1.val = 2816 + (1408 * 1 + x1.val); omega))
    exact up_tile h (fun r => dc3_at h r x1) (fun j => nx3_at h j x1) (fun j => lw3_at b.w j x1) x0
  · idx_vars x
    obtain rfl : x0 = r := Fin.ext hx0.symm
    obtain rfl : n = lo (tl 1 x1) := Fin.ext (hx1.trans (by show 1408 + x1.val = 1408 * 1 + x1.val; omega))
    exact up_tile h (fun r => dc1_at h r x1) (fun j => nx1_at h j x1) (fun j => lw1_at b.w j x1) x0
  · idx_vars x
    obtain rfl : x0 = r := Fin.ext hx0.symm
    obtain rfl : n = hi (tl 0 x1) := Fin.ext (hx1.trans (by show 2816 + x1.val = 2816 + (1408 * 0 + x1.val); omega))
    exact up_tile h (fun r => dc2_at h r x1) (fun j => nx2_at h j x1) (fun j => lw2_at b.w j x1) x0
  · idx_vars x
    obtain rfl : x0 = r := Fin.ext hx0.symm
    obtain rfl : n = lo (tl 0 x1) := Fin.ext (hx1.trans (by show x1.val = 1408 * 0 + x1.val; omega))
    exact up_tile h (fun r => dc0_at h r x1) (fun j => nx0_at h j x1) (fun j => lw0_at b.w j x1) x0

omit h in
/-- The terms a block adds to the gradients of the taps and of their bias. -/
def cwG (a : Args) (p : Fin 32) (o : Vec Ideal S3x5632 .f32) (y : S3x5632.Idx) : EReal :=
  o y + ∑ r : Fin 256, after (dconv a (y 1)) (2 - (y 0).val) (row p r) * up a (y 1) (row p r)
omit h in
def cbG (a : Args) (p : Fin 32) (o : Vec Ideal S1x5632 .f32) (y : S1x5632.Idx) : EReal := o y + ∑ r : Fin 256, dconv a (y 1) (row p r)

omit h in
theorem tap_piece {dc : FVec Ideal S256x1408 .f32} {u : Vec Ideal S256x1408 .bf16} {o' : Vec Ideal S1x1408 .f32} {o : Vec Ideal S3x5632 .f32}
    {l : Fin 1408} (j : Fin 3) (n : Fin 5632) {y : S3x5632.Idx} (ho : o' (ix2 0 l) = o y) (h0 : (y 0).val = j.val) (h1 : (y 1).val = n.val)
    (hd : ∀ r, dc (ix2 r l) = after (dconv a n) (2 - j.val) (row p r)) (hu : ∀ r, u (ix2 r l) = up a n (row p r)) :
    tapV dc u o' (ix2 0 l) = cwG a p o y := by
  obtain rfl : y = ix2 j n := by
    funext b
    fin_cases b
    · exact Fin.ext h0
    · exact Fin.ext h1
  rw [tap_at, ho]
  exact congrArg (_ + ·) (Finset.sum_congr rfl fun r _ => congrArg₂ (· * ·) (hd r) (hu r))

omit h in
theorem col_piece {dc : FVec Ideal S256x1408 .f32} {o' : Vec Ideal S1x1408 .f32} {o : Vec Ideal S1x5632 .f32}
    {l : Fin 1408} (n : Fin 5632) {y : S1x5632.Idx} (ho : o' (ix2 0 l) = o y) (h1 : (y 1).val = n.val) (hd : ∀ r, dc (ix2 r l) = dconv a n (row p r)) :
    colV dc o' (ix2 0 l) = cbG a p o y := by
  obtain rfl : y = ix2 0 n := by
    funext b
    fin_cases b
    · exact Subsingleton.elim (α := Fin 1) _ _
    · exact Fin.ext h1
  rw [col_at, ho]
  exact congrArg (_ + ·) (Finset.sum_congr rfl fun r _ => hd r)

theorem u0_at (r : Fin 256) (l : Fin 1408) : ldL b.ug (ix2 r l) = up a (lo (tl 0 l)) (row p r) := by rw [ldL_at, h.ug]
theorem u1_at (r : Fin 256) (l : Fin 1408) : ldR b.ug (ix2 r l) = up a (lo (tl 1 l)) (row p r) := by rw [ldR_at, h.ug]
theorem u2_at (r : Fin 256) (l : Fin 1408) : ldL b.uv (ix2 r l) = up a (hi (tl 0 l)) (row p r) := by rw [ldL_at, h.uv]
theorem u3_at (r : Fin 256) (l : Fin 1408) : ldR b.uv (ix2 r l) = up a (hi (tl 1 l)) (row p r) := by rw [ldR_at, h.uv]

theorem cwOut_at (o : Vec Ideal S3x5632 .f32) (L' : List (View.Piece (Elt Ideal) S3x5632 .f32)) (y : S3x5632.Idx) :
    View.canon (cwL b o ++ L') y = cwG a p o y := by
  refine View.canon_append_of_piecesOf (cwG a p o) L' (cwL b o) ⟨?_, ?_, ?_, ?_, ?_, ?_, ?_, ?_, ?_, ?_, ?_, ?_, trivial⟩ y ?_
  · intro x
    (idx_vars x)
    obtain rfl : x0 = 0 := Subsingleton.elim _ _
    exact tap_piece 2 (hi (tl 1 x1)) rfl rfl (by show 4224 + 1 * x1.val = 2816 + (1408 * 1 + x1.val); omega) (fun r => (dc3_at h r x1).trans (FfnSpec.after_zero _ _).symm) (fun r => u3_at h r x1)
  · intro x
    (idx_vars x)
    obtain rfl : x0 = 0 := Subsingleton.elim _ _
    exact tap_piece 1 (hi (tl 1 x1)) rfl rfl (by show 4224 + 1 * x1.val = 2816 + (1408 * 1 + x1.val); omega) (fun r => shift1 (fun r => dc3_at h r x1) (fun j => nx3_at h j x1) r) (fun r => u3_at h r x1)
  · intro x
    (idx_vars x)
    obtain rfl : x0 = 0 := Subsingleton.elim _ _
    exact tap_piece 0 (hi (tl 1 x1)) rfl rfl (by show 4224 + 1 * x1.val = 2816 + (1408 * 1 + x1.val); omega) (fun r => shift2 (fun r => dc3_at h r x1) (fun j => nx3_at h j x1) r) (fun r => u3_at h r x1)
  · intro x
    (idx_vars x)
    obtain rfl : x0 = 0 := Subsingleton.elim _ _
    exact tap_piece 2 (lo (tl 1 x1)) rfl rfl (by show 1408 + 1 * x1.val = 1408 * 1 + x1.val; omega) (fun r => (dc1_at h r x1).trans (FfnSpec.after_zero _ _).symm) (fun r => u1_at h r x1)
  · intro x
    (idx_vars x)
    obtain rfl : x0 = 0 := Subsingleton.elim _ _
    exact tap_piece 1 (lo (tl 1 x1)) rfl rfl (by show 1408 + 1 * x1.val = 1408 * 1 + x1.val; omega) (fun r => shift1 (fun r => dc1_at h r x1) (fun j => nx1_at h j x1) r) (fun r => u1_at h r x1)
  · intro x
    (idx_vars x)
    obtain rfl : x0 = 0 := Subsingleton.elim _ _
    exact tap_piece 0 (lo (tl 1 x1)) rfl rfl (by show 1408 + 1 * x1.val = 1408 * 1 + x1.val; omega) (fun r => shift2 (fun r => dc1_at h r x1) (fun j => nx1_at h j x1) r) (fun r => u1_at h r x1)
  · intro x
    (idx_vars x)
    obtain rfl : x0 = 0 := Subsingleton.elim _ _
    exact tap_piece 2 (hi (tl 0 x1)) rfl rfl (by show 2816 + 1 * x1.val = 2816 + (1408 * 0 + x1.val); omega) (fun r => (dc2_at h r x1).trans (FfnSpec.after_zero _ _).symm) (fun r => u2_at h r x1)
  · intro x
    (idx_vars x)
    obtain rfl : x0 = 0 := Subsingleton.elim _ _
    exact tap_piece 1 (hi (tl 0 x1)) rfl rfl (by show 2816 + 1 * x1.val = 2816 + (1408 * 0 + x1.val); omega) (fun r => shift1 (fun r => dc2_at h r x1) (fun j => nx2_at h j x1) r) (fun r => u2_at h r x1)
  · intro x
    (idx_vars x)
    obtain rfl : x0 = 0 := Subsingleton.elim _ _
    exact tap_piece 0 (hi (tl 0 x1)) rfl rfl (by show 2816 + 1 * x1.val = 2816 + (1408 * 0 + x1.val); omega) (fun r => shift2 (fun r => dc2_at h r x1) (fun j => nx2_at h j x1) r) (fun r => u2_at h r x1)
  · intro x
    (idx_vars x)
    obtain rfl : x0 = 0 := Subsingleton.elim _ _
    exact tap_piece 2 (lo (tl 0 x1)) rfl rfl (by show 0 + 1 * x1.val = 1408 * 0 + x1.val; omega) (fun r => (dc0_at h r x1).trans (FfnSpec.after_zero _ _).symm) (fun r => u0_at h r x1)
  · intro x
    (idx_vars x)
    obtain rfl : x0 = 0 := Subsingleton.elim _ _
    exact tap_piece 1 (lo (tl 0 x1)) rfl rfl (by show 0 + 1 * x1.val = 1408 * 0 + x1.val; omega) (fun r => shift1 (fun r => dc0_at h r x1) (fun j => nx0_at h j x1) r) (fun r => u0_at h r x1)
  · intro x
    (idx_vars x)
    obtain rfl : x0 = 0 := Subsingleton.elim _ _
    exact tap_piece 0 (lo (tl 0 x1)) rfl rfl (by show 0 + 1 * x1.val = 1408 * 0 + x1.val; omega) (fun r => shift2 (fun r => dc0_at h r x1) (fun j => nx0_at h j x1) r) (fun r => u0_at h r x1)
  · (idx_vars y)
    have hj : (y0 : ℕ) = 0 ∨ (y0 : ℕ) = 1 ∨ (y0 : ℕ) = 2 := by omega
    simp only [cwL, List.mem_cons, List.not_mem_nil, or_false, exists_eq_or_imp, exists_eq_left, Rect.mem_set_unit, Fin.forall_fin_two]
    dsimp
    omega

theorem cbOut_at (o : Vec Ideal S1x5632 .f32) (L' : List (View.Piece (Elt Ideal) S1x5632 .f32)) (y : S1x5632.Idx) :
    View.canon (cbL b o ++ L') y = cbG a p o y := by
  refine View.canon_append_of_piecesOf (cbG a p o) L' (cbL b o) ⟨?_, ?_, ?_, ?_, trivial⟩ y ?_
  · intro x
    (idx_vars x)
    obtain rfl : x0 = 0 := Subsingleton.elim _ _
    exact col_piece (hi (tl 1 x1)) rfl (by show 4224 + 1 * x1.val = 2816 + (1408 * 1 + x1.val); omega) (fun r => dc3_at h r x1)
  · intro x
    (idx_vars x)
    obtain rfl : x0 = 0 := Subsingleton.elim _ _
    exact col_piece (lo (tl 1 x1)) rfl (by show 1408 + 1 * x1.val = 1408 * 1 + x1.val; omega) (fun r => dc1_at h r x1)
  · intro x
    (idx_vars x)
    obtain rfl : x0 = 0 := Subsingleton.elim _ _
    exact col_piece (hi (tl 0 x1)) rfl (by show 2816 + 1 * x1.val = 2816 + (1408 * 0 + x1.val); omega) (fun r => dc2_at h r x1)
  · intro x
    (idx_vars x)
    obtain rfl : x0 = 0 := Subsingleton.elim _ _
    exact col_piece (lo (tl 0 x1)) rfl (by show 0 + 1 * x1.val = 1408 * 0 + x1.val; omega) (fun r => dc0_at h r x1)
  · (idx_vars y)
    simp only [cbL, List.mem_cons, List.not_mem_nil, or_false, exists_eq_or_imp, exists_eq_left, Rect.mem_set_unit, Fin.forall_fin_two]
    dsimp
    omega

/-! ## The norm -/

theorem prod_at (r : Fin 256) (k : Fin 1024) : k0_pay75 (F := Ideal) (upOut b) b.wu (ix2 r k) = dnrm a (row p r) k := by
  refine (show _ = ∑ n, upOut b (ix2 r n) * b.wu (ix2 k n) by pointwise [k0_pay75]).trans ?_
  exact Finset.sum_congr rfl fun n _ => congrArg₂ (· * ·) (upOut_at h r n) (h.wu k n)

theorem dxOut_at (r : Fin 256) (k : Fin 1024) : dxOut b (ix2 r k) = dxAt a.x a.res a.g (dnrm a) (row p r) k := by
  pointwise [dxOut, k0_pay78, k0_pay77, k0_pay76]
  simp only [dxAt, dxRow, rs, ms, prod_at h, ← h.x, ← h.g, ← h.res]

theorem ggOut_at (o : Vec Ideal S1x1024 .f32) (k : Fin 1024) : ggOut b o (ix2 0 k) = o (ix2 0 k) + ∑ r : Fin 256, dgAt a.x (dnrm a) (row p r) k := by
  pointwise [ggOut, k0_pay79, k0_pay77, k0_pay76]
  simp only [dgAt, rs, ms, prod_at h, ← h.x]

end Cert.FfnStage

end
-- ==== Proof.FfnKernel.lean ====
/- The fifth claim's kernel: what its operands hold, and the blocks at a grid point. -/
module

public import proofs.«01_k».proof.Proof.FfnPoint
public import proofs.«01_k».proof.Proof.Gen.Kernel5Ideal.Value
import Idealize.ShloMosaic.Lib.StableHlo.ReadAt

@[expose] public section

set_option maxRecDepth 16384

noncomputable section

namespace Cert.FfnKernel

open Idealize.ShloMosaic Idealize.ShloMosaic.TcCoe Idealize.SL.Sem
open Cert.Kernel5Ideal Cert.Kernel5Ideal.Gen Cert.FfnStage Cert.RowGrad
open Cert.FfnSpec (Args lo hi nrm up conv before)

variable (m : (ℓ : Loc nD τ sig) → Buf (Elt Ideal) ℓ) (c : Dev nD)

/-- The arguments as launched. -/
def args : Args where
  x := m ((c : Thread nD τ).loc main_arg0)
  g := m ((c : Thread nD τ).loc main_arg1)
  wu := m ((c : Thread nD τ).loc main_arg2)
  cw := m ((c : Thread nD τ).loc main_arg3)
  cb := m ((c : Thread nD τ).loc main_arg4)
  d := m ((c : Thread nD τ).loc main_arg5)
  res := m ((c : Thread nD τ).loc main_arg6)

theorem v16 (r : Fin 8192) (n : Fin 5632) : (V m c main_v16 : FVec Ideal S8192x5632 .bf16) (ix2 r n) = up (args m c) n r := by
  unfold V
  after_reads_at
  rfl

set_option maxHeartbeats 800000 in
/-- The convolution's taps read two and one rows before, zero above the array. -/
theorem v45 (r : Fin 8192) (n : Fin 5632) : (V m c main_v45 : FVec Ideal S8192x5632 .bf16) (ix2 r n) = conv (args m c) n r := by
  unfold V
  after_reads_at
  refine congrArg₂ (· + ·) (congrArg₂ (· + ·) (congrArg (fun z : EReal => (args m c).cb (ix1 n) + z) (congrArg (· * _) ?_)) (congrArg (· * _) ?_)) (congrArg (· * _) ?_)
  · split
    · refine Eq.trans ?_ (if_neg (by omega)).symm
      after_reads_at
    · refine Eq.trans ?_ (if_pos (by omega)).symm
      after_reads_at
      rfl
  · split
    · refine Eq.trans ?_ (if_neg (by omega)).symm
      after_reads_at
    · have e : (⟨1 + r.val - 2, by omega⟩ : Fin 8192) = ⟨r.val - 1, by omega⟩ := Fin.ext (by dsimp only; omega)
      refine Eq.trans ?_ ((congrArg (up (args m c) n) e).trans (if_pos (by omega)).symm)
      after_reads_at
      rfl
  · after_reads_at
    rfl

theorem v46 (r : Fin 8192) (l : Fin 2816) : (V m c main_v46 : FVec Ideal S8192x2816 .bf16) (ix2 r l) = up (args m c) (lo l) r := by
  refine Eq.trans ?_ (v16 m c r (lo l))
  unfold V
  after_reads_at
  rfl

theorem v47 (r : Fin 8192) (l : Fin 2816) : (V m c main_v47 : FVec Ideal S8192x2816 .bf16) (ix2 r l) = up (args m c) (hi l) r := by
  refine Eq.trans ?_ (v16 m c r (hi l))
  unfold V
  after_reads_at
  rfl

theorem v48 (r : Fin 8192) (l : Fin 2816) : (V m c main_v48 : FVec Ideal S8192x2816 .bf16) (ix2 r l) = conv (args m c) (lo l) r := by
  refine Eq.trans ?_ (v45 m c r (lo l))
  unfold V
  after_reads_at
  rfl

theorem v49 (r : Fin 8192) (l : Fin 2816) : (V m c main_v49 : FVec Ideal S8192x2816 .bf16) (ix2 r l) = conv (args m c) (hi l) r := by
  refine Eq.trans ?_ (v45 m c r (hi l))
  unfold V
  after_reads_at
  rfl

theorem v50 (r : Fin 8192) (l : Fin 2816) : (V m c main_v50 : FVec Ideal S8192x2816 .bf16) (ix2 r l) = (args m c).d (ix2 r l) := by
  unfold V
  after_reads_at
  rfl

theorem v0 (k : Fin 1024) (n : Fin 5632) : (V m c main_v0 : FVec Ideal S1024x5632 .bf16) (ix2 k n) = (args m c).wu (ix2 k n) := by
  unfold V
  after_reads_at
  rfl

theorem v51 (k : Fin 1024) : (V m c main_v51 : FVec Ideal S1x1024 .f32) (ix2 0 k) = (args m c).g (ix1 k) := by
  unfold V
  after_reads_at
  rfl

/-! ## The blocks at a point -/

theorem idx : ∀ t : Fin cfg0.N, win0_0.index t = ![t.val, 0] ∧ win0_1.index t = ![t.val, 0] ∧ win0_2.index t = ![t.val, 0]
    ∧ win0_3.index t = ![t.val, 0] ∧ win0_4.index t = ![min ((t.val + 1) * 32) 1023, 0] ∧ win0_5.index t = ![min ((t.val + 1) * 32) 1023, 0]
    ∧ win0_6.index t = ![t.val, 0] ∧ win0_7.index t = ![min ((t.val + 1) * 32) 1023, 0] ∧ win0_8.index t = ![0, 0] ∧ win0_9.index t = ![0, 0]
    ∧ win0_10.index t = ![t.val, 0] ∧ win0_11.index t = ![0, 0] ∧ win0_12.index t = ![t.val, 0] ∧ win0_13.index t = ![t.val, 0]
    ∧ win0_16.index t = ![t.val, 0] ∧ t.val < 32 :=
  (by decide +kernel : ∀ t : Fin grid0.N, _)

/-- A point as a number. -/
abbrev pt (t : Fin cfg0.N) : Fin 32 := ⟨t.val, (idx t).2.2.2.2.2.2.2.2.2.2.2.2.2.2.2⟩

theorem blk0 (t : Fin cfg0.N) (r : Fin 256) (l : Fin 2816) : (show FVec Ideal S256x2816 .bf16 from iblk m c 0 t) (ix2 r l) = up (args m c) (lo l) (row (pt t) r) := by
  refine Eq.trans ?_ (v46 m c (row (pt t) r) l)
  blk_ext [iblk, idx t, row]

theorem blk1 (t : Fin cfg0.N) (r : Fin 256) (l : Fin 2816) : (show FVec Ideal S256x2816 .bf16 from iblk m c 1 t) (ix2 r l) = up (args m c) (hi l) (row (pt t) r) := by
  refine Eq.trans ?_ (v47 m c (row (pt t) r) l)
  blk_ext [iblk, idx t, row]

theorem blk2 (t : Fin cfg0.N) (r : Fin 256) (l : Fin 2816) : (show FVec Ideal S256x2816 .bf16 from iblk m c 2 t) (ix2 r l) = conv (args m c) (lo l) (row (pt t) r) := by
  refine Eq.trans ?_ (v48 m c (row (pt t) r) l)
  blk_ext [iblk, idx t, row]

theorem blk3 (t : Fin cfg0.N) (r : Fin 256) (l : Fin 2816) : (show FVec Ideal S256x2816 .bf16 from iblk m c 3 t) (ix2 r l) = conv (args m c) (hi l) (row (pt t) r) := by
  refine Eq.trans ?_ (v49 m c (row (pt t) r) l)
  blk_ext [iblk, idx t, row]

theorem blk6 (t : Fin cfg0.N) (r : Fin 256) (l : Fin 2816) : (show FVec Ideal S256x2816 .bf16 from iblk m c 6 t) (ix2 r l) = (args m c).d (ix2 (row (pt t) r) l) := by
  refine Eq.trans ?_ (v50 m c (row (pt t) r) l)
  blk_ext [iblk, idx t, row]

theorem blk4 (t : Fin cfg0.N) (j : Fin 8) (l : Fin 2816) (h : 256 * (pt t).val + (256 + j.val) < 8192) : (show FVec Ideal S8x2816 .bf16 from iblk m c 4 t) (ix2 j l) = conv (args m c) (lo l) ⟨_, h⟩ := by
  refine Eq.trans ?_ (v48 m c ⟨_, h⟩ l)
  have h' : 256 * t.val + (256 + j.val) < 8192 := h
  blk_ext [iblk, idx t]

theorem blk5 (t : Fin cfg0.N) (j : Fin 8) (l : Fin 2816) (h : 256 * (pt t).val + (256 + j.val) < 8192) : (show FVec Ideal S8x2816 .bf16 from iblk m c 5 t) (ix2 j l) = conv (args m c) (hi l) ⟨_, h⟩ := by
  refine Eq.trans ?_ (v49 m c ⟨_, h⟩ l)
  have h' : 256 * t.val + (256 + j.val) < 8192 := h
  blk_ext [iblk, idx t]

theorem blk7 (t : Fin cfg0.N) (j : Fin 8) (l : Fin 2816) (h : 256 * (pt t).val + (256 + j.val) < 8192) : (show FVec Ideal S8x2816 .bf16 from iblk m c 7 t) (ix2 j l) = (args m c).d (ix2 ⟨_, h⟩ l) := by
  refine Eq.trans ?_ (v50 m c ⟨_, h⟩ l)
  have h' : 256 * t.val + (256 + j.val) < 8192 := h
  blk_ext [iblk, idx t]

theorem blk8 (t : Fin cfg0.N) (j : Fin 3) (n : Fin 5632) : (show FVec Ideal S3x5632 .f32 from iblk m c 8 t) (ix2 j n) = (args m c).cw (ix2 j n) := by
  blk_ext [iblk, V, idx t]

theorem blk9 (t : Fin cfg0.N) (k : Fin 1024) (n : Fin 5632) : (show FVec Ideal S1024x5632 .bf16 from iblk m c 9 t) (ix2 k n) = (args m c).wu (ix2 k n) := by
  refine Eq.trans ?_ (v0 m c k n)
  blk_ext [iblk, idx t]

theorem blk10 (t : Fin cfg0.N) (r : Fin 256) (k : Fin 1024) : (show FVec Ideal S256x1024 .f32 from iblk m c 10 t) (ix2 r k) = (args m c).x (ix2 (row (pt t) r) k) := by
  blk_ext [iblk, V, idx t, row]

theorem blk11 (t : Fin cfg0.N) (k : Fin 1024) : (show FVec Ideal S1x1024 .f32 from iblk m c 11 t) (ix2 0 k) = (args m c).g (ix1 k) := by
  refine Eq.trans ?_ (v51 m c k)
  blk_point [iblk, idx t]

theorem blk12 (t : Fin cfg0.N) (r : Fin 256) (k : Fin 1024) : (show FVec Ideal S256x1024 .f32 from iblk m c 12 t) (ix2 r k) = (args m c).res (ix2 (row (pt t) r) k) := by
  blk_ext [iblk, V, idx t, row]

theorem more_at : ∀ t : Fin cfg0.N, IntOp.cmpi .slt (BitVec.ofNat 32 (grid0.coords t 0).val) 31#32 = if t.val + 1 < 32 then 1#1 else 0#1 :=
  (by decide +kernel : ∀ t : Fin grid0.N, _)

theorem atMore (t : Fin cfg0.N) : (blkAt m c t).more = if (pt t).val + 1 < 32 then 1 else 0 := by
  show ((((IntOp.cmpi .slt (BitVec.ofNat 32 (grid0.coords t 0).val) 31#32).setWidth 32).toInt : ℝ) : EReal) = _
  rw [more_at]
  show _ = if t.val + 1 < 32 then 1 else 0
  split
  · show (((1 : ℤ) : ℝ) : EReal) = 1
    simp
  · show (((0 : ℤ) : ℝ) : EReal) = 0
    simp

theorem atUg (t : Fin cfg0.N) (r : Fin 256) (l : Fin 2816) : (blkAt m c t).ug (ix2 r l) = up (args m c) (lo l) (row (pt t) r) := blk0 m c t r l
theorem atUv (t : Fin cfg0.N) (r : Fin 256) (l : Fin 2816) : (blkAt m c t).uv (ix2 r l) = up (args m c) (hi l) (row (pt t) r) := blk1 m c t r l
theorem atCg (t : Fin cfg0.N) (r : Fin 256) (l : Fin 2816) : (blkAt m c t).cg (ix2 r l) = conv (args m c) (lo l) (row (pt t) r) := blk2 m c t r l
theorem atCv (t : Fin cfg0.N) (r : Fin 256) (l : Fin 2816) : (blkAt m c t).cv (ix2 r l) = conv (args m c) (hi l) (row (pt t) r) := blk3 m c t r l
theorem atD (t : Fin cfg0.N) (r : Fin 256) (l : Fin 2816) : (blkAt m c t).d (ix2 r l) = (args m c).d (ix2 (row (pt t) r) l) := blk6 m c t r l
theorem atAg (t : Fin cfg0.N) (j : Fin 8) (l : Fin 2816) (h : 256 * (pt t).val + (256 + j.val) < 8192) : (blkAt m c t).ag (ix2 j l) = conv (args m c) (lo l) ⟨_, h⟩ :=
  blk4 m c t j l h
theorem atAv (t : Fin cfg0.N) (j : Fin 8) (l : Fin 2816) (h : 256 * (pt t).val + (256 + j.val) < 8192) : (blkAt m c t).av (ix2 j l) = conv (args m c) (hi l) ⟨_, h⟩ :=
  blk5 m c t j l h
theorem atDa (t : Fin cfg0.N) (j : Fin 8) (l : Fin 2816) (h : 256 * (pt t).val + (256 + j.val) < 8192) : (blkAt m c t).da (ix2 j l) = (args m c).d (ix2 ⟨_, h⟩ l) :=
  blk7 m c t j l h
theorem atW (t : Fin cfg0.N) (j : Fin 3) (n : Fin 5632) : (blkAt m c t).w (ix2 j n) = (args m c).cw (ix2 j n) := blk8 m c t j n
theorem atWu (t : Fin cfg0.N) (k : Fin 1024) (n : Fin 5632) : (blkAt m c t).wu (ix2 k n) = (args m c).wu (ix2 k n) := blk9 m c t k n
theorem atX (t : Fin cfg0.N) (r : Fin 256) (k : Fin 1024) : (blkAt m c t).x (ix2 r k) = (args m c).x (ix2 (row (pt t) r) k) := blk10 m c t r k
theorem atG (t : Fin cfg0.N) (k : Fin 1024) : (blkAt m c t).g (ix2 0 k) = (args m c).g (ix1 k) := blk11 m c t k
theorem atRes (t : Fin cfg0.N) (r : Fin 256) (k : Fin 1024) : (blkAt m c t).res (ix2 r k) = (args m c).res (ix2 (row (pt t) r) k) := blk12 m c t r k

theorem holds (t : Fin cfg0.N) : At (blkAt m c t) (args m c) (pt t) :=
  ⟨atUg m c t, atUv m c t, atCg m c t, atCv m c t, atD m c t, atAg m c t, atAv m c t, atDa m c t, atW m c t, atWu m c t, atX m c t, atG m c t,
   atRes m c t, atMore m c t⟩

end Cert.FfnKernel

end
-- ==== Proof.FfnValue.lean ====
/- The fifth claim's kernel: the arrays its run leaves. -/
module

public import proofs.«01_k».proof.Proof.FfnKernel

@[expose] public section

set_option maxRecDepth 16384

noncomputable section

namespace Cert.FfnKernel

open Idealize.ShloMosaic Idealize.ShloMosaic.TcCoe Idealize.SL.Sem
open Idealize.ShloMosaic.Pipeline (Dat)
open Cert.Kernel5Ideal Cert.Kernel5Ideal.Gen Cert.FfnStage Cert.RowGrad
open Cert.FfnSpec (Args up dup dconv dnrm gcw gcb after)

variable (m : (ℓ : Loc nD τ sig) → Buf (Elt Ideal) ℓ) (c : Dev nD)

/-- What a point stores, first or not. -/
theorem point (t : Fin cfg0.N) : (outsAt0 m c t.val t.isLt).1 = upOut (blkAt m c t) ∧ (outsAt0 m c t.val t.isLt).2.2.2.1 = dxOut (blkAt m c t) := by
  by_cases h0 : t.val % 32 = 0
  · obtain ⟨e, -, -, e', -⟩ := stores_A m c t h0
    exact ⟨e, e'⟩
  · obtain ⟨e, -, -, e', -⟩ := stores_B m c t h0
    exact ⟨e, e'⟩

/-- The last point. -/
abbrev last : Fin cfg0.N := ⟨31, by rw [show cfg0.N = 32 from N_0]; omega⟩

/-- A running sum over the points' blocks is a sum over the rows. -/
theorem sums {ι : Type} (f : (n : ℕ) → n < cfg0.N → ι → EReal) (q : Fin 8192 → ι → EReal)
    (h0 : ∀ t : Fin cfg0.N, t.val % 32 = 0 → ∀ i, f t.val t.isLt i = 0 + ∑ r, q (row (pt t) r) i)
    (hs : ∀ t : Fin cfg0.N, ¬t.val % 32 = 0 → ∀ i,
      f t.val t.isLt i = f (t.val - 1) (Nat.lt_of_le_of_lt (Nat.sub_le _ _) t.isLt) i + ∑ r, q (row (pt t) r) i) (i : ι) :
    f last.val last.isLt i = ∑ r, q r i :=
  (Pipeline.eq_sum_fin_of_reset_step_apply_last (M := EReal) f 32 (fun _ => 0) (fun t i => ∑ r, q (row (pt t) r) i) h0 hs
    (le_of_eq N_0) last rfl i).trans ((zero_add _).trans
    (sum_blocks (by rw [show cfg0.N = 32 from N_0]) (fun r => q r i) (fun t r => row (pt t) r) fun _ _ => rfl))

theorem cw_last (y : S3x5632.Idx) : (outsAt0 m c last.val last.isLt).2.1 y = gcw (args m c) (y 0) (y 1) := by
  refine sums (fun n h y => (outsAt0 m c n h).2.1 y) (fun r (y : S3x5632.Idx) => after (dconv (args m c) (y 1)) (2 - (y 0).val) r * up (args m c) (y 1) r)
    (fun t h y => ?_) (fun t h y => ?_) y
  · refine (congrFun (stores_A m c t h).2.1 y).trans ((cwOut_at (holds m c t) _ _ y).trans (congrArg (· + _) ?_))
    (idx_vars y)
    pointwise [k0_pay1]
  · exact (congrFun (stores_B m c t h).2.1 y).trans ((congrArg (fun L => View.canon L y) (List.append_nil _).symm).trans (cwOut_at (holds m c t) _ [] y))

theorem cb_last (y : S1x5632.Idx) : (outsAt0 m c last.val last.isLt).2.2.1 y = gcb (args m c) (y 1) := by
  refine sums (fun n h y => (outsAt0 m c n h).2.2.1 y) (fun r (y : S1x5632.Idx) => dconv (args m c) (y 1) r) (fun t h y => ?_) (fun t h y => ?_) y
  · refine (congrFun (stores_A m c t h).2.2.1 y).trans ((cbOut_at (holds m c t) _ _ y).trans (congrArg (· + _) ?_))
    (idx_vars y)
    pointwise [k0_pay2]
  · exact (congrFun (stores_B m c t h).2.2.1 y).trans ((congrArg (fun L => View.canon L y) (List.append_nil _).symm).trans (cbOut_at (holds m c t) _ [] y))

theorem gg_last (k : Fin 1024) : (outsAt0 m c last.val last.isLt).2.2.2.2 (ix2 0 k) = ∑ r, dgAt (args m c).x (dnrm (args m c)) r k := by
  refine sums (fun n h k => (outsAt0 m c n h).2.2.2.2 (ix2 0 k)) (fun r k => dgAt (args m c).x (dnrm (args m c)) r k) (fun t h k => ?_) (fun t h k => ?_) k
  · rw [(stores_A m c t h).2.2.2.2, ggOut_at (holds m c t)]
    refine congrArg (· + _) ?_
    pointwise [k0_pay3]
  · rw [(stores_B m c t h).2.2.2.2, ggOut_at (holds m c t)]

theorem emb13 (t : Fin cfg0.N) (r : Fin 256) (n : Fin 5632) :
    ((View.whole main_v52_0).slice (win0_13.rect t)).emb (ix2 r n) = (ix2 (row (pt t) r) n : S8192x5632.Idx) := by
  blk_ext [idx t, row]

theorem emb16 (t : Fin cfg0.N) (r : Fin 256) (k : Fin 1024) :
    ((View.whole main_v52_3).slice (win0_16.rect t)).emb (ix2 r k) = (ix2 (row (pt t) r) k : S8192x1024.Idx) := by
  blk_ext [idx t, row]

/-- The arrays the run leaves. -/
theorem final13 : (dats m 0 c).arrAt 13 cfg0.N = fun i : S8192x5632.Idx => dup (args m c) (i 1) (i 0) := by
  refine (dats m 0 c).arrAt_eq_of_covers 13 _ (by decide +kernel) fun t hf y => ?_
  blk_simp
  rw [after0_13, (point m c t).1]
  idx_vars y
  rw [emb13]
  exact upOut_at (holds m c t) y0 y1

theorem final14 : (dats m 0 c).arrAt 14 cfg0.N = fun i : S3x5632.Idx => gcw (args m c) (i 0) (i 1) := by
  refine (dats m 0 c).arrAt_eq_of_after_last 14 last (by decide +kernel) _ fun j => ?_
  blk_simp
  rw [after0_14]
  exact cw_last m c j

theorem final15 : (dats m 0 c).arrAt 15 cfg0.N = fun i : S1x5632.Idx => gcb (args m c) (i 1) := by
  refine (dats m 0 c).arrAt_eq_of_after_last 15 last (by decide +kernel) _ fun j => ?_
  blk_simp
  rw [after0_15]
  exact cb_last m c j

theorem final16 : (dats m 0 c).arrAt 16 cfg0.N
    = fun i : S8192x1024.Idx => dxAt (args m c).x (args m c).res (args m c).g (dnrm (args m c)) (i 0) (i 1) := by
  refine (dats m 0 c).arrAt_eq_of_covers 16 _ (by decide +kernel) fun t hf y => ?_
  blk_simp
  rw [after0_16, (point m c t).2]
  idx_vars y
  rw [emb16]
  exact dxOut_at (holds m c t) y0 y1

theorem final17 : (dats m 0 c).arrAt 17 cfg0.N = fun i : S1x1024.Idx => ∑ r, dgAt (args m c).x (dnrm (args m c)) r (i 1) := by
  refine (dats m 0 c).arrAt_eq_of_after_last 17 last (by decide +kernel) _ fun j => ?_
  blk_simp
  rw [after0_17]
  (idx_vars j)
  obtain rfl : j0 = 0 := Subsingleton.elim _ _
  exact gg_last m c j1

end Cert.FfnKernel

end
-- ==== Proof.FfnClaim.lean ====
/- The fifth claim: the frames of its programs, and their results' equality. -/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.FfnPre
public import proofs.«01_k».proof.Proof.FfnRef
public import proofs.«01_k».proof.Proof.FfnValue
import Idealize.ShloMosaic.Lib.Claim

@[expose] public section

set_option maxRecDepth 16384

noncomputable section

namespace Cert.FfnClaim

open Idealize.ShloMosaic Idealize.ShloMosaic.TcCoe Idealize.SL.Sem Cert.Reals

theorem preFacts : Cert.Pre_finite5.Facts := by
  constructor <;> decide

instance : Cert.Pre_finite5.Facts := preFacts

theorem frame_kernel : Cert.quiescent_Kernel5 := fun m ρ _ => Cert.Kernel5.Gen.frame m ρ

theorem frame_ideal : Cert.quiescent_Kernel5Ideal := fun m ρ _ => Cert.Kernel5Ideal.Gen.frame m ρ

theorem frame_reference : Cert.quiescent_Reference5Ideal := fun m ρ _ =>
  (θ_run Cert.Reference5Ideal.defs _ _).mono
    (fun r h => ⟨fun c => (h c).2.2.2.2.2, sem_eq_zero_of_no_sems (by decide) r.2⟩) (Cert.Reference5Ideal.Value.run m ρ)

/-- Each rounded constant of the gelu stands for the number it was rounded from. -/
theorem preserves : Cert.preserves_Kernel5_Kernel5Ideal :=
  ⟨IdealRules.named_const.statement Cert.Kernel5Ideal.κ "gelu_c" .bf16 0x3F4C#16 ((6693141 / 8388608 : ℝ) : EReal) rfl,
   IdealRules.named_const.statement Cert.Kernel5Ideal.κ "gelu_a" .bf16 0x3D37#16 ((12003091 / 268435456 : ℝ) : EReal) rfl,
   IdealRules.named_const.statement Cert.Kernel5Ideal.κ "gelu_6ca" .bf16 0x3E5B#16 ((241015141496493 / 1125899906842624 : ℝ) : EReal) rfl,
   IdealRules.named_const.statement Cert.Kernel5Ideal.κ "gelu_2c" .bf16 0x3FCC#16 ((6693141 / 4194304 : ℝ) : EReal) rfl⟩

set_option maxHeartbeats 1600000 in
theorem algebraic : Cert.algebraic_Kernel5Ideal_Reference5Ideal_pre_finite5 := by
  intro m g m' g' hpre hargs
  refine ⟨_, _, _, _, _, (θ_run Cert.Kernel5Ideal.defs _ _).mono (fun r h => h) (Cert.Kernel5Ideal.Value.run_blocks m g),
    (θ_run Cert.Reference5Ideal.defs _ _).mono (fun r h c => ?_) (Cert.Reference5Ideal.Value.run m' g')⟩
  obtain ⟨a0, a1, a2, a3, a4, a5, a6⟩ := hargs c
  obtain ⟨p0, p1, p2, p3, p4, p5⟩ := ffnPre (hpre c)
  have b0 : StableHlo.launchContents m' c (Proc.devRef .tc Cert.Reference5Ideal.main_arg0) = _ := a0
  have b1 : StableHlo.launchContents m' c (Proc.devRef .tc Cert.Reference5Ideal.main_arg1) = _ := a1
  have b2 : StableHlo.launchContents m' c (Proc.devRef .tc Cert.Reference5Ideal.main_arg2) = _ := a2
  have b3 : StableHlo.launchContents m' c (Proc.devRef .tc Cert.Reference5Ideal.main_arg3) = _ := a3
  have b4 : StableHlo.launchContents m' c (Proc.devRef .tc Cert.Reference5Ideal.main_arg4) = _ := a4
  have b5 : StableHlo.launchContents m' c (Proc.devRef .tc Cert.Reference5Ideal.main_arg5) = _ := a5
  have b6 : StableHlo.launchContents m' c (Proc.devRef .tc Cert.Reference5Ideal.main_arg6) = _ := a6
  have hr : FfnSpec.AllReal (FfnKernel.args m c) := ⟨p0, p1, p2, p3, p4, p5⟩
  obtain ⟨h0, h1, h2, h3, h4, h⟩ := h c
  refine ⟨h0.trans ?_, h1.trans ?_, h2.trans ?_, h3.trans ?_, h4.trans ?_, h⟩
  · rw [Cert.Reference5Ideal.Read.val_main_v148_eq, b0, b1, b2, b3, b4, b5, Cert.FfnKernel.final13]
    funext i
    idx_vars i
    exact Cert.FfnRef.dup16_at hr i0 i1
  · rw [Cert.Reference5Ideal.Read.val_main_v120_eq, b0, b1, b2, b3, b4, b5, Cert.FfnKernel.final14]
    funext i
    idx_vars i
    exact Cert.FfnRef.gcw_at hr i0 i1
  · rw [Cert.Reference5Ideal.Read.val_main_v149_eq, b0, b1, b2, b3, b4, b5, Cert.FfnKernel.final15]
    funext i
    (idx_vars i)
    obtain rfl : i0 = 0 := Subsingleton.elim _ _
    exact Cert.FfnRef.gcb_at hr i1
  · rw [Cert.Reference5Ideal.Read.val_main_v147_eq, b0, b1, b2, b3, b4, b5, b6, Cert.FfnKernel.final16]
    funext i
    idx_vars i
    exact Cert.FfnRef.dh_at hr i0 i1
  · rw [Cert.Reference5Ideal.Read.val_main_v150_eq, b0, b1, b2, b3, b4, b5, Cert.FfnKernel.final17]
    funext i
    (idx_vars i)
    obtain rfl : i0 = 0 := Subsingleton.elim _ _
    exact Cert.FfnRef.dg_at hr i1

end Cert.FfnClaim

end
-- ==== Proof.GateSpec.lean ====
/- The spatial gating unit in closed form over the arguments of the sixth claim, and the gelu's several spellings on the
   extended reals. -/
module

public import proofs.«01_k».proof.Proof.SguSpec

@[expose] public section

noncomputable section

namespace Cert.GateSpec

open Idealize.ShloMosaic Cert.Reals Cert.GeluNorm Cert.SguSpec

theorem ga_pos : (0 : ℝ) < ga := by norm_num
theorem gc_pos : (0 : ℝ) < gc := by norm_num

theorem th_top : th ⊤ = 1 := by
  rw [th, EReal.top_mul_top, EReal.top_mul_top, EReal.coe_mul_top_of_pos ga_pos, EReal.top_add_top, EReal.coe_mul_top_of_pos gc_pos]
  rfl

theorem th_bot : th ⊥ = -1 := by
  rw [th, EReal.bot_mul_bot, EReal.top_mul_bot, EReal.coe_mul_bot_of_pos ga_pos, EReal.bot_add, EReal.coe_mul_bot_of_pos gc_pos]
  rfl

theorem gate_top : gate ⊤ = 1 := by
  have e : (1 : EReal) + ⊤ = ⊤ := EReal.coe_add_top 1
  rw [gate, EReal.top_mul_top, EReal.coe_mul_top_of_pos ga_pos, e, EReal.coe_mul_top_of_pos gc_pos, EReal.top_mul_top, half_eq]
  show ((1 / 2 : ℝ) : EReal) * ((1 : ℝ) : EReal) + ((1 / 2 : ℝ) : EReal) = ((1 : ℝ) : EReal)
  rw [← EReal.coe_mul, ← EReal.coe_add]
  norm_num

theorem gate_bot : gate ⊥ = 0 := by
  have e : (1 : EReal) + ⊤ = ⊤ := EReal.coe_add_top 1
  rw [gate, EReal.bot_mul_bot, EReal.coe_mul_top_of_pos ga_pos, e, EReal.coe_mul_bot_of_pos gc_pos, EReal.bot_mul_top, half_eq]
  show ((1 / 2 : ℝ) : EReal) * ((-1 : ℝ) : EReal) + ((1 / 2 : ℝ) : EReal) = ((0 : ℝ) : EReal)
  rw [← EReal.coe_mul, ← EReal.coe_add]
  norm_num

/-- The gate with the cube written out, on every extended real. -/
theorem gate_eq (x : EReal) : gate x = half * (1 + th x) := by
  induction x using EReal.rec with
  | bot =>
    rw [gate_bot, th_bot, half_eq]
    show ((0 : ℝ) : EReal) = ((1 / 2 : ℝ) : EReal) * (((1 : ℝ) : EReal) + ((-1 : ℝ) : EReal))
    rw [← EReal.coe_add, ← EReal.coe_mul]
    norm_num
  | coe r => exact gate_of_th (IsReal.coe r)
  | top =>
    rw [gate_top, th_top, half_eq]
    show ((1 : ℝ) : EReal) = ((1 / 2 : ℝ) : EReal) * (((1 : ℝ) : EReal) + ((1 : ℝ) : EReal))
    rw [← EReal.coe_add, ← EReal.coe_mul]
    norm_num

/-- The gelu with the half and the cube taken from the left. -/
theorem gelu_eq (x : EReal) : half * x * (1 + Ideal.tanh ((gc : EReal) * (x + (ga : EReal) * x * x * x))) = gelu x := by
  have e : (ga : EReal) * x * x * x = (ga : EReal) * (x * x * x) := by rw [mul_assoc, mul_assoc, mul_assoc]
  rw [e, ← th, gelu, gate_eq, mul_comm half x, mul_assoc]

/-- The gated branch: a row's gelu times its mixed normalised gate. -/
def sa (a : Args) : FVec Ideal ⟨2, ![8192, 512]⟩ .bf16 := fun i =>
  gelu (U a (nOf (i 0)) (tOf (i 0)) (i 1)) * (mixC (W a) (vn a (nOf (i 0))) (tOf (i 0)) (i 1) + B a (grp (i 1)) (tOf (i 0)))

theorem sa_row (a : Args) (n : Fin 64) (t : Fin 128) (l : Fin 512) :
    sa a (ix2 (row n t) l) = gelu (U a n t l) * (mixC (W a) (vn a n) t l + B a (grp l) t) := by
  show gelu (U a (nOf (row n t)) (tOf (row n t)) l) * (mixC (W a) (vn a (nOf (row n t))) (tOf (row n t)) l + B a (grp l) (tOf (row n t))) = _
  rw [nOf_row, tOf_row]

end Cert.GateSpec

end
-- ==== Proof.GateStage.lean ====
/- The sixth claim's kernel: what its body stores at a grid point. Its stages are those of the fourth claim's kernel. -/
module

public import proofs.«01_k».proof.Proof.Gen.Kernel6Ideal.Frame
public import proofs.«01_k».proof.Proof.SguPoint
public import proofs.«01_k».proof.Proof.GateSpec

@[expose] public section

set_option maxRecDepth 16384

noncomputable section

namespace Cert.GateStage

open Idealize.ShloMosaic Idealize.ShloMosaic.TcCoe Idealize.ShloMosaic.Tactic Idealize.SL.Sem
open Cert.Kernel6Ideal Cert.Kernel6Ideal.Gen Cert.GeluNorm Cert.SguSpec Cert.GateSpec
open Cert.SguStage (ld0 ld1 ld2 ld3 ldq nk vnV rep beside mixV cut0 cut1 cut2 cut3 col lk)

/-- A point's blocks: the two halves of the projection, the gain and bias of the norm, the mixing weights and bias, and the
    mask that keeps each group's columns. -/
structure Blk where
  u : Vec Ideal S512x512 .bf16
  v : Vec Ideal S512x512 .bf16
  lg : Vec Ideal S1x512 .f32
  lb : Vec Ideal S1x512 .f32
  wc : Vec Ideal S128x1024 .f32
  bi : Vec Ideal S128x512 .f32
  bd : Vec Ideal S1024x512 .bf16

/-- A chunk's gated rows, from its rows of the first half and of the mixed gate. -/
def saV (bi : Vec Ideal S128x512 .f32) (u : Vec Ideal S128x512 .bf16) (mx : FVec Ideal S128x512 .f32) : FVec Ideal S128x512 .bf16 :=
  k0_pay12 mx (k0_pay11 bi) u

variable (b : Blk)

def sp : FVec Ideal S1024x2048 .bf16 :=
  beside (rep b.bd (vnV b.lg b.lb (ld0 b.v))) (rep b.bd (vnV b.lg b.lb (ld1 b.v))) (rep b.bd (vnV b.lg b.lb (ld2 b.v))) (rep b.bd (vnV b.lg b.lb (ld3 b.v)))
def mx : FVec Ideal S128x2048 .f32 := mixV b.wc (sp b)

/-- The block a point stores: four stores, the last first. -/
def saOut : Vec Ideal S512x512 .bf16 :=
  View.canon
    [⟨Rect.unit ![384, 0] ![128, 512] inb_S512x512_S128x512_384_0, saV b.bi (ld3 b.u) (cut3 (mx b))⟩,
     ⟨Rect.unit ![256, 0] ![128, 512] inb_S512x512_S128x512_256_0, saV b.bi (ld2 b.u) (cut2 (mx b))⟩,
     ⟨Rect.unit ![128, 0] ![128, 512] inb_S512x512_S128x512_128_0, saV b.bi (ld1 b.u) (cut1 (mx b))⟩,
     ⟨Rect.unit ![0, 0] ![128, 512] inb_S512x512_S128x512_0_0, saV b.bi (ld0 b.u) (cut0 (mx b))⟩]

theorem out_eq : out0_7 b.u b.v b.lg b.lb b.wc b.bi b.bd = saOut b := by
  have e1 : View.ld b.lg r0_1 = b.lg := View.ld_unit_lit' _ _ (by decide)
  have e2 : View.ld b.lb r0_1 = b.lb := View.ld_unit_lit' _ _ (by decide)
  have e3 : View.ld b.wc r0_5 = b.wc := View.ld_unit_lit' _ _ (by decide)
  have e4 : View.ld b.bd r0_6 = b.bd := View.ld_unit_lit' _ _ (by decide)
  have e5 : View.ld b.bi r0_7 = b.bi := View.ld_unit_lit' _ _ (by decide)
  unfold out0_7
  unfold k0_pay19 k0_pay18 k0_pay17 k0_pay16 k0_pay15 k0_pay14
  rw [e1, e2, e3, e4, e5]
  rfl

theorem out_of (u v : Vec Ideal S512x512 .bf16) (lg lb : Vec Ideal S1x512 .f32) (wc : Vec Ideal S128x1024 .f32)
    (bi : Vec Ideal S128x512 .f32) (bd : Vec Ideal S1024x512 .bf16) : out0_7 u v lg lb wc bi bd = saOut ⟨u, v, lg, lb, wc, bi, bd⟩ :=
  out_eq ⟨u, v, lg, lb, wc, bi, bd⟩

/-! ## At an index -/

/-- A point's blocks hold the arguments' rows of its four chunks, and the prepared operands. -/
structure At (b : Blk) (a : Args) (p : Fin 16) : Prop where
  u : ∀ k t l, ldq b.u k (ix2 t l) = U a (nk p k) t l
  v : ∀ k t l, ldq b.v k (ix2 t l) = V a (nk p k) t l
  lg : ∀ l, b.lg (ix2 0 l) = lg a l
  lb : ∀ l, b.lb (ix2 0 l) = lb a l
  wc : ∀ t g s, b.wc (ix2 t (col g s)) = W a g t s
  bi : ∀ t l, b.bi (ix2 t l) = B a (grp l) t
  bd : ∀ g s l, b.bd (ix2 (col g s) l) = if grp l = g then 1 else 0

/-- The two named constants. -/
theorem named_c : (Named.named κ "gelu_c" 0x3F4C#16 : Ideal .bf16) = ((gc : ℝ) : EReal) := rfl
theorem named_a : (Named.named κ "gelu_a" 0x3D37#16 : Ideal .bf16) = ((ga : ℝ) : EReal) := rfl

theorem sa_at (bi : Vec Ideal S128x512 .f32) (u : Vec Ideal S128x512 .bf16) (M : FVec Ideal S128x512 .f32) (t : Fin 128) (l : Fin 512) :
    saV bi u M (ix2 t l) = gelu (u (ix2 t l)) * (M (ix2 t l) + bi (ix2 t l)) := by
  rw [← gelu_eq]
  pointwise [saV, k0_pay12, k0_pay11]
  simp only [named_c, named_a, half]

variable {b} {a : Args} {p : Fin 16} (h : At b a p) (k : Fin 4) (t s : Fin 128) (l : Fin 512) (g : Fin 8)
include h

theorem sp_at : sp b (ix2 (col g s) (lk k l)) = if grp l = g then vn a (nk p k) s l else 0 := by
  have e : vnV b.lg b.lb (ldq b.v k) (ix2 s l) = vn a (nk p k) s l := by
    rw [SguStage.vn_at]
    simp only [h.v, h.lg, h.lb]
    rfl
  exact (SguStage.beside_at l (fun k => rep b.bd (vnV b.lg b.lb (ldq b.v k))) (col g s) k).trans
    ((SguStage.rep_at l b.bd _ g s h.bd).trans (by rw [e]))

theorem mx_at : mx b (ix2 t (lk k l)) = mixC (W a) (vn a (nk p k)) t l :=
  SguStage.mixV_at t l b.wc (sp b) (lk k l) (W a) _ h.wc fun g s => sp_at h k s l g

theorem chunk_at (M : FVec Ideal S128x512 .f32) (hM : ∀ t l, M (ix2 t l) = mx b (ix2 t (lk k l))) (r : Fin 8192)
    (hr : r.val = (nk p k).val * 128 + t.val) : saV b.bi (ldq b.u k) M (ix2 t l) = sa a (ix2 r l) := by
  obtain rfl : r = row (nk p k) t := Fin.ext hr
  rw [sa_at, sa_row, h.u, hM, mx_at h, h.bi]

/-- The gated rows a point stores. -/
theorem saOut_at (r q : Fin 512) : saOut b (ix2 r q) = sa a (ix2 ⟨512 * p.val + r.val, by omega⟩ q) := by
  unfold saOut
  canon_tiles x hx
  · idx_vars x
    obtain rfl : q = x1 := Fin.ext hx1
    exact chunk_at h 3 x0 q _ (fun t l => SguStage.cut3_at t l _) _
      (by show 512 * p.val + r.val = (p.val * 4 + 3) * 128 + x0.val; have : r.val = 384 + x0.val := hx0; omega)
  · idx_vars x
    obtain rfl : q = x1 := Fin.ext hx1
    exact chunk_at h 2 x0 q _ (fun t l => SguStage.cut2_at t l _) _
      (by show 512 * p.val + r.val = (p.val * 4 + 2) * 128 + x0.val; have : r.val = 256 + x0.val := hx0; omega)
  · idx_vars x
    obtain rfl : q = x1 := Fin.ext hx1
    exact chunk_at h 1 x0 q _ (fun t l => SguStage.cut1_at t l _) _
      (by show 512 * p.val + r.val = (p.val * 4 + 1) * 128 + x0.val; have : r.val = 128 + x0.val := hx0; omega)
  · idx_vars x
    obtain rfl : q = x1 := Fin.ext hx1
    exact chunk_at h 0 x0 q _ (fun t l => SguStage.cut0_at t l _) _
      (by show 512 * p.val + r.val = (p.val * 4 + 0) * 128 + x0.val; have : r.val = x0.val := hx0; omega)

end Cert.GateStage

end
-- ==== Proof.GateKernel.lean ====
/- The sixth claim's kernel: what its prepared operands hold, its blocks at a grid point, and the array its run leaves. -/
module

public import proofs.«01_k».proof.Proof.GateStage
public import proofs.«01_k».proof.Proof.Gen.Kernel6Ideal.Value
import proofs.«01_k».proof.Proof.SguKernel
import Idealize.ShloMosaic.Lib.StableHlo.ReadAt

@[expose] public section

set_option maxRecDepth 16384

noncomputable section

namespace Cert.GateKernel

open Idealize.ShloMosaic Idealize.ShloMosaic.TcCoe Idealize.SL.Sem
open Cert.Kernel6Ideal Cert.Kernel6Ideal.Gen Cert.GateStage
open Cert.SguSpec (Args row grp U W B lg lb)
open Cert.SguStage (col ldq nk)

variable (m : (ℓ : Loc nD τ sig) → Buf (Elt Ideal) ℓ) (c : Dev nD)

/-- The arguments as launched; there is no cotangent. -/
def args : Args where
  u := m ((c : Thread nD τ).loc main_arg0)
  v := m ((c : Thread nD τ).loc main_arg1)
  lg := m ((c : Thread nD τ).loc main_arg3)
  lb := m ((c : Thread nD τ).loc main_arg4)
  ws := m ((c : Thread nD τ).loc main_arg5)
  bs := m ((c : Thread nD τ).loc main_arg6)
  d := fun _ => 0

/-- The operands the host lines prepare. -/
theorem v2_left (r : Fin 8192) (k : Fin 512) : (V m c main_v2 : FVec Ideal S8192x6144 .bf16) (ix2 r ⟨k.val, by omega⟩) = (args m c).u (ix2 r k) := by
  unfold V
  after_reads_at
  rfl

theorem v2_right (r : Fin 8192) (k : Fin 512) : (V m c main_v2 : FVec Ideal S8192x6144 .bf16) (ix2 r ⟨512 + k.val, by omega⟩) = (args m c).v (ix2 r k) := by
  unfold V
  after_reads_at
  rfl

theorem v3 (k : Fin 512) : (V m c main_v3 : FVec Ideal S1x512 .f32) (ix2 0 k) = lg (args m c) k := by
  unfold V
  after_reads_at
  rfl

theorem v4 (k : Fin 512) : (V m c main_v4 : FVec Ideal S1x512 .f32) (ix2 0 k) = lb (args m c) k := by
  unfold V
  after_reads_at
  rfl

theorem v6 (t : Fin 128) (g : Fin 8) (s : Fin 128) : (V m c main_v6 : FVec Ideal S128x1024 .f32) (ix2 t (col g s)) = W (args m c) g t s := by
  unfold V
  after_reads_at
  exact congrArg₂ (fun a b => (args m c).ws (ix3 a t b)) (Fin.ext (by show (g.val * 128 + s.val) / 128 = g.val; omega))
    (Fin.ext (by show (g.val * 128 + s.val) % 128 = s.val; omega))

theorem v9 (t : Fin 128) (l : Fin 512) : (V m c main_v9 : FVec Ideal S128x512 .f32) (ix2 t l) = B (args m c) (grp l) t := by
  unfold V
  after_reads_at
  rfl

theorem v19 (g : Fin 8) (s : Fin 128) (l : Fin 512) :
    (V m c main_v19 : FVec Ideal S1024x512 .bf16) (ix2 (col g s) l) = ((if grp l = g then 1 else 0 : EReal) : Ideal .bf16) := by
  unfold V
  after_reads_at
  show FloatOps.uitofp (F := Ideal) .bf16 (IntOp.cmpi .eq (SguKernel.fdiv (BitVec.ofNat 32 (col g s).val) 128#32) (SguKernel.fdiv (BitVec.ofNat 32 l.val) 64#32)) = _
  have hg : (col g s).val / 128 = g.val := by show (g.val * 128 + s.val) / 128 = g.val; omega
  rw [SguKernel.fdiv128, SguKernel.fdiv64, hg]
  refine (congrArg (FloatOps.uitofp (F := Ideal) .bf16) (SguKernel.same_group g (grp l))).trans ?_
  split
  · show ((1 : ℕ) : EReal) = 1
    simp
  · show ((0 : ℕ) : EReal) = 0
    simp

/-! ## The blocks at a point -/

theorem idx : ∀ t : Fin cfg0.N, win0_0.index t = ![t.val, 0] ∧ win0_1.index t = ![t.val, 1] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ t.val < 16 :=
  (by decide +kernel : ∀ t : Fin grid0.N, _)

/-- A point as a number, and row `r` of its block. -/
abbrev pt (t : Fin cfg0.N) : Fin 16 := ⟨t.val, (idx t).2.2.2.2.2.2.2.2⟩
abbrev brow (t : Fin cfg0.N) (r : Fin 512) : Fin 8192 := ⟨512 * (pt t).val + r.val, by omega⟩

/-- The blocks at a point. -/
def blkAt (t : Fin cfg0.N) : Blk := ⟨iblk m c 0 t, iblk m c 1 t, iblk m c 2 t, iblk m c 3 t, iblk m c 4 t, iblk m c 5 t, iblk m c 6 t⟩

theorem blk0 (t : Fin cfg0.N) (r l : Fin 512) : (show FVec Ideal S512x512 .bf16 from iblk m c 0 t) (ix2 r l) = (args m c).u (ix2 (brow t r) l) := by
  refine Eq.trans ?_ (v2_left m c (brow t r) l)
  blk_ext [iblk, idx t]

theorem blk1 (t : Fin cfg0.N) (r l : Fin 512) : (show FVec Ideal S512x512 .bf16 from iblk m c 1 t) (ix2 r l) = (args m c).v (ix2 (brow t r) l) := by
  refine Eq.trans ?_ (v2_right m c (brow t r) l)
  blk_ext [iblk, idx t]

theorem blk2 (t : Fin cfg0.N) (l : Fin 512) : (show FVec Ideal S1x512 .f32 from iblk m c 2 t) (ix2 0 l) = lg (args m c) l := by
  refine Eq.trans ?_ (v3 m c l)
  blk_point [iblk, idx t]

theorem blk3 (t : Fin cfg0.N) (l : Fin 512) : (show FVec Ideal S1x512 .f32 from iblk m c 3 t) (ix2 0 l) = lb (args m c) l := by
  refine Eq.trans ?_ (v4 m c l)
  blk_point [iblk, idx t]

theorem blk4 (p : Fin cfg0.N) (t : Fin 128) (g : Fin 8) (s : Fin 128) :
    (show FVec Ideal S128x1024 .f32 from iblk m c 4 p) (ix2 t (col g s)) = W (args m c) g t s := by
  refine Eq.trans ?_ (v6 m c t g s)
  blk_ext [iblk, idx p]

theorem blk5 (p : Fin cfg0.N) (t : Fin 128) (l : Fin 512) : (show FVec Ideal S128x512 .f32 from iblk m c 5 p) (ix2 t l) = B (args m c) (grp l) t := by
  refine Eq.trans ?_ (v9 m c t l)
  blk_ext [iblk, idx p]

theorem blk6 (p : Fin cfg0.N) (g : Fin 8) (s : Fin 128) (l : Fin 512) :
    (show FVec Ideal S1024x512 .bf16 from iblk m c 6 p) (ix2 (col g s) l) = ((if grp l = g then 1 else 0 : EReal) : Ideal .bf16) := by
  refine Eq.trans ?_ (v19 m c g s l)
  blk_ext [iblk, idx p]

theorem atU (t : Fin cfg0.N) (k : Fin 4) (s : Fin 128) (l : Fin 512) : ldq (blkAt m c t).u k (ix2 s l) = U (args m c) (nk (pt t) k) s l :=
  SguKernel.chunk_at (blkAt m c t).u (args m c).u (pt t) (blk0 m c t) k s l
theorem atV (t : Fin cfg0.N) (k : Fin 4) (s : Fin 128) (l : Fin 512) : ldq (blkAt m c t).v k (ix2 s l) = SguSpec.V (args m c) (nk (pt t) k) s l :=
  SguKernel.chunk_at (blkAt m c t).v (args m c).v (pt t) (blk1 m c t) k s l

theorem atLg (t : Fin cfg0.N) (l : Fin 512) : (blkAt m c t).lg (ix2 0 l) = lg (args m c) l := blk2 m c t l
theorem atLb (t : Fin cfg0.N) (l : Fin 512) : (blkAt m c t).lb (ix2 0 l) = lb (args m c) l := blk3 m c t l
theorem atWc (p : Fin cfg0.N) (t : Fin 128) (g : Fin 8) (s : Fin 128) : (blkAt m c p).wc (ix2 t (col g s)) = W (args m c) g t s := blk4 m c p t g s
theorem atBi (p : Fin cfg0.N) (t : Fin 128) (l : Fin 512) : (blkAt m c p).bi (ix2 t l) = B (args m c) (grp l) t := blk5 m c p t l
theorem atBd (p : Fin cfg0.N) (g : Fin 8) (s : Fin 128) (l : Fin 512) : (blkAt m c p).bd (ix2 (col g s) l) = if grp l = g then 1 else 0 := blk6 m c p g s l

theorem holds (t : Fin cfg0.N) : At (blkAt m c t) (args m c) (pt t) :=
  ⟨atU m c t, atV m c t, atLg m c t, atLb m c t, atWc m c t, atBi m c t, atBd m c t⟩

theorem emb7 (t : Fin cfg0.N) (r : Fin 512) (q : Fin 512) :
    ((View.whole main_v20).slice (win0_7.rect t)).emb (ix2 r q) = (ix2 (brow t r) q : S8192x512.Idx) := by
  blk_ext [idx t]

/-- The block a point stores. -/
theorem point (t : Fin cfg0.N) : (dats m 0 c).after 7 t = saOut (blkAt m c t) := by
  rw [after0_7, out_of]
  rfl

/-- The array the run leaves. -/
theorem final7 : (dats m 0 c).arrAt 7 cfg0.N = GateSpec.sa (args m c) := by
  refine (dats m 0 c).arrAt_eq_of_covers 7 _ (by decide +kernel) fun t hf y => ?_
  blk_simp
  rw [point]
  idx_vars y
  rw [emb7]
  exact saOut_at (holds m c t) y0 y1

end Cert.GateKernel

end
-- ==== Proof.GateRef.lean ====
/- The sixth claim's reference, read at an index. -/
module

public import proofs.«01_k».proof.Proof.GateSpec
public import proofs.«01_k».proof.Proof.Gen.Reference6Ideal.Read
import proofs.«01_k».proof.Proof.SguRef

@[expose] public section

set_option maxRecDepth 16384

noncomputable section

namespace Cert.GateRef

open Idealize.ShloMosaic Idealize.ShloMosaic.TcCoe Idealize.SL.Sem
open Cert.Reference6Ideal Cert.Reference6Ideal.Gen Cert.Reference6Ideal.Read Cert.SguSpec Cert.GeluNorm Cert.GateSpec

variable (a : Args) (n : Fin 64) (t : Fin 128) (l : Fin 512) (g : Fin 8) (j : Fin 64)

theorem gelu_u : (val_main_v12 (F := Ideal) a.u) (ix2 (row n t) l) = gelu (U a n t l) := by
  rw [gelu, gate_eq, th, half_eq]
  pointwise [val_main_v0, val_main_v1, val_main_v2, val_main_v3, val_main_v4, val_main_v5, val_main_v6, val_main_v7, val_main_v8, val_main_v9, val_main_v10, val_main_v11, val_main_v12, val_main_cst, val_main_cst_0, val_main_cst_1, val_main_cst_2]
  simp only [ofBits_gc, ofBits_ga, Reals.ofBits_half]
  rfl

theorem gelu_v : (val_main_v26 (F := Ideal) a.v) (ix2 (row n t) l) = gelu (V a n t l) := by
  rw [gelu, gate_eq, th, half_eq]
  pointwise [val_main_v14, val_main_v15, val_main_v16, val_main_v17, val_main_v18, val_main_v19, val_main_v20, val_main_v21, val_main_v22, val_main_v23, val_main_v24, val_main_v25, val_main_v26, val_main_cst_3, val_main_cst_4, val_main_cst_5, val_main_cst_6]
  simp only [ofBits_gc, ofBits_ga, Reals.ofBits_half]
  rfl

theorem mean_at : (val_main_v31 (F := Ideal) a.v) (ix3 0 (row n t) 0) = mean (fun k => gelu (V a n t k)) := by
  pointwise [val_main_v27, val_main_v28, val_main_v29, val_main_v30, val_main_v31, val_main_cst_7, val_main_cst_8]
  simp only [gelu_v, mean, zero_add]

theorem xc_at : (val_main_v33 (F := Ideal) a.v) (ix3 0 (row n t) l) = xc (fun k => gelu (V a n t k)) l := by
  pointwise [val_main_v27, val_main_v32, val_main_v33]
  simp only [gelu_v, mean_at, xc]

theorem xc_at2 : (val_main_v40 (F := Ideal) a.v) (ix3 0 (row n t) l) = xc (fun k => gelu (V a n t k)) l := by
  pointwise [val_main_v27, val_main_v39, val_main_v40]
  simp only [gelu_v, mean_at, xc]

theorem rstd_at : (val_main_v43 (F := Ideal) a.v) (ix3 0 (row n t) 0) = rstd (fun k => gelu (V a n t k)) := by
  pointwise [val_main_v34, val_main_v35, val_main_v36, val_main_v37, val_main_v38, val_main_v41, val_main_v42, val_main_v43, val_main_cst_9, val_main_cst_10, val_main_cst_11]
  simp only [xc_at, rstd, var, mean, zero_add]

theorem vn_at : (val_main_v51 (F := Ideal) a.v a.lg a.lb) (ix3 0 (row n t) l) = vn a n t l := by
  pointwise [val_main_v44, val_main_v45, val_main_v46, val_main_v47, val_main_v48, val_main_v49, val_main_v50, val_main_v51]
  simp only [xc_at2, rstd_at, vn, vnC, xh]
  rfl

theorem vn5_at : (val_main_v52 (F := Ideal) a.v a.lg a.lb) (ix5 0 n t g j) = vn a n t (lane g j) := by
  pointwise [val_main_v52]
  exact vn_at a n t (lane g j)

theorem tri_at (s : Fin 128) : (val_main_v55 (F := Ideal) a.ws) (ix3 g t s) = tri (W a) g t s := by
  pointwise [val_main_v53, val_main_call0_v0, val_main_call0_c, val_main_call0_v1, val_main_call0_v2, val_main_call0_v3, val_main_call0_v4, val_main_call0_c_0, val_main_call0_v5, val_main_v54, val_main_call1_v1, val_main_c, val_main_cst_12, val_main_call1_v0, val_main_call1_v2, val_main_v55]
  rw [SguRef.not_after, tri]
  split
  · rfl
  · show constant (F := Ideal) S_ .f32 0#32 ix0 = (0 : EReal)
    pointwise

theorem mix5_at : (val_main_v61 (F := Ideal) a.v a.lg a.lb a.ws a.bs) (ix5 0 n t g j) = mixC (W a) (vn a n) t (lane g j) + B a g t := by
  pointwise [val_main_v56, val_main_v57, val_main_v58, val_main_v59, val_main_v60, val_main_v61]
  simp only [vn5_at, tri_at, mixC, grp_lane]
  exact congrArg (· + _) (Finset.sum_congr rfl fun s _ => mul_comm _ _)

theorem mix_at : (val_main_v62 (F := Ideal) a.v a.lg a.lb a.ws a.bs) (ix3 0 (row n t) l) = mixC (W a) (vn a n) t l + B a (grp l) t := by
  refine (SguRef.flat3 _ n t l).trans ?_
  rw [mix5_at, SguRef.lane_of]

theorem result_at (r : Fin 8192) : (val_main_v65 (F := Ideal) a.u a.v a.lg a.lb a.ws a.bs) (ix2 r l) = sa a (ix2 r l) := by
  obtain ⟨n, t, rfl⟩ : ∃ n t, r = row n t := ⟨nOf r, tOf r, (row_of r).symm⟩
  rw [sa_row]
  pointwise [val_main_v13, val_main_v63, val_main_v64, val_main_v65]
  rw [gelu_u, mix_at]

end Cert.GateRef

end
-- ==== Proof.GateClaim.lean ====
/- The sixth claim: the frames of its programs, and their results' equality. -/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import proofs.«01_k».proof.Proof.GateKernel
public import proofs.«01_k».proof.Proof.GateRef
import Idealize.ShloMosaic.Lib.Claim

@[expose] public section

set_option maxRecDepth 16384

noncomputable section

namespace Cert.GateClaim

open Idealize.ShloMosaic Idealize.ShloMosaic.TcCoe Idealize.SL.Sem

theorem frame_kernel : Cert.quiescent_Kernel6 := fun m ρ _ => Cert.Kernel6.Gen.frame m ρ

theorem frame_ideal : Cert.quiescent_Kernel6Ideal := fun m ρ _ => Cert.Kernel6Ideal.Gen.frame m ρ

theorem frame_reference : Cert.quiescent_Reference6Ideal := fun m ρ _ =>
  (θ_run Cert.Reference6Ideal.defs _ _).mono
    (fun r h => ⟨fun c => (h c).2, sem_eq_zero_of_no_sems (by decide) r.2⟩) (Cert.Reference6Ideal.Value.run m ρ)

/-- Each rounded constant of the gelu stands for the number it was rounded from. -/
theorem preserves : Cert.preserves_Kernel6_Kernel6Ideal :=
  ⟨IdealRules.named_const.statement Cert.Kernel6Ideal.κ "gelu_c" .bf16 0x3F4C#16 ((6693141 / 8388608 : ℝ) : EReal) rfl,
   IdealRules.named_const.statement Cert.Kernel6Ideal.κ "gelu_a" .bf16 0x3D37#16 ((12003091 / 268435456 : ℝ) : EReal) rfl⟩

theorem algebraic : Cert.algebraic_Kernel6Ideal_Reference6Ideal := by
  intro m g m' g' _ hargs
  refine ⟨_, (θ_run Cert.Kernel6Ideal.defs _ _).mono (fun r h => h) (Cert.Kernel6Ideal.Value.run_blocks m g),
    (θ_run Cert.Reference6Ideal.defs _ _).mono (fun r h c => ?_) (Cert.Reference6Ideal.Value.run m' g')⟩
  obtain ⟨a0, a1, a2, a3, a4, a5, a6⟩ := hargs c
  obtain ⟨h0, h⟩ := h c
  refine ⟨h0.trans ?_, h⟩
  rw [Cert.Reference6Ideal.Read.val_main_v65_eq, a0, a1, a3, a4, a5, a6, Cert.GateKernel.final7]
  funext i
  idx_vars i
  exact Cert.GateRef.result_at (Cert.GateKernel.args m c) i1 i0

end Cert.GateClaim

end
-- ==== Proof.GlaStage.lean ====
/- The seventh claim's kernel: what its body stores at a grid point, head by head and chunk by chunk. -/
module

public import proofs.«01_k».proof.Proof.Gen.Kernel7Ideal.Frame
public import Idealize.ShloMosaic.Lib.Pipeline.ValueKit

@[expose] public section

set_option maxRecDepth 65536

noncomputable section

namespace Cert.GlaStage

open Idealize.ShloMosaic Idealize.ShloMosaic.TcCoe Idealize.ShloMosaic.Tactic Idealize.SL.Sem
open Cert.Kernel7Ideal Cert.Kernel7Ideal.Gen

/-- One head's operands at a point: its queries beside its keys, values, output gates, columns of the decay's projection and
    bias, and what all heads share: the projection's rows, the norm's weight and the triangles. -/
structure Hd where
  qk : Vec Ideal S256x256 .f32
  v : Vec Ideal S256x256 .bf16
  og : Vec Ideal S256x256 .bf16
  w : Vec Ideal S128x128 .bf16
  bi : Vec Ideal S1x128 .f32
  lr : Vec Ideal S256x128 .bf16
  wn : Vec Ideal S1x256 .f32
  lt : Vec Ideal S256x256 .bf16

section Stages
variable (b : Hd)

/-- Scaled queries and keys; the decays' logarithm in three parts, its running sum within a chunk, and that sum's last row. -/
def q : FVec Ideal S256x128 .f32 := k0_pay6 b.qk
def k : FVec Ideal S256x128 .f32 := k0_pay7 b.qk
def a0 : FVec Ideal S256x128 .bf16 := k0_pay9 b.lr b.w b.bi
def a1 : FVec Ideal S256x128 .bf16 := k0_pay11 b.lr b.w b.bi
def a2 : FVec Ideal S256x128 .bf16 := k0_pay12 b.lr b.w b.bi
def run : FVec Ideal S256x128 .f32 := k0_pay13 (k0_pay4 b.lt) (a0 b) (a1 b) (a2 b)
def last : FVec Ideal S256x128 .f32 := k0_pay14 (k0_pay4 b.lt) (a0 b) (a1 b) (a2 b)
/-- Decayed queries, keys decayed to the chunk's end, values, and the outputs within a chunk. -/
def qd : FVec Ideal S256x128 .bf16 := k0_pay15 (k0_pay4 b.lt) (q b) (a0 b) (a1 b) (a2 b)
def kt : FVec Ideal S256x128 .bf16 := k0_pay16 (k0_pay4 b.lt) (k b) (a0 b) (a1 b) (a2 b)
def vv : FVec Ideal S256x256 .bf16 := k0_pay17 b.v
def oi : FVec Ideal S1x256x256 .f32 := k0_pay18 (k0_pay4 b.lt) (q b) (k b) (a0 b) (a1 b) (a2 b) b.v

/-- The state after each of the four chunks, from the state before it. -/
def s0 (x : Vec Ideal S1x256x128 .f32) : FVec Ideal S1x256x128 .f32 := k0_pay23 (last b) (kt b) (vv b) (k0_pay19 x)
def s1 (x : Vec Ideal S1x256x128 .f32) : FVec Ideal S1x256x128 .f32 := k0_pay29 (last b) (kt b) (vv b) (k0_pay24 x)
def s2 (x : Vec Ideal S1x256x128 .f32) : FVec Ideal S1x256x128 .f32 := k0_pay35 (k0_pay34 (last b) (kt b) (vv b) x)
def s3 (x : Vec Ideal S1x256x128 .f32) : FVec Ideal S1x256x128 .f32 := k0_pay40 (last b) (kt b) (vv b) x

end Stages

/-- A head's part of the carried state, of the scratch of outputs (whole, and each chunk's rows), of the array of kept states,
    and its columns of an output block. -/
abbrev rs (h : Fin 4) : Rect S4x256x128 := Rect.unit ![h.val, 0, 0] S1x256x128.size (by
  have := h.isLt; intro a; fin_cases a <;> simp [Shape.size] <;> omega)
abbrev rm (h : Fin 4) : Rect S4x256x256 := Rect.unit ![h.val, 0, 0] S1x256x256.size (by
  have := h.isLt; intro a; fin_cases a <;> simp [Shape.size] <;> omega)
abbrev rc (h n : Fin 4) : Rect S4x256x256 := Rect.unit ![h.val, 64 * n.val, 0] S1x64x256.size (by
  have := h.isLt; have := n.isLt; intro a; fin_cases a <;> simp [Shape.size] <;> omega)
abbrev rk (n h : Fin 4) : Rect S4x4x256x128 := Rect.unit ![n.val, h.val, 0, 0] S1x1x256x128.size (by
  have := h.isLt; have := n.isLt; intro a; fin_cases a <;> simp [Shape.size] <;> omega)
abbrev ro (h : Fin 4) : Rect S256x1024 := Rect.unit ![0, 256 * h.val] S256x256.size (by
  have := h.isLt; intro a; fin_cases a <;> simp [Shape.size] <;> omega)

abbrev SL := List (View.Piece (Elt Ideal) S4x256x128 .f32)
abbrev ML := List (View.Piece (Elt Ideal) S4x256x256 .f32)
abbrev KL := List (View.Piece (Elt Ideal) S4x4x256x128 .bf16)

/-- The stores into the carried state, the last first, over the stores before a head's. -/
def rd (h : Fin 4) (L : SL) : Vec Ideal S1x256x128 .f32 := (View.whole cc0_scratch0).readCov L (rs h).toLoadRect
def l0 (b : Hd) (h : Fin 4) (x : Vec Ideal S1x256x128 .f32) (L : SL) : SL := ⟨rs h, s0 b x⟩ :: L
def l1 (b : Hd) (h : Fin 4) (x : Vec Ideal S1x256x128 .f32) (L : SL) : SL := ⟨rs h, s1 b (rd h (l0 b h x L))⟩ :: l0 b h x L
def l2 (b : Hd) (h : Fin 4) (x : Vec Ideal S1x256x128 .f32) (L : SL) : SL := ⟨rs h, s2 b (rd h (l1 b h x L))⟩ :: l1 b h x L
def l3 (b : Hd) (h : Fin 4) (x : Vec Ideal S1x256x128 .f32) (L : SL) : SL := ⟨rs h, s3 b (rd h (l2 b h x L))⟩ :: l2 b h x L

/-- The states a head's chunks start from. -/
def x1 (b : Hd) (h : Fin 4) (x : Vec Ideal S1x256x128 .f32) (L : SL) : Vec Ideal S1x256x128 .f32 := rd h (l0 b h x L)
def x2 (b : Hd) (h : Fin 4) (x : Vec Ideal S1x256x128 .f32) (L : SL) : Vec Ideal S1x256x128 .f32 := rd h (l1 b h x L)
def x3 (b : Hd) (h : Fin 4) (x : Vec Ideal S1x256x128 .f32) (L : SL) : Vec Ideal S1x256x128 .f32 := rd h (l2 b h x L)

/-- The stores of the kept states, the last first. -/
def ks (b : Hd) (h : Fin 4) (x y z w : Vec Ideal S1x256x128 .f32) (K : KL) : KL :=
  ⟨rk 3 h, k0_pay38 w⟩ :: ⟨rk 2 h, k0_pay32 z⟩ :: ⟨rk 1 h, k0_pay26 y⟩ :: ⟨rk 0 h, k0_pay21 (k0_pay20 x)⟩ :: K

/-- The stores into the scratch of outputs: within the chunks, then each chunk's rows with the state's part added. -/
def rr (h n : Fin 4) (M : ML) : Vec Ideal S1x64x256 .f32 := (View.whole cc0_scratch1).readCov M (rc h n).toLoadRect
def o0 (b : Hd) (h : Fin 4) (M : ML) : ML := ⟨rm h, oi b⟩ :: M
def o1 (b : Hd) (h : Fin 4) (x : Vec Ideal S1x256x128 .f32) (M : ML) : ML := ⟨rc h 0, k0_pay22 (qd b) (k0_pay20 x) (rr h 0 M)⟩ :: M
def o2 (b : Hd) (h : Fin 4) (x : Vec Ideal S1x256x128 .f32) (M : ML) : ML := ⟨rc h 1, k0_pay28 (k0_pay27 (qd b) x (rr h 1 M))⟩ :: M
def o3 (b : Hd) (h : Fin 4) (x : Vec Ideal S1x256x128 .f32) (M : ML) : ML := ⟨rc h 2, k0_pay33 (qd b) x (rr h 2 M)⟩ :: M
def o4 (b : Hd) (h : Fin 4) (x : Vec Ideal S1x256x128 .f32) (M : ML) : ML := ⟨rc h 3, k0_pay39 (qd b) x (rr h 3 M)⟩ :: M
def os (b : Hd) (h : Fin 4) (x y z w : Vec Ideal S1x256x128 .f32) (M : ML) : ML := o4 b h w (o3 b h z (o2 b h y (o1 b h x (o0 b h M))))

/-- A head's outputs as bf16, and normalised and gated. -/
def op (h : Fin 4) (M : ML) : FVec Ideal S256x256 .bf16 := k0_pay41 ((View.whole cc0_scratch1).readCov M (rm h).toLoadRect)
def gp (b : Hd) (h : Fin 4) (M : ML) : FVec Ideal S256x256 .bf16 := k0_pay42 (op h M) b.og b.wn

/-- A point's four heads. -/
abbrev Pt := Fin 4 → Hd

/-- The stores of the heads before each, at a point that starts from a carried state, and at one that zeroes it first. -/
def lb0 (p : Pt) (xs : Vec Ideal S4x256x128 .f32) : SL := l3 (p 0) 0 (View.ld xs (rs 0)) []
def lb1 (p : Pt) (xs : Vec Ideal S4x256x128 .f32) : SL := l3 (p 1) 1 (View.ld xs (rs 1)) (lb0 p xs)
def lb2 (p : Pt) (xs : Vec Ideal S4x256x128 .f32) : SL := l3 (p 2) 2 (View.ld xs (rs 2)) (lb1 p xs)
def lb3 (p : Pt) (xs : Vec Ideal S4x256x128 .f32) : SL := l3 (p 3) 3 (View.ld xs (rs 3)) (lb2 p xs)
def za : SL := [⟨Rect.unit ![0, 0, 0] S4x256x128.size (by decide), k0_pay2 (F := Ideal)⟩]
def la0 (p : Pt) : SL := l3 (p 0) 0 (rd 0 za) za
def la1 (p : Pt) : SL := l3 (p 1) 1 (rd 1 (la0 p)) (la0 p)
def la2 (p : Pt) : SL := l3 (p 2) 2 (rd 2 (la1 p)) (la1 p)
def la3 (p : Pt) : SL := l3 (p 3) 3 (rd 3 (la2 p)) (la2 p)

/-- What the heads store, over the states they start from and the stores into the carried state before them. -/
structure From where
  x : Fin 4 → Vec Ideal S1x256x128 .f32
  L : Fin 4 → SL
def fromB (p : Pt) (xs : Vec Ideal S4x256x128 .f32) : From := ⟨fun h => View.ld xs (rs h), ![[], lb0 p xs, lb1 p xs, lb2 p xs]⟩
def fromA (p : Pt) : From := ⟨![rd 0 za, rd 1 (la0 p), rd 2 (la1 p), rd 3 (la2 p)], ![za, la0 p, la1 p, la2 p]⟩

section Stored
variable (p : Pt) (f : From)
def kh (h : Fin 4) (K : KL) : KL :=
  ks (p h) h (f.x h) (x1 (p h) h (f.x h) (f.L h)) (x2 (p h) h (f.x h) (f.L h)) (x3 (p h) h (f.x h) (f.L h)) K
def kept : KL := kh p f 3 (kh p f 2 (kh p f 1 (kh p f 0 [])))
def oh (h : Fin 4) (M : ML) : ML :=
  os (p h) h (f.x h) (x1 (p h) h (f.x h) (f.L h)) (x2 (p h) h (f.x h) (f.L h)) (x3 (p h) h (f.x h) (f.L h)) M
def m0 : ML := oh p f 0 []
def m1 : ML := oh p f 1 (m0 p f)
def m2 : ML := oh p f 2 (m1 p f)
def m3 : ML := oh p f 3 (m2 p f)
def outO : List (View.Piece (Elt Ideal) S256x1024 .bf16) :=
  [⟨ro 3, op 3 (m3 p f)⟩, ⟨ro 2, op 2 (m2 p f)⟩, ⟨ro 1, op 1 (m1 p f)⟩, ⟨ro 0, op 0 (m0 p f)⟩]
def outB : List (View.Piece (Elt Ideal) S256x1024 .bf16) :=
  [⟨ro 3, gp (p 3) 3 (m3 p f)⟩, ⟨ro 2, gp (p 2) 2 (m2 p f)⟩, ⟨ro 1, gp (p 1) 1 (m1 p f)⟩, ⟨ro 0, gp (p 0) 0 (m0 p f)⟩]
end Stored

/-- The heads' operands, from the blocks a point reads. -/
def hd (B0 : Vec Ideal S256x1024 .f32) (B1 B2 : Vec Ideal S256x1024 .bf16) (B3 : Vec Ideal S256x128 .bf16)
    (B4 : Vec Ideal S128x512 .bf16) (B5 : Vec Ideal S1x512 .f32) (B6 : Vec Ideal S1x256 .f32) (B7 : Vec Ideal S256x256 .bf16) : Pt := fun h =>
  ⟨View.ld B0 (ro h), View.ld B1 (ro h), View.ld B2 (ro h),
   View.ld B4 (Rect.unit ![0, 128 * h.val] S128x128.size (by have := h.isLt; intro a; fin_cases a <;> simp [Shape.size] <;> omega)),
   View.ld B5 (Rect.unit ![0, 128 * h.val] S1x128.size (by have := h.isLt; intro a; fin_cases a <;> simp [Shape.size] <;> omega)),
   B3, B6, B7⟩

variable (m : (ℓ : Loc nD τ sig) → Buf (Elt Ideal) ℓ) (c : Dev nD)

def pt (t : Fin cfg0.N) : Pt :=
  hd (iblk m c 0 t) (iblk m c 1 t) (iblk m c 2 t) (iblk m c 3 t) (iblk m c 4 t) (iblk m c 5 t) (iblk m c 6 t) (iblk m c 7 t)

/-- The carried state a point starts from. -/
def before (t : Fin cfg0.N) : Vec Ideal S4x256x128 .f32 := (outsAt0 m c (t.val - 1) (by omega)).2.2.2

theorem state_B (t : Fin cfg0.N) (h0 : ¬t.val % 32 = 0) :
    (outsAt0 m c t.val t.isLt).2.2.2 = View.canon (lb3 (pt m c t) (before m c t)) := by
  rw [outsAt0_B m c t h0]
  frame_out
  simp only [(Memref.isWhole_whole cc0_scratch0).read_unread]
  sl_kernel_rfl

theorem state_A (t : Fin cfg0.N) (h0 : t.val % 32 = 0) :
    (outsAt0 m c t.val t.isLt).2.2.2 = View.canon (la3 (pt m c t)) := by
  rw [outsAt0_A m c t h0]
  frame_out
  sl_kernel_rfl

theorem ob_B (t : Fin cfg0.N) (h0 : ¬t.val % 32 = 0) :
    (outsAt0 m c t.val t.isLt).1 = View.canon (outB (pt m c t) (fromB (pt m c t) (before m c t))) := by
  rw [outsAt0_B m c t h0]
  frame_out
  simp only [(Memref.isWhole_whole cc0_scratch0).read_unread]
  sl_kernel_rfl

theorem ob_A (t : Fin cfg0.N) (h0 : t.val % 32 = 0) :
    (outsAt0 m c t.val t.isLt).1 = View.canon (outB (pt m c t) (fromA (pt m c t))) := by
  rw [outsAt0_A m c t h0]
  frame_out
  sl_kernel_rfl

theorem o_B (t : Fin cfg0.N) (h0 : ¬t.val % 32 = 0) :
    (outsAt0 m c t.val t.isLt).2.1 = View.canon (outO (pt m c t) (fromB (pt m c t) (before m c t))) := by
  rw [outsAt0_B m c t h0]
  frame_out
  simp only [(Memref.isWhole_whole cc0_scratch0).read_unread]
  sl_kernel_rfl

theorem o_A (t : Fin cfg0.N) (h0 : t.val % 32 = 0) :
    (outsAt0 m c t.val t.isLt).2.1 = View.canon (outO (pt m c t) (fromA (pt m c t))) := by
  rw [outsAt0_A m c t h0]
  frame_out
  sl_kernel_rfl

theorem states_B (t : Fin cfg0.N) (h0 : ¬t.val % 32 = 0) :
    (outsAt0 m c t.val t.isLt).2.2.1 = View.canon (kept (pt m c t) (fromB (pt m c t) (before m c t))) := by
  rw [outsAt0_B m c t h0]
  frame_out
  simp only [(Memref.isWhole_whole cc0_scratch0).read_unread]
  sl_kernel_rfl

theorem states_A (t : Fin cfg0.N) (h0 : t.val % 32 = 0) :
    (outsAt0 m c t.val t.isLt).2.2.1 = View.canon (kept (pt m c t) (fromA (pt m c t))) := by
  rw [outsAt0_A m c t h0]
  frame_out
  sl_kernel_rfl

end Cert.GlaStage

end
-- ==== Proof.GlaReads.lean ====
/- The seventh claim's kernel: what the stores of a point leave, at each head. -/
module

public import proofs.«01_k».proof.Proof.GlaStage

@[expose] public section

set_option maxRecDepth 65536

noncomputable section

namespace Cert.GlaReads

open Idealize.ShloMosaic Idealize.ShloMosaic.TcCoe Idealize.ShloMosaic.Tactic Idealize.SL.Sem
open Cert.Kernel7Ideal Cert.Kernel7Ideal.Gen Cert.GlaStage

variable (b : Hd) (h g : Fin 4) (x y z w : Vec Ideal S1x256x128 .f32) (L : SL) (M : ML) (K : KL)

/-- A head's part of the state reads what was last stored there. -/
theorem rd_same (u : Vec Ideal S1x256x128 .f32) : rd h (⟨rs h, u⟩ :: L) = u := by
  unfold rd
  rw [View.readCov_eq_canon']
  funext j
  exact View.canon_cons_emb (rs h) u L j

theorem x1_eq : x1 b h x L = s0 b x := rd_same h L _
theorem x2_eq : x2 b h x L = s1 b (s0 b x) := (rd_same h _ _).trans (congrArg (s1 b) (x1_eq b h x L))
theorem x3_eq : x3 b h x L = s2 b (s1 b (s0 b x)) := (rd_same h _ _).trans (congrArg (s2 b) (x2_eq b h x L))

/-- The state after a point's four chunks. -/
def s4 : FVec Ideal S1x256x128 .f32 := s3 b (s2 b (s1 b (s0 b x)))

theorem cs_here (u : Vec Ideal S1x256x128 .f32) (j : S1x256x128.Idx) : View.canon ((⟨rs h, u⟩ :: L : SL)) ((rs h).emb j) = u j :=
  View.canon_cons_emb (rs h) u L j

theorem l3_here (j : S1x256x128.Idx) : View.canon (l3 b h x L) ((rs h).emb j) = s4 b x j := by
  have e : l3 b h x L = ⟨rs h, s3 b (x3 b h x L)⟩ :: l2 b h x L := rfl
  rw [e, x3_eq]
  exact cs_here h _ _ j

variable {h g}

theorem not_rs (hg : g ≠ h) (j : S1x256x128.Idx) : (rs g).emb j ∉ (rs h).set := fun e => by
  have e0 := Rect.mem_set_unit.mp e 0
  have j0 : (j 0).val = 0 := by have := (j 0).isLt; simpa [Shape.size] using this
  have v : ((rs g).emb j 0).val = g.val + 1 * (j 0).val := rfl
  rw [v, j0] at e0
  have h1 : h.val ≤ g.val + 1 * 0 := e0.1
  have h2 : g.val + 1 * 0 < h.val + 1 := e0.2
  exact hg (Fin.ext (by omega))

theorem cs_skip (hg : g ≠ h) (u : Vec Ideal S1x256x128 .f32) (j : S1x256x128.Idx) :
    View.canon ((⟨rs h, u⟩ :: L : SL)) ((rs g).emb j) = View.canon L ((rs g).emb j) :=
  View.canon_cons_of_not_mem _ _ (not_rs hg j)

theorem l3_skip (hg : g ≠ h) (j : S1x256x128.Idx) : View.canon (l3 b h x L) ((rs g).emb j) = View.canon L ((rs g).emb j) := by
  unfold l3 l2 l1 l0
  rw [cs_skip _ hg, cs_skip _ hg, cs_skip _ hg, cs_skip _ hg]

variable (h g) (p : Pt) (xs : Vec Ideal S4x256x128 .f32)

theorem lb3_at (j : S1x256x128.Idx) : View.canon (lb3 p xs) ((rs h).emb j) = s4 (p h) (View.ld xs (rs h)) j := by
  unfold lb3 lb2 lb1 lb0
  match h with
  | 0 => exact (l3_skip _ _ _ (by decide) j).trans ((l3_skip _ _ _ (by decide) j).trans ((l3_skip _ _ _ (by decide) j).trans (l3_here _ _ _ _ j)))
  | 1 => exact (l3_skip _ _ _ (by decide) j).trans ((l3_skip _ _ _ (by decide) j).trans (l3_here _ _ _ _ j))
  | 2 => exact (l3_skip _ _ _ (by decide) j).trans (l3_here _ _ _ _ j)
  | 3 => exact l3_here _ _ _ _ j

theorem k0_pay2_zero (i : S4x256x128.Idx) : k0_pay2 (F := Ideal) i = (0 : EReal) := by
  pointwise [k0_pay2]

theorem za_at (j : S1x256x128.Idx) : View.canon za ((rs h).emb j) = (0 : EReal) := by
  unfold za
  have e : (Rect.unit (s := S4x256x128) ![0, 0, 0] S4x256x128.size (by decide)).emb ((rs h).emb j) = (rs h).emb j := by
    funext a
    apply Fin.ext
    show (![0, 0, 0] : Fin 3 → ℕ) a + 1 * ((rs h).emb j a).val = _
    fin_cases a <;> simp
  have := View.canon_cons_emb (Val := Elt Ideal) (e := .f32) (Rect.unit (s := S4x256x128) ![0, 0, 0] S4x256x128.size (by decide)) (k0_pay2 (F := Ideal)) [] ((rs h).emb j)
  rw [e] at this
  refine this.trans ?_
  exact k0_pay2_zero _

theorem rd_at (j : S1x256x128.Idx) : rd h L j = View.canon L ((rs h).emb j) := by
  unfold rd
  rw [View.readCov_eq_canon']
  rfl

/-- A head's stores over stores that leave zero at head `g` leave zero there too. -/
theorem l3_zero (hg : g ≠ h) (hz : ∀ j, View.canon L ((rs g).emb j) = (0 : EReal)) (j : S1x256x128.Idx) :
    View.canon (l3 b h x L) ((rs g).emb j) = (0 : EReal) := (l3_skip b x L hg j).trans (hz j)

theorem la0_at (hg : g ≠ 0) (j : S1x256x128.Idx) : View.canon (la0 p) ((rs g).emb j) = (0 : EReal) :=
  l3_zero (p 0) 0 g (rd 0 za) za hg (za_at g) j
theorem la1_at (h0 : g ≠ 0) (h1 : g ≠ 1) (j : S1x256x128.Idx) : View.canon (la1 p) ((rs g).emb j) = (0 : EReal) :=
  l3_zero (p 1) 1 g (rd 1 (la0 p)) (la0 p) h1 (la0_at g p h0) j
theorem la2_at (h0 : g ≠ 0) (h1 : g ≠ 1) (h2 : g ≠ 2) (j : S1x256x128.Idx) : View.canon (la2 p) ((rs g).emb j) = (0 : EReal) :=
  l3_zero (p 2) 2 g (rd 2 (la1 p)) (la1 p) h2 (la1_at g p h0 h1) j

theorem rd0 : rd 0 za = fun _ => (0 : EReal) := funext fun j => (rd_at 0 za j).trans (za_at 0 j)
theorem rd1 : rd 1 (la0 p) = fun _ => (0 : EReal) := funext fun j => (rd_at 1 (la0 p) j).trans (la0_at 1 p (by decide) j)
theorem rd2 : rd 2 (la1 p) = fun _ => (0 : EReal) := funext fun j => (rd_at 2 (la1 p) j).trans (la1_at 2 p (by decide) (by decide) j)
theorem rd3 : rd 3 (la2 p) = fun _ => (0 : EReal) :=
  funext fun j => (rd_at 3 (la2 p) j).trans (la2_at 3 p (by decide) (by decide) (by decide) j)

seal rd la0 la1 la2 in
theorem fromA_x : (fromA p).x h = fun _ => (0 : EReal) := by
  unfold fromA
  match h with
  | 0 => exact rd0
  | 1 => exact rd1 p
  | 2 => exact rd2 p
  | 3 => exact rd3 p

theorem la3_at (j : S1x256x128.Idx) : View.canon (la3 p) ((rs h).emb j) = s4 (p h) (fun _ => (0 : EReal)) j := by
  match h with
  | 0 =>
    refine (l3_skip (p 3) (rd 3 (la2 p)) (la2 p) (by decide) j).trans ((l3_skip (p 2) (rd 2 (la1 p)) (la1 p) (by decide) j).trans
      ((l3_skip (p 1) (rd 1 (la0 p)) (la0 p) (by decide) j).trans ((l3_here (p 0) 0 (rd 0 za) za j).trans ?_)))
    rw [rd0]
  | 1 =>
    refine (l3_skip (p 3) (rd 3 (la2 p)) (la2 p) (by decide) j).trans ((l3_skip (p 2) (rd 2 (la1 p)) (la1 p) (by decide) j).trans
      ((l3_here (p 1) 1 (rd 1 (la0 p)) (la0 p) j).trans ?_))
    rw [rd1]
  | 2 =>
    refine (l3_skip (p 3) (rd 3 (la2 p)) (la2 p) (by decide) j).trans ((l3_here (p 2) 2 (rd 2 (la1 p)) (la1 p) j).trans ?_)
    rw [rd2]
  | 3 =>
    refine (l3_here (p 3) 3 (rd 3 (la2 p)) (la2 p) j).trans ?_
    rw [rd3]

/-! ## The kept states -/

theorem not_rk {n o : Fin 4} (hg : n ≠ o ∨ g ≠ h) (j : S1x1x256x128.Idx) : (rk n g).emb j ∉ (rk o h).set := fun e => by
  have e0 := Rect.mem_set_unit.mp e 0
  have e1 := Rect.mem_set_unit.mp e 1
  have j0 : (j 0).val = 0 := by have := (j 0).isLt; simpa [Shape.size] using this
  have j1 : (j 1).val = 0 := by have := (j 1).isLt; simpa [Shape.size] using this
  have v : ((rk n g).emb j 0).val = n.val + 1 * (j 0).val := rfl
  have v' : ((rk n g).emb j 1).val = g.val + 1 * (j 1).val := rfl
  rw [v, j0] at e0
  rw [v', j1] at e1
  have h1 : o.val ≤ n.val + 1 * 0 := e0.1
  have h2 : n.val + 1 * 0 < o.val + 1 := e0.2
  have h3 : h.val ≤ g.val + 1 * 0 := e1.1
  have h4 : g.val + 1 * 0 < h.val + 1 := e1.2
  rcases hg with hg | hg
  · exact hg (Fin.ext (by omega))
  · exact hg (Fin.ext (by omega))

theorem ck_here (n : Fin 4) (u : Vec Ideal S1x1x256x128 .bf16) (j : S1x1x256x128.Idx) :
    View.canon ((⟨rk n h, u⟩ :: K : KL)) ((rk n h).emb j) = u j := View.canon_cons_emb (Val := Elt Ideal) (e := .bf16) (rk n h) u K j

theorem ck_skip {n o : Fin 4} (hg : n ≠ o ∨ g ≠ h) (u : Vec Ideal S1x1x256x128 .bf16) (j : S1x1x256x128.Idx) :
    View.canon ((⟨rk o h, u⟩ :: K : KL)) ((rk n g).emb j) = View.canon K ((rk n g).emb j) :=
  View.canon_cons_of_not_mem _ _ (not_rk h g hg j)

theorem ks_skip (hg : g ≠ h) (n : Fin 4) (j : S1x1x256x128.Idx) : View.canon (ks b h x y z w K) ((rk n g).emb j) = View.canon K ((rk n g).emb j) := by
  unfold ks
  rw [ck_skip _ _ _ (.inr hg), ck_skip _ _ _ (.inr hg), ck_skip _ _ _ (.inr hg), ck_skip _ _ _ (.inr hg)]

/-- The four states a head keeps. -/
def keeps : Fin 4 → FVec Ideal S1x1x256x128 .bf16 := ![k0_pay21 (k0_pay20 x), k0_pay26 y, k0_pay32 z, k0_pay38 w]

theorem ks_here (n : Fin 4) (j : S1x1x256x128.Idx) : View.canon (ks b h x y z w K) ((rk n h).emb j) = keeps x y z w n j := by
  unfold ks
  match n with
  | 0 =>
    rw [ck_skip _ _ _ (.inl (by decide)), ck_skip _ _ _ (.inl (by decide)), ck_skip _ _ _ (.inl (by decide)), ck_here]
    rfl
  | 1 =>
    rw [ck_skip _ _ _ (.inl (by decide)), ck_skip _ _ _ (.inl (by decide)), ck_here]
    rfl
  | 2 =>
    rw [ck_skip _ _ _ (.inl (by decide)), ck_here]
    rfl
  | 3 =>
    rw [ck_here]
    rfl

/-- The four states a head's chunks start from. -/
def chain : Fin 4 → Vec Ideal S1x256x128 .f32 := ![x, s0 b x, s1 b (s0 b x), s2 b (s1 b (s0 b x))]
def kp : Fin 4 → FVec Ideal S1x1x256x128 .bf16 := keeps (chain b x 0) (chain b x 1) (chain b x 2) (chain b x 3)

variable (f : From)

theorem kh_here (n : Fin 4) (j : S1x1x256x128.Idx) : View.canon (kh p f h K) ((rk n h).emb j) = kp (p h) (f.x h) n j := by
  unfold kh
  rw [x1_eq, x2_eq, x3_eq]
  exact ks_here _ _ _ _ _ _ _ n j

theorem kh_skip (hg : g ≠ h) (n : Fin 4) (j : S1x1x256x128.Idx) : View.canon (kh p f h K) ((rk n g).emb j) = View.canon K ((rk n g).emb j) :=
  ks_skip _ _ _ _ _ _ _ _ hg n j

theorem kept_at (n : Fin 4) (j : S1x1x256x128.Idx) : View.canon (kept p f) ((rk n h).emb j) = kp (p h) (f.x h) n j := by
  unfold kept
  match h with
  | 0 => exact (kh_skip _ _ _ _ _ (by decide) n j).trans ((kh_skip _ _ _ _ _ (by decide) n j).trans ((kh_skip _ _ _ _ _ (by decide) n j).trans (kh_here _ _ _ _ n j)))
  | 1 => exact (kh_skip _ _ _ _ _ (by decide) n j).trans ((kh_skip _ _ _ _ _ (by decide) n j).trans (kh_here _ _ _ _ n j))
  | 2 => exact (kh_skip _ _ _ _ _ (by decide) n j).trans (kh_here _ _ _ _ n j)
  | 3 => exact kh_here _ _ _ _ n j

/-! ## The outputs -/

theorem rr_at (n : Fin 4) (j : S1x64x256.Idx) : rr h n M j = View.canon M ((rc h n).emb j) := by
  unfold rr
  rw [View.readCov_eq_canon']
  rfl

theorem not_rc {n o : Fin 4} (hn : n ≠ o) (j : S1x64x256.Idx) : (rc h n).emb j ∉ (rc h o).set := fun e => by
  have e1 := Rect.mem_set_unit.mp e 1
  have j1 : (j 1).val < 64 := by have := (j 1).isLt; simpa [Shape.size] using this
  have v' : ((rc h n).emb j 1).val = 64 * n.val + 1 * (j 1).val := rfl
  rw [v'] at e1
  have h3 : 64 * o.val ≤ 64 * n.val + 1 * (j 1).val := e1.1
  have h4 : 64 * n.val + 1 * (j 1).val < 64 * o.val + 64 := e1.2
  exact hn (Fin.ext (by omega))

/-- A chunk's rows of a head's outputs within the chunks. -/
def oir (n : Fin 4) : Vec Ideal S1x64x256 .f32 := fun j => oi b (ix3 (j 0) (⟨64 * n.val + (j 1).val, by
  have := n.isLt; have h1 : (j 1).val < 64 := by have := (j 1).isLt; simpa [Shape.size] using this
  omega⟩ : Fin 256) (j 2))

theorem o0_rows (n : Fin 4) : rr h n (o0 b h M) = oir b n := by
  funext j
  refine (rr_at _ _ _ j).trans ?_
  have e : (rc h n).emb j = (rm h).emb (ix3 (j 0) (⟨64 * n.val + (j 1).val, by
      have := n.isLt; have h1 : (j 1).val < 64 := by have := (j 1).isLt; simpa [Shape.size] using this
      omega⟩ : Fin 256) (j 2)) := by
    funext a
    apply Fin.ext
    fin_cases a
    · rfl
    · show 64 * n.val + 1 * (j 1).val = 0 + 1 * (64 * n.val + (j 1).val)
      omega
    · rfl
  rw [e]
  exact View.canon_cons_emb (rm h) (oi b) M _

variable {h}
theorem rr_skip {n o : Fin 4} (hn : n ≠ o) (u : Vec Ideal S1x64x256 .f32) : rr h n (⟨rc h o, u⟩ :: M) = rr h n M := by
  funext j
  rw [rr_at, rr_at]
  exact View.canon_cons_of_not_mem _ _ (not_rc h hn j)
theorem rr_same (n : Fin 4) (u : Vec Ideal S1x64x256 .f32) : rr h n (⟨rc h n, u⟩ :: M) = u := by
  funext j
  rw [rr_at]
  exact View.canon_cons_emb (rc h n) u M j
variable (h)

/-- A chunk's rows of a head's outputs. -/
def outs : Fin 4 → Vec Ideal S1x64x256 .f32 :=
  ![k0_pay22 (qd b) (k0_pay20 x) (oir b 0), k0_pay28 (k0_pay27 (qd b) y (oir b 1)), k0_pay33 (qd b) z (oir b 2), k0_pay39 (qd b) w (oir b 3)]

theorem os_rows (n : Fin 4) : rr h n (os b h x y z w M) = outs b x y z w n := by
  have e0 := o0_rows b h M
  unfold os o4 o3 o2 o1
  match n with
  | 0 =>
    rw [rr_skip _ (by decide), rr_skip _ (by decide), rr_skip _ (by decide), rr_same, e0]
    rfl
  | 1 =>
    rw [rr_skip _ (by decide), rr_skip _ (by decide), rr_same, rr_skip _ (by decide), e0]
    rfl
  | 2 =>
    rw [rr_skip _ (by decide), rr_same, rr_skip _ (by decide), rr_skip _ (by decide), e0]
    rfl
  | 3 =>
    rw [rr_same, rr_skip _ (by decide), rr_skip _ (by decide), rr_skip _ (by decide), e0]
    rfl

/-- The rows of a head's outputs with the state's part. -/
def orow : Fin 4 → Vec Ideal S1x64x256 .f32 := outs b (chain b x 0) (chain b x 1) (chain b x 2) (chain b x 3)

theorem oh_rows (n : Fin 4) : rr h n (oh p f h M) = orow (p h) (f.x h) n := by
  unfold oh
  rw [x1_eq, x2_eq, x3_eq]
  exact os_rows _ _ _ _ _ _ _ n

theorem k0_pay41_at (u : Vec Ideal S1x256x256 .f32) (r v : Fin 256) : k0_pay41 u (ix2 r v) = u (ix3 0 r v) := by
  pointwise [k0_pay41]

theorem op_at (n : Fin 4) (i : Fin 64) (v : Fin 256) :
    op h (oh p f h M) (ix2 ⟨64 * n.val + i.val, by omega⟩ v) = orow (p h) (f.x h) n (ix3 0 i v) := by
  have e : (rm h).emb (ix3 0 (⟨64 * n.val + i.val, by omega⟩ : Fin 256) v) = (rc h n).emb (ix3 0 i v) := by
    funext a
    apply Fin.ext
    match a with
    | 0 => rfl
    | 1 =>
      show 0 + 1 * (64 * n.val + i.val) = 64 * n.val + 1 * i.val
      omega
    | 2 => rfl
  rw [← oh_rows h M p f n, rr_at, ← e]
  unfold op
  rw [k0_pay41_at, View.readCov_eq_canon']
  rfl

/-- A head's outputs over a point's rows. -/
def opv : FVec Ideal S256x256 .bf16 := fun i =>
  orow b x ⟨(i 0).val / 64, by have h0 : (i 0).val < 256 := (i 0).isLt; omega⟩ (ix3 0 ⟨(i 0).val % 64, by omega⟩ (i 1))

theorem op_eq : op h (oh p f h M) = opv (p h) (f.x h) := by
  funext j
  have h0 : (j 0).val < 256 := (j 0).isLt
  refine Eq.trans (congrArg (op h (oh p f h M)) ?_) (op_at h M p f ⟨(j 0).val / 64, by omega⟩ ⟨(j 0).val % 64, by omega⟩ (j 1))
  funext a
  apply Fin.ext
  match a with
  | 0 =>
    show (j 0).val = 64 * ((j 0).val / 64) + (j 0).val % 64
    omega
  | 1 => rfl

theorem not_ro (hg : g ≠ h) (j : S256x256.Idx) : (ro g).emb j ∉ (ro h).set := fun e => by
  have e1 := Rect.mem_set_unit.mp e 1
  have j1 : (j 1).val < 256 := (j 1).isLt
  have v : ((ro g).emb j 1).val = 256 * g.val + 1 * (j 1).val := rfl
  rw [v] at e1
  have h3 : 256 * h.val ≤ 256 * g.val + 1 * (j 1).val := e1.1
  have h4 : 256 * g.val + 1 * (j 1).val < 256 * h.val + 256 := e1.2
  exact hg (Fin.ext (by omega))

abbrev OL := List (View.Piece (Elt Ideal) S256x1024 .bf16)

theorem co_here (O : OL) (u : Vec Ideal S256x256 .bf16) (j : S256x256.Idx) : View.canon ((⟨ro h, u⟩ :: O : OL)) ((ro h).emb j) = u j :=
  View.canon_cons_emb (Val := Elt Ideal) (e := .bf16) (ro h) u O j

variable {h g} in
theorem co_skip (hg : g ≠ h) (O : OL) (u : Vec Ideal S256x256 .bf16) (j : S256x256.Idx) :
    View.canon ((⟨ro h, u⟩ :: O : OL)) ((ro g).emb j) = View.canon O ((ro g).emb j) :=
  View.canon_cons_of_not_mem _ _ (not_ro _ _ hg j)

/-- Four blocks side by side. -/
theorem four_at (u : Fin 4 → Vec Ideal S256x256 .bf16) (j : S256x256.Idx) :
    View.canon ([⟨ro 3, u 3⟩, ⟨ro 2, u 2⟩, ⟨ro 1, u 1⟩, ⟨ro 0, u 0⟩] : OL) ((ro h).emb j) = u h j := by
  match h with
  | 0 => rw [co_skip (by decide), co_skip (by decide), co_skip (by decide), co_here]
  | 1 => rw [co_skip (by decide), co_skip (by decide), co_here]
  | 2 => rw [co_skip (by decide), co_here]
  | 3 => rw [co_here]

theorem outO_at (j : S256x256.Idx) : View.canon (outO p f) ((ro h).emb j) = opv (p h) (f.x h) j := by
  unfold outO m3 m2 m1 m0
  simp only [op_eq]
  exact four_at h (fun h => opv (p h) (f.x h)) j

/-- A head's normalised and gated outputs over a point's rows. -/
def gpv : FVec Ideal S256x256 .bf16 := k0_pay42 (opv b x) b.og b.wn

theorem gp_eq : gp (p h) h (oh p f h M) = gpv (p h) (f.x h) := by
  unfold gp gpv
  rw [op_eq]

theorem outB_at (j : S256x256.Idx) : View.canon (outB p f) ((ro h).emb j) = gpv (p h) (f.x h) j := by
  unfold outB m3 m2 m1 m0
  simp only [gp_eq]
  exact four_at h (fun h => gpv (p h) (f.x h)) j

end Cert.GlaReads

end
-- ==== Proof.GlaSpec.lean ====
/- Gated linear attention in closed form over the arguments of the seventh claim: the decays, the products within a chunk of 64
   rows, the state carried from chunk to chunk, and the normalised and gated outputs. -/
module

public import proofs.«01_k».proof.Proof.Reals
public import Idealize.ShloMosaic.Lib.Pointwise

@[expose] public section

noncomputable section

namespace Cert.GlaSpec

open Idealize.ShloMosaic Cert.Reals

/-- The arguments that are read. -/
structure Args where
  q : FVec Ideal ⟨2, ![8192, 512]⟩ .f32
  k : FVec Ideal ⟨2, ![8192, 512]⟩ .f32
  v : FVec Ideal ⟨2, ![8192, 1024]⟩ .f32
  og : FVec Ideal ⟨2, ![8192, 1024]⟩ .f32
  lr : FVec Ideal ⟨2, ![8192, 16]⟩ .f32
  w : FVec Ideal ⟨2, ![16, 512]⟩ .f32
  bi : FVec Ideal ⟨1, ![512]⟩ .f32
  wn : FVec Ideal ⟨1, ![256]⟩ .f32

/-- Row `i` of chunk `n`, and a head's columns of the keys and of the values. -/
abbrev row (n : Fin 128) (i : Fin 64) : Fin 8192 := ⟨64 * n.val + i.val, by omega⟩
abbrev hk (h : Fin 4) (d : Fin 128) : Fin 512 := ⟨128 * h.val + d.val, by omega⟩
abbrev hv (h : Fin 4) (v : Fin 256) : Fin 1024 := ⟨256 * h.val + v.val, by omega⟩

/-- What the decay's projection must be finite for. -/
structure AllReal (a : Args) : Prop where
  lr : ∀ i, IsReal (a.lr i)
  w : ∀ i, IsReal (a.w i)
  bi : ∀ i, IsReal (a.bi i)

/-- A sixteenth of the logarithm of the logistic function. -/
def ls (x : EReal) : EReal := (min x 0 - Ideal.log (1 + Ideal.exp (0 - max x (-x)))) * Ideal.ofBits .f32 0x3D800000#32

def scale : EReal := Ideal.ofBits .f32 0x3DB504F3#32

variable (a : Args) (n : Fin 128) (h : Fin 4) (i j : Fin 64) (d : Fin 128) (v : Fin 256)

/-- The decay's logarithm at a row, and its running sum within the chunk. -/
def pre (r : Fin 8192) : EReal := ∑ x : Fin 16, a.lr (ix2 r x) * a.w (ix2 x (hk h d)) + a.bi (ix1 (hk h d))
def la (r : Fin 8192) : EReal := ls (pre a h d r)
def B : EReal := ∑ j : Fin 64, if j ≤ i then la a h d (row n j) else 0

/-- Scaled queries decayed from the chunk's start, keys decayed backward to it, and keys decayed to its end. -/
def qd : EReal := a.q (ix2 (row n i) (hk h d)) * scale * Ideal.exp (B a n h i d)
def ki : EReal := a.k (ix2 (row n i) (hk h d)) * Ideal.exp (-B a n h i d)
def kt : EReal := a.k (ix2 (row n i) (hk h d)) * Ideal.exp (B a n h 63 d - B a n h i d)
/-- Scores within the chunk, what they give, and the chunk's addition to the state. -/
def sc : EReal := if j ≤ i then ∑ d, qd a n h i d * ki a n h j d else 0
def oi : EReal := ∑ j, sc a n h i j * a.v (ix2 (row n j) (hv h v))
def kv : EReal := ∑ j, kt a n h j d * a.v (ix2 (row n j) (hv h v))

/-- The state before chunk `n`. -/
def st (h : Fin 4) (d : Fin 128) (v : Fin 256) : ℕ → EReal
  | 0 => 0
  | n + 1 => st h d v n * Ideal.exp (B a (Fin.ofNat 128 n) h 63 d) + kv a (Fin.ofNat 128 n) h d v

/-- The outputs, and the outputs normalised and gated. -/
def o : EReal := oi a n h i v + ∑ d, qd a n h i d * st a h d v n.val
def ob : EReal :=
  o a n h i v * Ideal.rsqrt (Ideal.div (∑ u, o a n h i u * o a n h i u) (Ideal.ofBits .f32 0x43800000#32) + Ideal.ofBits .f32 0x358637BD#32)
    * a.wn (ix1 v) * (a.og (ix2 (row n i) (hv h v)) * Ideal.logistic (a.og (ix2 (row n i) (hv h v))))

theorem st_succ : st a h d v (n.val + 1) = st a h d v n.val * Ideal.exp (B a n h 63 d) + kv a n h d v := by
  have e : Fin.ofNat 128 n.val = n := Fin.ext (Nat.mod_eq_of_lt n.isLt)
  rw [st, e]

variable {a} (f : AllReal a)
include f

theorem pre_real (r : Fin 8192) : IsReal (pre a h d r) := (IsReal.sum fun _ => (f.lr _).mul (f.w _)).add (f.bi _)

omit f

theorem log_one_add_exp (y : ℝ) : Ideal.log (1 + Ideal.exp (y : EReal)) = ((Real.log (1 + Real.exp y) : ℝ) : EReal) := by
  have e : (1 : EReal) + Ideal.exp (y : EReal) = ((1 + Real.exp y : ℝ) : EReal) := by
    rw [EReal.coe_add, EReal.coe_one]; rfl
  rw [e]
  have hp : ¬ (1 + Real.exp y ≤ 0) := not_le.mpr (by positivity)
  show (if 1 + Real.exp y ≤ 0 then ⊥ else ((Real.log (1 + Real.exp y) : ℝ) : EReal)) = _
  rw [if_neg hp]

theorem ofBits_16th : Ideal.ofBits .f32 0x3D800000#32 = ((1 / 16 : ℝ) : EReal) := by
  simp [Ideal.ofBits, Ideal.ieee]
  rw [← EReal.coe_mul]
  norm_num
theorem ofBits_16 : Ideal.ofBits .f32 0x41800000#32 = ((16 : ℝ) : EReal) := by
  simp [Ideal.ofBits, Ideal.ieee]
  rw [← EReal.coe_mul]
  norm_num

theorem coe_max (x y : ℝ) : ((max x y : ℝ) : EReal) = max (x : EReal) (y : EReal) := EReal.coe_strictMono.monotone.map_max
theorem coe_min (x y : ℝ) : ((min x y : ℝ) : EReal) = min (x : EReal) (y : EReal) := EReal.coe_strictMono.monotone.map_min

theorem max_neg_coe (x : ℝ) : max (x : EReal) (-(x : EReal)) = ((|x| : ℝ) : EReal) := by
  rw [← EReal.coe_neg, ← coe_max]; rfl

theorem ls_real_eq (x : ℝ) : ls (x : EReal) = (((min x 0 - Real.log (1 + Real.exp (0 - |x|))) * (1 / 16) : ℝ) : EReal) := by
  have e : (0 : EReal) - ((|x| : ℝ) : EReal) = ((0 - |x| : ℝ) : EReal) := by rw [EReal.coe_sub, EReal.coe_zero]
  have m : min (x : EReal) 0 = ((min x 0 : ℝ) : EReal) := by rw [coe_min, EReal.coe_zero]
  rw [ls, max_neg_coe, e, log_one_add_exp, m, ofBits_16th, ← EReal.coe_sub, ← EReal.coe_mul]

theorem ls_real {x : EReal} (hx : IsReal x) : IsReal (ls x) := by
  obtain ⟨x, rfl⟩ := hx
  exact ⟨_, ls_real_eq x⟩

/-- The logarithm of the logistic function as minus the larger part plus a logarithm, divided by sixteen. -/
theorem ls_eq {x : EReal} (hx : IsReal x) :
    Ideal.div (-(max (-x) 0 + Ideal.log (1 + Ideal.exp (-(max (-x) (-(-x))))))) (Ideal.ofBits .f32 0x41800000#32) = ls x := by
  obtain ⟨x, rfl⟩ := hx
  have m : max (-(x : EReal)) 0 = ((max (-x) 0 : ℝ) : EReal) := by rw [coe_max, EReal.coe_zero, EReal.coe_neg]
  rw [m, ← EReal.coe_neg, max_neg_coe, ← EReal.coe_neg, log_one_add_exp, ← EReal.coe_add, ← EReal.coe_neg, ofBits_16, div_real (by norm_num), ls_real_eq]
  congr 1
  rw [abs_neg, zero_sub]
  have : max (-x) 0 = -min x 0 := by rw [← neg_zero (G := ℝ), max_neg_neg, neg_zero]
  rw [this]
  ring

include f
theorem la_real (r : Fin 8192) : IsReal (la a h d r) := ls_real (pre_real h d f r)

end Cert.GlaSpec

end
-- ==== Proof.GlaVal.lean ====
/- The seventh claim's kernel: each stage of a head at a point, at an index, in terms of the closed form. -/
module

public import proofs.«01_k».proof.Proof.GlaReads
public import proofs.«01_k».proof.Proof.GlaSpec

@[expose] public section

set_option maxRecDepth 65536

noncomputable section

namespace Cert.GlaVal

open Idealize.ShloMosaic Idealize.ShloMosaic.TcCoe Idealize.ShloMosaic.Tactic Idealize.SL.Sem
open Cert.Kernel7Ideal Cert.Kernel7Ideal.Gen Cert.GlaStage Cert.GlaReads Cert.Reals
open Cert.GlaSpec (Args AllReal row hk hv ls la pre B scale st)

/-- Row `i` of a point's chunk `n`, that chunk among all, and the two halves of the columns that hold queries and keys. -/
abbrev ri (n : Fin 4) (i : Fin 64) : Fin 256 := ⟨64 * n.val + i.val, by omega⟩
abbrev nc (t : Fin 32) (n : Fin 4) : Fin 128 := ⟨4 * t.val + n.val, by omega⟩
abbrev lo (d : Fin 128) : Fin 256 := ⟨d.val, by omega⟩
abbrev hi (d : Fin 128) : Fin 256 := ⟨128 + d.val, by omega⟩

/-- A head's operands at a point hold the arguments' rows and the head's columns; the decay's projection is padded with zeros,
    and the triangles are one within a chunk at and below the diagonal. -/
structure At (b : Hd) (a : Args) (t : Fin 32) (h : Fin 4) : Prop where
  q : ∀ n i d, b.qk (ix2 (ri n i) (lo d)) = a.q (ix2 (row (nc t n) i) (hk h d))
  k : ∀ n i d, b.qk (ix2 (ri n i) (hi d)) = a.k (ix2 (row (nc t n) i) (hk h d))
  v : ∀ n i v, b.v (ix2 (ri n i) v) = (a.v (ix2 (row (nc t n) i) (hv h v)) : EReal)
  og : ∀ n i v, b.og (ix2 (ri n i) v) = (a.og (ix2 (row (nc t n) i) (hv h v)) : EReal)
  w : ∀ (j : Fin 128) d, b.w (ix2 j d) = (if e : j.val < 16 then a.w (ix2 ⟨j.val, e⟩ (hk h d)) else 0 : EReal)
  bi : ∀ d, b.bi (ix2 0 d) = a.bi (ix1 (hk h d))
  lr : ∀ n i (j : Fin 128), b.lr (ix2 (ri n i) j) = (if e : j.val < 16 then a.lr (ix2 (row (nc t n) i) ⟨j.val, e⟩) else 0 : EReal)
  wn : ∀ v, b.wn (ix2 0 v) = a.wn (ix1 v)
  lt : ∀ n i m j, b.lt (ix2 (ri n i) (ri m j)) = (if n = m ∧ j ≤ i then 1 else 0 : EReal)

variable {b : Hd} {a : Args} {t : Fin 32} {h : Fin 4} (c : At b a t h) (f : AllReal a)
variable (n m : Fin 4) (i j : Fin 64) (d : Fin 128) (v : Fin 256)

/-- A sum over a point's rows, chunk by chunk. -/
theorem sum_rows (g : Fin 256 → EReal) : ∑ r, g r = ∑ n : Fin 4, ∑ i : Fin 64, g (ri n i) := by
  rw [Fin.sum_univ_tiles 4 64 rfl g]
  refine Finset.sum_congr rfl fun n _ => Finset.sum_congr rfl fun i _ => congrArg g (Fin.ext ?_)
  show n.val * 64 + i.val = 64 * n.val + i.val
  omega

/-- Only the row's own chunk counts where the terms of the others are zero. -/
theorem sum_own (g : Fin 256 → EReal) (hz : ∀ m, m ≠ n → ∀ j, g (ri m j) = 0) : ∑ r, g r = ∑ j : Fin 64, g (ri n j) := by
  rw [sum_rows]
  refine Finset.sum_eq_single n (fun m _ hm => Finset.sum_eq_zero fun j _ => hz m hm j) fun e => absurd (Finset.mem_univ n) e

/-- A product over the padded columns is the product over the sixteen. -/
theorem sum_padded (x y : Fin 16 → EReal) :
    ∑ j : Fin 128, (if e : j.val < 16 then x ⟨j.val, e⟩ else 0) * (if e : j.val < 16 then y ⟨j.val, e⟩ else 0) = ∑ j, x j * y j := by
  refine (Fin.sum_univ_add (a := 16) (b := 112) fun j : Fin (16 + 112) =>
    (if e : j.val < 16 then x ⟨j.val, e⟩ else 0) * (if e : j.val < 16 then y ⟨j.val, e⟩ else 0)).trans ?_
  have z : ∑ j : Fin 112, (fun j : Fin (16 + 112) => (if e : j.val < 16 then x ⟨j.val, e⟩ else 0) * (if e : j.val < 16 then y ⟨j.val, e⟩ else 0))
      (Fin.natAdd 16 j) = 0 := by
    refine Finset.sum_eq_zero fun j _ => ?_
    have : ¬ (Fin.natAdd 16 j).val < 16 := by simp
    simp only [dif_neg this, mul_zero]
  rw [z, add_zero]
  refine Finset.sum_congr rfl fun j _ => ?_
  have : (Fin.castAdd 112 j).val < 16 := j.isLt
  simp only [dif_pos this]
  rfl

include c

theorem pre_at : (∑ x, b.lr (ix2 (ri n i) x) * b.w (ix2 x d) + b.bi (ix2 0 d) : EReal) = pre a h d (row (nc t n) i) := by
  simp only [c.lr, c.w, c.bi]
  exact congrArg (· + _) (sum_padded (fun j => a.lr (ix2 (row (nc t n) i) j)) fun j => a.w (ix2 j (hk h d)))

theorem pay8_at : k0_pay8 b.lr b.w b.bi (ix2 (ri n i) d) = (la a h d (row (nc t n) i) : EReal) := by
  pointwise [k0_pay8, k0_pay3]
  rw [pre_at c]
  rfl

theorem a0_at : a0 b (ix2 (ri n i) d) = (la a h d (row (nc t n) i) : EReal) := pay8_at c n i d

include f

theorem pay10_at : k0_pay10 b.lr b.w b.bi (ix2 (ri n i) d) = (0 : EReal) := by
  have e : k0_pay10 b.lr b.w b.bi (ix2 (ri n i) d) = (k0_pay8 b.lr b.w b.bi (ix2 (ri n i) d) - k0_pay8 b.lr b.w b.bi (ix2 (ri n i) d) : EReal) := rfl
  rw [e, pay8_at c]
  obtain ⟨x, hx⟩ := GlaSpec.la_real h d f (row (nc t n) i)
  rw [hx, ← EReal.coe_sub, sub_self, EReal.coe_zero]

theorem a1_at : a1 b (ix2 (ri n i) d) = (0 : EReal) := pay10_at c f n i d

theorem a2_at : a2 b (ix2 (ri n i) d) = (0 : EReal) := by
  have e : a2 b (ix2 (ri n i) d) = (k0_pay10 b.lr b.w b.bi (ix2 (ri n i) d) - k0_pay10 b.lr b.w b.bi (ix2 (ri n i) d) : EReal) := rfl
  rw [e, pay10_at c f, sub_zero]

theorem run_at : run b (ix2 (ri n i) d) = B a (nc t n) h i d := by
  pointwise [run, k0_pay13, k0_pay4]
  have z1 : ∑ x, b.lt (ix2 (ri n i) x) * a1 b (ix2 x d) = (0 : EReal) := by
    rw [sum_rows]
    refine Finset.sum_eq_zero fun m _ => Finset.sum_eq_zero fun j _ => ?_
    rw [a1_at c f, mul_zero]
  have z2 : ∑ x, b.lt (ix2 (ri n i) x) * a2 b (ix2 x d) = (0 : EReal) := by
    rw [sum_rows]
    refine Finset.sum_eq_zero fun m _ => Finset.sum_eq_zero fun j _ => ?_
    rw [a2_at c f, mul_zero]
  rw [z1, z2, add_zero, add_zero, sum_own n]
  · refine Finset.sum_congr rfl fun j _ => ?_
    rw [c.lt, a0_at c]
    by_cases e : j ≤ i
    · rw [if_pos ⟨rfl, e⟩, if_pos e, one_mul]
    · rw [if_neg fun x => e x.2, if_neg e, zero_mul]
  · intro m hm j
    rw [c.lt, if_neg fun x => hm x.1.symm, zero_mul]

theorem last_at : last b (ix2 (ri n i) d) = B a (nc t n) h 63 d := by
  pointwise [last, k0_pay14]
  refine Eq.trans (congrArg (fun r : Fin 256 => run b (ix2 r d)) (Fin.ext ?_)) (run_at c f n 63 d)
  show (64 * n.val + i.val) / 64 * 64 + 63 = 64 * n.val + 63
  omega

theorem qd_at : qd b (ix2 (ri n i) d) = (GlaSpec.qd a (nc t n) h i d : EReal) := by
  pointwise [qd, k0_pay15, q, k0_pay6, k0_pay5]
  have e := run_at c f n i d
  unfold run at e
  rw [e, c.q]
  rfl

theorem k_at : k b (ix2 (ri n i) d) = a.k (ix2 (row (nc t n) i) (hk h d)) := by
  pointwise [k, k0_pay7, k0_pay5]
  exact c.k n i d

theorem kt_at : kt b (ix2 (ri n i) d) = (GlaSpec.kt a (nc t n) h i d : EReal) := by
  pointwise [kt, k0_pay16]
  have e := run_at c f n i d
  unfold run at e
  have e' := last_at c f n i d
  unfold last at e'
  rw [e, e', k_at c f]
  rfl

theorem vv_at : vv b (ix2 (ri n i) v) = (a.v (ix2 (row (nc t n) i) (hv h v)) : EReal) := by
  pointwise [vv, k0_pay17]
  exact c.v n i v

omit c f in
theorem pay4 (u : Vec Ideal S256x256 .bf16) : k0_pay4 u = u := by
  funext i
  idx_vars i
  pointwise [k0_pay4]

theorem oi_at : oi b (ix3 0 (ri n i) v) = GlaSpec.oi a (nc t n) h i v := by
  pointwise [oi, k0_pay18, k0_pay4, k0_pay17]
  rw [sum_own n]
  · refine Finset.sum_congr rfl fun j _ => ?_
    rw [c.lt, c.v]
    have own : n = n ∧ j ≤ i ↔ j ≤ i := and_iff_right rfl
    refine congrArg (· * _) ?_
    unfold GlaSpec.sc
    by_cases e : j ≤ i
    · rw [if_pos e, if_pos (own.mpr e), if_pos zero_lt_one]
      refine Finset.sum_congr rfl fun d _ => ?_
      have e0 := run_at c f n j d
      unfold run at e0
      rw [pay4] at e0
      have e1 := qd_at c f n i d
      unfold qd at e1
      rw [pay4] at e1
      refine congrArg₂ (· * ·) ?_ ?_
      · exact e1
      · rw [k_at c f]
        refine congrArg (_ * ·) (congrArg Ideal.exp ?_)
        rw [← zero_sub]
        exact congrArg (0 - ·) e0
    · rw [if_neg e, if_neg (fun x => e (own.mp x)), if_neg (lt_irrefl _)]
  · intro m hm j
    have other : ¬ (n = m ∧ j ≤ i) := fun x => hm x.1.symm
    rw [c.lt, if_neg other, if_neg (lt_irrefl _), zero_mul]

/-! ## The four chunks -/

omit c f in
theorem s0_at (x : Vec Ideal S1x256x128 .f32) : s0 b x (ix3 0 v d) =
    (x (ix3 0 v d) * Ideal.exp (last b (ix2 (ri 0 0) d)) + ∑ j, vv b (ix2 (ri 0 j) v) * kt b (ix2 (ri 0 j) d) : EReal) := by
  pointwise [s0, k0_pay23, k0_pay19]
  refine congrArg₂ (· + ·) rfl (Finset.sum_congr rfl fun j _ => congrArg₂ (· * ·) (congrArg (fun r => vv b (ix2 r v)) (Fin.ext ?_)) (congrArg (fun r => kt b (ix2 r d)) (Fin.ext ?_)))
  · show j.val = 64 * 0 + j.val
    omega
  · show j.val = 64 * 0 + j.val
    omega

omit c f in
theorem s1_at (x : Vec Ideal S1x256x128 .f32) : s1 b x (ix3 0 v d) =
    (x (ix3 0 v d) * Ideal.exp (last b (ix2 (ri 1 0) d)) + ∑ j, vv b (ix2 (ri 1 j) v) * kt b (ix2 (ri 1 j) d) : EReal) := by
  pointwise [s1, k0_pay29, k0_pay24]
  rfl

omit c f in
theorem s2_at (x : Vec Ideal S1x256x128 .f32) : s2 b x (ix3 0 v d) =
    (x (ix3 0 v d) * Ideal.exp (last b (ix2 (ri 2 0) d)) + ∑ j, vv b (ix2 (ri 2 j) v) * kt b (ix2 (ri 2 j) d) : EReal) := by
  pointwise [s2, k0_pay35, k0_pay34, k0_pay30]
  rfl

omit c f in
theorem s3_at (x : Vec Ideal S1x256x128 .f32) : s3 b x (ix3 0 v d) =
    (x (ix3 0 v d) * Ideal.exp (last b (ix2 (ri 3 0) d)) + ∑ j, vv b (ix2 (ri 3 j) v) * kt b (ix2 (ri 3 j) d) : EReal) := by
  pointwise [s3, k0_pay40, k0_pay36]
  rfl

/-- A state that agrees with the closed form before chunk `n` of a point. -/
def Holds (a : Args) (h : Fin 4) (x : Vec Ideal S1x256x128 .f32) (n : ℕ) : Prop := ∀ v d, x (ix3 0 v d) = st a h d v n

theorem next (x y : Vec Ideal S1x256x128 .f32) (hx : Holds a h x (nc t n).val)
    (hy : ∀ v d, y (ix3 0 v d) = (x (ix3 0 v d) * Ideal.exp (last b (ix2 (ri n 0) d)) + ∑ j, vv b (ix2 (ri n j) v) * kt b (ix2 (ri n j) d) : EReal)) :
    Holds a h y ((nc t n).val + 1) := fun v d => by
  rw [hy, hx, last_at c f, GlaSpec.st_succ]
  refine congrArg (_ + ·) (Finset.sum_congr rfl fun j _ => ?_)
  rw [vv_at c f, kt_at c f, mul_comm]

/-- The states a point's chunks start from hold the closed form's, and so does the state after them. -/
theorem chain_holds (x : Vec Ideal S1x256x128 .f32) (hx : Holds a h x (4 * t.val)) :
    (∀ n, Holds a h (chain b x n) (nc t n).val) ∧ Holds a h (s4 b x) (4 * t.val + 4) := by
  have h0 : Holds a h x (nc t 0).val := hx
  have h1 : Holds a h (s0 b x) (nc t 1).val := next c f 0 x _ h0 fun v d => s0_at d v x
  have h2 : Holds a h (s1 b (s0 b x)) (nc t 2).val := next c f 1 _ _ h1 fun v d => s1_at d v _
  have h3 : Holds a h (s2 b (s1 b (s0 b x))) (nc t 3).val := next c f 2 _ _ h2 fun v d => s2_at d v _
  refine ⟨fun n => ?_, next c f 3 _ _ h3 fun v d => s3_at d v _⟩
  match n with
  | 0 => exact h0
  | 1 => exact h1
  | 2 => exact h2
  | 3 => exact h3

/-- The rows of outputs. -/
theorem orow_at (x : Vec Ideal S1x256x128 .f32) (hx : Holds a h x (4 * t.val)) : orow b x n (ix3 0 i v) = GlaSpec.o a (nc t n) h i v := by
  have key : orow b x n (ix3 0 i v) = (oi b (ix3 0 (ri n i) v) + ∑ d, qd b (ix2 (ri n i) d) * chain b x n (ix3 0 v d) : EReal) := by
    unfold orow outs
    match n with
    | 0 =>
      show k0_pay22 (qd b) (k0_pay20 (chain b x 0)) (oir b 0) (ix3 0 i v) = _
      pointwise [k0_pay22, k0_pay20, k0_pay19]
      refine congrArg₂ (· + ·) rfl (Finset.sum_congr rfl fun d _ => congrArg (· * _) (congrArg (fun r => qd b (ix2 r d)) (Fin.ext ?_)))
      show i.val = 64 * 0 + i.val
      omega
    | 1 =>
      show k0_pay28 (k0_pay27 (qd b) (chain b x 1) (oir b 1)) (ix3 0 i v) = _
      pointwise [k0_pay28, k0_pay27, k0_pay25, k0_pay24]
      rfl
    | 2 =>
      show k0_pay33 (qd b) (chain b x 2) (oir b 2) (ix3 0 i v) = _
      pointwise [k0_pay33, k0_pay31, k0_pay30]
      rfl
    | 3 =>
      show k0_pay39 (qd b) (chain b x 3) (oir b 3) (ix3 0 i v) = _
      pointwise [k0_pay39, k0_pay37, k0_pay36]
      rfl
  rw [key, oi_at c f]
  refine congrArg (_ + ·) (Finset.sum_congr rfl fun d _ => ?_)
  rw [qd_at c f, (chain_holds c f x hx).1 n v d]

theorem opv_at (x : Vec Ideal S1x256x128 .f32) (hx : Holds a h x (4 * t.val)) : opv b x (ix2 (ri n i) v) = (GlaSpec.o a (nc t n) h i v : EReal) := by
  refine Eq.trans ?_ (orow_at c f n i v x hx)
  have en : (⟨(ri n i).val / 64, by omega⟩ : Fin 4) = n := Fin.ext (by show (64 * n.val + i.val) / 64 = n.val; omega)
  have ei : (⟨(ri n i).val % 64, by omega⟩ : Fin 64) = i := Fin.ext (by show (64 * n.val + i.val) % 64 = i.val; omega)
  show orow b x ⟨(ri n i).val / 64, _⟩ (ix3 0 ⟨(ri n i).val % 64, _⟩ v) = _
  rw [en, ei]

theorem gpv_at (x : Vec Ideal S1x256x128 .f32) (hx : Holds a h x (4 * t.val)) : gpv b x (ix2 (ri n i) v) = (GlaSpec.ob a (nc t n) h i v : EReal) := by
  pointwise [gpv, k0_pay42]
  simp only [opv_at c f n i _ x hx, c.wn, c.og]
  rw [mul_assoc]
  rfl

theorem kp_at (x : Vec Ideal S1x256x128 .f32) (hx : Holds a h x (4 * t.val)) : kp b x n (ix4 0 0 v d) = (st a h d v (nc t n).val : EReal) := by
  refine Eq.trans ?_ ((chain_holds c f x hx).1 n v d)
  unfold kp keeps
  match n with
  | 0 =>
    show k0_pay21 (k0_pay20 (chain b x 0)) (ix4 0 0 v d) = _
    pointwise [k0_pay21, k0_pay20, k0_pay19]
  | 1 =>
    show k0_pay26 (chain b x 1) (ix4 0 0 v d) = _
    pointwise [k0_pay26, k0_pay25, k0_pay24]
  | 2 =>
    show k0_pay32 (chain b x 2) (ix4 0 0 v d) = _
    pointwise [k0_pay32, k0_pay31, k0_pay30]
  | 3 =>
    show k0_pay38 (chain b x 3) (ix4 0 0 v d) = _
    pointwise [k0_pay38, k0_pay37, k0_pay36]

end Cert.GlaVal

end
-- ==== Proof.GlaHost.lean ====
/- The seventh claim's kernel: what the operands its host lines prepare hold. -/
module

public import proofs.«01_k».proof.Proof.GlaVal
public import proofs.«01_k».proof.Proof.Gen.Kernel7Ideal.Value
import Idealize.ShloMosaic.Lib.StableHlo.ReadAt

@[expose] public section

set_option maxRecDepth 65536

noncomputable section

namespace Cert.GlaHost

open Idealize.ShloMosaic Idealize.ShloMosaic.TcCoe Idealize.SL.Sem
open Cert.Kernel7Ideal Cert.Kernel7Ideal.Gen Cert.GlaStage Cert.GlaReads Cert.GlaVal
open Idealize.ShloMosaic.WordCmp
open Cert.GlaSpec (Args AllReal row hk hv st)

variable (m : (ℓ : Loc nD τ sig) → Buf (Elt Ideal) ℓ) (c : Dev nD)

/-- The arguments as launched. -/
def args : Args where
  q := m ((c : Thread nD τ).loc main_arg0)
  k := m ((c : Thread nD τ).loc main_arg1)
  v := m ((c : Thread nD τ).loc main_arg2)
  og := m ((c : Thread nD τ).loc main_arg3)
  lr := m ((c : Thread nD τ).loc main_arg4)
  w := m ((c : Thread nD τ).loc main_arg6)
  bi := m ((c : Thread nD τ).loc main_arg7)
  wn := m ((c : Thread nD τ).loc main_arg8)

/-! ## The operands the host lines prepare -/

set_option maxHeartbeats 4000000 in
theorem v8_q (r : Fin 8192) (h : Fin 4) (d : Fin 128) :
    (V m c main_v8 : FVec Ideal S8192x1024 .f32) (ix2 r ⟨256 * h.val + d.val, by omega⟩) = (args m c).q (ix2 r (hk h d)) := by
  unfold V
  match h with
  | 0 =>
    after_reads_at
    repeat rw [dif_neg (by omega)]
    try rw [dif_pos (by omega)]
    refine (congrFun (StableHlo.unary_result main_arg0 main_v0 _ _ _ _) _).trans ?_
    pointwise []
    exact congrArg (fun l => (args m c).q (ix2 r l)) (Fin.ext (by simp [hk]; try omega))
  | 1 =>
    after_reads_at
    repeat rw [dif_neg (by omega)]
    try rw [dif_pos (by omega)]
    refine (congrFun (StableHlo.unary_result main_arg0 main_v2 _ _ _ _) _).trans ?_
    pointwise []
    exact congrArg (fun l => (args m c).q (ix2 r l)) (Fin.ext (by simp [hk]; try omega))
  | 2 =>
    after_reads_at
    repeat rw [dif_neg (by omega)]
    try rw [dif_pos (by omega)]
    refine (congrFun (StableHlo.unary_result main_arg0 main_v4 _ _ _ _) _).trans ?_
    pointwise []
    exact congrArg (fun l => (args m c).q (ix2 r l)) (Fin.ext (by simp [hk]; try omega))
  | 3 =>
    after_reads_at
    repeat rw [dif_neg (by omega)]
    try rw [dif_pos (by omega)]
    refine (congrFun (StableHlo.unary_result main_arg0 main_v6 _ _ _ _) _).trans ?_
    pointwise []
    exact congrArg (fun l => (args m c).q (ix2 r l)) (Fin.ext (by simp [hk]; try omega))

set_option maxHeartbeats 4000000 in
theorem v8_k (r : Fin 8192) (h : Fin 4) (d : Fin 128) :
    (V m c main_v8 : FVec Ideal S8192x1024 .f32) (ix2 r ⟨256 * h.val + (128 + d.val), by omega⟩) = (args m c).k (ix2 r (hk h d)) := by
  unfold V
  match h with
  | 0 =>
    after_reads_at
    repeat rw [dif_neg (by omega)]
    try rw [dif_pos (by omega)]
    refine (congrFun (StableHlo.unary_result main_arg1 main_v1 _ _ _ _) _).trans ?_
    pointwise []
    exact congrArg (fun l => (args m c).k (ix2 r l)) (Fin.ext (by simp [hk]; try omega))
  | 1 =>
    after_reads_at
    repeat rw [dif_neg (by omega)]
    try rw [dif_pos (by omega)]
    refine (congrFun (StableHlo.unary_result main_arg1 main_v3 _ _ _ _) _).trans ?_
    pointwise []
    exact congrArg (fun l => (args m c).k (ix2 r l)) (Fin.ext (by simp [hk]; try omega))
  | 2 =>
    after_reads_at
    repeat rw [dif_neg (by omega)]
    try rw [dif_pos (by omega)]
    refine (congrFun (StableHlo.unary_result main_arg1 main_v5 _ _ _ _) _).trans ?_
    pointwise []
    exact congrArg (fun l => (args m c).k (ix2 r l)) (Fin.ext (by simp [hk]; try omega))
  | 3 =>
    after_reads_at
    repeat rw [dif_neg (by omega)]
    try rw [dif_pos (by omega)]
    refine (congrFun (StableHlo.unary_result main_arg1 main_v7 _ _ _ _) _).trans ?_
    pointwise []
    exact congrArg (fun l => (args m c).k (ix2 r l)) (Fin.ext (by simp [hk]; try omega))

theorem v11_v (r : Fin 8192) (l : Fin 1024) :
    (V m c main_v11 : FVec Ideal S8192x4096 .bf16) (ix2 r ⟨2048 + l.val, by omega⟩) = ((args m c).v (ix2 r l) : EReal) := by
  unfold V
  after_reads_at
  rfl

theorem v11_og (r : Fin 8192) (l : Fin 1024) :
    (V m c main_v11 : FVec Ideal S8192x4096 .bf16) (ix2 r ⟨3072 + l.val, by omega⟩) = ((args m c).og (ix2 r l) : EReal) := by
  unfold V
  after_reads_at
  repeat rw [dif_neg (by omega)]
  try rw [dif_pos (by omega)]
  refine (congrFun (StableHlo.unary_result main_arg3 main_v10 _ _ _ _) _).trans ?_
  pointwise []
  exact congrArg (fun l => (args m c).og (ix2 r l)) (Fin.ext (by simp; try omega))

theorem v14 (r : Fin 8192) (j : Fin 128) :
    (V m c main_v14 : FVec Ideal S8192x128 .bf16) (ix2 r j) = (if e : j.val < 16 then (args m c).lr (ix2 r ⟨j.val, e⟩) else 0 : EReal) := by
  unfold V
  after_reads_at
  by_cases e : j.val < 16
  · rw [dif_pos e, dif_pos e]
    rfl
  · rw [dif_neg e, dif_neg e]
    exact (show _ = FloatOps.ofBits (F := Ideal) .f32 0x00000000#32 from rfl).trans (by simp [FloatOps.ofBits, Ideal.ofBits, Ideal.ieee])

theorem v16 (j : Fin 128) (l : Fin 512) :
    (V m c main_v16 : FVec Ideal S128x512 .bf16) (ix2 j l) = (if e : j.val < 16 then (args m c).w (ix2 ⟨j.val, e⟩ l) else 0 : EReal) := by
  unfold V
  after_reads_at
  by_cases e : j.val < 16
  · rw [dif_pos e, dif_pos e]
    rfl
  · rw [dif_neg e, dif_neg e]
    show ((((0#32 : BitVec 32).toInt : ℤ) : ℝ) : EReal) = 0
    simp

theorem v17 (l : Fin 512) : (V m c main_v17 : FVec Ideal S1x512 .f32) (ix2 0 l) = (args m c).bi (ix1 l) := by
  unfold V
  after_reads_at
  rfl

theorem v18 (l : Fin 256) : (V m c main_v18 : FVec Ideal S1x256 .f32) (ix2 0 l) = (args m c).wn (ix1 l) := by
  unfold V
  after_reads_at
  rfl

/-- The sign of an integer, and the rounded-down quotient, as the host lines compute them. -/
def sgn (x : BitVec 32) : BitVec 32 := if x = 0 then 0 else if x.msb then -1 else 1
def fdiv (x d : BitVec 32) : BitVec 32 :=
  Scalar.select (IntOp.andi (IntOp.cmpi .ne (sgn x) (sgn d)) (IntOp.cmpi .ne (IntOp.remsi ArithUnit.host x d) 0#32))
    (IntOp.subi (IntOp.divsi ArithUnit.host x d) 1#32) (IntOp.divsi ArithUnit.host x d)

theorem fdiv64 : ∀ i : Fin 256, fdiv (BitVec.ofNat 32 i.val) 64#32 = BitVec.ofNat 32 (i.val / 64) := by decide +kernel
theorem same_chunk : ∀ n m : Fin 4, IntOp.cmpi .eq (BitVec.ofNat 32 n.val) (BitVec.ofNat 32 m.val) = if n = m then 1#1 else 0#1 := by
  decide +kernel
theorem not_after (y x : Fin 256) :
    IntOp.cmpi .sle (BitVec.ofNat 32 y.val) (BitVec.ofNat 32 x.val) = if y ≤ x then 1#1 else 0#1 := by
  rw [cmpi_sle_ofNat (by omega) (by omega)]
  by_cases h : y ≤ x
  · rw [if_pos h, decide_eq_true (show y.val ≤ x.val from h)]
    rfl
  · rw [if_neg h, decide_eq_false (show ¬y.val ≤ x.val from h)]
    rfl

theorem v33 (x y : Fin 256) :
    (V m c main_v33 : FVec Ideal S256x256 .bf16) (ix2 x y) = (if x.val / 64 = y.val / 64 ∧ y ≤ x then 1 else 0 : EReal) := by
  unfold V
  after_reads_at
  show FloatOps.uitofp (F := Ideal) .bf16 (IntOp.andi
    (IntOp.cmpi .eq (fdiv (BitVec.ofNat 32 x.val) 64#32) (fdiv (BitVec.ofNat 32 y.val) 64#32))
    (IntOp.cmpi .sle (BitVec.ofNat 32 y.val) (BitVec.ofNat 32 x.val))) = _
  rw [fdiv64, fdiv64, not_after]
  have hs := same_chunk ⟨x.val / 64, by omega⟩ ⟨y.val / 64, by omega⟩
  simp only [Fin.mk.injEq] at hs
  rw [hs]
  by_cases h1 : x.val / 64 = y.val / 64 <;> by_cases h2 : y ≤ x
  · rw [if_pos h1, if_pos h2, if_pos ⟨h1, h2⟩]
    show ((1 : ℕ) : EReal) = 1
    simp
  · rw [if_pos h1, if_neg h2, if_neg (fun h => h2 h.2)]
    show ((0 : ℕ) : EReal) = 0
    simp
  · rw [if_neg h1, if_pos h2, if_neg (fun h => h1 h.1)]
    show ((0 : ℕ) : EReal) = 0
    simp
  · rw [if_neg h1, if_neg h2, if_neg (fun h => h1 h.1)]
    show ((0 : ℕ) : EReal) = 0
    simp

end Cert.GlaHost

end
-- ==== Proof.GlaKernel.lean ====
/- The seventh claim's kernel: its blocks at a grid point, the state from point to point, and the arrays its run leaves. -/
module

public import proofs.«01_k».proof.Proof.GlaHost

@[expose] public section

set_option maxRecDepth 65536

noncomputable section

namespace Cert.GlaKernel

open Idealize.ShloMosaic Idealize.ShloMosaic.TcCoe Idealize.ShloMosaic.Tactic Idealize.SL.Sem
open Cert.Kernel7Ideal Cert.Kernel7Ideal.Gen Cert.GlaStage Cert.GlaReads Cert.GlaVal Cert.GlaHost
open Cert.GlaSpec (Args AllReal row hk hv st)

variable (m : (ℓ : Loc nD τ sig) → Buf (Elt Ideal) ℓ) (c : Dev nD)

/-! ## The blocks at a point -/

theorem idx : ∀ t : Fin cfg0.N, win0_0.index t = ![t.val, 0] ∧ win0_1.index t = ![t.val, 2] ∧ win0_2.index t = ![t.val, 3]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ win0_9.index t = ![t.val, 0]
    ∧ win0_10.index t = ![t.val, 0, 0, 0] ∧ t.val < 32 :=
  (by decide +kernel : ∀ t : Fin grid0.N, _)

/-- A point as a number, and row `r` of its block. -/
abbrev tt (t : Fin cfg0.N) : Fin 32 := ⟨t.val, (idx t).2.2.2.2.2.2.2.2.2.2.2⟩
abbrev brow (t : Fin cfg0.N) (r : Fin 256) : Fin 8192 := ⟨256 * (tt t).val + r.val, by omega⟩

theorem brow_ri (t : Fin cfg0.N) (n : Fin 4) (i : Fin 64) : brow t (ri n i) = row (nc (tt t) n) i := Fin.ext (by
  show 256 * t.val + (64 * n.val + i.val) = 64 * (4 * t.val + n.val) + i.val
  omega)

theorem blk0_q (t : Fin cfg0.N) (r : Fin 256) (h : Fin 4) (d : Fin 128) :
    (show FVec Ideal S256x1024 .f32 from iblk m c 0 t) (ix2 r ⟨256 * h.val + d.val, by omega⟩) = (args m c).q (ix2 (brow t r) (hk h d)) := by
  refine Eq.trans ?_ (v8_q m c (brow t r) h d)
  blk_ext [iblk, idx t]

theorem blk0_k (t : Fin cfg0.N) (r : Fin 256) (h : Fin 4) (d : Fin 128) :
    (show FVec Ideal S256x1024 .f32 from iblk m c 0 t) (ix2 r ⟨256 * h.val + (128 + d.val), by omega⟩) = (args m c).k (ix2 (brow t r) (hk h d)) := by
  refine Eq.trans ?_ (v8_k m c (brow t r) h d)
  blk_ext [iblk, idx t]

theorem blk1 (t : Fin cfg0.N) (r : Fin 256) (l : Fin 1024) :
    (show FVec Ideal S256x1024 .bf16 from iblk m c 1 t) (ix2 r l) = ((args m c).v (ix2 (brow t r) l) : EReal) := by
  refine Eq.trans ?_ (v11_v m c (brow t r) l)
  blk_ext [iblk, idx t]

theorem blk2 (t : Fin cfg0.N) (r : Fin 256) (l : Fin 1024) :
    (show FVec Ideal S256x1024 .bf16 from iblk m c 2 t) (ix2 r l) = ((args m c).og (ix2 (brow t r) l) : EReal) := by
  refine Eq.trans ?_ (v11_og m c (brow t r) l)
  blk_ext [iblk, idx t]

theorem blk3 (t : Fin cfg0.N) (r : Fin 256) (j : Fin 128) : (show FVec Ideal S256x128 .bf16 from iblk m c 3 t) (ix2 r j)
    = (if e : j.val < 16 then (args m c).lr (ix2 (brow t r) ⟨j.val, e⟩) else 0 : EReal) := by
  refine Eq.trans ?_ (v14 m c (brow t r) j)
  blk_ext [iblk, idx t]

theorem blk4 (t : Fin cfg0.N) (j : Fin 128) (l : Fin 512) : (show FVec Ideal S128x512 .bf16 from iblk m c 4 t) (ix2 j l)
    = (if e : j.val < 16 then (args m c).w (ix2 ⟨j.val, e⟩ l) else 0 : EReal) := by
  refine Eq.trans ?_ (v16 m c j l)
  blk_ext [iblk, idx t]

theorem blk5 (t : Fin cfg0.N) (l : Fin 512) : (show FVec Ideal S1x512 .f32 from iblk m c 5 t) (ix2 0 l) = (args m c).bi (ix1 l) := by
  refine Eq.trans ?_ (v17 m c l)
  blk_point [iblk, idx t]

theorem blk6 (t : Fin cfg0.N) (l : Fin 256) : (show FVec Ideal S1x256 .f32 from iblk m c 6 t) (ix2 0 l) = (args m c).wn (ix1 l) := by
  refine Eq.trans ?_ (v18 m c l)
  blk_point [iblk, idx t]

theorem blk7 (t : Fin cfg0.N) (x y : Fin 256) : (show FVec Ideal S256x256 .bf16 from iblk m c 7 t) (ix2 x y)
    = (if x.val / 64 = y.val / 64 ∧ y ≤ x then 1 else 0 : EReal) := by
  refine Eq.trans ?_ (v33 m c x y)
  blk_ext [iblk, idx t]

/-! A head's columns of a block. -/

theorem cols {e : _} (x : Vec Ideal S256x1024 e) (h : Fin 4) (r l : Fin 256) : View.ld x (ro h) (ix2 r l) = x (ix2 r (hv h l)) := by
  refine congrArg x ?_
  funext b
  fin_cases b <;> refine Fin.ext ?_ <;> simp [Rect.idx_unit_val, hv]

theorem cols_w {e : _} (x : Vec Ideal S128x512 e) (h : Fin 4) (hin) (j d : Fin 128) :
    View.ld x (Rect.unit ![0, 128 * h.val] S128x128.size hin) (ix2 j d) = x (ix2 j (hk h d)) := by
  refine congrArg x ?_
  funext b
  fin_cases b <;> refine Fin.ext ?_ <;> simp [Rect.idx_unit_val, hk]

theorem cols_b {e : _} (x : Vec Ideal S1x512 e) (h : Fin 4) (hin) (d : Fin 128) :
    View.ld x (Rect.unit ![0, 128 * h.val] S1x128.size hin) (ix2 0 d) = x (ix2 0 (hk h d)) := by
  refine congrArg x ?_
  funext b
  fin_cases b <;> refine Fin.ext ?_ <;> simp [Rect.idx_unit_val, hk]

theorem same_or_before (n m' : Fin 4) (i j : Fin 64) :
    ((ri n i).val / 64 = (ri m' j).val / 64 ∧ ri m' j ≤ ri n i) ↔ (n = m' ∧ j ≤ i) := by
  have e1 : (ri n i).val / 64 = n.val := by show (64 * n.val + i.val) / 64 = n.val; omega
  have e2 : (ri m' j).val / 64 = m'.val := by show (64 * m'.val + j.val) / 64 = m'.val; omega
  rw [e1, e2]
  constructor
  · rintro ⟨p, q⟩
    have q' : 64 * m'.val + j.val ≤ 64 * n.val + i.val := q
    exact ⟨Fin.ext p, by show j.val ≤ i.val; omega⟩
  · rintro ⟨p, q⟩
    subst p
    have q' : j.val ≤ i.val := q
    exact ⟨rfl, by show 64 * n.val + j.val ≤ 64 * n.val + i.val; omega⟩

theorem at_q (t : Fin cfg0.N) (h : Fin 4) (n : Fin 4) (i : Fin 64) (d : Fin 128) : (pt m c t h).qk (ix2 (ri n i) (lo d)) = (args m c).q (ix2 (row (nc (tt t) n) i) (hk h d)) := by
  rw [← brow_ri]
  exact (cols (show Vec Ideal S256x1024 .f32 from iblk m c 0 t) h (ri n i) (lo d)).trans (blk0_q m c t (ri n i) h d)

theorem at_k (t : Fin cfg0.N) (h : Fin 4) (n : Fin 4) (i : Fin 64) (d : Fin 128) : (pt m c t h).qk (ix2 (ri n i) (hi d)) = (args m c).k (ix2 (row (nc (tt t) n) i) (hk h d)) := by
  rw [← brow_ri]
  exact (cols (show Vec Ideal S256x1024 .f32 from iblk m c 0 t) h (ri n i) (hi d)).trans (blk0_k m c t (ri n i) h d)

theorem at_v (t : Fin cfg0.N) (h : Fin 4) (n : Fin 4) (i : Fin 64) (v : Fin 256) : (pt m c t h).v (ix2 (ri n i) v) = ((args m c).v (ix2 (row (nc (tt t) n) i) (hv h v)) : EReal) := by
  rw [← brow_ri]
  exact (cols (show Vec Ideal S256x1024 .bf16 from iblk m c 1 t) h (ri n i) v).trans (blk1 m c t (ri n i) (hv h v))

theorem at_og (t : Fin cfg0.N) (h : Fin 4) (n : Fin 4) (i : Fin 64) (v : Fin 256) : (pt m c t h).og (ix2 (ri n i) v) = ((args m c).og (ix2 (row (nc (tt t) n) i) (hv h v)) : EReal) := by
  rw [← brow_ri]
  exact (cols (show Vec Ideal S256x1024 .bf16 from iblk m c 2 t) h (ri n i) v).trans (blk2 m c t (ri n i) (hv h v))

theorem at_w (t : Fin cfg0.N) (h : Fin 4) (j d : Fin 128) : (pt m c t h).w (ix2 j d) = (if e : j.val < 16 then (args m c).w (ix2 ⟨j.val, e⟩ (hk h d)) else 0 : EReal) := by
  exact (cols_w (show Vec Ideal S128x512 .bf16 from iblk m c 4 t) h _ j d).trans (blk4 m c t j (hk h d))

theorem at_bi (t : Fin cfg0.N) (h : Fin 4) (d : Fin 128) : (pt m c t h).bi (ix2 0 d) = (args m c).bi (ix1 (hk h d)) := by
  exact (cols_b (show Vec Ideal S1x512 .f32 from iblk m c 5 t) h _ d).trans (blk5 m c t (hk h d))

theorem at_lr (t : Fin cfg0.N) (h : Fin 4) (n : Fin 4) (i : Fin 64) (j : Fin 128) : (pt m c t h).lr (ix2 (ri n i) j)
    = (if e : j.val < 16 then (args m c).lr (ix2 (row (nc (tt t) n) i) ⟨j.val, e⟩) else 0 : EReal) := by
  rw [← brow_ri]
  exact blk3 m c t (ri n i) j

theorem at_lt (t : Fin cfg0.N) (h : Fin 4) (n : Fin 4) (i : Fin 64) (m' : Fin 4) (j : Fin 64) : (pt m c t h).lt (ix2 (ri n i) (ri m' j)) = (if n = m' ∧ j ≤ i then 1 else 0 : EReal) := by
  exact (blk7 m c t (ri n i) (ri m' j)).trans (if_congr (same_or_before n m' i j) rfl rfl)

theorem holds (t : Fin cfg0.N) (h : Fin 4) : At (pt m c t h) (args m c) (tt t) h :=
  ⟨at_q m c t h, at_k m c t h, at_v m c t h, at_og m c t h, at_w m c t h, at_bi m c t h, at_lr m c t h, blk6 m c t, at_lt m c t h⟩

/-! ## The state from point to point -/

variable (f : AllReal (args m c))
include f

theorem first (t : Fin cfg0.N) (h0 : t.val % 32 = 0) (h : Fin 4) : Holds (args m c) h (fun _ => (0 : EReal)) (4 * (tt t).val) := fun v d => by
  have e : 4 * (tt t).val = 0 := by have := (tt t).isLt; show 4 * t.val = 0; have : t.val < 32 := this; omega
  rw [e]
  rfl

/-- After a point, each head's part of the carried state is the recurrence's state past the point's four chunks. -/
theorem carried : ∀ (n : ℕ) (hn : n < cfg0.N) (h : Fin 4),
    Holds (args m c) h (fun j => (outsAt0 m c n hn).2.2.2 ((rs h).emb j)) (4 * n + 4)
  | 0, hn, h => fun v d => by
      have e := congrFun (state_A m c ⟨0, hn⟩ rfl) ((rs h).emb (ix3 0 v d))
      refine e.trans ((la3_at h _ (ix3 0 v d)).trans ?_)
      exact (chain_holds (holds m c ⟨0, hn⟩ h) f _ (first m c f ⟨0, hn⟩ rfl h)).2 v d
  | n + 1, hn, h => fun v d => by
      have hlt : n + 1 < 32 := (tt ⟨n + 1, hn⟩).isLt
      have e := congrFun (state_B m c ⟨n + 1, hn⟩ (by show ¬(n + 1) % 32 = 0; omega)) ((rs h).emb (ix3 0 v d))
      refine e.trans ((lb3_at h _ _ (ix3 0 v d)).trans ?_)
      exact (chain_holds (holds m c ⟨n + 1, hn⟩ h) f _ (carried n (by omega) h)).2 v d

/-- The state a later point starts from. -/
theorem start_B (t : Fin cfg0.N) (h0 : ¬t.val % 32 = 0) (h : Fin 4) :
    Holds (args m c) h ((fromB (pt m c t) (before m c t)).x h) (4 * (tt t).val) := fun v d => by
  have e := carried m c f (t.val - 1) (by omega) h v d
  have ht : 4 * (t.val - 1) + 4 = 4 * (tt t).val := by
    have : t.val ≠ 0 := fun e => h0 (by rw [e])
    show _ = 4 * t.val
    omega
  rw [ht] at e
  exact e

theorem start_A (t : Fin cfg0.N) (h0 : t.val % 32 = 0) (h : Fin 4) :
    Holds (args m c) h ((fromA (pt m c t)).x h) (4 * (tt t).val) := by
  rw [fromA_x]
  exact first m c f t h0 h

/-! ## The arrays the run leaves -/

/-- The arrays. -/
def obArr (a : Args) : FVec Ideal S8192x1024 .bf16 := fun y =>
  GlaSpec.ob a ⟨(y 0).val / 64, by have : (y 0).val < 8192 := (y 0).isLt; omega⟩
    ⟨(y 1).val / 256, by have : (y 1).val < 1024 := (y 1).isLt; omega⟩
    ⟨(y 0).val % 64, by omega⟩ ⟨(y 1).val % 256, by omega⟩
def oArr (a : Args) : FVec Ideal S8192x1024 .bf16 := fun y =>
  GlaSpec.o a ⟨(y 0).val / 64, by have : (y 0).val < 8192 := (y 0).isLt; omega⟩
    ⟨(y 1).val / 256, by have : (y 1).val < 1024 := (y 1).isLt; omega⟩
    ⟨(y 0).val % 64, by omega⟩ ⟨(y 1).val % 256, by omega⟩
def stArr (a : Args) : FVec Ideal S128x4x256x128 .bf16 := fun y => st a (y 1) (y 3) (y 2) (y 0).val

omit f in
theorem split (t : Fin cfg0.N) (r : Fin 256) (l : Fin 1024) : ∃ n i h v, r = ri n i ∧ l = hv h v :=
  ⟨⟨r.val / 64, by omega⟩, ⟨r.val % 64, by omega⟩, ⟨l.val / 256, by omega⟩, ⟨l.val % 256, by omega⟩,
    Fin.ext (by show r.val = 64 * (r.val / 64) + r.val % 64; omega), Fin.ext (by show l.val = 256 * (l.val / 256) + l.val % 256; omega)⟩

omit f in
theorem quot (n : Fin 128) (i : Fin 64) (h : Fin 4) (v : Fin 256) :
    (row n i).val / 64 = n.val ∧ (row n i).val % 64 = i.val ∧ (hv h v).val / 256 = h.val ∧ (hv h v).val % 256 = v.val := by
  have e1 : (row n i).val = 64 * n.val + i.val := rfl
  have e2 : (hv h v).val = 256 * h.val + v.val := rfl
  omega

omit f in
theorem obArr_at (a : Args) (n : Fin 128) (i : Fin 64) (h : Fin 4) (v : Fin 256) : obArr a (ix2 (row n i) (hv h v)) = (GlaSpec.ob a n h i v : EReal) := by
  obtain ⟨q1, q2, q3, q4⟩ := quot n i h v
  have e1 : (⟨(row n i).val / 64, by omega⟩ : Fin 128) = n := Fin.ext q1
  have e2 : (⟨(row n i).val % 64, by omega⟩ : Fin 64) = i := Fin.ext q2
  have e3 : (⟨(hv h v).val / 256, by omega⟩ : Fin 4) = h := Fin.ext q3
  have e4 : (⟨(hv h v).val % 256, by omega⟩ : Fin 256) = v := Fin.ext q4
  show GlaSpec.ob a ⟨(row n i).val / 64, _⟩ ⟨(hv h v).val / 256, _⟩ ⟨(row n i).val % 64, _⟩ ⟨(hv h v).val % 256, _⟩ = _
  rw [e1, e2, e3, e4]

omit f in
theorem oArr_at (a : Args) (n : Fin 128) (i : Fin 64) (h : Fin 4) (v : Fin 256) : oArr a (ix2 (row n i) (hv h v)) = (GlaSpec.o a n h i v : EReal) := by
  obtain ⟨q1, q2, q3, q4⟩ := quot n i h v
  have e1 : (⟨(row n i).val / 64, by omega⟩ : Fin 128) = n := Fin.ext q1
  have e2 : (⟨(row n i).val % 64, by omega⟩ : Fin 64) = i := Fin.ext q2
  have e3 : (⟨(hv h v).val / 256, by omega⟩ : Fin 4) = h := Fin.ext q3
  have e4 : (⟨(hv h v).val % 256, by omega⟩ : Fin 256) = v := Fin.ext q4
  show GlaSpec.o a ⟨(row n i).val / 64, _⟩ ⟨(hv h v).val / 256, _⟩ ⟨(row n i).val % 64, _⟩ ⟨(hv h v).val % 256, _⟩ = _
  rw [e1, e2, e3, e4]

omit f in
theorem in_cols (h : Fin 4) (r l : Fin 256) : (ix2 r (hv h l) : S256x1024.Idx) = (ro h).emb (ix2 r l) := by
  change ix2 r (hv h l) = (ro h).idx (ix2 r l)
  funext b
  fin_cases b <;> refine Fin.ext ?_ <;> simp [Rect.idx_unit_val, hv]

omit f in
theorem in_kept (n h : Fin 4) (v : Fin 256) (d : Fin 128) : (ix4 n h v d : S4x4x256x128.Idx) = (rk n h).emb (ix4 0 0 v d) := by
  change ix4 n h v d = (rk n h).idx (ix4 0 0 v d)
  funext b
  fin_cases b <;> refine Fin.ext ?_ <;> simp [Rect.idx_unit_val]

theorem point8 (t : Fin cfg0.N) (n : Fin 4) (i : Fin 64) (h : Fin 4) (v : Fin 256) :
    (outsAt0 m c t.val t.isLt).1 ((ro h).emb (ix2 (ri n i) v)) = (GlaSpec.ob (args m c) (nc (tt t) n) h i v : EReal) := by
  by_cases h0 : t.val % 32 = 0
  · refine (congrFun (ob_A m c t h0) _).trans ((outB_at h _ _ _).trans ?_)
    exact gpv_at (holds m c t h) f n i v _ (start_A m c f t h0 h)
  · refine (congrFun (ob_B m c t h0) _).trans ((outB_at h _ _ _).trans ?_)
    exact gpv_at (holds m c t h) f n i v _ (start_B m c f t h0 h)

theorem point9 (t : Fin cfg0.N) (n : Fin 4) (i : Fin 64) (h : Fin 4) (v : Fin 256) :
    (outsAt0 m c t.val t.isLt).2.1 ((ro h).emb (ix2 (ri n i) v)) = (GlaSpec.o (args m c) (nc (tt t) n) h i v : EReal) := by
  by_cases h0 : t.val % 32 = 0
  · refine (congrFun (o_A m c t h0) _).trans ((outO_at h _ _ _).trans ?_)
    exact opv_at (holds m c t h) f n i v _ (start_A m c f t h0 h)
  · refine (congrFun (o_B m c t h0) _).trans ((outO_at h _ _ _).trans ?_)
    exact opv_at (holds m c t h) f n i v _ (start_B m c f t h0 h)

theorem point10 (t : Fin cfg0.N) (n h : Fin 4) (v : Fin 256) (d : Fin 128) :
    (outsAt0 m c t.val t.isLt).2.2.1 ((rk n h).emb (ix4 0 0 v d)) = (st (args m c) h d v (nc (tt t) n).val : EReal) := by
  by_cases h0 : t.val % 32 = 0
  · refine (congrFun (states_A m c t h0) _).trans ((kept_at h _ _ n _).trans ?_)
    exact kp_at (holds m c t h) f n d v _ (start_A m c f t h0 h)
  · refine (congrFun (states_B m c t h0) _).trans ((kept_at h _ _ n _).trans ?_)
    exact kp_at (holds m c t h) f n d v _ (start_B m c f t h0 h)

omit f in
theorem emb8 (t : Fin cfg0.N) (r : Fin 256) (l : Fin 1024) :
    ((View.whole main_v34_0).slice (win0_8.rect t)).emb (ix2 r l) = (ix2 (brow t r) l : S8192x1024.Idx) := by
  blk_ext [idx t]

omit f in
theorem emb9 (t : Fin cfg0.N) (r : Fin 256) (l : Fin 1024) :
    ((View.whole main_v34_1).slice (win0_9.rect t)).emb (ix2 r l) = (ix2 (brow t r) l : S8192x1024.Idx) := by
  blk_ext [idx t]

omit f in
theorem emb10 (t : Fin cfg0.N) (n h : Fin 4) (v : Fin 256) (d : Fin 128) :
    ((View.whole main_v34_2).slice (win0_10.rect t)).emb (ix4 n h v d) = (ix4 (nc (tt t) n) h v d : S128x4x256x128.Idx) := by
  blk_ext [idx t]

theorem final8 : (dats m 0 c).arrAt 8 cfg0.N = obArr (args m c) := by
  refine (dats m 0 c).arrAt_eq_of_covers 8 _ (by decide +kernel) fun t hf y => ?_
  blk_simp
  rw [after0_8]
  idx_vars y
  obtain ⟨n, i, h, v, rfl, rfl⟩ := split t y0 y1
  rw [emb8, brow_ri, obArr_at, in_cols]
  exact point8 m c f t n i h v

theorem final9 : (dats m 0 c).arrAt 9 cfg0.N = oArr (args m c) := by
  refine (dats m 0 c).arrAt_eq_of_covers 9 _ (by decide +kernel) fun t hf y => ?_
  blk_simp
  rw [after0_9]
  idx_vars y
  obtain ⟨n, i, h, v, rfl, rfl⟩ := split t y0 y1
  rw [emb9, brow_ri, oArr_at, in_cols]
  exact point9 m c f t n i h v

theorem final10 : (dats m 0 c).arrAt 10 cfg0.N = stArr (args m c) := by
  refine (dats m 0 c).arrAt_eq_of_covers 10 _ (by decide +kernel) fun t hf y => ?_
  blk_simp
  rw [after0_10]
  idx_vars y
  rw [emb10, in_kept]
  exact point10 m c f t y0 y1 y2 y3

end Cert.GlaKernel

end
-- ==== Proof.GlaRefA.lean ====
/- The seventh claim's reference: the arrays it prepares before its loop over the chunks, in terms of the closed form. -/
module

public import proofs.«01_k».proof.Proof.GlaSpec
public import proofs.«01_k».proof.Proof.Gen.Reference7Ideal.Step
import Idealize.ShloMosaic.Lib.WordCmp

@[expose] public section

set_option maxRecDepth 65536

noncomputable section

namespace Cert.GlaRefA

open Idealize.ShloMosaic Idealize.ShloMosaic.TcCoe Idealize.ShloMosaic.Tactic
open Cert.Reference7Ideal Cert.Reference7Ideal.Gen Cert.Reference7Ideal.Step
open Cert.GlaSpec (Args AllReal row hk hv st ls pre la B scale)

/-! ## A running sum within a chunk -/

/-- A fold of additions from zero is the sum. -/
theorem fold_sum {N : ℕ} (g : Fin N → EReal) : (List.finRange N).foldl (fun r n => r + g n) 0 = ∑ n, g n := by
  have e : ∀ (l : List (Fin N)) (r : EReal), l.foldl (fun r n => r + g n) r = r + (l.map g).sum := by
    intro l
    induction l with
    | nil => intro r; simp
    | cons x l ih => intro r; rw [List.foldl_cons, ih, List.map_cons, List.sum_cons, add_assoc]
  rw [e, zero_add, Fin.sum_univ_def]

/-- A window of 64 positions that starts 63 before the element reaches the elements up to it. -/
theorem reach (X : Fin 64 → EReal) (i : Fin 64) :
    (∑ k : Fin 64, if 63 ≤ i.val + k.val then X (Fin.ofNat 64 (i.val + k.val - 63)) else 0) = ∑ j, if j ≤ i then X j else 0 := by
  rw [← Finset.sum_filter, ← Finset.sum_filter]
  refine Finset.sum_nbij' (fun k => Fin.ofNat 64 (i.val + k.val - 63)) (fun j => Fin.ofNat 64 (j.val + 63 - i.val)) ?_ ?_ ?_ ?_ ?_
  · intro k hk
    simp only [Finset.mem_filter, Finset.mem_univ, true_and] at hk ⊢
    show (i.val + k.val - 63) % 64 ≤ i.val
    omega
  · intro j hj
    simp only [Finset.mem_filter, Finset.mem_univ, true_and] at hj ⊢
    have hj : j.val ≤ i.val := hj
    show 63 ≤ i.val + (j.val + 63 - i.val) % 64
    omega
  · intro k hk
    simp only [Finset.mem_filter, Finset.mem_univ, true_and] at hk
    refine Fin.ext ?_
    show ((i.val + k.val - 63) % 64 + 63 - i.val) % 64 = k.val
    omega
  · intro j hj
    simp only [Finset.mem_filter, Finset.mem_univ, true_and] at hj
    have hj : j.val ≤ i.val := hj
    refine Fin.ext ?_
    show (i.val + (j.val + 63 - i.val) % 64 - 63) % 64 = j.val
    omega
  · intro k hk
    rfl

/-- The element a window's position stands for, zero outside the array. -/
def term {s t : Shape} (window strides lo hi : Fin s.rank → Nat) (h : s.ReduceWindows window strides lo hi t) (x : s.Idx → EReal) (y : t.Idx)
    (w : (⟨s.rank, window⟩ : Shape).Idx) : EReal :=
  let p : Fin s.rank → Nat := fun a => (y (a.cast h.1.symm)).val * strides a + (w a).val
  if hin : ∀ a, lo a ≤ p a ∧ p a - lo a < s.size a then x (fun a => ⟨p a - lo a, (hin a).2⟩) else 0

/-- A windowed sum from zero is the sum of what its positions stand for. -/
theorem window_sum {s t : Shape} (window strides lo hi : Fin s.rank → Nat) (h : s.ReduceWindows window strides lo hi t) (x : s.Idx → EReal)
    (y : t.Idx) : Ideal.hostReduceWindowAdd window strides lo hi h x 0 y = ∑ w, term window strides lo hi h x y w := by
  unfold Ideal.hostReduceWindowAdd Host.reduceWindow
  dsimp only
  refine (congrArg (fun g => List.foldl g 0 (List.finRange (⟨s.rank, window⟩ : Shape).numel))
    (?_ : _ = fun r k => r + term window strides lo hi h x y ((Shape.rowMajor (⟨s.rank, window⟩ : Shape)).symm k))).trans ?_
  · funext r k
    refine congrArg (r + ·) ?_
    unfold term
    dsimp only
    split_ifs <;> rfl
  refine (fold_sum (fun k => term window strides lo hi h x y ((Shape.rowMajor (⟨s.rank, window⟩ : Shape)).symm k))).trans ?_
  exact Equiv.sum_comp (Shape.rowMajor (⟨s.rank, window⟩ : Shape)).symm (term window strides lo hi h x y)

/-- The window's positions are those along its fourth axis. -/
def place : Fin 64 ≃ (⟨5, ![1, 1, 1, 64, 1]⟩ : Shape).Idx where
  toFun k := ix5 0 0 0 k 0
  invFun w := w 3
  left_inv _ := rfl
  right_inv w := by
    funext b
    refine Fin.ext ?_
    have hw := (w b).isLt
    fin_cases b
    · have : (w 0).val < 1 := (w 0).isLt
      show 0 = (w 0).val
      omega
    · have : (w 1).val < 1 := (w 1).isLt
      show 0 = (w 1).val
      omega
    · have : (w 2).val < 1 := (w 2).isLt
      show 0 = (w 2).val
      omega
    · rfl
    · have : (w 4).val < 1 := (w 4).isLt
      show 0 = (w 4).val
      omega

/-- A chunk's running sum. -/
abbrev win (x : S1x4x128x64x128.Idx → EReal) (y : S1x4x128x64x128.Idx) (w : (⟨5, ![1, 1, 1, 64, 1]⟩ : Shape).Idx) : EReal :=
  term (s := S1x4x128x64x128) ![1, 1, 1, 64, 1] ![1, 1, 1, 1, 1] ![0, 0, 0, 63, 0] ![0, 0, 0, 0, 0]
    reduceWindows_S1x4x128x64x128_S1x4x128x64x128_w1s1p0_0_w1s1p0_0_w1s1p0_0_w64s1p63_0_w1s1p0_0 x y w

theorem term_at (x : S1x4x128x64x128.Idx → EReal) (h : Fin 4) (n : Fin 128) (i : Fin 64) (d : Fin 128) (k : Fin 64) :
    win x (ix5 0 h n i d) (place k) = if 63 ≤ i.val + k.val then x (ix5 0 h n (Fin.ofNat 64 (i.val + k.val - 63)) d) else 0 := by
  have hi := i.isLt
  have hk := k.isLt
  unfold win term
  by_cases e : 63 ≤ i.val + k.val
  · rw [if_pos e, dif_pos]
    · refine congrArg x ?_
      funext b
      refine Fin.ext ?_
      fin_cases b
      · rfl
      · show h.val * 1 + 0 - 0 = h.val
        omega
      · show n.val * 1 + 0 - 0 = n.val
        omega
      · show i.val * 1 + k.val - 63 = (i.val + k.val - 63) % 64
        omega
      · show d.val * 1 + 0 - 0 = d.val
        omega
    · intro b
      fin_cases b
      · show 0 ≤ 0 * 1 + 0 ∧ 0 * 1 + 0 - 0 < 1
        omega
      · show 0 ≤ h.val * 1 + 0 ∧ h.val * 1 + 0 - 0 < 4
        omega
      · show 0 ≤ n.val * 1 + 0 ∧ n.val * 1 + 0 - 0 < 128
        omega
      · show 63 ≤ i.val * 1 + k.val ∧ i.val * 1 + k.val - 63 < 64
        omega
      · show 0 ≤ d.val * 1 + 0 ∧ d.val * 1 + 0 - 0 < 128
        omega
  · rw [if_neg e, dif_neg]
    intro hin
    have : 63 ≤ i.val * 1 + k.val := (hin 3).1
    omega

theorem running (x : FVec Ideal S1x4x128x64x128 .f32) (z : FVec Ideal S_ .f32) (hz : z (Shape.Idx.first h_S_) = (0 : EReal))
    (h : Fin 4) (n : Fin 128) (i : Fin 64) (d : Fin 128) :
    Host.reduceWindowAdd ![1, 1, 1, 64, 1] ![1, 1, 1, 1, 1] ![0, 0, 0, 63, 0] ![0, 0, 0, 0, 0] x z
      reduceWindows_S1x4x128x64x128_S1x4x128x64x128_w1s1p0_0_w1s1p0_0_w1s1p0_0_w64s1p63_0_w1s1p0_0 h_S_ (ix5 0 h n i d)
    = (∑ j : Fin 64, if j ≤ i then (x (ix5 0 h n j d) : EReal) else 0 : EReal) := by
  rw [← reach (fun j => (x (ix5 0 h n j d) : EReal))]
  unfold Host.reduceWindowAdd
  rw [hz, Ideal.hostReduceWindowAdd_def]
  refine (window_sum (s := S1x4x128x64x128) _ _ _ _ _ x (ix5 0 h n i d)).trans ?_
  refine (Equiv.sum_comp place (win x (ix5 0 h n i d))).symm.trans ?_
  exact Finset.sum_congr rfl fun k _ => term_at x h n i d k

/-! ## The arrays -/

variable (a : Args) (f : AllReal a) (n : Fin 128) (h : Fin 4) (i j : Fin 64) (d : Fin 128) (v : Fin 256)

theorem v7_at (r : Fin 8192) : A_main_v7 (F := Ideal) a.q a.k a.v a.lr a.w a.bi (ix3 0 r (hk h d)) = (pre a h d r : EReal) := by
  pointwise [A_main_v7, A_main_v6, A_main_v5, A_main_v4, A_main_v3]
  rfl

theorem zero_bits : (FloatOps.ofBits (F := Ideal) .f32 0x00000000#32 : EReal) = 0 := by simp [FloatOps.ofBits, Ideal.ofBits, Ideal.ieee]

include f in
theorem v24_at (r : Fin 8192) : A_main_v24 (F := Ideal) a.q a.k a.v a.lr a.w a.bi (ix3 0 r (hk h d)) = (la a h d r : EReal) := by
  refine Eq.trans ?_ (GlaSpec.ls_eq (GlaSpec.pre_real h d f r))
  pointwise [A_main_v24, A_main_v22, A_main_v21, A_main_v20, A_main_v19, A_main_v18, A_main_v17, A_main_v16, A_main_v15, A_main_v13, A_main_v12,
    A_main_v10, A_main_v8, K_main_v9, K_main_v11, K_main_v14, K_main_v23, K_main_cst, K_main_cst_0]
  rw [v7_at]
  rw [if_neg (fun e => e rfl)]
  rfl

theorem row_eq (hr : n.val * 64 + i.val < 8192) : (⟨n.val * 64 + i.val, hr⟩ : Fin 8192) = row n i := Fin.ext (by
  show n.val * 64 + i.val = 64 * n.val + i.val
  omega)
theorem hk_eq (hr : h.val * 128 + d.val < 512) : (⟨h.val * 128 + d.val, hr⟩ : Fin 512) = hk h d := Fin.ext (by
  show h.val * 128 + d.val = 128 * h.val + d.val
  omega)
theorem hv_eq (hr : h.val * 256 + v.val < 1024) : (⟨h.val * 256 + v.val, hr⟩ : Fin 1024) = hv h v := Fin.ext (by
  show h.val * 256 + v.val = 256 * h.val + v.val
  omega)

include f in
theorem v38 : A_main_v38 (F := Ideal) a.q a.k a.v a.lr a.w a.bi (ix5 0 h n i d) = (la a h d (row n i) : EReal) := by
  refine Eq.trans ?_ (v24_at a f h d (row n i))
  pointwise [A_main_v38, A_main_v34, A_main_v33]
  rw [row_eq, hk_eq]

include f in
theorem v39 : A_main_v39 (F := Ideal) a.q a.k a.v a.lr a.w a.bi (ix5 0 h n i d) = (B a n h i d : EReal) := by
  unfold A_main_v39
  refine (running _ _ zero_bits h n i d).trans ?_
  exact Finset.sum_congr rfl fun j _ => by rw [v38 a f]

theorem v35 : A_main_v35 (F := Ideal) a.q a.k a.v a.lr a.w a.bi (ix5 0 h n i d) = (a.q (ix2 (row n i) (hk h d)) * scale : EReal) := by
  pointwise [A_main_v35, A_main_v28, A_main_v26, A_main_v25, A_main_v0, K_main_v27, K_main_cst_1]
  rw [row_eq, hk_eq]
  rfl

theorem v36 : A_main_v36 (F := Ideal) a.q a.k a.v a.lr a.w a.bi (ix5 0 h n i d) = (a.k (ix2 (row n i) (hk h d)) : EReal) := by
  pointwise [A_main_v36, A_main_v30, A_main_v29, A_main_v1]
  rw [row_eq, hk_eq]

theorem v37 : A_main_v37 (F := Ideal) a.q a.k a.v a.lr a.w a.bi (ix5 0 h n i v) = (a.v (ix2 (row n i) (hv h v)) : EReal) := by
  pointwise [A_main_v37, A_main_v32, A_main_v31, A_main_v2]
  rw [row_eq, hv_eq]

theorem mask : K_main_call2_v1 (F := Ideal) (ix5 0 h n i j) = if j ≤ i then 1#1 else 0#1 := by
  pointwise [K_main_call2_v1, K_main_v51, K_main_v50, K_main_c, K_main_call1_v4, K_main_call1_v3, K_main_call1_v2, K_main_call1_v1, K_main_call1_v0,
    K_main_call1_c, K_main_call1_c_0, K_main_call1_v5]
  rw [show IntOp.addi (BitVec.ofNat 32 i.val) 0#32 = BitVec.ofNat 32 i.val from BitVec.add_zero _, WordCmp.cmpi_sge_ofNat (by omega) (by omega)]
  by_cases e : j ≤ i
  · rw [if_pos e, decide_eq_true (show j.val ≤ i.val from e)]
    rfl
  · rw [if_neg e, decide_eq_false (show ¬j.val ≤ i.val from e)]
    rfl

section
include f

theorem v42 : A_main_v42 (F := Ideal) a.q a.k a.v a.lr a.w a.bi (ix5 0 h n i d) = (GlaSpec.qd a n h i d : EReal) := by
  pointwise [A_main_v42, A_main_v41]
  rw [v39 a f, v35]
  rfl

theorem v45 : A_main_v45 (F := Ideal) a.q a.k a.v a.lr a.w a.bi (ix5 0 h n i d) = (GlaSpec.ki a n h i d : EReal) := by
  pointwise [A_main_v45, A_main_v44, A_main_v43]
  rw [v39 a f, v36]
  rfl

theorem v49 : A_main_v49 (F := Ideal) a.q a.k a.v a.lr a.w a.bi (ix5 0 h n i d) = (GlaSpec.kt a n h i d : EReal) := by
  pointwise [A_main_v49, A_main_v48, A_main_v47, A_main_v46, A_main_v40]
  rw [v39 a f, v39 a f, v36]
  rfl

theorem v53 : A_main_v53 (F := Ideal) a.q a.k a.v a.lr a.w a.bi (ix5 0 h n i j) = (GlaSpec.sc a n h i j : EReal) := by
  pointwise [A_main_v53, A_main_v52, K_main_call2_v2, K_main_call2_v0, K_main_cst_2]
  rw [mask]
  unfold GlaSpec.sc
  by_cases e : j ≤ i
  · rw [if_pos e, if_pos e]
    refine Eq.trans (b := ∑ x : Fin 128, (A_main_v42 (F := Ideal) a.q a.k a.v a.lr a.w a.bi (ix5 0 h n i x)
      * A_main_v45 (F := Ideal) a.q a.k a.v a.lr a.w a.bi (ix5 0 h n j x) : EReal)) rfl ?_
    exact Finset.sum_congr rfl fun x _ => by rw [v42 a f, v45 a f]
  · rw [if_neg e, if_neg e]
    exact zero_bits

theorem v54 : A_main_v54 (F := Ideal) a.q a.k a.v a.lr a.w a.bi (ix5 0 h n i v) = (GlaSpec.oi a n h i v : EReal) := by
  pointwise [A_main_v54]
  exact Finset.sum_congr rfl fun x _ => by rw [v53 a f, v37]

theorem v55 : A_main_v55 (F := Ideal) a.q a.k a.v a.lr a.w a.bi (ix5 0 h n d v) = (GlaSpec.kv a n h d v : EReal) := by
  pointwise [A_main_v55]
  exact Finset.sum_congr rfl fun x _ => by rw [v49 a f, v37]

theorem v57 : A_main_v57 (F := Ideal) a.q a.k a.v a.lr a.w a.bi (ix4 0 h n d) = (Ideal.exp (B a n h 63 d) : EReal) := by
  pointwise [A_main_v57, A_main_v56, A_main_v40]
  rw [v39 a f]

end

end Cert.GlaRefA

end
-- ==== Proof.GlaLoop.lean ====
/- The seventh claim's reference: its loop over the chunks as a sequence of states, and what its run leaves in terms of the last one. -/
module

public import proofs.«01_k».proof.Proof.Gen.Reference7Ideal.Run
public import proofs.«01_k».proof.Proof.Gen.Reference7Ideal.Step
public import Idealize.ShloMosaic.Lib.Pointwise

@[expose] public section

set_option maxRecDepth 65536

noncomputable section

namespace Cert.GlaLoop

open Idealize.ShloMosaic Idealize.ShloMosaic.TcCoe Idealize.SL.Sem Idealize.ShloMosaic.StableHlo
open Cert.Reference7Ideal Cert.Reference7Ideal.Gen Cert.Reference7Ideal.Value Cert.Reference7Ideal.Step

/-- A valuation carries a state into trip `j`: the carry, the two arrays being filled, the four arrays read, and the counter. -/
structure Carries (W : Valuation τ sig (Elt Ideal)) (s : State Ideal) (j : ℕ) : Prop where
  carry : W (Proc.devRef .tc main_v65_5) = s.main_v65_5
  outs : W (Proc.devRef .tc main_v65_6) = s.main_v65_6
  kept : W (Proc.devRef .tc main_v65_7) = s.main_v65_7
  qs : W (Proc.devRef .tc main_v65_0) = s.main_v65_0
  kvs : W (Proc.devRef .tc main_v65_1) = s.main_v65_1
  decs : W (Proc.devRef .tc main_v65_2) = s.main_v65_2
  ins : W (Proc.devRef .tc main_v65_3) = s.main_v65_3
  count : W (Proc.devRef .tc main_v65_4) = constantI S_ 32 (BitVec.ofNat 32 j)

variable {W : Valuation τ sig (Elt Ideal)} {s : State Ideal} {j : ℕ}

theorem next_carry (h : Carries W s j) : Value.step_main_v65_5 W = b28 j s := by
  unfold Value.step_main_v65_5
  rw [h.carry, h.kvs, h.decs, h.count]
  rfl

theorem next_outs (h : Carries W s j) : Value.step_main_v65_6 W = b34 j s := by
  unfold Value.step_main_v65_6
  rw [h.outs, h.carry, h.qs, h.ins, h.count]
  rfl

theorem next_kept (h : Carries W s j) : Value.step_main_v65_7 W = b40 j s := by
  unfold Value.step_main_v65_7
  rw [h.kept, h.carry, h.count]
  rfl

theorem next_count (h : Carries W s j) : step_main_v65_4 W = constantI S_ 32 (BitVec.ofNat 32 (j + 1)) := by
  unfold step_main_v65_4
  rw [h.count, BitVec.ofNat_add]
  rfl

/-- One trip takes a carried state to the next. -/
theorem Carries.next (h : Carries W s j) : Carries (STEP W) (step j s) (j + 1) where
  carry := (STEP_main_v65_5 W).trans (next_carry h)
  outs := (STEP_main_v65_6 W).trans (next_outs h)
  kept := (STEP_main_v65_7 W).trans (next_kept h)
  qs := (STEP_main_v65_0 W).trans h.qs
  kvs := (STEP_main_v65_1 W).trans h.kvs
  decs := (STEP_main_v65_2 W).trans h.decs
  ins := (STEP_main_v65_3 W).trans h.ins
  count := (STEP_main_v65_4 W).trans (next_count h)

variable (m : (ℓ : Loc nD τ sig) → Buf (Elt Ideal) ℓ) (c : Dev nD)

/-- The state the first trip is given. -/
def start : State Ideal :=
  init (m ((c.tc : Thread nD τ).loc main_arg0)) (m ((c.tc : Thread nD τ).loc main_arg1)) (m ((c.tc : Thread nD τ).loc main_arg2))
    (m ((c.tc : Thread nD τ).loc main_arg4)) (m ((c.tc : Thread nD τ).loc main_arg6)) (m ((c.tc : Thread nD τ).loc main_arg7))

/-- The states, trip after trip. -/
def states : ℕ → State Ideal
  | 0 => start m c
  | n + 1 => step n (states n)

set_option maxHeartbeats 1000000 in
theorem carries_start : Carries (entryContents preI m c) (start m c) 0 := by
  constructor
  all_goals
    simp only [entryContents, afterL_cons, afterL_nil]
    after_reads_simp
    rfl

theorem carries (n : ℕ) : Carries (STEP^[n] (entryContents preI m c)) (states m c n) n := by
  induction n with
  | zero => exact carries_start m c
  | succ n ih =>
    rw [Function.iterate_succ_apply']
    exact ih.next

theorem left_ob : out_main_v88 (STEP^[128] (entryContents preI m c))
    = R_main_v88 (states m c 128) (m ((c.tc : Thread nD τ).loc main_arg3)) (m ((c.tc : Thread nD τ).loc main_arg8)) := by
  unfold out_main_v88
  rw [(carries m c 128).outs, iter_main_arg3 m c 128, iter_main_arg8 m c 128]
  rfl

theorem left_o : out_main_v90 (STEP^[128] (entryContents preI m c)) = R_main_v90 (states m c 128) := by
  unfold out_main_v90
  rw [(carries m c 128).outs]
  rfl

theorem left_states : out_main_v93 (STEP^[128] (entryContents preI m c)) = R_main_v93 (states m c 128) := by
  unfold out_main_v93
  rw [(carries m c 128).kept]
  rfl

end Cert.GlaLoop

end
-- ==== Proof.GlaRef.lean ====
/- The seventh claim's reference: what its loop's states hold in terms of the closed form, and the arrays its run leaves. -/
module

public import proofs.«01_k».proof.Proof.GlaRefA
public import proofs.«01_k».proof.Proof.GlaLoop
import Idealize.ShloMosaic.Lib.WordCmp

@[expose] public section

set_option maxRecDepth 65536

noncomputable section

namespace Cert.GlaRef

open Idealize.ShloMosaic Idealize.ShloMosaic.TcCoe Idealize.ShloMosaic.Tactic Idealize.SL.Sem
open Cert.Reference7Ideal Cert.Reference7Ideal.Gen Cert.Reference7Ideal.Step Cert.GlaLoop Cert.GlaRefA
open Cert.GlaSpec (Args AllReal row hk hv st ls pre la B scale)

/-- What the state before trip `n` holds. -/
structure Inv (a : Args) (s : State Ideal) (n : ℕ) : Prop where
  carry : ∀ (h : Fin 4) (d : Fin 128) (v : Fin 256), s.main_v65_5 (ix4 0 h d v) = (st a h d v n : EReal)
  outs : ∀ (k : Fin 128) (h : Fin 4) (i : Fin 64) (v : Fin 256), k.val < n → s.main_v65_6 (ix5 k 0 h i v) = (GlaSpec.o a k h i v : EReal)
  kept : ∀ (k : Fin 128) (h : Fin 4) (d : Fin 128) (v : Fin 256), k.val < n → s.main_v65_7 (ix5 k 0 h d v) = (st a h d v k.val : EReal)
  qs : ∀ (k : Fin 128) (h : Fin 4) (i : Fin 64) (d : Fin 128), s.main_v65_0 (ix5 k 0 h i d) = (GlaSpec.qd a k h i d : EReal)
  kvs : ∀ (k : Fin 128) (h : Fin 4) (d : Fin 128) (v : Fin 256), s.main_v65_1 (ix5 k 0 h d v) = (GlaSpec.kv a k h d v : EReal)
  decs : ∀ (k : Fin 128) (h : Fin 4) (d : Fin 128), s.main_v65_2 (ix4 k 0 h d) = (Ideal.exp (B a k h 63 d) : EReal)
  ins : ∀ (k : Fin 128) (h : Fin 4) (i : Fin 64) (v : Fin 256), s.main_v65_3 (ix5 k 0 h i v) = (GlaSpec.oi a k h i v : EReal)

variable (a : Args) (f : AllReal a)

theorem inv_init (hf : AllReal a) : Inv a (init a.q a.k a.v a.lr a.w a.bi) 0 where
  carry h d v := by
    show K_main_v58 (ix4 0 h d v) = _
    pointwise [K_main_v58, K_main_cst_3]
    rfl
  outs k h i v e := absurd e (Nat.not_lt_zero _)
  kept k h i v e := absurd e (Nat.not_lt_zero _)
  qs k h i d := by
    refine Eq.trans ?_ (v42 a hf k h i d)
    show A_main_v59 _ _ _ _ _ _ _ = _
    pointwise [A_main_v59]
  kvs k h d v := by
    refine Eq.trans ?_ (v55 a hf k h d v)
    show A_main_v60 _ _ _ _ _ _ _ = _
    pointwise [A_main_v60]
  decs k h d := by
    refine Eq.trans ?_ (v57 a hf k h d)
    show A_main_v61 _ _ _ _ _ _ _ = _
    pointwise [A_main_v61]
  ins k h i v := by
    refine Eq.trans ?_ (v54 a hf k h i v)
    show A_main_v62 _ _ _ _ _ _ _ = _
    pointwise [A_main_v62]

theorem ix5_eq {n0 n1 n2 n3 n4 : Nat} {p p' : Fin n0} {q q' : Fin n1} {r r' : Fin n2} {u u' : Fin n3} {w w' : Fin n4} (hp : p.val = p'.val)
    (hq : q.val = q'.val) (hr : r.val = r'.val) (hu : u.val = u'.val) (hw : w.val = w'.val) : ix5 p q r u w = ix5 p' q' r' u' w' := by
  obtain rfl := Fin.ext hp
  obtain rfl := Fin.ext hq
  obtain rfl := Fin.ext hr
  obtain rfl := Fin.ext hu
  obtain rfl := Fin.ext hw
  rfl

theorem ix4_eq {n0 n1 n2 n3 : Nat} {p p' : Fin n0} {q q' : Fin n1} {r r' : Fin n2} {u u' : Fin n3} (hp : p.val = p'.val)
    (hq : q.val = q'.val) (hr : r.val = r'.val) (hu : u.val = u'.val) : ix4 p q r u = ix4 p' q' r' u' := by
  obtain rfl := Fin.ext hp
  obtain rfl := Fin.ext hq
  obtain rfl := Fin.ext hr
  obtain rfl := Fin.ext hu
  rfl

/-- Where a trip's slices start: at the trip's number along the first axis, at zero along the others. -/
def from5 (n : ℕ) : Fin 5 → Int := fun k => BitVec.toInt ((![constantI S_ 32 (BitVec.ofNat 32 n), constantI S_ 32 0#32, constantI S_ 32 0#32,
  constantI S_ 32 0#32, constantI S_ 32 0#32] : Fin 5 → IVec S_ 32) k (Shape.Idx.first h_S_))
def from4 (n : ℕ) : Fin 4 → Int := fun k => BitVec.toInt ((![constantI S_ 32 (BitVec.ofNat 32 n), constantI S_ 32 0#32, constantI S_ 32 0#32,
  constantI S_ 32 0#32] : Fin 4 → IVec S_ 32) k (Shape.Idx.first h_S_))

abbrev c5 (p q : ℕ) (n : Fin 128) (k : Fin 5) : ℕ := Host.clampedStart ⟨5, ![128, 1, 4, p, q]⟩ ⟨5, ![1, 1, 4, p, q]⟩ rfl (from5 n.val) k

theorem c50 (p q : ℕ) (n : Fin 128) : c5 p q n 0 = n.val :=
  Host.clampedStart_of_le (s := ⟨5, ![128, 1, 4, p, q]⟩) (t := ⟨5, ![1, 1, 4, p, q]⟩) rfl _ 0 n.val (WordCmp.toInt_ofNat_of_lt (by omega))
    (by have := n.isLt; show n.val + 1 ≤ 128; omega)
theorem c51 (p q : ℕ) (n : Fin 128) : c5 p q n 1 = 0 :=
  Host.clampedStart_of_le (s := ⟨5, ![128, 1, 4, p, q]⟩) (t := ⟨5, ![1, 1, 4, p, q]⟩) rfl _ 1 0 rfl (by show 0 + 1 ≤ 1; omega)
theorem c52 (p q : ℕ) (n : Fin 128) : c5 p q n 2 = 0 :=
  Host.clampedStart_of_le (s := ⟨5, ![128, 1, 4, p, q]⟩) (t := ⟨5, ![1, 1, 4, p, q]⟩) rfl _ 2 0 rfl (by show 0 + 4 ≤ 4; omega)
theorem c53 (p q : ℕ) (n : Fin 128) : c5 p q n 3 = 0 :=
  Host.clampedStart_of_le (s := ⟨5, ![128, 1, 4, p, q]⟩) (t := ⟨5, ![1, 1, 4, p, q]⟩) rfl _ 3 0 rfl (by show 0 + p ≤ p; omega)
theorem c54 (p q : ℕ) (n : Fin 128) : c5 p q n 4 = 0 :=
  Host.clampedStart_of_le (s := ⟨5, ![128, 1, 4, p, q]⟩) (t := ⟨5, ![1, 1, 4, p, q]⟩) rfl _ 4 0 rfl (by show 0 + q ≤ q; omega)

abbrev c4 (n : Fin 128) (k : Fin 4) : ℕ := Host.clampedStart S128x1x4x128 S1x1x4x128 rfl (from4 n.val) k
theorem c40 (n : Fin 128) : c4 n 0 = n.val :=
  Host.clampedStart_of_le (s := S128x1x4x128) (t := S1x1x4x128) rfl _ 0 n.val (WordCmp.toInt_ofNat_of_lt (by omega))
    (by have := n.isLt; show n.val + 1 ≤ 128; omega)
theorem c41 (n : Fin 128) : c4 n 1 = 0 := Host.clampedStart_of_le (s := S128x1x4x128) (t := S1x1x4x128) rfl _ 1 0 rfl (by show 0 + 1 ≤ 1; omega)
theorem c42 (n : Fin 128) : c4 n 2 = 0 := Host.clampedStart_of_le (s := S128x1x4x128) (t := S1x1x4x128) rfl _ 2 0 rfl (by show 0 + 4 ≤ 4; omega)
theorem c43 (n : Fin 128) : c4 n 3 = 0 := Host.clampedStart_of_le (s := S128x1x4x128) (t := S1x1x4x128) rfl _ 3 0 rfl (by show 0 + 128 ≤ 128; omega)

theorem less {c : ℕ} (hc : c = 0) (x : ℕ) : x - c = x := by rw [hc, Nat.sub_zero]
theorem plus {c : ℕ} (hc : c = 0) (x : ℕ) : c + x = x := by rw [hc, Nat.zero_add]

variable {a} {s : State Ideal} {n : Fin 128} (I : Inv a s n.val) (h : Fin 4) (i : Fin 64) (d : Fin 128) (v : Fin 256)

theorem b5_at : b5 n.val s (ix4 0 h i d) = (s.main_v65_0 (ix5 n 0 h i d) : EReal) := by
  pointwise [b5, b4, b3, b2, b1, b0]
  exact congrArg s.main_v65_0 (ix5_eq (c50 64 128 n) (c51 64 128 n) (plus (c52 64 128 n) _) (plus (c53 64 128 n) _) (plus (c54 64 128 n) _))

theorem b11_at : b11 n.val s (ix4 0 h d v) = (s.main_v65_1 (ix5 n 0 h d v) : EReal) := by
  pointwise [b11, b10, b9, b8, b7, b6]
  exact congrArg s.main_v65_1 (ix5_eq (c50 128 256 n) (c51 128 256 n) (plus (c52 128 256 n) _) (plus (c53 128 256 n) _) (plus (c54 128 256 n) _))

theorem b22_at : b22 n.val s (ix4 0 h i v) = (s.main_v65_3 (ix5 n 0 h i v) : EReal) := by
  pointwise [b22, b21, b20, b19, b18, b17]
  exact congrArg s.main_v65_3 (ix5_eq (c50 64 256 n) (c51 64 256 n) (plus (c52 64 256 n) _) (plus (c53 64 256 n) _) (plus (c54 64 256 n) _))

theorem b16_at : b16 n.val s (ix3 0 h d) = (s.main_v65_2 (ix4 n 0 h d) : EReal) := by
  pointwise [b16, b15, b14, b13, b12]
  exact congrArg s.main_v65_2 (ix4_eq (c40 n) (c41 n) (plus (c42 n) _) (plus (c43 n) _))

theorem b34_at (k : Fin 128) : b34 n.val s (ix5 k 0 h i v)
    = (if k = n then b24 n.val s (ix4 0 h i v) else s.main_v65_6 (ix5 k 0 h i v) : EReal) := by
  pointwise [b34, b33, b32, b31, b30, b29]
  by_cases e : k = n
  · rw [if_pos e]
    subst e
    refine (dif_pos ⟨⟨le_of_eq (c50 64 256 k), lt_of_lt_of_eq (Nat.lt_succ_self _) (congrArg (· + 1) (c50 64 256 k)).symm⟩,
      ⟨le_of_eq (c51 64 256 k), lt_of_lt_of_eq Nat.zero_lt_one (congrArg (· + 1) (c51 64 256 k)).symm⟩,
      le_of_eq_of_le (c52 64 256 k) (Nat.zero_le _), le_of_eq_of_le (c53 64 256 k) (Nat.zero_le _),
      le_of_eq_of_le (c54 64 256 k) (Nat.zero_le _)⟩).trans ?_
    exact congrArg (b24 k.val s) (ix4_eq rfl (less (c52 64 256 k) _) (less (c53 64 256 k) _) (less (c54 64 256 k) _))
  · rw [if_neg e]
    refine dif_neg fun hk => e (Fin.ext ?_)
    have h1 := le_of_eq_of_le (c50 64 256 n).symm hk.1.1
    have h2 := lt_of_lt_of_eq hk.1.2 (congrArg (· + 1) (c50 64 256 n))
    omega

theorem b40_at (k : Fin 128) : b40 n.val s (ix5 k 0 h d v)
    = (if k = n then s.main_v65_5 (ix4 0 h d v) else s.main_v65_7 (ix5 k 0 h d v) : EReal) := by
  pointwise [b40, b39, b38, b37, b36, b35]
  by_cases e : k = n
  · rw [if_pos e]
    subst e
    refine (dif_pos ⟨⟨le_of_eq (c50 128 256 k), lt_of_lt_of_eq (Nat.lt_succ_self _) (congrArg (· + 1) (c50 128 256 k)).symm⟩,
      ⟨le_of_eq (c51 128 256 k), lt_of_lt_of_eq Nat.zero_lt_one (congrArg (· + 1) (c51 128 256 k)).symm⟩,
      le_of_eq_of_le (c52 128 256 k) (Nat.zero_le _), le_of_eq_of_le (c53 128 256 k) (Nat.zero_le _),
      le_of_eq_of_le (c54 128 256 k) (Nat.zero_le _)⟩).trans ?_
    exact congrArg (s.main_v65_5) (ix4_eq rfl (less (c52 128 256 k) _) (less (c53 128 256 k) _) (less (c54 128 256 k) _))
  · rw [if_neg e]
    refine dif_neg fun hk => e (Fin.ext ?_)
    have h1 := le_of_eq_of_le (c50 128 256 n).symm hk.1.1
    have h2 := lt_of_lt_of_eq hk.1.2 (congrArg (· + 1) (c50 128 256 n))
    omega

theorem b28_at : b28 n.val s (ix4 0 h d v) = (s.main_v65_5 (ix4 0 h d v) * b16 n.val s (ix3 0 h d) + b11 n.val s (ix4 0 h d v) : EReal) := by
  pointwise [b28, b27, b26, b25]

theorem b24_at : b24 n.val s (ix4 0 h i v) = (b22 n.val s (ix4 0 h i v) + ∑ d, b5 n.val s (ix4 0 h i d) * s.main_v65_5 (ix4 0 h d v) : EReal) := by
  pointwise [b24, b23]

include I in
/-- One trip keeps what the states hold. -/
theorem inv_step : Inv a (step n.val s) (n.val + 1) where
  carry h d v := by
    refine (b28_at h d v).trans ?_
    rw [b16_at, b11_at, I.carry, I.decs, I.kvs, GlaSpec.st_succ]
  outs k h i v hk := by
    refine (b34_at h i v k).trans ?_
    by_cases e : k = n
    · rw [if_pos e, b24_at, b22_at, I.ins, e]
      unfold GlaSpec.o
      exact congrArg (GlaSpec.oi a n h i v + ·) (Finset.sum_congr rfl fun d _ => by rw [b5_at, I.qs, I.carry])
    · rw [if_neg e]
      exact I.outs k h i v (lt_of_le_of_ne (Nat.le_of_lt_succ hk) fun e' => e (Fin.ext e'))
  kept k h d v hk := by
    refine (b40_at h d v k).trans ?_
    by_cases e : k = n
    · rw [if_pos e, I.carry, e]
    · rw [if_neg e]
      exact I.kept k h d v (lt_of_le_of_ne (Nat.le_of_lt_succ hk) fun e' => e (Fin.ext e'))
  qs := I.qs
  kvs := I.kvs
  decs := I.decs
  ins := I.ins

/-! ## What the run leaves -/

variable (m : (ℓ : Loc nD τ sig) → Buf (Elt Ideal) ℓ) (c : Dev nD)

/-- The arguments as launched. -/
def args : Args where
  q := m ((c : Thread nD τ).loc main_arg0)
  k := m ((c : Thread nD τ).loc main_arg1)
  v := m ((c : Thread nD τ).loc main_arg2)
  og := m ((c : Thread nD τ).loc main_arg3)
  lr := m ((c : Thread nD τ).loc main_arg4)
  w := m ((c : Thread nD τ).loc main_arg6)
  bi := m ((c : Thread nD τ).loc main_arg7)
  wn := m ((c : Thread nD τ).loc main_arg8)

theorem inv (f : AllReal (args m c)) : ∀ n : ℕ, n ≤ 128 → Inv (args m c) (states m c n) n
  | 0, _ => inv_init _ f
  | n + 1, h => inv_step (n := ⟨n, h⟩) (inv f n (Nat.le_of_succ_le h))

theorem part (h : Fin 4) (v : Fin 256) (h1 : (256 * h.val + v.val) / 256 < 4) (h2 : (256 * h.val + v.val) % 256 < 256) :
    (⟨(256 * h.val + v.val) / 256, h1⟩ : Fin 4) = h ∧ (⟨(256 * h.val + v.val) % 256, h2⟩ : Fin 256) = v :=
  ⟨Fin.ext (by show (256 * h.val + v.val) / 256 = h.val; omega), Fin.ext (by show (256 * h.val + v.val) % 256 = v.val; omega)⟩

section
variable (a : Args) (s : State Ideal) (og : FVec Ideal S8192x1024 .f32) (wn : FVec Ideal S256 .f32)

theorem read88 : R_main_v88 s og wn (ix2 (row n i) (hv h v))
    = (s.main_v65_6 (ix5 n 0 h i v)
        * Ideal.rsqrt (Ideal.div (∑ x, s.main_v65_6 (ix5 n 0 h i x) * s.main_v65_6 (ix5 n 0 h i x)) (Ideal.ofBits .f32 0x43800000#32)
          + Ideal.ofBits .f32 0x358637BD#32)
        * wn (ix1 v) * (og (ix2 (row n i) (hv h v)) * Ideal.logistic (og (ix2 (row n i) (hv h v)))) : EReal) := by
  have key : ∀ (h' : Fin 4) (v' : Fin 256), h' = h → v' = v →
      (s.main_v65_6 (ix5 n 0 h' i v')
        * Ideal.rsqrt (Ideal.div (∑ x, s.main_v65_6 (ix5 n 0 h' i x) * s.main_v65_6 (ix5 n 0 h' i x)) (Ideal.ofBits .f32 0x43800000#32)
          + Ideal.ofBits .f32 0x358637BD#32)
        * wn (ix1 v') * (og (ix2 (row n i) (hv h v)) * Ideal.logistic (og (ix2 (row n i) (hv h v)))) : EReal)
      = s.main_v65_6 (ix5 n 0 h i v)
        * Ideal.rsqrt (Ideal.div (∑ x, s.main_v65_6 (ix5 n 0 h i x) * s.main_v65_6 (ix5 n 0 h i x)) (Ideal.ofBits .f32 0x43800000#32)
          + Ideal.ofBits .f32 0x358637BD#32)
        * wn (ix1 v) * (og (ix2 (row n i) (hv h v)) * Ideal.logistic (og (ix2 (row n i) (hv h v)))) := by
    rintro _ _ rfl rfl
    rfl
  pointwise [R_main_v88]
  exact key _ _ (part h v (by omega) (by omega)).1 (part h v (by omega) (by omega)).2

theorem read90 : R_main_v90 s (ix2 (row n i) (hv h v)) = (s.main_v65_6 (ix5 n 0 h i v) : EReal) := by
  pointwise [R_main_v90]
  exact congrArg s.main_v65_6 (ix5_eq rfl rfl (congrArg Fin.val (part h v (by omega) (by omega)).1) rfl
    (congrArg Fin.val (part h v (by omega) (by omega)).2))

theorem read93 : R_main_v93 s (ix4 n h v d) = (s.main_v65_7 (ix5 n 0 h d v) : EReal) := by
  pointwise [R_main_v93]

end

theorem last88 (f : AllReal (args m c)) : R_main_v88 (states m c 128) (args m c).og (args m c).wn (ix2 (row n i) (hv h v))
    = (GlaSpec.ob (args m c) n h i v : EReal) := by
  have I := inv m c f 128 le_rfl
  rw [read88]
  simp only [I.outs n h i _ n.isLt]
  unfold GlaSpec.ob
  rfl

theorem last90 (f : AllReal (args m c)) : R_main_v90 (states m c 128) (ix2 (row n i) (hv h v)) = (GlaSpec.o (args m c) n h i v : EReal) :=
  (read90 h i v _).trans ((inv m c f 128 le_rfl).outs n h i v n.isLt)

theorem last93 (f : AllReal (args m c)) : R_main_v93 (states m c 128) (ix4 n h v d) = (st (args m c) h d v n.val : EReal) :=
  (read93 h d v _).trans ((inv m c f 128 le_rfl).kept n h d v n.isLt)

end Cert.GlaRef

end
-- ==== Proof.GlaPre.lean ====
/- What the precondition of the seventh claim says: the arguments it names are real numbers. -/
module

public import proofs.«01_k».proof.Pre_finite7
public import proofs.«01_k».proof.Proof.InPre
import Idealize.ShloMosaic.Lib.Pointwise

@[expose] public section

set_option maxRecDepth 16384

noncomputable section

namespace Cert.Reals

open Idealize.ShloMosaic

/-- Every argument the precondition names is real at every index. -/
theorem glaPre [Cert.Pre_finite7.Facts] {x0 x1 x2 x3 x4 x5 x6 x7 x8}
    (h : Cert.Pre_finite7.fn (F := Ideal) x0 x1 x2 x3 x4 x5 x6 x7 x8 = fun _ => 1#1) :
    (∀ i, IsReal (x4 i)) ∧ (∀ i, IsReal (x6 i)) ∧ (∀ i, IsReal (x7 i)) := by
  have h := congrFun h ix0
  obtain ⟨h, h2⟩ := andi_eq_one h
  obtain ⟨h0, h1⟩ := andi_eq_one h
  have : Subsingleton Cert.Pre_finite7.S_.Idx := ⟨fun a b => funext fun k => k.elim0⟩
  have hb {s : Shape} (hs : Cert.Pre_finite7.S_.BroadcastsInDim s (![] : Fin 0 → Fin s.rank)) (i : s.Idx) :
      broadcastInDim s ![] hs (constant (F := Ideal) Cert.Pre_finite7.S_ .f32 0x7F800000#32) i = (⊤ : EReal) := ofBits_inf
  exact ⟨isReal_of_all _ _ _ _ _ _ (hb _) h0, isReal_of_all _ _ _ _ _ _ (hb _) h1, isReal_of_all _ _ _ _ _ _ (hb _) h2⟩

end Cert.Reals

end
-- ==== Proof.GlaClaim.lean ====
/- The seventh claim: the frames of its programs, and their results' equality. -/
module

public import proofs.«01_k».proof.Defs
public import proofs.«01_k».proof.Proof.Gen.Kernel7.Frame
public import proofs.«01_k».proof.Proof.Gen.Kernel7Ideal.Value
public import proofs.«01_k».proof.Proof.Gen.Reference7Ideal.Run
public import proofs.«01_k».proof.Proof.GlaKernel
public import proofs.«01_k».proof.Proof.GlaRef
public import proofs.«01_k».proof.Proof.GlaPre
import Idealize.ShloMosaic.Lib.Claim

@[expose] public section

set_option maxRecDepth 16384

noncomputable section

namespace Cert.GlaClaim

open Idealize.ShloMosaic Idealize.ShloMosaic.TcCoe Idealize.ShloMosaic.Tactic Idealize.SL.Sem Cert.Reals
open Cert.GlaSpec (row hv)

theorem preFacts : Cert.Pre_finite7.Facts := by
  constructor <;> decide

instance : Cert.Pre_finite7.Facts := preFacts

theorem frame_kernel : Cert.quiescent_Kernel7 := fun m ρ _ => Cert.Kernel7.Gen.frame m ρ

theorem frame_ideal : Cert.quiescent_Kernel7Ideal := fun m ρ _ => Cert.Kernel7Ideal.Gen.frame m ρ

theorem frame_reference : Cert.quiescent_Reference7Ideal := fun m ρ _ =>
  (θ_run Cert.Reference7Ideal.defs _ _).mono
    (fun r h => ⟨fun c => (h c).2.2.2, sem_eq_zero_of_no_sems (by decide) r.2⟩) (Cert.Reference7Ideal.Value.run m ρ)

/-- A row and a column as a chunk's row and a head's column. -/
theorem split (r : Fin 8192) (l : Fin 1024) : ∃ n i h v, r = row n i ∧ l = hv h v :=
  ⟨⟨r.val / 64, by omega⟩, ⟨r.val % 64, by omega⟩, ⟨l.val / 256, by omega⟩, ⟨l.val % 256, by omega⟩,
    Fin.ext (by show r.val = 64 * (r.val / 64) + r.val % 64; omega), Fin.ext (by show l.val = 256 * (l.val / 256) + l.val % 256; omega)⟩

theorem algebraic : Cert.algebraic_Kernel7Ideal_Reference7Ideal_pre_finite7 := by
  intro m g m' g' hpre hargs
  refine ⟨_, _, _, (θ_run Cert.Kernel7Ideal.defs _ _).mono (fun r h => h) (Cert.Kernel7Ideal.Value.run_blocks m g),
    (θ_run Cert.Reference7Ideal.defs _ _).mono (fun r h c => ?_) (Cert.Reference7Ideal.Value.run m' g')⟩
  obtain ⟨a0, a1, a2, a3, a4, a5, a6, a7, a8⟩ := hargs c
  obtain ⟨p4, p6, p7⟩ := glaPre (hpre c)
  have f : GlaSpec.AllReal (GlaHost.args m c) := ⟨p4, p6, p7⟩
  have e : GlaRef.args m' c = GlaHost.args m c := by
    simp only [GlaRef.args, GlaHost.args, GlaSpec.Args.mk.injEq]
    exact ⟨a0, a1, a2, a3, a4, a6, a7, a8⟩
  have f' : GlaSpec.AllReal (GlaRef.args m' c) := by rw [e]; exact f
  obtain ⟨h0, h1, h2, h⟩ := h c
  refine ⟨h0.trans ?_, h1.trans ?_, h2.trans ?_, h⟩
  · rw [GlaLoop.left_ob, GlaKernel.final8 m c f]
    funext y
    idx_vars y
    obtain ⟨n, i, q, v, rfl, rfl⟩ := split y0 y1
    rw [GlaKernel.obArr_at, ← e]
    exact GlaRef.last88 (n := n) q i v m' c f'
  · rw [GlaLoop.left_o, GlaKernel.final9 m c f]
    funext y
    idx_vars y
    obtain ⟨n, i, q, v, rfl, rfl⟩ := split y0 y1
    rw [GlaKernel.oArr_at, ← e]
    exact GlaRef.last90 (n := n) q i v m' c f'
  · rw [GlaLoop.left_states, GlaKernel.final10 m c f]
    funext y
    idx_vars y
    refine (GlaRef.last93 (n := y0) y1 y3 y2 m' c f').trans ?_
    rw [e]
    rfl

end Cert.GlaClaim

end
-- ==== Proof.NormRunP.lean ====
/- The eighth claim's kernel as printed: its run, for its frame. What it stores is not named here; the idealized program's
   stores are in NormRun. -/
module

public import proofs.«01_k».proof.Proof.Gen.Kernel8.Skeleton
public import proofs.«01_k».proof.Proof.Gen.Kernel8.Frame
public import Idealize.ShloMosaic.Lib.Claim

@[expose] public section

set_option maxRecDepth 16384

noncomputable section

namespace Cert.NormRunP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel8 Cert.Kernel8.Gen

variable {F : FTy → Type} [FloatOps F]

local notation "𝕄" => MT nD τ sig Unit (Elt F) ℕ (UR sig nD τ) ℕ

/-! ## The body, whatever the outputs hold -/

/-- An operand at contents that are kept, and at contents that are not named. -/
theorem same (c : Dev nD) {S : Shape} {e : EltTy} {a : Memref sig .tc .vmem S e} (h : a.IsWhole) (x : Vec F S e) :
    (a.view.loc (c : Thread nD τ) ↦[a.view.set]{fullShare} h.unread x : sProp 𝕄) ⊢ ∃ f, ⌜a.view.read (Elt F) f = x⌝ ∗ (a.view.loc (c : Thread nD τ) ↦[a.view.set]{fullShare} f) := by
  iintro H
  iexists _; isplitr; swap; · iexact H
  ipureintro; exact h.read_unread x
theorem some (c : Dev nD) {S : Shape} {e : EltTy} (a : Memref sig .tc .vmem S e) {f : Buf (Elt F) (a.view.loc (c : Thread nD τ))} :
    (a.view.loc (c : Thread nD τ) ↦[a.view.set]{fullShare} f : sProp 𝕄) ⊢ ∃ d f, ⌜a.view.read (Elt F) f = d⌝ ∗ (a.view.loc (c : Thread nD τ) ↦[a.view.set]{fullShare} f) := by
  iintro H
  iexists _; iexists _; isplitr; swap; · iexact H
  ipureintro; rfl

section Body
variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x128 .bf16) (harg9 : arg9.IsWhole) (arg10 : Memref sig .tc .vmem S1024x1024 .bf16) (harg10 : arg10.IsWhole) (x2 : Vec F S1024x1024 .f32) (x3 : Vec F S1x1024 .f32) (x4 : Vec F S1024x1024 .bf16) (x5 : Vec F S128x1024 .bf16)

/-- The operands at their contents, the outputs and the scratch at any. -/
def res : sProp 𝕄 :=
  iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d))

set_option maxHeartbeats 4000000 in
/-- The body keeps them. -/
theorem keeps (E : Set ℕ) (K : PUnit → sProp 𝕄) : iprop(res c arg2 arg3 arg4 arg5 arg6 arg7 arg8 arg9 arg10 x2 x3 x4 x5 ∗ (res c arg2 arg3 arg4 arg5 arg6 arg7 arg8 arg9 arg10 x2 x3 x4 x5 -∗ K ()))
    ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  unfold res owns
  iintro ⟨⟨⟨%f2, %h2, H2⟩, ⟨%f3, %h3, H3⟩, ⟨%f4, %h4, H4⟩, ⟨%f5, %h5, H5⟩, ⟨%_, %_, -, H6⟩, ⟨%_, %_, -, H7⟩, ⟨%_, %_, -, H8⟩, ⟨%_, %_, -, H9⟩, ⟨%_, %_, -, H10⟩⟩, Hk⟩
  obtain rfl := harg2.eq_unread h2; obtain rfl := harg3.eq_unread h3; obtain rfl := harg4.eq_unread h4; obtain rfl := harg5.eq_unread h5
  by_cases hc0 : k0_cond1 i = 1#1 <;> by_cases hc1 : k0_cond2 i = 1#1 <;>
  · sl_exec (disch := first | sl_exact hc0 | sl_exact hc1)
    sl_step
    iapply Hk
    isplitl [H2]; · iapply (same c harg2 x2); iexact H2
    isplitl [H3]; · iapply (same c harg3 x3); iexact H3
    isplitl [H4]; · iapply (same c harg4 x4); iexact H4
    isplitl [H5]; · iapply (same c harg5 x5); iexact H5
    isplitl [H6]; · iapply (some c arg6); iexact H6
    isplitl [H7]; · iapply (some c arg7); iexact H7
    isplitl [H8]; · iapply (some c arg8); iexact H8
    isplitl [H9]; · iapply (some c arg9); iexact H9
    iapply (some c arg10); iexact H10

end Body

/-! ## The proof data -/

variable (m : (ℓ : Loc nD τ sig) → Buf (Elt F) ℓ) (ρ : Dev nD → PrngReg)

/-- The outputs' windows. -/
def forgets : Fin 8 → Bool := fun w => decide (4 ≤ w.val)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = X0_2 m c t := by dsimp only [dats]
theorem after3 (c : Dev nD) (t : Fin cfg0.N) : (dats m 0 c).after 3 t = iblk m c 3 t := by dsimp only [dats]

theorem before0 (c : Dev nD) (t : Fin cfg0.N) (d) : (dats m 0 c).before 0 t d = iblk m c 0 t :=
  before0_0_of m _ (A_eq m c 0) (after0 m c) t d
theorem before1 (c : Dev nD) (t : Fin cfg0.N) (d) : (dats m 0 c).before 1 t d = iblk m c 1 t :=
  before0_1_of m _ (A_eq m c 1) (after1 m c) t d
theorem before2 (c : Dev nD) (t : Fin cfg0.N) (d) : (dats m 0 c).before 2 t d = X0_2 m c t :=
  before0_2_of m _ (A_eq m c 2) (after2 m c) t d
theorem before3 (c : Dev nD) (t : Fin cfg0.N) (d) : (dats m 0 c).before 3 t d = iblk m c 3 t :=
  before0_3_of m _ (A_eq m c 3) (after3 m c) t d

theorem PhiA_eq (c : Dev nD) : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl, after0, after1, after2, after3]
  rw [show (dats m 0 c).Φ t.succ = Pipeline.ΦA spec0 c from rfl, show (dats m 0 c).Φ t.castSucc = Pipeline.ΦA spec0 c from rfl, PhiA_eq]
  iintro ⟨⟨HS, Hg⟩, Ho, ⟨%d0, H0⟩, ⟨%d1, H1⟩, ⟨%d2, H2⟩, ⟨%d3, H3⟩, H4, H5, H6, H7⟩
  iapply (keeps c (grid0.coords t) _ _ _ _ _ _ _ _ _ _ _ _ _ _ _ _ _ _ (iblk m c 0 t) (iblk m c 1 t) (X0_2 m c t) (iblk m c 3 t) Set.univ _)
  unfold res
  isplitr [Hg Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iintro ⟨H0, H1, H2, H3, H4, H5, H6, H7, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets := fun t => by
  rw [bigSep_W0, bigSep_W0, defs_row]
  exact triple_restated (sound_body m c t) rfl .rfl fun _ => .rfl

/-! ## The run -/

set_option backward.isDefEq.respectTransparency.types false in
theorem run : θ_run defs (onTc (τ := τ) (main (F := F))) (s₀ m ρ)
    (fun r => (Pipeline.RDat.FramePost (cfgs 0) (fun c => (dats m 0 c).toRForget forgets) (V m)) r ∧ r.2.sem = fun _ => 0) :=
  Pipeline.θ_run_frame_track_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m) (hin := fun _ => .rfl) (hout := fun _ => .rfl)

/-- The run leaves the arguments as they were. -/
theorem kept {r} (h : Pipeline.RDat.FramePost (cfgs 0) (fun c => (dats m 0 c).toRForget forgets) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(h.arr_in c 0 rfl).trans ((A_eq m c 0).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

end Cert.NormRunP

end
-- ==== Proof.NormRun.lean ====
/- The eighth claim's kernel: what its body stores at each grid point, and its run. An output stored at one point of a row
   tile is written back at the tile's last point, so the statements here carry it from the one to the other. -/
module

public import proofs.«01_k».proof.Proof.Gen.Kernel8Ideal.Skeleton
public import proofs.«01_k».proof.Proof.Gen.Kernel8Ideal.Frame
public import Idealize.ShloMosaic.Lib.VecWindow
public import Idealize.ShloMosaic.Lib.Claim

@[expose] public section

set_option maxRecDepth 16384

noncomputable section

namespace Cert.NormRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel8Ideal Cert.Kernel8Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem at0 : ∀ t : Fin cfg0.N, k0_cond1 (grid0.coords t) = 1#1 ↔ t.val % 6 = 0 :=
  (by decide +kernel : ∀ t : Fin grid0.N, _)

theorem at1 : ∀ t : Fin cfg0.N, k0_cond2 (grid0.coords t) = 1#1 ↔ t.val % 6 = 1 :=
  (by decide +kernel : ∀ t : Fin grid0.N, _)

/-- The first point of a point's row tile, -/
def first (t : Fin cfg0.N) : Fin cfg0.N := ⟨t.val / 6 * 6, Nat.lt_of_le_of_lt (Nat.div_mul_le_self _ _) t.isLt⟩

/-- and the second. -/
def second (t : Fin cfg0.N) : Fin cfg0.N :=
  ⟨t.val / 6 * 6 + 1, by have h : t.val < 48 := lt_of_lt_of_eq t.isLt N_0; exact lt_of_lt_of_eq (by omega : _ < 48) N_0.symm⟩

theorem first_self {t : Fin cfg0.N} (h : t.val % 6 = 0) : first t = t := Fin.ext (by show t.val / 6 * 6 = t.val; omega)
theorem second_self {t : Fin cfg0.N} (h : t.val % 6 = 1) : second t = t := Fin.ext (by show t.val / 6 * 6 + 1 = t.val; omega)

/-- The point before. -/
def pred (t : Fin cfg0.N) : Fin cfg0.N := ⟨t.val - 1, Nat.lt_of_le_of_lt (Nat.sub_le _ _) t.isLt⟩

theorem first_pred {t : Fin cfg0.N} (h : t.val % 6 ≠ 0) : first (pred t) = first t :=
  Fin.ext (by show (t.val - 1) / 6 * 6 = t.val / 6 * 6; omega)
theorem second_pred {t : Fin cfg0.N} (h : t.val % 6 ≠ 0) : second (pred t) = second t :=
  Fin.ext (by show (t.val - 1) / 6 * 6 + 1 = t.val / 6 * 6 + 1; omega)

/-! ## What the body stores -/

/-- The normalised row tile, as the output has it, -/
def nrm (c : Dev nD) (t : Fin cfg0.N) : Vec F S1024x1024 .bf16 := k0_pay1 (iblk m c 0 (first t)) (iblk m c 1 (first t))
/-- as the scratch has it, -/
def scr (c : Dev nD) (t : Fin cfg0.N) : Vec F S1024x1024 .bf16 := k0_pay2 (iblk m c 0 (first t)) (iblk m c 1 (first t))
/-- its product with a block of the weight, rounded, -/
def prod (c : Dev nD) (t : Fin cfg0.N) : Vec F S1024x1024 .bf16 := k0_pay5 (scr m c t) (X0_2 m c t)
/-- the one product kept in full, -/
def full (c : Dev nD) (t : Fin cfg0.N) : Vec F S1024x1024 .f32 := k0_pay4 (scr m c t) (X0_2 m c (second t))
/-- and the product with the last columns. -/
def tail (c : Dev nD) (t : Fin cfg0.N) : Vec F S1024x128 .bf16 :=
  k0_pay3 (iblk m c 0 (first t)) (iblk m c 1 (first t)) (iblk m c 3 (first t))

/-! ## The body's triples -/

section
variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S128x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x128 .bf16) (harg9 : arg9.IsWhole) (arg10 : Memref sig .tc .vmem S1024x1024 .bf16) (harg10 : arg10.IsWhole)
  (x0 : Vec F S1024x1024 .f32) (x1 : Vec F S1x1024 .f32) (x2 : Vec F S1024x1024 .bf16) (x3 : Vec F S128x1024 .bf16) (s0 : Vec F S1024x1024 .bf16)

set_option maxHeartbeats 1000000 in
/-- At the first point of a row tile. -/
theorem runA (hc0 : k0_cond1 i = 1#1) (hc1 : ¬k0_cond2 i = 1#1) : ∀ (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay1 x0 x1) ∗ owns (c : Thread nD τ) arg7 fullShare (k0_pay5 (k0_pay2 x0 x1) x2) ∗ owns (c : Thread nD τ) arg9 fullShare (k0_pay3 x0 x1 x3) ∗ owns (c : Thread nD τ) arg10 fullShare (k0_pay2 x0 x1)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  intro E K
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d7, %f7, -, H7⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_full _ _ _ _ _).trans ?_
    rw [View.readAt_full, View.readAt_full, hf0, hf1]
  isplitl [H5]
  · iexists _; isplitr; swap; · iexact H5
    ipureintro
    refine (View.read_writes_full _ _ _ _ _).trans ?_
    unfold runA.sl.v3 runA.sl.HS0_1
    rw [View.readCov_full, View.readAt_full, View.readAt_full, View.readAt_full, hf0, hf1, hf2]
  isplitl [H7]
  · iexists _; isplitr; swap; · iexact H7
    ipureintro
    refine (View.read_writes_full _ _ _ _ _).trans ?_
    rw [View.readAt_full, View.readAt_full, View.readAt_full, hf0, hf1, hf3]
  iexists _; isplitr; swap; · iexact HS0
  ipureintro
  refine (View.read_writes_full _ _ _ _ _).trans ?_
  rw [View.readAt_full, View.readAt_full, hf0, hf1]

set_option maxHeartbeats 1000000 in
/-- At the second. -/
theorem runB (hc0 : ¬k0_cond1 i = 1#1) (hc1 : k0_cond2 i = 1#1) : ∀ (E : Set ℕ) (K : PUnit → sProp 𝕄),
    iprop(owns (c : Thread nD τ) arg4 fullShare x2 ∗ (∃ d, owns (c : Thread nD τ) arg7 fullShare d) ∗ (∃ d, owns (c : Thread nD τ) arg8 fullShare d) ∗ owns (c : Thread nD τ) arg10 fullShare s0
        ∗ (iprop(owns (c : Thread nD τ) arg4 fullShare x2 ∗ owns (c : Thread nD τ) arg7 fullShare (k0_pay5 s0 x2) ∗ owns (c : Thread nD τ) arg8 fullShare (k0_pay4 s0 x2) ∗ owns (c : Thread nD τ) arg10 fullShare s0) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  intro E K
  simp only [cc0_in_proj_eq_skeleton]; unfold cc0_in_proj_skel
  unfold owns
  iintro ⟨⟨%f2, %hf2, H2⟩, ⟨%d5, %f5, -, H5⟩, ⟨%d6, %f6, -, H6⟩, ⟨%fs0, %hfs, HS0⟩, Hk⟩
  obtain rfl := harg4.eq_unread hf2; obtain rfl := harg10.eq_unread hfs
  sl_exec (disch := first | sl_exact hc0 | sl_exact hc1)
  sl_step
  iapply Hk
  isplitl [H2]
  · iexists _; isplitr; · ipureintro; exact harg4.read_unread _
    iexact H2
  isplitl [H5]
  · iexists _; isplitr; swap; · iexact H5
    ipureintro
    refine (View.read_writes_full _ _ _ _ _).trans ?_
    rw [View.readAt_full, View.readAt_full, hf2, hfs]
  isplitl [H6]
  · iexists _; isplitr; swap; · iexact H6
    ipureintro
    refine (View.read_writes_full _ _ _ _ _).trans ?_
    rw [View.readAt_full, View.readAt_full, hf2, hfs]
  iexists _; isplitr; · ipureintro; exact harg10.read_unread _
  iexact HS0

set_option maxHeartbeats 1000000 in
/-- At the others. -/
theorem runC (hc0 : ¬k0_cond1 i = 1#1) (hc1 : ¬k0_cond2 i = 1#1) : ∀ (E : Set ℕ) (K : PUnit → sProp 𝕄),
    iprop(owns (c : Thread nD τ) arg4 fullShare x2 ∗ (∃ d, owns (c : Thread nD τ) arg7 fullShare d) ∗ owns (c : Thread nD τ) arg10 fullShare s0
        ∗ (iprop(owns (c : Thread nD τ) arg4 fullShare x2 ∗ owns (c : Thread nD τ) arg7 fullShare (k0_pay5 s0 x2) ∗ owns (c : Thread nD τ) arg10 fullShare s0) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  intro E K
  simp only [cc0_in_proj_eq_skeleton]; unfold cc0_in_proj_skel
  unfold owns
  iintro ⟨⟨%f2, %hf2, H2⟩, ⟨%d5, %f5, -, H5⟩, ⟨%fs0, %hfs, HS0⟩, Hk⟩
  obtain rfl := harg4.eq_unread hf2; obtain rfl := harg10.eq_unread hfs
  sl_exec (disch := first | sl_exact hc0 | sl_exact hc1)
  sl_step
  iapply Hk
  isplitl [H2]
  · iexists _; isplitr; · ipureintro; exact harg4.read_unread _
    iexact H2
  isplitl [H5]
  · iexists _; isplitr; swap; · iexact H5
    ipureintro
    refine (View.read_writes_full _ _ _ _ _).trans ?_
    rw [View.readAt_full, View.readAt_full, hf2, hfs]
  iexists _; isplitr; · ipureintro; exact harg10.read_unread _
  iexact HS0

end

/-! ## The proof data -/

/-- The scratch that holds the normalised row tile. -/
abbrev sc : Memref sig .tc .vmem S1024x1024 .bf16 := Memref.whole cc0_scratch0

theorem PhiA_eq (c : Dev nD) : (Pipeline.ΦA spec0 c : sProp 𝕄) = iprop((∃ d, owns (c : Thread nD τ) sc fullShare d) ∗ (∃ r, prngReg c r)) := by
  unfold Pipeline.ΦA; rw [scopedRest0_eq]; simp only [sc, owns_whole]; try rfl

/-- Before a row tile anything is in the scratch; inside it, the normalised tile. -/
def Phi (c : Dev nD) (t : Fin (cfg0.N + 1)) : sProp 𝕄 :=
  if h : t.val % 6 = 0 then Pipeline.ΦA spec0 c
  else iprop(owns (c : Thread nD τ) sc fullShare (scr m c ⟨t.val - 1, by have := t.isLt; omega⟩) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => nrm m c t
    | ⟨5, _⟩ => prod m c t
    | ⟨6, _⟩ => full m c t
    | ⟨7, _⟩ => tail m c t
  Φ t := Phi m c t
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = X0_2 m c t := by dsimp only [dats]
theorem after3 (c : Dev nD) (t : Fin cfg0.N) : (dats m 0 c).after 3 t = iblk m c 3 t := by dsimp only [dats]
theorem after4 (c : Dev nD) (t : Fin cfg0.N) : (dats m 0 c).after 4 t = nrm m c t := by dsimp only [dats]
theorem after5 (c : Dev nD) (t : Fin cfg0.N) : (dats m 0 c).after 5 t = prod m c t := by dsimp only [dats]
theorem after6 (c : Dev nD) (t : Fin cfg0.N) : (dats m 0 c).after 6 t = full m c t := by dsimp only [dats]
theorem after7 (c : Dev nD) (t : Fin cfg0.N) : (dats m 0 c).after 7 t = tail m c t := by dsimp only [dats]

theorem before0 (c : Dev nD) (t : Fin cfg0.N) (d) : (dats m 0 c).before 0 t d = iblk m c 0 t :=
  before0_0_of m _ (A_eq m c 0) (after0 m c) t d
theorem before1 (c : Dev nD) (t : Fin cfg0.N) (d) : (dats m 0 c).before 1 t d = iblk m c 1 t :=
  before0_1_of m _ (A_eq m c 1) (after1 m c) t d
theorem before2 (c : Dev nD) (t : Fin cfg0.N) (d) : (dats m 0 c).before 2 t d = X0_2 m c t :=
  before0_2_of m _ (A_eq m c 2) (after2 m c) t d
theorem before3 (c : Dev nD) (t : Fin cfg0.N) (d) : (dats m 0 c).before 3 t d = iblk m c 3 t :=
  before0_3_of m _ (A_eq m c 3) (after3 m c) t d

/-! ## What is carried through a row tile -/

theorem idle4 (t : Fin cfg0.N) : cfg0.idle 4 (grid0.coords t) = !decide (t.val % 6 = 0) := by
  show (!(k0_cond1 (grid0.coords t) == 1#1)) = _
  rw [Bool.not_inj_iff, Bool.eq_iff_iff, beq_iff_eq, decide_eq_true_iff, at0]
theorem idle6 (t : Fin cfg0.N) : cfg0.idle 6 (grid0.coords t) = !decide (t.val % 6 = 1) := by
  show (!(k0_cond2 (grid0.coords t) == 1#1)) = _
  rw [Bool.not_inj_iff, Bool.eq_iff_iff, beq_iff_eq, decide_eq_true_iff, at1]
theorem idle7 (t : Fin cfg0.N) : cfg0.idle 7 (grid0.coords t) = !decide (t.val % 6 = 0) := idle4 t

/-- An output stored at one point of each row tile holds the same from there to the tile's end. -/
theorem carry {c : Dev nD} (w : Fin cfg0.W) (k : ℕ) (hf : ∀ t, (cfg0.win w).fetch t = false)
    (hw : ∀ t, (cfg0.win w).flush t = true ↔ t.val % 6 = 5) (hi : ∀ t, cfg0.idle w (grid0.coords t) = !decide (t.val % 6 = k))
    (hk : ∀ t d, (dats m 0 c).kept w t d = (dats m 0 c).after w t)
    (ha : ∀ t : Fin cfg0.N, t.val % 6 ≠ 0 → (dats m 0 c).after w (pred t) = (dats m 0 c).after w t) :
    ∀ (n : ℕ) (t : Fin cfg0.N) (d), t.val = n → k < t.val % 6 → (dats m 0 c).before w t d = (dats m 0 c).after w t := by
  intro n
  induction n with
  | zero => intro t d h hlt; omega
  | succ n ih =>
    intro t d h hlt
    have e : (cfg0.win w).flush (pred t) = false := Bool.eq_false_iff.2 fun h' => by
      have h5 : (t.val - 1) % 6 = 5 := (hw (pred t)).1 h'
      omega
    refine ((dats m 0 c).before_of_pos w t (by omega) (hf t) d).trans ?_
    refine (if_neg (Bool.eq_false_iff.1 e)).trans ?_
    show (dats m 0 c).left w (pred t) d = _
    unfold Dat.left
    by_cases hp : (t.val - 1) % 6 = k
    · have e' : cfg0.idle w (cfg0.grid.coords (pred t)) = false := (hi (pred t)).trans (by rw [decide_eq_true (show (pred t).val % 6 = k from hp)]; rfl)
      rw [e']
      exact (hk _ _).trans (ha t (by omega))
    · have e' : cfg0.idle w (cfg0.grid.coords (pred t)) = true := (hi (pred t)).trans (by rw [decide_eq_false (show ¬(pred t).val % 6 = k from hp)]; rfl)
      rw [e']
      exact (ih (pred t) d (show t.val - 1 = n by omega) (show k < (t.val - 1) % 6 by omega)).trans (ha t (by omega))

theorem before4 (c : Dev nD) (t : Fin cfg0.N) (d) (h : 0 < t.val % 6) : (dats m 0 c).before 4 t d = (dats m 0 c).after 4 t :=
  carry m 4 0 (fun _ => rfl) flush0_4 idle4 (fun _ _ => rfl)
    (fun t h => by rw [after4, after4, nrm, nrm, first_pred h]) t.val t d rfl h
theorem before6 (c : Dev nD) (t : Fin cfg0.N) (d) (h : 1 < t.val % 6) : (dats m 0 c).before 6 t d = (dats m 0 c).after 6 t :=
  carry m 6 1 (fun _ => rfl) flush0_6 idle6 (fun _ _ => rfl)
    (fun t h => by rw [after6, after6, full, full, scr, scr, first_pred h, second_pred h]) t.val t d rfl h
theorem before7 (c : Dev nD) (t : Fin cfg0.N) (d) (h : 0 < t.val % 6) : (dats m 0 c).before 7 t d = (dats m 0 c).after 7 t :=
  carry m 7 0 (fun _ => rfl) flush0_7 idle7 (fun _ _ => rfl)
    (fun t h => by rw [after7, after7, tail, tail, first_pred h]) t.val t d rfl h

/-- A buffer the body leaves alone is as the obligation asks, if what it holds at a write-back is what is to be written. -/
theorem pass {c : Dev nD} (w : Fin cfg0.W) (t : Fin cfg0.N) (d) (hi : cfg0.idle w (grid0.coords t) = true)
    (hb : (cfg0.win w).flush t = true → (dats m 0 c).before w t d = (dats m 0 c).after w t) :
    owns (c : Thread nD τ) ((cfg0.win w).stage (cfg0.slots t w)) fullShare ((dats m 0 c).before w t d) ⊢ ((dats m 0 c).leavesExact w t : sProp 𝕄) := by
  have hi' : cfg0.idle w (cfg0.grid.coords t) = true := hi
  unfold Dat.leavesExact
  rw [hi']
  cases hf : (cfg0.win w).flush t
  · iintro H; iexists _; iexact H
  · rw [hb hf]; try exact Idealize.SL.BI.Entails.refl _

theorem live {c : Dev nD} (w : Fin cfg0.W) (t : Fin cfg0.N) (hi : cfg0.idle w (grid0.coords t) = false) :
    ((dats m 0 c).leavesExact w t : sProp 𝕄) = owns (c : Thread nD τ) ((cfg0.win w).stage (cfg0.slots t w)) fullShare ((dats m 0 c).after w t) := by
  have hi' : cfg0.idle w (cfg0.grid.coords t) = false := hi
  unfold Dat.leavesExact
  rw [hi']

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t
    ∗ owns (c : Thread nD τ) (st0_5 t) fullShare ((dats m 0 c).after 5 t)
    ∗ (dats m 0 c).leavesExact 6 t
    ∗ (dats m 0 c).leavesExact 7 t)

theorem Phi_out (c : Dev nD) (t : Fin (cfg0.N + 1)) : Phi m c t ⊢ Pipeline.ΦA spec0 c := by
  unfold Phi
  split
  · exact Idealize.SL.BI.Entails.refl _
  · rw [PhiA_eq]
    iintro ⟨HS, Hg⟩
    isplitl [HS]
    · iexists _; iexact HS
    iexact Hg

/-- Inside a row tile, before and after a point. -/
theorem Phi_before (c : Dev nD) (t : Fin cfg0.N) (h : t.val % 6 ≠ 0) :
    Phi m c t.castSucc = iprop(owns (c : Thread nD τ) sc fullShare (scr m c t) ∗ (∃ r, prngReg c r)) := by
  have e : scr m c (⟨t.castSucc.val - 1, by have := t.isLt; show t.val - 1 < _; omega⟩ : Fin cfg0.N) = scr m c t := by
    show scr m c (pred t) = _
    rw [scr, scr, first_pred h]
  unfold Phi
  rw [dif_neg (show ¬t.castSucc.val % 6 = 0 from h), e]

theorem Phi_start (c : Dev nD) (t : Fin cfg0.N) (h : t.val % 6 = 0) : Phi m c t.castSucc = Pipeline.ΦA spec0 c := by
  unfold Phi
  rw [dif_pos (show t.castSucc.val % 6 = 0 from h)]

theorem Phi_after (c : Dev nD) (t : Fin cfg0.N) :
    iprop(owns (c : Thread nD τ) sc fullShare (scr m c t) ∗ (∃ r, prngReg c r)) ⊢ Phi m c t.succ := by
  have e : (⟨t.succ.val - 1, by have := t.isLt; show t.val + 1 - 1 < _; omega⟩ : Fin cfg0.N) = t := Fin.ext (by show t.val + 1 - 1 = t.val; omega)
  unfold Phi
  split
  · rw [PhiA_eq]
    iintro ⟨HS, Hg⟩
    isplitl [HS]
    · iexists _; iexact HS
    iexact Hg
  · rw [e]
    try exact Idealize.SL.BI.Entails.refl _

set_option maxHeartbeats 9600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl, after0, after1, after2, after3, after5]
  rw [show (dats m 0 c).Φ t.succ = Phi m c t.succ from rfl, show (dats m 0 c).Φ t.castSucc = Phi m c t.castSucc from rfl]
  by_cases h0 : t.val % 6 = 0
  · have h1 : ¬t.val % 6 = 1 := by omega
    rw [live m 4 t ((idle4 t).trans (by rw [decide_eq_true h0]; rfl)), live m 7 t ((idle7 t).trans (by rw [decide_eq_true h0]; rfl)),
      after4, after7, Phi_start m c t h0, PhiA_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runA c (grid0.coords t) _ _ _ _ _ _ _ _ _ _ _ _ _ _ _ _ _ _ (iblk m c 0 t) (iblk m c 1 t) (X0_2 m c t) (iblk m c 3 t) ((at0 t).mpr h0) (fun h => h1 ((at1 t).mp h)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H7]; · iexists _; iexact H7
    isplitl [HS]; · iexact HS
    iintro ⟨H0, H1, H2, H3, H4, H5, H7, HS⟩
    isplitl [HS Hg]
    · iapply (Phi_after m c t)
      isplitl [HS]
      · unfold scr; rw [first_self h0]; iexact HS
      iexact Hg
    isplitl [Ho]; · iexact Ho
    isplitl [H0]; · iexact H0
    isplitl [H1]; · iexact H1
    isplitl [H2]; · iexact H2
    isplitl [H3]; · iexact H3
    isplitl [H4]; · unfold nrm; rw [first_self h0]; iexact H4
    isplitl [H5]; · unfold prod scr; rw [first_self h0]; iexact H5
    isplitl [H6]
    · iapply (pass m 6 t d6 ((idle6 t).trans (by rw [decide_eq_false h1]; rfl)) (fun h => by have := (flush0_6 t).1 h; omega))
      iexact H6
    unfold tail; rw [first_self h0]; iexact H7
  · have i4 := (idle4 t).trans (show (!decide (t.val % 6 = 0)) = true by rw [decide_eq_false h0]; rfl)
    rw [Phi_before m c t h0]
    by_cases h1 : t.val % 6 = 1
    · rw [live m 6 t ((idle6 t).trans (by rw [decide_eq_true h1]; rfl)), after6]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runB c (grid0.coords t) _ _ _ _ _ _ _ _ _ _ _ _ _ _ _ _ _ _ (X0_2 m c t) (scr m c t) (fun h => h0 ((at0 t).mp h)) ((at1 t).mpr h1) Set.univ _)
      isplitl [H2]; · iexact H2
      isplitl [H5]; · iexists _; iexact H5
      isplitl [H6]; · iexists _; iexact H6
      isplitl [HS]; · iexact HS
      iintro ⟨H2, H5, H6, HS⟩
      isplitl [HS Hg]
      · iapply (Phi_after m c t)
        isplitl [HS]; · iexact HS
        iexact Hg
      isplitl [Ho]; · iexact Ho
      isplitl [H0]; · iexact H0
      isplitl [H1]; · iexact H1
      isplitl [H2]; · iexact H2
      isplitl [H3]; · iexact H3
      isplitl [H4]
      · iapply (pass m 4 t d4 i4 (fun _ => before4 m c t d4 (by omega)))
        iexact H4
      isplitl [H5]; · iexact H5
      isplitl [H6]; · unfold full; rw [second_self h1]; iexact H6
      iapply (pass m 7 t d7 i4 (fun _ => before7 m c t d7 (by omega)))
      iexact H7
    · iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runC c (grid0.coords t) _ _ _ _ _ _ _ _ _ _ _ _ _ _ _ _ _ _ (X0_2 m c t) (scr m c t) (fun h => h0 ((at0 t).mp h)) (fun h => h1 ((at1 t).mp h)) Set.univ _)
      isplitl [H2]; · iexact H2
      isplitl [H5]; · iexists _; iexact H5
      isplitl [HS]; · iexact HS
      iintro ⟨H2, H5, HS⟩
      isplitl [HS Hg]
      · iapply (Phi_after m c t)
        isplitl [HS]; · iexact HS
        iexact Hg
      isplitl [Ho]; · iexact Ho
      isplitl [H0]; · iexact H0
      isplitl [H1]; · iexact H1
      isplitl [H2]; · iexact H2
      isplitl [H3]; · iexact H3
      isplitl [H4]
      · iapply (pass m 4 t d4 i4 (fun _ => before4 m c t d4 (by omega)))
        iexact H4
      isplitl [H5]; · iexact H5
      isplitl [H6]
      · iapply (pass m 6 t d6 ((idle6 t).trans (by rw [decide_eq_false h1]; rfl)) (fun _ => before6 m c t d6 (by omega)))
        iexact H6
      iapply (pass m 7 t d7 i4 (fun _ => before7 m c t d7 (by omega)))
      iexact H7

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-! ## The run -/

theorem hin (c : Dev nD) : Pipeline.ΦA spec0 c ⊢ (dats m 0 c).Φ 0 := by
  rw [show (dats m 0 c).Φ 0 = Phi m c 0 from rfl, show Phi m c 0 = Pipeline.ΦA spec0 c from dif_pos rfl]
  try exact Idealize.SL.BI.Entails.refl _

theorem hout (c : Dev nD) : (dats m 0 c).Φ (Fin.last cfg0.N) ⊢ Pipeline.ΦA spec0 c := by
  rw [show (dats m 0 c).Φ (Fin.last cfg0.N) = Phi m c (Fin.last cfg0.N) from rfl]
  exact Phi_out m c _

set_option backward.isDefEq.respectTransparency.types false in
theorem run : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The run leaves the arguments as they were. -/
theorem kept {r} (h : (Pipeline.FramePost cfgs (dats m) 0 (V m)) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  obtain ⟨hw, hr⟩ := h c
  refine ⟨(hw 0).trans ?_, (hr main_arg1 ?_).trans (V_main_arg1 m c), (hr main_arg2 ?_).trans (V_main_arg2 m c)⟩
  · rw [(dats m 0 c).arrAt_in 0 rfl, A_eq]
    exact V_main_arg0 m c
  · exact Pipeline.mem_restRefs_of main_arg1 (by decide) (by decide)
  · exact Pipeline.mem_restRefs_of main_arg2 (by decide) (by decide)

end Cert.NormRun

end
-- ==== Proof.NormSpec.lean ====
/- The eighth claim's functions: the normalised row, and its product with a column of the weight. -/
module

public import proofs.«01_k».proof.Proof.InCols
public import proofs.«01_k».proof.Proof.RowGrad

@[expose] public section

noncomputable section

namespace Cert.NormSpec

open Idealize.ShloMosaic Cert.InCols Cert.RowGrad

variable (x : Rows) (g : Gain) (w : W6160) (r : Fin 8192)

/-- An element of the normalised row. -/
def nv (j : Fin 1024) : EReal := x (ix2 r j) * rs x r * g (ix1 j)

/-- The product of the normalised row with column `n` of the weight; nothing beyond the last column. -/
def pv (n : ℕ) : EReal := ∑ j : Fin 1024, nv x g r j * wcol w j n

theorem pv_end {n : ℕ} (h : 6160 ≤ n) : pv x g w r n = 0 :=
  Finset.sum_eq_zero fun j _ => by rw [← wcol_end w j h, mul_zero]

theorem pv_eq {n : ℕ} (h : n < 6160) : pv x g w r n = ∑ j : Fin 1024, nv x g r j * w (ix2 j ⟨n, h⟩) :=
  Finset.sum_congr rfl fun j _ => by rw [wcol, dif_pos h]

/-- The four results: the normalised rows, their product in the packed order of columns, its second part, and its last. -/
def aArr : FVec Ideal ⟨2, ![8192, 1024]⟩ .bf16 := fun y => nv x g (y 0) (y 1)
def zArr : FVec Ideal ⟨2, ![8192, 6144]⟩ .bf16 := fun y => pv x g w (y 0) (col (y 1).val)
def hArr : FVec Ideal ⟨2, ![8192, 1024]⟩ .f32 := fun y => pv x g w (y 0) (col (1024 + (y 1).val))
def lArr : FVec Ideal ⟨2, ![8192, 128]⟩ .bf16 := fun y => pv x g w (y 0) (col (6144 + (y 1).val))

theorem aArr_at (j : Fin 1024) : aArr x g (ix2 r j) = (nv x g r j : EReal) := rfl
theorem zArr_at (k : Fin 6144) : zArr x g w (ix2 r k) = (pv x g w r (col k) : EReal) := rfl
theorem hArr_at (k : Fin 1024) : hArr x g w (ix2 r k) = (pv x g w r (col (1024 + k)) : EReal) := rfl
theorem lArr_at (k : Fin 128) : lArr x g w (ix2 r k) = (pv x g w r (col (6144 + k)) : EReal) := rfl

end Cert.NormSpec

end
-- ==== Proof.NormVal.lean ====
/- The eighth claim's kernel: its packed weight, its blocks at a grid point, and the arrays its run leaves. -/
module

public import proofs.«01_k».proof.Proof.NormRun
public import proofs.«01_k».proof.Proof.NormSpec
import Idealize.ShloMosaic.Lib.StableHlo.ReadAt
public import Idealize.ShloMosaic.Lib.Pointwise
public import Idealize.ShloMosaic.Lib.Pipeline.ValueKit

@[expose] public section

set_option maxRecDepth 65536

noncomputable section

namespace Cert.NormVal

open Idealize.ShloMosaic Idealize.ShloMosaic.TcCoe Idealize.ShloMosaic.Tactic Idealize.SL.Sem
open Cert.Kernel8Ideal Cert.Kernel8Ideal.Gen Cert.NormRun Cert.NormSpec Cert.InCols Cert.RowGrad

variable (m : (ℓ : Loc nD τ sig) → Buf (Elt Ideal) ℓ) (c : Dev nD)

/-- The arguments. -/
abbrev X : Rows := m ((c : Thread nD τ).loc main_arg0)
abbrev W : W6160 := m ((c : Thread nD τ).loc main_arg1)
abbrev G : Gain := m ((c : Thread nD τ).loc main_arg2)

/-! ## What the host prepares -/

set_option maxHeartbeats 1600000 in
/-- The packed weight: row `k` is the weight's column `col k`. -/
theorem packed (k : Fin 6272) (j : Fin 1024) :
    (V m c main_v15 : FVec Ideal S6272x1024 .bf16) (ix2 k j) = wcol (W m c) j (col k) := by
  unfold V
  after_reads_at
  have hcut : (k : ℕ) < 1024 ∨ (1024 ≤ (k : ℕ) ∧ (k : ℕ) < 1152) ∨ (1152 ≤ (k : ℕ) ∧ (k : ℕ) < 1280)
    ∨ (1280 ≤ (k : ℕ) ∧ (k : ℕ) < 1408) ∨ (1408 ≤ (k : ℕ) ∧ (k : ℕ) < 1536) ∨ (1536 ≤ (k : ℕ) ∧ (k : ℕ) < 1664)
    ∨ (1664 ≤ (k : ℕ) ∧ (k : ℕ) < 1792) ∨ (1792 ≤ (k : ℕ) ∧ (k : ℕ) < 1920) ∨ (1920 ≤ (k : ℕ) ∧ (k : ℕ) < 2048)
    ∨ (2048 ≤ (k : ℕ) ∧ (k : ℕ) < 4096) ∨ (4096 ≤ (k : ℕ) ∧ (k : ℕ) < 6144) ∨ (6144 ≤ (k : ℕ) ∧ (k : ℕ) < 6160)
    ∨ 6160 ≤ (k : ℕ) := by omega
  rcases hcut with h | h | h | h | h | h | h | h | h | h | h | h | h <;>
    simp (disch := omega) only [dif_pos, dif_neg] <;> after_reads_at
  all_goals first
    | exact wcol_eq _ _ _ (by unfold col; split_ifs <;> omega)
    | exact wcol_end _ _ (by unfold col; split_ifs <;> omega)

theorem gain (j : Fin 1024) : (V m c main_v16 : FVec Ideal S1x1024 .f32) (ix2 0 j) = G m c (ix1 j) := by
  unfold V
  after_reads_at

/-! ## The blocks at a point -/

theorem idx : ∀ t : Fin cfg0.N, win0_0.index t = ![t.val / 6, 0] ∧ win0_1.index t = ![0, 0] ∧ win0_2.index t = ![t.val % 6, 0]
    ∧ win0_3.index t = ![48, 0] ∧ win0_4.index t = ![t.val / 6, 0] ∧ win0_5.index t = ![t.val / 6, t.val % 6]
    ∧ win0_6.index t = ![t.val / 6, 0] ∧ win0_7.index t = ![t.val / 6, 0] ∧ t.val < 48 :=
  (by decide +kernel : ∀ t : Fin grid0.N, _)

/-- Row `r` of a point's row tile, and column `n` of its block of the product. -/
abbrev brow (t : Fin cfg0.N) (r : Fin 1024) : Fin 8192 := ⟨1024 * (t.val / 6) + r.val, by have := (idx t).2.2.2.2.2.2.2.2; omega⟩
abbrev bcol (t : Fin cfg0.N) (n : Fin 1024) : Fin 6144 := ⟨1024 * (t.val % 6) + n.val, by omega⟩

theorem brow_first (t : Fin cfg0.N) (r : Fin 1024) : brow (first t) r = brow t r := Fin.ext (by
  show 1024 * (t.val / 6 * 6 / 6) + r.val = 1024 * (t.val / 6) + r.val
  omega)

theorem blk0 (t : Fin cfg0.N) (r j : Fin 1024) : (show FVec Ideal S1024x1024 .f32 from iblk m c 0 t) (ix2 r j) = X m c (ix2 (brow t r) j) := by
  refine Eq.trans ?_ (congrFun (V_main_arg0 m c) (ix2 (brow t r) j))
  blk_ext [iblk, idx t]

theorem blk1 (t : Fin cfg0.N) (j : Fin 1024) : (show FVec Ideal S1x1024 .f32 from iblk m c 1 t) (ix2 0 j) = G m c (ix1 j) := by
  refine Eq.trans ?_ (gain m c j)
  blk_point [iblk, idx t]

theorem blk2 (t : Fin cfg0.N) (n j : Fin 1024) : (show FVec Ideal S1024x1024 .bf16 from X0_2 m c t) (ix2 n j)
    = (wcol (W m c) j (col (bcol t n).val) : EReal) := by
  refine Eq.trans ?_ (packed m c ⟨(bcol t n).val, by omega⟩ j)
  show (cfg0.win 2).fill (cfg0.grid.coords t) dflt0_2 (iblk m c 2 t) (ix2 n j) = _
  unfold Pipeline.Window.fill
  rw [dif_pos (moved0_2 t (ix2 n j))]
  blk_ext [iblk, idx t]

theorem blk3 (t : Fin cfg0.N) (n : Fin 128) (j : Fin 1024) : (show FVec Ideal S128x1024 .bf16 from iblk m c 3 t) (ix2 n j)
    = (wcol (W m c) j (col (6144 + n.val)) : EReal) := by
  refine Eq.trans ?_ (packed m c ⟨6144 + n.val, by omega⟩ j)
  blk_ext [iblk, idx t]

/-! ## What the body computes -/

theorem pay1 (x0 : Vec Ideal S1024x1024 .f32) (x1 : Vec Ideal S1x1024 .f32) (r j : Fin 1024) : k0_pay1 (F := Ideal) x0 x1 (ix2 r j)
    = (x0 (ix2 r j) * Ideal.rsqrt (Ideal.div (∑ k : Fin 1024, x0 (ix2 r k) * x0 (ix2 r k)) (Ideal.ofBits .f32 0x44800000#32)
      + Ideal.ofBits .f32 0x358637BD#32) * x1 (ix2 0 j) : EReal) := by
  pointwise [k0_pay1]
  try simp only [zero_add]

theorem pay2 (x0 : Vec Ideal S1024x1024 .f32) (x1 : Vec Ideal S1x1024 .f32) (r j : Fin 1024) :
    k0_pay2 (F := Ideal) x0 x1 (ix2 r j) = k0_pay1 (F := Ideal) x0 x1 (ix2 r j) := by
  pointwise [k0_pay2]

theorem pay3 (x0 : Vec Ideal S1024x1024 .f32) (x1 : Vec Ideal S1x1024 .f32) (x3 : Vec Ideal S128x1024 .bf16) (r : Fin 1024) (n : Fin 128) :
    k0_pay3 (F := Ideal) x0 x1 x3 (ix2 r n) = (∑ j : Fin 1024, k0_pay1 (F := Ideal) x0 x1 (ix2 r j) * x3 (ix2 n j) : EReal) := by
  pointwise [k0_pay3]
  try simp only [zero_add]

theorem pay4 (s x2 : Vec Ideal S1024x1024 .bf16) (r n : Fin 1024) :
    k0_pay4 (F := Ideal) s x2 (ix2 r n) = (∑ j : Fin 1024, s (ix2 r j) * x2 (ix2 n j) : EReal) := by
  pointwise [k0_pay4]
  try simp only [zero_add]

theorem pay5 (s x2 : Vec Ideal S1024x1024 .bf16) (r n : Fin 1024) :
    k0_pay5 (F := Ideal) s x2 (ix2 r n) = (k0_pay4 (F := Ideal) s x2 (ix2 r n) : EReal) := by
  pointwise [k0_pay5]

theorem nrm_at (t : Fin cfg0.N) (r j : Fin 1024) : nrm m c t (ix2 r j) = (nv (X m c) (G m c) (brow t r) j : EReal) := by
  refine (pay1 _ _ r j).trans ?_
  rw [← brow_first]
  exact congrArg₂ (· * ·) (congrArg₂ (· * ·) (blk0 m c (first t) r j) (congrArg (fun s => Ideal.rsqrt (Ideal.div s _ + _))
    (Finset.sum_congr rfl fun k _ => congrArg₂ (· * ·) (blk0 m c (first t) r k) (blk0 m c (first t) r k)))) (blk1 m c (first t) j)

theorem scr_at (t : Fin cfg0.N) (r j : Fin 1024) : scr m c t (ix2 r j) = (nv (X m c) (G m c) (brow t r) j : EReal) :=
  (pay2 _ _ r j).trans (nrm_at m c t r j)

theorem prod_at (t : Fin cfg0.N) (r n : Fin 1024) :
    prod m c t (ix2 r n) = (pv (X m c) (G m c) (W m c) (brow t r) (col (bcol t n).val) : EReal) :=
  (pay5 _ _ r n).trans ((pay4 _ _ r n).trans (Finset.sum_congr rfl fun j _ => congrArg₂ (· * ·) (scr_at m c t r j) (blk2 m c t n j)))

theorem full_at (t : Fin cfg0.N) (r n : Fin 1024) :
    full m c t (ix2 r n) = (pv (X m c) (G m c) (W m c) (brow t r) (col (1024 + n.val)) : EReal) := by
  have e : (bcol (second t) n).val = 1024 + n.val := by
    show 1024 * ((t.val / 6 * 6 + 1) % 6) + n.val = 1024 + n.val
    omega
  rw [← e]
  exact (pay4 _ _ r n).trans (Finset.sum_congr rfl fun j _ => congrArg₂ (· * ·) (scr_at m c t r j) (blk2 m c (second t) n j))

theorem tail_at (t : Fin cfg0.N) (r : Fin 1024) (n : Fin 128) :
    tail m c t (ix2 r n) = (pv (X m c) (G m c) (W m c) (brow t r) (col (6144 + n.val)) : EReal) :=
  (pay3 _ _ _ r n).trans (Finset.sum_congr rfl fun j _ => congrArg₂ (· * ·) (nrm_at m c t r j) (blk3 m c (first t) n j))

/-! ## The arrays the run leaves -/

theorem emb4 (t : Fin cfg0.N) (r l : Fin 1024) :
    ((View.whole main_v17_0).slice (win0_4.rect t)).emb (ix2 r l) = (ix2 (brow t r) l : S8192x1024.Idx) := by
  blk_ext [idx t]
theorem emb5 (t : Fin cfg0.N) (r l : Fin 1024) :
    ((View.whole main_v17_1).slice (win0_5.rect t)).emb (ix2 r l) = (ix2 (brow t r) (bcol t l) : S8192x6144.Idx) := by
  blk_ext [idx t]
theorem emb6 (t : Fin cfg0.N) (r l : Fin 1024) :
    ((View.whole main_v17_2).slice (win0_6.rect t)).emb (ix2 r l) = (ix2 (brow t r) l : S8192x1024.Idx) := by
  blk_ext [idx t]
theorem emb7 (t : Fin cfg0.N) (r : Fin 1024) (l : Fin 128) :
    ((View.whole main_v17_3).slice (win0_7.rect t)).emb (ix2 r l) = (ix2 (brow t r) l : S8192x128.Idx) := by
  blk_ext [idx t]

theorem final4 : (dats m 0 c).arrAt 4 cfg0.N = aArr (X m c) (G m c) := by
  refine (dats m 0 c).arrAt_eq_of_covers 4 _ (by decide +kernel) fun t hf y => ?_
  blk_simp
  rw [after4]
  idx_vars y
  rw [emb4, aArr_at]
  exact nrm_at m c t y0 y1

theorem final5 : (dats m 0 c).arrAt 5 cfg0.N = zArr (X m c) (G m c) (W m c) := by
  refine (dats m 0 c).arrAt_eq_of_covers 5 _ (by decide +kernel) fun t hf y => ?_
  blk_simp
  rw [after5]
  idx_vars y
  rw [emb5, zArr_at]
  exact prod_at m c t y0 y1

theorem final6 : (dats m 0 c).arrAt 6 cfg0.N = hArr (X m c) (G m c) (W m c) := by
  refine (dats m 0 c).arrAt_eq_of_covers 6 _ (by decide +kernel) fun t hf y => ?_
  blk_simp
  rw [after6]
  idx_vars y
  rw [emb6, hArr_at]
  exact full_at m c t y0 y1

theorem final7 : (dats m 0 c).arrAt 7 cfg0.N = lArr (X m c) (G m c) (W m c) := by
  refine (dats m 0 c).arrAt_eq_of_covers 7 _ (by decide +kernel) fun t hf y => ?_
  blk_simp
  rw [after7]
  idx_vars y
  rw [emb7, lArr_at]
  exact tail_at m c t y0 y1

end Cert.NormVal

end
-- ==== Proof.NormRef.lean ====
/- The eighth claim's reference, read at an index. -/
module

public import proofs.«01_k».proof.Proof.NormSpec
public import proofs.«01_k».proof.Proof.Gen.Reference8Ideal.Read

@[expose] public section

set_option maxRecDepth 65536

noncomputable section

namespace Cert.NormRef

open Idealize.ShloMosaic Idealize.ShloMosaic.TcCoe Idealize.SL.Sem
open Cert.Reference8Ideal Cert.Reference8Ideal.Gen Cert.Reference8Ideal.Read Cert.NormSpec Cert.InCols Cert.RowGrad

variable (x : Rows) (w : W6160) (g : Gain) (r : Fin 8192)

theorem norm_at (j : Fin 1024) : val_main_v12 (F := Ideal) x g (ix2 r j) = nv x g r j := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]
  simp only [nv, rs, ms, zero_add]

theorem dot_at (n : Fin 6160) : val_main_v13 (F := Ideal) x w g (ix2 r n) = pv x g w r n := by
  rw [val_main_v13, pv_eq x g w r n.isLt]
  pointwise
  simp only [norm_at]

/-- A column of the product, by its number. -/
theorem dot_eq {n i : ℕ} (hi : i < 6160) (h : n = i) : val_main_v13 (F := Ideal) x w g (ix2 r ⟨i, hi⟩) = pv x g w r n := by
  subst h
  exact dot_at x w g r ⟨n, hi⟩

theorem first_at (j : Fin 1024) : val_main_v30 (F := Ideal) x g (ix2 r j) = (nv x g r j : EReal) := by
  pointwise [val_main_v30]
  exact norm_at x g r j

/-- The heads of the two parts, alternating. -/
theorem third_at (l : Fin 1024) : val_main_v28 (F := Ideal) x w g (ix2 r l) = pv x g w r (col (1024 + l)) := by
  pointwise [val_main_v28, val_main_v27, val_main_v26, val_main_v25, val_main_v24, val_main_v23, val_main_v17, val_main_v16]
  have hcut : l.val % 256 / 128 = 0 ∨ l.val % 256 / 128 = 1 := by omega
  rcases hcut with h | h <;> simp (disch := omega) only [dif_pos, dif_neg] <;>
    exact dot_eq _ _ _ _ _ (by unfold col; split_ifs <;> omega)

theorem fourth_at (l : Fin 128) : val_main_v34 (F := Ideal) x w g (ix2 r l) = (pv x g w r (col (6144 + l)) : EReal) := by
  pointwise [val_main_v34, val_main_v33, val_main_v32, val_main_v20, val_main_cst_2]
  have hcut : l.val < 16 ∨ 16 ≤ l.val := by omega
  rcases hcut with h | h <;> simp (disch := omega) only [dif_pos, dif_neg]
  · exact dot_eq _ _ _ _ _ (by unfold col; split_ifs <;> omega)
  · exact (pv_end _ _ _ _ (by unfold col; split_ifs <;> omega)).symm

theorem second_at (l : Fin 6144) : val_main_v31 (F := Ideal) x w g (ix2 r l) = (pv x g w r (col l) : EReal) := by
  pointwise [val_main_v31, val_main_v29, val_main_v22, val_main_v21, val_main_v19, val_main_v18, val_main_v15, val_main_v14]
  have hcut : l.val < 512 ∨ (512 ≤ l.val ∧ l.val < 1024) ∨ (1024 ≤ l.val ∧ l.val < 2048) ∨ (2048 ≤ l.val ∧ l.val < 3072)
    ∨ (3072 ≤ l.val ∧ l.val < 4096) ∨ (4096 ≤ l.val ∧ l.val < 5120) ∨ 5120 ≤ l.val := by omega
  rcases hcut with h | h | h | h | h | h | h <;> simp (disch := omega) only [dif_pos, dif_neg]
  all_goals first
    | exact dot_eq _ _ _ _ _ (by unfold col; split_ifs <;> omega)
    | exact (third_at x w g r ⟨l.val - 1024, by omega⟩).trans (congrArg (fun n => pv x g w r (col n)) (by show 1024 + (l.val - 1024) = l.val; omega))

end Cert.NormRef

end
-- ==== Proof.NormClaim.lean ====
/- The eighth claim: the frames of its programs, and their results' equality. -/
module

public import proofs.«01_k».proof.Defs
public import proofs.«01_k».proof.Proof.NormRunP
public import proofs.«01_k».proof.Proof.NormVal
public import proofs.«01_k».proof.Proof.NormRef
import Idealize.ShloMosaic.Lib.Claim

@[expose] public section

set_option maxRecDepth 16384

noncomputable section

namespace Cert.NormClaim

open Idealize.ShloMosaic Idealize.ShloMosaic.TcCoe Idealize.ShloMosaic.Tactic Idealize.SL.Sem Cert.NormSpec

theorem frame_kernel : Cert.quiescent_Kernel8 := fun m ρ _ =>
  (θ_run Cert.Kernel8.defs _ _).mono (fun r h => ⟨NormRunP.kept m h.1, h.2⟩) (NormRunP.run m ρ)

theorem frame_ideal : Cert.quiescent_Kernel8Ideal := fun m ρ _ =>
  (θ_run Cert.Kernel8Ideal.defs _ _).mono (fun r h => ⟨NormRun.kept m h.1, h.2⟩) (NormRun.run m ρ)

theorem frame_reference : Cert.quiescent_Reference8Ideal := fun m ρ _ =>
  (θ_run Cert.Reference8Ideal.defs _ _).mono
    (fun r h => ⟨fun c => (h c).2.2.2.2, sem_eq_zero_of_no_sems (by decide) r.2⟩) (Cert.Reference8Ideal.Value.run m ρ)

theorem algebraic : Cert.algebraic_Kernel8Ideal_Reference8Ideal := by
  intro m g m' g' _ hargs
  refine ⟨fun c => aArr (NormVal.X m c) (NormVal.G m c), fun c => zArr (NormVal.X m c) (NormVal.G m c) (NormVal.W m c),
    fun c => hArr (NormVal.X m c) (NormVal.G m c) (NormVal.W m c), fun c => lArr (NormVal.X m c) (NormVal.G m c) (NormVal.W m c),
    (θ_run Cert.Kernel8Ideal.defs _ _).mono (fun r h c => ?_) (NormRun.run m g),
    (θ_run Cert.Reference8Ideal.defs _ _).mono (fun r h c => ?_) (Cert.Reference8Ideal.Value.run m' g')⟩
  · exact ⟨((h.1 c).1 4).trans (NormVal.final4 m c), ((h.1 c).1 5).trans (NormVal.final5 m c), ((h.1 c).1 6).trans (NormVal.final6 m c),
      ((h.1 c).1 7).trans (NormVal.final7 m c), NormRun.kept m h.1 c⟩
  · obtain ⟨a0, a1, a2⟩ := hargs c
    obtain ⟨h0, h1, h2, h3, h⟩ := h c
    refine ⟨h0.trans ((Cert.Reference8Ideal.Read.val_main_v30_eq _ _).trans ?_), h1.trans ((Cert.Reference8Ideal.Read.val_main_v31_eq m' c).trans ?_),
      h2.trans ((Cert.Reference8Ideal.Read.val_main_v28_eq _ _ _).trans ?_), h3.trans ((Cert.Reference8Ideal.Read.val_main_v34_eq _ _ _).trans ?_), h⟩
    · rw [a0, a2]
      funext y
      idx_vars y
      exact NormRef.first_at _ _ y0 y1
    · rw [a0, a1, a2]
      funext y
      idx_vars y
      exact NormRef.second_at _ _ _ y0 y1
    · rw [a0, a1, a2]
      funext y
      idx_vars y
      exact NormRef.third_at _ _ _ y0 y1
    · rw [a0, a1, a2]
      funext y
      idx_vars y
      exact NormRef.fourth_at _ _ _ y0 y1

end Cert.NormClaim

end
-- ==== Proof.GlaBackClaim.lean ====
/- The ninth claim: the frames of the gated linear attention's backward call. -/
module

public import proofs.«01_k».proof.Defs
public import proofs.«01_k».proof.Proof.Gen.Kernel9.Frame
public import proofs.«01_k».proof.Proof.Gen.Kernel9Ideal.Frame

@[expose] public section

noncomputable section

namespace Cert.GlaBackClaim

theorem frame_kernel : Cert.quiescent_Kernel9 := fun m ρ _ => Cert.Kernel9.Gen.frame m ρ

theorem frame_ideal : Cert.quiescent_Kernel9Ideal := fun m ρ _ => Cert.Kernel9Ideal.Gen.frame m ρ

end Cert.GlaBackClaim

end
-- ==== Proof.UpFrame.lean ====
/- The tenth claim's kernel as printed: its run, for its frame. What it stores is not named here; the idealized program's
   stores are in UpRun. -/
module

public import proofs.«01_k».proof.Proof.Gen.Kernel10.Skeleton
public import proofs.«01_k».proof.Proof.Gen.Kernel10.Frame
public import Idealize.ShloMosaic.Lib.Claim

@[expose] public section

set_option maxRecDepth 16384

noncomputable section

namespace Cert.UpFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel10 Cert.Kernel10.Gen

variable {F : FTy → Type} [FloatOps F]

local notation "𝕄" => MT nD τ sig Unit (Elt F) ℕ (UR sig nD τ) ℕ

/-! ## The body, whatever the outputs hold -/

/-- An operand at contents that are kept, and at contents that are not named. -/
theorem same (c : Dev nD) {S : Shape} {e : EltTy} {a : Memref sig .tc .vmem S e} (h : a.IsWhole) (x : Vec F S e) :
    (a.view.loc (c : Thread nD τ) ↦[a.view.set]{fullShare} h.unread x : sProp 𝕄) ⊢ ∃ f, ⌜a.view.read (Elt F) f = x⌝ ∗ (a.view.loc (c : Thread nD τ) ↦[a.view.set]{fullShare} f) := by
  iintro H
  iexists _; isplitr; swap; · iexact H
  ipureintro; exact h.read_unread x
theorem some (c : Dev nD) {S : Shape} {e : EltTy} (a : Memref sig .tc .vmem S e) {f : Buf (Elt F) (a.view.loc (c : Thread nD τ))} :
    (a.view.loc (c : Thread nD τ) ↦[a.view.set]{fullShare} f : sProp 𝕄) ⊢ ∃ d f, ⌜a.view.read (Elt F) f = d⌝ ∗ (a.view.loc (c : Thread nD τ) ↦[a.view.set]{fullShare} f) := by
  iintro H
  iexists _; iexists _; isplitr; swap; · iexact H
  ipureintro; rfl

section Body
variable (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S3x1408 .f32) (harg6 : arg6.IsWhole) (arg7 : Memref sig .tc .vmem S3x1408 .f32) (harg7 : arg7.IsWhole) (arg8 : Memref sig .tc .vmem S1x1408 .f32) (harg8 : arg8.IsWhole) (arg9 : Memref sig .tc .vmem S1x1408 .f32) (harg9 : arg9.IsWhole) (arg10 : Memref sig .tc .vmem S512x1024 .bf16) (harg10 : arg10.IsWhole) (arg11 : Memref sig .tc .vmem S512x1408 .bf16) (harg11 : arg11.IsWhole) (arg12 : Memref sig .tc .vmem S512x1408 .bf16) (harg12 : arg12.IsWhole) (arg13 : Memref sig .tc .vmem S512x1408 .bf16) (harg13 : arg13.IsWhole) (arg14 : Memref sig .tc .vmem S512x1408 .bf16) (harg14 : arg14.IsWhole) (arg15 : Memref sig .tc .vmem S512x1408 .bf16) (harg15 : arg15.IsWhole) (arg16 : Memref sig .tc .vmem S512x1024 .bf16) (harg16 : arg16.IsWhole) (arg17 : Memref sig .tc .vmem S2x2x8x1408 .f32) (harg17 : arg17.IsWhole) (x2 : Vec F S512x1024 .f32) (x3 : Vec F S1x1024 .f32) (x4 : Vec F S1x1024x1408 .bf16) (x5 : Vec F S1x1024x1408 .bf16) (x6 : Vec F S3x1408 .f32) (x7 : Vec F S3x1408 .f32) (x8 : Vec F S1x1408 .f32) (x9 : Vec F S1x1408 .f32)

/-- The operands at their contents, the outputs and the scratch at any. -/
def res : sProp 𝕄 :=
  iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d))

/-- The body keeps them. -/
def Keeps : Prop :=
  ∀ (E : Set ℕ) (K : PUnit → sProp 𝕄), iprop(res c arg2 arg3 arg4 arg5 arg6 arg7 arg8 arg9 arg10 arg11 arg12 arg13 arg14 arg15 arg16 arg17 x2 x3 x4 x5 x6 x7 x8 x9 ∗ (res c arg2 arg3 arg4 arg5 arg6 arg7 arg8 arg9 arg10 arg11 arg12 arg13 arg14 arg15 arg16 arg17 x2 x3 x4 x5 x6 x7 x8 x9 -∗ K ()))
    ⊢ wp frame (wpE (defs₀ (F := F)) Variants.none c none) E (cc0_ffn_up_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K

set_option maxHeartbeats 4000000 in
theorem keeps : Keeps c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x2 x3 x4 x5 x6 x7 x8 x9 := by
  intro E K
  simp only [cc0_ffn_up_fwd_eq_skeleton]; unfold cc0_ffn_up_fwd_skel
  simp only [k0_part1_eq_skeleton, k0_part2_eq_skeleton]
  unfold res owns
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%_, %_, -, H10⟩, ⟨%_, %_, -, H11⟩, ⟨%_, %_, -, H12⟩, ⟨%_, %_, -, H13⟩, ⟨%_, %_, -, H14⟩, ⟨%_, %_, -, H15⟩, ⟨%_, %_, -, H16⟩, ⟨%_, %_, -, H17⟩⟩, Hk⟩
  obtain rfl := harg2.eq_unread h2; obtain rfl := harg3.eq_unread h3; obtain rfl := harg4.eq_unread h4; obtain rfl := harg5.eq_unread h5; obtain rfl := harg6.eq_unread h6; obtain rfl := harg7.eq_unread h7; obtain rfl := harg8.eq_unread h8; obtain rfl := harg9.eq_unread h9
  by_cases hc0 : k0_cond1 i = 1#1 <;> by_cases hc1 : k0_cond2 i = 1#1 <;>
  · sl_exec (disch := first | sl_exact hc0 | sl_exact hc1)
    sl_step
    iapply Hk
    isplitl [H2]; · iapply (same c harg2 x2); iexact H2
    isplitl [H3]; · iapply (same c harg3 x3); iexact H3
    isplitl [H4]; · iapply (same c harg4 x4); iexact H4
    isplitl [H5]; · iapply (same c harg5 x5); iexact H5
    isplitl [H6]; · iapply (same c harg6 x6); iexact H6
    isplitl [H7]; · iapply (same c harg7 x7); iexact H7
    isplitl [H8]; · iapply (same c harg8 x8); iexact H8
    isplitl [H9]; · iapply (same c harg9 x9); iexact H9
    isplitl [H10]; · iapply (some c arg10); iexact H10
    isplitl [H11]; · iapply (some c arg11); iexact H11
    isplitl [H12]; · iapply (some c arg12); iexact H12
    isplitl [H13]; · iapply (some c arg13); iexact H13
    isplitl [H14]; · iapply (some c arg14); iexact H14
    isplitl [H15]; · iapply (some c arg15); iexact H15
    isplitl [H16]; · iapply (some c arg16); iexact H16
    iapply (some c arg17); iexact H17

end Body

/-! ## The proof data -/

variable (m : (ℓ : Loc nD τ sig) → Buf (Elt F) ℓ) (ρ : Dev nD → PrngReg)

/-- The outputs' windows. -/
def forgets : Fin 14 → Bool := fun w => decide (8 ≤ w.val)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem before0 (c : Dev nD) (t : Fin cfg0.N) (d) : (dats m 0 c).before 0 t d = iblk m c 0 t :=
  before0_0_of m _ (A_eq m c 0) (after0 m c) t d
theorem before1 (c : Dev nD) (t : Fin cfg0.N) (d) : (dats m 0 c).before 1 t d = iblk m c 1 t :=
  before0_1_of m _ (A_eq m c 1) (after1 m c) t d
theorem before2 (c : Dev nD) (t : Fin cfg0.N) (d) : (dats m 0 c).before 2 t d = iblk m c 2 t :=
  before0_2_of m _ (A_eq m c 2) (after2 m c) t d
theorem before3 (c : Dev nD) (t : Fin cfg0.N) (d) : (dats m 0 c).before 3 t d = iblk m c 3 t :=
  before0_3_of m _ (A_eq m c 3) (after3 m c) t d
theorem before4 (c : Dev nD) (t : Fin cfg0.N) (d) : (dats m 0 c).before 4 t d = iblk m c 4 t :=
  before0_4_of m _ (A_eq m c 4) (after4 m c) t d
theorem before5 (c : Dev nD) (t : Fin cfg0.N) (d) : (dats m 0 c).before 5 t d = iblk m c 5 t :=
  before0_5_of m _ (A_eq m c 5) (after5 m c) t d
theorem before6 (c : Dev nD) (t : Fin cfg0.N) (d) : (dats m 0 c).before 6 t d = iblk m c 6 t :=
  before0_6_of m _ (A_eq m c 6) (after6 m c) t d
theorem before7 (c : Dev nD) (t : Fin cfg0.N) (d) : (dats m 0 c).before 7 t d = iblk m c 7 t :=
  before0_7_of m _ (A_eq m c 7) (after7 m c) t d
theorem PhiA_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d)
    ∗ (∃ d, owns (c : Thread nD τ) (st0_13 t) fullShare d))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d)
    ∗ (∃ d, owns (c : Thread nD τ) (st0_13 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl, after0, after1, after2, after3, after4, after5, after6, after7]
  rw [show (dats m 0 c).Φ t.succ = Pipeline.ΦA spec0 c from rfl, show (dats m 0 c).Φ t.castSucc = Pipeline.ΦA spec0 c from rfl, PhiA_eq]
  iintro ⟨⟨⟨HS, HD⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11, H12, H13⟩
  iapply (keeps c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  unfold res
  isplitr [Hg Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS]; · iexact HS
    iexact HD
  iintro ⟨H0, H1, H2, H3, H4, H5, H6, H7, H8, H9, H10, H11, H12, H13, HS, HD⟩
  isplitl [HS HD Hg]
  · isplitr [Hg]; swap; · iexact Hg
    isplitl [HS]; · iexact HS
    iexact HD
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets := fun t => by
  rw [bigSep_W0, bigSep_W0, defs_row]
  exact triple_restated (sound_body m c t) rfl .rfl fun _ => .rfl

/-! ## The run -/

set_option backward.isDefEq.respectTransparency.types false in
theorem run : θ_run defs (onTc (τ := τ) (main (F := F))) (s₀ m ρ)
    (fun r => (Pipeline.RDat.FramePost (cfgs 0) (fun c => (dats m 0 c).toRForget forgets) (V m)) r ∧ r.2.sem = fun _ => 0) :=
  Pipeline.θ_run_frame_track_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m) (hin := fun _ => .rfl) (hout := fun _ => .rfl)

/-- The run leaves the arguments as they were. -/
theorem kept {r} (h : Pipeline.RDat.FramePost (cfgs 0) (fun c => (dats m 0 c).toRForget forgets) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h.arr_in c 0 rfl).trans ((A_eq m c 0).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    (h.arr_in c 5 rfl).trans ((A_eq m c 5).trans (V_main_arg3 m c)),
    ((h c).2 main_arg4 (Pipeline.mem_restRefs_of main_arg4 (by decide) (by decide))).trans (V_main_arg4 m c)⟩

end Cert.UpFrame

end
-- ==== Proof.UpBody.lean ====
/- The tenth claim's kernel: what its body stores at each grid point. The last rows of a tile's product wait in a scratch
   array for the next tile, whose convolution reads them. -/
module

public import proofs.«01_k».proof.Proof.Gen.Kernel10Ideal.Skeleton
public import proofs.«01_k».proof.Proof.Gen.Kernel10Ideal.Frame
public import Idealize.ShloMosaic.Lib.VecWindow
public import Idealize.ShloMosaic.Lib.Claim

@[expose] public section

set_option maxRecDepth 16384

noncomputable section

namespace Cert.UpBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel10Ideal Cert.Kernel10Ideal.Gen

variable {F : FTy → Type} [FloatOps F] [Named F]

local notation "𝕄" => MT nD τ sig Unit (Elt F) ℕ (UR sig nD τ) ℕ

/-! ## What the body stores -/

/-- The rows before the first tile. -/
def none8 : Vec F S1x1x8x1408 .f32 := fun _ => Scalar.ofBits .f32 0x00000000#32

/-- The waiting rows, of the gate's half and of the value's. -/
def wait0 (i : grid0.Coords) (d : Vec F S2x2x8x1408 .f32) : Vec F S1x1x8x1408 .f32 := VecWindow.window d (k0_off2 i) S1x1x8x1408.size (k0_off2_inb i)
def wait1 (i : grid0.Coords) (d : Vec F S2x2x8x1408 .f32) : Vec F S1x1x8x1408 .f32 := VecWindow.window d (k0_off3 i) S1x1x8x1408.size (k0_off3_inb i)

/-- The scratch with the tile's last rows in it, -/
def keep (i : grid0.Coords) (s : Vec F S512x1024 .bf16) (wg wv : Vec F S1x1024x1408 .bf16) (d : Vec F S2x2x8x1408 .f32) : Vec F S2x2x8x1408 .f32 :=
  VecWindow.put (VecWindow.put d (k0_off2 i) S1x1x8x1408.size (k0_pay10 s wg)) (k0_off3 i) S1x1x8x1408.size (k0_pay1 (k0_pay17 s wv))
/-- and with none. -/
def clear (i : grid0.Coords) (d : Vec F S2x2x8x1408 .f32) : Vec F S2x2x8x1408 .f32 :=
  VecWindow.put d (k0_off1 i) S1x2x8x1408.size (k0_pay6 (F := F))

/-- The gate's convolution, the value's, and the product of the gelu of the one with the other. -/
def gconv (s : Vec F S512x1024 .bf16) (wg : Vec F S1x1024x1408 .bf16) (p : Vec F S1x1x8x1408 .f32) (w : Vec F S3x1408 .f32) (b : Vec F S1x1408 .f32) : FVec F S512x1408 .bf16 :=
  k0_pay12 (k0_pay9 s wg p) w (k0_pay11 s wg p w b)
def vconv (s : Vec F S512x1024 .bf16) (wv : Vec F S1x1024x1408 .bf16) (p : Vec F S1x1x8x1408 .f32) (w : Vec F S3x1408 .f32) (b : Vec F S1x1408 .f32) : FVec F S512x1408 .bf16 :=
  k0_pay2 (k0_pay16 s wv p) w b
def gated (s : Vec F S512x1024 .bf16) (wg wv : Vec F S1x1024x1408 .bf16) (p q : Vec F S1x1x8x1408 .f32) (w v : Vec F S3x1408 .f32) (b e : Vec F S1x1408 .f32) : FVec F S512x1408 .bf16 :=
  k0_pay3 (k0_pay13 (k0_pay9 s wg p) w (k0_pay11 s wg p w b)) (k0_pay16 s wv q) v e

/-! ## The scratch's slots -/

theorem off2_in : ∀ (i : grid0.Coords) (a : Fin 4), k0_off1 i a ≤ k0_off2 i a ∧ k0_off2 i a + S1x1x8x1408.size a ≤ k0_off1 i a + S1x2x8x1408.size a := by
  decide +kernel
theorem off3_in : ∀ (i : grid0.Coords) (a : Fin 4), k0_off1 i a ≤ k0_off3 i a ∧ k0_off3 i a + S1x1x8x1408.size a ≤ k0_off1 i a + S1x2x8x1408.size a := by
  decide +kernel
theorem off_apart (i : grid0.Coords) : k0_off2 i 1 + S1x1x8x1408.size 1 ≤ k0_off3 i 1 := Nat.le_refl 1

variable (i : grid0.Coords) (s : Vec F S512x1024 .bf16) (wg wv : Vec F S1x1024x1408 .bf16) (d : Vec F S2x2x8x1408 .f32)

theorem wait0_clear : wait0 i (clear i d) = none8 := by
  unfold wait0 clear
  rw [VecWindow.window_put_of_inside _ _ _ _ _ _ _ (off2_in i)]
  rfl
theorem wait1_clear : wait1 i (clear i d) = none8 := by
  unfold wait1 clear
  rw [VecWindow.window_put_of_inside _ _ _ _ _ _ _ (off3_in i)]
  rfl

/-- What is kept is what the next tile finds. -/
theorem wait0_keep : wait0 i (keep i s wg wv d) = k0_pay10 s wg := by
  unfold wait0 keep
  rw [VecWindow.window_put_of_disjoint _ _ _ _ _ _ _ 1 (.inl (off_apart i)), VecWindow.window_put_same]
theorem wait1_keep : wait1 i (keep i s wg wv d) = k0_pay1 (k0_pay17 s wv) := by
  unfold wait1 keep
  rw [VecWindow.window_put_same]

/-- The gate's rows, kept first, don't meet the value's slot. -/
theorem wait1_put (w : Vec F S1x1x8x1408 .f32) : wait1 i (VecWindow.put d (k0_off2 i) S1x1x8x1408.size w) = wait1 i d := by
  unfold wait1
  rw [VecWindow.window_put_of_disjoint _ _ _ _ _ _ _ 1 (.inr (off_apart i))]

/-- The other half's slots stay, when this half's are cleared or filled. -/
theorem wait_other (j : grid0.Coords) (h : k0_off1 j 0 + 1 ≤ k0_off1 i 0 ∨ k0_off1 i 0 + 1 ≤ k0_off1 j 0) :
    wait0 j (clear i d) = wait0 j d ∧ wait1 j (clear i d) = wait1 j d
      ∧ wait0 j (keep i s wg wv d) = wait0 j d ∧ wait1 j (keep i s wg wv d) = wait1 j d := by
  unfold wait0 wait1 keep clear
  refine ⟨VecWindow.window_put_of_disjoint _ _ _ _ _ _ _ 0 h, VecWindow.window_put_of_disjoint _ _ _ _ _ _ _ 0 h, ?_, ?_⟩
  · rw [VecWindow.window_put_of_disjoint _ _ _ _ _ _ _ 0 h, VecWindow.window_put_of_disjoint _ _ _ _ _ _ _ 0 h]
  · rw [VecWindow.window_put_of_disjoint _ _ _ _ _ _ _ 0 h, VecWindow.window_put_of_disjoint _ _ _ _ _ _ _ 0 h]

/-! ## Reading the slots back -/

theorem load0 (v : View sig .tc .vmem S2x2x8x1408 .f32) (f : v.ty.Contents (Elt F)) {x : Vec F S2x2x8x1408 .f32} (h : v.read (Elt F) f = x) :
    v.readAt (Elt F) (Rect.unit (s := S2x2x8x1408) (k0_off2 i) S1x1x8x1408.size (k0_off2_inb i)).toLoadRect f = wait0 i x :=
  (View.readAt_unit v f _ rfl (k0_off2_inb i)).trans (congrArg (wait0 i) h)
theorem load1 (v : View sig .tc .vmem S2x2x8x1408 .f32) (f : v.ty.Contents (Elt F)) {x : Vec F S2x2x8x1408 .f32} (h : v.read (Elt F) f = x) :
    v.readAt (Elt F) (Rect.unit (s := S2x2x8x1408) (k0_off3 i) S1x1x8x1408.size (k0_off3_inb i)).toLoadRect f = wait1 i x :=
  (View.readAt_unit v f _ rfl (k0_off3_inb i)).trans (congrArg (wait1 i) h)

theorem cov0 (v : View sig .tc .vmem S2x2x8x1408 .f32) (hi : k0_cond2 i = 1#1) :
    v.readCov [⟨Rect.unit (s := S2x2x8x1408) (k0_off1 i) S1x2x8x1408.size (k0_off1_inb i hi), k0_pay6 (F := F)⟩]
      (Rect.unit (s := S2x2x8x1408) (k0_off2 i) S1x1x8x1408.size (k0_off2_inb i)).toLoadRect = none8 :=
  (load0 i v _ (View.read_writes_cons_put v _ _ _ _ rfl)).trans (wait0_clear i _)
theorem cov1 (v : View sig .tc .vmem S2x2x8x1408 .f32) (hi : k0_cond2 i = 1#1) (w : Vec F S1x1x8x1408 .f32) :
    v.readCov [⟨Rect.unit (s := S2x2x8x1408) (k0_off2 i) S1x1x8x1408.size (k0_off2_inb i), w⟩,
        ⟨Rect.unit (s := S2x2x8x1408) (k0_off1 i) S1x2x8x1408.size (k0_off1_inb i hi), k0_pay6 (F := F)⟩]
      (Rect.unit (s := S2x2x8x1408) (k0_off3 i) S1x1x8x1408.size (k0_off3_inb i)).toLoadRect = none8 :=
  (load1 i v _ (View.read_writes_cons_put v _ _ _ _ rfl)).trans ((wait1_put i _ w).trans
    ((congrArg (wait1 i) (View.read_writes_cons_put v _ _ _ _ rfl)).trans (wait1_clear i (v.read (Elt F) (v.writes (Elt F) v.junk [])))))

/-- An operand at contents that are kept. -/
theorem same (c : Dev nD) {S : Shape} {e : EltTy} {a : Memref sig .tc .vmem S e} (h : a.IsWhole) {x : Vec F S e} :
    (a.view.loc (c : Thread nD τ) ↦[a.view.set]{fullShare} h.unread x : sProp 𝕄) ⊢ ∃ f, ⌜a.view.read (Elt F) f = x⌝ ∗ (a.view.loc (c : Thread nD τ) ↦[a.view.set]{fullShare} f) := by
  iintro H
  iexists _; isplitr; swap; · iexact H
  ipureintro; exact h.read_unread x

/-- The operands' loads. -/
theorem ldX {a : Memref sig .tc .vmem S512x1024 .f32} (h : a.IsWhole) (x : Vec F S512x1024 .f32) :
    View.readAt (Elt F) a.view (Rect.unit ![0, 0] S512x1024.size inb_S512x1024_S512x1024_0_0).toLoadRect (h.unread x) = x :=
  (View.readAt_full _ _ _).trans (h.read_unread x)
theorem ldS {a : Memref sig .tc .vmem S512x1024 .bf16} (h : a.IsWhole) (x : Vec F S512x1024 .bf16) :
    View.readAt (Elt F) a.view (Rect.unit ![0, 0] S512x1024.size inb_S512x1024_S512x1024_0_0).toLoadRect (h.unread x) = x :=
  (View.readAt_full _ _ _).trans (h.read_unread x)
theorem ldG {a : Memref sig .tc .vmem S1x1024 .f32} (h : a.IsWhole) (x : Vec F S1x1024 .f32) :
    View.readAt (Elt F) a.view (Rect.unit ![0, 0] S1x1024.size inb_S1x1024_S1x1024_0_0).toLoadRect (h.unread x) = x :=
  (View.readAt_full _ _ _).trans (h.read_unread x)
theorem ldW {a : Memref sig .tc .vmem S1x1024x1408 .bf16} (h : a.IsWhole) (x : Vec F S1x1024x1408 .bf16) :
    View.readAt (Elt F) a.view (Rect.unit ![0, 0, 0] S1x1024x1408.size inb_S1x1024x1408_S1x1024x1408_0_0_0).toLoadRect (h.unread x) = x :=
  (View.readAt_full _ _ _).trans (h.read_unread x)
theorem ldT {a : Memref sig .tc .vmem S3x1408 .f32} (h : a.IsWhole) (x : Vec F S3x1408 .f32) :
    View.readAt (Elt F) a.view (Rect.unit ![0, 0] S3x1408.size inb_S3x1408_S3x1408_0_0).toLoadRect (h.unread x) = x :=
  (View.readAt_full _ _ _).trans (h.read_unread x)
theorem ldB {a : Memref sig .tc .vmem S1x1408 .f32} (h : a.IsWhole) (x : Vec F S1x1408 .f32) :
    View.readAt (Elt F) a.view (Rect.unit ![0, 0] S1x1408.size inb_S1x1408_S1x1408_0_0).toLoadRect (h.unread x) = x :=
  (View.readAt_full _ _ _).trans (h.read_unread x)

/-! ## The body's triples -/

section
variable (c : Dev nD) (arg2 : Memref sig .tc .vmem S512x1024 .f32) (harg2 : arg2.IsWhole) (arg3 : Memref sig .tc .vmem S1x1024 .f32) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S3x1408 .f32) (harg6 : arg6.IsWhole) (arg7 : Memref sig .tc .vmem S3x1408 .f32) (harg7 : arg7.IsWhole) (arg8 : Memref sig .tc .vmem S1x1408 .f32) (harg8 : arg8.IsWhole) (arg9 : Memref sig .tc .vmem S1x1408 .f32) (harg9 : arg9.IsWhole) (arg10 : Memref sig .tc .vmem S512x1024 .bf16) (harg10 : arg10.IsWhole) (arg11 : Memref sig .tc .vmem S512x1408 .bf16) (harg11 : arg11.IsWhole) (arg12 : Memref sig .tc .vmem S512x1408 .bf16) (harg12 : arg12.IsWhole) (arg13 : Memref sig .tc .vmem S512x1408 .bf16) (harg13 : arg13.IsWhole) (arg14 : Memref sig .tc .vmem S512x1408 .bf16) (harg14 : arg14.IsWhole) (arg15 : Memref sig .tc .vmem S512x1408 .bf16) (harg15 : arg15.IsWhole) (arg16 : Memref sig .tc .vmem S512x1024 .bf16) (harg16 : arg16.IsWhole) (arg17 : Memref sig .tc .vmem S2x2x8x1408 .f32) (harg17 : arg17.IsWhole)
  (x0 : Vec F S512x1024 .f32) (x1 : Vec F S1x1024 .f32) (x2 x3 : Vec F S1x1024x1408 .bf16) (x4 x5 : Vec F S3x1408 .f32) (x6 x7 : Vec F S1x1408 .f32)

set_option maxHeartbeats 4000000 in
/-- The first tile, the first half of the columns. -/
theorem runA (hc0 : k0_cond1 i = 1#1) (hc1 : k0_cond2 i = 1#1) : ∀ (E : Set ℕ) (K : PUnit → sProp 𝕄),
    iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (x6) ∗ owns (c : Thread nD τ) arg9 fullShare (x7) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare (d)
        ∗ (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (x6) ∗ owns (c : Thread nD τ) arg9 fullShare (x7) ∗ owns (c : Thread nD τ) arg10 fullShare (k0_pay4 x0 x1) ∗ owns (c : Thread nD τ) arg11 fullShare (k0_pay7 (k0_pay5 x0 x1) x2) ∗ owns (c : Thread nD τ) arg12 fullShare (k0_pay14 (k0_pay5 x0 x1) x3) ∗ owns (c : Thread nD τ) arg13 fullShare (gconv (k0_pay5 x0 x1) x2 none8 x4 x6) ∗ owns (c : Thread nD τ) arg14 fullShare (vconv (k0_pay5 x0 x1) x3 none8 x5 x7) ∗ owns (c : Thread nD τ) arg15 fullShare (gated (k0_pay5 x0 x1) x2 x3 none8 none8 x4 x5 x6 x7) ∗ owns (c : Thread nD τ) arg16 fullShare ((k0_pay5 x0 x1)) ∗ owns (c : Thread nD τ) arg17 fullShare (keep i (k0_pay5 x0 x1) x2 x3 (clear i d))) -∗ K ⟨⟩))
      ⊢ wp frame (wpE (defs₀ (F := F)) Variants.none c none) E (cc0_ffn_up_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  intro E K
  simp only [cc0_ffn_up_fwd_eq_skeleton]; unfold cc0_ffn_up_fwd_skel
  simp only [k0_part1_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%ds, %fs, -, HS⟩, ⟨%fd, %hfd, HD⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg17.eq_unread hfd
  sl_exec (disch := first | sl_exact hc0 | sl_exact hc1)
  sl_step
  try unfold runA.sl.r_3
  try unfold runA.sl.r_4
  try unfold runA.sl.r_5
  try unfold runA.sl.r_2
  try unfold runA.sl.r_1
  try unfold runA.sl.r
  try unfold runA.sl.v64
  try unfold runA.sl.v14
  try unfold runA.sl.HD_2
  try unfold runA.sl.HD_1
  try unfold runA.sl.v6
  try unfold runA.sl.HS_1
  iapply Hk
  isplitl [H2]; · iapply (same c harg2); iexact H2
  isplitl [H3]; · iapply (same c harg3); iexact H3
  isplitl [H4]; · iapply (same c harg4); iexact H4
  isplitl [H5]; · iapply (same c harg5); iexact H5
  isplitl [H6]; · iapply (same c harg6); iexact H6
  isplitl [H7]; · iapply (same c harg7); iexact H7
  isplitl [H8]; · iapply (same c harg8); iexact H8
  isplitl [H9]; · iapply (same c harg9); iexact H9
  isplitl [H10]
  · iexists _; isplitr; swap; · iexact H10
    ipureintro
    refine (View.read_writes_full _ _ _ _ _).trans ?_
    rw [ldX, ldG]
  isplitl [H11]
  · iexists _; isplitr; swap; · iexact H11
    ipureintro
    refine (View.read_writes_full _ _ _ _ _).trans ?_
    rw [View.readCov_full, ldX, ldG, ldW]
  isplitl [H12]
  · iexists _; isplitr; swap; · iexact H12
    ipureintro
    refine (View.read_writes_full _ _ _ _ _).trans ?_
    rw [View.readCov_full, ldX, ldG, ldW]
  isplitl [H13]
  · iexists _; isplitr; swap; · iexact H13
    ipureintro
    refine (View.read_writes_full _ _ _ _ _).trans ?_
    rw [View.readCov_full, ldX, ldG, ldW, cov0 i _ hc1, ldT, ldB]
    rfl
  isplitl [H14]
  · iexists _; isplitr; swap; · iexact H14
    ipureintro
    refine (View.read_writes_full _ _ _ _ _).trans ?_
    rw [View.readCov_full, ldX, ldG, ldW, cov1 i _ hc1, ldT, ldB]
    rfl
  isplitl [H15]
  · iexists _; isplitr; swap; · iexact H15
    ipureintro
    refine (View.read_writes_full _ _ _ _ _).trans ?_
    rw [View.readCov_full, ldX, ldG, ldW, ldW, cov0 i _ hc1, cov1 i _ hc1, ldT, ldT, ldB, ldB]
    rfl
  isplitl [HS]
  · iexists _; isplitr; swap; · iexact HS
    ipureintro
    refine (View.read_writes_full _ _ _ _ _).trans ?_
    rw [ldX, ldG]
  iexists _; isplitr; swap; · iexact HD
  ipureintro
  rw [View.readCov_full, ldX, ldG, ldW, ldW, View.read_writes_cons_put _ _ _ _ _ rfl, View.read_writes_cons_put _ _ _ _ _ rfl, View.read_writes_cons_put _ _ _ _ _ rfl, View.writes_nil, harg17.read_unread]
  rfl

set_option maxHeartbeats 4000000 in
/-- The first tile, the second half. -/
theorem runB (hc0 : ¬k0_cond1 i = 1#1) (hc1 : k0_cond2 i = 1#1) : ∀ (E : Set ℕ) (K : PUnit → sProp 𝕄),
    iprop(owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (x6) ∗ owns (c : Thread nD τ) arg9 fullShare (x7) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare (s) ∗ owns (c : Thread nD τ) arg17 fullShare (d)
        ∗ (iprop(owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (x6) ∗ owns (c : Thread nD τ) arg9 fullShare (x7) ∗ owns (c : Thread nD τ) arg11 fullShare (k0_pay7 s x2) ∗ owns (c : Thread nD τ) arg12 fullShare (k0_pay14 s x3) ∗ owns (c : Thread nD τ) arg13 fullShare (gconv s x2 none8 x4 x6) ∗ owns (c : Thread nD τ) arg14 fullShare (vconv s x3 none8 x5 x7) ∗ owns (c : Thread nD τ) arg15 fullShare (gated s x2 x3 none8 none8 x4 x5 x6 x7) ∗ owns (c : Thread nD τ) arg16 fullShare (s) ∗ owns (c : Thread nD τ) arg17 fullShare (keep i s x2 x3 (clear i d))) -∗ K ⟨⟩))
      ⊢ wp frame (wpE (defs₀ (F := F)) Variants.none c none) E (cc0_ffn_up_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  intro E K
  simp only [cc0_ffn_up_fwd_eq_skeleton]; unfold cc0_ffn_up_fwd_skel
  simp only [k0_part1_eq_skeleton, k0_part2_eq_skeleton]
  unfold owns
  iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%d11, %f11, -, H11⟩, ⟨%d12, %f12, -, H12⟩, ⟨%d13, %f13, -, H13⟩, ⟨%d14, %f14, -, H14⟩, ⟨%d15, %f15, -, H15⟩, ⟨%fs, %hfs, HS⟩, ⟨%fd, %hfd, HD⟩, Hk⟩
  obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg16.eq_unread hfs; obtain rfl := harg17.eq_unread hfd
  sl_exec (disch := first | sl_exact hc0 | sl_exact hc1)
  sl_step
  try unfold runB.sl.r_3
  try unfold runB.sl.r_4
  try unfold runB.sl.r_5
  try unfold runB.sl.r_2
  try unfold runB.sl.r_1
  try unfold runB.sl.r
  try unfold runB.sl.v64
  try unfold runB.sl.v14
  try unfold runB.sl.HD_2
  try unfold runB.sl.HD_1
  try unfold runB.sl.v6
  try unfold runB.sl.HS_1
  iapply Hk
  isplitl [H4]; · iapply (same c harg4); iexact H4
  isplitl [H5]; · iapply (same c harg5); iexact H5
  isplitl [H6]; · iapply (same c harg6); iexact H6
  isplitl [H7]; · iapply (same c harg7); iexact H7
  isplitl [H8]; · iapply (same c harg8); iexact H8
  isplitl [H9]; · iapply (same c harg9); iexact H9
  isplitl [H11]
  · iexists _; isplitr; swap; · iexact H11
    ipureintro
    refine (View.read_writes_full _ _ _ _ _).trans ?_
    rw [ldS, ldW]
  isplitl [H12]
  · iexists _; isplitr; swap; · iexact H12
    ipureintro
    refine (View.read_writes_full _ _ _ _ _).trans ?_
    rw [ldS, ldW]
  isplitl [H13]
  · iexists _; isplitr; swap; · iexact H13
    ipureintro
    refine (View.read_writes_full _ _ _ _ _).trans ?_
    rw [ldS, ldW, cov0 i _ hc1, ldT, ldB]
    rfl
  isplitl [H14]
  · iexists _; isplitr; swap; · iexact H14
    ipureintro
    refine (View.read_writes_full _ _ _ _ _).trans ?_
    rw [ldS, ldW, cov1 i _ hc1, ldT, ldB]
    rfl
  isplitl [H15]
  · iexists _; isplitr; swap; · iexact H15
    ipureintro
    refine (View.read_writes_full _ _ _ _ _).trans ?_
    rw [ldS, ldW, ldW, cov0 i _ hc1, cov1 i _ hc1, ldT, ldT, ldB, ldB]
    rfl
  isplitl [HS]
  · iexists _; isplitr; · ipureintro; exact harg16.read_unread _
    iexact HS
  iexists _; isplitr; swap; · iexact HD
  ipureintro
  rw [ldS, ldW, ldW, View.read_writes_cons_put _ _ _ _ _ rfl, View.read_writes_cons_put _ _ _ _ _ rfl, View.read_writes_cons_put _ _ _ _ _ rfl, View.writes_nil, harg17.read_unread]
  rfl

set_option maxHeartbeats 4000000 in
/-- A later tile, the first half. -/
theorem runC (hc0 : k0_cond1 i = 1#1) (hc1 : ¬k0_cond2 i = 1#1) : ∀ (E : Set ℕ) (K : PUnit → sProp 𝕄),
    iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (x6) ∗ owns (c : Thread nD τ) arg9 fullShare (x7) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare (d)
        ∗ (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (x6) ∗ owns (c : Thread nD τ) arg9 fullShare (x7) ∗ owns (c : Thread nD τ) arg10 fullShare (k0_pay4 x0 x1) ∗ owns (c : Thread nD τ) arg11 fullShare (k0_pay7 (k0_pay5 x0 x1) x2) ∗ owns (c : Thread nD τ) arg12 fullShare (k0_pay14 (k0_pay5 x0 x1) x3) ∗ owns (c : Thread nD τ) arg13 fullShare (gconv (k0_pay5 x0 x1) x2 (wait0 i d) x4 x6) ∗ owns (c : Thread nD τ) arg14 fullShare (vconv (k0_pay5 x0 x1) x3 (wait1 i d) x5 x7) ∗ owns (c : Thread nD τ) arg15 fullShare (gated (k0_pay5 x0 x1) x2 x3 (wait0 i d) (wait1 i d) x4 x5 x6 x7) ∗ owns (c : Thread nD τ) arg16 fullShare ((k0_pay5 x0 x1)) ∗ owns (c : Thread nD τ) arg17 fullShare (keep i (k0_pay5 x0 x1) x2 x3 d)) -∗ K ⟨⟩))
      ⊢ wp frame (wpE (defs₀ (F := F)) Variants.none c none) E (cc0_ffn_up_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  intro E K
  simp only [cc0_ffn_up_fwd_eq_skeleton]; unfold cc0_ffn_up_fwd_skel
  simp only [k0_part1_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%ds, %fs, -, HS⟩, ⟨%fd, %hfd, HD⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg17.eq_unread hfd
  sl_exec (disch := first | sl_exact hc0 | sl_exact hc1)
  sl_step
  try unfold runC.sl.r_3
  try unfold runC.sl.r_4
  try unfold runC.sl.r_5
  try unfold runC.sl.r_2
  try unfold runC.sl.r_1
  try unfold runC.sl.r
  try unfold runC.sl.v64
  try unfold runC.sl.v14
  try unfold runC.sl.HD_2
  try unfold runC.sl.HD_1
  try unfold runC.sl.v6
  try unfold runC.sl.HS_1
  iapply Hk
  isplitl [H2]; · iapply (same c harg2); iexact H2
  isplitl [H3]; · iapply (same c harg3); iexact H3
  isplitl [H4]; · iapply (same c harg4); iexact H4
  isplitl [H5]; · iapply (same c harg5); iexact H5
  isplitl [H6]; · iapply (same c harg6); iexact H6
  isplitl [H7]; · iapply (same c harg7); iexact H7
  isplitl [H8]; · iapply (same c harg8); iexact H8
  isplitl [H9]; · iapply (same c harg9); iexact H9
  isplitl [H10]
  · iexists _; isplitr; swap; · iexact H10
    ipureintro
    refine (View.read_writes_full _ _ _ _ _).trans ?_
    rw [ldX, ldG]
  isplitl [H11]
  · iexists _; isplitr; swap; · iexact H11
    ipureintro
    refine (View.read_writes_full _ _ _ _ _).trans ?_
    rw [View.readCov_full, ldX, ldG, ldW]
  isplitl [H12]
  · iexists _; isplitr; swap; · iexact H12
    ipureintro
    refine (View.read_writes_full _ _ _ _ _).trans ?_
    rw [View.readCov_full, ldX, ldG, ldW]
  isplitl [H13]
  · iexists _; isplitr; swap; · iexact H13
    ipureintro
    refine (View.read_writes_full _ _ _ _ _).trans ?_
    rw [View.readCov_full, ldX, ldG, ldW, load0 i _ _ (harg17.read_unread _), ldT, ldB]
    rfl
  isplitl [H14]
  · iexists _; isplitr; swap; · iexact H14
    ipureintro
    refine (View.read_writes_full _ _ _ _ _).trans ?_
    rw [View.readCov_full, ldX, ldG, ldW, load1 i _ _ (harg17.read_unread _), ldT, ldB]
    rfl
  isplitl [H15]
  · iexists _; isplitr; swap; · iexact H15
    ipureintro
    refine (View.read_writes_full _ _ _ _ _).trans ?_
    rw [View.readCov_full, ldX, ldG, ldW, ldW, load0 i _ _ (harg17.read_unread _), load1 i _ _ (harg17.read_unread _), ldT, ldT, ldB, ldB]
    rfl
  isplitl [HS]
  · iexists _; isplitr; swap; · iexact HS
    ipureintro
    refine (View.read_writes_full _ _ _ _ _).trans ?_
    rw [ldX, ldG]
  iexists _; isplitr; swap; · iexact HD
  ipureintro
  rw [View.readCov_full, ldX, ldG, ldW, ldW, View.read_writes_cons_put _ _ _ _ _ rfl, View.read_writes_cons_put _ _ _ _ _ rfl, View.writes_nil, harg17.read_unread]
  rfl

set_option maxHeartbeats 4000000 in
/-- A later tile, the second half. -/
theorem runD (hc0 : ¬k0_cond1 i = 1#1) (hc1 : ¬k0_cond2 i = 1#1) : ∀ (E : Set ℕ) (K : PUnit → sProp 𝕄),
    iprop(owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (x6) ∗ owns (c : Thread nD τ) arg9 fullShare (x7) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare (s) ∗ owns (c : Thread nD τ) arg17 fullShare (d)
        ∗ (iprop(owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (x6) ∗ owns (c : Thread nD τ) arg9 fullShare (x7) ∗ owns (c : Thread nD τ) arg11 fullShare (k0_pay7 s x2) ∗ owns (c : Thread nD τ) arg12 fullShare (k0_pay14 s x3) ∗ owns (c : Thread nD τ) arg13 fullShare (gconv s x2 (wait0 i d) x4 x6) ∗ owns (c : Thread nD τ) arg14 fullShare (vconv s x3 (wait1 i d) x5 x7) ∗ owns (c : Thread nD τ) arg15 fullShare (gated s x2 x3 (wait0 i d) (wait1 i d) x4 x5 x6 x7) ∗ owns (c : Thread nD τ) arg16 fullShare (s) ∗ owns (c : Thread nD τ) arg17 fullShare (keep i s x2 x3 d)) -∗ K ⟨⟩))
      ⊢ wp frame (wpE (defs₀ (F := F)) Variants.none c none) E (cc0_ffn_up_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  intro E K
  simp only [cc0_ffn_up_fwd_eq_skeleton]; unfold cc0_ffn_up_fwd_skel
  simp only [k0_part1_eq_skeleton, k0_part2_eq_skeleton]
  unfold owns
  iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%d11, %f11, -, H11⟩, ⟨%d12, %f12, -, H12⟩, ⟨%d13, %f13, -, H13⟩, ⟨%d14, %f14, -, H14⟩, ⟨%d15, %f15, -, H15⟩, ⟨%fs, %hfs, HS⟩, ⟨%fd, %hfd, HD⟩, Hk⟩
  obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg16.eq_unread hfs; obtain rfl := harg17.eq_unread hfd
  sl_exec (disch := first | sl_exact hc0 | sl_exact hc1)
  sl_step
  try unfold runD.sl.r_3
  try unfold runD.sl.r_4
  try unfold runD.sl.r_5
  try unfold runD.sl.r_2
  try unfold runD.sl.r_1
  try unfold runD.sl.r
  try unfold runD.sl.v64
  try unfold runD.sl.v14
  try unfold runD.sl.HD_2
  try unfold runD.sl.HD_1
  try unfold runD.sl.v6
  try unfold runD.sl.HS_1
  iapply Hk
  isplitl [H4]; · iapply (same c harg4); iexact H4
  isplitl [H5]; · iapply (same c harg5); iexact H5
  isplitl [H6]; · iapply (same c harg6); iexact H6
  isplitl [H7]; · iapply (same c harg7); iexact H7
  isplitl [H8]; · iapply (same c harg8); iexact H8
  isplitl [H9]; · iapply (same c harg9); iexact H9
  isplitl [H11]
  · iexists _; isplitr; swap; · iexact H11
    ipureintro
    refine (View.read_writes_full _ _ _ _ _).trans ?_
    rw [ldS, ldW]
  isplitl [H12]
  · iexists _; isplitr; swap; · iexact H12
    ipureintro
    refine (View.read_writes_full _ _ _ _ _).trans ?_
    rw [ldS, ldW]
  isplitl [H13]
  · iexists _; isplitr; swap; · iexact H13
    ipureintro
    refine (View.read_writes_full _ _ _ _ _).trans ?_
    rw [ldS, ldW, load0 i _ _ (harg17.read_unread _), ldT, ldB]
    rfl
  isplitl [H14]
  · iexists _; isplitr; swap; · iexact H14
    ipureintro
    refine (View.read_writes_full _ _ _ _ _).trans ?_
    rw [ldS, ldW, load1 i _ _ (harg17.read_unread _), ldT, ldB]
    rfl
  isplitl [H15]
  · iexists _; isplitr; swap; · iexact H15
    ipureintro
    refine (View.read_writes_full _ _ _ _ _).trans ?_
    rw [ldS, ldW, ldW, load0 i _ _ (harg17.read_unread _), load1 i _ _ (harg17.read_unread _), ldT, ldT, ldB, ldB]
    rfl
  isplitl [HS]
  · iexists _; isplitr; · ipureintro; exact harg16.read_unread _
    iexact HS
  iexists _; isplitr; swap; · iexact HD
  ipureintro
  rw [ldS, ldW, ldW, View.read_writes_cons_put _ _ _ _ _ rfl, View.read_writes_cons_put _ _ _ _ _ rfl, View.writes_nil, harg17.read_unread]
  rfl

end

end Cert.UpBody

end
-- ==== Proof.UpRun.lean ====
/- The tenth claim's kernel: what its body stores at each grid point, what the scratch arrays hold between the points, and
   its run. -/
module

public import proofs.«01_k».proof.Proof.UpBody

@[expose] public section

set_option maxRecDepth 16384

noncomputable section

namespace Cert.UpRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel10Ideal Cert.Kernel10Ideal.Gen Cert.UpBody

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The points -/

theorem at0 : ∀ t : Fin cfg0.N, k0_cond1 (grid0.coords t) = 1#1 ↔ t.val % 2 = 0 :=
  (by decide +kernel : ∀ t : Fin grid0.N, _)
theorem at1 : ∀ t : Fin cfg0.N, k0_cond2 (grid0.coords t) = 1#1 ↔ t.val < 2 :=
  (by decide +kernel : ∀ t : Fin grid0.N, _)
theorem half : ∀ t : Fin cfg0.N, k0_off1 (grid0.coords t) 0 = t.val % 2 :=
  (by decide +kernel : ∀ t : Fin grid0.N, _)

/-- The first point of a point's row tile, the point before, and the same columns in the tile before. -/
def first (t : Fin cfg0.N) : Fin cfg0.N := ⟨t.val / 2 * 2, Nat.lt_of_le_of_lt (Nat.div_mul_le_self _ _) t.isLt⟩
def pred (t : Fin cfg0.N) : Fin cfg0.N := ⟨t.val - 1, Nat.lt_of_le_of_lt (Nat.sub_le _ _) t.isLt⟩
def back (t : Fin cfg0.N) : Fin cfg0.N := ⟨t.val - 2, Nat.lt_of_le_of_lt (Nat.sub_le _ _) t.isLt⟩

theorem first_self {t : Fin cfg0.N} (h : t.val % 2 = 0) : first t = t := Fin.ext (by show t.val / 2 * 2 = t.val; omega)
theorem first_pred {t : Fin cfg0.N} (h : t.val % 2 ≠ 0) : first (pred t) = first t :=
  Fin.ext (by show (t.val - 1) / 2 * 2 = t.val / 2 * 2; omega)

theorem off_back : ∀ t : Fin cfg0.N, 2 ≤ t.val → k0_off2 (grid0.coords t) = k0_off2 (grid0.coords (back t)) ∧ k0_off3 (grid0.coords t) = k0_off3 (grid0.coords (back t)) := by
  have h : ∀ t : Fin grid0.N, 2 ≤ t.val → k0_off2 (grid0.coords t) = k0_off2 (grid0.coords ⟨t.val - 2, Nat.lt_of_le_of_lt (Nat.sub_le _ _) t.isLt⟩)
      ∧ k0_off3 (grid0.coords t) = k0_off3 (grid0.coords ⟨t.val - 2, Nat.lt_of_le_of_lt (Nat.sub_le _ _) t.isLt⟩) := by decide +kernel
  exact h

theorem window_of {o o' : Fin 4 → ℕ} (e : o = o') (d : Vec F S2x2x8x1408 .f32) (h h') :
    (VecWindow.window d o S1x1x8x1408.size h : Vec F S1x1x8x1408 .f32) = VecWindow.window d o' S1x1x8x1408.size h' := by
  subst e; rfl

theorem wait_back (t : Fin cfg0.N) (h : 2 ≤ t.val) (d : Vec F S2x2x8x1408 .f32) :
    wait0 (grid0.coords t) d = wait0 (grid0.coords (back t)) d ∧ wait1 (grid0.coords t) d = wait1 (grid0.coords (back t)) d :=
  ⟨window_of (off_back t h).1 d _ _, window_of (off_back t h).2 d _ _⟩

/-! ## What the body stores -/

/-- The normalised row tile, as the output has it and as the scratch has it, -/
def nrm (c : Dev nD) (t : Fin cfg0.N) : Vec F S512x1024 .bf16 := k0_pay4 (iblk m c 0 (first t)) (iblk m c 1 (first t))
def scr (c : Dev nD) (t : Fin cfg0.N) : Vec F S512x1024 .bf16 := k0_pay5 (iblk m c 0 (first t)) (iblk m c 1 (first t))
/-- the last rows of its products, -/
def last0 (c : Dev nD) (t : Fin cfg0.N) : Vec F S1x1x8x1408 .f32 := k0_pay10 (scr m c t) (iblk m c 2 t)
def last1 (c : Dev nD) (t : Fin cfg0.N) : Vec F S1x1x8x1408 .f32 := k0_pay1 (k0_pay17 (scr m c t) (iblk m c 3 t))
/-- and the rows that waited for it. -/
def prev0 (c : Dev nD) (t : Fin cfg0.N) : Vec F S1x1x8x1408 .f32 := if t.val < 2 then none8 else last0 m c (back t)
def prev1 (c : Dev nD) (t : Fin cfg0.N) : Vec F S1x1x8x1408 .f32 := if t.val < 2 then none8 else last1 m c (back t)

def upg (c : Dev nD) (t : Fin cfg0.N) : Vec F S512x1408 .bf16 := k0_pay7 (scr m c t) (iblk m c 2 t)
def upv (c : Dev nD) (t : Fin cfg0.N) : Vec F S512x1408 .bf16 := k0_pay14 (scr m c t) (iblk m c 3 t)
def cg (c : Dev nD) (t : Fin cfg0.N) : Vec F S512x1408 .bf16 := gconv (scr m c t) (iblk m c 2 t) (prev0 m c t) (iblk m c 4 t) (iblk m c 6 t)
def cv (c : Dev nD) (t : Fin cfg0.N) : Vec F S512x1408 .bf16 := vconv (scr m c t) (iblk m c 3 t) (prev1 m c t) (iblk m c 5 t) (iblk m c 7 t)
def ff (c : Dev nD) (t : Fin cfg0.N) : Vec F S512x1408 .bf16 :=
  gated (scr m c t) (iblk m c 2 t) (iblk m c 3 t) (prev0 m c t) (prev1 m c t) (iblk m c 4 t) (iblk m c 5 t) (iblk m c 6 t) (iblk m c 7 t)

theorem scr_pred (c : Dev nD) {t : Fin cfg0.N} (h : t.val % 2 ≠ 0) : scr m c (pred t) = scr m c t := by rw [scr, scr, first_pred h]

/-! ## What the scratch arrays hold between the points -/

/-- Before point `n`: the last point's normalised tile, and the last rows of the last two points. -/
def Inv (c : Dev nD) (n : ℕ) (s : Vec F S512x1024 .bf16) (d : Vec F S2x2x8x1408 .f32) : Prop :=
  (∀ u : Fin cfg0.N, u.val + 1 = n → s = scr m c u)
    ∧ ∀ u : Fin cfg0.N, u.val < n → n ≤ u.val + 2 → wait0 (grid0.coords u) d = last0 m c u ∧ wait1 (grid0.coords u) d = last1 m c u

/-- In the first tile nothing waits. -/
theorem fresh (c : Dev nD) {t : Fin cfg0.N} (d : Vec F S2x2x8x1408 .f32) (ht : t.val < 2) :
    none8 = prev0 m c t ∧ none8 = prev1 m c t ∧ (clear (grid0.coords t) d = d ∨ clear (grid0.coords t) d = clear (grid0.coords t) d) :=
  ⟨(if_pos ht).symm, (if_pos ht).symm, .inr rfl⟩

variable {m}

theorem Inv.scratch {c : Dev nD} {t : Fin cfg0.N} {s d} (h : Inv m c t.val s d) (ht : t.val % 2 ≠ 0) : s = scr m c t :=
  (h.1 (pred t) (by show t.val - 1 + 1 = t.val; omega)).trans (scr_pred m c ht)

theorem Inv.waits {c : Dev nD} {t : Fin cfg0.N} {s d} (h : Inv m c t.val s d) (ht : ¬t.val < 2) :
    wait0 (grid0.coords t) d = prev0 m c t ∧ wait1 (grid0.coords t) d = prev1 m c t ∧ (d = d ∨ d = clear (grid0.coords t) d) := by
  have hb := h.2 (back t) (by show t.val - 2 < t.val; omega) (by show t.val ≤ t.val - 2 + 2; omega)
  unfold prev0 prev1
  rw [if_neg ht, if_neg ht, (wait_back t (by omega) d).1, (wait_back t (by omega) d).2]
  exact ⟨hb.1, hb.2, .inl rfl⟩

theorem Inv.step {c : Dev nD} {t : Fin cfg0.N} {s d D} (h : Inv m c t.val s d) (hD : D = d ∨ D = clear (grid0.coords t) d) :
    Inv m c (t.val + 1) (scr m c t) (keep (grid0.coords t) (scr m c t) (iblk m c 2 t) (iblk m c 3 t) D) := by
  refine ⟨fun u hu => ?_, fun u hu hu' => ?_⟩
  · rw [show u = t from Fin.ext (by omega)]
  · by_cases e : u = t
    · subst e
      exact ⟨wait0_keep _ _ _ _ _, wait1_keep _ _ _ _ _⟩
    · have hne : u.val ≠ t.val := fun h => e (Fin.ext h)
      have hoff : k0_off1 (grid0.coords u) 0 + 1 ≤ k0_off1 (grid0.coords t) 0 ∨ k0_off1 (grid0.coords t) 0 + 1 ≤ k0_off1 (grid0.coords u) 0 := by
        rw [half u, half t]; omega
      have hw := h.2 u (by omega) (by omega)
      have o := wait_other (grid0.coords t) (scr m c t) (iblk m c 2 t) (iblk m c 3 t) D (grid0.coords u) hoff
      rw [o.2.2.1, o.2.2.2]
      rcases hD with rfl | rfl
      · exact hw
      · have o' := wait_other (grid0.coords t) (scr m c t) (iblk m c 2 t) (iblk m c 3 t) d (grid0.coords u) hoff
        rw [o'.1, o'.2.1]
        exact hw

variable (m)

/-! ## The proof data -/

abbrev sc : Memref sig .tc .vmem S512x1024 .bf16 := Memref.whole cc0_scratch0
abbrev cr : Memref sig .tc .vmem S2x2x8x1408 .f32 := Memref.whole cc0_scratch1

theorem PhiA_eq (c : Dev nD) : (Pipeline.ΦA spec0 c : sProp 𝕄)
    = iprop(((∃ d, owns (c : Thread nD τ) sc fullShare d) ∗ (∃ d, owns (c : Thread nD τ) cr fullShare d)) ∗ (∃ r, prngReg c r)) := by
  unfold Pipeline.ΦA; rw [scopedRest0_eq]; simp only [sc, cr, owns_whole]; try rfl

def Phi (c : Dev nD) (n : ℕ) : sProp 𝕄 :=
  iprop((∃ s d, owns (c : Thread nD τ) sc fullShare s ∗ owns (c : Thread nD τ) cr fullShare d ∗ ⌜Inv m c n s d⌝) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => nrm m c t
    | ⟨9, _⟩ => upg m c t
    | ⟨10, _⟩ => upv m c t
    | ⟨11, _⟩ => cg m c t
    | ⟨12, _⟩ => cv m c t
    | ⟨13, _⟩ => ff m c t
  Φ t := Phi m c t.val
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = nrm m c t := by dsimp only [dats]
theorem after9 (c : Dev nD) (t : Fin cfg0.N) : (dats m 0 c).after 9 t = upg m c t := by dsimp only [dats]
theorem after10 (c : Dev nD) (t : Fin cfg0.N) : (dats m 0 c).after 10 t = upv m c t := by dsimp only [dats]
theorem after11 (c : Dev nD) (t : Fin cfg0.N) : (dats m 0 c).after 11 t = cg m c t := by dsimp only [dats]
theorem after12 (c : Dev nD) (t : Fin cfg0.N) : (dats m 0 c).after 12 t = cv m c t := by dsimp only [dats]
theorem after13 (c : Dev nD) (t : Fin cfg0.N) : (dats m 0 c).after 13 t = ff m c t := by dsimp only [dats]

theorem before0 (c : Dev nD) (t : Fin cfg0.N) (d) : (dats m 0 c).before 0 t d = iblk m c 0 t :=
  before0_0_of m _ (A_eq m c 0) (after0 m c) t d
theorem before1 (c : Dev nD) (t : Fin cfg0.N) (d) : (dats m 0 c).before 1 t d = iblk m c 1 t :=
  before0_1_of m _ (A_eq m c 1) (after1 m c) t d
theorem before2 (c : Dev nD) (t : Fin cfg0.N) (d) : (dats m 0 c).before 2 t d = iblk m c 2 t :=
  before0_2_of m _ (A_eq m c 2) (after2 m c) t d
theorem before3 (c : Dev nD) (t : Fin cfg0.N) (d) : (dats m 0 c).before 3 t d = iblk m c 3 t :=
  before0_3_of m _ (A_eq m c 3) (after3 m c) t d
theorem before4 (c : Dev nD) (t : Fin cfg0.N) (d) : (dats m 0 c).before 4 t d = iblk m c 4 t :=
  before0_4_of m _ (A_eq m c 4) (after4 m c) t d
theorem before5 (c : Dev nD) (t : Fin cfg0.N) (d) : (dats m 0 c).before 5 t d = iblk m c 5 t :=
  before0_5_of m _ (A_eq m c 5) (after5 m c) t d
theorem before6 (c : Dev nD) (t : Fin cfg0.N) (d) : (dats m 0 c).before 6 t d = iblk m c 6 t :=
  before0_6_of m _ (A_eq m c 6) (after6 m c) t d
theorem before7 (c : Dev nD) (t : Fin cfg0.N) (d) : (dats m 0 c).before 7 t d = iblk m c 7 t :=
  before0_7_of m _ (A_eq m c 7) (after7 m c) t d

/-! ## The normalised tile, written back at its tile's last point -/

theorem idle8 (t : Fin cfg0.N) : cfg0.idle 8 (grid0.coords t) = !decide (t.val % 2 = 0) := by
  show (!(k0_cond1 (grid0.coords t) == 1#1)) = _
  rw [Bool.not_inj_iff, Bool.eq_iff_iff, beq_iff_eq, decide_eq_true_iff, at0]

theorem before8 (c : Dev nD) (t : Fin cfg0.N) (d) (h : t.val % 2 ≠ 0) : (dats m 0 c).before 8 t d = (dats m 0 c).after 8 t := by
  have e : (cfg0.win 8).flush (pred t) = false := Bool.eq_false_iff.2 fun h' => by
    have h5 : (t.val - 1) % 2 = 1 := (flush0_8 (pred t)).1 h'
    omega
  have e' : cfg0.idle 8 (cfg0.grid.coords (pred t)) = false :=
    (idle8 (pred t)).trans (by rw [decide_eq_true (show (pred t).val % 2 = 0 from (by show (t.val - 1) % 2 = 0; omega))]; rfl)
  refine ((dats m 0 c).before_of_pos 8 t (by omega) rfl d).trans ((if_neg (Bool.eq_false_iff.1 e)).trans ?_)
  show (dats m 0 c).left 8 (pred t) d = _
  unfold Dat.left
  rw [e']
  show (dats m 0 c).after 8 (pred t) = _
  rw [after8, after8, nrm, nrm, first_pred h]

theorem live8 (c : Dev nD) (t : Fin cfg0.N) (h : t.val % 2 = 0) :
    ((dats m 0 c).leavesExact 8 t : sProp 𝕄) = owns (c : Thread nD τ) ((cfg0.win 8).stage (cfg0.slots t 8)) fullShare ((dats m 0 c).after 8 t) := by
  have hi : cfg0.idle 8 (cfg0.grid.coords t) = false := (idle8 t).trans (by rw [decide_eq_true h]; rfl)
  unfold Dat.leavesExact
  rw [hi]

theorem pass8 (c : Dev nD) (t : Fin cfg0.N) (d) (h : t.val % 2 ≠ 0) :
    owns (c : Thread nD τ) ((cfg0.win 8).stage (cfg0.slots t 8)) fullShare ((dats m 0 c).before 8 t d) ⊢ ((dats m 0 c).leavesExact 8 t : sProp 𝕄) := by
  have hi : cfg0.idle 8 (cfg0.grid.coords t) = true := (idle8 t).trans (by rw [decide_eq_false h]; rfl)
  have hf : (cfg0.win 8).flush t = true := (flush0_8 t).2 (by omega)
  unfold Dat.leavesExact
  rw [hi, hf, before8 m c t d h]
  try exact Idealize.SL.BI.Entails.refl _

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (dats m 0 c).leavesExact 8 t
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

theorem Phi_after {c : Dev nD} {t : Fin cfg0.N} {s d D} (h : Inv m c t.val s d) (hD : D = d ∨ D = clear (grid0.coords t) d) :
    iprop(owns (c : Thread nD τ) sc fullShare (scr m c t) ∗ owns (c : Thread nD τ) cr fullShare (keep (grid0.coords t) (scr m c t) (iblk m c 2 t) (iblk m c 3 t) D) ∗ (∃ r, prngReg c r)) ⊢ Phi m c (t.val + 1) := by
  unfold Phi
  iintro ⟨HS, HD, Hg⟩
  isplitr [Hg]; swap; · iexact Hg
  iexists _; iexists _
  isplitl [HS]; · iexact HS
  isplitl [HD]; · iexact HD
  ipureintro
  exact h.step hD

set_option maxHeartbeats 9600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl, after0, after1, after2, after3, after4, after5, after6, after7, after9, after10, after11, after12, after13]
  rw [show (dats m 0 c).Φ t.succ = Phi m c (t.val + 1) from rfl, show (dats m 0 c).Φ t.castSucc = Phi m c t.val from rfl]
  rw [show Phi m c t.val = iprop((∃ s d, owns (c : Thread nD τ) sc fullShare s ∗ owns (c : Thread nD τ) cr fullShare d ∗ ⌜Inv m c t.val s d⌝) ∗ (∃ r, prngReg c r)) from rfl]
  by_cases h0 : t.val % 2 = 0
  · rw [live8 m c t h0, after8]
    by_cases h1 : t.val < 2 <;>
    · iintro ⟨⟨⟨%s, %d, HS, HD, %hI⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      first
        | iapply (runA (grid0.coords t) d c _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((at0 t).mpr h0) ((at1 t).mpr h1) Set.univ _)
        | iapply (runC (grid0.coords t) d c _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((at0 t).mpr h0) (fun h => h1 ((at1 t).mp h)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [HS]; · iexists _; iexact HS
      isplitl [HD]; · iexact HD
      iintro ⟨H0, H1, H2, H3, H4, H5, H6, H7, H8, H9, H10, H11, H12, H13, HS, HD⟩
      have es : k0_pay5 (iblk m c 0 t) (iblk m c 1 t) = scr m c t := by rw [scr, first_self h0]
      first | (rename t.val < 2 => h2; obtain ⟨ep, eq, hD⟩ := fresh m c d h2) | obtain ⟨ep, eq, hD⟩ := hI.waits h1
      isplitl [HS HD Hg]
      · iapply (Phi_after m hI hD)
        isplitl [HS]; · rw [← es]; iexact HS
        isplitl [HD]; · rw [← es]; iexact HD
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · unfold nrm; rw [first_self h0]; iexact H8
      isplitl [H9]; · unfold upg; rw [← es]; iexact H9
      isplitl [H10]; · unfold upv; rw [← es]; iexact H10
      isplitl [H11]; · unfold cg; rw [← es, ← ep]; iexact H11
      isplitl [H12]; · unfold cv; rw [← es, ← eq]; iexact H12
      unfold ff; rw [← es, ← ep, ← eq]; iexact H13
  · by_cases h1 : t.val < 2 <;>
    · iintro ⟨⟨⟨%s, %d, HS, HD, %hI⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      obtain rfl := hI.scratch h0
      first
        | iapply (runB (grid0.coords t) (scr m c t) d c _ _ _ _ _ _ _ _ _ _ _ _ _ _ _ _ _ _ _ _ _ _ _ _ _ _ _ _ _ _ _ _ (iblk m c 2 t) (iblk m c 3 t) (iblk m c 4 t) (iblk m c 5 t) (iblk m c 6 t) (iblk m c 7 t) (fun h => h0 ((at0 t).mp h)) ((at1 t).mpr h1) Set.univ _)
        | iapply (runD (grid0.coords t) (scr m c t) d c _ _ _ _ _ _ _ _ _ _ _ _ _ _ _ _ _ _ _ _ _ _ _ _ _ _ _ _ _ _ _ _ (iblk m c 2 t) (iblk m c 3 t) (iblk m c 4 t) (iblk m c 5 t) (iblk m c 6 t) (iblk m c 7 t) (fun h => h0 ((at0 t).mp h)) (fun h => h1 ((at1 t).mp h)) Set.univ _)
      isplitl [H2]; · iexact H2
      isplitl [H3]; · iexact H3
      isplitl [H4]; · iexact H4
      isplitl [H5]; · iexact H5
      isplitl [H6]; · iexact H6
      isplitl [H7]; · iexact H7
      isplitl [H9]; · iexists _; iexact H9
      isplitl [H10]; · iexists _; iexact H10
      isplitl [H11]; · iexists _; iexact H11
      isplitl [H12]; · iexists _; iexact H12
      isplitl [H13]; · iexists _; iexact H13
      isplitl [HS]; · iexact HS
      isplitl [HD]; · iexact HD
      iintro ⟨H2, H3, H4, H5, H6, H7, H9, H10, H11, H12, H13, HS, HD⟩
      first | (rename t.val < 2 => h2; obtain ⟨ep, eq, hD⟩ := fresh m c d h2) | obtain ⟨ep, eq, hD⟩ := hI.waits h1
      isplitl [HS HD Hg]
      · iapply (Phi_after m hI hD)
        isplitl [HS]; · iexact HS
        isplitl [HD]; · iexact HD
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iapply (pass8 m c t d8 h0); iexact H8
      isplitl [H9]; · unfold upg; iexact H9
      isplitl [H10]; · unfold upv; iexact H10
      isplitl [H11]; · unfold cg; rw [← ep]; iexact H11
      isplitl [H12]; · unfold cv; rw [← eq]; iexact H12
      unfold ff; rw [← ep, ← eq]; iexact H13
theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-! ## The run -/

theorem hin (c : Dev nD) : Pipeline.ΦA spec0 c ⊢ (dats m 0 c).Φ 0 := by
  rw [show (dats m 0 c).Φ 0 = Phi m c 0 from rfl, PhiA_eq]
  unfold Phi
  iintro ⟨⟨⟨%s, HS⟩, ⟨%d, HD⟩⟩, Hg⟩
  isplitr [Hg]; swap; · iexact Hg
  iexists _; iexists _
  isplitl [HS]; · iexact HS
  isplitl [HD]; · iexact HD
  ipureintro
  exact ⟨fun u hu => absurd hu (Nat.succ_ne_zero _), fun u hu => absurd hu (Nat.not_lt_zero _)⟩

theorem hout (c : Dev nD) : (dats m 0 c).Φ (Fin.last cfg0.N) ⊢ Pipeline.ΦA spec0 c := by
  rw [show (dats m 0 c).Φ (Fin.last cfg0.N) = Phi m c (Fin.last cfg0.N).val from rfl, PhiA_eq]
  unfold Phi
  iintro ⟨⟨%s, %d, HS, HD, -⟩, Hg⟩
  isplitr [Hg]; swap; · iexact Hg
  isplitl [HS]
  · iexists _; iexact HS
  iexists _; iexact HD

set_option backward.isDefEq.respectTransparency.types false in
theorem run : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The run leaves the arguments as they were. -/
theorem kept {r} (h : (Pipeline.FramePost cfgs (dats m) 0 (V m)) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  obtain ⟨hw, hr⟩ := h c
  refine ⟨(hw 0).trans ?_, (hr main_arg1 ?_).trans (V_main_arg1 m c), (hr main_arg2 ?_).trans (V_main_arg2 m c),
    (hw 5).trans ?_, (hr main_arg4 ?_).trans (V_main_arg4 m c)⟩
  · rw [(dats m 0 c).arrAt_in 0 rfl, A_eq]
    exact V_main_arg0 m c
  · exact Pipeline.mem_restRefs_of main_arg1 (by decide) (by decide)
  · exact Pipeline.mem_restRefs_of main_arg2 (by decide) (by decide)
  · rw [(dats m 0 c).arrAt_in 5 rfl, A_eq]
    exact V_main_arg3 m c
  · exact Pipeline.mem_restRefs_of main_arg4 (by decide) (by decide)

end Cert.UpRun

end
-- ==== Proof.UpVal.lean ====
/- The tenth claim's kernel: its packed weight, its blocks at a grid point, and the arrays its run leaves. -/
module

public import proofs.«01_k».proof.Proof.UpRun
public import proofs.«01_k».proof.Proof.FfnSpec
import proofs.«01_k».proof.Proof.GateSpec
import Idealize.ShloMosaic.Lib.StableHlo.ReadAt
public import Idealize.ShloMosaic.Lib.Pointwise
public import Idealize.ShloMosaic.Lib.Pipeline.ValueKit

@[expose] public section

set_option maxRecDepth 65536

noncomputable section

namespace Cert.UpVal

open Idealize.ShloMosaic Idealize.ShloMosaic.TcCoe Idealize.ShloMosaic.Tactic Idealize.SL.Sem
open Cert.Kernel10Ideal Cert.Kernel10Ideal.Gen Cert.UpBody Cert.UpRun Cert.RowGrad
open Cert.FfnSpec (Args lo hi up conv before)
open Cert.GeluNorm (gelu gc ga)

variable (m : (ℓ : Loc nD τ sig) → Buf (Elt Ideal) ℓ) (c : Dev nD)

/-- The arguments as launched; there is no cotangent. -/
def args : Args where
  x := m ((c : Thread nD τ).loc main_arg0)
  g := m ((c : Thread nD τ).loc main_arg1)
  wu := m ((c : Thread nD τ).loc main_arg2)
  cw := m ((c : Thread nD τ).loc main_arg3)
  cb := m ((c : Thread nD τ).loc main_arg4)
  d := fun _ => 0
  res := m ((c : Thread nD τ).loc main_arg0)

/-! ## What the host prepares -/

theorem packed (p : Fin 4) (j : Fin 1024) (n : Fin 1408) :
    (V m c main_v2 : FVec Ideal S4x1024x1408 .bf16) (ix3 p j n) = (args m c).wu (ix2 j ⟨1408 * p.val + n.val, by omega⟩) := by
  unfold V
  after_reads_at
  refine congrArg (fun i => (args m c).wu (ix2 j i)) (Fin.ext ?_)
  show p.val * 1408 + n.val = 1408 * p.val + n.val
  omega

theorem gain (j : Fin 1024) : (V m c main_v3 : FVec Ideal S1x1024 .f32) (ix2 0 j) = (args m c).g (ix1 j) := by
  unfold V
  after_reads_at
  rfl

theorem bias (n : Fin 5632) : (V m c main_v4 : FVec Ideal S1x5632 .f32) (ix2 0 n) = (args m c).cb (ix1 n) := by
  unfold V
  after_reads_at
  rfl

/-! ## The blocks at a point -/

theorem idx : ∀ t : Fin cfg0.N, win0_0.index t = ![t.val / 2, 0] ∧ win0_1.index t = ![0, 0] ∧ win0_2.index t = ![t.val % 2, 0, 0]
    ∧ win0_3.index t = ![2 + t.val % 2, 0, 0] ∧ win0_4.index t = ![0, t.val % 2] ∧ win0_5.index t = ![0, 2 + t.val % 2]
    ∧ win0_6.index t = ![0, t.val % 2] ∧ win0_7.index t = ![0, 2 + t.val % 2] ∧ win0_8.index t = ![t.val / 2, 0]
    ∧ win0_9.index t = ![t.val / 2, t.val % 2] ∧ win0_10.index t = ![t.val / 2, t.val % 2] ∧ win0_11.index t = ![t.val / 2, t.val % 2]
    ∧ win0_12.index t = ![t.val / 2, t.val % 2] ∧ win0_13.index t = ![t.val / 2, t.val % 2] ∧ t.val < 32 :=
  (by decide +kernel : ∀ t : Fin grid0.N, _)

theorem small (t : Fin cfg0.N) : t.val < 32 := t.isLt

/-- Row `r` of a point's row tile, and column `n` of its half of the gate's or of the value's columns. -/
abbrev brow (t : Fin cfg0.N) (r : Fin 512) : Fin 8192 := ⟨512 * (t.val / 2) + r.val, by have := small t; omega⟩
abbrev bcol (t : Fin cfg0.N) (n : Fin 1408) : Fin 2816 := ⟨1408 * (t.val % 2) + n.val, by omega⟩

theorem brow_first (t : Fin cfg0.N) (r : Fin 512) : brow (first t) r = brow t r := Fin.ext (by
  show 512 * (t.val / 2 * 2 / 2) + r.val = 512 * (t.val / 2) + r.val
  omega)

theorem bcol_back (t : Fin cfg0.N) (h : ¬t.val < 2) (n : Fin 1408) : bcol (back t) n = bcol t n := Fin.ext (by
  show 1408 * ((t.val - 2) % 2) + n.val = 1408 * (t.val % 2) + n.val
  omega)

theorem blk0 (t : Fin cfg0.N) (r : Fin 512) (j : Fin 1024) : (show FVec Ideal S512x1024 .f32 from iblk m c 0 t) (ix2 r j) = (args m c).x (ix2 (brow t r) j) := by
  refine Eq.trans ?_ (congrFun (V_main_arg0 m c) (ix2 (brow t r) j))
  blk_ext [iblk, idx t]

theorem blk1 (t : Fin cfg0.N) (j : Fin 1024) : (show FVec Ideal S1x1024 .f32 from iblk m c 1 t) (ix2 0 j) = (args m c).g (ix1 j) := by
  refine Eq.trans ?_ (gain m c j)
  blk_point [iblk, idx t]

theorem blk2 (t : Fin cfg0.N) (j : Fin 1024) (n : Fin 1408) : (show FVec Ideal S1x1024x1408 .bf16 from iblk m c 2 t) (ix3 0 j n)
    = (args m c).wu (ix2 j (lo (bcol t n))) := by
  refine Eq.trans ?_ (packed m c ⟨t.val % 2, by omega⟩ j n)
  blk_ext [iblk, idx t]

theorem blk3 (t : Fin cfg0.N) (j : Fin 1024) (n : Fin 1408) : (show FVec Ideal S1x1024x1408 .bf16 from iblk m c 3 t) (ix3 0 j n)
    = (args m c).wu (ix2 j (hi (bcol t n))) := by
  have e : (⟨1408 * (2 + t.val % 2) + n.val, by omega⟩ : Fin 5632) = hi (bcol t n) := Fin.ext (by
    show 1408 * (2 + t.val % 2) + n.val = 2816 + (1408 * (t.val % 2) + n.val)
    omega)
  rw [← e]
  refine Eq.trans ?_ (packed m c ⟨2 + t.val % 2, by omega⟩ j n)
  blk_ext [iblk, idx t]

theorem blk4 (t : Fin cfg0.N) (k : Fin 3) (n : Fin 1408) : (show FVec Ideal S3x1408 .f32 from iblk m c 4 t) (ix2 k n)
    = (args m c).cw (ix2 k (lo (bcol t n))) := by
  refine Eq.trans ?_ (congrFun (V_main_arg3 m c) (ix2 k (lo (bcol t n))))
  blk_ext [iblk, idx t, lo]

theorem blk5 (t : Fin cfg0.N) (k : Fin 3) (n : Fin 1408) : (show FVec Ideal S3x1408 .f32 from iblk m c 5 t) (ix2 k n)
    = (args m c).cw (ix2 k (hi (bcol t n))) := by
  refine Eq.trans ?_ (congrFun (V_main_arg3 m c) (ix2 k (hi (bcol t n))))
  blk_ext [iblk, idx t, hi]

theorem blk6 (t : Fin cfg0.N) (n : Fin 1408) : (show FVec Ideal S1x1408 .f32 from iblk m c 6 t) (ix2 0 n)
    = (args m c).cb (ix1 (lo (bcol t n))) := by
  refine Eq.trans ?_ (bias m c (lo (bcol t n)))
  blk_ext [iblk, idx t, lo]

theorem blk7 (t : Fin cfg0.N) (n : Fin 1408) : (show FVec Ideal S1x1408 .f32 from iblk m c 7 t) (ix2 0 n)
    = (args m c).cb (ix1 (hi (bcol t n))) := by
  refine Eq.trans ?_ (bias m c (hi (bcol t n)))
  blk_ext [iblk, idx t, hi]

/-! ## What the body computes -/

theorem pay4 (x0 : Vec Ideal S512x1024 .f32) (x1 : Vec Ideal S1x1024 .f32) (r : Fin 512) (j : Fin 1024) : k0_pay4 (F := Ideal) x0 x1 (ix2 r j)
    = (x0 (ix2 r j) * Ideal.rsqrt (Ideal.div (∑ k : Fin 1024, x0 (ix2 r k) * x0 (ix2 r k)) (Ideal.ofBits .f32 0x44800000#32)
      + Ideal.ofBits .f32 0x358637BD#32) * x1 (ix2 0 j) : EReal) := by
  pointwise [k0_pay4]
  try simp only [zero_add]

theorem pay5 (x0 : Vec Ideal S512x1024 .f32) (x1 : Vec Ideal S1x1024 .f32) (r : Fin 512) (j : Fin 1024) :
    k0_pay5 (F := Ideal) x0 x1 (ix2 r j) = k0_pay4 (F := Ideal) x0 x1 (ix2 r j) := by
  pointwise [k0_pay5]

theorem pay7 (s : Vec Ideal S512x1024 .bf16) (w : Vec Ideal S1x1024x1408 .bf16) (r : Fin 512) (n : Fin 1408) :
    k0_pay7 (F := Ideal) s w (ix2 r n) = (∑ j : Fin 1024, s (ix2 r j) * w (ix3 0 j n) : EReal) := by
  pointwise [k0_pay7]
  try simp only [zero_add]

theorem pay10 (s : Vec Ideal S512x1024 .bf16) (w : Vec Ideal S1x1024x1408 .bf16) (k : Fin 8) (n : Fin 1408) :
    k0_pay10 (F := Ideal) s w (ix4 0 0 k n) = (k0_pay7 (F := Ideal) s w (ix2 ⟨504 + k.val, by omega⟩ n) : EReal) := by
  pointwise [k0_pay10, k0_pay8]

theorem pay9 (s : Vec Ideal S512x1024 .bf16) (w : Vec Ideal S1x1024x1408 .bf16) (p : Vec Ideal S1x1x8x1408 .f32) (y : Fin 520) (n : Fin 1408) :
    k0_pay9 (F := Ideal) s w p (ix2 y n)
      = (if h : y.val < 8 then p (ix4 0 0 ⟨y.val, h⟩ n) else k0_pay7 (F := Ideal) s w (ix2 ⟨y.val - 8, by omega⟩ n) : EReal) := by
  pointwise [k0_pay9, k0_pay8]

theorem conv_row (s : Vec Ideal S512x1024 .bf16) (w : Vec Ideal S1x1024x1408 .bf16) (p : Vec Ideal S1x1x8x1408 .f32) (cw : Vec Ideal S3x1408 .f32)
    (b : Vec Ideal S1x1408 .f32) (r : Fin 512) (n : Fin 1408) : gconv s w p cw b (ix2 r n)
      = (b (ix2 0 n) + k0_pay9 (F := Ideal) s w p (ix2 ⟨6 + r.val, by omega⟩ n) * cw (ix2 0 n)
        + k0_pay9 (F := Ideal) s w p (ix2 ⟨7 + r.val, by omega⟩ n) * cw (ix2 1 n) + k0_pay9 (F := Ideal) s w p (ix2 ⟨8 + r.val, by omega⟩ n) * cw (ix2 2 n) : EReal) := by
  pointwise [gconv, k0_pay12, k0_pay11]
  refine congrArg₂ (· + ·) (congrArg₂ (· + ·) (congrArg (b (ix2 0 n) + ·) ?_) ?_) (mul_comm _ _)
  · exact (mul_comm _ _).trans (congrArg (fun i => (k0_pay9 s w p (ix2 i n) : EReal) * cw (ix2 0 n)) (Fin.ext (by dsimp only; omega)))
  · exact (mul_comm _ _).trans (congrArg (fun i => (k0_pay9 s w p (ix2 i n) : EReal) * cw (ix2 1 n)) (Fin.ext (by dsimp only; omega)))

/-- The value's half is computed as the gate's. -/
theorem vconv_eq (s : Vec Ideal S512x1024 .bf16) (w : Vec Ideal S1x1024x1408 .bf16) (p : Vec Ideal S1x1x8x1408 .f32) (cw : Vec Ideal S3x1408 .f32)
    (b : Vec Ideal S1x1408 .f32) : vconv s w p cw b = gconv s w p cw b := rfl
theorem upv_eq (s : Vec Ideal S512x1024 .bf16) (w : Vec Ideal S1x1024x1408 .bf16) : k0_pay14 s w = k0_pay7 s w := rfl
theorem last_eq (s : Vec Ideal S512x1024 .bf16) (w : Vec Ideal S1x1024x1408 .bf16) : k0_pay1 (k0_pay17 s w) = k0_pay10 s w := rfl

theorem named_c : (Named.named κ "gelu_c" 0x3F4C#16 : Ideal .bf16) = ((gc : ℝ) : EReal) := rfl
theorem named_a : (Named.named κ "gelu_a" 0x3D37#16 : Ideal .bf16) = ((ga : ℝ) : EReal) := rfl

theorem pay13 (e : FVec Ideal S520x1408 .f32) (cw : Vec Ideal S3x1408 .f32) (v : FVec Ideal S520x1408 .f32) (r : Fin 512) (n : Fin 1408) :
    k0_pay13 (F := Ideal) e cw v (ix2 r n) = (gelu (k0_pay12 (F := Ideal) e cw v (ix2 r n)) : EReal) := by
  rw [← GateSpec.gelu_eq]
  pointwise [k0_pay13]
  simp only [named_c, named_a, GeluNorm.half]

theorem gated_row (s : Vec Ideal S512x1024 .bf16) (wg wv : Vec Ideal S1x1024x1408 .bf16) (p q : Vec Ideal S1x1x8x1408 .f32) (w v : Vec Ideal S3x1408 .f32)
    (b e : Vec Ideal S1x1408 .f32) (r : Fin 512) (n : Fin 1408) : gated s wg wv p q w v b e (ix2 r n)
      = (gelu (gconv s wg p w b (ix2 r n)) * vconv s wv q v e (ix2 r n) : EReal) := by
  refine Eq.trans ?_ (congrArg (· * (vconv s wv q v e (ix2 r n) : EReal)) (pay13 (k0_pay9 s wg p) w (k0_pay11 s wg p w b) r n))
  pointwise [gated, k0_pay3, vconv]

/-! ## What a point stores -/

theorem nrm_at (t : Fin cfg0.N) (r : Fin 512) (j : Fin 1024) : nrm m c t (ix2 r j) = (FfnSpec.nrm (args m c) (brow t r) j : EReal) := by
  refine (pay4 _ _ r j).trans ?_
  rw [← brow_first]
  exact congrArg₂ (· * ·) (congrArg₂ (· * ·) (blk0 m c (first t) r j) (congrArg (fun s => Ideal.rsqrt (Ideal.div s _ + _))
    (Finset.sum_congr rfl fun k _ => congrArg₂ (· * ·) (blk0 m c (first t) r k) (blk0 m c (first t) r k)))) (blk1 m c (first t) j)

theorem scr_at (t : Fin cfg0.N) (r : Fin 512) (j : Fin 1024) : scr m c t (ix2 r j) = (FfnSpec.nrm (args m c) (brow t r) j : EReal) :=
  (pay5 _ _ r j).trans (nrm_at m c t r j)

/-- One half of the columns: its block of the weight at a point, and its columns. -/
structure Half where
  w : Fin cfg0.N → Vec Ideal S1x1024x1408 .bf16
  p : Fin 2816 → Fin 5632
  at' : ∀ t j n, w t (ix3 0 j n) = (args m c).wu (ix2 j (p (bcol t n)))

def gateHalf : Half m c := ⟨fun t => iblk m c 2 t, lo, blk2 m c⟩
def valHalf : Half m c := ⟨fun t => iblk m c 3 t, hi, blk3 m c⟩

variable {m c} (b : Half m c)

def wait (t : Fin cfg0.N) : Vec Ideal S1x1x8x1408 .f32 := if t.val < 2 then none8 else k0_pay10 (scr m c (back t)) (b.w (back t))

theorem prod_at (t : Fin cfg0.N) (r : Fin 512) (n : Fin 1408) :
    k0_pay7 (F := Ideal) (scr m c t) (b.w t) (ix2 r n) = (up (args m c) (b.p (bcol t n)) (brow t r) : EReal) :=
  (pay7 _ _ r n).trans (Finset.sum_congr rfl fun j _ => congrArg₂ (· * ·) (scr_at m c t r j) (b.at' t j n))

/-- The rows a tap reads, of the tile or of those that waited for it. -/
theorem ext_at (t : Fin cfg0.N) (r : Fin 512) (n : Fin 1408) (e : ℕ) (he : e ≤ 2) (y : Fin 520) (hy : y.val + e = 8 + r.val) :
    k0_pay9 (F := Ideal) (scr m c t) (b.w t) (wait b t) (ix2 y n) = (before (up (args m c) (b.p (bcol t n))) e (brow t r) : EReal) := by
  rw [pay9]
  unfold before
  by_cases h : y.val < 8
  · rw [dif_pos h, wait]
    by_cases ht : t.val < 2
    · rw [if_pos ht, if_neg (by show ¬e ≤ 512 * (t.val / 2) + r.val; omega)]
      pointwise [none8]
    · rw [if_neg ht, if_pos (by show e ≤ 512 * (t.val / 2) + r.val; omega), pay10, prod_at, bcol_back t ht]
      refine congrArg (up (args m c) _) (Fin.ext ?_)
      show 512 * ((t.val - 2) / 2) + (504 + y.val) = 512 * (t.val / 2) + r.val - e
      omega
  · rw [dif_neg h, if_pos (by show e ≤ 512 * (t.val / 2) + r.val; omega), prod_at]
    refine congrArg (up (args m c) _) (Fin.ext ?_)
    show 512 * (t.val / 2) + (y.val - 8) = 512 * (t.val / 2) + r.val - e
    omega

theorem conv_at (t : Fin cfg0.N) (r : Fin 512) (n : Fin 1408) (cw : Vec Ideal S3x1408 .f32) (cb : Vec Ideal S1x1408 .f32)
    (hw : ∀ k, cw (ix2 k n) = (args m c).cw (ix2 k (b.p (bcol t n)))) (hb : cb (ix2 0 n) = (args m c).cb (ix1 (b.p (bcol t n)))) :
    gconv (scr m c t) (b.w t) (wait b t) cw cb (ix2 r n) = (conv (args m c) (b.p (bcol t n)) (brow t r) : EReal) := by
  rw [conv_row, ext_at b t r n 2 (by omega) _ (by show 6 + r.val + 2 = 8 + r.val; omega), ext_at b t r n 1 (by omega) _ (by show 7 + r.val + 1 = 8 + r.val; omega),
    ext_at b t r n 0 (by omega) _ (by show 8 + r.val + 0 = 8 + r.val; omega), hw, hw, hw, hb, FfnSpec.before_zero]
  rfl

variable (m c)

theorem upg_at (t : Fin cfg0.N) (r : Fin 512) (n : Fin 1408) : upg m c t (ix2 r n) = (up (args m c) (lo (bcol t n)) (brow t r) : EReal) :=
  prod_at (gateHalf m c) t r n
theorem upv_at (t : Fin cfg0.N) (r : Fin 512) (n : Fin 1408) : upv m c t (ix2 r n) = (up (args m c) (hi (bcol t n)) (brow t r) : EReal) :=
  prod_at (valHalf m c) t r n
theorem cg_at (t : Fin cfg0.N) (r : Fin 512) (n : Fin 1408) : cg m c t (ix2 r n) = (conv (args m c) (lo (bcol t n)) (brow t r) : EReal) :=
  conv_at (gateHalf m c) t r n _ _ (fun k => blk4 m c t k n) (blk6 m c t n)
theorem cv_at (t : Fin cfg0.N) (r : Fin 512) (n : Fin 1408) : cv m c t (ix2 r n) = (conv (args m c) (hi (bcol t n)) (brow t r) : EReal) :=
  conv_at (valHalf m c) t r n _ _ (fun k => blk5 m c t k n) (blk7 m c t n)
theorem ff_at (t : Fin cfg0.N) (r : Fin 512) (n : Fin 1408) : ff m c t (ix2 r n)
    = (gelu (conv (args m c) (lo (bcol t n)) (brow t r)) * conv (args m c) (hi (bcol t n)) (brow t r) : EReal) :=
  (gated_row _ _ _ _ _ _ _ _ _ r n).trans (congrArg₂ (fun x y : EReal => gelu x * y) (cg_at m c t r n) (cv_at m c t r n))

/-! ## The arrays the run leaves -/

/-- The results: the normalised rows, the projection's halves, the convolution's, and the gated product. -/
def nArr (a : Args) : FVec Ideal ⟨2, ![8192, 1024]⟩ .bf16 := fun i => FfnSpec.nrm a (i 0) (i 1)
def uArr (a : Args) (p : Fin 2816 → Fin 5632) : FVec Ideal ⟨2, ![8192, 2816]⟩ .bf16 := fun i => up a (p (i 1)) (i 0)
def cArr (a : Args) (p : Fin 2816 → Fin 5632) : FVec Ideal ⟨2, ![8192, 2816]⟩ .bf16 := fun i => conv a (p (i 1)) (i 0)
def fArr (a : Args) : FVec Ideal ⟨2, ![8192, 2816]⟩ .bf16 := fun i => gelu (conv a (lo (i 1)) (i 0)) * conv a (hi (i 1)) (i 0)

theorem emb8 (t : Fin cfg0.N) (r : Fin 512) (l : Fin 1024) :
    ((View.whole main_v5_0).slice (win0_8.rect t)).emb (ix2 r l) = (ix2 (brow t r) l : S8192x1024.Idx) := by
  blk_ext [idx t]
theorem emb9 (t : Fin cfg0.N) (r : Fin 512) (l : Fin 1408) :
    ((View.whole main_v5_1).slice (win0_9.rect t)).emb (ix2 r l) = (ix2 (brow t r) (bcol t l) : S8192x2816.Idx) := by
  blk_ext [idx t]
theorem emb10 (t : Fin cfg0.N) (r : Fin 512) (l : Fin 1408) :
    ((View.whole main_v5_2).slice (win0_10.rect t)).emb (ix2 r l) = (ix2 (brow t r) (bcol t l) : S8192x2816.Idx) := by
  blk_ext [idx t]
theorem emb11 (t : Fin cfg0.N) (r : Fin 512) (l : Fin 1408) :
    ((View.whole main_v5_3).slice (win0_11.rect t)).emb (ix2 r l) = (ix2 (brow t r) (bcol t l) : S8192x2816.Idx) := by
  blk_ext [idx t]
theorem emb12 (t : Fin cfg0.N) (r : Fin 512) (l : Fin 1408) :
    ((View.whole main_v5_4).slice (win0_12.rect t)).emb (ix2 r l) = (ix2 (brow t r) (bcol t l) : S8192x2816.Idx) := by
  blk_ext [idx t]
theorem emb13 (t : Fin cfg0.N) (r : Fin 512) (l : Fin 1408) :
    ((View.whole main_v5_5).slice (win0_13.rect t)).emb (ix2 r l) = (ix2 (brow t r) (bcol t l) : S8192x2816.Idx) := by
  blk_ext [idx t]

theorem final8 : (dats m 0 c).arrAt 8 cfg0.N = nArr (args m c) := by
  refine (dats m 0 c).arrAt_eq_of_covers 8 _ (by decide +kernel) fun t hf y => ?_
  blk_simp
  rw [after8]
  idx_vars y
  rw [emb8]
  exact nrm_at m c t y0 y1

theorem final9 : (dats m 0 c).arrAt 9 cfg0.N = uArr (args m c) lo := by
  refine (dats m 0 c).arrAt_eq_of_covers 9 _ (by decide +kernel) fun t hf y => ?_
  blk_simp
  rw [after9]
  idx_vars y
  rw [emb9]
  exact upg_at m c t y0 y1

theorem final10 : (dats m 0 c).arrAt 10 cfg0.N = uArr (args m c) hi := by
  refine (dats m 0 c).arrAt_eq_of_covers 10 _ (by decide +kernel) fun t hf y => ?_
  blk_simp
  rw [after10]
  idx_vars y
  rw [emb10]
  exact upv_at m c t y0 y1

theorem final11 : (dats m 0 c).arrAt 11 cfg0.N = cArr (args m c) lo := by
  refine (dats m 0 c).arrAt_eq_of_covers 11 _ (by decide +kernel) fun t hf y => ?_
  blk_simp
  rw [after11]
  idx_vars y
  rw [emb11]
  exact cg_at m c t y0 y1

theorem final12 : (dats m 0 c).arrAt 12 cfg0.N = cArr (args m c) hi := by
  refine (dats m 0 c).arrAt_eq_of_covers 12 _ (by decide +kernel) fun t hf y => ?_
  blk_simp
  rw [after12]
  idx_vars y
  rw [emb12]
  exact cv_at m c t y0 y1

theorem final13 : (dats m 0 c).arrAt 13 cfg0.N = fArr (args m c) := by
  refine (dats m 0 c).arrAt_eq_of_covers 13 _ (by decide +kernel) fun t hf y => ?_
  blk_simp
  rw [after13]
  idx_vars y
  rw [emb13]
  exact ff_at m c t y0 y1
end Cert.UpVal

end
-- ==== Proof.UpRef.lean ====
/- The tenth claim's reference, read at an index. -/
module

public import proofs.«01_k».proof.Proof.FfnSpec
import proofs.«01_k».proof.Proof.GateSpec
public import proofs.«01_k».proof.Proof.Gen.Reference10Ideal.Read

@[expose] public section

set_option maxRecDepth 16384

noncomputable section

namespace Cert.UpRef

open Idealize.ShloMosaic Idealize.ShloMosaic.TcCoe Idealize.SL.Sem
open Cert.Reference10Ideal Cert.Reference10Ideal.Gen Cert.Reference10Ideal.Read Cert.FfnSpec Cert.GeluNorm Cert.RowGrad Cert.Reals
open Cert.GateSpec (gate_eq)

variable (a : Args)

theorem rs_at (r : Fin 8192) : (val_main_v7 (F := Ideal) a.x) (ix2 r 0) = rs a.x r := by
  pointwise [val_main_v0, val_main_v1, val_main_v2, val_main_v3, val_main_v4, val_main_v5, val_main_v6, val_main_v7, val_main_cst, val_main_cst_0, val_main_cst_1]
  simp only [zero_add, rs, ms]

theorem nrm_at (r : Fin 8192) (k : Fin 1024) : (val_main_v12 (F := Ideal) a.x a.g) (ix2 r k) = nrm a r k := by
  pointwise [val_main_v8, val_main_v9, val_main_v10, val_main_v11, val_main_v12]
  simp only [rs_at, nrm]

theorem up_at (r : Fin 8192) (n : Fin 5632) : (val_main_v13 (F := Ideal) a.x a.g a.wu) (ix2 r n) = up a n r := by
  pointwise [val_main_v13]
  simp only [nrm_at, up]

theorem pad_zero : (FloatOps.sitofp .f32 (0#32) : Ideal .f32) = 0 := by
  show (((0#32).toInt : ℝ) : EReal) = 0
  simp

/-- The rows the convolution's taps read. -/
theorem tap0 (r : Fin 8192) (n : Fin 5632) : (val_main_v16 (F := Ideal) a.x a.g a.wu) (ix3 0 r n) = before (up a n) 2 r := by
  unfold before
  pointwise [val_main_v14, val_main_v15, val_main_v16, val_main_call0_v0, val_main_c]
  split_ifs <;> first | omega | simp only [up_at, pad_zero]

theorem tap1 (r : Fin 8192) (n : Fin 5632) : (val_main_v25 (F := Ideal) a.x a.g a.wu) (ix3 0 r n) = before (up a n) 1 r := by
  unfold before
  pointwise [val_main_v14, val_main_v15, val_main_v25, val_main_call0_v0, val_main_c]
  split_ifs <;> first | omega | simp only [up_at, pad_zero]
  exact congrArg (up a n) (Fin.ext (by dsimp only; omega))

theorem tap2 (r : Fin 8192) (n : Fin 5632) : (val_main_v32 (F := Ideal) a.x a.g a.wu) (ix3 0 r n) = up a n r := by
  pointwise [val_main_v14, val_main_v15, val_main_v32, val_main_call0_v0, val_main_c]
  exact up_at a r n

theorem conv_at (r : Fin 8192) (n : Fin 5632) : (val_main_v39 (F := Ideal) a.x a.g a.wu a.cw a.cb) (ix2 r n) = conv a n r := by
  pointwise [val_main_v17, val_main_v18, val_main_v19, val_main_v20, val_main_v21, val_main_v22, val_main_v23, val_main_v24, val_main_v26, val_main_v27, val_main_v28, val_main_v29, val_main_v30, val_main_v31, val_main_v33, val_main_v34, val_main_v35, val_main_v36, val_main_v37, val_main_v38, val_main_v39]
  simp only [tap0, tap1, tap2, conv]

theorem gate_at (r : Fin 8192) (l : Fin 2816) : (val_main_v40 (F := Ideal) a.x a.g a.wu a.cw a.cb) (ix2 r l) = conv a (lo l) r := by
  pointwise [val_main_v40]
  exact conv_at a r (lo l)

theorem val_at (r : Fin 8192) (l : Fin 2816) : (val_main_v41 (F := Ideal) a.x a.g a.wu a.cw a.cb) (ix2 r l) = conv a (hi l) r := by
  pointwise [val_main_v41]
  exact conv_at a r (hi l)

/-! ## The results -/

theorem nrm16_at (r : Fin 8192) (k : Fin 1024) : (val_main_v58 (F := Ideal) a.x a.g) (ix2 r k) = nrm a r k := by
  pointwise [val_main_v58]
  exact nrm_at a r k

theorem upg_at (r : Fin 8192) (l : Fin 2816) : (val_main_v59 (F := Ideal) a.x a.g a.wu) (ix2 r l) = up a (lo l) r := by
  pointwise [val_main_v59, val_main_v56]
  exact up_at a r (lo l)

theorem upv_at (r : Fin 8192) (l : Fin 2816) : (val_main_v60 (F := Ideal) a.x a.g a.wu) (ix2 r l) = up a (hi l) r := by
  pointwise [val_main_v60, val_main_v57]
  exact up_at a r (hi l)

theorem gate16_at (r : Fin 8192) (l : Fin 2816) : (val_main_v61 (F := Ideal) a.x a.g a.wu a.cw a.cb) (ix2 r l) = conv a (lo l) r := by
  pointwise [val_main_v61]
  exact gate_at a r l

theorem val16_at (r : Fin 8192) (l : Fin 2816) : (val_main_v62 (F := Ideal) a.x a.g a.wu a.cw a.cb) (ix2 r l) = conv a (hi l) r := by
  pointwise [val_main_v62]
  exact val_at a r l

theorem ff_at (r : Fin 8192) (l : Fin 2816) : (val_main_v63 (F := Ideal) a.x a.g a.wu a.cw a.cb) (ix2 r l) = gelu (conv a (lo l) r) * conv a (hi l) r := by
  rw [gelu, gate_eq, th, half_eq]
  pointwise [val_main_v42, val_main_v43, val_main_v44, val_main_v45, val_main_v46, val_main_v47, val_main_v48, val_main_v49, val_main_v50, val_main_v51, val_main_v52, val_main_v53, val_main_v54, val_main_v55, val_main_v63, val_main_cst_2, val_main_cst_3, val_main_cst_4, val_main_cst_5]
  simp only [gate_at, val_at, ofBits_gc, ofBits_ga, Reals.ofBits_half]

end Cert.UpRef

end
-- ==== Proof.UpClaim.lean ====
/- The tenth claim: the frames of its programs, and their results' equality. -/
module

public import proofs.«01_k».proof.Defs
public import proofs.«01_k».proof.Proof.UpFrame
public import proofs.«01_k».proof.Proof.UpVal
public import proofs.«01_k».proof.Proof.UpRef
public import proofs.«01_k».proof.Proof.Gen.Reference10Ideal.Run
import Idealize.ShloMosaic.Lib.Claim

@[expose] public section

set_option maxRecDepth 16384

noncomputable section

namespace Cert.UpClaim

open Idealize.ShloMosaic Idealize.ShloMosaic.TcCoe Idealize.ShloMosaic.Tactic Idealize.SL.Sem
open Cert.FfnSpec (lo hi)
open Cert.UpVal (args nArr uArr cArr fArr)

theorem frame_kernel : Cert.quiescent_Kernel10 := fun m ρ _ =>
  (θ_run Cert.Kernel10.defs _ _).mono (fun r h => ⟨UpFrame.kept m h.1, h.2⟩) (UpFrame.run m ρ)

theorem frame_ideal : Cert.quiescent_Kernel10Ideal := fun m ρ _ =>
  (θ_run Cert.Kernel10Ideal.defs _ _).mono (fun r h => ⟨UpRun.kept m h.1, h.2⟩) (UpRun.run m ρ)

theorem frame_reference : Cert.quiescent_Reference10Ideal := fun m ρ _ =>
  (θ_run Cert.Reference10Ideal.defs _ _).mono
    (fun r h => ⟨fun c => (h c).2.2.2.2.2.2, sem_eq_zero_of_no_sems (by decide) r.2⟩) (Cert.Reference10Ideal.Value.run m ρ)

/-- Each rounded constant of the gelu stands for the number it was rounded from. -/
theorem preserves : Cert.preserves_Kernel10_Kernel10Ideal :=
  ⟨IdealRules.named_const.statement Cert.Kernel10Ideal.κ "gelu_a" .bf16 0x3D37#16 ((12003091 / 268435456 : ℝ) : EReal) rfl,
   IdealRules.named_const.statement Cert.Kernel10Ideal.κ "gelu_c" .bf16 0x3F4C#16 ((6693141 / 8388608 : ℝ) : EReal) rfl⟩

theorem algebraic : Cert.algebraic_Kernel10Ideal_Reference10Ideal := by
  intro m g m' g' _ hargs
  refine ⟨fun c => nArr (args m c), fun c => uArr (args m c) lo, fun c => uArr (args m c) hi, fun c => cArr (args m c) lo,
    fun c => cArr (args m c) hi, fun c => fArr (args m c),
    (θ_run Cert.Kernel10Ideal.defs _ _).mono (fun r h c => ?_) (UpRun.run m g),
    (θ_run Cert.Reference10Ideal.defs _ _).mono (fun r h c => ?_) (Cert.Reference10Ideal.Value.run m' g')⟩
  · exact ⟨((h.1 c).1 8).trans (UpVal.final8 m c), ((h.1 c).1 9).trans (UpVal.final9 m c), ((h.1 c).1 10).trans (UpVal.final10 m c),
      ((h.1 c).1 11).trans (UpVal.final11 m c), ((h.1 c).1 12).trans (UpVal.final12 m c), ((h.1 c).1 13).trans (UpVal.final13 m c), UpRun.kept m h.1 c⟩
  · obtain ⟨a0, a1, a2, a3, a4⟩ := hargs c
    obtain ⟨h0, h1, h2, h3, h4, h5, h⟩ := h c
    refine ⟨h0.trans ((Cert.Reference10Ideal.Read.val_main_v58_eq _ _).trans ?_), h1.trans ((Cert.Reference10Ideal.Read.val_main_v59_eq _ _ _).trans ?_),
      h2.trans ((Cert.Reference10Ideal.Read.val_main_v60_eq _ _ _).trans ?_), h3.trans ((Cert.Reference10Ideal.Read.val_main_v61_eq m' c).trans ?_),
      h4.trans ((Cert.Reference10Ideal.Read.val_main_v62_eq m' c).trans ?_), h5.trans ((Cert.Reference10Ideal.Read.val_main_v63_eq m' c).trans ?_), h⟩ <;>
      (try rw [a3, a4]) <;> (try rw [a2]) <;> rw [a0, a1] <;> funext y <;> idx_vars y
    · exact UpRef.nrm16_at (args m c) y0 y1
    · exact UpRef.upg_at (args m c) y0 y1
    · exact UpRef.upv_at (args m c) y0 y1
    · exact UpRef.gate16_at (args m c) y0 y1
    · exact UpRef.val16_at (args m c) y0 y1
    · exact UpRef.ff_at (args m c) y0 y1

end Cert.UpClaim

end
-- ==== Proof.lean ====
module

public import proofs.«01_k».proof.Defs
public import proofs.«01_k».proof.Proof.InClaim
public import proofs.«01_k».proof.Proof.MixClaim
public import proofs.«01_k».proof.Proof.OutClaim
public import proofs.«01_k».proof.Proof.SguClaim
public import proofs.«01_k».proof.Proof.FfnClaim
public import proofs.«01_k».proof.Proof.GateClaim
public import proofs.«01_k».proof.Proof.GlaClaim
public import proofs.«01_k».proof.Proof.NormClaim
public import proofs.«01_k».proof.Proof.GlaBackClaim
public import proofs.«01_k».proof.Proof.UpClaim

@[expose] public section

noncomputable section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Kernel10.Gen.facts, Cert.Kernel10Ideal.Gen.facts, Cert.Reference10Ideal.Gen.facts,
    Cert.InClaim.preFacts, Cert.MixClaim.preFacts, Cert.OutClaim.preFacts, Cert.SguClaim.preFacts, Cert.FfnClaim.preFacts, Cert.GlaClaim.preFacts,
    Cert.InClaim.frame_kernel, Cert.InClaim.frame_ideal, fun m g _ => Cert.InClaim.frame_ideal m g trivial,
    Cert.InClaim.frame_reference, fun m g _ => Cert.InClaim.frame_reference m g trivial,
    Cert.MixClaim.frame_kernel, Cert.MixClaim.frame_ideal, fun m g _ => Cert.MixClaim.frame_ideal m g trivial,
    Cert.MixClaim.frame_reference, fun m g _ => Cert.MixClaim.frame_reference m g trivial,
    Cert.OutClaim.frame_kernel, Cert.OutClaim.frame_ideal, fun m g _ => Cert.OutClaim.frame_ideal m g trivial,
    Cert.OutClaim.frame_reference, fun m g _ => Cert.OutClaim.frame_reference m g trivial,
    Cert.SguClaim.frame_kernel, Cert.SguClaim.frame_ideal, fun m g _ => Cert.SguClaim.frame_ideal m g trivial,
    Cert.SguClaim.frame_reference, fun m g _ => Cert.SguClaim.frame_reference m g trivial,
    Cert.FfnClaim.frame_kernel, Cert.FfnClaim.frame_ideal, fun m g _ => Cert.FfnClaim.frame_ideal m g trivial,
    Cert.FfnClaim.frame_reference, fun m g _ => Cert.FfnClaim.frame_reference m g trivial,
    Cert.GateClaim.frame_kernel, Cert.GateClaim.frame_ideal, Cert.GateClaim.frame_reference,
    Cert.GlaClaim.frame_kernel, Cert.GlaClaim.frame_ideal, fun m g _ => Cert.GlaClaim.frame_ideal m g trivial,
    Cert.GlaClaim.frame_reference, fun m g _ => Cert.GlaClaim.frame_reference m g trivial,
    Cert.NormClaim.frame_kernel, Cert.NormClaim.frame_ideal, Cert.NormClaim.frame_reference,
    Cert.GlaBackClaim.frame_kernel, Cert.GlaBackClaim.frame_ideal,
    Cert.UpClaim.frame_kernel, Cert.UpClaim.frame_ideal, Cert.UpClaim.frame_reference,
    trivial, Cert.InClaim.algebraic,
    trivial, Cert.MixClaim.algebraic,
    trivial, Cert.OutClaim.algebraic,
    Cert.SguClaim.preserves, Cert.SguClaim.algebraic,
    Cert.FfnClaim.preserves, Cert.FfnClaim.algebraic,
    Cert.GateClaim.preserves, Cert.GateClaim.algebraic,
    trivial, Cert.GlaClaim.algebraic,
    trivial, Cert.NormClaim.algebraic,
    trivial,
    Cert.UpClaim.preserves, Cert.UpClaim.algebraic⟩

end Cert.Proof

end
